-- ==== Defs.lean ====
def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_ReferenceScanIdeal (m : (ℓ : Loc Cert.ReferenceScanIdeal.nD Cert.ReferenceScanIdeal.τ Cert.ReferenceScanIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite [hPre_finite : Cert.Pre_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).1 = (fun _ => 1#1)
    ∧ (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite [hPre_finite : Cert.Pre_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).1 = (fun _ => 1#1)
    ∧ (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAttnOut (m : (ℓ : Loc Cert.KernelAttnOut.nD Cert.KernelAttnOut.τ Cert.KernelAttnOut.sig) → Buf (Elt Bits) ℓ) : Prop :=
  True

def Pre_KernelAttnOutIdeal (m : (ℓ : Loc Cert.KernelAttnOutIdeal.nD Cert.KernelAttnOutIdeal.τ Cert.KernelAttnOutIdeal.sig) → Buf (Elt Ideal) ℓ) : Prop :=
  True

def Pre_KernelAttnOutIdeal_finite_ao [hPre_finite_ao : Cert.Pre_finite_ao.Facts] (m : (ℓ : Loc Cert.KernelAttnOutIdeal.nD Cert.KernelAttnOutIdeal.τ Cert.KernelAttnOutIdeal.sig) → Buf (Elt Ideal) ℓ) : Prop :=
  ∀ c : Dev Cert.KernelAttnOutIdeal.nD,
    (Cert.Pre_finite_ao.fn (F := Ideal) (m ((c.tc : Thread Cert.KernelAttnOutIdeal.nD Cert.KernelAttnOutIdeal.τ).loc Cert.KernelAttnOutIdeal.main_arg0)) (m ((c.tc : Thread Cert.KernelAttnOutIdeal.nD Cert.KernelAttnOutIdeal.τ).loc Cert.KernelAttnOutIdeal.main_arg1)) (m ((c.tc : Thread Cert.KernelAttnOutIdeal.nD Cert.KernelAttnOutIdeal.τ).loc Cert.KernelAttnOutIdeal.main_arg2)) (m ((c.tc : Thread Cert.KernelAttnOutIdeal.nD Cert.KernelAttnOutIdeal.τ).loc Cert.KernelAttnOutIdeal.main_arg3))).1 = (fun _ => 1#1)
    ∧ (Cert.Pre_finite_ao.fn (F := Ideal) (m ((c.tc : Thread Cert.KernelAttnOutIdeal.nD Cert.KernelAttnOutIdeal.τ).loc Cert.KernelAttnOutIdeal.main_arg0)) (m ((c.tc : Thread Cert.KernelAttnOutIdeal.nD Cert.KernelAttnOutIdeal.τ).loc Cert.KernelAttnOutIdeal.main_arg1)) (m ((c.tc : Thread Cert.KernelAttnOutIdeal.nD Cert.KernelAttnOutIdeal.τ).loc Cert.KernelAttnOutIdeal.main_arg2)) (m ((c.tc : Thread Cert.KernelAttnOutIdeal.nD Cert.KernelAttnOutIdeal.τ).loc Cert.KernelAttnOutIdeal.main_arg3))).2.1 = (fun _ => 1#1)
    ∧ (Cert.Pre_finite_ao.fn (F := Ideal) (m ((c.tc : Thread Cert.KernelAttnOutIdeal.nD Cert.KernelAttnOutIdeal.τ).loc Cert.KernelAttnOutIdeal.main_arg0)) (m ((c.tc : Thread Cert.KernelAttnOutIdeal.nD Cert.KernelAttnOutIdeal.τ).loc Cert.KernelAttnOutIdeal.main_arg1)) (m ((c.tc : Thread Cert.KernelAttnOutIdeal.nD Cert.KernelAttnOutIdeal.τ).loc Cert.KernelAttnOutIdeal.main_arg2)) (m ((c.tc : Thread Cert.KernelAttnOutIdeal.nD Cert.KernelAttnOutIdeal.τ).loc Cert.KernelAttnOutIdeal.main_arg3))).2.2.1 = (fun _ => 1#1)
    ∧ (Cert.Pre_finite_ao.fn (F := Ideal) (m ((c.tc : Thread Cert.KernelAttnOutIdeal.nD Cert.KernelAttnOutIdeal.τ).loc Cert.KernelAttnOutIdeal.main_arg0)) (m ((c.tc : Thread Cert.KernelAttnOutIdeal.nD Cert.KernelAttnOutIdeal.τ).loc Cert.KernelAttnOutIdeal.main_arg1)) (m ((c.tc : Thread Cert.KernelAttnOutIdeal.nD Cert.KernelAttnOutIdeal.τ).loc Cert.KernelAttnOutIdeal.main_arg2)) (m ((c.tc : Thread Cert.KernelAttnOutIdeal.nD Cert.KernelAttnOutIdeal.τ).loc Cert.KernelAttnOutIdeal.main_arg3))).2.2.2 = (fun _ => 1#1)

def Pre_ReferenceAttnOutIdeal (m : (ℓ : Loc Cert.ReferenceAttnOutIdeal.nD Cert.ReferenceAttnOutIdeal.τ Cert.ReferenceAttnOutIdeal.sig) → Buf (Elt Ideal) ℓ) : Prop :=
  True

def Pre_ReferenceAttnOutIdeal_finite_ao [hPre_finite_ao : Cert.Pre_finite_ao.Facts] (m : (ℓ : Loc Cert.ReferenceAttnOutIdeal.nD Cert.ReferenceAttnOutIdeal.τ Cert.ReferenceAttnOutIdeal.sig) → Buf (Elt Ideal) ℓ) : Prop :=
  ∀ c : Dev Cert.ReferenceAttnOutIdeal.nD,
    (Cert.Pre_finite_ao.fn (F := Ideal) (m ((c.tc : Thread Cert.ReferenceAttnOutIdeal.nD Cert.ReferenceAttnOutIdeal.τ).loc Cert.ReferenceAttnOutIdeal.main_arg0)) (m ((c.tc : Thread Cert.ReferenceAttnOutIdeal.nD Cert.ReferenceAttnOutIdeal.τ).loc Cert.ReferenceAttnOutIdeal.main_arg1)) (m ((c.tc : Thread Cert.ReferenceAttnOutIdeal.nD Cert.ReferenceAttnOutIdeal.τ).loc Cert.ReferenceAttnOutIdeal.main_arg2)) (m ((c.tc : Thread Cert.ReferenceAttnOutIdeal.nD Cert.ReferenceAttnOutIdeal.τ).loc Cert.ReferenceAttnOutIdeal.main_arg3))).1 = (fun _ => 1#1)
    ∧ (Cert.Pre_finite_ao.fn (F := Ideal) (m ((c.tc : Thread Cert.ReferenceAttnOutIdeal.nD Cert.ReferenceAttnOutIdeal.τ).loc Cert.ReferenceAttnOutIdeal.main_arg0)) (m ((c.tc : Thread Cert.ReferenceAttnOutIdeal.nD Cert.ReferenceAttnOutIdeal.τ).loc Cert.ReferenceAttnOutIdeal.main_arg1)) (m ((c.tc : Thread Cert.ReferenceAttnOutIdeal.nD Cert.ReferenceAttnOutIdeal.τ).loc Cert.ReferenceAttnOutIdeal.main_arg2)) (m ((c.tc : Thread Cert.ReferenceAttnOutIdeal.nD Cert.ReferenceAttnOutIdeal.τ).loc Cert.ReferenceAttnOutIdeal.main_arg3))).2.1 = (fun _ => 1#1)
    ∧ (Cert.Pre_finite_ao.fn (F := Ideal) (m ((c.tc : Thread Cert.ReferenceAttnOutIdeal.nD Cert.ReferenceAttnOutIdeal.τ).loc Cert.ReferenceAttnOutIdeal.main_arg0)) (m ((c.tc : Thread Cert.ReferenceAttnOutIdeal.nD Cert.ReferenceAttnOutIdeal.τ).loc Cert.ReferenceAttnOutIdeal.main_arg1)) (m ((c.tc : Thread Cert.ReferenceAttnOutIdeal.nD Cert.ReferenceAttnOutIdeal.τ).loc Cert.ReferenceAttnOutIdeal.main_arg2)) (m ((c.tc : Thread Cert.ReferenceAttnOutIdeal.nD Cert.ReferenceAttnOutIdeal.τ).loc Cert.ReferenceAttnOutIdeal.main_arg3))).2.2.1 = (fun _ => 1#1)
    ∧ (Cert.Pre_finite_ao.fn (F := Ideal) (m ((c.tc : Thread Cert.ReferenceAttnOutIdeal.nD Cert.ReferenceAttnOutIdeal.τ).loc Cert.ReferenceAttnOutIdeal.main_arg0)) (m ((c.tc : Thread Cert.ReferenceAttnOutIdeal.nD Cert.ReferenceAttnOutIdeal.τ).loc Cert.ReferenceAttnOutIdeal.main_arg1)) (m ((c.tc : Thread Cert.ReferenceAttnOutIdeal.nD Cert.ReferenceAttnOutIdeal.τ).loc Cert.ReferenceAttnOutIdeal.main_arg2)) (m ((c.tc : Thread Cert.ReferenceAttnOutIdeal.nD Cert.ReferenceAttnOutIdeal.τ).loc Cert.ReferenceAttnOutIdeal.main_arg3))).2.2.2 = (fun _ => 1#1)

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_finite_fwd [hPre_finite_fwd : Cert.Pre_finite_fwd.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_finite_fwd.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2)) (m ((c.tc : Thread Cert.KernelAttnFwdIdeal.nD Cert.KernelAttnFwdIdeal.τ).loc Cert.KernelAttnFwdIdeal.main_arg3))).1 = (fun _ => 1#1)
    ∧ (Cert.Pre_finite_fwd.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2)) (m ((c.tc : Thread Cert.KernelAttnFwdIdeal.nD Cert.KernelAttnFwdIdeal.τ).loc Cert.KernelAttnFwdIdeal.main_arg3))).2 = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_finite_fwd [hPre_finite_fwd : Cert.Pre_finite_fwd.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_finite_fwd.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2)) (m ((c.tc : Thread Cert.ReferenceAttnFwdIdeal.nD Cert.ReferenceAttnFwdIdeal.τ).loc Cert.ReferenceAttnFwdIdeal.main_arg3))).1 = (fun _ => 1#1)
    ∧ (Cert.Pre_finite_fwd.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2)) (m ((c.tc : Thread Cert.ReferenceAttnFwdIdeal.nD Cert.ReferenceAttnFwdIdeal.τ).loc Cert.ReferenceAttnFwdIdeal.main_arg3))).2 = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_KernelMlpIdeal_finite_mlp [hPre_finite_mlp : Cert.Pre_finite_mlp.Facts] (m : (ℓ : Loc Cert.KernelMlpIdeal.nD Cert.KernelMlpIdeal.τ Cert.KernelMlpIdeal.sig) → Buf (Elt Ideal) ℓ) : Prop :=
  ∀ c : Dev Cert.KernelMlpIdeal.nD,
    (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)) (m ((c.tc : Thread Cert.KernelMlpIdeal.nD Cert.KernelMlpIdeal.τ).loc Cert.KernelMlpIdeal.main_arg5))).1 = (fun _ => 1#1)
    ∧ (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)) (m ((c.tc : Thread Cert.KernelMlpIdeal.nD Cert.KernelMlpIdeal.τ).loc Cert.KernelMlpIdeal.main_arg5))).2.1 = (fun _ => 1#1)
    ∧ (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)) (m ((c.tc : Thread Cert.KernelMlpIdeal.nD Cert.KernelMlpIdeal.τ).loc Cert.KernelMlpIdeal.main_arg5))).2.2.1 = (fun _ => 1#1)
    ∧ (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)) (m ((c.tc : Thread Cert.KernelMlpIdeal.nD Cert.KernelMlpIdeal.τ).loc Cert.KernelMlpIdeal.main_arg5))).2.2.2 = (fun _ => 1#1)

def Pre_ReferenceMlpIdeal (m : (ℓ : Loc Cert.ReferenceMlpIdeal.nD Cert.ReferenceMlpIdeal.τ Cert.ReferenceMlpIdeal.sig) → Buf (Elt Ideal) ℓ) : Prop :=
  True

def Pre_ReferenceMlpIdeal_finite_mlp [hPre_finite_mlp : Cert.Pre_finite_mlp.Facts] (m : (ℓ : Loc Cert.ReferenceMlpIdeal.nD Cert.ReferenceMlpIdeal.τ Cert.ReferenceMlpIdeal.sig) → Buf (Elt Ideal) ℓ) : Prop :=
  ∀ c : Dev Cert.ReferenceMlpIdeal.nD,
    (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4)) (m ((c.tc : Thread Cert.ReferenceMlpIdeal.nD Cert.ReferenceMlpIdeal.τ).loc Cert.ReferenceMlpIdeal.main_arg5))).1 = (fun _ => 1#1)
    ∧ (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4)) (m ((c.tc : Thread Cert.ReferenceMlpIdeal.nD Cert.ReferenceMlpIdeal.τ).loc Cert.ReferenceMlpIdeal.main_arg5))).2.1 = (fun _ => 1#1)
    ∧ (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4)) (m ((c.tc : Thread Cert.ReferenceMlpIdeal.nD Cert.ReferenceMlpIdeal.τ).loc Cert.ReferenceMlpIdeal.main_arg5))).2.2.1 = (fun _ => 1#1)
    ∧ (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4)) (m ((c.tc : Thread Cert.ReferenceMlpIdeal.nD Cert.ReferenceMlpIdeal.τ).loc Cert.ReferenceMlpIdeal.main_arg5))).2.2.2 = (fun _ => 1#1)

def Pre_KernelConvIn (m : (ℓ : Loc Cert.KernelConvIn.nD Cert.KernelConvIn.τ Cert.KernelConvIn.sig) → Buf (Elt Bits) ℓ) : Prop :=
  True

def Pre_KernelConvInIdeal (m : (ℓ : Loc Cert.KernelConvInIdeal.nD Cert.KernelConvInIdeal.τ Cert.KernelConvInIdeal.sig) → Buf (Elt Ideal) ℓ) : Prop :=
  True

def Pre_KernelConvInIdeal_finite_ci [hPre_finite_ci : Cert.Pre_finite_ci.Facts] (m : (ℓ : Loc Cert.KernelConvInIdeal.nD Cert.KernelConvInIdeal.τ Cert.KernelConvInIdeal.sig) → Buf (Elt Ideal) ℓ) : Prop :=
  ∀ c : Dev Cert.KernelConvInIdeal.nD,
    (Cert.Pre_finite_ci.fn (F := Ideal) (m ((c.tc : Thread Cert.KernelConvInIdeal.nD Cert.KernelConvInIdeal.τ).loc Cert.KernelConvInIdeal.main_arg0)) (m ((c.tc : Thread Cert.KernelConvInIdeal.nD Cert.KernelConvInIdeal.τ).loc Cert.KernelConvInIdeal.main_arg1)) (m ((c.tc : Thread Cert.KernelConvInIdeal.nD Cert.KernelConvInIdeal.τ).loc Cert.KernelConvInIdeal.main_arg2)) (m ((c.tc : Thread Cert.KernelConvInIdeal.nD Cert.KernelConvInIdeal.τ).loc Cert.KernelConvInIdeal.main_arg3)) (m ((c.tc : Thread Cert.KernelConvInIdeal.nD Cert.KernelConvInIdeal.τ).loc Cert.KernelConvInIdeal.main_arg4)) (m ((c.tc : Thread Cert.KernelConvInIdeal.nD Cert.KernelConvInIdeal.τ).loc Cert.KernelConvInIdeal.main_arg5))).1 = (fun _ => 1#1)
    ∧ (Cert.Pre_finite_ci.fn (F := Ideal) (m ((c.tc : Thread Cert.KernelConvInIdeal.nD Cert.KernelConvInIdeal.τ).loc Cert.KernelConvInIdeal.main_arg0)) (m ((c.tc : Thread Cert.KernelConvInIdeal.nD Cert.KernelConvInIdeal.τ).loc Cert.KernelConvInIdeal.main_arg1)) (m ((c.tc : Thread Cert.KernelConvInIdeal.nD Cert.KernelConvInIdeal.τ).loc Cert.KernelConvInIdeal.main_arg2)) (m ((c.tc : Thread Cert.KernelConvInIdeal.nD Cert.KernelConvInIdeal.τ).loc Cert.KernelConvInIdeal.main_arg3)) (m ((c.tc : Thread Cert.KernelConvInIdeal.nD Cert.KernelConvInIdeal.τ).loc Cert.KernelConvInIdeal.main_arg4)) (m ((c.tc : Thread Cert.KernelConvInIdeal.nD Cert.KernelConvInIdeal.τ).loc Cert.KernelConvInIdeal.main_arg5))).2.1 = (fun _ => 1#1)
    ∧ (Cert.Pre_finite_ci.fn (F := Ideal) (m ((c.tc : Thread Cert.KernelConvInIdeal.nD Cert.KernelConvInIdeal.τ).loc Cert.KernelConvInIdeal.main_arg0)) (m ((c.tc : Thread Cert.KernelConvInIdeal.nD Cert.KernelConvInIdeal.τ).loc Cert.KernelConvInIdeal.main_arg1)) (m ((c.tc : Thread Cert.KernelConvInIdeal.nD Cert.KernelConvInIdeal.τ).loc Cert.KernelConvInIdeal.main_arg2)) (m ((c.tc : Thread Cert.KernelConvInIdeal.nD Cert.KernelConvInIdeal.τ).loc Cert.KernelConvInIdeal.main_arg3)) (m ((c.tc : Thread Cert.KernelConvInIdeal.nD Cert.KernelConvInIdeal.τ).loc Cert.KernelConvInIdeal.main_arg4)) (m ((c.tc : Thread Cert.KernelConvInIdeal.nD Cert.KernelConvInIdeal.τ).loc Cert.KernelConvInIdeal.main_arg5))).2.2.1 = (fun _ => 1#1)
    ∧ (Cert.Pre_finite_ci.fn (F := Ideal) (m ((c.tc : Thread Cert.KernelConvInIdeal.nD Cert.KernelConvInIdeal.τ).loc Cert.KernelConvInIdeal.main_arg0)) (m ((c.tc : Thread Cert.KernelConvInIdeal.nD Cert.KernelConvInIdeal.τ).loc Cert.KernelConvInIdeal.main_arg1)) (m ((c.tc : Thread Cert.KernelConvInIdeal.nD Cert.KernelConvInIdeal.τ).loc Cert.KernelConvInIdeal.main_arg2)) (m ((c.tc : Thread Cert.KernelConvInIdeal.nD Cert.KernelConvInIdeal.τ).loc Cert.KernelConvInIdeal.main_arg3)) (m ((c.tc : Thread Cert.KernelConvInIdeal.nD Cert.KernelConvInIdeal.τ).loc Cert.KernelConvInIdeal.main_arg4)) (m ((c.tc : Thread Cert.KernelConvInIdeal.nD Cert.KernelConvInIdeal.τ).loc Cert.KernelConvInIdeal.main_arg5))).2.2.2 = (fun _ => 1#1)

def Pre_ReferenceConvInIdeal (m : (ℓ : Loc Cert.ReferenceConvInIdeal.nD Cert.ReferenceConvInIdeal.τ Cert.ReferenceConvInIdeal.sig) → Buf (Elt Ideal) ℓ) : Prop :=
  True

def Pre_ReferenceConvInIdeal_finite_ci [hPre_finite_ci : Cert.Pre_finite_ci.Facts] (m : (ℓ : Loc Cert.ReferenceConvInIdeal.nD Cert.ReferenceConvInIdeal.τ Cert.ReferenceConvInIdeal.sig) → Buf (Elt Ideal) ℓ) : Prop :=
  ∀ c : Dev Cert.ReferenceConvInIdeal.nD,
    (Cert.Pre_finite_ci.fn (F := Ideal) (m ((c.tc : Thread Cert.ReferenceConvInIdeal.nD Cert.ReferenceConvInIdeal.τ).loc Cert.ReferenceConvInIdeal.main_arg0)) (m ((c.tc : Thread Cert.ReferenceConvInIdeal.nD Cert.ReferenceConvInIdeal.τ).loc Cert.ReferenceConvInIdeal.main_arg1)) (m ((c.tc : Thread Cert.ReferenceConvInIdeal.nD Cert.ReferenceConvInIdeal.τ).loc Cert.ReferenceConvInIdeal.main_arg2)) (m ((c.tc : Thread Cert.ReferenceConvInIdeal.nD Cert.ReferenceConvInIdeal.τ).loc Cert.ReferenceConvInIdeal.main_arg3)) (m ((c.tc : Thread Cert.ReferenceConvInIdeal.nD Cert.ReferenceConvInIdeal.τ).loc Cert.ReferenceConvInIdeal.main_arg4)) (m ((c.tc : Thread Cert.ReferenceConvInIdeal.nD Cert.ReferenceConvInIdeal.τ).loc Cert.ReferenceConvInIdeal.main_arg5))).1 = (fun _ => 1#1)
    ∧ (Cert.Pre_finite_ci.fn (F := Ideal) (m ((c.tc : Thread Cert.ReferenceConvInIdeal.nD Cert.ReferenceConvInIdeal.τ).loc Cert.ReferenceConvInIdeal.main_arg0)) (m ((c.tc : Thread Cert.ReferenceConvInIdeal.nD Cert.ReferenceConvInIdeal.τ).loc Cert.ReferenceConvInIdeal.main_arg1)) (m ((c.tc : Thread Cert.ReferenceConvInIdeal.nD Cert.ReferenceConvInIdeal.τ).loc Cert.ReferenceConvInIdeal.main_arg2)) (m ((c.tc : Thread Cert.ReferenceConvInIdeal.nD Cert.ReferenceConvInIdeal.τ).loc Cert.ReferenceConvInIdeal.main_arg3)) (m ((c.tc : Thread Cert.ReferenceConvInIdeal.nD Cert.ReferenceConvInIdeal.τ).loc Cert.ReferenceConvInIdeal.main_arg4)) (m ((c.tc : Thread Cert.ReferenceConvInIdeal.nD Cert.ReferenceConvInIdeal.τ).loc Cert.ReferenceConvInIdeal.main_arg5))).2.1 = (fun _ => 1#1)
    ∧ (Cert.Pre_finite_ci.fn (F := Ideal) (m ((c.tc : Thread Cert.ReferenceConvInIdeal.nD Cert.ReferenceConvInIdeal.τ).loc Cert.ReferenceConvInIdeal.main_arg0)) (m ((c.tc : Thread Cert.ReferenceConvInIdeal.nD Cert.ReferenceConvInIdeal.τ).loc Cert.ReferenceConvInIdeal.main_arg1)) (m ((c.tc : Thread Cert.ReferenceConvInIdeal.nD Cert.ReferenceConvInIdeal.τ).loc Cert.ReferenceConvInIdeal.main_arg2)) (m ((c.tc : Thread Cert.ReferenceConvInIdeal.nD Cert.ReferenceConvInIdeal.τ).loc Cert.ReferenceConvInIdeal.main_arg3)) (m ((c.tc : Thread Cert.ReferenceConvInIdeal.nD Cert.ReferenceConvInIdeal.τ).loc Cert.ReferenceConvInIdeal.main_arg4)) (m ((c.tc : Thread Cert.ReferenceConvInIdeal.nD Cert.ReferenceConvInIdeal.τ).loc Cert.ReferenceConvInIdeal.main_arg5))).2.2.1 = (fun _ => 1#1)
    ∧ (Cert.Pre_finite_ci.fn (F := Ideal) (m ((c.tc : Thread Cert.ReferenceConvInIdeal.nD Cert.ReferenceConvInIdeal.τ).loc Cert.ReferenceConvInIdeal.main_arg0)) (m ((c.tc : Thread Cert.ReferenceConvInIdeal.nD Cert.ReferenceConvInIdeal.τ).loc Cert.ReferenceConvInIdeal.main_arg1)) (m ((c.tc : Thread Cert.ReferenceConvInIdeal.nD Cert.ReferenceConvInIdeal.τ).loc Cert.ReferenceConvInIdeal.main_arg2)) (m ((c.tc : Thread Cert.ReferenceConvInIdeal.nD Cert.ReferenceConvInIdeal.τ).loc Cert.ReferenceConvInIdeal.main_arg3)) (m ((c.tc : Thread Cert.ReferenceConvInIdeal.nD Cert.ReferenceConvInIdeal.τ).loc Cert.ReferenceConvInIdeal.main_arg4)) (m ((c.tc : Thread Cert.ReferenceConvInIdeal.nD Cert.ReferenceConvInIdeal.τ).loc Cert.ReferenceConvInIdeal.main_arg5))).2.2.2 = (fun _ => 1#1)

def Pre_KernelConvOut (m : (ℓ : Loc Cert.KernelConvOut.nD Cert.KernelConvOut.τ Cert.KernelConvOut.sig) → Buf (Elt Bits) ℓ) : Prop :=
  True

def Pre_KernelConvOutIdeal (m : (ℓ : Loc Cert.KernelConvOutIdeal.nD Cert.KernelConvOutIdeal.τ Cert.KernelConvOutIdeal.sig) → Buf (Elt Ideal) ℓ) : Prop :=
  True

def Pre_KernelConvOutIdeal_finite_co [hPre_finite_co : Cert.Pre_finite_co.Facts] (m : (ℓ : Loc Cert.KernelConvOutIdeal.nD Cert.KernelConvOutIdeal.τ Cert.KernelConvOutIdeal.sig) → Buf (Elt Ideal) ℓ) : Prop :=
  ∀ c : Dev Cert.KernelConvOutIdeal.nD,
    (Cert.Pre_finite_co.fn (F := Ideal) (m ((c.tc : Thread Cert.KernelConvOutIdeal.nD Cert.KernelConvOutIdeal.τ).loc Cert.KernelConvOutIdeal.main_arg0)) (m ((c.tc : Thread Cert.KernelConvOutIdeal.nD Cert.KernelConvOutIdeal.τ).loc Cert.KernelConvOutIdeal.main_arg1)) (m ((c.tc : Thread Cert.KernelConvOutIdeal.nD Cert.KernelConvOutIdeal.τ).loc Cert.KernelConvOutIdeal.main_arg2)) (m ((c.tc : Thread Cert.KernelConvOutIdeal.nD Cert.KernelConvOutIdeal.τ).loc Cert.KernelConvOutIdeal.main_arg3)) (m ((c.tc : Thread Cert.KernelConvOutIdeal.nD Cert.KernelConvOutIdeal.τ).loc Cert.KernelConvOutIdeal.main_arg4)) (m ((c.tc : Thread Cert.KernelConvOutIdeal.nD Cert.KernelConvOutIdeal.τ).loc Cert.KernelConvOutIdeal.main_arg5)) (m ((c.tc : Thread Cert.KernelConvOutIdeal.nD Cert.KernelConvOutIdeal.τ).loc Cert.KernelConvOutIdeal.main_arg6)) (m ((c.tc : Thread Cert.KernelConvOutIdeal.nD Cert.KernelConvOutIdeal.τ).loc Cert.KernelConvOutIdeal.main_arg7))).1 = (fun _ => 1#1)
    ∧ (Cert.Pre_finite_co.fn (F := Ideal) (m ((c.tc : Thread Cert.KernelConvOutIdeal.nD Cert.KernelConvOutIdeal.τ).loc Cert.KernelConvOutIdeal.main_arg0)) (m ((c.tc : Thread Cert.KernelConvOutIdeal.nD Cert.KernelConvOutIdeal.τ).loc Cert.KernelConvOutIdeal.main_arg1)) (m ((c.tc : Thread Cert.KernelConvOutIdeal.nD Cert.KernelConvOutIdeal.τ).loc Cert.KernelConvOutIdeal.main_arg2)) (m ((c.tc : Thread Cert.KernelConvOutIdeal.nD Cert.KernelConvOutIdeal.τ).loc Cert.KernelConvOutIdeal.main_arg3)) (m ((c.tc : Thread Cert.KernelConvOutIdeal.nD Cert.KernelConvOutIdeal.τ).loc Cert.KernelConvOutIdeal.main_arg4)) (m ((c.tc : Thread Cert.KernelConvOutIdeal.nD Cert.KernelConvOutIdeal.τ).loc Cert.KernelConvOutIdeal.main_arg5)) (m ((c.tc : Thread Cert.KernelConvOutIdeal.nD Cert.KernelConvOutIdeal.τ).loc Cert.KernelConvOutIdeal.main_arg6)) (m ((c.tc : Thread Cert.KernelConvOutIdeal.nD Cert.KernelConvOutIdeal.τ).loc Cert.KernelConvOutIdeal.main_arg7))).2.1 = (fun _ => 1#1)
    ∧ (Cert.Pre_finite_co.fn (F := Ideal) (m ((c.tc : Thread Cert.KernelConvOutIdeal.nD Cert.KernelConvOutIdeal.τ).loc Cert.KernelConvOutIdeal.main_arg0)) (m ((c.tc : Thread Cert.KernelConvOutIdeal.nD Cert.KernelConvOutIdeal.τ).loc Cert.KernelConvOutIdeal.main_arg1)) (m ((c.tc : Thread Cert.KernelConvOutIdeal.nD Cert.KernelConvOutIdeal.τ).loc Cert.KernelConvOutIdeal.main_arg2)) (m ((c.tc : Thread Cert.KernelConvOutIdeal.nD Cert.KernelConvOutIdeal.τ).loc Cert.KernelConvOutIdeal.main_arg3)) (m ((c.tc : Thread Cert.KernelConvOutIdeal.nD Cert.KernelConvOutIdeal.τ).loc Cert.KernelConvOutIdeal.main_arg4)) (m ((c.tc : Thread Cert.KernelConvOutIdeal.nD Cert.KernelConvOutIdeal.τ).loc Cert.KernelConvOutIdeal.main_arg5)) (m ((c.tc : Thread Cert.KernelConvOutIdeal.nD Cert.KernelConvOutIdeal.τ).loc Cert.KernelConvOutIdeal.main_arg6)) (m ((c.tc : Thread Cert.KernelConvOutIdeal.nD Cert.KernelConvOutIdeal.τ).loc Cert.KernelConvOutIdeal.main_arg7))).2.2 = (fun _ => 1#1)

def Pre_ReferenceConvOutIdeal (m : (ℓ : Loc Cert.ReferenceConvOutIdeal.nD Cert.ReferenceConvOutIdeal.τ Cert.ReferenceConvOutIdeal.sig) → Buf (Elt Ideal) ℓ) : Prop :=
  True

def Pre_ReferenceConvOutIdeal_finite_co [hPre_finite_co : Cert.Pre_finite_co.Facts] (m : (ℓ : Loc Cert.ReferenceConvOutIdeal.nD Cert.ReferenceConvOutIdeal.τ Cert.ReferenceConvOutIdeal.sig) → Buf (Elt Ideal) ℓ) : Prop :=
  ∀ c : Dev Cert.ReferenceConvOutIdeal.nD,
    (Cert.Pre_finite_co.fn (F := Ideal) (m ((c.tc : Thread Cert.ReferenceConvOutIdeal.nD Cert.ReferenceConvOutIdeal.τ).loc Cert.ReferenceConvOutIdeal.main_arg0)) (m ((c.tc : Thread Cert.ReferenceConvOutIdeal.nD Cert.ReferenceConvOutIdeal.τ).loc Cert.ReferenceConvOutIdeal.main_arg1)) (m ((c.tc : Thread Cert.ReferenceConvOutIdeal.nD Cert.ReferenceConvOutIdeal.τ).loc Cert.ReferenceConvOutIdeal.main_arg2)) (m ((c.tc : Thread Cert.ReferenceConvOutIdeal.nD Cert.ReferenceConvOutIdeal.τ).loc Cert.ReferenceConvOutIdeal.main_arg3)) (m ((c.tc : Thread Cert.ReferenceConvOutIdeal.nD Cert.ReferenceConvOutIdeal.τ).loc Cert.ReferenceConvOutIdeal.main_arg4)) (m ((c.tc : Thread Cert.ReferenceConvOutIdeal.nD Cert.ReferenceConvOutIdeal.τ).loc Cert.ReferenceConvOutIdeal.main_arg5)) (m ((c.tc : Thread Cert.ReferenceConvOutIdeal.nD Cert.ReferenceConvOutIdeal.τ).loc Cert.ReferenceConvOutIdeal.main_arg6)) (m ((c.tc : Thread Cert.ReferenceConvOutIdeal.nD Cert.ReferenceConvOutIdeal.τ).loc Cert.ReferenceConvOutIdeal.main_arg7))).1 = (fun _ => 1#1)
    ∧ (Cert.Pre_finite_co.fn (F := Ideal) (m ((c.tc : Thread Cert.ReferenceConvOutIdeal.nD Cert.ReferenceConvOutIdeal.τ).loc Cert.ReferenceConvOutIdeal.main_arg0)) (m ((c.tc : Thread Cert.ReferenceConvOutIdeal.nD Cert.ReferenceConvOutIdeal.τ).loc Cert.ReferenceConvOutIdeal.main_arg1)) (m ((c.tc : Thread Cert.ReferenceConvOutIdeal.nD Cert.ReferenceConvOutIdeal.τ).loc Cert.ReferenceConvOutIdeal.main_arg2)) (m ((c.tc : Thread Cert.ReferenceConvOutIdeal.nD Cert.ReferenceConvOutIdeal.τ).loc Cert.ReferenceConvOutIdeal.main_arg3)) (m ((c.tc : Thread Cert.ReferenceConvOutIdeal.nD Cert.ReferenceConvOutIdeal.τ).loc Cert.ReferenceConvOutIdeal.main_arg4)) (m ((c.tc : Thread Cert.ReferenceConvOutIdeal.nD Cert.ReferenceConvOutIdeal.τ).loc Cert.ReferenceConvOutIdeal.main_arg5)) (m ((c.tc : Thread Cert.ReferenceConvOutIdeal.nD Cert.ReferenceConvOutIdeal.τ).loc Cert.ReferenceConvOutIdeal.main_arg6)) (m ((c.tc : Thread Cert.ReferenceConvOutIdeal.nD Cert.ReferenceConvOutIdeal.τ).loc Cert.ReferenceConvOutIdeal.main_arg7))).2.1 = (fun _ => 1#1)
    ∧ (Cert.Pre_finite_co.fn (F := Ideal) (m ((c.tc : Thread Cert.ReferenceConvOutIdeal.nD Cert.ReferenceConvOutIdeal.τ).loc Cert.ReferenceConvOutIdeal.main_arg0)) (m ((c.tc : Thread Cert.ReferenceConvOutIdeal.nD Cert.ReferenceConvOutIdeal.τ).loc Cert.ReferenceConvOutIdeal.main_arg1)) (m ((c.tc : Thread Cert.ReferenceConvOutIdeal.nD Cert.ReferenceConvOutIdeal.τ).loc Cert.ReferenceConvOutIdeal.main_arg2)) (m ((c.tc : Thread Cert.ReferenceConvOutIdeal.nD Cert.ReferenceConvOutIdeal.τ).loc Cert.ReferenceConvOutIdeal.main_arg3)) (m ((c.tc : Thread Cert.ReferenceConvOutIdeal.nD Cert.ReferenceConvOutIdeal.τ).loc Cert.ReferenceConvOutIdeal.main_arg4)) (m ((c.tc : Thread Cert.ReferenceConvOutIdeal.nD Cert.ReferenceConvOutIdeal.τ).loc Cert.ReferenceConvOutIdeal.main_arg5)) (m ((c.tc : Thread Cert.ReferenceConvOutIdeal.nD Cert.ReferenceConvOutIdeal.τ).loc Cert.ReferenceConvOutIdeal.main_arg6)) (m ((c.tc : Thread Cert.ReferenceConvOutIdeal.nD Cert.ReferenceConvOutIdeal.τ).loc Cert.ReferenceConvOutIdeal.main_arg7))).2.2 = (fun _ => 1#1)

def Pre_KernelAttnIn (m : (ℓ : Loc Cert.KernelAttnIn.nD Cert.KernelAttnIn.τ Cert.KernelAttnIn.sig) → Buf (Elt Bits) ℓ) : Prop :=
  True

def Pre_KernelAttnInIdeal (m : (ℓ : Loc Cert.KernelAttnInIdeal.nD Cert.KernelAttnInIdeal.τ Cert.KernelAttnInIdeal.sig) → Buf (Elt Ideal) ℓ) : Prop :=
  True

def Pre_KernelAttnInIdeal_finite_ai [hPre_finite_ai : Cert.Pre_finite_ai.Facts] (m : (ℓ : Loc Cert.KernelAttnInIdeal.nD Cert.KernelAttnInIdeal.τ Cert.KernelAttnInIdeal.sig) → Buf (Elt Ideal) ℓ) : Prop :=
  ∀ c : Dev Cert.KernelAttnInIdeal.nD,
    (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).1 = (fun _ => 1#1)
    ∧ (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).2.1 = (fun _ => 1#1)
    ∧ (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).2.2.1 = (fun _ => 1#1)
    ∧ (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).2.2.2.1 = (fun _ => 1#1)
    ∧ (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).2.2.2.2.1 = (fun _ => 1#1)
    ∧ (Cert.Pre_finite_ai.fn (F := Ideal) (m ((c.tc : Thread Cert.KernelAttnInIdeal.nD Cert.KernelAttnInIdeal.τ).loc Cert.KernelAttnInIdeal.main_arg0)) (m ((c.tc : Thread Cert.KernelAttnInIdeal.nD Cert.KernelAttnInIdeal.τ).loc Cert.KernelAttnInIdeal.main_arg1)) (m ((c.tc : Thread Cert.KernelAttnInIdeal.nD Cert.KernelAttnInIdeal.τ).loc Cert.KernelAttnInIdeal.main_arg2)) (m ((c.tc : Thread Cert.KernelAttnInIdeal.nD Cert.KernelAttnInIdeal.τ).loc Cert.KernelAttnInIdeal.main_arg3)) (m ((c.tc : Thread Cert.KernelAttnInIdeal.nD Cert.KernelAttnInIdeal.τ).loc Cert.KernelAttnInIdeal.main_arg4)) (m ((c.tc : Thread Cert.KernelAttnInIdeal.nD Cert.KernelAttnInIdeal.τ).loc Cert.KernelAttnInIdeal.main_arg5)) (m ((c.tc : Thread Cert.KernelAttnInIdeal.nD Cert.KernelAttnInIdeal.τ).loc Cert.KernelAttnInIdeal.main_arg6)) (m ((c.tc : Thread Cert.KernelAttnInIdeal.nD Cert.KernelAttnInIdeal.τ).loc Cert.KernelAttnInIdeal.main_arg7)) (m ((c.tc : Thread Cert.KernelAttnInIdeal.nD Cert.KernelAttnInIdeal.τ).loc Cert.KernelAttnInIdeal.main_arg8)) (m ((c.tc : Thread Cert.KernelAttnInIdeal.nD Cert.KernelAttnInIdeal.τ).loc Cert.KernelAttnInIdeal.main_arg9))).2.2.2.2.2 = (fun _ => 1#1)

def Pre_ReferenceAttnInIdeal (m : (ℓ : Loc Cert.ReferenceAttnInIdeal.nD Cert.ReferenceAttnInIdeal.τ Cert.ReferenceAttnInIdeal.sig) → Buf (Elt Ideal) ℓ) : Prop :=
  True

def Pre_ReferenceAttnInIdeal_finite_ai [hPre_finite_ai : Cert.Pre_finite_ai.Facts] (m : (ℓ : Loc Cert.ReferenceAttnInIdeal.nD Cert.ReferenceAttnInIdeal.τ Cert.ReferenceAttnInIdeal.sig) → Buf (Elt Ideal) ℓ) : Prop :=
  ∀ c : Dev Cert.ReferenceAttnInIdeal.nD,
    (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).1 = (fun _ => 1#1)
    ∧ (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).2.1 = (fun _ => 1#1)
    ∧ (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).2.2.1 = (fun _ => 1#1)
    ∧ (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).2.2.2.1 = (fun _ => 1#1)
    ∧ (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).2.2.2.2.1 = (fun _ => 1#1)
    ∧ (Cert.Pre_finite_ai.fn (F := Ideal) (m ((c.tc : Thread Cert.ReferenceAttnInIdeal.nD Cert.ReferenceAttnInIdeal.τ).loc Cert.ReferenceAttnInIdeal.main_arg0)) (m ((c.tc : Thread Cert.ReferenceAttnInIdeal.nD Cert.ReferenceAttnInIdeal.τ).loc Cert.ReferenceAttnInIdeal.main_arg1)) (m ((c.tc : Thread Cert.ReferenceAttnInIdeal.nD Cert.ReferenceAttnInIdeal.τ).loc Cert.ReferenceAttnInIdeal.main_arg2)) (m ((c.tc : Thread Cert.ReferenceAttnInIdeal.nD Cert.ReferenceAttnInIdeal.τ).loc Cert.ReferenceAttnInIdeal.main_arg3)) (m ((c.tc : Thread Cert.ReferenceAttnInIdeal.nD Cert.ReferenceAttnInIdeal.τ).loc Cert.ReferenceAttnInIdeal.main_arg4)) (m ((c.tc : Thread Cert.ReferenceAttnInIdeal.nD Cert.ReferenceAttnInIdeal.τ).loc Cert.ReferenceAttnInIdeal.main_arg5)) (m ((c.tc : Thread Cert.ReferenceAttnInIdeal.nD Cert.ReferenceAttnInIdeal.τ).loc Cert.ReferenceAttnInIdeal.main_arg6)) (m ((c.tc : Thread Cert.ReferenceAttnInIdeal.nD Cert.ReferenceAttnInIdeal.τ).loc Cert.ReferenceAttnInIdeal.main_arg7)) (m ((c.tc : Thread Cert.ReferenceAttnInIdeal.nD Cert.ReferenceAttnInIdeal.τ).loc Cert.ReferenceAttnInIdeal.main_arg8)) (m ((c.tc : Thread Cert.ReferenceAttnInIdeal.nD Cert.ReferenceAttnInIdeal.τ).loc Cert.ReferenceAttnInIdeal.main_arg9))).2.2.2.2.2 = (fun _ => 1#1)

def Pre_KernelAttnOutFwd (m : (ℓ : Loc Cert.KernelAttnOutFwd.nD Cert.KernelAttnOutFwd.τ Cert.KernelAttnOutFwd.sig) → Buf (Elt Bits) ℓ) : Prop :=
  True

def Pre_KernelAttnOutFwdIdeal (m : (ℓ : Loc Cert.KernelAttnOutFwdIdeal.nD Cert.KernelAttnOutFwdIdeal.τ Cert.KernelAttnOutFwdIdeal.sig) → Buf (Elt Ideal) ℓ) : Prop :=
  True

def Pre_ReferenceAttnOutFwdIdeal (m : (ℓ : Loc Cert.ReferenceAttnOutFwdIdeal.nD Cert.ReferenceAttnOutFwdIdeal.τ Cert.ReferenceAttnOutFwdIdeal.sig) → Buf (Elt Ideal) ℓ) : Prop :=
  True

def Pre_KernelMlpFwd (m : (ℓ : Loc Cert.KernelMlpFwd.nD Cert.KernelMlpFwd.τ Cert.KernelMlpFwd.sig) → Buf (Elt Bits) ℓ) : Prop :=
  True

def Pre_KernelMlpFwdIdeal (m : (ℓ : Loc Cert.KernelMlpFwdIdeal.nD Cert.KernelMlpFwdIdeal.τ Cert.KernelMlpFwdIdeal.sig) → Buf (Elt Ideal) ℓ) : Prop :=
  True

def Pre_ReferenceMlpFwdIdeal (m : (ℓ : Loc Cert.ReferenceMlpFwdIdeal.nD Cert.ReferenceMlpFwdIdeal.τ Cert.ReferenceMlpFwdIdeal.sig) → Buf (Elt Ideal) ℓ) : Prop :=
  True

def Pre_KernelConvInFwd (m : (ℓ : Loc Cert.KernelConvInFwd.nD Cert.KernelConvInFwd.τ Cert.KernelConvInFwd.sig) → Buf (Elt Bits) ℓ) : Prop :=
  True

def Pre_KernelConvInFwdIdeal (m : (ℓ : Loc Cert.KernelConvInFwdIdeal.nD Cert.KernelConvInFwdIdeal.τ Cert.KernelConvInFwdIdeal.sig) → Buf (Elt Ideal) ℓ) : Prop :=
  True

def Pre_ReferenceConvInFwdIdeal (m : (ℓ : Loc Cert.ReferenceConvInFwdIdeal.nD Cert.ReferenceConvInFwdIdeal.τ Cert.ReferenceConvInFwdIdeal.sig) → Buf (Elt Ideal) ℓ) : Prop :=
  True

def Pre_KernelConvOutFwd (m : (ℓ : Loc Cert.KernelConvOutFwd.nD Cert.KernelConvOutFwd.τ Cert.KernelConvOutFwd.sig) → Buf (Elt Bits) ℓ) : Prop :=
  True

def Pre_KernelConvOutFwdIdeal (m : (ℓ : Loc Cert.KernelConvOutFwdIdeal.nD Cert.KernelConvOutFwdIdeal.τ Cert.KernelConvOutFwdIdeal.sig) → Buf (Elt Ideal) ℓ) : Prop :=
  True

def Pre_ReferenceConvOutFwdIdeal (m : (ℓ : Loc Cert.ReferenceConvOutFwdIdeal.nD Cert.ReferenceConvOutFwdIdeal.τ Cert.ReferenceConvOutFwdIdeal.sig) → Buf (Elt Ideal) ℓ) : Prop :=
  True

def Pre_KernelAttnInFwd (m : (ℓ : Loc Cert.KernelAttnInFwd.nD Cert.KernelAttnInFwd.τ Cert.KernelAttnInFwd.sig) → Buf (Elt Bits) ℓ) : Prop :=
  True

def Pre_KernelAttnInFwdIdeal (m : (ℓ : Loc Cert.KernelAttnInFwdIdeal.nD Cert.KernelAttnInFwdIdeal.τ Cert.KernelAttnInFwdIdeal.sig) → Buf (Elt Ideal) ℓ) : Prop :=
  True

def Pre_ReferenceAttnInFwdIdeal (m : (ℓ : Loc Cert.ReferenceAttnInFwdIdeal.nD Cert.ReferenceAttnInFwdIdeal.τ Cert.ReferenceAttnInFwdIdeal.sig) → Buf (Elt Ideal) ℓ) : Prop :=
  True

def Pre_KernelDwConv (m : (ℓ : Loc Cert.KernelDwConv.nD Cert.KernelDwConv.τ Cert.KernelDwConv.sig) → Buf (Elt Bits) ℓ) : Prop :=
  True

def Pre_KernelDwConvIdeal (m : (ℓ : Loc Cert.KernelDwConvIdeal.nD Cert.KernelDwConvIdeal.τ Cert.KernelDwConvIdeal.sig) → Buf (Elt Ideal) ℓ) : Prop :=
  True

def Pre_ReferenceDwConvIdeal (m : (ℓ : Loc Cert.ReferenceDwConvIdeal.nD Cert.ReferenceDwConvIdeal.τ Cert.ReferenceDwConvIdeal.sig) → Buf (Elt Ideal) ℓ) : Prop :=
  True

def Pre_KernelDwConvFwd (m : (ℓ : Loc Cert.KernelDwConvFwd.nD Cert.KernelDwConvFwd.τ Cert.KernelDwConvFwd.sig) → Buf (Elt Bits) ℓ) : Prop :=
  True

def Pre_KernelDwConvFwdIdeal (m : (ℓ : Loc Cert.KernelDwConvFwdIdeal.nD Cert.KernelDwConvFwdIdeal.τ Cert.KernelDwConvFwdIdeal.sig) → Buf (Elt Ideal) ℓ) : Prop :=
  True

def Pre_ReferenceDwConvFwdIdeal (m : (ℓ : Loc Cert.ReferenceDwConvFwdIdeal.nD Cert.ReferenceDwConvFwdIdeal.τ Cert.ReferenceDwConvFwdIdeal.sig) → Buf (Elt Ideal) ℓ) : Prop :=
  True

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite [hKernelAttnIdeal : Cert.KernelAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite [hReferenceAttnIdeal : Cert.ReferenceAttnIdeal.Facts] [hPre_finite : Cert.Pre_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelAttnOut [hKernelAttnOut : Cert.KernelAttnOut.Facts] : Prop :=
  ∀ (m : (ℓ : Loc Cert.KernelAttnOut.nD Cert.KernelAttnOut.τ Cert.KernelAttnOut.sig) → Buf (Elt Bits) ℓ) (g : Dev Cert.KernelAttnOut.nD → PrngReg), Pre_KernelAttnOut m →
    θ_run (Cert.KernelAttnOut.defs (F := Bits)) (onTc (τ := Cert.KernelAttnOut.τ) (Cert.KernelAttnOut.main (F := Bits))) ⟨m, fun _ => 0, g⟩ (fun r => (∀ c : Dev Cert.KernelAttnOut.nD,
      r.2.mem ((c.tc : Thread Cert.KernelAttnOut.nD Cert.KernelAttnOut.τ).loc Cert.KernelAttnOut.main_arg0) = m ((c.tc : Thread Cert.KernelAttnOut.nD Cert.KernelAttnOut.τ).loc Cert.KernelAttnOut.main_arg0)
      ∧ r.2.mem ((c.tc : Thread Cert.KernelAttnOut.nD Cert.KernelAttnOut.τ).loc Cert.KernelAttnOut.main_arg1) = m ((c.tc : Thread Cert.KernelAttnOut.nD Cert.KernelAttnOut.τ).loc Cert.KernelAttnOut.main_arg1)
      ∧ r.2.mem ((c.tc : Thread Cert.KernelAttnOut.nD Cert.KernelAttnOut.τ).loc Cert.KernelAttnOut.main_arg2) = m ((c.tc : Thread Cert.KernelAttnOut.nD Cert.KernelAttnOut.τ).loc Cert.KernelAttnOut.main_arg2)
      ∧ r.2.mem ((c.tc : Thread Cert.KernelAttnOut.nD Cert.KernelAttnOut.τ).loc Cert.KernelAttnOut.main_arg3) = m ((c.tc : Thread Cert.KernelAttnOut.nD Cert.KernelAttnOut.τ).loc Cert.KernelAttnOut.main_arg3))
      ∧ r.2.sem = fun _ => 0)

def quiescent_KernelAttnOutIdeal [hKernelAttnOutIdeal : Cert.KernelAttnOutIdeal.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg), Pre_KernelAttnOutIdeal m →
    θ_run (Cert.KernelAttnOutIdeal.defs (F := Ideal)) (onTc (τ := Cert.KernelAttnOutIdeal.τ) (Cert.KernelAttnOutIdeal.main (F := Ideal))) ⟨m, fun _ => 0, g⟩ (fun r => (∀ c : Dev Cert.KernelAttnOutIdeal.nD,
      r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
      ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
      ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
      ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ r.2.sem = fun _ => 0)

def quiescent_KernelAttnOutIdeal_pre_finite_ao [hKernelAttnOutIdeal : Cert.KernelAttnOutIdeal.Facts] [hPre_finite_ao : Cert.Pre_finite_ao.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg), Pre_KernelAttnOutIdeal_finite_ao m →
    θ_run (Cert.KernelAttnOutIdeal.defs (F := Ideal)) (onTc (τ := Cert.KernelAttnOutIdeal.τ) (Cert.KernelAttnOutIdeal.main (F := Ideal))) ⟨m, fun _ => 0, g⟩ (fun r => (∀ c : Dev Cert.KernelAttnOutIdeal.nD,
      r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
      ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
      ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
      ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ r.2.sem = fun _ => 0)

def quiescent_ReferenceAttnOutIdeal [hReferenceAttnOutIdeal : Cert.ReferenceAttnOutIdeal.Facts] : Prop :=
  ∀ (m : (ℓ : Loc Cert.ReferenceAttnOutIdeal.nD Cert.ReferenceAttnOutIdeal.τ Cert.ReferenceAttnOutIdeal.sig) → Buf (Elt Ideal) ℓ) (g : Dev Cert.ReferenceAttnOutIdeal.nD → PrngReg), Pre_ReferenceAttnOutIdeal m →
    θ_run (Cert.ReferenceAttnOutIdeal.defs (F := Ideal)) (onTc (τ := Cert.ReferenceAttnOutIdeal.τ) (Cert.ReferenceAttnOutIdeal.main (F := Ideal))) ⟨m, fun _ => 0, g⟩ (fun r => (∀ c : Dev Cert.ReferenceAttnOutIdeal.nD,
      r.2.mem ((c.tc : Thread Cert.ReferenceAttnOutIdeal.nD Cert.ReferenceAttnOutIdeal.τ).loc Cert.ReferenceAttnOutIdeal.main_arg0) = m ((c.tc : Thread Cert.ReferenceAttnOutIdeal.nD Cert.ReferenceAttnOutIdeal.τ).loc Cert.ReferenceAttnOutIdeal.main_arg0)
      ∧ r.2.mem ((c.tc : Thread Cert.ReferenceAttnOutIdeal.nD Cert.ReferenceAttnOutIdeal.τ).loc Cert.ReferenceAttnOutIdeal.main_arg1) = m ((c.tc : Thread Cert.ReferenceAttnOutIdeal.nD Cert.ReferenceAttnOutIdeal.τ).loc Cert.ReferenceAttnOutIdeal.main_arg1)
      ∧ r.2.mem ((c.tc : Thread Cert.ReferenceAttnOutIdeal.nD Cert.ReferenceAttnOutIdeal.τ).loc Cert.ReferenceAttnOutIdeal.main_arg2) = m ((c.tc : Thread Cert.ReferenceAttnOutIdeal.nD Cert.ReferenceAttnOutIdeal.τ).loc Cert.ReferenceAttnOutIdeal.main_arg2)
      ∧ r.2.mem ((c.tc : Thread Cert.ReferenceAttnOutIdeal.nD Cert.ReferenceAttnOutIdeal.τ).loc Cert.ReferenceAttnOutIdeal.main_arg3) = m ((c.tc : Thread Cert.ReferenceAttnOutIdeal.nD Cert.ReferenceAttnOutIdeal.τ).loc Cert.ReferenceAttnOutIdeal.main_arg3))
      ∧ r.2.sem = fun _ => 0)

def quiescent_ReferenceAttnOutIdeal_pre_finite_ao [hReferenceAttnOutIdeal : Cert.ReferenceAttnOutIdeal.Facts] [hPre_finite_ao : Cert.Pre_finite_ao.Facts] : Prop :=
  ∀ (m : (ℓ : Loc Cert.ReferenceAttnOutIdeal.nD Cert.ReferenceAttnOutIdeal.τ Cert.ReferenceAttnOutIdeal.sig) → Buf (Elt Ideal) ℓ) (g : Dev Cert.ReferenceAttnOutIdeal.nD → PrngReg), Pre_ReferenceAttnOutIdeal_finite_ao m →
    θ_run (Cert.ReferenceAttnOutIdeal.defs (F := Ideal)) (onTc (τ := Cert.ReferenceAttnOutIdeal.τ) (Cert.ReferenceAttnOutIdeal.main (F := Ideal))) ⟨m, fun _ => 0, g⟩ (fun r => (∀ c : Dev Cert.ReferenceAttnOutIdeal.nD,
      r.2.mem ((c.tc : Thread Cert.ReferenceAttnOutIdeal.nD Cert.ReferenceAttnOutIdeal.τ).loc Cert.ReferenceAttnOutIdeal.main_arg0) = m ((c.tc : Thread Cert.ReferenceAttnOutIdeal.nD Cert.ReferenceAttnOutIdeal.τ).loc Cert.ReferenceAttnOutIdeal.main_arg0)
      ∧ r.2.mem ((c.tc : Thread Cert.ReferenceAttnOutIdeal.nD Cert.ReferenceAttnOutIdeal.τ).loc Cert.ReferenceAttnOutIdeal.main_arg1) = m ((c.tc : Thread Cert.ReferenceAttnOutIdeal.nD Cert.ReferenceAttnOutIdeal.τ).loc Cert.ReferenceAttnOutIdeal.main_arg1)
      ∧ r.2.mem ((c.tc : Thread Cert.ReferenceAttnOutIdeal.nD Cert.ReferenceAttnOutIdeal.τ).loc Cert.ReferenceAttnOutIdeal.main_arg2) = m ((c.tc : Thread Cert.ReferenceAttnOutIdeal.nD Cert.ReferenceAttnOutIdeal.τ).loc Cert.ReferenceAttnOutIdeal.main_arg2)
      ∧ r.2.mem ((c.tc : Thread Cert.ReferenceAttnOutIdeal.nD Cert.ReferenceAttnOutIdeal.τ).loc Cert.ReferenceAttnOutIdeal.main_arg3) = m ((c.tc : Thread Cert.ReferenceAttnOutIdeal.nD Cert.ReferenceAttnOutIdeal.τ).loc Cert.ReferenceAttnOutIdeal.main_arg3))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1)
      ∧ r.2.mem ((c.tc : Thread Cert.KernelAttnFwd.nD Cert.KernelAttnFwd.τ).loc Cert.KernelAttnFwd.main_arg2) = m ((c.tc : Thread Cert.KernelAttnFwd.nD Cert.KernelAttnFwd.τ).loc Cert.KernelAttnFwd.main_arg2)
      ∧ r.2.mem ((c.tc : Thread Cert.KernelAttnFwd.nD Cert.KernelAttnFwd.τ).loc Cert.KernelAttnFwd.main_arg3) = m ((c.tc : Thread Cert.KernelAttnFwd.nD Cert.KernelAttnFwd.τ).loc Cert.KernelAttnFwd.main_arg3))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
      ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ r.2.sem = fun _ => 0)

def quiescent_KernelAttnFwdIdeal_pre_finite_fwd [hKernelAttnFwdIdeal : Cert.KernelAttnFwdIdeal.Facts] [hPre_finite_fwd : Cert.Pre_finite_fwd.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_finite_fwd m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
      ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2)
      ∧ r.2.mem ((c.tc : Thread Cert.ReferenceAttnFwdIdeal.nD Cert.ReferenceAttnFwdIdeal.τ).loc Cert.ReferenceAttnFwdIdeal.main_arg3) = m ((c.tc : Thread Cert.ReferenceAttnFwdIdeal.nD Cert.ReferenceAttnFwdIdeal.τ).loc Cert.ReferenceAttnFwdIdeal.main_arg3))
      ∧ r.2.sem = fun _ => 0)

def quiescent_ReferenceAttnFwdIdeal_pre_finite_fwd [hReferenceAttnFwdIdeal : Cert.ReferenceAttnFwdIdeal.Facts] [hPre_finite_fwd : Cert.Pre_finite_fwd.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_finite_fwd m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2)
      ∧ r.2.mem ((c.tc : Thread Cert.ReferenceAttnFwdIdeal.nD Cert.ReferenceAttnFwdIdeal.τ).loc Cert.ReferenceAttnFwdIdeal.main_arg3) = m ((c.tc : Thread Cert.ReferenceAttnFwdIdeal.nD Cert.ReferenceAttnFwdIdeal.τ).loc Cert.ReferenceAttnFwdIdeal.main_arg3))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_KernelMlpIdeal_pre_finite_mlp [hKernelMlpIdeal : Cert.KernelMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal_finite_mlp m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def quiescent_ReferenceMlpIdeal_pre_finite_mlp [hReferenceMlpIdeal : Cert.ReferenceMlpIdeal.Facts] [hPre_finite_mlp : Cert.Pre_finite_mlp.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal_finite_mlp m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def quiescent_KernelConvIn [hKernelConvIn : Cert.KernelConvIn.Facts] : Prop :=
  ∀ (m : (ℓ : Loc Cert.KernelConvIn.nD Cert.KernelConvIn.τ Cert.KernelConvIn.sig) → Buf (Elt Bits) ℓ) (g : Dev Cert.KernelConvIn.nD → PrngReg), Pre_KernelConvIn m →
    θ_run (Cert.KernelConvIn.defs (F := Bits)) (onTc (τ := Cert.KernelConvIn.τ) (Cert.KernelConvIn.main (F := Bits))) ⟨m, fun _ => 0, g⟩ (fun r => (∀ c : Dev Cert.KernelConvIn.nD,
      r.2.mem ((c.tc : Thread Cert.KernelConvIn.nD Cert.KernelConvIn.τ).loc Cert.KernelConvIn.main_arg0) = m ((c.tc : Thread Cert.KernelConvIn.nD Cert.KernelConvIn.τ).loc Cert.KernelConvIn.main_arg0)
      ∧ r.2.mem ((c.tc : Thread Cert.KernelConvIn.nD Cert.KernelConvIn.τ).loc Cert.KernelConvIn.main_arg1) = m ((c.tc : Thread Cert.KernelConvIn.nD Cert.KernelConvIn.τ).loc Cert.KernelConvIn.main_arg1)
      ∧ r.2.mem ((c.tc : Thread Cert.KernelConvIn.nD Cert.KernelConvIn.τ).loc Cert.KernelConvIn.main_arg2) = m ((c.tc : Thread Cert.KernelConvIn.nD Cert.KernelConvIn.τ).loc Cert.KernelConvIn.main_arg2)
      ∧ r.2.mem ((c.tc : Thread Cert.KernelConvIn.nD Cert.KernelConvIn.τ).loc Cert.KernelConvIn.main_arg3) = m ((c.tc : Thread Cert.KernelConvIn.nD Cert.KernelConvIn.τ).loc Cert.KernelConvIn.main_arg3)
      ∧ r.2.mem ((c.tc : Thread Cert.KernelConvIn.nD Cert.KernelConvIn.τ).loc Cert.KernelConvIn.main_arg4) = m ((c.tc : Thread Cert.KernelConvIn.nD Cert.KernelConvIn.τ).loc Cert.KernelConvIn.main_arg4)
      ∧ r.2.mem ((c.tc : Thread Cert.KernelConvIn.nD Cert.KernelConvIn.τ).loc Cert.KernelConvIn.main_arg5) = m ((c.tc : Thread Cert.KernelConvIn.nD Cert.KernelConvIn.τ).loc Cert.KernelConvIn.main_arg5))
      ∧ r.2.sem = fun _ => 0)

def quiescent_KernelConvInIdeal [hKernelConvInIdeal : Cert.KernelConvInIdeal.Facts] : Prop :=
  ∀ (m : (ℓ : Loc Cert.KernelConvInIdeal.nD Cert.KernelConvInIdeal.τ Cert.KernelConvInIdeal.sig) → Buf (Elt Ideal) ℓ) (g : Dev Cert.KernelConvInIdeal.nD → PrngReg), Pre_KernelConvInIdeal m →
    θ_run (Cert.KernelConvInIdeal.defs (F := Ideal)) (onTc (τ := Cert.KernelConvInIdeal.τ) (Cert.KernelConvInIdeal.main (F := Ideal))) ⟨m, fun _ => 0, g⟩ (fun r => (∀ c : Dev Cert.KernelConvInIdeal.nD,
      r.2.mem ((c.tc : Thread Cert.KernelConvInIdeal.nD Cert.KernelConvInIdeal.τ).loc Cert.KernelConvInIdeal.main_arg0) = m ((c.tc : Thread Cert.KernelConvInIdeal.nD Cert.KernelConvInIdeal.τ).loc Cert.KernelConvInIdeal.main_arg0)
      ∧ r.2.mem ((c.tc : Thread Cert.KernelConvInIdeal.nD Cert.KernelConvInIdeal.τ).loc Cert.KernelConvInIdeal.main_arg1) = m ((c.tc : Thread Cert.KernelConvInIdeal.nD Cert.KernelConvInIdeal.τ).loc Cert.KernelConvInIdeal.main_arg1)
      ∧ r.2.mem ((c.tc : Thread Cert.KernelConvInIdeal.nD Cert.KernelConvInIdeal.τ).loc Cert.KernelConvInIdeal.main_arg2) = m ((c.tc : Thread Cert.KernelConvInIdeal.nD Cert.KernelConvInIdeal.τ).loc Cert.KernelConvInIdeal.main_arg2)
      ∧ r.2.mem ((c.tc : Thread Cert.KernelConvInIdeal.nD Cert.KernelConvInIdeal.τ).loc Cert.KernelConvInIdeal.main_arg3) = m ((c.tc : Thread Cert.KernelConvInIdeal.nD Cert.KernelConvInIdeal.τ).loc Cert.KernelConvInIdeal.main_arg3)
      ∧ r.2.mem ((c.tc : Thread Cert.KernelConvInIdeal.nD Cert.KernelConvInIdeal.τ).loc Cert.KernelConvInIdeal.main_arg4) = m ((c.tc : Thread Cert.KernelConvInIdeal.nD Cert.KernelConvInIdeal.τ).loc Cert.KernelConvInIdeal.main_arg4)
      ∧ r.2.mem ((c.tc : Thread Cert.KernelConvInIdeal.nD Cert.KernelConvInIdeal.τ).loc Cert.KernelConvInIdeal.main_arg5) = m ((c.tc : Thread Cert.KernelConvInIdeal.nD Cert.KernelConvInIdeal.τ).loc Cert.KernelConvInIdeal.main_arg5))
      ∧ r.2.sem = fun _ => 0)

def quiescent_KernelConvInIdeal_pre_finite_ci [hKernelConvInIdeal : Cert.KernelConvInIdeal.Facts] [hPre_finite_ci : Cert.Pre_finite_ci.Facts] : Prop :=
  ∀ (m : (ℓ : Loc Cert.KernelConvInIdeal.nD Cert.KernelConvInIdeal.τ Cert.KernelConvInIdeal.sig) → Buf (Elt Ideal) ℓ) (g : Dev Cert.KernelConvInIdeal.nD → PrngReg), Pre_KernelConvInIdeal_finite_ci m →
    θ_run (Cert.KernelConvInIdeal.defs (F := Ideal)) (onTc (τ := Cert.KernelConvInIdeal.τ) (Cert.KernelConvInIdeal.main (F := Ideal))) ⟨m, fun _ => 0, g⟩ (fun r => (∀ c : Dev Cert.KernelConvInIdeal.nD,
      r.2.mem ((c.tc : Thread Cert.KernelConvInIdeal.nD Cert.KernelConvInIdeal.τ).loc Cert.KernelConvInIdeal.main_arg0) = m ((c.tc : Thread Cert.KernelConvInIdeal.nD Cert.KernelConvInIdeal.τ).loc Cert.KernelConvInIdeal.main_arg0)
      ∧ r.2.mem ((c.tc : Thread Cert.KernelConvInIdeal.nD Cert.KernelConvInIdeal.τ).loc Cert.KernelConvInIdeal.main_arg1) = m ((c.tc : Thread Cert.KernelConvInIdeal.nD Cert.KernelConvInIdeal.τ).loc Cert.KernelConvInIdeal.main_arg1)
      ∧ r.2.mem ((c.tc : Thread Cert.KernelConvInIdeal.nD Cert.KernelConvInIdeal.τ).loc Cert.KernelConvInIdeal.main_arg2) = m ((c.tc : Thread Cert.KernelConvInIdeal.nD Cert.KernelConvInIdeal.τ).loc Cert.KernelConvInIdeal.main_arg2)
      ∧ r.2.mem ((c.tc : Thread Cert.KernelConvInIdeal.nD Cert.KernelConvInIdeal.τ).loc Cert.KernelConvInIdeal.main_arg3) = m ((c.tc : Thread Cert.KernelConvInIdeal.nD Cert.KernelConvInIdeal.τ).loc Cert.KernelConvInIdeal.main_arg3)
      ∧ r.2.mem ((c.tc : Thread Cert.KernelConvInIdeal.nD Cert.KernelConvInIdeal.τ).loc Cert.KernelConvInIdeal.main_arg4) = m ((c.tc : Thread Cert.KernelConvInIdeal.nD Cert.KernelConvInIdeal.τ).loc Cert.KernelConvInIdeal.main_arg4)
      ∧ r.2.mem ((c.tc : Thread Cert.KernelConvInIdeal.nD Cert.KernelConvInIdeal.τ).loc Cert.KernelConvInIdeal.main_arg5) = m ((c.tc : Thread Cert.KernelConvInIdeal.nD Cert.KernelConvInIdeal.τ).loc Cert.KernelConvInIdeal.main_arg5))
      ∧ r.2.sem = fun _ => 0)

def quiescent_ReferenceConvInIdeal [hReferenceConvInIdeal : Cert.ReferenceConvInIdeal.Facts] : Prop :=
  ∀ (m : (ℓ : Loc Cert.ReferenceConvInIdeal.nD Cert.ReferenceConvInIdeal.τ Cert.ReferenceConvInIdeal.sig) → Buf (Elt Ideal) ℓ) (g : Dev Cert.ReferenceConvInIdeal.nD → PrngReg), Pre_ReferenceConvInIdeal m →
    θ_run (Cert.ReferenceConvInIdeal.defs (F := Ideal)) (onTc (τ := Cert.ReferenceConvInIdeal.τ) (Cert.ReferenceConvInIdeal.main (F := Ideal))) ⟨m, fun _ => 0, g⟩ (fun r => (∀ c : Dev Cert.ReferenceConvInIdeal.nD,
      r.2.mem ((c.tc : Thread Cert.ReferenceConvInIdeal.nD Cert.ReferenceConvInIdeal.τ).loc Cert.ReferenceConvInIdeal.main_arg0) = m ((c.tc : Thread Cert.ReferenceConvInIdeal.nD Cert.ReferenceConvInIdeal.τ).loc Cert.ReferenceConvInIdeal.main_arg0)
      ∧ r.2.mem ((c.tc : Thread Cert.ReferenceConvInIdeal.nD Cert.ReferenceConvInIdeal.τ).loc Cert.ReferenceConvInIdeal.main_arg1) = m ((c.tc : Thread Cert.ReferenceConvInIdeal.nD Cert.ReferenceConvInIdeal.τ).loc Cert.ReferenceConvInIdeal.main_arg1)
      ∧ r.2.mem ((c.tc : Thread Cert.ReferenceConvInIdeal.nD Cert.ReferenceConvInIdeal.τ).loc Cert.ReferenceConvInIdeal.main_arg2) = m ((c.tc : Thread Cert.ReferenceConvInIdeal.nD Cert.ReferenceConvInIdeal.τ).loc Cert.ReferenceConvInIdeal.main_arg2)
      ∧ r.2.mem ((c.tc : Thread Cert.ReferenceConvInIdeal.nD Cert.ReferenceConvInIdeal.τ).loc Cert.ReferenceConvInIdeal.main_arg3) = m ((c.tc : Thread Cert.ReferenceConvInIdeal.nD Cert.ReferenceConvInIdeal.τ).loc Cert.ReferenceConvInIdeal.main_arg3)
      ∧ r.2.mem ((c.tc : Thread Cert.ReferenceConvInIdeal.nD Cert.ReferenceConvInIdeal.τ).loc Cert.ReferenceConvInIdeal.main_arg4) = m ((c.tc : Thread Cert.ReferenceConvInIdeal.nD Cert.ReferenceConvInIdeal.τ).loc Cert.ReferenceConvInIdeal.main_arg4)
      ∧ r.2.mem ((c.tc : Thread Cert.ReferenceConvInIdeal.nD Cert.ReferenceConvInIdeal.τ).loc Cert.ReferenceConvInIdeal.main_arg5) = m ((c.tc : Thread Cert.ReferenceConvInIdeal.nD Cert.ReferenceConvInIdeal.τ).loc Cert.ReferenceConvInIdeal.main_arg5))
      ∧ r.2.sem = fun _ => 0)

def quiescent_ReferenceConvInIdeal_pre_finite_ci [hReferenceConvInIdeal : Cert.ReferenceConvInIdeal.Facts] [hPre_finite_ci : Cert.Pre_finite_ci.Facts] : Prop :=
  ∀ (m : (ℓ : Loc Cert.ReferenceConvInIdeal.nD Cert.ReferenceConvInIdeal.τ Cert.ReferenceConvInIdeal.sig) → Buf (Elt Ideal) ℓ) (g : Dev Cert.ReferenceConvInIdeal.nD → PrngReg), Pre_ReferenceConvInIdeal_finite_ci m →
    θ_run (Cert.ReferenceConvInIdeal.defs (F := Ideal)) (onTc (τ := Cert.ReferenceConvInIdeal.τ) (Cert.ReferenceConvInIdeal.main (F := Ideal))) ⟨m, fun _ => 0, g⟩ (fun r => (∀ c : Dev Cert.ReferenceConvInIdeal.nD,
      r.2.mem ((c.tc : Thread Cert.ReferenceConvInIdeal.nD Cert.ReferenceConvInIdeal.τ).loc Cert.ReferenceConvInIdeal.main_arg0) = m ((c.tc : Thread Cert.ReferenceConvInIdeal.nD Cert.ReferenceConvInIdeal.τ).loc Cert.ReferenceConvInIdeal.main_arg0)
      ∧ r.2.mem ((c.tc : Thread Cert.ReferenceConvInIdeal.nD Cert.ReferenceConvInIdeal.τ).loc Cert.ReferenceConvInIdeal.main_arg1) = m ((c.tc : Thread Cert.ReferenceConvInIdeal.nD Cert.ReferenceConvInIdeal.τ).loc Cert.ReferenceConvInIdeal.main_arg1)
      ∧ r.2.mem ((c.tc : Thread Cert.ReferenceConvInIdeal.nD Cert.ReferenceConvInIdeal.τ).loc Cert.ReferenceConvInIdeal.main_arg2) = m ((c.tc : Thread Cert.ReferenceConvInIdeal.nD Cert.ReferenceConvInIdeal.τ).loc Cert.ReferenceConvInIdeal.main_arg2)
      ∧ r.2.mem ((c.tc : Thread Cert.ReferenceConvInIdeal.nD Cert.ReferenceConvInIdeal.τ).loc Cert.ReferenceConvInIdeal.main_arg3) = m ((c.tc : Thread Cert.ReferenceConvInIdeal.nD Cert.ReferenceConvInIdeal.τ).loc Cert.ReferenceConvInIdeal.main_arg3)
      ∧ r.2.mem ((c.tc : Thread Cert.ReferenceConvInIdeal.nD Cert.ReferenceConvInIdeal.τ).loc Cert.ReferenceConvInIdeal.main_arg4) = m ((c.tc : Thread Cert.ReferenceConvInIdeal.nD Cert.ReferenceConvInIdeal.τ).loc Cert.ReferenceConvInIdeal.main_arg4)
      ∧ r.2.mem ((c.tc : Thread Cert.ReferenceConvInIdeal.nD Cert.ReferenceConvInIdeal.τ).loc Cert.ReferenceConvInIdeal.main_arg5) = m ((c.tc : Thread Cert.ReferenceConvInIdeal.nD Cert.ReferenceConvInIdeal.τ).loc Cert.ReferenceConvInIdeal.main_arg5))
      ∧ r.2.sem = fun _ => 0)

def quiescent_KernelConvOut [hKernelConvOut : Cert.KernelConvOut.Facts] : Prop :=
  ∀ (m : (ℓ : Loc Cert.KernelConvOut.nD Cert.KernelConvOut.τ Cert.KernelConvOut.sig) → Buf (Elt Bits) ℓ) (g : Dev Cert.KernelConvOut.nD → PrngReg), Pre_KernelConvOut m →
    θ_run (Cert.KernelConvOut.defs (F := Bits)) (onTc (τ := Cert.KernelConvOut.τ) (Cert.KernelConvOut.main (F := Bits))) ⟨m, fun _ => 0, g⟩ (fun r => (∀ c : Dev Cert.KernelConvOut.nD,
      r.2.mem ((c.tc : Thread Cert.KernelConvOut.nD Cert.KernelConvOut.τ).loc Cert.KernelConvOut.main_arg0) = m ((c.tc : Thread Cert.KernelConvOut.nD Cert.KernelConvOut.τ).loc Cert.KernelConvOut.main_arg0)
      ∧ r.2.mem ((c.tc : Thread Cert.KernelConvOut.nD Cert.KernelConvOut.τ).loc Cert.KernelConvOut.main_arg1) = m ((c.tc : Thread Cert.KernelConvOut.nD Cert.KernelConvOut.τ).loc Cert.KernelConvOut.main_arg1)
      ∧ r.2.mem ((c.tc : Thread Cert.KernelConvOut.nD Cert.KernelConvOut.τ).loc Cert.KernelConvOut.main_arg2) = m ((c.tc : Thread Cert.KernelConvOut.nD Cert.KernelConvOut.τ).loc Cert.KernelConvOut.main_arg2)
      ∧ r.2.mem ((c.tc : Thread Cert.KernelConvOut.nD Cert.KernelConvOut.τ).loc Cert.KernelConvOut.main_arg3) = m ((c.tc : Thread Cert.KernelConvOut.nD Cert.KernelConvOut.τ).loc Cert.KernelConvOut.main_arg3)
      ∧ r.2.mem ((c.tc : Thread Cert.KernelConvOut.nD Cert.KernelConvOut.τ).loc Cert.KernelConvOut.main_arg4) = m ((c.tc : Thread Cert.KernelConvOut.nD Cert.KernelConvOut.τ).loc Cert.KernelConvOut.main_arg4)
      ∧ r.2.mem ((c.tc : Thread Cert.KernelConvOut.nD Cert.KernelConvOut.τ).loc Cert.KernelConvOut.main_arg5) = m ((c.tc : Thread Cert.KernelConvOut.nD Cert.KernelConvOut.τ).loc Cert.KernelConvOut.main_arg5)
      ∧ r.2.mem ((c.tc : Thread Cert.KernelConvOut.nD Cert.KernelConvOut.τ).loc Cert.KernelConvOut.main_arg6) = m ((c.tc : Thread Cert.KernelConvOut.nD Cert.KernelConvOut.τ).loc Cert.KernelConvOut.main_arg6)
      ∧ r.2.mem ((c.tc : Thread Cert.KernelConvOut.nD Cert.KernelConvOut.τ).loc Cert.KernelConvOut.main_arg7) = m ((c.tc : Thread Cert.KernelConvOut.nD Cert.KernelConvOut.τ).loc Cert.KernelConvOut.main_arg7))
      ∧ r.2.sem = fun _ => 0)

def quiescent_KernelConvOutIdeal [hKernelConvOutIdeal : Cert.KernelConvOutIdeal.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg), Pre_KernelConvOutIdeal m →
    θ_run (Cert.KernelConvOutIdeal.defs (F := Ideal)) (onTc (τ := Cert.KernelConvOutIdeal.τ) (Cert.KernelConvOutIdeal.main (F := Ideal))) ⟨m, fun _ => 0, g⟩ (fun r => (∀ c : Dev Cert.KernelConvOutIdeal.nD,
      r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
      ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
      ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
      ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
      ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4)
      ∧ r.2.mem ((c.tc : Thread Cert.KernelConvOutIdeal.nD Cert.KernelConvOutIdeal.τ).loc Cert.KernelConvOutIdeal.main_arg5) = m ((c.tc : Thread Cert.KernelConvOutIdeal.nD Cert.KernelConvOutIdeal.τ).loc Cert.KernelConvOutIdeal.main_arg5)
      ∧ r.2.mem ((c.tc : Thread Cert.KernelConvOutIdeal.nD Cert.KernelConvOutIdeal.τ).loc Cert.KernelConvOutIdeal.main_arg6) = m ((c.tc : Thread Cert.KernelConvOutIdeal.nD Cert.KernelConvOutIdeal.τ).loc Cert.KernelConvOutIdeal.main_arg6)
      ∧ r.2.mem ((c.tc : Thread Cert.KernelConvOutIdeal.nD Cert.KernelConvOutIdeal.τ).loc Cert.KernelConvOutIdeal.main_arg7) = m ((c.tc : Thread Cert.KernelConvOutIdeal.nD Cert.KernelConvOutIdeal.τ).loc Cert.KernelConvOutIdeal.main_arg7))
      ∧ r.2.sem = fun _ => 0)

def quiescent_KernelConvOutIdeal_pre_finite_co [hKernelConvOutIdeal : Cert.KernelConvOutIdeal.Facts] [hPre_finite_co : Cert.Pre_finite_co.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg), Pre_KernelConvOutIdeal_finite_co m →
    θ_run (Cert.KernelConvOutIdeal.defs (F := Ideal)) (onTc (τ := Cert.KernelConvOutIdeal.τ) (Cert.KernelConvOutIdeal.main (F := Ideal))) ⟨m, fun _ => 0, g⟩ (fun r => (∀ c : Dev Cert.KernelConvOutIdeal.nD,
      r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
      ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
      ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
      ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
      ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4)
      ∧ r.2.mem ((c.tc : Thread Cert.KernelConvOutIdeal.nD Cert.KernelConvOutIdeal.τ).loc Cert.KernelConvOutIdeal.main_arg5) = m ((c.tc : Thread Cert.KernelConvOutIdeal.nD Cert.KernelConvOutIdeal.τ).loc Cert.KernelConvOutIdeal.main_arg5)
      ∧ r.2.mem ((c.tc : Thread Cert.KernelConvOutIdeal.nD Cert.KernelConvOutIdeal.τ).loc Cert.KernelConvOutIdeal.main_arg6) = m ((c.tc : Thread Cert.KernelConvOutIdeal.nD Cert.KernelConvOutIdeal.τ).loc Cert.KernelConvOutIdeal.main_arg6)
      ∧ r.2.mem ((c.tc : Thread Cert.KernelConvOutIdeal.nD Cert.KernelConvOutIdeal.τ).loc Cert.KernelConvOutIdeal.main_arg7) = m ((c.tc : Thread Cert.KernelConvOutIdeal.nD Cert.KernelConvOutIdeal.τ).loc Cert.KernelConvOutIdeal.main_arg7))
      ∧ r.2.sem = fun _ => 0)

def quiescent_ReferenceConvOutIdeal [hReferenceConvOutIdeal : Cert.ReferenceConvOutIdeal.Facts] : Prop :=
  ∀ (m : (ℓ : Loc Cert.ReferenceConvOutIdeal.nD Cert.ReferenceConvOutIdeal.τ Cert.ReferenceConvOutIdeal.sig) → Buf (Elt Ideal) ℓ) (g : Dev Cert.ReferenceConvOutIdeal.nD → PrngReg), Pre_ReferenceConvOutIdeal m →
    θ_run (Cert.ReferenceConvOutIdeal.defs (F := Ideal)) (onTc (τ := Cert.ReferenceConvOutIdeal.τ) (Cert.ReferenceConvOutIdeal.main (F := Ideal))) ⟨m, fun _ => 0, g⟩ (fun r => (∀ c : Dev Cert.ReferenceConvOutIdeal.nD,
      r.2.mem ((c.tc : Thread Cert.ReferenceConvOutIdeal.nD Cert.ReferenceConvOutIdeal.τ).loc Cert.ReferenceConvOutIdeal.main_arg0) = m ((c.tc : Thread Cert.ReferenceConvOutIdeal.nD Cert.ReferenceConvOutIdeal.τ).loc Cert.ReferenceConvOutIdeal.main_arg0)
      ∧ r.2.mem ((c.tc : Thread Cert.ReferenceConvOutIdeal.nD Cert.ReferenceConvOutIdeal.τ).loc Cert.ReferenceConvOutIdeal.main_arg1) = m ((c.tc : Thread Cert.ReferenceConvOutIdeal.nD Cert.ReferenceConvOutIdeal.τ).loc Cert.ReferenceConvOutIdeal.main_arg1)
      ∧ r.2.mem ((c.tc : Thread Cert.ReferenceConvOutIdeal.nD Cert.ReferenceConvOutIdeal.τ).loc Cert.ReferenceConvOutIdeal.main_arg2) = m ((c.tc : Thread Cert.ReferenceConvOutIdeal.nD Cert.ReferenceConvOutIdeal.τ).loc Cert.ReferenceConvOutIdeal.main_arg2)
      ∧ r.2.mem ((c.tc : Thread Cert.ReferenceConvOutIdeal.nD Cert.ReferenceConvOutIdeal.τ).loc Cert.ReferenceConvOutIdeal.main_arg3) = m ((c.tc : Thread Cert.ReferenceConvOutIdeal.nD Cert.ReferenceConvOutIdeal.τ).loc Cert.ReferenceConvOutIdeal.main_arg3)
      ∧ r.2.mem ((c.tc : Thread Cert.ReferenceConvOutIdeal.nD Cert.ReferenceConvOutIdeal.τ).loc Cert.ReferenceConvOutIdeal.main_arg4) = m ((c.tc : Thread Cert.ReferenceConvOutIdeal.nD Cert.ReferenceConvOutIdeal.τ).loc Cert.ReferenceConvOutIdeal.main_arg4)
      ∧ r.2.mem ((c.tc : Thread Cert.ReferenceConvOutIdeal.nD Cert.ReferenceConvOutIdeal.τ).loc Cert.ReferenceConvOutIdeal.main_arg5) = m ((c.tc : Thread Cert.ReferenceConvOutIdeal.nD Cert.ReferenceConvOutIdeal.τ).loc Cert.ReferenceConvOutIdeal.main_arg5)
      ∧ r.2.mem ((c.tc : Thread Cert.ReferenceConvOutIdeal.nD Cert.ReferenceConvOutIdeal.τ).loc Cert.ReferenceConvOutIdeal.main_arg6) = m ((c.tc : Thread Cert.ReferenceConvOutIdeal.nD Cert.ReferenceConvOutIdeal.τ).loc Cert.ReferenceConvOutIdeal.main_arg6)
      ∧ r.2.mem ((c.tc : Thread Cert.ReferenceConvOutIdeal.nD Cert.ReferenceConvOutIdeal.τ).loc Cert.ReferenceConvOutIdeal.main_arg7) = m ((c.tc : Thread Cert.ReferenceConvOutIdeal.nD Cert.ReferenceConvOutIdeal.τ).loc Cert.ReferenceConvOutIdeal.main_arg7))
      ∧ r.2.sem = fun _ => 0)

def quiescent_ReferenceConvOutIdeal_pre_finite_co [hReferenceConvOutIdeal : Cert.ReferenceConvOutIdeal.Facts] [hPre_finite_co : Cert.Pre_finite_co.Facts] : Prop :=
  ∀ (m : (ℓ : Loc Cert.ReferenceConvOutIdeal.nD Cert.ReferenceConvOutIdeal.τ Cert.ReferenceConvOutIdeal.sig) → Buf (Elt Ideal) ℓ) (g : Dev Cert.ReferenceConvOutIdeal.nD → PrngReg), Pre_ReferenceConvOutIdeal_finite_co m →
    θ_run (Cert.ReferenceConvOutIdeal.defs (F := Ideal)) (onTc (τ := Cert.ReferenceConvOutIdeal.τ) (Cert.ReferenceConvOutIdeal.main (F := Ideal))) ⟨m, fun _ => 0, g⟩ (fun r => (∀ c : Dev Cert.ReferenceConvOutIdeal.nD,
      r.2.mem ((c.tc : Thread Cert.ReferenceConvOutIdeal.nD Cert.ReferenceConvOutIdeal.τ).loc Cert.ReferenceConvOutIdeal.main_arg0) = m ((c.tc : Thread Cert.ReferenceConvOutIdeal.nD Cert.ReferenceConvOutIdeal.τ).loc Cert.ReferenceConvOutIdeal.main_arg0)
      ∧ r.2.mem ((c.tc : Thread Cert.ReferenceConvOutIdeal.nD Cert.ReferenceConvOutIdeal.τ).loc Cert.ReferenceConvOutIdeal.main_arg1) = m ((c.tc : Thread Cert.ReferenceConvOutIdeal.nD Cert.ReferenceConvOutIdeal.τ).loc Cert.ReferenceConvOutIdeal.main_arg1)
      ∧ r.2.mem ((c.tc : Thread Cert.ReferenceConvOutIdeal.nD Cert.ReferenceConvOutIdeal.τ).loc Cert.ReferenceConvOutIdeal.main_arg2) = m ((c.tc : Thread Cert.ReferenceConvOutIdeal.nD Cert.ReferenceConvOutIdeal.τ).loc Cert.ReferenceConvOutIdeal.main_arg2)
      ∧ r.2.mem ((c.tc : Thread Cert.ReferenceConvOutIdeal.nD Cert.ReferenceConvOutIdeal.τ).loc Cert.ReferenceConvOutIdeal.main_arg3) = m ((c.tc : Thread Cert.ReferenceConvOutIdeal.nD Cert.ReferenceConvOutIdeal.τ).loc Cert.ReferenceConvOutIdeal.main_arg3)
      ∧ r.2.mem ((c.tc : Thread Cert.ReferenceConvOutIdeal.nD Cert.ReferenceConvOutIdeal.τ).loc Cert.ReferenceConvOutIdeal.main_arg4) = m ((c.tc : Thread Cert.ReferenceConvOutIdeal.nD Cert.ReferenceConvOutIdeal.τ).loc Cert.ReferenceConvOutIdeal.main_arg4)
      ∧ r.2.mem ((c.tc : Thread Cert.ReferenceConvOutIdeal.nD Cert.ReferenceConvOutIdeal.τ).loc Cert.ReferenceConvOutIdeal.main_arg5) = m ((c.tc : Thread Cert.ReferenceConvOutIdeal.nD Cert.ReferenceConvOutIdeal.τ).loc Cert.ReferenceConvOutIdeal.main_arg5)
      ∧ r.2.mem ((c.tc : Thread Cert.ReferenceConvOutIdeal.nD Cert.ReferenceConvOutIdeal.τ).loc Cert.ReferenceConvOutIdeal.main_arg6) = m ((c.tc : Thread Cert.ReferenceConvOutIdeal.nD Cert.ReferenceConvOutIdeal.τ).loc Cert.ReferenceConvOutIdeal.main_arg6)
      ∧ r.2.mem ((c.tc : Thread Cert.ReferenceConvOutIdeal.nD Cert.ReferenceConvOutIdeal.τ).loc Cert.ReferenceConvOutIdeal.main_arg7) = m ((c.tc : Thread Cert.ReferenceConvOutIdeal.nD Cert.ReferenceConvOutIdeal.τ).loc Cert.ReferenceConvOutIdeal.main_arg7))
      ∧ r.2.sem = fun _ => 0)

def quiescent_KernelAttnIn [hKernelAttnIn : Cert.KernelAttnIn.Facts] : Prop :=
  ∀ (m : (ℓ : Loc Cert.KernelAttnIn.nD Cert.KernelAttnIn.τ Cert.KernelAttnIn.sig) → Buf (Elt Bits) ℓ) (g : Dev Cert.KernelAttnIn.nD → PrngReg), Pre_KernelAttnIn m →
    θ_run (Cert.KernelAttnIn.defs (F := Bits)) (onTc (τ := Cert.KernelAttnIn.τ) (Cert.KernelAttnIn.main (F := Bits))) ⟨m, fun _ => 0, g⟩ (fun r => (∀ c : Dev Cert.KernelAttnIn.nD,
      r.2.mem ((c.tc : Thread Cert.KernelAttnIn.nD Cert.KernelAttnIn.τ).loc Cert.KernelAttnIn.main_arg0) = m ((c.tc : Thread Cert.KernelAttnIn.nD Cert.KernelAttnIn.τ).loc Cert.KernelAttnIn.main_arg0)
      ∧ r.2.mem ((c.tc : Thread Cert.KernelAttnIn.nD Cert.KernelAttnIn.τ).loc Cert.KernelAttnIn.main_arg1) = m ((c.tc : Thread Cert.KernelAttnIn.nD Cert.KernelAttnIn.τ).loc Cert.KernelAttnIn.main_arg1)
      ∧ r.2.mem ((c.tc : Thread Cert.KernelAttnIn.nD Cert.KernelAttnIn.τ).loc Cert.KernelAttnIn.main_arg2) = m ((c.tc : Thread Cert.KernelAttnIn.nD Cert.KernelAttnIn.τ).loc Cert.KernelAttnIn.main_arg2)
      ∧ r.2.mem ((c.tc : Thread Cert.KernelAttnIn.nD Cert.KernelAttnIn.τ).loc Cert.KernelAttnIn.main_arg3) = m ((c.tc : Thread Cert.KernelAttnIn.nD Cert.KernelAttnIn.τ).loc Cert.KernelAttnIn.main_arg3)
      ∧ r.2.mem ((c.tc : Thread Cert.KernelAttnIn.nD Cert.KernelAttnIn.τ).loc Cert.KernelAttnIn.main_arg4) = m ((c.tc : Thread Cert.KernelAttnIn.nD Cert.KernelAttnIn.τ).loc Cert.KernelAttnIn.main_arg4)
      ∧ r.2.mem ((c.tc : Thread Cert.KernelAttnIn.nD Cert.KernelAttnIn.τ).loc Cert.KernelAttnIn.main_arg5) = m ((c.tc : Thread Cert.KernelAttnIn.nD Cert.KernelAttnIn.τ).loc Cert.KernelAttnIn.main_arg5)
      ∧ r.2.mem ((c.tc : Thread Cert.KernelAttnIn.nD Cert.KernelAttnIn.τ).loc Cert.KernelAttnIn.main_arg6) = m ((c.tc : Thread Cert.KernelAttnIn.nD Cert.KernelAttnIn.τ).loc Cert.KernelAttnIn.main_arg6)
      ∧ r.2.mem ((c.tc : Thread Cert.KernelAttnIn.nD Cert.KernelAttnIn.τ).loc Cert.KernelAttnIn.main_arg7) = m ((c.tc : Thread Cert.KernelAttnIn.nD Cert.KernelAttnIn.τ).loc Cert.KernelAttnIn.main_arg7)
      ∧ r.2.mem ((c.tc : Thread Cert.KernelAttnIn.nD Cert.KernelAttnIn.τ).loc Cert.KernelAttnIn.main_arg8) = m ((c.tc : Thread Cert.KernelAttnIn.nD Cert.KernelAttnIn.τ).loc Cert.KernelAttnIn.main_arg8)
      ∧ r.2.mem ((c.tc : Thread Cert.KernelAttnIn.nD Cert.KernelAttnIn.τ).loc Cert.KernelAttnIn.main_arg9) = m ((c.tc : Thread Cert.KernelAttnIn.nD Cert.KernelAttnIn.τ).loc Cert.KernelAttnIn.main_arg9))
      ∧ r.2.sem = fun _ => 0)

def quiescent_KernelAttnInIdeal [hKernelAttnInIdeal : Cert.KernelAttnInIdeal.Facts] : Prop :=
  ∀ (m : (ℓ : Loc Cert.KernelAttnInIdeal.nD Cert.KernelAttnInIdeal.τ Cert.KernelAttnInIdeal.sig) → Buf (Elt Ideal) ℓ) (g : Dev Cert.KernelAttnInIdeal.nD → PrngReg), Pre_KernelAttnInIdeal m →
    θ_run (Cert.KernelAttnInIdeal.defs (F := Ideal)) (onTc (τ := Cert.KernelAttnInIdeal.τ) (Cert.KernelAttnInIdeal.main (F := Ideal))) ⟨m, fun _ => 0, g⟩ (fun r => (∀ c : Dev Cert.KernelAttnInIdeal.nD,
      r.2.mem ((c.tc : Thread Cert.KernelAttnInIdeal.nD Cert.KernelAttnInIdeal.τ).loc Cert.KernelAttnInIdeal.main_arg0) = m ((c.tc : Thread Cert.KernelAttnInIdeal.nD Cert.KernelAttnInIdeal.τ).loc Cert.KernelAttnInIdeal.main_arg0)
      ∧ r.2.mem ((c.tc : Thread Cert.KernelAttnInIdeal.nD Cert.KernelAttnInIdeal.τ).loc Cert.KernelAttnInIdeal.main_arg1) = m ((c.tc : Thread Cert.KernelAttnInIdeal.nD Cert.KernelAttnInIdeal.τ).loc Cert.KernelAttnInIdeal.main_arg1)
      ∧ r.2.mem ((c.tc : Thread Cert.KernelAttnInIdeal.nD Cert.KernelAttnInIdeal.τ).loc Cert.KernelAttnInIdeal.main_arg2) = m ((c.tc : Thread Cert.KernelAttnInIdeal.nD Cert.KernelAttnInIdeal.τ).loc Cert.KernelAttnInIdeal.main_arg2)
      ∧ r.2.mem ((c.tc : Thread Cert.KernelAttnInIdeal.nD Cert.KernelAttnInIdeal.τ).loc Cert.KernelAttnInIdeal.main_arg3) = m ((c.tc : Thread Cert.KernelAttnInIdeal.nD Cert.KernelAttnInIdeal.τ).loc Cert.KernelAttnInIdeal.main_arg3)
      ∧ r.2.mem ((c.tc : Thread Cert.KernelAttnInIdeal.nD Cert.KernelAttnInIdeal.τ).loc Cert.KernelAttnInIdeal.main_arg4) = m ((c.tc : Thread Cert.KernelAttnInIdeal.nD Cert.KernelAttnInIdeal.τ).loc Cert.KernelAttnInIdeal.main_arg4)
      ∧ r.2.mem ((c.tc : Thread Cert.KernelAttnInIdeal.nD Cert.KernelAttnInIdeal.τ).loc Cert.KernelAttnInIdeal.main_arg5) = m ((c.tc : Thread Cert.KernelAttnInIdeal.nD Cert.KernelAttnInIdeal.τ).loc Cert.KernelAttnInIdeal.main_arg5)
      ∧ r.2.mem ((c.tc : Thread Cert.KernelAttnInIdeal.nD Cert.KernelAttnInIdeal.τ).loc Cert.KernelAttnInIdeal.main_arg6) = m ((c.tc : Thread Cert.KernelAttnInIdeal.nD Cert.KernelAttnInIdeal.τ).loc Cert.KernelAttnInIdeal.main_arg6)
      ∧ r.2.mem ((c.tc : Thread Cert.KernelAttnInIdeal.nD Cert.KernelAttnInIdeal.τ).loc Cert.KernelAttnInIdeal.main_arg7) = m ((c.tc : Thread Cert.KernelAttnInIdeal.nD Cert.KernelAttnInIdeal.τ).loc Cert.KernelAttnInIdeal.main_arg7)
      ∧ r.2.mem ((c.tc : Thread Cert.KernelAttnInIdeal.nD Cert.KernelAttnInIdeal.τ).loc Cert.KernelAttnInIdeal.main_arg8) = m ((c.tc : Thread Cert.KernelAttnInIdeal.nD Cert.KernelAttnInIdeal.τ).loc Cert.KernelAttnInIdeal.main_arg8)
      ∧ r.2.mem ((c.tc : Thread Cert.KernelAttnInIdeal.nD Cert.KernelAttnInIdeal.τ).loc Cert.KernelAttnInIdeal.main_arg9) = m ((c.tc : Thread Cert.KernelAttnInIdeal.nD Cert.KernelAttnInIdeal.τ).loc Cert.KernelAttnInIdeal.main_arg9))
      ∧ r.2.sem = fun _ => 0)

def quiescent_KernelAttnInIdeal_pre_finite_ai [hKernelAttnInIdeal : Cert.KernelAttnInIdeal.Facts] [hPre_finite_ai : Cert.Pre_finite_ai.Facts] : Prop :=
  ∀ (m : (ℓ : Loc Cert.KernelAttnInIdeal.nD Cert.KernelAttnInIdeal.τ Cert.KernelAttnInIdeal.sig) → Buf (Elt Ideal) ℓ) (g : Dev Cert.KernelAttnInIdeal.nD → PrngReg), Pre_KernelAttnInIdeal_finite_ai m →
    θ_run (Cert.KernelAttnInIdeal.defs (F := Ideal)) (onTc (τ := Cert.KernelAttnInIdeal.τ) (Cert.KernelAttnInIdeal.main (F := Ideal))) ⟨m, fun _ => 0, g⟩ (fun r => (∀ c : Dev Cert.KernelAttnInIdeal.nD,
      r.2.mem ((c.tc : Thread Cert.KernelAttnInIdeal.nD Cert.KernelAttnInIdeal.τ).loc Cert.KernelAttnInIdeal.main_arg0) = m ((c.tc : Thread Cert.KernelAttnInIdeal.nD Cert.KernelAttnInIdeal.τ).loc Cert.KernelAttnInIdeal.main_arg0)
      ∧ r.2.mem ((c.tc : Thread Cert.KernelAttnInIdeal.nD Cert.KernelAttnInIdeal.τ).loc Cert.KernelAttnInIdeal.main_arg1) = m ((c.tc : Thread Cert.KernelAttnInIdeal.nD Cert.KernelAttnInIdeal.τ).loc Cert.KernelAttnInIdeal.main_arg1)
      ∧ r.2.mem ((c.tc : Thread Cert.KernelAttnInIdeal.nD Cert.KernelAttnInIdeal.τ).loc Cert.KernelAttnInIdeal.main_arg2) = m ((c.tc : Thread Cert.KernelAttnInIdeal.nD Cert.KernelAttnInIdeal.τ).loc Cert.KernelAttnInIdeal.main_arg2)
      ∧ r.2.mem ((c.tc : Thread Cert.KernelAttnInIdeal.nD Cert.KernelAttnInIdeal.τ).loc Cert.KernelAttnInIdeal.main_arg3) = m ((c.tc : Thread Cert.KernelAttnInIdeal.nD Cert.KernelAttnInIdeal.τ).loc Cert.KernelAttnInIdeal.main_arg3)
      ∧ r.2.mem ((c.tc : Thread Cert.KernelAttnInIdeal.nD Cert.KernelAttnInIdeal.τ).loc Cert.KernelAttnInIdeal.main_arg4) = m ((c.tc : Thread Cert.KernelAttnInIdeal.nD Cert.KernelAttnInIdeal.τ).loc Cert.KernelAttnInIdeal.main_arg4)
      ∧ r.2.mem ((c.tc : Thread Cert.KernelAttnInIdeal.nD Cert.KernelAttnInIdeal.τ).loc Cert.KernelAttnInIdeal.main_arg5) = m ((c.tc : Thread Cert.KernelAttnInIdeal.nD Cert.KernelAttnInIdeal.τ).loc Cert.KernelAttnInIdeal.main_arg5)
      ∧ r.2.mem ((c.tc : Thread Cert.KernelAttnInIdeal.nD Cert.KernelAttnInIdeal.τ).loc Cert.KernelAttnInIdeal.main_arg6) = m ((c.tc : Thread Cert.KernelAttnInIdeal.nD Cert.KernelAttnInIdeal.τ).loc Cert.KernelAttnInIdeal.main_arg6)
      ∧ r.2.mem ((c.tc : Thread Cert.KernelAttnInIdeal.nD Cert.KernelAttnInIdeal.τ).loc Cert.KernelAttnInIdeal.main_arg7) = m ((c.tc : Thread Cert.KernelAttnInIdeal.nD Cert.KernelAttnInIdeal.τ).loc Cert.KernelAttnInIdeal.main_arg7)
      ∧ r.2.mem ((c.tc : Thread Cert.KernelAttnInIdeal.nD Cert.KernelAttnInIdeal.τ).loc Cert.KernelAttnInIdeal.main_arg8) = m ((c.tc : Thread Cert.KernelAttnInIdeal.nD Cert.KernelAttnInIdeal.τ).loc Cert.KernelAttnInIdeal.main_arg8)
      ∧ r.2.mem ((c.tc : Thread Cert.KernelAttnInIdeal.nD Cert.KernelAttnInIdeal.τ).loc Cert.KernelAttnInIdeal.main_arg9) = m ((c.tc : Thread Cert.KernelAttnInIdeal.nD Cert.KernelAttnInIdeal.τ).loc Cert.KernelAttnInIdeal.main_arg9))
      ∧ r.2.sem = fun _ => 0)

def quiescent_ReferenceAttnInIdeal [hReferenceAttnInIdeal : Cert.ReferenceAttnInIdeal.Facts] : Prop :=
  ∀ (m : (ℓ : Loc Cert.ReferenceAttnInIdeal.nD Cert.ReferenceAttnInIdeal.τ Cert.ReferenceAttnInIdeal.sig) → Buf (Elt Ideal) ℓ) (g : Dev Cert.ReferenceAttnInIdeal.nD → PrngReg), Pre_ReferenceAttnInIdeal m →
    θ_run (Cert.ReferenceAttnInIdeal.defs (F := Ideal)) (onTc (τ := Cert.ReferenceAttnInIdeal.τ) (Cert.ReferenceAttnInIdeal.main (F := Ideal))) ⟨m, fun _ => 0, g⟩ (fun r => (∀ c : Dev Cert.ReferenceAttnInIdeal.nD,
      r.2.mem ((c.tc : Thread Cert.ReferenceAttnInIdeal.nD Cert.ReferenceAttnInIdeal.τ).loc Cert.ReferenceAttnInIdeal.main_arg0) = m ((c.tc : Thread Cert.ReferenceAttnInIdeal.nD Cert.ReferenceAttnInIdeal.τ).loc Cert.ReferenceAttnInIdeal.main_arg0)
      ∧ r.2.mem ((c.tc : Thread Cert.ReferenceAttnInIdeal.nD Cert.ReferenceAttnInIdeal.τ).loc Cert.ReferenceAttnInIdeal.main_arg1) = m ((c.tc : Thread Cert.ReferenceAttnInIdeal.nD Cert.ReferenceAttnInIdeal.τ).loc Cert.ReferenceAttnInIdeal.main_arg1)
      ∧ r.2.mem ((c.tc : Thread Cert.ReferenceAttnInIdeal.nD Cert.ReferenceAttnInIdeal.τ).loc Cert.ReferenceAttnInIdeal.main_arg2) = m ((c.tc : Thread Cert.ReferenceAttnInIdeal.nD Cert.ReferenceAttnInIdeal.τ).loc Cert.ReferenceAttnInIdeal.main_arg2)
      ∧ r.2.mem ((c.tc : Thread Cert.ReferenceAttnInIdeal.nD Cert.ReferenceAttnInIdeal.τ).loc Cert.ReferenceAttnInIdeal.main_arg3) = m ((c.tc : Thread Cert.ReferenceAttnInIdeal.nD Cert.ReferenceAttnInIdeal.τ).loc Cert.ReferenceAttnInIdeal.main_arg3)
      ∧ r.2.mem ((c.tc : Thread Cert.ReferenceAttnInIdeal.nD Cert.ReferenceAttnInIdeal.τ).loc Cert.ReferenceAttnInIdeal.main_arg4) = m ((c.tc : Thread Cert.ReferenceAttnInIdeal.nD Cert.ReferenceAttnInIdeal.τ).loc Cert.ReferenceAttnInIdeal.main_arg4)
      ∧ r.2.mem ((c.tc : Thread Cert.ReferenceAttnInIdeal.nD Cert.ReferenceAttnInIdeal.τ).loc Cert.ReferenceAttnInIdeal.main_arg5) = m ((c.tc : Thread Cert.ReferenceAttnInIdeal.nD Cert.ReferenceAttnInIdeal.τ).loc Cert.ReferenceAttnInIdeal.main_arg5)
      ∧ r.2.mem ((c.tc : Thread Cert.ReferenceAttnInIdeal.nD Cert.ReferenceAttnInIdeal.τ).loc Cert.ReferenceAttnInIdeal.main_arg6) = m ((c.tc : Thread Cert.ReferenceAttnInIdeal.nD Cert.ReferenceAttnInIdeal.τ).loc Cert.ReferenceAttnInIdeal.main_arg6)
      ∧ r.2.mem ((c.tc : Thread Cert.ReferenceAttnInIdeal.nD Cert.ReferenceAttnInIdeal.τ).loc Cert.ReferenceAttnInIdeal.main_arg7) = m ((c.tc : Thread Cert.ReferenceAttnInIdeal.nD Cert.ReferenceAttnInIdeal.τ).loc Cert.ReferenceAttnInIdeal.main_arg7)
      ∧ r.2.mem ((c.tc : Thread Cert.ReferenceAttnInIdeal.nD Cert.ReferenceAttnInIdeal.τ).loc Cert.ReferenceAttnInIdeal.main_arg8) = m ((c.tc : Thread Cert.ReferenceAttnInIdeal.nD Cert.ReferenceAttnInIdeal.τ).loc Cert.ReferenceAttnInIdeal.main_arg8)
      ∧ r.2.mem ((c.tc : Thread Cert.ReferenceAttnInIdeal.nD Cert.ReferenceAttnInIdeal.τ).loc Cert.ReferenceAttnInIdeal.main_arg9) = m ((c.tc : Thread Cert.ReferenceAttnInIdeal.nD Cert.ReferenceAttnInIdeal.τ).loc Cert.ReferenceAttnInIdeal.main_arg9))
      ∧ r.2.sem = fun _ => 0)

def quiescent_ReferenceAttnInIdeal_pre_finite_ai [hReferenceAttnInIdeal : Cert.ReferenceAttnInIdeal.Facts] [hPre_finite_ai : Cert.Pre_finite_ai.Facts] : Prop :=
  ∀ (m : (ℓ : Loc Cert.ReferenceAttnInIdeal.nD Cert.ReferenceAttnInIdeal.τ Cert.ReferenceAttnInIdeal.sig) → Buf (Elt Ideal) ℓ) (g : Dev Cert.ReferenceAttnInIdeal.nD → PrngReg), Pre_ReferenceAttnInIdeal_finite_ai m →
    θ_run (Cert.ReferenceAttnInIdeal.defs (F := Ideal)) (onTc (τ := Cert.ReferenceAttnInIdeal.τ) (Cert.ReferenceAttnInIdeal.main (F := Ideal))) ⟨m, fun _ => 0, g⟩ (fun r => (∀ c : Dev Cert.ReferenceAttnInIdeal.nD,
      r.2.mem ((c.tc : Thread Cert.ReferenceAttnInIdeal.nD Cert.ReferenceAttnInIdeal.τ).loc Cert.ReferenceAttnInIdeal.main_arg0) = m ((c.tc : Thread Cert.ReferenceAttnInIdeal.nD Cert.ReferenceAttnInIdeal.τ).loc Cert.ReferenceAttnInIdeal.main_arg0)
      ∧ r.2.mem ((c.tc : Thread Cert.ReferenceAttnInIdeal.nD Cert.ReferenceAttnInIdeal.τ).loc Cert.ReferenceAttnInIdeal.main_arg1) = m ((c.tc : Thread Cert.ReferenceAttnInIdeal.nD Cert.ReferenceAttnInIdeal.τ).loc Cert.ReferenceAttnInIdeal.main_arg1)
      ∧ r.2.mem ((c.tc : Thread Cert.ReferenceAttnInIdeal.nD Cert.ReferenceAttnInIdeal.τ).loc Cert.ReferenceAttnInIdeal.main_arg2) = m ((c.tc : Thread Cert.ReferenceAttnInIdeal.nD Cert.ReferenceAttnInIdeal.τ).loc Cert.ReferenceAttnInIdeal.main_arg2)
      ∧ r.2.mem ((c.tc : Thread Cert.ReferenceAttnInIdeal.nD Cert.ReferenceAttnInIdeal.τ).loc Cert.ReferenceAttnInIdeal.main_arg3) = m ((c.tc : Thread Cert.ReferenceAttnInIdeal.nD Cert.ReferenceAttnInIdeal.τ).loc Cert.ReferenceAttnInIdeal.main_arg3)
      ∧ r.2.mem ((c.tc : Thread Cert.ReferenceAttnInIdeal.nD Cert.ReferenceAttnInIdeal.τ).loc Cert.ReferenceAttnInIdeal.main_arg4) = m ((c.tc : Thread Cert.ReferenceAttnInIdeal.nD Cert.ReferenceAttnInIdeal.τ).loc Cert.ReferenceAttnInIdeal.main_arg4)
      ∧ r.2.mem ((c.tc : Thread Cert.ReferenceAttnInIdeal.nD Cert.ReferenceAttnInIdeal.τ).loc Cert.ReferenceAttnInIdeal.main_arg5) = m ((c.tc : Thread Cert.ReferenceAttnInIdeal.nD Cert.ReferenceAttnInIdeal.τ).loc Cert.ReferenceAttnInIdeal.main_arg5)
      ∧ r.2.mem ((c.tc : Thread Cert.ReferenceAttnInIdeal.nD Cert.ReferenceAttnInIdeal.τ).loc Cert.ReferenceAttnInIdeal.main_arg6) = m ((c.tc : Thread Cert.ReferenceAttnInIdeal.nD Cert.ReferenceAttnInIdeal.τ).loc Cert.ReferenceAttnInIdeal.main_arg6)
      ∧ r.2.mem ((c.tc : Thread Cert.ReferenceAttnInIdeal.nD Cert.ReferenceAttnInIdeal.τ).loc Cert.ReferenceAttnInIdeal.main_arg7) = m ((c.tc : Thread Cert.ReferenceAttnInIdeal.nD Cert.ReferenceAttnInIdeal.τ).loc Cert.ReferenceAttnInIdeal.main_arg7)
      ∧ r.2.mem ((c.tc : Thread Cert.ReferenceAttnInIdeal.nD Cert.ReferenceAttnInIdeal.τ).loc Cert.ReferenceAttnInIdeal.main_arg8) = m ((c.tc : Thread Cert.ReferenceAttnInIdeal.nD Cert.ReferenceAttnInIdeal.τ).loc Cert.ReferenceAttnInIdeal.main_arg8)
      ∧ r.2.mem ((c.tc : Thread Cert.ReferenceAttnInIdeal.nD Cert.ReferenceAttnInIdeal.τ).loc Cert.ReferenceAttnInIdeal.main_arg9) = m ((c.tc : Thread Cert.ReferenceAttnInIdeal.nD Cert.ReferenceAttnInIdeal.τ).loc Cert.ReferenceAttnInIdeal.main_arg9))
      ∧ r.2.sem = fun _ => 0)

def quiescent_KernelAttnOutFwd [hKernelAttnOutFwd : Cert.KernelAttnOutFwd.Facts] : Prop :=
  ∀ (m : (ℓ : Loc Cert.KernelAttnOutFwd.nD Cert.KernelAttnOutFwd.τ Cert.KernelAttnOutFwd.sig) → Buf (Elt Bits) ℓ) (g : Dev Cert.KernelAttnOutFwd.nD → PrngReg), Pre_KernelAttnOutFwd m →
    θ_run (Cert.KernelAttnOutFwd.defs (F := Bits)) (onTc (τ := Cert.KernelAttnOutFwd.τ) (Cert.KernelAttnOutFwd.main (F := Bits))) ⟨m, fun _ => 0, g⟩ (fun r => (∀ c : Dev Cert.KernelAttnOutFwd.nD,
      r.2.mem ((c.tc : Thread Cert.KernelAttnOutFwd.nD Cert.KernelAttnOutFwd.τ).loc Cert.KernelAttnOutFwd.main_arg0) = m ((c.tc : Thread Cert.KernelAttnOutFwd.nD Cert.KernelAttnOutFwd.τ).loc Cert.KernelAttnOutFwd.main_arg0)
      ∧ r.2.mem ((c.tc : Thread Cert.KernelAttnOutFwd.nD Cert.KernelAttnOutFwd.τ).loc Cert.KernelAttnOutFwd.main_arg1) = m ((c.tc : Thread Cert.KernelAttnOutFwd.nD Cert.KernelAttnOutFwd.τ).loc Cert.KernelAttnOutFwd.main_arg1)
      ∧ r.2.mem ((c.tc : Thread Cert.KernelAttnOutFwd.nD Cert.KernelAttnOutFwd.τ).loc Cert.KernelAttnOutFwd.main_arg2) = m ((c.tc : Thread Cert.KernelAttnOutFwd.nD Cert.KernelAttnOutFwd.τ).loc Cert.KernelAttnOutFwd.main_arg2)
      ∧ r.2.mem ((c.tc : Thread Cert.KernelAttnOutFwd.nD Cert.KernelAttnOutFwd.τ).loc Cert.KernelAttnOutFwd.main_arg3) = m ((c.tc : Thread Cert.KernelAttnOutFwd.nD Cert.KernelAttnOutFwd.τ).loc Cert.KernelAttnOutFwd.main_arg3))
      ∧ r.2.sem = fun _ => 0)

def quiescent_KernelAttnOutFwdIdeal [hKernelAttnOutFwdIdeal : Cert.KernelAttnOutFwdIdeal.Facts] : Prop :=
  ∀ (m : (ℓ : Loc Cert.KernelAttnOutFwdIdeal.nD Cert.KernelAttnOutFwdIdeal.τ Cert.KernelAttnOutFwdIdeal.sig) → Buf (Elt Ideal) ℓ) (g : Dev Cert.KernelAttnOutFwdIdeal.nD → PrngReg), Pre_KernelAttnOutFwdIdeal m →
    θ_run (Cert.KernelAttnOutFwdIdeal.defs (F := Ideal)) (onTc (τ := Cert.KernelAttnOutFwdIdeal.τ) (Cert.KernelAttnOutFwdIdeal.main (F := Ideal))) ⟨m, fun _ => 0, g⟩ (fun r => (∀ c : Dev Cert.KernelAttnOutFwdIdeal.nD,
      r.2.mem ((c.tc : Thread Cert.KernelAttnOutFwdIdeal.nD Cert.KernelAttnOutFwdIdeal.τ).loc Cert.KernelAttnOutFwdIdeal.main_arg0) = m ((c.tc : Thread Cert.KernelAttnOutFwdIdeal.nD Cert.KernelAttnOutFwdIdeal.τ).loc Cert.KernelAttnOutFwdIdeal.main_arg0)
      ∧ r.2.mem ((c.tc : Thread Cert.KernelAttnOutFwdIdeal.nD Cert.KernelAttnOutFwdIdeal.τ).loc Cert.KernelAttnOutFwdIdeal.main_arg1) = m ((c.tc : Thread Cert.KernelAttnOutFwdIdeal.nD Cert.KernelAttnOutFwdIdeal.τ).loc Cert.KernelAttnOutFwdIdeal.main_arg1)
      ∧ r.2.mem ((c.tc : Thread Cert.KernelAttnOutFwdIdeal.nD Cert.KernelAttnOutFwdIdeal.τ).loc Cert.KernelAttnOutFwdIdeal.main_arg2) = m ((c.tc : Thread Cert.KernelAttnOutFwdIdeal.nD Cert.KernelAttnOutFwdIdeal.τ).loc Cert.KernelAttnOutFwdIdeal.main_arg2)
      ∧ r.2.mem ((c.tc : Thread Cert.KernelAttnOutFwdIdeal.nD Cert.KernelAttnOutFwdIdeal.τ).loc Cert.KernelAttnOutFwdIdeal.main_arg3) = m ((c.tc : Thread Cert.KernelAttnOutFwdIdeal.nD Cert.KernelAttnOutFwdIdeal.τ).loc Cert.KernelAttnOutFwdIdeal.main_arg3))
      ∧ r.2.sem = fun _ => 0)

def quiescent_ReferenceAttnOutFwdIdeal [hReferenceAttnOutFwdIdeal : Cert.ReferenceAttnOutFwdIdeal.Facts] : Prop :=
  ∀ (m : (ℓ : Loc Cert.ReferenceAttnOutFwdIdeal.nD Cert.ReferenceAttnOutFwdIdeal.τ Cert.ReferenceAttnOutFwdIdeal.sig) → Buf (Elt Ideal) ℓ) (g : Dev Cert.ReferenceAttnOutFwdIdeal.nD → PrngReg), Pre_ReferenceAttnOutFwdIdeal m →
    θ_run (Cert.ReferenceAttnOutFwdIdeal.defs (F := Ideal)) (onTc (τ := Cert.ReferenceAttnOutFwdIdeal.τ) (Cert.ReferenceAttnOutFwdIdeal.main (F := Ideal))) ⟨m, fun _ => 0, g⟩ (fun r => (∀ c : Dev Cert.ReferenceAttnOutFwdIdeal.nD,
      r.2.mem ((c.tc : Thread Cert.ReferenceAttnOutFwdIdeal.nD Cert.ReferenceAttnOutFwdIdeal.τ).loc Cert.ReferenceAttnOutFwdIdeal.main_arg0) = m ((c.tc : Thread Cert.ReferenceAttnOutFwdIdeal.nD Cert.ReferenceAttnOutFwdIdeal.τ).loc Cert.ReferenceAttnOutFwdIdeal.main_arg0)
      ∧ r.2.mem ((c.tc : Thread Cert.ReferenceAttnOutFwdIdeal.nD Cert.ReferenceAttnOutFwdIdeal.τ).loc Cert.ReferenceAttnOutFwdIdeal.main_arg1) = m ((c.tc : Thread Cert.ReferenceAttnOutFwdIdeal.nD Cert.ReferenceAttnOutFwdIdeal.τ).loc Cert.ReferenceAttnOutFwdIdeal.main_arg1)
      ∧ r.2.mem ((c.tc : Thread Cert.ReferenceAttnOutFwdIdeal.nD Cert.ReferenceAttnOutFwdIdeal.τ).loc Cert.ReferenceAttnOutFwdIdeal.main_arg2) = m ((c.tc : Thread Cert.ReferenceAttnOutFwdIdeal.nD Cert.ReferenceAttnOutFwdIdeal.τ).loc Cert.ReferenceAttnOutFwdIdeal.main_arg2)
      ∧ r.2.mem ((c.tc : Thread Cert.ReferenceAttnOutFwdIdeal.nD Cert.ReferenceAttnOutFwdIdeal.τ).loc Cert.ReferenceAttnOutFwdIdeal.main_arg3) = m ((c.tc : Thread Cert.ReferenceAttnOutFwdIdeal.nD Cert.ReferenceAttnOutFwdIdeal.τ).loc Cert.ReferenceAttnOutFwdIdeal.main_arg3))
      ∧ r.2.sem = fun _ => 0)

def quiescent_KernelMlpFwd [hKernelMlpFwd : Cert.KernelMlpFwd.Facts] : Prop :=
  ∀ (m : (ℓ : Loc Cert.KernelMlpFwd.nD Cert.KernelMlpFwd.τ Cert.KernelMlpFwd.sig) → Buf (Elt Bits) ℓ) (g : Dev Cert.KernelMlpFwd.nD → PrngReg), Pre_KernelMlpFwd m →
    θ_run (Cert.KernelMlpFwd.defs (F := Bits)) (onTc (τ := Cert.KernelMlpFwd.τ) (Cert.KernelMlpFwd.main (F := Bits))) ⟨m, fun _ => 0, g⟩ (fun r => (∀ c : Dev Cert.KernelMlpFwd.nD,
      r.2.mem ((c.tc : Thread Cert.KernelMlpFwd.nD Cert.KernelMlpFwd.τ).loc Cert.KernelMlpFwd.main_arg0) = m ((c.tc : Thread Cert.KernelMlpFwd.nD Cert.KernelMlpFwd.τ).loc Cert.KernelMlpFwd.main_arg0)
      ∧ r.2.mem ((c.tc : Thread Cert.KernelMlpFwd.nD Cert.KernelMlpFwd.τ).loc Cert.KernelMlpFwd.main_arg1) = m ((c.tc : Thread Cert.KernelMlpFwd.nD Cert.KernelMlpFwd.τ).loc Cert.KernelMlpFwd.main_arg1)
      ∧ r.2.mem ((c.tc : Thread Cert.KernelMlpFwd.nD Cert.KernelMlpFwd.τ).loc Cert.KernelMlpFwd.main_arg2) = m ((c.tc : Thread Cert.KernelMlpFwd.nD Cert.KernelMlpFwd.τ).loc Cert.KernelMlpFwd.main_arg2)
      ∧ r.2.mem ((c.tc : Thread Cert.KernelMlpFwd.nD Cert.KernelMlpFwd.τ).loc Cert.KernelMlpFwd.main_arg3) = m ((c.tc : Thread Cert.KernelMlpFwd.nD Cert.KernelMlpFwd.τ).loc Cert.KernelMlpFwd.main_arg3)
      ∧ r.2.mem ((c.tc : Thread Cert.KernelMlpFwd.nD Cert.KernelMlpFwd.τ).loc Cert.KernelMlpFwd.main_arg4) = m ((c.tc : Thread Cert.KernelMlpFwd.nD Cert.KernelMlpFwd.τ).loc Cert.KernelMlpFwd.main_arg4))
      ∧ r.2.sem = fun _ => 0)

def quiescent_KernelMlpFwdIdeal [hKernelMlpFwdIdeal : Cert.KernelMlpFwdIdeal.Facts] : Prop :=
  ∀ (m : (ℓ : Loc Cert.KernelMlpFwdIdeal.nD Cert.KernelMlpFwdIdeal.τ Cert.KernelMlpFwdIdeal.sig) → Buf (Elt Ideal) ℓ) (g : Dev Cert.KernelMlpFwdIdeal.nD → PrngReg), Pre_KernelMlpFwdIdeal m →
    θ_run (Cert.KernelMlpFwdIdeal.defs (F := Ideal)) (onTc (τ := Cert.KernelMlpFwdIdeal.τ) (Cert.KernelMlpFwdIdeal.main (F := Ideal))) ⟨m, fun _ => 0, g⟩ (fun r => (∀ c : Dev Cert.KernelMlpFwdIdeal.nD,
      r.2.mem ((c.tc : Thread Cert.KernelMlpFwdIdeal.nD Cert.KernelMlpFwdIdeal.τ).loc Cert.KernelMlpFwdIdeal.main_arg0) = m ((c.tc : Thread Cert.KernelMlpFwdIdeal.nD Cert.KernelMlpFwdIdeal.τ).loc Cert.KernelMlpFwdIdeal.main_arg0)
      ∧ r.2.mem ((c.tc : Thread Cert.KernelMlpFwdIdeal.nD Cert.KernelMlpFwdIdeal.τ).loc Cert.KernelMlpFwdIdeal.main_arg1) = m ((c.tc : Thread Cert.KernelMlpFwdIdeal.nD Cert.KernelMlpFwdIdeal.τ).loc Cert.KernelMlpFwdIdeal.main_arg1)
      ∧ r.2.mem ((c.tc : Thread Cert.KernelMlpFwdIdeal.nD Cert.KernelMlpFwdIdeal.τ).loc Cert.KernelMlpFwdIdeal.main_arg2) = m ((c.tc : Thread Cert.KernelMlpFwdIdeal.nD Cert.KernelMlpFwdIdeal.τ).loc Cert.KernelMlpFwdIdeal.main_arg2)
      ∧ r.2.mem ((c.tc : Thread Cert.KernelMlpFwdIdeal.nD Cert.KernelMlpFwdIdeal.τ).loc Cert.KernelMlpFwdIdeal.main_arg3) = m ((c.tc : Thread Cert.KernelMlpFwdIdeal.nD Cert.KernelMlpFwdIdeal.τ).loc Cert.KernelMlpFwdIdeal.main_arg3)
      ∧ r.2.mem ((c.tc : Thread Cert.KernelMlpFwdIdeal.nD Cert.KernelMlpFwdIdeal.τ).loc Cert.KernelMlpFwdIdeal.main_arg4) = m ((c.tc : Thread Cert.KernelMlpFwdIdeal.nD Cert.KernelMlpFwdIdeal.τ).loc Cert.KernelMlpFwdIdeal.main_arg4))
      ∧ r.2.sem = fun _ => 0)

def quiescent_ReferenceMlpFwdIdeal [hReferenceMlpFwdIdeal : Cert.ReferenceMlpFwdIdeal.Facts] : Prop :=
  ∀ (m : (ℓ : Loc Cert.ReferenceMlpFwdIdeal.nD Cert.ReferenceMlpFwdIdeal.τ Cert.ReferenceMlpFwdIdeal.sig) → Buf (Elt Ideal) ℓ) (g : Dev Cert.ReferenceMlpFwdIdeal.nD → PrngReg), Pre_ReferenceMlpFwdIdeal m →
    θ_run (Cert.ReferenceMlpFwdIdeal.defs (F := Ideal)) (onTc (τ := Cert.ReferenceMlpFwdIdeal.τ) (Cert.ReferenceMlpFwdIdeal.main (F := Ideal))) ⟨m, fun _ => 0, g⟩ (fun r => (∀ c : Dev Cert.ReferenceMlpFwdIdeal.nD,
      r.2.mem ((c.tc : Thread Cert.ReferenceMlpFwdIdeal.nD Cert.ReferenceMlpFwdIdeal.τ).loc Cert.ReferenceMlpFwdIdeal.main_arg0) = m ((c.tc : Thread Cert.ReferenceMlpFwdIdeal.nD Cert.ReferenceMlpFwdIdeal.τ).loc Cert.ReferenceMlpFwdIdeal.main_arg0)
      ∧ r.2.mem ((c.tc : Thread Cert.ReferenceMlpFwdIdeal.nD Cert.ReferenceMlpFwdIdeal.τ).loc Cert.ReferenceMlpFwdIdeal.main_arg1) = m ((c.tc : Thread Cert.ReferenceMlpFwdIdeal.nD Cert.ReferenceMlpFwdIdeal.τ).loc Cert.ReferenceMlpFwdIdeal.main_arg1)
      ∧ r.2.mem ((c.tc : Thread Cert.ReferenceMlpFwdIdeal.nD Cert.ReferenceMlpFwdIdeal.τ).loc Cert.ReferenceMlpFwdIdeal.main_arg2) = m ((c.tc : Thread Cert.ReferenceMlpFwdIdeal.nD Cert.ReferenceMlpFwdIdeal.τ).loc Cert.ReferenceMlpFwdIdeal.main_arg2)
      ∧ r.2.mem ((c.tc : Thread Cert.ReferenceMlpFwdIdeal.nD Cert.ReferenceMlpFwdIdeal.τ).loc Cert.ReferenceMlpFwdIdeal.main_arg3) = m ((c.tc : Thread Cert.ReferenceMlpFwdIdeal.nD Cert.ReferenceMlpFwdIdeal.τ).loc Cert.ReferenceMlpFwdIdeal.main_arg3)
      ∧ r.2.mem ((c.tc : Thread Cert.ReferenceMlpFwdIdeal.nD Cert.ReferenceMlpFwdIdeal.τ).loc Cert.ReferenceMlpFwdIdeal.main_arg4) = m ((c.tc : Thread Cert.ReferenceMlpFwdIdeal.nD Cert.ReferenceMlpFwdIdeal.τ).loc Cert.ReferenceMlpFwdIdeal.main_arg4))
      ∧ r.2.sem = fun _ => 0)

def quiescent_KernelConvInFwd [hKernelConvInFwd : Cert.KernelConvInFwd.Facts] : Prop :=
  ∀ (m : (ℓ : Loc Cert.KernelConvInFwd.nD Cert.KernelConvInFwd.τ Cert.KernelConvInFwd.sig) → Buf (Elt Bits) ℓ) (g : Dev Cert.KernelConvInFwd.nD → PrngReg), Pre_KernelConvInFwd m →
    θ_run (Cert.KernelConvInFwd.defs (F := Bits)) (onTc (τ := Cert.KernelConvInFwd.τ) (Cert.KernelConvInFwd.main (F := Bits))) ⟨m, fun _ => 0, g⟩ (fun r => (∀ c : Dev Cert.KernelConvInFwd.nD,
      r.2.mem ((c.tc : Thread Cert.KernelConvInFwd.nD Cert.KernelConvInFwd.τ).loc Cert.KernelConvInFwd.main_arg0) = m ((c.tc : Thread Cert.KernelConvInFwd.nD Cert.KernelConvInFwd.τ).loc Cert.KernelConvInFwd.main_arg0)
      ∧ r.2.mem ((c.tc : Thread Cert.KernelConvInFwd.nD Cert.KernelConvInFwd.τ).loc Cert.KernelConvInFwd.main_arg1) = m ((c.tc : Thread Cert.KernelConvInFwd.nD Cert.KernelConvInFwd.τ).loc Cert.KernelConvInFwd.main_arg1)
      ∧ r.2.mem ((c.tc : Thread Cert.KernelConvInFwd.nD Cert.KernelConvInFwd.τ).loc Cert.KernelConvInFwd.main_arg2) = m ((c.tc : Thread Cert.KernelConvInFwd.nD Cert.KernelConvInFwd.τ).loc Cert.KernelConvInFwd.main_arg2)
      ∧ r.2.mem ((c.tc : Thread Cert.KernelConvInFwd.nD Cert.KernelConvInFwd.τ).loc Cert.KernelConvInFwd.main_arg3) = m ((c.tc : Thread Cert.KernelConvInFwd.nD Cert.KernelConvInFwd.τ).loc Cert.KernelConvInFwd.main_arg3))
      ∧ r.2.sem = fun _ => 0)

def quiescent_KernelConvInFwdIdeal [hKernelConvInFwdIdeal : Cert.KernelConvInFwdIdeal.Facts] : Prop :=
  ∀ (m : (ℓ : Loc Cert.KernelConvInFwdIdeal.nD Cert.KernelConvInFwdIdeal.τ Cert.KernelConvInFwdIdeal.sig) → Buf (Elt Ideal) ℓ) (g : Dev Cert.KernelConvInFwdIdeal.nD → PrngReg), Pre_KernelConvInFwdIdeal m →
    θ_run (Cert.KernelConvInFwdIdeal.defs (F := Ideal)) (onTc (τ := Cert.KernelConvInFwdIdeal.τ) (Cert.KernelConvInFwdIdeal.main (F := Ideal))) ⟨m, fun _ => 0, g⟩ (fun r => (∀ c : Dev Cert.KernelConvInFwdIdeal.nD,
      r.2.mem ((c.tc : Thread Cert.KernelConvInFwdIdeal.nD Cert.KernelConvInFwdIdeal.τ).loc Cert.KernelConvInFwdIdeal.main_arg0) = m ((c.tc : Thread Cert.KernelConvInFwdIdeal.nD Cert.KernelConvInFwdIdeal.τ).loc Cert.KernelConvInFwdIdeal.main_arg0)
      ∧ r.2.mem ((c.tc : Thread Cert.KernelConvInFwdIdeal.nD Cert.KernelConvInFwdIdeal.τ).loc Cert.KernelConvInFwdIdeal.main_arg1) = m ((c.tc : Thread Cert.KernelConvInFwdIdeal.nD Cert.KernelConvInFwdIdeal.τ).loc Cert.KernelConvInFwdIdeal.main_arg1)
      ∧ r.2.mem ((c.tc : Thread Cert.KernelConvInFwdIdeal.nD Cert.KernelConvInFwdIdeal.τ).loc Cert.KernelConvInFwdIdeal.main_arg2) = m ((c.tc : Thread Cert.KernelConvInFwdIdeal.nD Cert.KernelConvInFwdIdeal.τ).loc Cert.KernelConvInFwdIdeal.main_arg2)
      ∧ r.2.mem ((c.tc : Thread Cert.KernelConvInFwdIdeal.nD Cert.KernelConvInFwdIdeal.τ).loc Cert.KernelConvInFwdIdeal.main_arg3) = m ((c.tc : Thread Cert.KernelConvInFwdIdeal.nD Cert.KernelConvInFwdIdeal.τ).loc Cert.KernelConvInFwdIdeal.main_arg3))
      ∧ r.2.sem = fun _ => 0)

def quiescent_ReferenceConvInFwdIdeal [hReferenceConvInFwdIdeal : Cert.ReferenceConvInFwdIdeal.Facts] : Prop :=
  ∀ (m : (ℓ : Loc Cert.ReferenceConvInFwdIdeal.nD Cert.ReferenceConvInFwdIdeal.τ Cert.ReferenceConvInFwdIdeal.sig) → Buf (Elt Ideal) ℓ) (g : Dev Cert.ReferenceConvInFwdIdeal.nD → PrngReg), Pre_ReferenceConvInFwdIdeal m →
    θ_run (Cert.ReferenceConvInFwdIdeal.defs (F := Ideal)) (onTc (τ := Cert.ReferenceConvInFwdIdeal.τ) (Cert.ReferenceConvInFwdIdeal.main (F := Ideal))) ⟨m, fun _ => 0, g⟩ (fun r => (∀ c : Dev Cert.ReferenceConvInFwdIdeal.nD,
      r.2.mem ((c.tc : Thread Cert.ReferenceConvInFwdIdeal.nD Cert.ReferenceConvInFwdIdeal.τ).loc Cert.ReferenceConvInFwdIdeal.main_arg0) = m ((c.tc : Thread Cert.ReferenceConvInFwdIdeal.nD Cert.ReferenceConvInFwdIdeal.τ).loc Cert.ReferenceConvInFwdIdeal.main_arg0)
      ∧ r.2.mem ((c.tc : Thread Cert.ReferenceConvInFwdIdeal.nD Cert.ReferenceConvInFwdIdeal.τ).loc Cert.ReferenceConvInFwdIdeal.main_arg1) = m ((c.tc : Thread Cert.ReferenceConvInFwdIdeal.nD Cert.ReferenceConvInFwdIdeal.τ).loc Cert.ReferenceConvInFwdIdeal.main_arg1)
      ∧ r.2.mem ((c.tc : Thread Cert.ReferenceConvInFwdIdeal.nD Cert.ReferenceConvInFwdIdeal.τ).loc Cert.ReferenceConvInFwdIdeal.main_arg2) = m ((c.tc : Thread Cert.ReferenceConvInFwdIdeal.nD Cert.ReferenceConvInFwdIdeal.τ).loc Cert.ReferenceConvInFwdIdeal.main_arg2)
      ∧ r.2.mem ((c.tc : Thread Cert.ReferenceConvInFwdIdeal.nD Cert.ReferenceConvInFwdIdeal.τ).loc Cert.ReferenceConvInFwdIdeal.main_arg3) = m ((c.tc : Thread Cert.ReferenceConvInFwdIdeal.nD Cert.ReferenceConvInFwdIdeal.τ).loc Cert.ReferenceConvInFwdIdeal.main_arg3))
      ∧ r.2.sem = fun _ => 0)

def quiescent_KernelConvOutFwd [hKernelConvOutFwd : Cert.KernelConvOutFwd.Facts] : Prop :=
  ∀ (m : (ℓ : Loc Cert.KernelConvOutFwd.nD Cert.KernelConvOutFwd.τ Cert.KernelConvOutFwd.sig) → Buf (Elt Bits) ℓ) (g : Dev Cert.KernelConvOutFwd.nD → PrngReg), Pre_KernelConvOutFwd m →
    θ_run (Cert.KernelConvOutFwd.defs (F := Bits)) (onTc (τ := Cert.KernelConvOutFwd.τ) (Cert.KernelConvOutFwd.main (F := Bits))) ⟨m, fun _ => 0, g⟩ (fun r => (∀ c : Dev Cert.KernelConvOutFwd.nD,
      r.2.mem ((c.tc : Thread Cert.KernelConvOutFwd.nD Cert.KernelConvOutFwd.τ).loc Cert.KernelConvOutFwd.main_arg0) = m ((c.tc : Thread Cert.KernelConvOutFwd.nD Cert.KernelConvOutFwd.τ).loc Cert.KernelConvOutFwd.main_arg0)
      ∧ r.2.mem ((c.tc : Thread Cert.KernelConvOutFwd.nD Cert.KernelConvOutFwd.τ).loc Cert.KernelConvOutFwd.main_arg1) = m ((c.tc : Thread Cert.KernelConvOutFwd.nD Cert.KernelConvOutFwd.τ).loc Cert.KernelConvOutFwd.main_arg1)
      ∧ r.2.mem ((c.tc : Thread Cert.KernelConvOutFwd.nD Cert.KernelConvOutFwd.τ).loc Cert.KernelConvOutFwd.main_arg2) = m ((c.tc : Thread Cert.KernelConvOutFwd.nD Cert.KernelConvOutFwd.τ).loc Cert.KernelConvOutFwd.main_arg2)
      ∧ r.2.mem ((c.tc : Thread Cert.KernelConvOutFwd.nD Cert.KernelConvOutFwd.τ).loc Cert.KernelConvOutFwd.main_arg3) = m ((c.tc : Thread Cert.KernelConvOutFwd.nD Cert.KernelConvOutFwd.τ).loc Cert.KernelConvOutFwd.main_arg3)
      ∧ r.2.mem ((c.tc : Thread Cert.KernelConvOutFwd.nD Cert.KernelConvOutFwd.τ).loc Cert.KernelConvOutFwd.main_arg4) = m ((c.tc : Thread Cert.KernelConvOutFwd.nD Cert.KernelConvOutFwd.τ).loc Cert.KernelConvOutFwd.main_arg4)
      ∧ r.2.mem ((c.tc : Thread Cert.KernelConvOutFwd.nD Cert.KernelConvOutFwd.τ).loc Cert.KernelConvOutFwd.main_arg5) = m ((c.tc : Thread Cert.KernelConvOutFwd.nD Cert.KernelConvOutFwd.τ).loc Cert.KernelConvOutFwd.main_arg5)
      ∧ r.2.mem ((c.tc : Thread Cert.KernelConvOutFwd.nD Cert.KernelConvOutFwd.τ).loc Cert.KernelConvOutFwd.main_arg6) = m ((c.tc : Thread Cert.KernelConvOutFwd.nD Cert.KernelConvOutFwd.τ).loc Cert.KernelConvOutFwd.main_arg6))
      ∧ r.2.sem = fun _ => 0)

def quiescent_KernelConvOutFwdIdeal [hKernelConvOutFwdIdeal : Cert.KernelConvOutFwdIdeal.Facts] : Prop :=
  ∀ (m : (ℓ : Loc Cert.KernelConvOutFwdIdeal.nD Cert.KernelConvOutFwdIdeal.τ Cert.KernelConvOutFwdIdeal.sig) → Buf (Elt Ideal) ℓ) (g : Dev Cert.KernelConvOutFwdIdeal.nD → PrngReg), Pre_KernelConvOutFwdIdeal m →
    θ_run (Cert.KernelConvOutFwdIdeal.defs (F := Ideal)) (onTc (τ := Cert.KernelConvOutFwdIdeal.τ) (Cert.KernelConvOutFwdIdeal.main (F := Ideal))) ⟨m, fun _ => 0, g⟩ (fun r => (∀ c : Dev Cert.KernelConvOutFwdIdeal.nD,
      r.2.mem ((c.tc : Thread Cert.KernelConvOutFwdIdeal.nD Cert.KernelConvOutFwdIdeal.τ).loc Cert.KernelConvOutFwdIdeal.main_arg0) = m ((c.tc : Thread Cert.KernelConvOutFwdIdeal.nD Cert.KernelConvOutFwdIdeal.τ).loc Cert.KernelConvOutFwdIdeal.main_arg0)
      ∧ r.2.mem ((c.tc : Thread Cert.KernelConvOutFwdIdeal.nD Cert.KernelConvOutFwdIdeal.τ).loc Cert.KernelConvOutFwdIdeal.main_arg1) = m ((c.tc : Thread Cert.KernelConvOutFwdIdeal.nD Cert.KernelConvOutFwdIdeal.τ).loc Cert.KernelConvOutFwdIdeal.main_arg1)
      ∧ r.2.mem ((c.tc : Thread Cert.KernelConvOutFwdIdeal.nD Cert.KernelConvOutFwdIdeal.τ).loc Cert.KernelConvOutFwdIdeal.main_arg2) = m ((c.tc : Thread Cert.KernelConvOutFwdIdeal.nD Cert.KernelConvOutFwdIdeal.τ).loc Cert.KernelConvOutFwdIdeal.main_arg2)
      ∧ r.2.mem ((c.tc : Thread Cert.KernelConvOutFwdIdeal.nD Cert.KernelConvOutFwdIdeal.τ).loc Cert.KernelConvOutFwdIdeal.main_arg3) = m ((c.tc : Thread Cert.KernelConvOutFwdIdeal.nD Cert.KernelConvOutFwdIdeal.τ).loc Cert.KernelConvOutFwdIdeal.main_arg3)
      ∧ r.2.mem ((c.tc : Thread Cert.KernelConvOutFwdIdeal.nD Cert.KernelConvOutFwdIdeal.τ).loc Cert.KernelConvOutFwdIdeal.main_arg4) = m ((c.tc : Thread Cert.KernelConvOutFwdIdeal.nD Cert.KernelConvOutFwdIdeal.τ).loc Cert.KernelConvOutFwdIdeal.main_arg4)
      ∧ r.2.mem ((c.tc : Thread Cert.KernelConvOutFwdIdeal.nD Cert.KernelConvOutFwdIdeal.τ).loc Cert.KernelConvOutFwdIdeal.main_arg5) = m ((c.tc : Thread Cert.KernelConvOutFwdIdeal.nD Cert.KernelConvOutFwdIdeal.τ).loc Cert.KernelConvOutFwdIdeal.main_arg5)
      ∧ r.2.mem ((c.tc : Thread Cert.KernelConvOutFwdIdeal.nD Cert.KernelConvOutFwdIdeal.τ).loc Cert.KernelConvOutFwdIdeal.main_arg6) = m ((c.tc : Thread Cert.KernelConvOutFwdIdeal.nD Cert.KernelConvOutFwdIdeal.τ).loc Cert.KernelConvOutFwdIdeal.main_arg6))
      ∧ r.2.sem = fun _ => 0)

def quiescent_ReferenceConvOutFwdIdeal [hReferenceConvOutFwdIdeal : Cert.ReferenceConvOutFwdIdeal.Facts] : Prop :=
  ∀ (m : (ℓ : Loc Cert.ReferenceConvOutFwdIdeal.nD Cert.ReferenceConvOutFwdIdeal.τ Cert.ReferenceConvOutFwdIdeal.sig) → Buf (Elt Ideal) ℓ) (g : Dev Cert.ReferenceConvOutFwdIdeal.nD → PrngReg), Pre_ReferenceConvOutFwdIdeal m →
    θ_run (Cert.ReferenceConvOutFwdIdeal.defs (F := Ideal)) (onTc (τ := Cert.ReferenceConvOutFwdIdeal.τ) (Cert.ReferenceConvOutFwdIdeal.main (F := Ideal))) ⟨m, fun _ => 0, g⟩ (fun r => (∀ c : Dev Cert.ReferenceConvOutFwdIdeal.nD,
      r.2.mem ((c.tc : Thread Cert.ReferenceConvOutFwdIdeal.nD Cert.ReferenceConvOutFwdIdeal.τ).loc Cert.ReferenceConvOutFwdIdeal.main_arg0) = m ((c.tc : Thread Cert.ReferenceConvOutFwdIdeal.nD Cert.ReferenceConvOutFwdIdeal.τ).loc Cert.ReferenceConvOutFwdIdeal.main_arg0)
      ∧ r.2.mem ((c.tc : Thread Cert.ReferenceConvOutFwdIdeal.nD Cert.ReferenceConvOutFwdIdeal.τ).loc Cert.ReferenceConvOutFwdIdeal.main_arg1) = m ((c.tc : Thread Cert.ReferenceConvOutFwdIdeal.nD Cert.ReferenceConvOutFwdIdeal.τ).loc Cert.ReferenceConvOutFwdIdeal.main_arg1)
      ∧ r.2.mem ((c.tc : Thread Cert.ReferenceConvOutFwdIdeal.nD Cert.ReferenceConvOutFwdIdeal.τ).loc Cert.ReferenceConvOutFwdIdeal.main_arg2) = m ((c.tc : Thread Cert.ReferenceConvOutFwdIdeal.nD Cert.ReferenceConvOutFwdIdeal.τ).loc Cert.ReferenceConvOutFwdIdeal.main_arg2)
      ∧ r.2.mem ((c.tc : Thread Cert.ReferenceConvOutFwdIdeal.nD Cert.ReferenceConvOutFwdIdeal.τ).loc Cert.ReferenceConvOutFwdIdeal.main_arg3) = m ((c.tc : Thread Cert.ReferenceConvOutFwdIdeal.nD Cert.ReferenceConvOutFwdIdeal.τ).loc Cert.ReferenceConvOutFwdIdeal.main_arg3)
      ∧ r.2.mem ((c.tc : Thread Cert.ReferenceConvOutFwdIdeal.nD Cert.ReferenceConvOutFwdIdeal.τ).loc Cert.ReferenceConvOutFwdIdeal.main_arg4) = m ((c.tc : Thread Cert.ReferenceConvOutFwdIdeal.nD Cert.ReferenceConvOutFwdIdeal.τ).loc Cert.ReferenceConvOutFwdIdeal.main_arg4)
      ∧ r.2.mem ((c.tc : Thread Cert.ReferenceConvOutFwdIdeal.nD Cert.ReferenceConvOutFwdIdeal.τ).loc Cert.ReferenceConvOutFwdIdeal.main_arg5) = m ((c.tc : Thread Cert.ReferenceConvOutFwdIdeal.nD Cert.ReferenceConvOutFwdIdeal.τ).loc Cert.ReferenceConvOutFwdIdeal.main_arg5)
      ∧ r.2.mem ((c.tc : Thread Cert.ReferenceConvOutFwdIdeal.nD Cert.ReferenceConvOutFwdIdeal.τ).loc Cert.ReferenceConvOutFwdIdeal.main_arg6) = m ((c.tc : Thread Cert.ReferenceConvOutFwdIdeal.nD Cert.ReferenceConvOutFwdIdeal.τ).loc Cert.ReferenceConvOutFwdIdeal.main_arg6))
      ∧ r.2.sem = fun _ => 0)

def quiescent_KernelAttnInFwd [hKernelAttnInFwd : Cert.KernelAttnInFwd.Facts] : Prop :=
  ∀ (m : (ℓ : Loc Cert.KernelAttnInFwd.nD Cert.KernelAttnInFwd.τ Cert.KernelAttnInFwd.sig) → Buf (Elt Bits) ℓ) (g : Dev Cert.KernelAttnInFwd.nD → PrngReg), Pre_KernelAttnInFwd m →
    θ_run (Cert.KernelAttnInFwd.defs (F := Bits)) (onTc (τ := Cert.KernelAttnInFwd.τ) (Cert.KernelAttnInFwd.main (F := Bits))) ⟨m, fun _ => 0, g⟩ (fun r => (∀ c : Dev Cert.KernelAttnInFwd.nD,
      r.2.mem ((c.tc : Thread Cert.KernelAttnInFwd.nD Cert.KernelAttnInFwd.τ).loc Cert.KernelAttnInFwd.main_arg0) = m ((c.tc : Thread Cert.KernelAttnInFwd.nD Cert.KernelAttnInFwd.τ).loc Cert.KernelAttnInFwd.main_arg0)
      ∧ r.2.mem ((c.tc : Thread Cert.KernelAttnInFwd.nD Cert.KernelAttnInFwd.τ).loc Cert.KernelAttnInFwd.main_arg1) = m ((c.tc : Thread Cert.KernelAttnInFwd.nD Cert.KernelAttnInFwd.τ).loc Cert.KernelAttnInFwd.main_arg1)
      ∧ r.2.mem ((c.tc : Thread Cert.KernelAttnInFwd.nD Cert.KernelAttnInFwd.τ).loc Cert.KernelAttnInFwd.main_arg2) = m ((c.tc : Thread Cert.KernelAttnInFwd.nD Cert.KernelAttnInFwd.τ).loc Cert.KernelAttnInFwd.main_arg2)
      ∧ r.2.mem ((c.tc : Thread Cert.KernelAttnInFwd.nD Cert.KernelAttnInFwd.τ).loc Cert.KernelAttnInFwd.main_arg3) = m ((c.tc : Thread Cert.KernelAttnInFwd.nD Cert.KernelAttnInFwd.τ).loc Cert.KernelAttnInFwd.main_arg3)
      ∧ r.2.mem ((c.tc : Thread Cert.KernelAttnInFwd.nD Cert.KernelAttnInFwd.τ).loc Cert.KernelAttnInFwd.main_arg4) = m ((c.tc : Thread Cert.KernelAttnInFwd.nD Cert.KernelAttnInFwd.τ).loc Cert.KernelAttnInFwd.main_arg4))
      ∧ r.2.sem = fun _ => 0)

def quiescent_KernelAttnInFwdIdeal [hKernelAttnInFwdIdeal : Cert.KernelAttnInFwdIdeal.Facts] : Prop :=
  ∀ (m : (ℓ : Loc Cert.KernelAttnInFwdIdeal.nD Cert.KernelAttnInFwdIdeal.τ Cert.KernelAttnInFwdIdeal.sig) → Buf (Elt Ideal) ℓ) (g : Dev Cert.KernelAttnInFwdIdeal.nD → PrngReg), Pre_KernelAttnInFwdIdeal m →
    θ_run (Cert.KernelAttnInFwdIdeal.defs (F := Ideal)) (onTc (τ := Cert.KernelAttnInFwdIdeal.τ) (Cert.KernelAttnInFwdIdeal.main (F := Ideal))) ⟨m, fun _ => 0, g⟩ (fun r => (∀ c : Dev Cert.KernelAttnInFwdIdeal.nD,
      r.2.mem ((c.tc : Thread Cert.KernelAttnInFwdIdeal.nD Cert.KernelAttnInFwdIdeal.τ).loc Cert.KernelAttnInFwdIdeal.main_arg0) = m ((c.tc : Thread Cert.KernelAttnInFwdIdeal.nD Cert.KernelAttnInFwdIdeal.τ).loc Cert.KernelAttnInFwdIdeal.main_arg0)
      ∧ r.2.mem ((c.tc : Thread Cert.KernelAttnInFwdIdeal.nD Cert.KernelAttnInFwdIdeal.τ).loc Cert.KernelAttnInFwdIdeal.main_arg1) = m ((c.tc : Thread Cert.KernelAttnInFwdIdeal.nD Cert.KernelAttnInFwdIdeal.τ).loc Cert.KernelAttnInFwdIdeal.main_arg1)
      ∧ r.2.mem ((c.tc : Thread Cert.KernelAttnInFwdIdeal.nD Cert.KernelAttnInFwdIdeal.τ).loc Cert.KernelAttnInFwdIdeal.main_arg2) = m ((c.tc : Thread Cert.KernelAttnInFwdIdeal.nD Cert.KernelAttnInFwdIdeal.τ).loc Cert.KernelAttnInFwdIdeal.main_arg2)
      ∧ r.2.mem ((c.tc : Thread Cert.KernelAttnInFwdIdeal.nD Cert.KernelAttnInFwdIdeal.τ).loc Cert.KernelAttnInFwdIdeal.main_arg3) = m ((c.tc : Thread Cert.KernelAttnInFwdIdeal.nD Cert.KernelAttnInFwdIdeal.τ).loc Cert.KernelAttnInFwdIdeal.main_arg3)
      ∧ r.2.mem ((c.tc : Thread Cert.KernelAttnInFwdIdeal.nD Cert.KernelAttnInFwdIdeal.τ).loc Cert.KernelAttnInFwdIdeal.main_arg4) = m ((c.tc : Thread Cert.KernelAttnInFwdIdeal.nD Cert.KernelAttnInFwdIdeal.τ).loc Cert.KernelAttnInFwdIdeal.main_arg4))
      ∧ r.2.sem = fun _ => 0)

def quiescent_ReferenceAttnInFwdIdeal [hReferenceAttnInFwdIdeal : Cert.ReferenceAttnInFwdIdeal.Facts] : Prop :=
  ∀ (m : (ℓ : Loc Cert.ReferenceAttnInFwdIdeal.nD Cert.ReferenceAttnInFwdIdeal.τ Cert.ReferenceAttnInFwdIdeal.sig) → Buf (Elt Ideal) ℓ) (g : Dev Cert.ReferenceAttnInFwdIdeal.nD → PrngReg), Pre_ReferenceAttnInFwdIdeal m →
    θ_run (Cert.ReferenceAttnInFwdIdeal.defs (F := Ideal)) (onTc (τ := Cert.ReferenceAttnInFwdIdeal.τ) (Cert.ReferenceAttnInFwdIdeal.main (F := Ideal))) ⟨m, fun _ => 0, g⟩ (fun r => (∀ c : Dev Cert.ReferenceAttnInFwdIdeal.nD,
      r.2.mem ((c.tc : Thread Cert.ReferenceAttnInFwdIdeal.nD Cert.ReferenceAttnInFwdIdeal.τ).loc Cert.ReferenceAttnInFwdIdeal.main_arg0) = m ((c.tc : Thread Cert.ReferenceAttnInFwdIdeal.nD Cert.ReferenceAttnInFwdIdeal.τ).loc Cert.ReferenceAttnInFwdIdeal.main_arg0)
      ∧ r.2.mem ((c.tc : Thread Cert.ReferenceAttnInFwdIdeal.nD Cert.ReferenceAttnInFwdIdeal.τ).loc Cert.ReferenceAttnInFwdIdeal.main_arg1) = m ((c.tc : Thread Cert.ReferenceAttnInFwdIdeal.nD Cert.ReferenceAttnInFwdIdeal.τ).loc Cert.ReferenceAttnInFwdIdeal.main_arg1)
      ∧ r.2.mem ((c.tc : Thread Cert.ReferenceAttnInFwdIdeal.nD Cert.ReferenceAttnInFwdIdeal.τ).loc Cert.ReferenceAttnInFwdIdeal.main_arg2) = m ((c.tc : Thread Cert.ReferenceAttnInFwdIdeal.nD Cert.ReferenceAttnInFwdIdeal.τ).loc Cert.ReferenceAttnInFwdIdeal.main_arg2)
      ∧ r.2.mem ((c.tc : Thread Cert.ReferenceAttnInFwdIdeal.nD Cert.ReferenceAttnInFwdIdeal.τ).loc Cert.ReferenceAttnInFwdIdeal.main_arg3) = m ((c.tc : Thread Cert.ReferenceAttnInFwdIdeal.nD Cert.ReferenceAttnInFwdIdeal.τ).loc Cert.ReferenceAttnInFwdIdeal.main_arg3)
      ∧ r.2.mem ((c.tc : Thread Cert.ReferenceAttnInFwdIdeal.nD Cert.ReferenceAttnInFwdIdeal.τ).loc Cert.ReferenceAttnInFwdIdeal.main_arg4) = m ((c.tc : Thread Cert.ReferenceAttnInFwdIdeal.nD Cert.ReferenceAttnInFwdIdeal.τ).loc Cert.ReferenceAttnInFwdIdeal.main_arg4))
      ∧ r.2.sem = fun _ => 0)

def quiescent_KernelDwConv [hKernelDwConv : Cert.KernelDwConv.Facts] : Prop :=
  ∀ (m : (ℓ : Loc Cert.KernelDwConv.nD Cert.KernelDwConv.τ Cert.KernelDwConv.sig) → Buf (Elt Bits) ℓ) (g : Dev Cert.KernelDwConv.nD → PrngReg), Pre_KernelDwConv m →
    θ_run (Cert.KernelDwConv.defs (F := Bits)) (onTc (τ := Cert.KernelDwConv.τ) (Cert.KernelDwConv.main (F := Bits))) ⟨m, fun _ => 0, g⟩ (fun r => (∀ c : Dev Cert.KernelDwConv.nD,
      r.2.mem ((c.tc : Thread Cert.KernelDwConv.nD Cert.KernelDwConv.τ).loc Cert.KernelDwConv.main_arg0) = m ((c.tc : Thread Cert.KernelDwConv.nD Cert.KernelDwConv.τ).loc Cert.KernelDwConv.main_arg0)
      ∧ r.2.mem ((c.tc : Thread Cert.KernelDwConv.nD Cert.KernelDwConv.τ).loc Cert.KernelDwConv.main_arg1) = m ((c.tc : Thread Cert.KernelDwConv.nD Cert.KernelDwConv.τ).loc Cert.KernelDwConv.main_arg1)
      ∧ r.2.mem ((c.tc : Thread Cert.KernelDwConv.nD Cert.KernelDwConv.τ).loc Cert.KernelDwConv.main_arg2) = m ((c.tc : Thread Cert.KernelDwConv.nD Cert.KernelDwConv.τ).loc Cert.KernelDwConv.main_arg2))
      ∧ r.2.sem = fun _ => 0)

def quiescent_KernelDwConvIdeal [hKernelDwConvIdeal : Cert.KernelDwConvIdeal.Facts] : Prop :=
  ∀ (m : (ℓ : Loc Cert.KernelDwConvIdeal.nD Cert.KernelDwConvIdeal.τ Cert.KernelDwConvIdeal.sig) → Buf (Elt Ideal) ℓ) (g : Dev Cert.KernelDwConvIdeal.nD → PrngReg), Pre_KernelDwConvIdeal m →
    θ_run (Cert.KernelDwConvIdeal.defs (F := Ideal)) (onTc (τ := Cert.KernelDwConvIdeal.τ) (Cert.KernelDwConvIdeal.main (F := Ideal))) ⟨m, fun _ => 0, g⟩ (fun r => (∀ c : Dev Cert.KernelDwConvIdeal.nD,
      r.2.mem ((c.tc : Thread Cert.KernelDwConvIdeal.nD Cert.KernelDwConvIdeal.τ).loc Cert.KernelDwConvIdeal.main_arg0) = m ((c.tc : Thread Cert.KernelDwConvIdeal.nD Cert.KernelDwConvIdeal.τ).loc Cert.KernelDwConvIdeal.main_arg0)
      ∧ r.2.mem ((c.tc : Thread Cert.KernelDwConvIdeal.nD Cert.KernelDwConvIdeal.τ).loc Cert.KernelDwConvIdeal.main_arg1) = m ((c.tc : Thread Cert.KernelDwConvIdeal.nD Cert.KernelDwConvIdeal.τ).loc Cert.KernelDwConvIdeal.main_arg1)
      ∧ r.2.mem ((c.tc : Thread Cert.KernelDwConvIdeal.nD Cert.KernelDwConvIdeal.τ).loc Cert.KernelDwConvIdeal.main_arg2) = m ((c.tc : Thread Cert.KernelDwConvIdeal.nD Cert.KernelDwConvIdeal.τ).loc Cert.KernelDwConvIdeal.main_arg2))
      ∧ r.2.sem = fun _ => 0)

def quiescent_ReferenceDwConvIdeal [hReferenceDwConvIdeal : Cert.ReferenceDwConvIdeal.Facts] : Prop :=
  ∀ (m : (ℓ : Loc Cert.ReferenceDwConvIdeal.nD Cert.ReferenceDwConvIdeal.τ Cert.ReferenceDwConvIdeal.sig) → Buf (Elt Ideal) ℓ) (g : Dev Cert.ReferenceDwConvIdeal.nD → PrngReg), Pre_ReferenceDwConvIdeal m →
    θ_run (Cert.ReferenceDwConvIdeal.defs (F := Ideal)) (onTc (τ := Cert.ReferenceDwConvIdeal.τ) (Cert.ReferenceDwConvIdeal.main (F := Ideal))) ⟨m, fun _ => 0, g⟩ (fun r => (∀ c : Dev Cert.ReferenceDwConvIdeal.nD,
      r.2.mem ((c.tc : Thread Cert.ReferenceDwConvIdeal.nD Cert.ReferenceDwConvIdeal.τ).loc Cert.ReferenceDwConvIdeal.main_arg0) = m ((c.tc : Thread Cert.ReferenceDwConvIdeal.nD Cert.ReferenceDwConvIdeal.τ).loc Cert.ReferenceDwConvIdeal.main_arg0)
      ∧ r.2.mem ((c.tc : Thread Cert.ReferenceDwConvIdeal.nD Cert.ReferenceDwConvIdeal.τ).loc Cert.ReferenceDwConvIdeal.main_arg1) = m ((c.tc : Thread Cert.ReferenceDwConvIdeal.nD Cert.ReferenceDwConvIdeal.τ).loc Cert.ReferenceDwConvIdeal.main_arg1)
      ∧ r.2.mem ((c.tc : Thread Cert.ReferenceDwConvIdeal.nD Cert.ReferenceDwConvIdeal.τ).loc Cert.ReferenceDwConvIdeal.main_arg2) = m ((c.tc : Thread Cert.ReferenceDwConvIdeal.nD Cert.ReferenceDwConvIdeal.τ).loc Cert.ReferenceDwConvIdeal.main_arg2))
      ∧ r.2.sem = fun _ => 0)

def quiescent_KernelDwConvFwd [hKernelDwConvFwd : Cert.KernelDwConvFwd.Facts] : Prop :=
  ∀ (m : (ℓ : Loc Cert.KernelDwConvFwd.nD Cert.KernelDwConvFwd.τ Cert.KernelDwConvFwd.sig) → Buf (Elt Bits) ℓ) (g : Dev Cert.KernelDwConvFwd.nD → PrngReg), Pre_KernelDwConvFwd m →
    θ_run (Cert.KernelDwConvFwd.defs (F := Bits)) (onTc (τ := Cert.KernelDwConvFwd.τ) (Cert.KernelDwConvFwd.main (F := Bits))) ⟨m, fun _ => 0, g⟩ (fun r => (∀ c : Dev Cert.KernelDwConvFwd.nD,
      r.2.mem ((c.tc : Thread Cert.KernelDwConvFwd.nD Cert.KernelDwConvFwd.τ).loc Cert.KernelDwConvFwd.main_arg0) = m ((c.tc : Thread Cert.KernelDwConvFwd.nD Cert.KernelDwConvFwd.τ).loc Cert.KernelDwConvFwd.main_arg0)
      ∧ r.2.mem ((c.tc : Thread Cert.KernelDwConvFwd.nD Cert.KernelDwConvFwd.τ).loc Cert.KernelDwConvFwd.main_arg1) = m ((c.tc : Thread Cert.KernelDwConvFwd.nD Cert.KernelDwConvFwd.τ).loc Cert.KernelDwConvFwd.main_arg1)
      ∧ r.2.mem ((c.tc : Thread Cert.KernelDwConvFwd.nD Cert.KernelDwConvFwd.τ).loc Cert.KernelDwConvFwd.main_arg2) = m ((c.tc : Thread Cert.KernelDwConvFwd.nD Cert.KernelDwConvFwd.τ).loc Cert.KernelDwConvFwd.main_arg2))
      ∧ r.2.sem = fun _ => 0)

def quiescent_KernelDwConvFwdIdeal [hKernelDwConvFwdIdeal : Cert.KernelDwConvFwdIdeal.Facts] : Prop :=
  ∀ (m : (ℓ : Loc Cert.KernelDwConvFwdIdeal.nD Cert.KernelDwConvFwdIdeal.τ Cert.KernelDwConvFwdIdeal.sig) → Buf (Elt Ideal) ℓ) (g : Dev Cert.KernelDwConvFwdIdeal.nD → PrngReg), Pre_KernelDwConvFwdIdeal m →
    θ_run (Cert.KernelDwConvFwdIdeal.defs (F := Ideal)) (onTc (τ := Cert.KernelDwConvFwdIdeal.τ) (Cert.KernelDwConvFwdIdeal.main (F := Ideal))) ⟨m, fun _ => 0, g⟩ (fun r => (∀ c : Dev Cert.KernelDwConvFwdIdeal.nD,
      r.2.mem ((c.tc : Thread Cert.KernelDwConvFwdIdeal.nD Cert.KernelDwConvFwdIdeal.τ).loc Cert.KernelDwConvFwdIdeal.main_arg0) = m ((c.tc : Thread Cert.KernelDwConvFwdIdeal.nD Cert.KernelDwConvFwdIdeal.τ).loc Cert.KernelDwConvFwdIdeal.main_arg0)
      ∧ r.2.mem ((c.tc : Thread Cert.KernelDwConvFwdIdeal.nD Cert.KernelDwConvFwdIdeal.τ).loc Cert.KernelDwConvFwdIdeal.main_arg1) = m ((c.tc : Thread Cert.KernelDwConvFwdIdeal.nD Cert.KernelDwConvFwdIdeal.τ).loc Cert.KernelDwConvFwdIdeal.main_arg1)
      ∧ r.2.mem ((c.tc : Thread Cert.KernelDwConvFwdIdeal.nD Cert.KernelDwConvFwdIdeal.τ).loc Cert.KernelDwConvFwdIdeal.main_arg2) = m ((c.tc : Thread Cert.KernelDwConvFwdIdeal.nD Cert.KernelDwConvFwdIdeal.τ).loc Cert.KernelDwConvFwdIdeal.main_arg2))
      ∧ r.2.sem = fun _ => 0)

def quiescent_ReferenceDwConvFwdIdeal [hReferenceDwConvFwdIdeal : Cert.ReferenceDwConvFwdIdeal.Facts] : Prop :=
  ∀ (m : (ℓ : Loc Cert.ReferenceDwConvFwdIdeal.nD Cert.ReferenceDwConvFwdIdeal.τ Cert.ReferenceDwConvFwdIdeal.sig) → Buf (Elt Ideal) ℓ) (g : Dev Cert.ReferenceDwConvFwdIdeal.nD → PrngReg), Pre_ReferenceDwConvFwdIdeal m →
    θ_run (Cert.ReferenceDwConvFwdIdeal.defs (F := Ideal)) (onTc (τ := Cert.ReferenceDwConvFwdIdeal.τ) (Cert.ReferenceDwConvFwdIdeal.main (F := Ideal))) ⟨m, fun _ => 0, g⟩ (fun r => (∀ c : Dev Cert.ReferenceDwConvFwdIdeal.nD,
      r.2.mem ((c.tc : Thread Cert.ReferenceDwConvFwdIdeal.nD Cert.ReferenceDwConvFwdIdeal.τ).loc Cert.ReferenceDwConvFwdIdeal.main_arg0) = m ((c.tc : Thread Cert.ReferenceDwConvFwdIdeal.nD Cert.ReferenceDwConvFwdIdeal.τ).loc Cert.ReferenceDwConvFwdIdeal.main_arg0)
      ∧ r.2.mem ((c.tc : Thread Cert.ReferenceDwConvFwdIdeal.nD Cert.ReferenceDwConvFwdIdeal.τ).loc Cert.ReferenceDwConvFwdIdeal.main_arg1) = m ((c.tc : Thread Cert.ReferenceDwConvFwdIdeal.nD Cert.ReferenceDwConvFwdIdeal.τ).loc Cert.ReferenceDwConvFwdIdeal.main_arg1)
      ∧ r.2.mem ((c.tc : Thread Cert.ReferenceDwConvFwdIdeal.nD Cert.ReferenceDwConvFwdIdeal.τ).loc Cert.ReferenceDwConvFwdIdeal.main_arg2) = m ((c.tc : Thread Cert.ReferenceDwConvFwdIdeal.nD Cert.ReferenceDwConvFwdIdeal.τ).loc Cert.ReferenceDwConvFwdIdeal.main_arg2))
      ∧ r.2.sem = fun _ => 0)

def preserves_KernelScan_KernelScanIdeal : Prop :=
  True

def algebraic_KernelScanIdeal_ReferenceScanIdeal [hKernelScanIdeal : Cert.KernelScanIdeal.Facts] [hReferenceScanIdeal : Cert.ReferenceScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)) →
    ∃ (v0 : (c : Dev Cert.KernelScanIdeal.nD) → Buf (Elt Ideal) ((c.tc : Thread Cert.KernelScanIdeal.nD Cert.KernelScanIdeal.τ).loc Cert.KernelScanIdeal.main_v6)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v6) = v0 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v7) = v0 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1))

def preserves_KernelAttn_KernelAttnIdeal : Prop :=
  IdealRules.named_const.Statement Cert.KernelAttnIdeal.κ "mask" .f32 0xF149F2CA#32 ⊥

def algebraic_KernelAttnIdeal_ReferenceAttnIdeal_pre_finite [hKernelAttnIdeal : Cert.KernelAttnIdeal.Facts] [hReferenceAttnIdeal : Cert.ReferenceAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v64_0)) (v1 : (c : Dev Cert.KernelAttnIdeal.nD) → Buf (Elt Ideal) ((c.tc : Thread Cert.KernelAttnIdeal.nD Cert.KernelAttnIdeal.τ).loc Cert.KernelAttnIdeal.main_v64_1)) (v2 : (c : Dev Cert.KernelAttnIdeal.nD) → Buf (Elt Ideal) ((c.tc : Thread Cert.KernelAttnIdeal.nD Cert.KernelAttnIdeal.τ).loc Cert.KernelAttnIdeal.main_v64_2)) (v3 : (c : Dev Cert.KernelAttnIdeal.nD) → Buf (Elt Ideal) ((c.tc : Thread Cert.KernelAttnIdeal.nD Cert.KernelAttnIdeal.τ).loc Cert.KernelAttnIdeal.main_v64_3)) (v4 : (c : Dev Cert.KernelAttnIdeal.nD) → Buf (Elt Ideal) ((c.tc : Thread Cert.KernelAttnIdeal.nD Cert.KernelAttnIdeal.τ).loc Cert.KernelAttnIdeal.main_v64_4)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v64_0) = v0 c
          ∧ r.2.mem ((c.tc : Thread Cert.KernelAttnIdeal.nD Cert.KernelAttnIdeal.τ).loc Cert.KernelAttnIdeal.main_v64_1) = v1 c
          ∧ r.2.mem ((c.tc : Thread Cert.KernelAttnIdeal.nD Cert.KernelAttnIdeal.τ).loc Cert.KernelAttnIdeal.main_v64_2) = v2 c
          ∧ r.2.mem ((c.tc : Thread Cert.KernelAttnIdeal.nD Cert.KernelAttnIdeal.τ).loc Cert.KernelAttnIdeal.main_v64_3) = v3 c
          ∧ r.2.mem ((c.tc : Thread Cert.KernelAttnIdeal.nD Cert.KernelAttnIdeal.τ).loc Cert.KernelAttnIdeal.main_v64_4) = v4 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v99) = v0 c
          ∧ r.2.mem ((c.tc : Thread Cert.ReferenceAttnIdeal.nD Cert.ReferenceAttnIdeal.τ).loc Cert.ReferenceAttnIdeal.main_v101) = v1 c
          ∧ r.2.mem ((c.tc : Thread Cert.ReferenceAttnIdeal.nD Cert.ReferenceAttnIdeal.τ).loc Cert.ReferenceAttnIdeal.main_v103) = v2 c
          ∧ r.2.mem ((c.tc : Thread Cert.ReferenceAttnIdeal.nD Cert.ReferenceAttnIdeal.τ).loc Cert.ReferenceAttnIdeal.main_v94) = v3 c
          ∧ r.2.mem ((c.tc : Thread Cert.ReferenceAttnIdeal.nD Cert.ReferenceAttnIdeal.τ).loc Cert.ReferenceAttnIdeal.main_v97) = v4 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelAttnOut_KernelAttnOutIdeal : Prop :=
  True

def algebraic_KernelAttnOutIdeal_ReferenceAttnOutIdeal_pre_finite_ao [hKernelAttnOutIdeal : Cert.KernelAttnOutIdeal.Facts] [hReferenceAttnOutIdeal : Cert.ReferenceAttnOutIdeal.Facts] [hPre_finite_ao : Cert.Pre_finite_ao.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg)
    (m' : (ℓ : Loc Cert.ReferenceAttnOutIdeal.nD Cert.ReferenceAttnOutIdeal.τ Cert.ReferenceAttnOutIdeal.sig) → Buf (Elt Ideal) ℓ) (g' : Dev Cert.ReferenceAttnOutIdeal.nD → PrngReg), Pre_KernelAttnOutIdeal_finite_ao m →
    (∀ c : Dev Cert.KernelAttnOutIdeal.nD,
      m' ((c.tc : Thread Cert.ReferenceAttnOutIdeal.nD Cert.ReferenceAttnOutIdeal.τ).loc Cert.ReferenceAttnOutIdeal.main_arg0) = m ((c.tc : Thread Cert.KernelAttnOutIdeal.nD Cert.KernelAttnOutIdeal.τ).loc Cert.KernelAttnOutIdeal.main_arg0)
      ∧ m' ((c.tc : Thread Cert.ReferenceAttnOutIdeal.nD Cert.ReferenceAttnOutIdeal.τ).loc Cert.ReferenceAttnOutIdeal.main_arg1) = m ((c.tc : Thread Cert.KernelAttnOutIdeal.nD Cert.KernelAttnOutIdeal.τ).loc Cert.KernelAttnOutIdeal.main_arg1)
      ∧ m' ((c.tc : Thread Cert.ReferenceAttnOutIdeal.nD Cert.ReferenceAttnOutIdeal.τ).loc Cert.ReferenceAttnOutIdeal.main_arg2) = m ((c.tc : Thread Cert.KernelAttnOutIdeal.nD Cert.KernelAttnOutIdeal.τ).loc Cert.KernelAttnOutIdeal.main_arg2)
      ∧ m' ((c.tc : Thread Cert.ReferenceAttnOutIdeal.nD Cert.ReferenceAttnOutIdeal.τ).loc Cert.ReferenceAttnOutIdeal.main_arg3) = m ((c.tc : Thread Cert.KernelAttnOutIdeal.nD Cert.KernelAttnOutIdeal.τ).loc Cert.KernelAttnOutIdeal.main_arg3)) →
    ∃ (v0 : (c : Dev Cert.KernelAttnOutIdeal.nD) → Buf (Elt Ideal) ((c.tc : Thread Cert.KernelAttnOutIdeal.nD Cert.KernelAttnOutIdeal.τ).loc Cert.KernelAttnOutIdeal.main_v7_0)) (v1 : (c : Dev Cert.KernelAttnOutIdeal.nD) → Buf (Elt Ideal) ((c.tc : Thread Cert.KernelAttnOutIdeal.nD Cert.KernelAttnOutIdeal.τ).loc Cert.KernelAttnOutIdeal.main_v7_1)) (v2 : (c : Dev Cert.KernelAttnOutIdeal.nD) → Buf (Elt Ideal) ((c.tc : Thread Cert.KernelAttnOutIdeal.nD Cert.KernelAttnOutIdeal.τ).loc Cert.KernelAttnOutIdeal.main_v7_2)) (v3 : (c : Dev Cert.KernelAttnOutIdeal.nD) → Buf (Elt Ideal) ((c.tc : Thread Cert.KernelAttnOutIdeal.nD Cert.KernelAttnOutIdeal.τ).loc Cert.KernelAttnOutIdeal.main_v7_3)),
      θ_run (Cert.KernelAttnOutIdeal.defs (F := Ideal)) (onTc (τ := Cert.KernelAttnOutIdeal.τ) (Cert.KernelAttnOutIdeal.main (F := Ideal))) ⟨m, fun _ => 0, g⟩ (fun r => ∀ c : Dev Cert.KernelAttnOutIdeal.nD,
          r.2.mem ((c.tc : Thread Cert.KernelAttnOutIdeal.nD Cert.KernelAttnOutIdeal.τ).loc Cert.KernelAttnOutIdeal.main_v7_0) = v0 c
          ∧ r.2.mem ((c.tc : Thread Cert.KernelAttnOutIdeal.nD Cert.KernelAttnOutIdeal.τ).loc Cert.KernelAttnOutIdeal.main_v7_1) = v1 c
          ∧ r.2.mem ((c.tc : Thread Cert.KernelAttnOutIdeal.nD Cert.KernelAttnOutIdeal.τ).loc Cert.KernelAttnOutIdeal.main_v7_2) = v2 c
          ∧ r.2.mem ((c.tc : Thread Cert.KernelAttnOutIdeal.nD Cert.KernelAttnOutIdeal.τ).loc Cert.KernelAttnOutIdeal.main_v7_3) = v3 c
          ∧ r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
          ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
          ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
          ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ θ_run (Cert.ReferenceAttnOutIdeal.defs (F := Ideal)) (onTc (τ := Cert.ReferenceAttnOutIdeal.τ) (Cert.ReferenceAttnOutIdeal.main (F := Ideal))) ⟨m', fun _ => 0, g'⟩ (fun r => ∀ c : Dev Cert.ReferenceAttnOutIdeal.nD,
          r.2.mem ((c.tc : Thread Cert.ReferenceAttnOutIdeal.nD Cert.ReferenceAttnOutIdeal.τ).loc Cert.ReferenceAttnOutIdeal.main_v39) = v0 c
          ∧ r.2.mem ((c.tc : Thread Cert.ReferenceAttnOutIdeal.nD Cert.ReferenceAttnOutIdeal.τ).loc Cert.ReferenceAttnOutIdeal.main_v40) = v1 c
          ∧ r.2.mem ((c.tc : Thread Cert.ReferenceAttnOutIdeal.nD Cert.ReferenceAttnOutIdeal.τ).loc Cert.ReferenceAttnOutIdeal.main_v41) = v2 c
          ∧ r.2.mem ((c.tc : Thread Cert.ReferenceAttnOutIdeal.nD Cert.ReferenceAttnOutIdeal.τ).loc Cert.ReferenceAttnOutIdeal.main_v42) = v3 c
          ∧ r.2.mem ((c.tc : Thread Cert.ReferenceAttnOutIdeal.nD Cert.ReferenceAttnOutIdeal.τ).loc Cert.ReferenceAttnOutIdeal.main_arg0) = m' ((c.tc : Thread Cert.ReferenceAttnOutIdeal.nD Cert.ReferenceAttnOutIdeal.τ).loc Cert.ReferenceAttnOutIdeal.main_arg0)
          ∧ r.2.mem ((c.tc : Thread Cert.ReferenceAttnOutIdeal.nD Cert.ReferenceAttnOutIdeal.τ).loc Cert.ReferenceAttnOutIdeal.main_arg1) = m' ((c.tc : Thread Cert.ReferenceAttnOutIdeal.nD Cert.ReferenceAttnOutIdeal.τ).loc Cert.ReferenceAttnOutIdeal.main_arg1)
          ∧ r.2.mem ((c.tc : Thread Cert.ReferenceAttnOutIdeal.nD Cert.ReferenceAttnOutIdeal.τ).loc Cert.ReferenceAttnOutIdeal.main_arg2) = m' ((c.tc : Thread Cert.ReferenceAttnOutIdeal.nD Cert.ReferenceAttnOutIdeal.τ).loc Cert.ReferenceAttnOutIdeal.main_arg2)
          ∧ r.2.mem ((c.tc : Thread Cert.ReferenceAttnOutIdeal.nD Cert.ReferenceAttnOutIdeal.τ).loc Cert.ReferenceAttnOutIdeal.main_arg3) = m' ((c.tc : Thread Cert.ReferenceAttnOutIdeal.nD Cert.ReferenceAttnOutIdeal.τ).loc Cert.ReferenceAttnOutIdeal.main_arg3))

def preserves_KernelAttnFwd_KernelAttnFwdIdeal : Prop :=
  IdealRules.named_const.Statement Cert.KernelAttnFwdIdeal.κ "mask" .f32 0xF149F2CA#32 ⊥

def algebraic_KernelAttnFwdIdeal_ReferenceAttnFwdIdeal_pre_finite_fwd [hKernelAttnFwdIdeal : Cert.KernelAttnFwdIdeal.Facts] [hReferenceAttnFwdIdeal : Cert.ReferenceAttnFwdIdeal.Facts] [hPre_finite_fwd : Cert.Pre_finite_fwd.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_finite_fwd m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)
      ∧ m' ((c.tc : Thread Cert.ReferenceAttnFwdIdeal.nD Cert.ReferenceAttnFwdIdeal.τ).loc Cert.ReferenceAttnFwdIdeal.main_arg2) = m ((c.tc : Thread Cert.KernelAttnFwdIdeal.nD Cert.KernelAttnFwdIdeal.τ).loc Cert.KernelAttnFwdIdeal.main_arg2)
      ∧ m' ((c.tc : Thread Cert.ReferenceAttnFwdIdeal.nD Cert.ReferenceAttnFwdIdeal.τ).loc Cert.ReferenceAttnFwdIdeal.main_arg3) = m ((c.tc : Thread Cert.KernelAttnFwdIdeal.nD Cert.KernelAttnFwdIdeal.τ).loc Cert.KernelAttnFwdIdeal.main_arg3)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v16_0)) (v1 : (c : Dev Cert.KernelAttnFwdIdeal.nD) → Buf (Elt Ideal) ((c.tc : Thread Cert.KernelAttnFwdIdeal.nD Cert.KernelAttnFwdIdeal.τ).loc Cert.KernelAttnFwdIdeal.main_v16_1)) (v2 : (c : Dev Cert.KernelAttnFwdIdeal.nD) → Buf (Elt Ideal) ((c.tc : Thread Cert.KernelAttnFwdIdeal.nD Cert.KernelAttnFwdIdeal.τ).loc Cert.KernelAttnFwdIdeal.main_v16_2)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v16_0) = v0 c
          ∧ r.2.mem ((c.tc : Thread Cert.KernelAttnFwdIdeal.nD Cert.KernelAttnFwdIdeal.τ).loc Cert.KernelAttnFwdIdeal.main_v16_1) = v1 c
          ∧ r.2.mem ((c.tc : Thread Cert.KernelAttnFwdIdeal.nD Cert.KernelAttnFwdIdeal.τ).loc Cert.KernelAttnFwdIdeal.main_v16_2) = v2 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
          ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
          ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v70) = v0 c
          ∧ r.2.mem ((c.tc : Thread Cert.ReferenceAttnFwdIdeal.nD Cert.ReferenceAttnFwdIdeal.τ).loc Cert.ReferenceAttnFwdIdeal.main_v37) = v1 c
          ∧ r.2.mem ((c.tc : Thread Cert.ReferenceAttnFwdIdeal.nD Cert.ReferenceAttnFwdIdeal.τ).loc Cert.ReferenceAttnFwdIdeal.main_v71) = v2 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1)
          ∧ r.2.mem ((c.tc : Thread Cert.ReferenceAttnFwdIdeal.nD Cert.ReferenceAttnFwdIdeal.τ).loc Cert.ReferenceAttnFwdIdeal.main_arg2) = m' ((c.tc : Thread Cert.ReferenceAttnFwdIdeal.nD Cert.ReferenceAttnFwdIdeal.τ).loc Cert.ReferenceAttnFwdIdeal.main_arg2)
          ∧ r.2.mem ((c.tc : Thread Cert.ReferenceAttnFwdIdeal.nD Cert.ReferenceAttnFwdIdeal.τ).loc Cert.ReferenceAttnFwdIdeal.main_arg3) = m' ((c.tc : Thread Cert.ReferenceAttnFwdIdeal.nD Cert.ReferenceAttnFwdIdeal.τ).loc Cert.ReferenceAttnFwdIdeal.main_arg3))

def preserves_KernelMlp_KernelMlpIdeal : Prop :=
  True

def algebraic_KernelMlpIdeal_ReferenceMlpIdeal_pre_finite_mlp [hKernelMlpIdeal : Cert.KernelMlpIdeal.Facts] [hReferenceMlpIdeal : Cert.ReferenceMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal_finite_mlp m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)) →
    ∃ (v0 : (c : Dev Cert.KernelMlpIdeal.nD) → Buf (Elt Ideal) ((c.tc : Thread Cert.KernelMlpIdeal.nD Cert.KernelMlpIdeal.τ).loc Cert.KernelMlpIdeal.main_v22_0)) (v1 : (c : Dev Cert.KernelMlpIdeal.nD) → Buf (Elt Ideal) ((c.tc : Thread Cert.KernelMlpIdeal.nD Cert.KernelMlpIdeal.τ).loc Cert.KernelMlpIdeal.main_v22_1)) (v2 : (c : Dev Cert.KernelMlpIdeal.nD) → Buf (Elt Ideal) ((c.tc : Thread Cert.KernelMlpIdeal.nD Cert.KernelMlpIdeal.τ).loc Cert.KernelMlpIdeal.main_v22_2)) (v3 : (c : Dev Cert.KernelMlpIdeal.nD) → Buf (Elt Ideal) ((c.tc : Thread Cert.KernelMlpIdeal.nD Cert.KernelMlpIdeal.τ).loc Cert.KernelMlpIdeal.main_v22_3)) (v4 : (c : Dev Cert.KernelMlpIdeal.nD) → Buf (Elt Ideal) ((c.tc : Thread Cert.KernelMlpIdeal.nD Cert.KernelMlpIdeal.τ).loc Cert.KernelMlpIdeal.main_v22_4)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v22_0) = v0 c
          ∧ r.2.mem ((c.tc : Thread Cert.KernelMlpIdeal.nD Cert.KernelMlpIdeal.τ).loc Cert.KernelMlpIdeal.main_v22_1) = v1 c
          ∧ r.2.mem ((c.tc : Thread Cert.KernelMlpIdeal.nD Cert.KernelMlpIdeal.τ).loc Cert.KernelMlpIdeal.main_v22_2) = v2 c
          ∧ r.2.mem ((c.tc : Thread Cert.KernelMlpIdeal.nD Cert.KernelMlpIdeal.τ).loc Cert.KernelMlpIdeal.main_v22_3) = v3 c
          ∧ r.2.mem ((c.tc : Thread Cert.KernelMlpIdeal.nD Cert.KernelMlpIdeal.τ).loc Cert.KernelMlpIdeal.main_v22_4) = v4 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v82) = v0 c
          ∧ r.2.mem ((c.tc : Thread Cert.ReferenceMlpIdeal.nD Cert.ReferenceMlpIdeal.τ).loc Cert.ReferenceMlpIdeal.main_v83) = v1 c
          ∧ r.2.mem ((c.tc : Thread Cert.ReferenceMlpIdeal.nD Cert.ReferenceMlpIdeal.τ).loc Cert.ReferenceMlpIdeal.main_v84) = v2 c
          ∧ r.2.mem ((c.tc : Thread Cert.ReferenceMlpIdeal.nD Cert.ReferenceMlpIdeal.τ).loc Cert.ReferenceMlpIdeal.main_v85) = v3 c
          ∧ r.2.mem ((c.tc : Thread Cert.ReferenceMlpIdeal.nD Cert.ReferenceMlpIdeal.τ).loc Cert.ReferenceMlpIdeal.main_v87) = v4 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5))

def preserves_KernelConvIn_KernelConvInIdeal : Prop :=
  True

def algebraic_KernelConvInIdeal_ReferenceConvInIdeal_pre_finite_ci [hKernelConvInIdeal : Cert.KernelConvInIdeal.Facts] [hReferenceConvInIdeal : Cert.ReferenceConvInIdeal.Facts] [hPre_finite_ci : Cert.Pre_finite_ci.Facts] : Prop :=
  ∀ (m : (ℓ : Loc Cert.KernelConvInIdeal.nD Cert.KernelConvInIdeal.τ Cert.KernelConvInIdeal.sig) → Buf (Elt Ideal) ℓ) (g : Dev Cert.KernelConvInIdeal.nD → PrngReg)
    (m' : (ℓ : Loc Cert.ReferenceConvInIdeal.nD Cert.ReferenceConvInIdeal.τ Cert.ReferenceConvInIdeal.sig) → Buf (Elt Ideal) ℓ) (g' : Dev Cert.ReferenceConvInIdeal.nD → PrngReg), Pre_KernelConvInIdeal_finite_ci m →
    (∀ c : Dev Cert.KernelConvInIdeal.nD,
      m' ((c.tc : Thread Cert.ReferenceConvInIdeal.nD Cert.ReferenceConvInIdeal.τ).loc Cert.ReferenceConvInIdeal.main_arg0) = m ((c.tc : Thread Cert.KernelConvInIdeal.nD Cert.KernelConvInIdeal.τ).loc Cert.KernelConvInIdeal.main_arg0)
      ∧ m' ((c.tc : Thread Cert.ReferenceConvInIdeal.nD Cert.ReferenceConvInIdeal.τ).loc Cert.ReferenceConvInIdeal.main_arg1) = m ((c.tc : Thread Cert.KernelConvInIdeal.nD Cert.KernelConvInIdeal.τ).loc Cert.KernelConvInIdeal.main_arg1)
      ∧ m' ((c.tc : Thread Cert.ReferenceConvInIdeal.nD Cert.ReferenceConvInIdeal.τ).loc Cert.ReferenceConvInIdeal.main_arg2) = m ((c.tc : Thread Cert.KernelConvInIdeal.nD Cert.KernelConvInIdeal.τ).loc Cert.KernelConvInIdeal.main_arg2)
      ∧ m' ((c.tc : Thread Cert.ReferenceConvInIdeal.nD Cert.ReferenceConvInIdeal.τ).loc Cert.ReferenceConvInIdeal.main_arg3) = m ((c.tc : Thread Cert.KernelConvInIdeal.nD Cert.KernelConvInIdeal.τ).loc Cert.KernelConvInIdeal.main_arg3)
      ∧ m' ((c.tc : Thread Cert.ReferenceConvInIdeal.nD Cert.ReferenceConvInIdeal.τ).loc Cert.ReferenceConvInIdeal.main_arg4) = m ((c.tc : Thread Cert.KernelConvInIdeal.nD Cert.KernelConvInIdeal.τ).loc Cert.KernelConvInIdeal.main_arg4)
      ∧ m' ((c.tc : Thread Cert.ReferenceConvInIdeal.nD Cert.ReferenceConvInIdeal.τ).loc Cert.ReferenceConvInIdeal.main_arg5) = m ((c.tc : Thread Cert.KernelConvInIdeal.nD Cert.KernelConvInIdeal.τ).loc Cert.KernelConvInIdeal.main_arg5)) →
    ∃ (v0 : (c : Dev Cert.KernelConvInIdeal.nD) → Buf (Elt Ideal) ((c.tc : Thread Cert.KernelConvInIdeal.nD Cert.KernelConvInIdeal.τ).loc Cert.KernelConvInIdeal.main_v18_0)) (v1 : (c : Dev Cert.KernelConvInIdeal.nD) → Buf (Elt Ideal) ((c.tc : Thread Cert.KernelConvInIdeal.nD Cert.KernelConvInIdeal.τ).loc Cert.KernelConvInIdeal.main_v18_1)) (v2 : (c : Dev Cert.KernelConvInIdeal.nD) → Buf (Elt Ideal) ((c.tc : Thread Cert.KernelConvInIdeal.nD Cert.KernelConvInIdeal.τ).loc Cert.KernelConvInIdeal.main_v18_2)) (v3 : (c : Dev Cert.KernelConvInIdeal.nD) → Buf (Elt Ideal) ((c.tc : Thread Cert.KernelConvInIdeal.nD Cert.KernelConvInIdeal.τ).loc Cert.KernelConvInIdeal.main_v18_3)) (v4 : (c : Dev Cert.KernelConvInIdeal.nD) → Buf (Elt Ideal) ((c.tc : Thread Cert.KernelConvInIdeal.nD Cert.KernelConvInIdeal.τ).loc Cert.KernelConvInIdeal.main_v18_4)),
      θ_run (Cert.KernelConvInIdeal.defs (F := Ideal)) (onTc (τ := Cert.KernelConvInIdeal.τ) (Cert.KernelConvInIdeal.main (F := Ideal))) ⟨m, fun _ => 0, g⟩ (fun r => ∀ c : Dev Cert.KernelConvInIdeal.nD,
          r.2.mem ((c.tc : Thread Cert.KernelConvInIdeal.nD Cert.KernelConvInIdeal.τ).loc Cert.KernelConvInIdeal.main_v18_0) = v0 c
          ∧ r.2.mem ((c.tc : Thread Cert.KernelConvInIdeal.nD Cert.KernelConvInIdeal.τ).loc Cert.KernelConvInIdeal.main_v18_1) = v1 c
          ∧ r.2.mem ((c.tc : Thread Cert.KernelConvInIdeal.nD Cert.KernelConvInIdeal.τ).loc Cert.KernelConvInIdeal.main_v18_2) = v2 c
          ∧ r.2.mem ((c.tc : Thread Cert.KernelConvInIdeal.nD Cert.KernelConvInIdeal.τ).loc Cert.KernelConvInIdeal.main_v18_3) = v3 c
          ∧ r.2.mem ((c.tc : Thread Cert.KernelConvInIdeal.nD Cert.KernelConvInIdeal.τ).loc Cert.KernelConvInIdeal.main_v18_4) = v4 c
          ∧ r.2.mem ((c.tc : Thread Cert.KernelConvInIdeal.nD Cert.KernelConvInIdeal.τ).loc Cert.KernelConvInIdeal.main_arg0) = m ((c.tc : Thread Cert.KernelConvInIdeal.nD Cert.KernelConvInIdeal.τ).loc Cert.KernelConvInIdeal.main_arg0)
          ∧ r.2.mem ((c.tc : Thread Cert.KernelConvInIdeal.nD Cert.KernelConvInIdeal.τ).loc Cert.KernelConvInIdeal.main_arg1) = m ((c.tc : Thread Cert.KernelConvInIdeal.nD Cert.KernelConvInIdeal.τ).loc Cert.KernelConvInIdeal.main_arg1)
          ∧ r.2.mem ((c.tc : Thread Cert.KernelConvInIdeal.nD Cert.KernelConvInIdeal.τ).loc Cert.KernelConvInIdeal.main_arg2) = m ((c.tc : Thread Cert.KernelConvInIdeal.nD Cert.KernelConvInIdeal.τ).loc Cert.KernelConvInIdeal.main_arg2)
          ∧ r.2.mem ((c.tc : Thread Cert.KernelConvInIdeal.nD Cert.KernelConvInIdeal.τ).loc Cert.KernelConvInIdeal.main_arg3) = m ((c.tc : Thread Cert.KernelConvInIdeal.nD Cert.KernelConvInIdeal.τ).loc Cert.KernelConvInIdeal.main_arg3)
          ∧ r.2.mem ((c.tc : Thread Cert.KernelConvInIdeal.nD Cert.KernelConvInIdeal.τ).loc Cert.KernelConvInIdeal.main_arg4) = m ((c.tc : Thread Cert.KernelConvInIdeal.nD Cert.KernelConvInIdeal.τ).loc Cert.KernelConvInIdeal.main_arg4)
          ∧ r.2.mem ((c.tc : Thread Cert.KernelConvInIdeal.nD Cert.KernelConvInIdeal.τ).loc Cert.KernelConvInIdeal.main_arg5) = m ((c.tc : Thread Cert.KernelConvInIdeal.nD Cert.KernelConvInIdeal.τ).loc Cert.KernelConvInIdeal.main_arg5))
      ∧ θ_run (Cert.ReferenceConvInIdeal.defs (F := Ideal)) (onTc (τ := Cert.ReferenceConvInIdeal.τ) (Cert.ReferenceConvInIdeal.main (F := Ideal))) ⟨m', fun _ => 0, g'⟩ (fun r => ∀ c : Dev Cert.ReferenceConvInIdeal.nD,
          r.2.mem ((c.tc : Thread Cert.ReferenceConvInIdeal.nD Cert.ReferenceConvInIdeal.τ).loc Cert.ReferenceConvInIdeal.main_v56) = v0 c
          ∧ r.2.mem ((c.tc : Thread Cert.ReferenceConvInIdeal.nD Cert.ReferenceConvInIdeal.τ).loc Cert.ReferenceConvInIdeal.main_v57) = v1 c
          ∧ r.2.mem ((c.tc : Thread Cert.ReferenceConvInIdeal.nD Cert.ReferenceConvInIdeal.τ).loc Cert.ReferenceConvInIdeal.main_v58) = v2 c
          ∧ r.2.mem ((c.tc : Thread Cert.ReferenceConvInIdeal.nD Cert.ReferenceConvInIdeal.τ).loc Cert.ReferenceConvInIdeal.main_v59) = v3 c
          ∧ r.2.mem ((c.tc : Thread Cert.ReferenceConvInIdeal.nD Cert.ReferenceConvInIdeal.τ).loc Cert.ReferenceConvInIdeal.main_v37) = v4 c
          ∧ r.2.mem ((c.tc : Thread Cert.ReferenceConvInIdeal.nD Cert.ReferenceConvInIdeal.τ).loc Cert.ReferenceConvInIdeal.main_arg0) = m' ((c.tc : Thread Cert.ReferenceConvInIdeal.nD Cert.ReferenceConvInIdeal.τ).loc Cert.ReferenceConvInIdeal.main_arg0)
          ∧ r.2.mem ((c.tc : Thread Cert.ReferenceConvInIdeal.nD Cert.ReferenceConvInIdeal.τ).loc Cert.ReferenceConvInIdeal.main_arg1) = m' ((c.tc : Thread Cert.ReferenceConvInIdeal.nD Cert.ReferenceConvInIdeal.τ).loc Cert.ReferenceConvInIdeal.main_arg1)
          ∧ r.2.mem ((c.tc : Thread Cert.ReferenceConvInIdeal.nD Cert.ReferenceConvInIdeal.τ).loc Cert.ReferenceConvInIdeal.main_arg2) = m' ((c.tc : Thread Cert.ReferenceConvInIdeal.nD Cert.ReferenceConvInIdeal.τ).loc Cert.ReferenceConvInIdeal.main_arg2)
          ∧ r.2.mem ((c.tc : Thread Cert.ReferenceConvInIdeal.nD Cert.ReferenceConvInIdeal.τ).loc Cert.ReferenceConvInIdeal.main_arg3) = m' ((c.tc : Thread Cert.ReferenceConvInIdeal.nD Cert.ReferenceConvInIdeal.τ).loc Cert.ReferenceConvInIdeal.main_arg3)
          ∧ r.2.mem ((c.tc : Thread Cert.ReferenceConvInIdeal.nD Cert.ReferenceConvInIdeal.τ).loc Cert.ReferenceConvInIdeal.main_arg4) = m' ((c.tc : Thread Cert.ReferenceConvInIdeal.nD Cert.ReferenceConvInIdeal.τ).loc Cert.ReferenceConvInIdeal.main_arg4)
          ∧ r.2.mem ((c.tc : Thread Cert.ReferenceConvInIdeal.nD Cert.ReferenceConvInIdeal.τ).loc Cert.ReferenceConvInIdeal.main_arg5) = m' ((c.tc : Thread Cert.ReferenceConvInIdeal.nD Cert.ReferenceConvInIdeal.τ).loc Cert.ReferenceConvInIdeal.main_arg5))

def preserves_KernelConvOut_KernelConvOutIdeal : Prop :=
  True

def algebraic_KernelConvOutIdeal_ReferenceConvOutIdeal_pre_finite_co [hKernelConvOutIdeal : Cert.KernelConvOutIdeal.Facts] [hReferenceConvOutIdeal : Cert.ReferenceConvOutIdeal.Facts] [hPre_finite_co : Cert.Pre_finite_co.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg)
    (m' : (ℓ : Loc Cert.ReferenceConvOutIdeal.nD Cert.ReferenceConvOutIdeal.τ Cert.ReferenceConvOutIdeal.sig) → Buf (Elt Ideal) ℓ) (g' : Dev Cert.ReferenceConvOutIdeal.nD → PrngReg), Pre_KernelConvOutIdeal_finite_co m →
    (∀ c : Dev Cert.KernelConvOutIdeal.nD,
      m' ((c.tc : Thread Cert.ReferenceConvOutIdeal.nD Cert.ReferenceConvOutIdeal.τ).loc Cert.ReferenceConvOutIdeal.main_arg0) = m ((c.tc : Thread Cert.KernelConvOutIdeal.nD Cert.KernelConvOutIdeal.τ).loc Cert.KernelConvOutIdeal.main_arg0)
      ∧ m' ((c.tc : Thread Cert.ReferenceConvOutIdeal.nD Cert.ReferenceConvOutIdeal.τ).loc Cert.ReferenceConvOutIdeal.main_arg1) = m ((c.tc : Thread Cert.KernelConvOutIdeal.nD Cert.KernelConvOutIdeal.τ).loc Cert.KernelConvOutIdeal.main_arg1)
      ∧ m' ((c.tc : Thread Cert.ReferenceConvOutIdeal.nD Cert.ReferenceConvOutIdeal.τ).loc Cert.ReferenceConvOutIdeal.main_arg2) = m ((c.tc : Thread Cert.KernelConvOutIdeal.nD Cert.KernelConvOutIdeal.τ).loc Cert.KernelConvOutIdeal.main_arg2)
      ∧ m' ((c.tc : Thread Cert.ReferenceConvOutIdeal.nD Cert.ReferenceConvOutIdeal.τ).loc Cert.ReferenceConvOutIdeal.main_arg3) = m ((c.tc : Thread Cert.KernelConvOutIdeal.nD Cert.KernelConvOutIdeal.τ).loc Cert.KernelConvOutIdeal.main_arg3)
      ∧ m' ((c.tc : Thread Cert.ReferenceConvOutIdeal.nD Cert.ReferenceConvOutIdeal.τ).loc Cert.ReferenceConvOutIdeal.main_arg4) = m ((c.tc : Thread Cert.KernelConvOutIdeal.nD Cert.KernelConvOutIdeal.τ).loc Cert.KernelConvOutIdeal.main_arg4)
      ∧ m' ((c.tc : Thread Cert.ReferenceConvOutIdeal.nD Cert.ReferenceConvOutIdeal.τ).loc Cert.ReferenceConvOutIdeal.main_arg5) = m ((c.tc : Thread Cert.KernelConvOutIdeal.nD Cert.KernelConvOutIdeal.τ).loc Cert.KernelConvOutIdeal.main_arg5)
      ∧ m' ((c.tc : Thread Cert.ReferenceConvOutIdeal.nD Cert.ReferenceConvOutIdeal.τ).loc Cert.ReferenceConvOutIdeal.main_arg6) = m ((c.tc : Thread Cert.KernelConvOutIdeal.nD Cert.KernelConvOutIdeal.τ).loc Cert.KernelConvOutIdeal.main_arg6)
      ∧ m' ((c.tc : Thread Cert.ReferenceConvOutIdeal.nD Cert.ReferenceConvOutIdeal.τ).loc Cert.ReferenceConvOutIdeal.main_arg7) = m ((c.tc : Thread Cert.KernelConvOutIdeal.nD Cert.KernelConvOutIdeal.τ).loc Cert.KernelConvOutIdeal.main_arg7)) →
    ∃ (v0 : (c : Dev Cert.KernelConvOutIdeal.nD) → Buf (Elt Ideal) ((c.tc : Thread Cert.KernelConvOutIdeal.nD Cert.KernelConvOutIdeal.τ).loc Cert.KernelConvOutIdeal.main_v31_0)) (v1 : (c : Dev Cert.KernelConvOutIdeal.nD) → Buf (Elt Ideal) ((c.tc : Thread Cert.KernelConvOutIdeal.nD Cert.KernelConvOutIdeal.τ).loc Cert.KernelConvOutIdeal.main_v31_1)) (v2 : (c : Dev Cert.KernelConvOutIdeal.nD) → Buf (Elt Ideal) ((c.tc : Thread Cert.KernelConvOutIdeal.nD Cert.KernelConvOutIdeal.τ).loc Cert.KernelConvOutIdeal.main_v31_2)) (v3 : (c : Dev Cert.KernelConvOutIdeal.nD) → Buf (Elt Ideal) ((c.tc : Thread Cert.KernelConvOutIdeal.nD Cert.KernelConvOutIdeal.τ).loc Cert.KernelConvOutIdeal.main_v31_3)),
      θ_run (Cert.KernelConvOutIdeal.defs (F := Ideal)) (onTc (τ := Cert.KernelConvOutIdeal.τ) (Cert.KernelConvOutIdeal.main (F := Ideal))) ⟨m, fun _ => 0, g⟩ (fun r => ∀ c : Dev Cert.KernelConvOutIdeal.nD,
          r.2.mem ((c.tc : Thread Cert.KernelConvOutIdeal.nD Cert.KernelConvOutIdeal.τ).loc Cert.KernelConvOutIdeal.main_v31_0) = v0 c
          ∧ r.2.mem ((c.tc : Thread Cert.KernelConvOutIdeal.nD Cert.KernelConvOutIdeal.τ).loc Cert.KernelConvOutIdeal.main_v31_1) = v1 c
          ∧ r.2.mem ((c.tc : Thread Cert.KernelConvOutIdeal.nD Cert.KernelConvOutIdeal.τ).loc Cert.KernelConvOutIdeal.main_v31_2) = v2 c
          ∧ r.2.mem ((c.tc : Thread Cert.KernelConvOutIdeal.nD Cert.KernelConvOutIdeal.τ).loc Cert.KernelConvOutIdeal.main_v31_3) = v3 c
          ∧ r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
          ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
          ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
          ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
          ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4)
          ∧ r.2.mem ((c.tc : Thread Cert.KernelConvOutIdeal.nD Cert.KernelConvOutIdeal.τ).loc Cert.KernelConvOutIdeal.main_arg5) = m ((c.tc : Thread Cert.KernelConvOutIdeal.nD Cert.KernelConvOutIdeal.τ).loc Cert.KernelConvOutIdeal.main_arg5)
          ∧ r.2.mem ((c.tc : Thread Cert.KernelConvOutIdeal.nD Cert.KernelConvOutIdeal.τ).loc Cert.KernelConvOutIdeal.main_arg6) = m ((c.tc : Thread Cert.KernelConvOutIdeal.nD Cert.KernelConvOutIdeal.τ).loc Cert.KernelConvOutIdeal.main_arg6)
          ∧ r.2.mem ((c.tc : Thread Cert.KernelConvOutIdeal.nD Cert.KernelConvOutIdeal.τ).loc Cert.KernelConvOutIdeal.main_arg7) = m ((c.tc : Thread Cert.KernelConvOutIdeal.nD Cert.KernelConvOutIdeal.τ).loc Cert.KernelConvOutIdeal.main_arg7))
      ∧ θ_run (Cert.ReferenceConvOutIdeal.defs (F := Ideal)) (onTc (τ := Cert.ReferenceConvOutIdeal.τ) (Cert.ReferenceConvOutIdeal.main (F := Ideal))) ⟨m', fun _ => 0, g'⟩ (fun r => ∀ c : Dev Cert.ReferenceConvOutIdeal.nD,
          r.2.mem ((c.tc : Thread Cert.ReferenceConvOutIdeal.nD Cert.ReferenceConvOutIdeal.τ).loc Cert.ReferenceConvOutIdeal.main_v101) = v0 c
          ∧ r.2.mem ((c.tc : Thread Cert.ReferenceConvOutIdeal.nD Cert.ReferenceConvOutIdeal.τ).loc Cert.ReferenceConvOutIdeal.main_v105) = v1 c
          ∧ r.2.mem ((c.tc : Thread Cert.ReferenceConvOutIdeal.nD Cert.ReferenceConvOutIdeal.τ).loc Cert.ReferenceConvOutIdeal.main_v106) = v2 c
          ∧ r.2.mem ((c.tc : Thread Cert.ReferenceConvOutIdeal.nD Cert.ReferenceConvOutIdeal.τ).loc Cert.ReferenceConvOutIdeal.main_v107) = v3 c
          ∧ r.2.mem ((c.tc : Thread Cert.ReferenceConvOutIdeal.nD Cert.ReferenceConvOutIdeal.τ).loc Cert.ReferenceConvOutIdeal.main_arg0) = m' ((c.tc : Thread Cert.ReferenceConvOutIdeal.nD Cert.ReferenceConvOutIdeal.τ).loc Cert.ReferenceConvOutIdeal.main_arg0)
          ∧ r.2.mem ((c.tc : Thread Cert.ReferenceConvOutIdeal.nD Cert.ReferenceConvOutIdeal.τ).loc Cert.ReferenceConvOutIdeal.main_arg1) = m' ((c.tc : Thread Cert.ReferenceConvOutIdeal.nD Cert.ReferenceConvOutIdeal.τ).loc Cert.ReferenceConvOutIdeal.main_arg1)
          ∧ r.2.mem ((c.tc : Thread Cert.ReferenceConvOutIdeal.nD Cert.ReferenceConvOutIdeal.τ).loc Cert.ReferenceConvOutIdeal.main_arg2) = m' ((c.tc : Thread Cert.ReferenceConvOutIdeal.nD Cert.ReferenceConvOutIdeal.τ).loc Cert.ReferenceConvOutIdeal.main_arg2)
          ∧ r.2.mem ((c.tc : Thread Cert.ReferenceConvOutIdeal.nD Cert.ReferenceConvOutIdeal.τ).loc Cert.ReferenceConvOutIdeal.main_arg3) = m' ((c.tc : Thread Cert.ReferenceConvOutIdeal.nD Cert.ReferenceConvOutIdeal.τ).loc Cert.ReferenceConvOutIdeal.main_arg3)
          ∧ r.2.mem ((c.tc : Thread Cert.ReferenceConvOutIdeal.nD Cert.ReferenceConvOutIdeal.τ).loc Cert.ReferenceConvOutIdeal.main_arg4) = m' ((c.tc : Thread Cert.ReferenceConvOutIdeal.nD Cert.ReferenceConvOutIdeal.τ).loc Cert.ReferenceConvOutIdeal.main_arg4)
          ∧ r.2.mem ((c.tc : Thread Cert.ReferenceConvOutIdeal.nD Cert.ReferenceConvOutIdeal.τ).loc Cert.ReferenceConvOutIdeal.main_arg5) = m' ((c.tc : Thread Cert.ReferenceConvOutIdeal.nD Cert.ReferenceConvOutIdeal.τ).loc Cert.ReferenceConvOutIdeal.main_arg5)
          ∧ r.2.mem ((c.tc : Thread Cert.ReferenceConvOutIdeal.nD Cert.ReferenceConvOutIdeal.τ).loc Cert.ReferenceConvOutIdeal.main_arg6) = m' ((c.tc : Thread Cert.ReferenceConvOutIdeal.nD Cert.ReferenceConvOutIdeal.τ).loc Cert.ReferenceConvOutIdeal.main_arg6)
          ∧ r.2.mem ((c.tc : Thread Cert.ReferenceConvOutIdeal.nD Cert.ReferenceConvOutIdeal.τ).loc Cert.ReferenceConvOutIdeal.main_arg7) = m' ((c.tc : Thread Cert.ReferenceConvOutIdeal.nD Cert.ReferenceConvOutIdeal.τ).loc Cert.ReferenceConvOutIdeal.main_arg7))

def preserves_KernelAttnIn_KernelAttnInIdeal : Prop :=
  True

def algebraic_KernelAttnInIdeal_ReferenceAttnInIdeal_pre_finite_ai [hKernelAttnInIdeal : Cert.KernelAttnInIdeal.Facts] [hReferenceAttnInIdeal : Cert.ReferenceAttnInIdeal.Facts] [hPre_finite_ai : Cert.Pre_finite_ai.Facts] : Prop :=
  ∀ (m : (ℓ : Loc Cert.KernelAttnInIdeal.nD Cert.KernelAttnInIdeal.τ Cert.KernelAttnInIdeal.sig) → Buf (Elt Ideal) ℓ) (g : Dev Cert.KernelAttnInIdeal.nD → PrngReg)
    (m' : (ℓ : Loc Cert.ReferenceAttnInIdeal.nD Cert.ReferenceAttnInIdeal.τ Cert.ReferenceAttnInIdeal.sig) → Buf (Elt Ideal) ℓ) (g' : Dev Cert.ReferenceAttnInIdeal.nD → PrngReg), Pre_KernelAttnInIdeal_finite_ai m →
    (∀ c : Dev Cert.KernelAttnInIdeal.nD,
      m' ((c.tc : Thread Cert.ReferenceAttnInIdeal.nD Cert.ReferenceAttnInIdeal.τ).loc Cert.ReferenceAttnInIdeal.main_arg0) = m ((c.tc : Thread Cert.KernelAttnInIdeal.nD Cert.KernelAttnInIdeal.τ).loc Cert.KernelAttnInIdeal.main_arg0)
      ∧ m' ((c.tc : Thread Cert.ReferenceAttnInIdeal.nD Cert.ReferenceAttnInIdeal.τ).loc Cert.ReferenceAttnInIdeal.main_arg1) = m ((c.tc : Thread Cert.KernelAttnInIdeal.nD Cert.KernelAttnInIdeal.τ).loc Cert.KernelAttnInIdeal.main_arg1)
      ∧ m' ((c.tc : Thread Cert.ReferenceAttnInIdeal.nD Cert.ReferenceAttnInIdeal.τ).loc Cert.ReferenceAttnInIdeal.main_arg2) = m ((c.tc : Thread Cert.KernelAttnInIdeal.nD Cert.KernelAttnInIdeal.τ).loc Cert.KernelAttnInIdeal.main_arg2)
      ∧ m' ((c.tc : Thread Cert.ReferenceAttnInIdeal.nD Cert.ReferenceAttnInIdeal.τ).loc Cert.ReferenceAttnInIdeal.main_arg3) = m ((c.tc : Thread Cert.KernelAttnInIdeal.nD Cert.KernelAttnInIdeal.τ).loc Cert.KernelAttnInIdeal.main_arg3)
      ∧ m' ((c.tc : Thread Cert.ReferenceAttnInIdeal.nD Cert.ReferenceAttnInIdeal.τ).loc Cert.ReferenceAttnInIdeal.main_arg4) = m ((c.tc : Thread Cert.KernelAttnInIdeal.nD Cert.KernelAttnInIdeal.τ).loc Cert.KernelAttnInIdeal.main_arg4)
      ∧ m' ((c.tc : Thread Cert.ReferenceAttnInIdeal.nD Cert.ReferenceAttnInIdeal.τ).loc Cert.ReferenceAttnInIdeal.main_arg5) = m ((c.tc : Thread Cert.KernelAttnInIdeal.nD Cert.KernelAttnInIdeal.τ).loc Cert.KernelAttnInIdeal.main_arg5)
      ∧ m' ((c.tc : Thread Cert.ReferenceAttnInIdeal.nD Cert.ReferenceAttnInIdeal.τ).loc Cert.ReferenceAttnInIdeal.main_arg6) = m ((c.tc : Thread Cert.KernelAttnInIdeal.nD Cert.KernelAttnInIdeal.τ).loc Cert.KernelAttnInIdeal.main_arg6)
      ∧ m' ((c.tc : Thread Cert.ReferenceAttnInIdeal.nD Cert.ReferenceAttnInIdeal.τ).loc Cert.ReferenceAttnInIdeal.main_arg7) = m ((c.tc : Thread Cert.KernelAttnInIdeal.nD Cert.KernelAttnInIdeal.τ).loc Cert.KernelAttnInIdeal.main_arg7)
      ∧ m' ((c.tc : Thread Cert.ReferenceAttnInIdeal.nD Cert.ReferenceAttnInIdeal.τ).loc Cert.ReferenceAttnInIdeal.main_arg8) = m ((c.tc : Thread Cert.KernelAttnInIdeal.nD Cert.KernelAttnInIdeal.τ).loc Cert.KernelAttnInIdeal.main_arg8)
      ∧ m' ((c.tc : Thread Cert.ReferenceAttnInIdeal.nD Cert.ReferenceAttnInIdeal.τ).loc Cert.ReferenceAttnInIdeal.main_arg9) = m ((c.tc : Thread Cert.KernelAttnInIdeal.nD Cert.KernelAttnInIdeal.τ).loc Cert.KernelAttnInIdeal.main_arg9)) →
    ∃ (v0 : (c : Dev Cert.KernelAttnInIdeal.nD) → Buf (Elt Ideal) ((c.tc : Thread Cert.KernelAttnInIdeal.nD Cert.KernelAttnInIdeal.τ).loc Cert.KernelAttnInIdeal.main_v24_0)) (v1 : (c : Dev Cert.KernelAttnInIdeal.nD) → Buf (Elt Ideal) ((c.tc : Thread Cert.KernelAttnInIdeal.nD Cert.KernelAttnInIdeal.τ).loc Cert.KernelAttnInIdeal.main_v24_1)) (v2 : (c : Dev Cert.KernelAttnInIdeal.nD) → Buf (Elt Ideal) ((c.tc : Thread Cert.KernelAttnInIdeal.nD Cert.KernelAttnInIdeal.τ).loc Cert.KernelAttnInIdeal.main_v24_2)) (v3 : (c : Dev Cert.KernelAttnInIdeal.nD) → Buf (Elt Ideal) ((c.tc : Thread Cert.KernelAttnInIdeal.nD Cert.KernelAttnInIdeal.τ).loc Cert.KernelAttnInIdeal.main_v24_3)) (v4 : (c : Dev Cert.KernelAttnInIdeal.nD) → Buf (Elt Ideal) ((c.tc : Thread Cert.KernelAttnInIdeal.nD Cert.KernelAttnInIdeal.τ).loc Cert.KernelAttnInIdeal.main_v24_4)),
      θ_run (Cert.KernelAttnInIdeal.defs (F := Ideal)) (onTc (τ := Cert.KernelAttnInIdeal.τ) (Cert.KernelAttnInIdeal.main (F := Ideal))) ⟨m, fun _ => 0, g⟩ (fun r => ∀ c : Dev Cert.KernelAttnInIdeal.nD,
          r.2.mem ((c.tc : Thread Cert.KernelAttnInIdeal.nD Cert.KernelAttnInIdeal.τ).loc Cert.KernelAttnInIdeal.main_v24_0) = v0 c
          ∧ r.2.mem ((c.tc : Thread Cert.KernelAttnInIdeal.nD Cert.KernelAttnInIdeal.τ).loc Cert.KernelAttnInIdeal.main_v24_1) = v1 c
          ∧ r.2.mem ((c.tc : Thread Cert.KernelAttnInIdeal.nD Cert.KernelAttnInIdeal.τ).loc Cert.KernelAttnInIdeal.main_v24_2) = v2 c
          ∧ r.2.mem ((c.tc : Thread Cert.KernelAttnInIdeal.nD Cert.KernelAttnInIdeal.τ).loc Cert.KernelAttnInIdeal.main_v24_3) = v3 c
          ∧ r.2.mem ((c.tc : Thread Cert.KernelAttnInIdeal.nD Cert.KernelAttnInIdeal.τ).loc Cert.KernelAttnInIdeal.main_v24_4) = v4 c
          ∧ r.2.mem ((c.tc : Thread Cert.KernelAttnInIdeal.nD Cert.KernelAttnInIdeal.τ).loc Cert.KernelAttnInIdeal.main_arg0) = m ((c.tc : Thread Cert.KernelAttnInIdeal.nD Cert.KernelAttnInIdeal.τ).loc Cert.KernelAttnInIdeal.main_arg0)
          ∧ r.2.mem ((c.tc : Thread Cert.KernelAttnInIdeal.nD Cert.KernelAttnInIdeal.τ).loc Cert.KernelAttnInIdeal.main_arg1) = m ((c.tc : Thread Cert.KernelAttnInIdeal.nD Cert.KernelAttnInIdeal.τ).loc Cert.KernelAttnInIdeal.main_arg1)
          ∧ r.2.mem ((c.tc : Thread Cert.KernelAttnInIdeal.nD Cert.KernelAttnInIdeal.τ).loc Cert.KernelAttnInIdeal.main_arg2) = m ((c.tc : Thread Cert.KernelAttnInIdeal.nD Cert.KernelAttnInIdeal.τ).loc Cert.KernelAttnInIdeal.main_arg2)
          ∧ r.2.mem ((c.tc : Thread Cert.KernelAttnInIdeal.nD Cert.KernelAttnInIdeal.τ).loc Cert.KernelAttnInIdeal.main_arg3) = m ((c.tc : Thread Cert.KernelAttnInIdeal.nD Cert.KernelAttnInIdeal.τ).loc Cert.KernelAttnInIdeal.main_arg3)
          ∧ r.2.mem ((c.tc : Thread Cert.KernelAttnInIdeal.nD Cert.KernelAttnInIdeal.τ).loc Cert.KernelAttnInIdeal.main_arg4) = m ((c.tc : Thread Cert.KernelAttnInIdeal.nD Cert.KernelAttnInIdeal.τ).loc Cert.KernelAttnInIdeal.main_arg4)
          ∧ r.2.mem ((c.tc : Thread Cert.KernelAttnInIdeal.nD Cert.KernelAttnInIdeal.τ).loc Cert.KernelAttnInIdeal.main_arg5) = m ((c.tc : Thread Cert.KernelAttnInIdeal.nD Cert.KernelAttnInIdeal.τ).loc Cert.KernelAttnInIdeal.main_arg5)
          ∧ r.2.mem ((c.tc : Thread Cert.KernelAttnInIdeal.nD Cert.KernelAttnInIdeal.τ).loc Cert.KernelAttnInIdeal.main_arg6) = m ((c.tc : Thread Cert.KernelAttnInIdeal.nD Cert.KernelAttnInIdeal.τ).loc Cert.KernelAttnInIdeal.main_arg6)
          ∧ r.2.mem ((c.tc : Thread Cert.KernelAttnInIdeal.nD Cert.KernelAttnInIdeal.τ).loc Cert.KernelAttnInIdeal.main_arg7) = m ((c.tc : Thread Cert.KernelAttnInIdeal.nD Cert.KernelAttnInIdeal.τ).loc Cert.KernelAttnInIdeal.main_arg7)
          ∧ r.2.mem ((c.tc : Thread Cert.KernelAttnInIdeal.nD Cert.KernelAttnInIdeal.τ).loc Cert.KernelAttnInIdeal.main_arg8) = m ((c.tc : Thread Cert.KernelAttnInIdeal.nD Cert.KernelAttnInIdeal.τ).loc Cert.KernelAttnInIdeal.main_arg8)
          ∧ r.2.mem ((c.tc : Thread Cert.KernelAttnInIdeal.nD Cert.KernelAttnInIdeal.τ).loc Cert.KernelAttnInIdeal.main_arg9) = m ((c.tc : Thread Cert.KernelAttnInIdeal.nD Cert.KernelAttnInIdeal.τ).loc Cert.KernelAttnInIdeal.main_arg9))
      ∧ θ_run (Cert.ReferenceAttnInIdeal.defs (F := Ideal)) (onTc (τ := Cert.ReferenceAttnInIdeal.τ) (Cert.ReferenceAttnInIdeal.main (F := Ideal))) ⟨m', fun _ => 0, g'⟩ (fun r => ∀ c : Dev Cert.ReferenceAttnInIdeal.nD,
          r.2.mem ((c.tc : Thread Cert.ReferenceAttnInIdeal.nD Cert.ReferenceAttnInIdeal.τ).loc Cert.ReferenceAttnInIdeal.main_v46) = v0 c
          ∧ r.2.mem ((c.tc : Thread Cert.ReferenceAttnInIdeal.nD Cert.ReferenceAttnInIdeal.τ).loc Cert.ReferenceAttnInIdeal.main_v47) = v1 c
          ∧ r.2.mem ((c.tc : Thread Cert.ReferenceAttnInIdeal.nD Cert.ReferenceAttnInIdeal.τ).loc Cert.ReferenceAttnInIdeal.main_v49) = v2 c
          ∧ r.2.mem ((c.tc : Thread Cert.ReferenceAttnInIdeal.nD Cert.ReferenceAttnInIdeal.τ).loc Cert.ReferenceAttnInIdeal.main_v50) = v3 c
          ∧ r.2.mem ((c.tc : Thread Cert.ReferenceAttnInIdeal.nD Cert.ReferenceAttnInIdeal.τ).loc Cert.ReferenceAttnInIdeal.main_v51) = v4 c
          ∧ r.2.mem ((c.tc : Thread Cert.ReferenceAttnInIdeal.nD Cert.ReferenceAttnInIdeal.τ).loc Cert.ReferenceAttnInIdeal.main_arg0) = m' ((c.tc : Thread Cert.ReferenceAttnInIdeal.nD Cert.ReferenceAttnInIdeal.τ).loc Cert.ReferenceAttnInIdeal.main_arg0)
          ∧ r.2.mem ((c.tc : Thread Cert.ReferenceAttnInIdeal.nD Cert.ReferenceAttnInIdeal.τ).loc Cert.ReferenceAttnInIdeal.main_arg1) = m' ((c.tc : Thread Cert.ReferenceAttnInIdeal.nD Cert.ReferenceAttnInIdeal.τ).loc Cert.ReferenceAttnInIdeal.main_arg1)
          ∧ r.2.mem ((c.tc : Thread Cert.ReferenceAttnInIdeal.nD Cert.ReferenceAttnInIdeal.τ).loc Cert.ReferenceAttnInIdeal.main_arg2) = m' ((c.tc : Thread Cert.ReferenceAttnInIdeal.nD Cert.ReferenceAttnInIdeal.τ).loc Cert.ReferenceAttnInIdeal.main_arg2)
          ∧ r.2.mem ((c.tc : Thread Cert.ReferenceAttnInIdeal.nD Cert.ReferenceAttnInIdeal.τ).loc Cert.ReferenceAttnInIdeal.main_arg3) = m' ((c.tc : Thread Cert.ReferenceAttnInIdeal.nD Cert.ReferenceAttnInIdeal.τ).loc Cert.ReferenceAttnInIdeal.main_arg3)
          ∧ r.2.mem ((c.tc : Thread Cert.ReferenceAttnInIdeal.nD Cert.ReferenceAttnInIdeal.τ).loc Cert.ReferenceAttnInIdeal.main_arg4) = m' ((c.tc : Thread Cert.ReferenceAttnInIdeal.nD Cert.ReferenceAttnInIdeal.τ).loc Cert.ReferenceAttnInIdeal.main_arg4)
          ∧ r.2.mem ((c.tc : Thread Cert.ReferenceAttnInIdeal.nD Cert.ReferenceAttnInIdeal.τ).loc Cert.ReferenceAttnInIdeal.main_arg5) = m' ((c.tc : Thread Cert.ReferenceAttnInIdeal.nD Cert.ReferenceAttnInIdeal.τ).loc Cert.ReferenceAttnInIdeal.main_arg5)
          ∧ r.2.mem ((c.tc : Thread Cert.ReferenceAttnInIdeal.nD Cert.ReferenceAttnInIdeal.τ).loc Cert.ReferenceAttnInIdeal.main_arg6) = m' ((c.tc : Thread Cert.ReferenceAttnInIdeal.nD Cert.ReferenceAttnInIdeal.τ).loc Cert.ReferenceAttnInIdeal.main_arg6)
          ∧ r.2.mem ((c.tc : Thread Cert.ReferenceAttnInIdeal.nD Cert.ReferenceAttnInIdeal.τ).loc Cert.ReferenceAttnInIdeal.main_arg7) = m' ((c.tc : Thread Cert.ReferenceAttnInIdeal.nD Cert.ReferenceAttnInIdeal.τ).loc Cert.ReferenceAttnInIdeal.main_arg7)
          ∧ r.2.mem ((c.tc : Thread Cert.ReferenceAttnInIdeal.nD Cert.ReferenceAttnInIdeal.τ).loc Cert.ReferenceAttnInIdeal.main_arg8) = m' ((c.tc : Thread Cert.ReferenceAttnInIdeal.nD Cert.ReferenceAttnInIdeal.τ).loc Cert.ReferenceAttnInIdeal.main_arg8)
          ∧ r.2.mem ((c.tc : Thread Cert.ReferenceAttnInIdeal.nD Cert.ReferenceAttnInIdeal.τ).loc Cert.ReferenceAttnInIdeal.main_arg9) = m' ((c.tc : Thread Cert.ReferenceAttnInIdeal.nD Cert.ReferenceAttnInIdeal.τ).loc Cert.ReferenceAttnInIdeal.main_arg9))

def preserves_KernelAttnOutFwd_KernelAttnOutFwdIdeal : Prop :=
  True

def algebraic_KernelAttnOutFwdIdeal_ReferenceAttnOutFwdIdeal [hKernelAttnOutFwdIdeal : Cert.KernelAttnOutFwdIdeal.Facts] [hReferenceAttnOutFwdIdeal : Cert.ReferenceAttnOutFwdIdeal.Facts] : Prop :=
  ∀ (m : (ℓ : Loc Cert.KernelAttnOutFwdIdeal.nD Cert.KernelAttnOutFwdIdeal.τ Cert.KernelAttnOutFwdIdeal.sig) → Buf (Elt Ideal) ℓ) (g : Dev Cert.KernelAttnOutFwdIdeal.nD → PrngReg)
    (m' : (ℓ : Loc Cert.ReferenceAttnOutFwdIdeal.nD Cert.ReferenceAttnOutFwdIdeal.τ Cert.ReferenceAttnOutFwdIdeal.sig) → Buf (Elt Ideal) ℓ) (g' : Dev Cert.ReferenceAttnOutFwdIdeal.nD → PrngReg), Pre_KernelAttnOutFwdIdeal m →
    (∀ c : Dev Cert.KernelAttnOutFwdIdeal.nD,
      m' ((c.tc : Thread Cert.ReferenceAttnOutFwdIdeal.nD Cert.ReferenceAttnOutFwdIdeal.τ).loc Cert.ReferenceAttnOutFwdIdeal.main_arg0) = m ((c.tc : Thread Cert.KernelAttnOutFwdIdeal.nD Cert.KernelAttnOutFwdIdeal.τ).loc Cert.KernelAttnOutFwdIdeal.main_arg0)
      ∧ m' ((c.tc : Thread Cert.ReferenceAttnOutFwdIdeal.nD Cert.ReferenceAttnOutFwdIdeal.τ).loc Cert.ReferenceAttnOutFwdIdeal.main_arg1) = m ((c.tc : Thread Cert.KernelAttnOutFwdIdeal.nD Cert.KernelAttnOutFwdIdeal.τ).loc Cert.KernelAttnOutFwdIdeal.main_arg1)
      ∧ m' ((c.tc : Thread Cert.ReferenceAttnOutFwdIdeal.nD Cert.ReferenceAttnOutFwdIdeal.τ).loc Cert.ReferenceAttnOutFwdIdeal.main_arg2) = m ((c.tc : Thread Cert.KernelAttnOutFwdIdeal.nD Cert.KernelAttnOutFwdIdeal.τ).loc Cert.KernelAttnOutFwdIdeal.main_arg2)
      ∧ m' ((c.tc : Thread Cert.ReferenceAttnOutFwdIdeal.nD Cert.ReferenceAttnOutFwdIdeal.τ).loc Cert.ReferenceAttnOutFwdIdeal.main_arg3) = m ((c.tc : Thread Cert.KernelAttnOutFwdIdeal.nD Cert.KernelAttnOutFwdIdeal.τ).loc Cert.KernelAttnOutFwdIdeal.main_arg3)) →
    ∃ (v0 : (c : Dev Cert.KernelAttnOutFwdIdeal.nD) → Buf (Elt Ideal) ((c.tc : Thread Cert.KernelAttnOutFwdIdeal.nD Cert.KernelAttnOutFwdIdeal.τ).loc Cert.KernelAttnOutFwdIdeal.main_v2_0)) (v1 : (c : Dev Cert.KernelAttnOutFwdIdeal.nD) → Buf (Elt Ideal) ((c.tc : Thread Cert.KernelAttnOutFwdIdeal.nD Cert.KernelAttnOutFwdIdeal.τ).loc Cert.KernelAttnOutFwdIdeal.main_v2_1)),
      θ_run (Cert.KernelAttnOutFwdIdeal.defs (F := Ideal)) (onTc (τ := Cert.KernelAttnOutFwdIdeal.τ) (Cert.KernelAttnOutFwdIdeal.main (F := Ideal))) ⟨m, fun _ => 0, g⟩ (fun r => ∀ c : Dev Cert.KernelAttnOutFwdIdeal.nD,
          r.2.mem ((c.tc : Thread Cert.KernelAttnOutFwdIdeal.nD Cert.KernelAttnOutFwdIdeal.τ).loc Cert.KernelAttnOutFwdIdeal.main_v2_0) = v0 c
          ∧ r.2.mem ((c.tc : Thread Cert.KernelAttnOutFwdIdeal.nD Cert.KernelAttnOutFwdIdeal.τ).loc Cert.KernelAttnOutFwdIdeal.main_v2_1) = v1 c
          ∧ r.2.mem ((c.tc : Thread Cert.KernelAttnOutFwdIdeal.nD Cert.KernelAttnOutFwdIdeal.τ).loc Cert.KernelAttnOutFwdIdeal.main_arg0) = m ((c.tc : Thread Cert.KernelAttnOutFwdIdeal.nD Cert.KernelAttnOutFwdIdeal.τ).loc Cert.KernelAttnOutFwdIdeal.main_arg0)
          ∧ r.2.mem ((c.tc : Thread Cert.KernelAttnOutFwdIdeal.nD Cert.KernelAttnOutFwdIdeal.τ).loc Cert.KernelAttnOutFwdIdeal.main_arg1) = m ((c.tc : Thread Cert.KernelAttnOutFwdIdeal.nD Cert.KernelAttnOutFwdIdeal.τ).loc Cert.KernelAttnOutFwdIdeal.main_arg1)
          ∧ r.2.mem ((c.tc : Thread Cert.KernelAttnOutFwdIdeal.nD Cert.KernelAttnOutFwdIdeal.τ).loc Cert.KernelAttnOutFwdIdeal.main_arg2) = m ((c.tc : Thread Cert.KernelAttnOutFwdIdeal.nD Cert.KernelAttnOutFwdIdeal.τ).loc Cert.KernelAttnOutFwdIdeal.main_arg2)
          ∧ r.2.mem ((c.tc : Thread Cert.KernelAttnOutFwdIdeal.nD Cert.KernelAttnOutFwdIdeal.τ).loc Cert.KernelAttnOutFwdIdeal.main_arg3) = m ((c.tc : Thread Cert.KernelAttnOutFwdIdeal.nD Cert.KernelAttnOutFwdIdeal.τ).loc Cert.KernelAttnOutFwdIdeal.main_arg3))
      ∧ θ_run (Cert.ReferenceAttnOutFwdIdeal.defs (F := Ideal)) (onTc (τ := Cert.ReferenceAttnOutFwdIdeal.τ) (Cert.ReferenceAttnOutFwdIdeal.main (F := Ideal))) ⟨m', fun _ => 0, g'⟩ (fun r => ∀ c : Dev Cert.ReferenceAttnOutFwdIdeal.nD,
          r.2.mem ((c.tc : Thread Cert.ReferenceAttnOutFwdIdeal.nD Cert.ReferenceAttnOutFwdIdeal.τ).loc Cert.ReferenceAttnOutFwdIdeal.main_v0) = v0 c
          ∧ r.2.mem ((c.tc : Thread Cert.ReferenceAttnOutFwdIdeal.nD Cert.ReferenceAttnOutFwdIdeal.τ).loc Cert.ReferenceAttnOutFwdIdeal.main_v13) = v1 c
          ∧ r.2.mem ((c.tc : Thread Cert.ReferenceAttnOutFwdIdeal.nD Cert.ReferenceAttnOutFwdIdeal.τ).loc Cert.ReferenceAttnOutFwdIdeal.main_arg0) = m' ((c.tc : Thread Cert.ReferenceAttnOutFwdIdeal.nD Cert.ReferenceAttnOutFwdIdeal.τ).loc Cert.ReferenceAttnOutFwdIdeal.main_arg0)
          ∧ r.2.mem ((c.tc : Thread Cert.ReferenceAttnOutFwdIdeal.nD Cert.ReferenceAttnOutFwdIdeal.τ).loc Cert.ReferenceAttnOutFwdIdeal.main_arg1) = m' ((c.tc : Thread Cert.ReferenceAttnOutFwdIdeal.nD Cert.ReferenceAttnOutFwdIdeal.τ).loc Cert.ReferenceAttnOutFwdIdeal.main_arg1)
          ∧ r.2.mem ((c.tc : Thread Cert.ReferenceAttnOutFwdIdeal.nD Cert.ReferenceAttnOutFwdIdeal.τ).loc Cert.ReferenceAttnOutFwdIdeal.main_arg2) = m' ((c.tc : Thread Cert.ReferenceAttnOutFwdIdeal.nD Cert.ReferenceAttnOutFwdIdeal.τ).loc Cert.ReferenceAttnOutFwdIdeal.main_arg2)
          ∧ r.2.mem ((c.tc : Thread Cert.ReferenceAttnOutFwdIdeal.nD Cert.ReferenceAttnOutFwdIdeal.τ).loc Cert.ReferenceAttnOutFwdIdeal.main_arg3) = m' ((c.tc : Thread Cert.ReferenceAttnOutFwdIdeal.nD Cert.ReferenceAttnOutFwdIdeal.τ).loc Cert.ReferenceAttnOutFwdIdeal.main_arg3))

def preserves_KernelMlpFwd_KernelMlpFwdIdeal : Prop :=
  True

def algebraic_KernelMlpFwdIdeal_ReferenceMlpFwdIdeal [hKernelMlpFwdIdeal : Cert.KernelMlpFwdIdeal.Facts] [hReferenceMlpFwdIdeal : Cert.ReferenceMlpFwdIdeal.Facts] : Prop :=
  ∀ (m : (ℓ : Loc Cert.KernelMlpFwdIdeal.nD Cert.KernelMlpFwdIdeal.τ Cert.KernelMlpFwdIdeal.sig) → Buf (Elt Ideal) ℓ) (g : Dev Cert.KernelMlpFwdIdeal.nD → PrngReg)
    (m' : (ℓ : Loc Cert.ReferenceMlpFwdIdeal.nD Cert.ReferenceMlpFwdIdeal.τ Cert.ReferenceMlpFwdIdeal.sig) → Buf (Elt Ideal) ℓ) (g' : Dev Cert.ReferenceMlpFwdIdeal.nD → PrngReg), Pre_KernelMlpFwdIdeal m →
    (∀ c : Dev Cert.KernelMlpFwdIdeal.nD,
      m' ((c.tc : Thread Cert.ReferenceMlpFwdIdeal.nD Cert.ReferenceMlpFwdIdeal.τ).loc Cert.ReferenceMlpFwdIdeal.main_arg0) = m ((c.tc : Thread Cert.KernelMlpFwdIdeal.nD Cert.KernelMlpFwdIdeal.τ).loc Cert.KernelMlpFwdIdeal.main_arg0)
      ∧ m' ((c.tc : Thread Cert.ReferenceMlpFwdIdeal.nD Cert.ReferenceMlpFwdIdeal.τ).loc Cert.ReferenceMlpFwdIdeal.main_arg1) = m ((c.tc : Thread Cert.KernelMlpFwdIdeal.nD Cert.KernelMlpFwdIdeal.τ).loc Cert.KernelMlpFwdIdeal.main_arg1)
      ∧ m' ((c.tc : Thread Cert.ReferenceMlpFwdIdeal.nD Cert.ReferenceMlpFwdIdeal.τ).loc Cert.ReferenceMlpFwdIdeal.main_arg2) = m ((c.tc : Thread Cert.KernelMlpFwdIdeal.nD Cert.KernelMlpFwdIdeal.τ).loc Cert.KernelMlpFwdIdeal.main_arg2)
      ∧ m' ((c.tc : Thread Cert.ReferenceMlpFwdIdeal.nD Cert.ReferenceMlpFwdIdeal.τ).loc Cert.ReferenceMlpFwdIdeal.main_arg3) = m ((c.tc : Thread Cert.KernelMlpFwdIdeal.nD Cert.KernelMlpFwdIdeal.τ).loc Cert.KernelMlpFwdIdeal.main_arg3)
      ∧ m' ((c.tc : Thread Cert.ReferenceMlpFwdIdeal.nD Cert.ReferenceMlpFwdIdeal.τ).loc Cert.ReferenceMlpFwdIdeal.main_arg4) = m ((c.tc : Thread Cert.KernelMlpFwdIdeal.nD Cert.KernelMlpFwdIdeal.τ).loc Cert.KernelMlpFwdIdeal.main_arg4)) →
    ∃ (v0 : (c : Dev Cert.KernelMlpFwdIdeal.nD) → Buf (Elt Ideal) ((c.tc : Thread Cert.KernelMlpFwdIdeal.nD Cert.KernelMlpFwdIdeal.τ).loc Cert.KernelMlpFwdIdeal.main_v5_0)) (v1 : (c : Dev Cert.KernelMlpFwdIdeal.nD) → Buf (Elt Ideal) ((c.tc : Thread Cert.KernelMlpFwdIdeal.nD Cert.KernelMlpFwdIdeal.τ).loc Cert.KernelMlpFwdIdeal.main_v5_1)) (v2 : (c : Dev Cert.KernelMlpFwdIdeal.nD) → Buf (Elt Ideal) ((c.tc : Thread Cert.KernelMlpFwdIdeal.nD Cert.KernelMlpFwdIdeal.τ).loc Cert.KernelMlpFwdIdeal.main_v5_2)),
      θ_run (Cert.KernelMlpFwdIdeal.defs (F := Ideal)) (onTc (τ := Cert.KernelMlpFwdIdeal.τ) (Cert.KernelMlpFwdIdeal.main (F := Ideal))) ⟨m, fun _ => 0, g⟩ (fun r => ∀ c : Dev Cert.KernelMlpFwdIdeal.nD,
          r.2.mem ((c.tc : Thread Cert.KernelMlpFwdIdeal.nD Cert.KernelMlpFwdIdeal.τ).loc Cert.KernelMlpFwdIdeal.main_v5_0) = v0 c
          ∧ r.2.mem ((c.tc : Thread Cert.KernelMlpFwdIdeal.nD Cert.KernelMlpFwdIdeal.τ).loc Cert.KernelMlpFwdIdeal.main_v5_1) = v1 c
          ∧ r.2.mem ((c.tc : Thread Cert.KernelMlpFwdIdeal.nD Cert.KernelMlpFwdIdeal.τ).loc Cert.KernelMlpFwdIdeal.main_v5_2) = v2 c
          ∧ r.2.mem ((c.tc : Thread Cert.KernelMlpFwdIdeal.nD Cert.KernelMlpFwdIdeal.τ).loc Cert.KernelMlpFwdIdeal.main_arg0) = m ((c.tc : Thread Cert.KernelMlpFwdIdeal.nD Cert.KernelMlpFwdIdeal.τ).loc Cert.KernelMlpFwdIdeal.main_arg0)
          ∧ r.2.mem ((c.tc : Thread Cert.KernelMlpFwdIdeal.nD Cert.KernelMlpFwdIdeal.τ).loc Cert.KernelMlpFwdIdeal.main_arg1) = m ((c.tc : Thread Cert.KernelMlpFwdIdeal.nD Cert.KernelMlpFwdIdeal.τ).loc Cert.KernelMlpFwdIdeal.main_arg1)
          ∧ r.2.mem ((c.tc : Thread Cert.KernelMlpFwdIdeal.nD Cert.KernelMlpFwdIdeal.τ).loc Cert.KernelMlpFwdIdeal.main_arg2) = m ((c.tc : Thread Cert.KernelMlpFwdIdeal.nD Cert.KernelMlpFwdIdeal.τ).loc Cert.KernelMlpFwdIdeal.main_arg2)
          ∧ r.2.mem ((c.tc : Thread Cert.KernelMlpFwdIdeal.nD Cert.KernelMlpFwdIdeal.τ).loc Cert.KernelMlpFwdIdeal.main_arg3) = m ((c.tc : Thread Cert.KernelMlpFwdIdeal.nD Cert.KernelMlpFwdIdeal.τ).loc Cert.KernelMlpFwdIdeal.main_arg3)
          ∧ r.2.mem ((c.tc : Thread Cert.KernelMlpFwdIdeal.nD Cert.KernelMlpFwdIdeal.τ).loc Cert.KernelMlpFwdIdeal.main_arg4) = m ((c.tc : Thread Cert.KernelMlpFwdIdeal.nD Cert.KernelMlpFwdIdeal.τ).loc Cert.KernelMlpFwdIdeal.main_arg4))
      ∧ θ_run (Cert.ReferenceMlpFwdIdeal.defs (F := Ideal)) (onTc (τ := Cert.ReferenceMlpFwdIdeal.τ) (Cert.ReferenceMlpFwdIdeal.main (F := Ideal))) ⟨m', fun _ => 0, g'⟩ (fun r => ∀ c : Dev Cert.ReferenceMlpFwdIdeal.nD,
          r.2.mem ((c.tc : Thread Cert.ReferenceMlpFwdIdeal.nD Cert.ReferenceMlpFwdIdeal.τ).loc Cert.ReferenceMlpFwdIdeal.main_v16) = v0 c
          ∧ r.2.mem ((c.tc : Thread Cert.ReferenceMlpFwdIdeal.nD Cert.ReferenceMlpFwdIdeal.τ).loc Cert.ReferenceMlpFwdIdeal.main_v15) = v1 c
          ∧ r.2.mem ((c.tc : Thread Cert.ReferenceMlpFwdIdeal.nD Cert.ReferenceMlpFwdIdeal.τ).loc Cert.ReferenceMlpFwdIdeal.main_v29) = v2 c
          ∧ r.2.mem ((c.tc : Thread Cert.ReferenceMlpFwdIdeal.nD Cert.ReferenceMlpFwdIdeal.τ).loc Cert.ReferenceMlpFwdIdeal.main_arg0) = m' ((c.tc : Thread Cert.ReferenceMlpFwdIdeal.nD Cert.ReferenceMlpFwdIdeal.τ).loc Cert.ReferenceMlpFwdIdeal.main_arg0)
          ∧ r.2.mem ((c.tc : Thread Cert.ReferenceMlpFwdIdeal.nD Cert.ReferenceMlpFwdIdeal.τ).loc Cert.ReferenceMlpFwdIdeal.main_arg1) = m' ((c.tc : Thread Cert.ReferenceMlpFwdIdeal.nD Cert.ReferenceMlpFwdIdeal.τ).loc Cert.ReferenceMlpFwdIdeal.main_arg1)
          ∧ r.2.mem ((c.tc : Thread Cert.ReferenceMlpFwdIdeal.nD Cert.ReferenceMlpFwdIdeal.τ).loc Cert.ReferenceMlpFwdIdeal.main_arg2) = m' ((c.tc : Thread Cert.ReferenceMlpFwdIdeal.nD Cert.ReferenceMlpFwdIdeal.τ).loc Cert.ReferenceMlpFwdIdeal.main_arg2)
          ∧ r.2.mem ((c.tc : Thread Cert.ReferenceMlpFwdIdeal.nD Cert.ReferenceMlpFwdIdeal.τ).loc Cert.ReferenceMlpFwdIdeal.main_arg3) = m' ((c.tc : Thread Cert.ReferenceMlpFwdIdeal.nD Cert.ReferenceMlpFwdIdeal.τ).loc Cert.ReferenceMlpFwdIdeal.main_arg3)
          ∧ r.2.mem ((c.tc : Thread Cert.ReferenceMlpFwdIdeal.nD Cert.ReferenceMlpFwdIdeal.τ).loc Cert.ReferenceMlpFwdIdeal.main_arg4) = m' ((c.tc : Thread Cert.ReferenceMlpFwdIdeal.nD Cert.ReferenceMlpFwdIdeal.τ).loc Cert.ReferenceMlpFwdIdeal.main_arg4))

def preserves_KernelConvInFwd_KernelConvInFwdIdeal : Prop :=
  True

def algebraic_KernelConvInFwdIdeal_ReferenceConvInFwdIdeal [hKernelConvInFwdIdeal : Cert.KernelConvInFwdIdeal.Facts] [hReferenceConvInFwdIdeal : Cert.ReferenceConvInFwdIdeal.Facts] : Prop :=
  ∀ (m : (ℓ : Loc Cert.KernelConvInFwdIdeal.nD Cert.KernelConvInFwdIdeal.τ Cert.KernelConvInFwdIdeal.sig) → Buf (Elt Ideal) ℓ) (g : Dev Cert.KernelConvInFwdIdeal.nD → PrngReg)
    (m' : (ℓ : Loc Cert.ReferenceConvInFwdIdeal.nD Cert.ReferenceConvInFwdIdeal.τ Cert.ReferenceConvInFwdIdeal.sig) → Buf (Elt Ideal) ℓ) (g' : Dev Cert.ReferenceConvInFwdIdeal.nD → PrngReg), Pre_KernelConvInFwdIdeal m →
    (∀ c : Dev Cert.KernelConvInFwdIdeal.nD,
      m' ((c.tc : Thread Cert.ReferenceConvInFwdIdeal.nD Cert.ReferenceConvInFwdIdeal.τ).loc Cert.ReferenceConvInFwdIdeal.main_arg0) = m ((c.tc : Thread Cert.KernelConvInFwdIdeal.nD Cert.KernelConvInFwdIdeal.τ).loc Cert.KernelConvInFwdIdeal.main_arg0)
      ∧ m' ((c.tc : Thread Cert.ReferenceConvInFwdIdeal.nD Cert.ReferenceConvInFwdIdeal.τ).loc Cert.ReferenceConvInFwdIdeal.main_arg1) = m ((c.tc : Thread Cert.KernelConvInFwdIdeal.nD Cert.KernelConvInFwdIdeal.τ).loc Cert.KernelConvInFwdIdeal.main_arg1)
      ∧ m' ((c.tc : Thread Cert.ReferenceConvInFwdIdeal.nD Cert.ReferenceConvInFwdIdeal.τ).loc Cert.ReferenceConvInFwdIdeal.main_arg2) = m ((c.tc : Thread Cert.KernelConvInFwdIdeal.nD Cert.KernelConvInFwdIdeal.τ).loc Cert.KernelConvInFwdIdeal.main_arg2)
      ∧ m' ((c.tc : Thread Cert.ReferenceConvInFwdIdeal.nD Cert.ReferenceConvInFwdIdeal.τ).loc Cert.ReferenceConvInFwdIdeal.main_arg3) = m ((c.tc : Thread Cert.KernelConvInFwdIdeal.nD Cert.KernelConvInFwdIdeal.τ).loc Cert.KernelConvInFwdIdeal.main_arg3)) →
    ∃ (v0 : (c : Dev Cert.KernelConvInFwdIdeal.nD) → Buf (Elt Ideal) ((c.tc : Thread Cert.KernelConvInFwdIdeal.nD Cert.KernelConvInFwdIdeal.τ).loc Cert.KernelConvInFwdIdeal.main_v3_0)) (v1 : (c : Dev Cert.KernelConvInFwdIdeal.nD) → Buf (Elt Ideal) ((c.tc : Thread Cert.KernelConvInFwdIdeal.nD Cert.KernelConvInFwdIdeal.τ).loc Cert.KernelConvInFwdIdeal.main_v3_1)),
      θ_run (Cert.KernelConvInFwdIdeal.defs (F := Ideal)) (onTc (τ := Cert.KernelConvInFwdIdeal.τ) (Cert.KernelConvInFwdIdeal.main (F := Ideal))) ⟨m, fun _ => 0, g⟩ (fun r => ∀ c : Dev Cert.KernelConvInFwdIdeal.nD,
          r.2.mem ((c.tc : Thread Cert.KernelConvInFwdIdeal.nD Cert.KernelConvInFwdIdeal.τ).loc Cert.KernelConvInFwdIdeal.main_v3_0) = v0 c
          ∧ r.2.mem ((c.tc : Thread Cert.KernelConvInFwdIdeal.nD Cert.KernelConvInFwdIdeal.τ).loc Cert.KernelConvInFwdIdeal.main_v3_1) = v1 c
          ∧ r.2.mem ((c.tc : Thread Cert.KernelConvInFwdIdeal.nD Cert.KernelConvInFwdIdeal.τ).loc Cert.KernelConvInFwdIdeal.main_arg0) = m ((c.tc : Thread Cert.KernelConvInFwdIdeal.nD Cert.KernelConvInFwdIdeal.τ).loc Cert.KernelConvInFwdIdeal.main_arg0)
          ∧ r.2.mem ((c.tc : Thread Cert.KernelConvInFwdIdeal.nD Cert.KernelConvInFwdIdeal.τ).loc Cert.KernelConvInFwdIdeal.main_arg1) = m ((c.tc : Thread Cert.KernelConvInFwdIdeal.nD Cert.KernelConvInFwdIdeal.τ).loc Cert.KernelConvInFwdIdeal.main_arg1)
          ∧ r.2.mem ((c.tc : Thread Cert.KernelConvInFwdIdeal.nD Cert.KernelConvInFwdIdeal.τ).loc Cert.KernelConvInFwdIdeal.main_arg2) = m ((c.tc : Thread Cert.KernelConvInFwdIdeal.nD Cert.KernelConvInFwdIdeal.τ).loc Cert.KernelConvInFwdIdeal.main_arg2)
          ∧ r.2.mem ((c.tc : Thread Cert.KernelConvInFwdIdeal.nD Cert.KernelConvInFwdIdeal.τ).loc Cert.KernelConvInFwdIdeal.main_arg3) = m ((c.tc : Thread Cert.KernelConvInFwdIdeal.nD Cert.KernelConvInFwdIdeal.τ).loc Cert.KernelConvInFwdIdeal.main_arg3))
      ∧ θ_run (Cert.ReferenceConvInFwdIdeal.defs (F := Ideal)) (onTc (τ := Cert.ReferenceConvInFwdIdeal.τ) (Cert.ReferenceConvInFwdIdeal.main (F := Ideal))) ⟨m', fun _ => 0, g'⟩ (fun r => ∀ c : Dev Cert.ReferenceConvInFwdIdeal.nD,
          r.2.mem ((c.tc : Thread Cert.ReferenceConvInFwdIdeal.nD Cert.ReferenceConvInFwdIdeal.τ).loc Cert.ReferenceConvInFwdIdeal.main_v14) = v0 c
          ∧ r.2.mem ((c.tc : Thread Cert.ReferenceConvInFwdIdeal.nD Cert.ReferenceConvInFwdIdeal.τ).loc Cert.ReferenceConvInFwdIdeal.main_v23) = v1 c
          ∧ r.2.mem ((c.tc : Thread Cert.ReferenceConvInFwdIdeal.nD Cert.ReferenceConvInFwdIdeal.τ).loc Cert.ReferenceConvInFwdIdeal.main_arg0) = m' ((c.tc : Thread Cert.ReferenceConvInFwdIdeal.nD Cert.ReferenceConvInFwdIdeal.τ).loc Cert.ReferenceConvInFwdIdeal.main_arg0)
          ∧ r.2.mem ((c.tc : Thread Cert.ReferenceConvInFwdIdeal.nD Cert.ReferenceConvInFwdIdeal.τ).loc Cert.ReferenceConvInFwdIdeal.main_arg1) = m' ((c.tc : Thread Cert.ReferenceConvInFwdIdeal.nD Cert.ReferenceConvInFwdIdeal.τ).loc Cert.ReferenceConvInFwdIdeal.main_arg1)
          ∧ r.2.mem ((c.tc : Thread Cert.ReferenceConvInFwdIdeal.nD Cert.ReferenceConvInFwdIdeal.τ).loc Cert.ReferenceConvInFwdIdeal.main_arg2) = m' ((c.tc : Thread Cert.ReferenceConvInFwdIdeal.nD Cert.ReferenceConvInFwdIdeal.τ).loc Cert.ReferenceConvInFwdIdeal.main_arg2)
          ∧ r.2.mem ((c.tc : Thread Cert.ReferenceConvInFwdIdeal.nD Cert.ReferenceConvInFwdIdeal.τ).loc Cert.ReferenceConvInFwdIdeal.main_arg3) = m' ((c.tc : Thread Cert.ReferenceConvInFwdIdeal.nD Cert.ReferenceConvInFwdIdeal.τ).loc Cert.ReferenceConvInFwdIdeal.main_arg3))

def preserves_KernelConvOutFwd_KernelConvOutFwdIdeal : Prop :=
  True

def algebraic_KernelConvOutFwdIdeal_ReferenceConvOutFwdIdeal [hKernelConvOutFwdIdeal : Cert.KernelConvOutFwdIdeal.Facts] [hReferenceConvOutFwdIdeal : Cert.ReferenceConvOutFwdIdeal.Facts] : Prop :=
  ∀ (m : (ℓ : Loc Cert.KernelConvOutFwdIdeal.nD Cert.KernelConvOutFwdIdeal.τ Cert.KernelConvOutFwdIdeal.sig) → Buf (Elt Ideal) ℓ) (g : Dev Cert.KernelConvOutFwdIdeal.nD → PrngReg)
    (m' : (ℓ : Loc Cert.ReferenceConvOutFwdIdeal.nD Cert.ReferenceConvOutFwdIdeal.τ Cert.ReferenceConvOutFwdIdeal.sig) → Buf (Elt Ideal) ℓ) (g' : Dev Cert.ReferenceConvOutFwdIdeal.nD → PrngReg), Pre_KernelConvOutFwdIdeal m →
    (∀ c : Dev Cert.KernelConvOutFwdIdeal.nD,
      m' ((c.tc : Thread Cert.ReferenceConvOutFwdIdeal.nD Cert.ReferenceConvOutFwdIdeal.τ).loc Cert.ReferenceConvOutFwdIdeal.main_arg0) = m ((c.tc : Thread Cert.KernelConvOutFwdIdeal.nD Cert.KernelConvOutFwdIdeal.τ).loc Cert.KernelConvOutFwdIdeal.main_arg0)
      ∧ m' ((c.tc : Thread Cert.ReferenceConvOutFwdIdeal.nD Cert.ReferenceConvOutFwdIdeal.τ).loc Cert.ReferenceConvOutFwdIdeal.main_arg1) = m ((c.tc : Thread Cert.KernelConvOutFwdIdeal.nD Cert.KernelConvOutFwdIdeal.τ).loc Cert.KernelConvOutFwdIdeal.main_arg1)
      ∧ m' ((c.tc : Thread Cert.ReferenceConvOutFwdIdeal.nD Cert.ReferenceConvOutFwdIdeal.τ).loc Cert.ReferenceConvOutFwdIdeal.main_arg2) = m ((c.tc : Thread Cert.KernelConvOutFwdIdeal.nD Cert.KernelConvOutFwdIdeal.τ).loc Cert.KernelConvOutFwdIdeal.main_arg2)
      ∧ m' ((c.tc : Thread Cert.ReferenceConvOutFwdIdeal.nD Cert.ReferenceConvOutFwdIdeal.τ).loc Cert.ReferenceConvOutFwdIdeal.main_arg3) = m ((c.tc : Thread Cert.KernelConvOutFwdIdeal.nD Cert.KernelConvOutFwdIdeal.τ).loc Cert.KernelConvOutFwdIdeal.main_arg3)
      ∧ m' ((c.tc : Thread Cert.ReferenceConvOutFwdIdeal.nD Cert.ReferenceConvOutFwdIdeal.τ).loc Cert.ReferenceConvOutFwdIdeal.main_arg4) = m ((c.tc : Thread Cert.KernelConvOutFwdIdeal.nD Cert.KernelConvOutFwdIdeal.τ).loc Cert.KernelConvOutFwdIdeal.main_arg4)
      ∧ m' ((c.tc : Thread Cert.ReferenceConvOutFwdIdeal.nD Cert.ReferenceConvOutFwdIdeal.τ).loc Cert.ReferenceConvOutFwdIdeal.main_arg5) = m ((c.tc : Thread Cert.KernelConvOutFwdIdeal.nD Cert.KernelConvOutFwdIdeal.τ).loc Cert.KernelConvOutFwdIdeal.main_arg5)
      ∧ m' ((c.tc : Thread Cert.ReferenceConvOutFwdIdeal.nD Cert.ReferenceConvOutFwdIdeal.τ).loc Cert.ReferenceConvOutFwdIdeal.main_arg6) = m ((c.tc : Thread Cert.KernelConvOutFwdIdeal.nD Cert.KernelConvOutFwdIdeal.τ).loc Cert.KernelConvOutFwdIdeal.main_arg6)) →
    ∃ (v0 : (c : Dev Cert.KernelConvOutFwdIdeal.nD) → Buf (Elt Ideal) ((c.tc : Thread Cert.KernelConvOutFwdIdeal.nD Cert.KernelConvOutFwdIdeal.τ).loc Cert.KernelConvOutFwdIdeal.main_v1_0)) (v1 : (c : Dev Cert.KernelConvOutFwdIdeal.nD) → Buf (Elt Ideal) ((c.tc : Thread Cert.KernelConvOutFwdIdeal.nD Cert.KernelConvOutFwdIdeal.τ).loc Cert.KernelConvOutFwdIdeal.main_v1_1)),
      θ_run (Cert.KernelConvOutFwdIdeal.defs (F := Ideal)) (onTc (τ := Cert.KernelConvOutFwdIdeal.τ) (Cert.KernelConvOutFwdIdeal.main (F := Ideal))) ⟨m, fun _ => 0, g⟩ (fun r => ∀ c : Dev Cert.KernelConvOutFwdIdeal.nD,
          r.2.mem ((c.tc : Thread Cert.KernelConvOutFwdIdeal.nD Cert.KernelConvOutFwdIdeal.τ).loc Cert.KernelConvOutFwdIdeal.main_v1_0) = v0 c
          ∧ r.2.mem ((c.tc : Thread Cert.KernelConvOutFwdIdeal.nD Cert.KernelConvOutFwdIdeal.τ).loc Cert.KernelConvOutFwdIdeal.main_v1_1) = v1 c
          ∧ r.2.mem ((c.tc : Thread Cert.KernelConvOutFwdIdeal.nD Cert.KernelConvOutFwdIdeal.τ).loc Cert.KernelConvOutFwdIdeal.main_arg0) = m ((c.tc : Thread Cert.KernelConvOutFwdIdeal.nD Cert.KernelConvOutFwdIdeal.τ).loc Cert.KernelConvOutFwdIdeal.main_arg0)
          ∧ r.2.mem ((c.tc : Thread Cert.KernelConvOutFwdIdeal.nD Cert.KernelConvOutFwdIdeal.τ).loc Cert.KernelConvOutFwdIdeal.main_arg1) = m ((c.tc : Thread Cert.KernelConvOutFwdIdeal.nD Cert.KernelConvOutFwdIdeal.τ).loc Cert.KernelConvOutFwdIdeal.main_arg1)
          ∧ r.2.mem ((c.tc : Thread Cert.KernelConvOutFwdIdeal.nD Cert.KernelConvOutFwdIdeal.τ).loc Cert.KernelConvOutFwdIdeal.main_arg2) = m ((c.tc : Thread Cert.KernelConvOutFwdIdeal.nD Cert.KernelConvOutFwdIdeal.τ).loc Cert.KernelConvOutFwdIdeal.main_arg2)
          ∧ r.2.mem ((c.tc : Thread Cert.KernelConvOutFwdIdeal.nD Cert.KernelConvOutFwdIdeal.τ).loc Cert.KernelConvOutFwdIdeal.main_arg3) = m ((c.tc : Thread Cert.KernelConvOutFwdIdeal.nD Cert.KernelConvOutFwdIdeal.τ).loc Cert.KernelConvOutFwdIdeal.main_arg3)
          ∧ r.2.mem ((c.tc : Thread Cert.KernelConvOutFwdIdeal.nD Cert.KernelConvOutFwdIdeal.τ).loc Cert.KernelConvOutFwdIdeal.main_arg4) = m ((c.tc : Thread Cert.KernelConvOutFwdIdeal.nD Cert.KernelConvOutFwdIdeal.τ).loc Cert.KernelConvOutFwdIdeal.main_arg4)
          ∧ r.2.mem ((c.tc : Thread Cert.KernelConvOutFwdIdeal.nD Cert.KernelConvOutFwdIdeal.τ).loc Cert.KernelConvOutFwdIdeal.main_arg5) = m ((c.tc : Thread Cert.KernelConvOutFwdIdeal.nD Cert.KernelConvOutFwdIdeal.τ).loc Cert.KernelConvOutFwdIdeal.main_arg5)
          ∧ r.2.mem ((c.tc : Thread Cert.KernelConvOutFwdIdeal.nD Cert.KernelConvOutFwdIdeal.τ).loc Cert.KernelConvOutFwdIdeal.main_arg6) = m ((c.tc : Thread Cert.KernelConvOutFwdIdeal.nD Cert.KernelConvOutFwdIdeal.τ).loc Cert.KernelConvOutFwdIdeal.main_arg6))
      ∧ θ_run (Cert.ReferenceConvOutFwdIdeal.defs (F := Ideal)) (onTc (τ := Cert.ReferenceConvOutFwdIdeal.τ) (Cert.ReferenceConvOutFwdIdeal.main (F := Ideal))) ⟨m', fun _ => 0, g'⟩ (fun r => ∀ c : Dev Cert.ReferenceConvOutFwdIdeal.nD,
          r.2.mem ((c.tc : Thread Cert.ReferenceConvOutFwdIdeal.nD Cert.ReferenceConvOutFwdIdeal.τ).loc Cert.ReferenceConvOutFwdIdeal.main_v25) = v0 c
          ∧ r.2.mem ((c.tc : Thread Cert.ReferenceConvOutFwdIdeal.nD Cert.ReferenceConvOutFwdIdeal.τ).loc Cert.ReferenceConvOutFwdIdeal.main_v38) = v1 c
          ∧ r.2.mem ((c.tc : Thread Cert.ReferenceConvOutFwdIdeal.nD Cert.ReferenceConvOutFwdIdeal.τ).loc Cert.ReferenceConvOutFwdIdeal.main_arg0) = m' ((c.tc : Thread Cert.ReferenceConvOutFwdIdeal.nD Cert.ReferenceConvOutFwdIdeal.τ).loc Cert.ReferenceConvOutFwdIdeal.main_arg0)
          ∧ r.2.mem ((c.tc : Thread Cert.ReferenceConvOutFwdIdeal.nD Cert.ReferenceConvOutFwdIdeal.τ).loc Cert.ReferenceConvOutFwdIdeal.main_arg1) = m' ((c.tc : Thread Cert.ReferenceConvOutFwdIdeal.nD Cert.ReferenceConvOutFwdIdeal.τ).loc Cert.ReferenceConvOutFwdIdeal.main_arg1)
          ∧ r.2.mem ((c.tc : Thread Cert.ReferenceConvOutFwdIdeal.nD Cert.ReferenceConvOutFwdIdeal.τ).loc Cert.ReferenceConvOutFwdIdeal.main_arg2) = m' ((c.tc : Thread Cert.ReferenceConvOutFwdIdeal.nD Cert.ReferenceConvOutFwdIdeal.τ).loc Cert.ReferenceConvOutFwdIdeal.main_arg2)
          ∧ r.2.mem ((c.tc : Thread Cert.ReferenceConvOutFwdIdeal.nD Cert.ReferenceConvOutFwdIdeal.τ).loc Cert.ReferenceConvOutFwdIdeal.main_arg3) = m' ((c.tc : Thread Cert.ReferenceConvOutFwdIdeal.nD Cert.ReferenceConvOutFwdIdeal.τ).loc Cert.ReferenceConvOutFwdIdeal.main_arg3)
          ∧ r.2.mem ((c.tc : Thread Cert.ReferenceConvOutFwdIdeal.nD Cert.ReferenceConvOutFwdIdeal.τ).loc Cert.ReferenceConvOutFwdIdeal.main_arg4) = m' ((c.tc : Thread Cert.ReferenceConvOutFwdIdeal.nD Cert.ReferenceConvOutFwdIdeal.τ).loc Cert.ReferenceConvOutFwdIdeal.main_arg4)
          ∧ r.2.mem ((c.tc : Thread Cert.ReferenceConvOutFwdIdeal.nD Cert.ReferenceConvOutFwdIdeal.τ).loc Cert.ReferenceConvOutFwdIdeal.main_arg5) = m' ((c.tc : Thread Cert.ReferenceConvOutFwdIdeal.nD Cert.ReferenceConvOutFwdIdeal.τ).loc Cert.ReferenceConvOutFwdIdeal.main_arg5)
          ∧ r.2.mem ((c.tc : Thread Cert.ReferenceConvOutFwdIdeal.nD Cert.ReferenceConvOutFwdIdeal.τ).loc Cert.ReferenceConvOutFwdIdeal.main_arg6) = m' ((c.tc : Thread Cert.ReferenceConvOutFwdIdeal.nD Cert.ReferenceConvOutFwdIdeal.τ).loc Cert.ReferenceConvOutFwdIdeal.main_arg6))

def preserves_KernelAttnInFwd_KernelAttnInFwdIdeal : Prop :=
  True

def algebraic_KernelAttnInFwdIdeal_ReferenceAttnInFwdIdeal [hKernelAttnInFwdIdeal : Cert.KernelAttnInFwdIdeal.Facts] [hReferenceAttnInFwdIdeal : Cert.ReferenceAttnInFwdIdeal.Facts] : Prop :=
  ∀ (m : (ℓ : Loc Cert.KernelAttnInFwdIdeal.nD Cert.KernelAttnInFwdIdeal.τ Cert.KernelAttnInFwdIdeal.sig) → Buf (Elt Ideal) ℓ) (g : Dev Cert.KernelAttnInFwdIdeal.nD → PrngReg)
    (m' : (ℓ : Loc Cert.ReferenceAttnInFwdIdeal.nD Cert.ReferenceAttnInFwdIdeal.τ Cert.ReferenceAttnInFwdIdeal.sig) → Buf (Elt Ideal) ℓ) (g' : Dev Cert.ReferenceAttnInFwdIdeal.nD → PrngReg), Pre_KernelAttnInFwdIdeal m →
    (∀ c : Dev Cert.KernelAttnInFwdIdeal.nD,
      m' ((c.tc : Thread Cert.ReferenceAttnInFwdIdeal.nD Cert.ReferenceAttnInFwdIdeal.τ).loc Cert.ReferenceAttnInFwdIdeal.main_arg0) = m ((c.tc : Thread Cert.KernelAttnInFwdIdeal.nD Cert.KernelAttnInFwdIdeal.τ).loc Cert.KernelAttnInFwdIdeal.main_arg0)
      ∧ m' ((c.tc : Thread Cert.ReferenceAttnInFwdIdeal.nD Cert.ReferenceAttnInFwdIdeal.τ).loc Cert.ReferenceAttnInFwdIdeal.main_arg1) = m ((c.tc : Thread Cert.KernelAttnInFwdIdeal.nD Cert.KernelAttnInFwdIdeal.τ).loc Cert.KernelAttnInFwdIdeal.main_arg1)
      ∧ m' ((c.tc : Thread Cert.ReferenceAttnInFwdIdeal.nD Cert.ReferenceAttnInFwdIdeal.τ).loc Cert.ReferenceAttnInFwdIdeal.main_arg2) = m ((c.tc : Thread Cert.KernelAttnInFwdIdeal.nD Cert.KernelAttnInFwdIdeal.τ).loc Cert.KernelAttnInFwdIdeal.main_arg2)
      ∧ m' ((c.tc : Thread Cert.ReferenceAttnInFwdIdeal.nD Cert.ReferenceAttnInFwdIdeal.τ).loc Cert.ReferenceAttnInFwdIdeal.main_arg3) = m ((c.tc : Thread Cert.KernelAttnInFwdIdeal.nD Cert.KernelAttnInFwdIdeal.τ).loc Cert.KernelAttnInFwdIdeal.main_arg3)
      ∧ m' ((c.tc : Thread Cert.ReferenceAttnInFwdIdeal.nD Cert.ReferenceAttnInFwdIdeal.τ).loc Cert.ReferenceAttnInFwdIdeal.main_arg4) = m ((c.tc : Thread Cert.KernelAttnInFwdIdeal.nD Cert.KernelAttnInFwdIdeal.τ).loc Cert.KernelAttnInFwdIdeal.main_arg4)) →
    ∃ (v0 : (c : Dev Cert.KernelAttnInFwdIdeal.nD) → Buf (Elt Ideal) ((c.tc : Thread Cert.KernelAttnInFwdIdeal.nD Cert.KernelAttnInFwdIdeal.τ).loc Cert.KernelAttnInFwdIdeal.main_v4_0)) (v1 : (c : Dev Cert.KernelAttnInFwdIdeal.nD) → Buf (Elt Ideal) ((c.tc : Thread Cert.KernelAttnInFwdIdeal.nD Cert.KernelAttnInFwdIdeal.τ).loc Cert.KernelAttnInFwdIdeal.main_v4_1)) (v2 : (c : Dev Cert.KernelAttnInFwdIdeal.nD) → Buf (Elt Ideal) ((c.tc : Thread Cert.KernelAttnInFwdIdeal.nD Cert.KernelAttnInFwdIdeal.τ).loc Cert.KernelAttnInFwdIdeal.main_v4_2)) (v3 : (c : Dev Cert.KernelAttnInFwdIdeal.nD) → Buf (Elt Ideal) ((c.tc : Thread Cert.KernelAttnInFwdIdeal.nD Cert.KernelAttnInFwdIdeal.τ).loc Cert.KernelAttnInFwdIdeal.main_v4_3)),
      θ_run (Cert.KernelAttnInFwdIdeal.defs (F := Ideal)) (onTc (τ := Cert.KernelAttnInFwdIdeal.τ) (Cert.KernelAttnInFwdIdeal.main (F := Ideal))) ⟨m, fun _ => 0, g⟩ (fun r => ∀ c : Dev Cert.KernelAttnInFwdIdeal.nD,
          r.2.mem ((c.tc : Thread Cert.KernelAttnInFwdIdeal.nD Cert.KernelAttnInFwdIdeal.τ).loc Cert.KernelAttnInFwdIdeal.main_v4_0) = v0 c
          ∧ r.2.mem ((c.tc : Thread Cert.KernelAttnInFwdIdeal.nD Cert.KernelAttnInFwdIdeal.τ).loc Cert.KernelAttnInFwdIdeal.main_v4_1) = v1 c
          ∧ r.2.mem ((c.tc : Thread Cert.KernelAttnInFwdIdeal.nD Cert.KernelAttnInFwdIdeal.τ).loc Cert.KernelAttnInFwdIdeal.main_v4_2) = v2 c
          ∧ r.2.mem ((c.tc : Thread Cert.KernelAttnInFwdIdeal.nD Cert.KernelAttnInFwdIdeal.τ).loc Cert.KernelAttnInFwdIdeal.main_v4_3) = v3 c
          ∧ r.2.mem ((c.tc : Thread Cert.KernelAttnInFwdIdeal.nD Cert.KernelAttnInFwdIdeal.τ).loc Cert.KernelAttnInFwdIdeal.main_arg0) = m ((c.tc : Thread Cert.KernelAttnInFwdIdeal.nD Cert.KernelAttnInFwdIdeal.τ).loc Cert.KernelAttnInFwdIdeal.main_arg0)
          ∧ r.2.mem ((c.tc : Thread Cert.KernelAttnInFwdIdeal.nD Cert.KernelAttnInFwdIdeal.τ).loc Cert.KernelAttnInFwdIdeal.main_arg1) = m ((c.tc : Thread Cert.KernelAttnInFwdIdeal.nD Cert.KernelAttnInFwdIdeal.τ).loc Cert.KernelAttnInFwdIdeal.main_arg1)
          ∧ r.2.mem ((c.tc : Thread Cert.KernelAttnInFwdIdeal.nD Cert.KernelAttnInFwdIdeal.τ).loc Cert.KernelAttnInFwdIdeal.main_arg2) = m ((c.tc : Thread Cert.KernelAttnInFwdIdeal.nD Cert.KernelAttnInFwdIdeal.τ).loc Cert.KernelAttnInFwdIdeal.main_arg2)
          ∧ r.2.mem ((c.tc : Thread Cert.KernelAttnInFwdIdeal.nD Cert.KernelAttnInFwdIdeal.τ).loc Cert.KernelAttnInFwdIdeal.main_arg3) = m ((c.tc : Thread Cert.KernelAttnInFwdIdeal.nD Cert.KernelAttnInFwdIdeal.τ).loc Cert.KernelAttnInFwdIdeal.main_arg3)
          ∧ r.2.mem ((c.tc : Thread Cert.KernelAttnInFwdIdeal.nD Cert.KernelAttnInFwdIdeal.τ).loc Cert.KernelAttnInFwdIdeal.main_arg4) = m ((c.tc : Thread Cert.KernelAttnInFwdIdeal.nD Cert.KernelAttnInFwdIdeal.τ).loc Cert.KernelAttnInFwdIdeal.main_arg4))
      ∧ θ_run (Cert.ReferenceAttnInFwdIdeal.defs (F := Ideal)) (onTc (τ := Cert.ReferenceAttnInFwdIdeal.τ) (Cert.ReferenceAttnInFwdIdeal.main (F := Ideal))) ⟨m', fun _ => 0, g'⟩ (fun r => ∀ c : Dev Cert.ReferenceAttnInFwdIdeal.nD,
          r.2.mem ((c.tc : Thread Cert.ReferenceAttnInFwdIdeal.nD Cert.ReferenceAttnInFwdIdeal.τ).loc Cert.ReferenceAttnInFwdIdeal.main_v18) = v0 c
          ∧ r.2.mem ((c.tc : Thread Cert.ReferenceAttnInFwdIdeal.nD Cert.ReferenceAttnInFwdIdeal.τ).loc Cert.ReferenceAttnInFwdIdeal.main_v19) = v1 c
          ∧ r.2.mem ((c.tc : Thread Cert.ReferenceAttnInFwdIdeal.nD Cert.ReferenceAttnInFwdIdeal.τ).loc Cert.ReferenceAttnInFwdIdeal.main_v20) = v2 c
          ∧ r.2.mem ((c.tc : Thread Cert.ReferenceAttnInFwdIdeal.nD Cert.ReferenceAttnInFwdIdeal.τ).loc Cert.ReferenceAttnInFwdIdeal.main_v25) = v3 c
          ∧ r.2.mem ((c.tc : Thread Cert.ReferenceAttnInFwdIdeal.nD Cert.ReferenceAttnInFwdIdeal.τ).loc Cert.ReferenceAttnInFwdIdeal.main_arg0) = m' ((c.tc : Thread Cert.ReferenceAttnInFwdIdeal.nD Cert.ReferenceAttnInFwdIdeal.τ).loc Cert.ReferenceAttnInFwdIdeal.main_arg0)
          ∧ r.2.mem ((c.tc : Thread Cert.ReferenceAttnInFwdIdeal.nD Cert.ReferenceAttnInFwdIdeal.τ).loc Cert.ReferenceAttnInFwdIdeal.main_arg1) = m' ((c.tc : Thread Cert.ReferenceAttnInFwdIdeal.nD Cert.ReferenceAttnInFwdIdeal.τ).loc Cert.ReferenceAttnInFwdIdeal.main_arg1)
          ∧ r.2.mem ((c.tc : Thread Cert.ReferenceAttnInFwdIdeal.nD Cert.ReferenceAttnInFwdIdeal.τ).loc Cert.ReferenceAttnInFwdIdeal.main_arg2) = m' ((c.tc : Thread Cert.ReferenceAttnInFwdIdeal.nD Cert.ReferenceAttnInFwdIdeal.τ).loc Cert.ReferenceAttnInFwdIdeal.main_arg2)
          ∧ r.2.mem ((c.tc : Thread Cert.ReferenceAttnInFwdIdeal.nD Cert.ReferenceAttnInFwdIdeal.τ).loc Cert.ReferenceAttnInFwdIdeal.main_arg3) = m' ((c.tc : Thread Cert.ReferenceAttnInFwdIdeal.nD Cert.ReferenceAttnInFwdIdeal.τ).loc Cert.ReferenceAttnInFwdIdeal.main_arg3)
          ∧ r.2.mem ((c.tc : Thread Cert.ReferenceAttnInFwdIdeal.nD Cert.ReferenceAttnInFwdIdeal.τ).loc Cert.ReferenceAttnInFwdIdeal.main_arg4) = m' ((c.tc : Thread Cert.ReferenceAttnInFwdIdeal.nD Cert.ReferenceAttnInFwdIdeal.τ).loc Cert.ReferenceAttnInFwdIdeal.main_arg4))

def preserves_KernelDwConv_KernelDwConvIdeal : Prop :=
  True

def preserves_KernelDwConvFwd_KernelDwConvFwdIdeal : Prop :=
  True

def algebraic_KernelDwConvFwdIdeal_ReferenceDwConvFwdIdeal [hKernelDwConvFwdIdeal : Cert.KernelDwConvFwdIdeal.Facts] [hReferenceDwConvFwdIdeal : Cert.ReferenceDwConvFwdIdeal.Facts] : Prop :=
  ∀ (m : (ℓ : Loc Cert.KernelDwConvFwdIdeal.nD Cert.KernelDwConvFwdIdeal.τ Cert.KernelDwConvFwdIdeal.sig) → Buf (Elt Ideal) ℓ) (g : Dev Cert.KernelDwConvFwdIdeal.nD → PrngReg)
    (m' : (ℓ : Loc Cert.ReferenceDwConvFwdIdeal.nD Cert.ReferenceDwConvFwdIdeal.τ Cert.ReferenceDwConvFwdIdeal.sig) → Buf (Elt Ideal) ℓ) (g' : Dev Cert.ReferenceDwConvFwdIdeal.nD → PrngReg), Pre_KernelDwConvFwdIdeal m →
    (∀ c : Dev Cert.KernelDwConvFwdIdeal.nD,
      m' ((c.tc : Thread Cert.ReferenceDwConvFwdIdeal.nD Cert.ReferenceDwConvFwdIdeal.τ).loc Cert.ReferenceDwConvFwdIdeal.main_arg0) = m ((c.tc : Thread Cert.KernelDwConvFwdIdeal.nD Cert.KernelDwConvFwdIdeal.τ).loc Cert.KernelDwConvFwdIdeal.main_arg0)
      ∧ m' ((c.tc : Thread Cert.ReferenceDwConvFwdIdeal.nD Cert.ReferenceDwConvFwdIdeal.τ).loc Cert.ReferenceDwConvFwdIdeal.main_arg1) = m ((c.tc : Thread Cert.KernelDwConvFwdIdeal.nD Cert.KernelDwConvFwdIdeal.τ).loc Cert.KernelDwConvFwdIdeal.main_arg1)
      ∧ m' ((c.tc : Thread Cert.ReferenceDwConvFwdIdeal.nD Cert.ReferenceDwConvFwdIdeal.τ).loc Cert.ReferenceDwConvFwdIdeal.main_arg2) = m ((c.tc : Thread Cert.KernelDwConvFwdIdeal.nD Cert.KernelDwConvFwdIdeal.τ).loc Cert.KernelDwConvFwdIdeal.main_arg2)) →
    ∃ (v0 : (c : Dev Cert.KernelDwConvFwdIdeal.nD) → Buf (Elt Ideal) ((c.tc : Thread Cert.KernelDwConvFwdIdeal.nD Cert.KernelDwConvFwdIdeal.τ).loc Cert.KernelDwConvFwdIdeal.main_v1)),
      θ_run (Cert.KernelDwConvFwdIdeal.defs (F := Ideal)) (onTc (τ := Cert.KernelDwConvFwdIdeal.τ) (Cert.KernelDwConvFwdIdeal.main (F := Ideal))) ⟨m, fun _ => 0, g⟩ (fun r => ∀ c : Dev Cert.KernelDwConvFwdIdeal.nD,
          r.2.mem ((c.tc : Thread Cert.KernelDwConvFwdIdeal.nD Cert.KernelDwConvFwdIdeal.τ).loc Cert.KernelDwConvFwdIdeal.main_v1) = v0 c
          ∧ r.2.mem ((c.tc : Thread Cert.KernelDwConvFwdIdeal.nD Cert.KernelDwConvFwdIdeal.τ).loc Cert.KernelDwConvFwdIdeal.main_arg0) = m ((c.tc : Thread Cert.KernelDwConvFwdIdeal.nD Cert.KernelDwConvFwdIdeal.τ).loc Cert.KernelDwConvFwdIdeal.main_arg0)
          ∧ r.2.mem ((c.tc : Thread Cert.KernelDwConvFwdIdeal.nD Cert.KernelDwConvFwdIdeal.τ).loc Cert.KernelDwConvFwdIdeal.main_arg1) = m ((c.tc : Thread Cert.KernelDwConvFwdIdeal.nD Cert.KernelDwConvFwdIdeal.τ).loc Cert.KernelDwConvFwdIdeal.main_arg1)
          ∧ r.2.mem ((c.tc : Thread Cert.KernelDwConvFwdIdeal.nD Cert.KernelDwConvFwdIdeal.τ).loc Cert.KernelDwConvFwdIdeal.main_arg2) = m ((c.tc : Thread Cert.KernelDwConvFwdIdeal.nD Cert.KernelDwConvFwdIdeal.τ).loc Cert.KernelDwConvFwdIdeal.main_arg2))
      ∧ θ_run (Cert.ReferenceDwConvFwdIdeal.defs (F := Ideal)) (onTc (τ := Cert.ReferenceDwConvFwdIdeal.τ) (Cert.ReferenceDwConvFwdIdeal.main (F := Ideal))) ⟨m', fun _ => 0, g'⟩ (fun r => ∀ c : Dev Cert.ReferenceDwConvFwdIdeal.nD,
          r.2.mem ((c.tc : Thread Cert.ReferenceDwConvFwdIdeal.nD Cert.ReferenceDwConvFwdIdeal.τ).loc Cert.ReferenceDwConvFwdIdeal.main_v221) = v0 c
          ∧ r.2.mem ((c.tc : Thread Cert.ReferenceDwConvFwdIdeal.nD Cert.ReferenceDwConvFwdIdeal.τ).loc Cert.ReferenceDwConvFwdIdeal.main_arg0) = m' ((c.tc : Thread Cert.ReferenceDwConvFwdIdeal.nD Cert.ReferenceDwConvFwdIdeal.τ).loc Cert.ReferenceDwConvFwdIdeal.main_arg0)
          ∧ r.2.mem ((c.tc : Thread Cert.ReferenceDwConvFwdIdeal.nD Cert.ReferenceDwConvFwdIdeal.τ).loc Cert.ReferenceDwConvFwdIdeal.main_arg1) = m' ((c.tc : Thread Cert.ReferenceDwConvFwdIdeal.nD Cert.ReferenceDwConvFwdIdeal.τ).loc Cert.ReferenceDwConvFwdIdeal.main_arg1)
          ∧ r.2.mem ((c.tc : Thread Cert.ReferenceDwConvFwdIdeal.nD Cert.ReferenceDwConvFwdIdeal.τ).loc Cert.ReferenceDwConvFwdIdeal.main_arg2) = m' ((c.tc : Thread Cert.ReferenceDwConvFwdIdeal.nD Cert.ReferenceDwConvFwdIdeal.τ).loc Cert.ReferenceDwConvFwdIdeal.main_arg2))

def Claim : Prop :=
  ∃ (hKernelScan : Cert.KernelScan.Facts) (hKernelScanIdeal : Cert.KernelScanIdeal.Facts) (hReferenceScanIdeal : Cert.ReferenceScanIdeal.Facts) (hKernelAttn : Cert.KernelAttn.Facts) (hKernelAttnIdeal : Cert.KernelAttnIdeal.Facts) (hReferenceAttnIdeal : Cert.ReferenceAttnIdeal.Facts) (hKernelLoss : Cert.KernelLoss.Facts) (hKernelLossIdeal : Cert.KernelLossIdeal.Facts) (hReferenceLossIdeal : Cert.ReferenceLossIdeal.Facts) (hKernelAttnOut : Cert.KernelAttnOut.Facts) (hKernelAttnOutIdeal : Cert.KernelAttnOutIdeal.Facts) (hReferenceAttnOutIdeal : Cert.ReferenceAttnOutIdeal.Facts) (hKernelAttnFwd : Cert.KernelAttnFwd.Facts) (hKernelAttnFwdIdeal : Cert.KernelAttnFwdIdeal.Facts) (hReferenceAttnFwdIdeal : Cert.ReferenceAttnFwdIdeal.Facts) (hKernelMlp : Cert.KernelMlp.Facts) (hKernelMlpIdeal : Cert.KernelMlpIdeal.Facts) (hReferenceMlpIdeal : Cert.ReferenceMlpIdeal.Facts) (hKernelConvIn : Cert.KernelConvIn.Facts) (hKernelConvInIdeal : Cert.KernelConvInIdeal.Facts) (hReferenceConvInIdeal : Cert.ReferenceConvInIdeal.Facts) (hKernelConvOut : Cert.KernelConvOut.Facts) (hKernelConvOutIdeal : Cert.KernelConvOutIdeal.Facts) (hReferenceConvOutIdeal : Cert.ReferenceConvOutIdeal.Facts) (hKernelAttnIn : Cert.KernelAttnIn.Facts) (hKernelAttnInIdeal : Cert.KernelAttnInIdeal.Facts) (hReferenceAttnInIdeal : Cert.ReferenceAttnInIdeal.Facts) (hKernelAttnOutFwd : Cert.KernelAttnOutFwd.Facts) (hKernelAttnOutFwdIdeal : Cert.KernelAttnOutFwdIdeal.Facts) (hReferenceAttnOutFwdIdeal : Cert.ReferenceAttnOutFwdIdeal.Facts) (hKernelMlpFwd : Cert.KernelMlpFwd.Facts) (hKernelMlpFwdIdeal : Cert.KernelMlpFwdIdeal.Facts) (hReferenceMlpFwdIdeal : Cert.ReferenceMlpFwdIdeal.Facts) (hKernelConvInFwd : Cert.KernelConvInFwd.Facts) (hKernelConvInFwdIdeal : Cert.KernelConvInFwdIdeal.Facts) (hReferenceConvInFwdIdeal : Cert.ReferenceConvInFwdIdeal.Facts) (hKernelConvOutFwd : Cert.KernelConvOutFwd.Facts) (hKernelConvOutFwdIdeal : Cert.KernelConvOutFwdIdeal.Facts) (hReferenceConvOutFwdIdeal : Cert.ReferenceConvOutFwdIdeal.Facts) (hKernelAttnInFwd : Cert.KernelAttnInFwd.Facts) (hKernelAttnInFwdIdeal : Cert.KernelAttnInFwdIdeal.Facts) (hReferenceAttnInFwdIdeal : Cert.ReferenceAttnInFwdIdeal.Facts) (hKernelDwConv : Cert.KernelDwConv.Facts) (hKernelDwConvIdeal : Cert.KernelDwConvIdeal.Facts) (hReferenceDwConvIdeal : Cert.ReferenceDwConvIdeal.Facts) (hKernelDwConvFwd : Cert.KernelDwConvFwd.Facts) (hKernelDwConvFwdIdeal : Cert.KernelDwConvFwdIdeal.Facts) (hReferenceDwConvFwdIdeal : Cert.ReferenceDwConvFwdIdeal.Facts) (hPre_finite : Cert.Pre_finite.Facts) (hPre_finite_ao : Cert.Pre_finite_ao.Facts) (hPre_finite_fwd : Cert.Pre_finite_fwd.Facts) (hPre_finite_mlp : Cert.Pre_finite_mlp.Facts) (hPre_finite_ci : Cert.Pre_finite_ci.Facts) (hPre_finite_co : Cert.Pre_finite_co.Facts) (hPre_finite_ai : Cert.Pre_finite_ai.Facts),
    quiescent_KernelScan (hKernelScan := hKernelScan)
    ∧ quiescent_KernelScanIdeal (hKernelScanIdeal := hKernelScanIdeal)
    ∧ quiescent_ReferenceScanIdeal (hReferenceScanIdeal := hReferenceScanIdeal)
    ∧ quiescent_KernelAttn (hKernelAttn := hKernelAttn)
    ∧ quiescent_KernelAttnIdeal (hKernelAttnIdeal := hKernelAttnIdeal)
    ∧ quiescent_KernelAttnIdeal_pre_finite (hKernelAttnIdeal := hKernelAttnIdeal) (hPre_finite := hPre_finite)
    ∧ quiescent_ReferenceAttnIdeal (hReferenceAttnIdeal := hReferenceAttnIdeal)
    ∧ quiescent_ReferenceAttnIdeal_pre_finite (hReferenceAttnIdeal := hReferenceAttnIdeal) (hPre_finite := hPre_finite)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAttnOut (hKernelAttnOut := hKernelAttnOut)
    ∧ quiescent_KernelAttnOutIdeal (hKernelAttnOutIdeal := hKernelAttnOutIdeal)
    ∧ quiescent_KernelAttnOutIdeal_pre_finite_ao (hKernelAttnOutIdeal := hKernelAttnOutIdeal) (hPre_finite_ao := hPre_finite_ao)
    ∧ quiescent_ReferenceAttnOutIdeal (hReferenceAttnOutIdeal := hReferenceAttnOutIdeal)
    ∧ quiescent_ReferenceAttnOutIdeal_pre_finite_ao (hReferenceAttnOutIdeal := hReferenceAttnOutIdeal) (hPre_finite_ao := hPre_finite_ao)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_finite_fwd (hKernelAttnFwdIdeal := hKernelAttnFwdIdeal) (hPre_finite_fwd := hPre_finite_fwd)
    ∧ quiescent_ReferenceAttnFwdIdeal (hReferenceAttnFwdIdeal := hReferenceAttnFwdIdeal)
    ∧ quiescent_ReferenceAttnFwdIdeal_pre_finite_fwd (hReferenceAttnFwdIdeal := hReferenceAttnFwdIdeal) (hPre_finite_fwd := hPre_finite_fwd)
    ∧ quiescent_KernelMlp (hKernelMlp := hKernelMlp)
    ∧ quiescent_KernelMlpIdeal (hKernelMlpIdeal := hKernelMlpIdeal)
    ∧ quiescent_KernelMlpIdeal_pre_finite_mlp (hKernelMlpIdeal := hKernelMlpIdeal) (hPre_finite_mlp := hPre_finite_mlp)
    ∧ quiescent_ReferenceMlpIdeal (hReferenceMlpIdeal := hReferenceMlpIdeal)
    ∧ quiescent_ReferenceMlpIdeal_pre_finite_mlp (hReferenceMlpIdeal := hReferenceMlpIdeal) (hPre_finite_mlp := hPre_finite_mlp)
    ∧ quiescent_KernelConvIn (hKernelConvIn := hKernelConvIn)
    ∧ quiescent_KernelConvInIdeal (hKernelConvInIdeal := hKernelConvInIdeal)
    ∧ quiescent_KernelConvInIdeal_pre_finite_ci (hKernelConvInIdeal := hKernelConvInIdeal) (hPre_finite_ci := hPre_finite_ci)
    ∧ quiescent_ReferenceConvInIdeal (hReferenceConvInIdeal := hReferenceConvInIdeal)
    ∧ quiescent_ReferenceConvInIdeal_pre_finite_ci (hReferenceConvInIdeal := hReferenceConvInIdeal) (hPre_finite_ci := hPre_finite_ci)
    ∧ quiescent_KernelConvOut (hKernelConvOut := hKernelConvOut)
    ∧ quiescent_KernelConvOutIdeal (hKernelConvOutIdeal := hKernelConvOutIdeal)
    ∧ quiescent_KernelConvOutIdeal_pre_finite_co (hKernelConvOutIdeal := hKernelConvOutIdeal) (hPre_finite_co := hPre_finite_co)
    ∧ quiescent_ReferenceConvOutIdeal (hReferenceConvOutIdeal := hReferenceConvOutIdeal)
    ∧ quiescent_ReferenceConvOutIdeal_pre_finite_co (hReferenceConvOutIdeal := hReferenceConvOutIdeal) (hPre_finite_co := hPre_finite_co)
    ∧ quiescent_KernelAttnIn (hKernelAttnIn := hKernelAttnIn)
    ∧ quiescent_KernelAttnInIdeal (hKernelAttnInIdeal := hKernelAttnInIdeal)
    ∧ quiescent_KernelAttnInIdeal_pre_finite_ai (hKernelAttnInIdeal := hKernelAttnInIdeal) (hPre_finite_ai := hPre_finite_ai)
    ∧ quiescent_ReferenceAttnInIdeal (hReferenceAttnInIdeal := hReferenceAttnInIdeal)
    ∧ quiescent_ReferenceAttnInIdeal_pre_finite_ai (hReferenceAttnInIdeal := hReferenceAttnInIdeal) (hPre_finite_ai := hPre_finite_ai)
    ∧ quiescent_KernelAttnOutFwd (hKernelAttnOutFwd := hKernelAttnOutFwd)
    ∧ quiescent_KernelAttnOutFwdIdeal (hKernelAttnOutFwdIdeal := hKernelAttnOutFwdIdeal)
    ∧ quiescent_ReferenceAttnOutFwdIdeal (hReferenceAttnOutFwdIdeal := hReferenceAttnOutFwdIdeal)
    ∧ quiescent_KernelMlpFwd (hKernelMlpFwd := hKernelMlpFwd)
    ∧ quiescent_KernelMlpFwdIdeal (hKernelMlpFwdIdeal := hKernelMlpFwdIdeal)
    ∧ quiescent_ReferenceMlpFwdIdeal (hReferenceMlpFwdIdeal := hReferenceMlpFwdIdeal)
    ∧ quiescent_KernelConvInFwd (hKernelConvInFwd := hKernelConvInFwd)
    ∧ quiescent_KernelConvInFwdIdeal (hKernelConvInFwdIdeal := hKernelConvInFwdIdeal)
    ∧ quiescent_ReferenceConvInFwdIdeal (hReferenceConvInFwdIdeal := hReferenceConvInFwdIdeal)
    ∧ quiescent_KernelConvOutFwd (hKernelConvOutFwd := hKernelConvOutFwd)
    ∧ quiescent_KernelConvOutFwdIdeal (hKernelConvOutFwdIdeal := hKernelConvOutFwdIdeal)
    ∧ quiescent_ReferenceConvOutFwdIdeal (hReferenceConvOutFwdIdeal := hReferenceConvOutFwdIdeal)
    ∧ quiescent_KernelAttnInFwd (hKernelAttnInFwd := hKernelAttnInFwd)
    ∧ quiescent_KernelAttnInFwdIdeal (hKernelAttnInFwdIdeal := hKernelAttnInFwdIdeal)
    ∧ quiescent_ReferenceAttnInFwdIdeal (hReferenceAttnInFwdIdeal := hReferenceAttnInFwdIdeal)
    ∧ quiescent_KernelDwConv (hKernelDwConv := hKernelDwConv)
    ∧ quiescent_KernelDwConvIdeal (hKernelDwConvIdeal := hKernelDwConvIdeal)
    ∧ quiescent_ReferenceDwConvIdeal (hReferenceDwConvIdeal := hReferenceDwConvIdeal)
    ∧ quiescent_KernelDwConvFwd (hKernelDwConvFwd := hKernelDwConvFwd)
    ∧ quiescent_KernelDwConvFwdIdeal (hKernelDwConvFwdIdeal := hKernelDwConvFwdIdeal)
    ∧ quiescent_ReferenceDwConvFwdIdeal (hReferenceDwConvFwdIdeal := hReferenceDwConvFwdIdeal)
    ∧ preserves_KernelScan_KernelScanIdeal
    ∧ algebraic_KernelScanIdeal_ReferenceScanIdeal (hKernelScanIdeal := hKernelScanIdeal) (hReferenceScanIdeal := hReferenceScanIdeal)
    ∧ preserves_KernelAttn_KernelAttnIdeal
    ∧ algebraic_KernelAttnIdeal_ReferenceAttnIdeal_pre_finite (hKernelAttnIdeal := hKernelAttnIdeal) (hReferenceAttnIdeal := hReferenceAttnIdeal) (hPre_finite := hPre_finite)
    ∧ preserves_KernelLoss_KernelLossIdeal
    ∧ algebraic_KernelLossIdeal_ReferenceLossIdeal (hKernelLossIdeal := hKernelLossIdeal) (hReferenceLossIdeal := hReferenceLossIdeal)
    ∧ preserves_KernelAttnOut_KernelAttnOutIdeal
    ∧ algebraic_KernelAttnOutIdeal_ReferenceAttnOutIdeal_pre_finite_ao (hKernelAttnOutIdeal := hKernelAttnOutIdeal) (hReferenceAttnOutIdeal := hReferenceAttnOutIdeal) (hPre_finite_ao := hPre_finite_ao)
    ∧ preserves_KernelAttnFwd_KernelAttnFwdIdeal
    ∧ algebraic_KernelAttnFwdIdeal_ReferenceAttnFwdIdeal_pre_finite_fwd (hKernelAttnFwdIdeal := hKernelAttnFwdIdeal) (hReferenceAttnFwdIdeal := hReferenceAttnFwdIdeal) (hPre_finite_fwd := hPre_finite_fwd)
    ∧ preserves_KernelMlp_KernelMlpIdeal
    ∧ algebraic_KernelMlpIdeal_ReferenceMlpIdeal_pre_finite_mlp (hKernelMlpIdeal := hKernelMlpIdeal) (hReferenceMlpIdeal := hReferenceMlpIdeal) (hPre_finite_mlp := hPre_finite_mlp)
    ∧ preserves_KernelConvIn_KernelConvInIdeal
    ∧ algebraic_KernelConvInIdeal_ReferenceConvInIdeal_pre_finite_ci (hKernelConvInIdeal := hKernelConvInIdeal) (hReferenceConvInIdeal := hReferenceConvInIdeal) (hPre_finite_ci := hPre_finite_ci)
    ∧ preserves_KernelConvOut_KernelConvOutIdeal
    ∧ algebraic_KernelConvOutIdeal_ReferenceConvOutIdeal_pre_finite_co (hKernelConvOutIdeal := hKernelConvOutIdeal) (hReferenceConvOutIdeal := hReferenceConvOutIdeal) (hPre_finite_co := hPre_finite_co)
    ∧ preserves_KernelAttnIn_KernelAttnInIdeal
    ∧ algebraic_KernelAttnInIdeal_ReferenceAttnInIdeal_pre_finite_ai (hKernelAttnInIdeal := hKernelAttnInIdeal) (hReferenceAttnInIdeal := hReferenceAttnInIdeal) (hPre_finite_ai := hPre_finite_ai)
    ∧ preserves_KernelAttnOutFwd_KernelAttnOutFwdIdeal
    ∧ algebraic_KernelAttnOutFwdIdeal_ReferenceAttnOutFwdIdeal (hKernelAttnOutFwdIdeal := hKernelAttnOutFwdIdeal) (hReferenceAttnOutFwdIdeal := hReferenceAttnOutFwdIdeal)
    ∧ preserves_KernelMlpFwd_KernelMlpFwdIdeal
    ∧ algebraic_KernelMlpFwdIdeal_ReferenceMlpFwdIdeal (hKernelMlpFwdIdeal := hKernelMlpFwdIdeal) (hReferenceMlpFwdIdeal := hReferenceMlpFwdIdeal)
    ∧ preserves_KernelConvInFwd_KernelConvInFwdIdeal
    ∧ algebraic_KernelConvInFwdIdeal_ReferenceConvInFwdIdeal (hKernelConvInFwdIdeal := hKernelConvInFwdIdeal) (hReferenceConvInFwdIdeal := hReferenceConvInFwdIdeal)
    ∧ preserves_KernelConvOutFwd_KernelConvOutFwdIdeal
    ∧ algebraic_KernelConvOutFwdIdeal_ReferenceConvOutFwdIdeal (hKernelConvOutFwdIdeal := hKernelConvOutFwdIdeal) (hReferenceConvOutFwdIdeal := hReferenceConvOutFwdIdeal)
    ∧ preserves_KernelAttnInFwd_KernelAttnInFwdIdeal
    ∧ algebraic_KernelAttnInFwdIdeal_ReferenceAttnInFwdIdeal (hKernelAttnInFwdIdeal := hKernelAttnInFwdIdeal) (hReferenceAttnInFwdIdeal := hReferenceAttnInFwdIdeal)
    ∧ preserves_KernelDwConv_KernelDwConvIdeal
    ∧ preserves_KernelDwConvFwd_KernelDwConvFwdIdeal
    ∧ algebraic_KernelDwConvFwdIdeal_ReferenceDwConvFwdIdeal (hKernelDwConvFwdIdeal := hKernelDwConvFwdIdeal) (hReferenceDwConvFwdIdeal := hReferenceDwConvFwdIdeal)
-- ==== Pre_finite.lean ====
abbrev S1x8192x1024 : Shape := ⟨3, ![1, 8192, 1024]⟩
abbrev S1x16x8192 : Shape := ⟨3, ![1, 16, 8192]⟩
abbrev S_ : Shape := ⟨0, ![]⟩

class Facts : Prop where
  bcast_S_S1x8192x1024 : S_.BroadcastsInDim S1x8192x1024 (![] : Fin 0 → Fin S1x8192x1024.rank)
  bcast_S_S1x16x8192 : S_.BroadcastsInDim S1x16x8192 (![] : Fin 0 → Fin S1x16x8192.rank)

variable [Facts]

def fn {F : FTy → Type} [FloatOps F] (main_arg0 : FVec F S1x8192x1024 .f32) (main_arg1 : FVec F S1x8192x1024 .f32) (main_arg2 : FVec F S1x8192x1024 .f32) (main_arg3 : FVec F S1x16x8192 .f32) (main_arg4 : FVec F S1x8192x1024 .f32) : IVec S1x8192x1024 1 × IVec S1x16x8192 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x8192x1024 .f32 := Host.absf main_arg4
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : IVec S1x8192x1024 1 := andi main_v2 main_v5
  let main_v13 : IVec S1x8192x1024 1 := andi main_v12 main_v8
  let main_v14 : IVec S1x8192x1024 1 := andi main_v13 main_v11
  let main_v15 : FVec F S1x16x8192 .f32 := Host.absf main_arg3
  let main_cst_3 : FVec F S_ .f32 := constant S_ .f32 0x7F800000#32
  let main_v16 : FVec F S1x16x8192 .f32 := broadcastInDim S1x16x8192 ![] bcast_S_S1x16x8192 main_cst_3
  let main_v17 : IVec S1x16x8192 1 := cmpf .olt main_v15 main_v16
  (main_v14, main_v17)
-- ==== Pre_finite_ai.lean ====
abbrev S8192x1024 : Shape := ⟨2, ![8192, 1024]⟩
abbrev S1x1024 : Shape := ⟨2, ![1, 1024]⟩
abbrev S8192x16 : Shape := ⟨2, ![8192, 16]⟩
abbrev S1024x3072 : Shape := ⟨2, ![1024, 3072]⟩
abbrev S1024x16 : Shape := ⟨2, ![1024, 16]⟩
abbrev S1x16 : Shape := ⟨2, ![1, 16]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x16 : S_.BroadcastsInDim S8192x16 (![] : Fin 0 → Fin S8192x16.rank)
  bcast_S_S1024x3072 : S_.BroadcastsInDim S1024x3072 (![] : Fin 0 → Fin S1024x3072.rank)
  bcast_S_S1024x16 : S_.BroadcastsInDim S1024x16 (![] : Fin 0 → Fin S1024x16.rank)
  bcast_S_S1x16 : S_.BroadcastsInDim S1x16 (![] : Fin 0 → Fin S1x16.rank)

variable [Facts]

def fn_part1 {F : FTy → Type} [FloatOps F] (main_arg2 : FVec F S1x1024 .f32) (main_arg6 : FVec F S8192x16 .f32) (main_arg7 : FVec F S1024x3072 .f32) (main_arg8 : FVec F S1024x16 .f32) (main_arg9 : FVec F S1x16 .f32) (main_v18 : IVec S8192x1024 1) : IVec S8192x1024 1 × IVec S1x1024 1 × IVec S8192x16 1 × IVec S1024x3072 1 × IVec S1024x16 1 × IVec S1x16 1 :=
  let main_v19 : FVec F S1x1024 .f32 := Host.absf main_arg2
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S8192x16 .f32 := Host.absf main_arg6
  let main_cst_5 : FVec F S_ .f32 := constant S_ .f32 0x7F800000#32
  let main_v23 : FVec F S8192x16 .f32 := broadcastInDim S8192x16 ![] bcast_S_S8192x16 main_cst_5
  let main_v24 : IVec S8192x16 1 := cmpf .olt main_v22 main_v23
  let main_v25 : FVec F S1024x3072 .f32 := Host.absf main_arg7
  let main_cst_6 : FVec F S_ .f32 := constant S_ .f32 0x7F800000#32
  let main_v26 : FVec F S1024x3072 .f32 := broadcastInDim S1024x3072 ![] bcast_S_S1024x3072 main_cst_6
  let main_v27 : IVec S1024x3072 1 := cmpf .olt main_v25 main_v26
  let main_v28 : FVec F S1024x16 .f32 := Host.absf main_arg8
  let main_cst_7 : FVec F S_ .f32 := constant S_ .f32 0x7F800000#32
  let main_v29 : FVec F S1024x16 .f32 := broadcastInDim S1024x16 ![] bcast_S_S1024x16 main_cst_7
  let main_v30 : IVec S1024x16 1 := cmpf .olt main_v28 main_v29
  let main_v31 : FVec F S1x16 .f32 := Host.absf main_arg9
  let main_cst_8 : FVec F S_ .f32 := constant S_ .f32 0x7F800000#32
  let main_v32 : FVec F S1x16 .f32 := broadcastInDim S1x16 ![] bcast_S_S1x16 main_cst_8
  let main_v33 : IVec S1x16 1 := cmpf .olt main_v31 main_v32
  (main_v18, main_v21, main_v24, main_v27, main_v30, main_v33)

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S8192x1024 .f32) (main_arg5 : FVec F S8192x1024 .f32) (main_arg6 : FVec F S8192x16 .f32) (main_arg7 : FVec F S1024x3072 .f32) (main_arg8 : FVec F S1024x16 .f32) (main_arg9 : FVec F S1x16 .f32) : IVec S8192x1024 1 × IVec S1x1024 1 × IVec S8192x16 1 × IVec S1024x3072 1 × IVec S1024x16 1 × IVec S1x16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S8192x1024 .f32 := Host.absf main_arg3
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : IVec S8192x1024 1 := andi main_v6 main_v9
  let main_v11 : FVec F S8192x1024 .f32 := Host.absf main_arg4
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : IVec S8192x1024 1 := andi main_v10 main_v13
  let main_v15 : FVec F S8192x1024 .f32 := Host.absf main_arg5
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  let main_v18 : IVec S8192x1024 1 := andi main_v14 main_v17
  fn_part1 (F := F) main_arg2 main_arg6 main_arg7 main_arg8 main_arg9 main_v18
-- ==== Pre_finite_ao.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1024x1024 .f32) (main_arg3 : FVec F S1x1024 .f32) : IVec S8192x1024 1 × IVec S8192x1024 1 × IVec S1024x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_ci.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2048 : S_.BroadcastsInDim S1024x2048 (![] : Fin 0 → Fin S1024x2048.rank)
  bcast_S_S1x2048 : S_.BroadcastsInDim S1x2048 (![] : Fin 0 → Fin S1x2048.rank)

variable [Facts]

def fn_part1 {F : FTy → Type} [FloatOps F] (main_v10 : IVec S8192x1024 1) (main_v13 : IVec S1x1024 1) (main_v16 : IVec S1024x2048 1) (main_v17 : FVec F S1x2048 .f32) (main_cst_4 : FVec F S_ .f32) : IVec S8192x1024 1 × IVec S1x1024 1 × IVec S1024x2048 1 × IVec S1x2048 1 :=
  let main_v18 : FVec F S1x2048 .f32 := broadcastInDim S1x2048 ![] bcast_S_S1x2048 main_cst_4
  let main_v19 : IVec S1x2048 1 := cmpf .olt main_v17 main_v18
  (main_v10, main_v13, main_v16, main_v19)

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1024x2048 .f32) (main_arg5 : FVec F S1x2048 .f32) : IVec S8192x1024 1 × IVec S1x1024 1 × IVec S1024x2048 1 × IVec S1x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : IVec S8192x1024 1 := andi main_v6 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1024x2048 .f32 := Host.absf main_arg4
  let main_cst_3 : FVec F S_ .f32 := constant S_ .f32 0x7F800000#32
  let main_v15 : FVec F S1024x2048 .f32 := broadcastInDim S1024x2048 ![] bcast_S_S1024x2048 main_cst_3
  let main_v16 : IVec S1024x2048 1 := cmpf .olt main_v14 main_v15
  let main_v17 : FVec F S1x2048 .f32 := Host.absf main_arg5
  let main_cst_4 : FVec F S_ .f32 := constant S_ .f32 0x7F800000#32
  fn_part1 (F := F) main_v10 main_v13 main_v16 main_v17 main_cst_4
-- ==== Pre_finite_co.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S1x1024 : S_.BroadcastsInDim S1x1024 (![] : Fin 0 → Fin S1x1024.rank)
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn_part1 {F : FTy → Type} [FloatOps F] (main_arg5 : FVec F S1024x1024 .f32) (main_arg7 : FVec F S1x1024 .f32) (main_v10 : IVec S1x1024 1) (main_v17 : IVec S8192x1024 1) (main_v18 : FVec F S1x1024 .f32) : IVec S8192x1024 1 × IVec S1x1024 1 × IVec S1024x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_v21 : IVec S1x1024 1 := andi main_v10 main_v20
  let main_v22 : FVec F S1x1024 .f32 := Host.absf main_arg7
  let main_cst_5 : FVec F S_ .f32 := constant S_ .f32 0x7F800000#32
  let main_v23 : FVec F S1x1024 .f32 := broadcastInDim S1x1024 ![] bcast_S_S1x1024 main_cst_5
  let main_v24 : IVec S1x1024 1 := cmpf .olt main_v22 main_v23
  let main_v25 : IVec S1x1024 1 := andi main_v21 main_v24
  let main_v26 : FVec F S1024x1024 .f32 := Host.absf main_arg5
  let main_cst_6 : FVec F S_ .f32 := constant S_ .f32 0x7F800000#32
  let main_v27 : FVec F S1024x1024 .f32 := broadcastInDim S1024x1024 ![] bcast_S_S1024x1024 main_cst_6
  let main_v28 : IVec S1024x1024 1 := cmpf .olt main_v26 main_v27
  (main_v17, main_v25, main_v28)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1024x1024 .f32) (main_arg6 : FVec F S1x1024 .f32) (main_arg7 : FVec F S1x1024 .f32) : IVec S8192x1024 1 × IVec S1x1024 1 × IVec S1024x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S1x1024 1 := andi main_v2 main_v5
  let main_v7 : FVec F S1x1024 .f32 := Host.absf main_arg4
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S1x1024 1 := andi main_v6 main_v9
  let main_v11 : FVec F S8192x1024 .f32 := Host.absf main_arg0
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S8192x1024 .f32 := Host.absf main_arg1
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  let main_v17 : IVec S8192x1024 1 := andi main_v13 main_v16
  let main_v18 : FVec F S1x1024 .f32 := Host.absf main_arg6
  fn_part1 (F := F) main_arg5 main_arg7 main_v10 main_v17 main_v18
-- ==== Pre_finite_fwd.lean ====
abbrev S1x8192x1024 : Shape := ⟨3, ![1, 8192, 1024]⟩
abbrev S1x16x8192 : Shape := ⟨3, ![1, 16, 8192]⟩
abbrev S_ : Shape := ⟨0, ![]⟩

class Facts : Prop where
  bcast_S_S1x8192x1024 : S_.BroadcastsInDim S1x8192x1024 (![] : Fin 0 → Fin S1x8192x1024.rank)
  bcast_S_S1x16x8192 : S_.BroadcastsInDim S1x16x8192 (![] : Fin 0 → Fin S1x16x8192.rank)

variable [Facts]

def fn {F : FTy → Type} [FloatOps F] (main_arg0 : FVec F S1x8192x1024 .f32) (main_arg1 : FVec F S1x8192x1024 .f32) (main_arg2 : FVec F S1x8192x1024 .f32) (main_arg3 : FVec F S1x16x8192 .f32) : IVec S1x8192x1024 1 × IVec S1x16x8192 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : IVec S1x8192x1024 1 := andi main_v2 main_v5
  let main_v7 : FVec F S1x8192x1024 .f32 := Host.absf main_arg2
  let main_cst_1 : FVec F S_ .f32 := constant S_ .f32 0x7F800000#32
  let main_v8 : FVec F S1x8192x1024 .f32 := broadcastInDim S1x8192x1024 ![] bcast_S_S1x8192x1024 main_cst_1
  let main_v9 : IVec S1x8192x1024 1 := cmpf .olt main_v7 main_v8
  let main_v10 : IVec S1x8192x1024 1 := andi main_v6 main_v9
  let main_v11 : FVec F S1x16x8192 .f32 := Host.absf main_arg3
  let main_cst_2 : FVec F S_ .f32 := constant S_ .f32 0x7F800000#32
  let main_v12 : FVec F S1x16x8192 .f32 := broadcastInDim S1x16x8192 ![] bcast_S_S1x16x8192 main_cst_2
  let main_v13 : IVec S1x16x8192 1 := cmpf .olt main_v11 main_v12
  (main_v10, main_v13)
-- ==== Pre_finite_mlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_v6 : IVec S8192x1024 1) (main_v13 : IVec S1x1024 1) (main_v16 : IVec S1024x4096 1) (main_v17 : FVec F S4096x1024 .f32) (main_cst_4 : FVec F S_ .f32) : IVec S8192x1024 1 × IVec S1x1024 1 × IVec S1024x4096 1 × IVec S4096x1024 1 :=
  let main_v18 : FVec F S4096x1024 .f32 := broadcastInDim S4096x1024 ![] bcast_S_S4096x1024 main_cst_4
  let main_v19 : IVec S4096x1024 1 := cmpf .olt main_v17 main_v18
  (main_v6, main_v13, main_v16, main_v19)

def fn {F : FTy → Type} [FloatOps F] (main_arg0 : FVec F S8192x1024 .f32) (main_arg1 : FVec F S8192x1024 .f32) (main_arg2 : FVec F S1x1024 .f32) (main_arg3 : FVec F S1024x4096 .f32) (main_arg4 : FVec F S4096x1024 .f32) (main_arg5 : FVec F S1x1024 .f32) : IVec S8192x1024 1 × IVec S1x1024 1 × IVec S1024x4096 1 × IVec S4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := Host.absf main_arg5
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : IVec S1x1024 1 := andi main_v9 main_v12
  let main_v14 : FVec F S1024x4096 .f32 := Host.absf main_arg3
  let main_cst_3 : FVec F S_ .f32 := constant S_ .f32 0x7F800000#32
  let main_v15 : FVec F S1024x4096 .f32 := broadcastInDim S1024x4096 ![] bcast_S_S1024x4096 main_cst_3
  let main_v16 : IVec S1024x4096 1 := cmpf .olt main_v14 main_v15
  let main_v17 : FVec F S4096x1024 .f32 := Host.absf main_arg4
  let main_cst_4 : FVec F S_ .f32 := constant S_ .f32 0x7F800000#32
  fn_part1 (F := F) main_v6 main_v13 main_v16 main_v17 main_cst_4
-- ==== KernelScan.lean ====
abbrev S1x16x8192 : Shape := ⟨3, ![1, 16, 8192]⟩
abbrev S16x8192 : Shape := ⟨2, ![16, 8192]⟩
abbrev S8192x16 : Shape := ⟨2, ![8192, 16]⟩
abbrev S_ : Shape := ⟨0, ![]⟩
abbrev S8192x128 : Shape := ⟨2, ![8192, 128]⟩
abbrev S256x128 : Shape := ⟨2, ![256, 128]⟩
abbrev S1x128 : Shape := ⟨2, ![1, 128]⟩
abbrev S256x256 : Shape := ⟨2, ![256, 256]⟩

abbrev nBuf : Space → Nat
  | .hbm => 13
  | .vmem => 7
  | .smem => 0
  | _ => 0

abbrev bufTy : (tb : Table) → Fin (tcTables nBuf tb) → BufTy
  | .hbm, ⟨0, _⟩ => ⟨S1x16x8192, .f32⟩
  | .hbm, ⟨1, _⟩ => ⟨S1x16x8192, .f32⟩
  | .hbm, ⟨2, _⟩ => ⟨S16x8192, .f32⟩
  | .hbm, ⟨3, _⟩ => ⟨S8192x16, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S16x8192, .f32⟩
  | .hbm, ⟨8, _⟩ => ⟨S8192x16, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | _, _ => ⟨S1x16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceScanIdeal.lean ====
abbrev S1x16x8192 : Shape := ⟨3, ![1, 16, 8192]⟩
abbrev S_ : Shape := ⟨0, ![]⟩
abbrev S1x8192x16 : Shape := ⟨3, ![1, 8192, 16]⟩
abbrev S8192x16 : Shape := ⟨2, ![8192, 16]⟩
abbrev S8192x128 : Shape := ⟨2, ![8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x16x8192, .f32⟩
  | .hbm, ⟨1, _⟩ => ⟨S1x16x8192, .f32⟩
  | .hbm, ⟨2, _⟩ => ⟨S_, .f32⟩
  | .hbm, ⟨3, _⟩ => ⟨S1x8192x16, .f32⟩
  | .hbm, ⟨4, _⟩ => ⟨S_, .f32⟩
  | .hbm, ⟨5, _⟩ => ⟨S_, .f32⟩
  | .hbm, ⟨6, _⟩ => ⟨S1x8192x16, .f32⟩
  | .hbm, ⟨7, _⟩ => ⟨S1x16x8192, .f32⟩
  | .hbm, ⟨8, _⟩ => ⟨S1x16x8192, .f32⟩
  | .hbm, ⟨9, _⟩ => ⟨S1x8192x16, .f32⟩
  | .hbm, ⟨10, _⟩ => ⟨S_, .f32⟩
  | .hbm, ⟨11, _⟩ => ⟨S_, .f32⟩
  | .hbm, ⟨12, _⟩ => ⟨S1x8192x16, .f32⟩
  | .hbm, ⟨13, _⟩ => ⟨S8192x16, .f32⟩
  | .hbm, ⟨14, _⟩ => ⟨S_, .i32⟩
  | .hbm, ⟨15, _⟩ => ⟨S_, .f32⟩
  | .hbm, ⟨16, _⟩ => ⟨S8192x128, .f32⟩
  | _, _ => ⟨S1x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_call0_cst : Ref sig .tc := ⟨.hbm, 10, rfl⟩
abbrev main_call1_call0_v0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call2_v0 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== KernelAttn.lean ====
abbrev S1x8192x1024 : Shape := ⟨3, ![1, 8192, 1024]⟩
abbrev S1x16x8192 : Shape := ⟨3, ![1, 16, 8192]⟩
abbrev S1x8192x16x64 : Shape := ⟨4, ![1, 8192, 16, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S1x16x8192x1 : Shape := ⟨4, ![1, 16, 8192, 1]⟩
abbrev S1x16x1x8192 : Shape := ⟨4, ![1, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x2x16x512 : Shape := ⟨4, ![8, 2, 16, 512]⟩
abbrev S8x16x2x512 : Shape := ⟨4, ![8, 16, 2, 512]⟩
abbrev S8x16x8x512 : Shape := ⟨4, ![8, 16, 8, 512]⟩
abbrev S8192x1024 : Shape := ⟨2, ![8192, 1024]⟩
abbrev S8x2x8192 : Shape := ⟨3, ![8, 2, 8192]⟩
abbrev S8x8192x2 : Shape := ⟨3, ![8, 8192, 2]⟩
abbrev S8x8192x128 : Shape := ⟨3, ![8, 8192, 128]⟩
abbrev S16x512x1024 : Shape := ⟨3, ![16, 512, 1024]⟩
abbrev S512x128 : Shape := ⟨2, ![512, 128]⟩
abbrev S16x512x128 : Shape := ⟨3, ![16, 512, 128]⟩
abbrev S1x512x128 : Shape := ⟨3, ![1, 512, 128]⟩
abbrev S1x16x8x512 : Shape := ⟨4, ![1, 16, 8, 512]⟩
abbrev S16x8x512 : Shape := ⟨3, ![16, 8, 512]⟩
abbrev S1x128 : Shape := ⟨2, ![1, 128]⟩
abbrev S512x512 : Shape := ⟨2, ![512, 512]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 91
  | .vmem => 28
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x16x8192, .f32⟩
  | .hbm, ⟨4, _⟩ => ⟨S1x8192x1024, .f32⟩
  | .hbm, ⟨5, _⟩ => ⟨S1x8192x16x64, .f32⟩
  | .hbm, ⟨6, _⟩ => ⟨S1x16x8192x64, .f32⟩
  | .hbm, ⟨7, _⟩ => ⟨S1x8192x16x64, .f32⟩
  | .hbm, ⟨8, _⟩ => ⟨S1x16x8192x64, .f32⟩
  | .hbm, ⟨9, _⟩ => ⟨S1x8192x16x64, .f32⟩
  | .hbm, ⟨10, _⟩ => ⟨S1x16x8192x64, .f32⟩
  | .hbm, ⟨11, _⟩ => ⟨S1x16x8192x8192, .f32⟩
  | .hbm, ⟨12, _⟩ => ⟨S_, .f32⟩
  | .hbm, ⟨13, _⟩ => ⟨S1x16x8192x8192, .f32⟩
  | .hbm, ⟨14, _⟩ => ⟨S1x16x8192x8192, .f32⟩
  | .hbm, ⟨15, _⟩ => ⟨S1x16x8192x1, .f32⟩
  | .hbm, ⟨16, _⟩ => ⟨S1x16x1x8192, .f32⟩
  | .hbm, ⟨17, _⟩ => ⟨S1x16x8192x8192, .f32⟩
  | .hbm, ⟨18, _⟩ => ⟨S1x16x8192x8192, .f32⟩
  | .hbm, ⟨19, _⟩ => ⟨S1x16x8192x8192, .f32⟩
  | .hbm, ⟨20, _⟩ => ⟨S1x16x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S1x16x8192x8192, .i1⟩
  | .hbm, ⟨31, _⟩ => ⟨S1x16x8192x8192, .f32⟩
  | .hbm, ⟨32, _⟩ => ⟨S1x16x8192x8192, .f32⟩
  | .hbm, ⟨33, _⟩ => ⟨S_, .f32⟩
  | .hbm, ⟨34, _⟩ => ⟨S1x16x8192, .f32⟩
  | .hbm, ⟨35, _⟩ => ⟨S1x16x8192x1, .f32⟩
  | .hbm, ⟨36, _⟩ => ⟨S1x16x8192x8192, .f32⟩
  | .hbm, ⟨37, _⟩ => ⟨S1x16x8192x8192, .f32⟩
  | .hbm, ⟨38, _⟩ => ⟨S1x16x8192x8192, .f32⟩
  | .hbm, ⟨39, _⟩ => ⟨S_, .f32⟩
  | .hbm, ⟨40, _⟩ => ⟨S1x16x8192, .f32⟩
  | .hbm, ⟨41, _⟩ => ⟨S1x16x8192x1, .f32⟩
  | .hbm, ⟨42, _⟩ => ⟨S1x16x8192x8192, .f32⟩
  | .hbm, ⟨43, _⟩ => ⟨S1x16x8192x8192, .f32⟩
  | .hbm, ⟨44, _⟩ => ⟨S1x16x8192x64, .f32⟩
  | .hbm, ⟨45, _⟩ => ⟨S1x16x8192x1, .f32⟩
  | .hbm, ⟨46, _⟩ => ⟨S1x16x8192x1, .f32⟩
  | .hbm, ⟨47, _⟩ => ⟨S1x16x8192, .f32⟩
  | .hbm, ⟨48, _⟩ => ⟨S1x8192x16x64, .f32⟩
  | .hbm, ⟨49, _⟩ => ⟨S1x16x8192x64, .f32⟩
  | .hbm, ⟨50, _⟩ => ⟨S1x16x8192x64, .f32⟩
  | .hbm, ⟨51, _⟩ => ⟨S_, .f32⟩
  | .hbm, ⟨52, _⟩ => ⟨S1x16x8192, .f32⟩
  | .hbm, ⟨53, _⟩ => ⟨S8x2x16x512, .f32⟩
  | .hbm, ⟨54, _⟩ => ⟨S8x16x2x512, .f32⟩
  | .hbm, ⟨55, _⟩ => ⟨S_, .i32⟩
  | .hbm, ⟨56, _⟩ => ⟨S_, .f32⟩
  | .hbm, ⟨57, _⟩ => ⟨S8x16x8x512, .f32⟩
  | .hbm, ⟨58, _⟩ => ⟨S_, .f32⟩
  | .hbm, ⟨59, _⟩ => ⟨S1x8192x1024, .f32⟩
  | .hbm, ⟨60, _⟩ => ⟨S1x8192x1024, .f32⟩
  | .hbm, ⟨61, _⟩ => ⟨S8192x1024, .f32⟩
  | .hbm, ⟨62, _⟩ => ⟨S8192x1024, .bf16⟩
  | .hbm, ⟨63, _⟩ => ⟨S8192x1024, .f32⟩
  | .hbm, ⟨64, _⟩ => ⟨S8192x1024, .bf16⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S8192x1024, .bf16⟩
  | .hbm, ⟨69, _⟩ => ⟨S8x2x8192, .f32⟩
  | .hbm, ⟨70, _⟩ => ⟨S8x8192x2, .f32⟩
  | .hbm, ⟨71, _⟩ => ⟨S_, .i32⟩
  | .hbm, ⟨72, _⟩ => ⟨S_, .f32⟩
  | .hbm, ⟨73, _⟩ => ⟨S8x8192x128, .f32⟩
  | .hbm, ⟨74, _⟩ => ⟨S8x2x8192, .f32⟩
  | .hbm, ⟨75, _⟩ => ⟨S8x8192x2, .f32⟩
  | .hbm, ⟨76, _⟩ => ⟨S_, .i32⟩
  | .hbm, ⟨77, _⟩ => ⟨S_, .f32⟩
  | .hbm, ⟨78, _⟩ => ⟨S8x8192x128, .f32⟩
  | .hbm, ⟨79, _⟩ => ⟨S8x2x8192, .f32⟩
  | .hbm, ⟨80, _⟩ => ⟨S8x8192x2, .f32⟩
  | .hbm, ⟨81, _⟩ => ⟨S_, .i32⟩
  | .hbm, ⟨82, _⟩ => ⟨S_, .f32⟩
  | .hbm, ⟨83, _⟩ => ⟨S8x8192x128, .f32⟩
  | .hbm, ⟨84, _⟩ => ⟨S16x512x1024, .bf16⟩
  | .hbm, ⟨85, _⟩ => ⟨S16x512x1024, .bf16⟩
  | .hbm, ⟨86, _⟩ => ⟨S8192x1024, .bf16⟩
  | .hbm, ⟨87, _⟩ => ⟨S16x512x1024, .bf16⟩
  | .hbm, ⟨88, _⟩ => ⟨S16x512x1024, .bf16⟩
  | .hbm, ⟨89, _⟩ => ⟨S8x8192x128, .f32⟩
  | .hbm, ⟨90, _⟩ => ⟨S8x16x8x512, .f32⟩
  | .local _ .vmem, ⟨0, _⟩ => ⟨S512x128, .bf16⟩
  | .local _ .vmem, ⟨1, _⟩ => ⟨S512x128, .bf16⟩
  | .local _ .vmem, ⟨2, _⟩ => ⟨S16x512x128, .bf16⟩
  | .local _ .vmem, ⟨3, _⟩ => ⟨S16x512x128, .bf16⟩
  | .local _ .vmem, ⟨4, _⟩ => ⟨S16x512x128, .bf16⟩
  | .local _ .vmem, ⟨5, _⟩ => ⟨S16x512x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x16x8x512, .f32⟩
  | .local _ .vmem, ⟨15, _⟩ => ⟨S1x16x8x512, .f32⟩
  | .local _ .vmem, ⟨16, _⟩ => ⟨S512x128, .bf16⟩
  | .local _ .vmem, ⟨17, _⟩ => ⟨S512x128, .bf16⟩
  | .local _ .vmem, ⟨18, _⟩ => ⟨S16x512x128, .bf16⟩
  | .local _ .vmem, ⟨19, _⟩ => ⟨S16x512x128, .bf16⟩
  | .local _ .vmem, ⟨20, _⟩ => ⟨S16x512x128, .bf16⟩
  | .local _ .vmem, ⟨21, _⟩ => ⟨S16x512x128, .bf16⟩
  | .local _ .vmem, ⟨22, _⟩ => ⟨S1x512x128, .f32⟩
  | .local _ .vmem, ⟨23, _⟩ => ⟨S1x512x128, .f32⟩
  | .local _ .vmem, ⟨24, _⟩ => ⟨S1x16x8x512, .f32⟩
  | .local _ .vmem, ⟨25, _⟩ => ⟨S1x16x8x512, .f32⟩
  | .local _ .vmem, ⟨26, _⟩ => ⟨S16x512x128, .f32⟩
  | .local _ .vmem, ⟨27, _⟩ => ⟨S16x512x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call1_v0 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_5 : Ref sig .tc := ⟨.hbm, 71, rfl⟩
abbrev main_call2_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_6 : Ref sig .tc := ⟨.hbm, 76, rfl⟩
abbrev main_call3_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_7 : Ref sig .tc := ⟨.hbm, 81, rfl⟩
abbrev main_call4_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev main_v64_3 : Ref sig .tc := ⟨.hbm, 89, rfl⟩
abbrev main_v64_4 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_20 : BitVec 32 := 1#32
  ⟨c0_i32_19, v41, c1_i32_20⟩
def k0_off1 (i : grid0.Coords) (k0_t1 : Fin (k0_t1_loop i).trips) : Fin 3 → Nat :=
  let c0_i32_19 : BitVec 32 := 0#32
  let c1_i32_20 : BitVec 32 := 1#32
  let arg17 : BitVec 32 := Scf.iv c0_i32_19 c1_i32_20 k0_t1
  let v214 : Index := Scalar.indexCast arg17
  let c0_99 : Index := 0#32
  let c0_100 : Index := 0#32
  ![v214.toNat, 0, 0]
def k0_off2 (i : grid0.Coords) (k0_t1 : Fin (k0_t1_loop i).trips) : Fin 4 → Nat :=
  let c0_104 : Index := 0#32
  let c0_i32_19 : BitVec 32 := 0#32
  let c1_i32_20 : BitVec 32 := 1#32
  let arg17 : BitVec 32 := Scf.iv c0_i32_19 c1_i32_20 k0_t1
  let v221 : Index := Scalar.indexCast arg17
  let c0_105 : Index := 0#32
  let c0_106 : Index := 0#32
  ![0, v221.toNat, 0, 0]
@[reducible] def k0_t2_loop (i : grid0.Coords) : Scf.Loop 32 :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let v38 : BitVec 32 := Scalar.addi c0_i32_19 v37
  let c1_i32_21 : BitVec 32 := 1#32
  ⟨v41, v38, c1_i32_21⟩
def k0_off3 (i : grid0.Coords) (k0_t2 : Fin (k0_t2_loop i).trips) : Fin 3 → Nat :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let v214 : Index := Scalar.indexCast arg17
  let c0_99 : Index := 0#32
  let c0_100 : Index := 0#32
  ![v214.toNat, 0, 0]
def k0_off4 (i : grid0.Coords) (k0_t2 : Fin (k0_t2_loop i).trips) : Fin 4 → Nat :=
  let c0_104 : Index := 0#32
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let v221 : Index := Scalar.indexCast arg17
  let c0_105 : Index := 0#32
  let c0_106 : Index := 0#32
  ![0, v221.toNat, 0, 0]
def k0_off5 (i : grid0.Coords) : Fin 3 → Nat :=
  let arg1 : BitVec 32 := BitVec.ofNat 32 (i 1).val
  let v44 : Index := Scalar.indexCast arg1
  let c0_22 : Index := 0#32
  let c0_23 : Index := 0#32
  ![v44.toNat, 0, 0]
def k0_off6 (i : grid0.Coords) : Fin 4 → Nat :=
  let c0_27 : Index := 0#32
  let arg1 : BitVec 32 := BitVec.ofNat 32 (i 1).val
  let v51 : Index := Scalar.indexCast arg1
  let c0_28 : Index := 0#32
  let c0_29 : Index := 0#32
  ![0, v51.toNat, 0, 0]
@[reducible] def k0_t3_loop (i : grid0.Coords) : Scf.Loop 32 :=
  let c0_i32_58 : BitVec 32 := 0#32
  let arg1 : BitVec 32 := BitVec.ofNat 32 (i 1).val
  let v129 : BitVec 32 := Scalar.subi arg1 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_60 : BitVec 32 := 1#32
  ⟨c0_i32_58, v133, c1_i32_60⟩
def k0_off7 (i : grid0.Coords) (k0_t3 : Fin (k0_t3_loop i).trips) : Fin 3 → Nat :=
  let c0_i32_58 : BitVec 32 := 0#32
  let c1_i32_60 : BitVec 32 := 1#32
  let arg17 : BitVec 32 := Scf.iv c0_i32_58 c1_i32_60 k0_t3
  let v214 : Index := Scalar.indexCast arg17
  let c0_99 : Index := 0#32
  let c0_100 : Index := 0#32
  ![v214.toNat, 0, 0]
def k0_off8 (i : grid0.Coords) (k0_t3 : Fin (k0_t3_loop i).trips) : Fin 4 → Nat :=
  let c0_104 : Index := 0#32
  let c0_i32_58 : BitVec 32 := 0#32
  let c1_i32_60 : BitVec 32 := 1#32
  let arg17 : BitVec 32 := Scf.iv c0_i32_58 c1_i32_60 k0_t3
  let v221 : Index := Scalar.indexCast arg17
  let c1_105 : Index := 1#32
  let c0_106 : Index := 0#32
  ![0, v221.toNat, 1, 0]
@[reducible] def k0_t4_loop (i : grid0.Coords) : Scf.Loop 32 :=
  let c0_i32_58 : BitVec 32 := 0#32
  let arg1 : BitVec 32 := BitVec.ofNat 32 (i 1).val
  let v129 : BitVec 32 := Scalar.subi arg1 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let v130 : BitVec 32 := Scalar.addi c0_i32_58 v129
  let c1_i32_61 : BitVec 32 := 1#32
  ⟨v133, v130, c1_i32_61⟩
def k0_off9 (i : grid0.Coords) (k0_t4 : Fin (k0_t4_loop i).trips) : Fin 3 → Nat :=
  let c0_i32_58 : BitVec 32 := 0#32
  let arg1 : BitVec 32 := BitVec.ofNat 32 (i 1).val
  let v129 : BitVec 32 := Scalar.subi arg1 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg17 : BitVec 32 := Scf.iv v133 c1_i32_61 k0_t4
  let v214 : Index := Scalar.indexCast arg17
  let c0_99 : Index := 0#32
  let c0_100 : Index := 0#32
  ![v214.toNat, 0, 0]
def k0_off10 (i : grid0.Coords) (k0_t4 : Fin (k0_t4_loop i).trips) : Fin 4 → Nat :=
  let c0_104 : Index := 0#32
  let c0_i32_58 : BitVec 32 := 0#32
  let arg1 : BitVec 32 := BitVec.ofNat 32 (i 1).val
  let v129 : BitVec 32 := Scalar.subi arg1 c0_i32_58
  let c1_i32_59 : BitVec 32 := 1#32
  let v131 : BitVec 32 := Scalar.divsi v129 c1_i32_59
  let v132 : BitVec 32 := Scalar.muli v131 c1_i32_59
  let v133 : BitVec 32 := Scalar.addi c0_i32_58 v132
  let c1_i32_61 : BitVec 32 := 1#32
  let arg17 : BitVec 32 := Scf.iv v133 c1_i32_61 k0_t4
  let v221 : Index := Scalar.indexCast arg17
  let c1_105 : Index := 1#32
  let c0_106 : Index := 0#32
  ![0, v221.toNat, 1, 0]
def k0_off11 (i : grid0.Coords) : Fin 4 → Nat :=
  let c0_67 : Index := 0#32
  let arg1 : BitVec 32 := BitVec.ofNat 32 (i 1).val
  let v143 : Index := Scalar.indexCast arg1
  let c1 : Index := 1#32
  let c0_68 : Index := 0#32
  ![0, v143.toNat, 1, 0]
def k0_cond2 (i : grid0.Coords) : BitVec 1 :=
  let arg1 : BitVec 32 := BitVec.ofNat 32 (i 1).val
  let c15_i32 : BitVec 32 := 15#32
  let v211 : BitVec 1 := Scalar.cmpi .eq arg1 c15_i32
  let v212 : BitVec 32 := Scalar.extui v211
  let c0_i32_98 : BitVec 32 := 0#32
  let v213 : BitVec 1 := Scalar.cmpi .ne v212 c0_i32_98
  v213

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelAttnIdeal.lean ====
variable {F : FTy → Type} [FloatOps F] [Named F]
def κ : String → Option EReal := fun
  | "mask" => some ⊥
  | _ => none
-- ==== ReferenceAttnIdeal.lean ====
abbrev S1x8192x1024 : Shape := ⟨3, ![1, 8192, 1024]⟩
abbrev S1x16x8192 : Shape := ⟨3, ![1, 16, 8192]⟩
abbrev S1x8192x16x64 : Shape := ⟨4, ![1, 8192, 16, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S1x16x8192x1 : Shape := ⟨4, ![1, 16, 8192, 1]⟩
abbrev S1x16x1x8192 : Shape := ⟨4, ![1, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x16x64x8192 : Shape := ⟨4, ![1, 16, 64, 8192]⟩
abbrev S16x8192 : Shape := ⟨2, ![16, 8192]⟩
abbrev S8x2x8192 : Shape := ⟨3, ![8, 2, 8192]⟩
abbrev S8x8192x2 : Shape := ⟨3, ![8, 8192, 2]⟩
abbrev S8x8192x128 : Shape := ⟨3, ![8, 8192, 128]⟩
abbrev S8x2x16x512 : Shape := ⟨4, ![8, 2, 16, 512]⟩
abbrev S8x16x2x512 : Shape := ⟨4, ![8, 16, 2, 512]⟩
abbrev S8x16x8x512 : Shape := ⟨4, ![8, 16, 8, 512]⟩
abbrev S8192x1024 : Shape := ⟨2, ![8192, 1024]⟩
abbrev S16x512x1024 : Shape := ⟨3, ![16, 512, 1024]⟩

abbrev nBuf : Space → Nat
  | .hbm => 139
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x1024, .f32⟩
  | 3 => ⟨S1x16x8192, .f32⟩
  | 4 => ⟨S1x8192x1024, .f32⟩
  | 5 => ⟨S1x8192x16x64, .f32⟩
  | 6 => ⟨S1x16x8192x64, .f32⟩
  | 7 => ⟨S1x8192x16x64, .f32⟩
  | 8 => ⟨S1x16x8192x64, .f32⟩
  | 9 => ⟨S1x8192x16x64, .f32⟩
  | 10 => ⟨S1x16x8192x64, .f32⟩
  | 11 => ⟨S1x16x8192x8192, .f32⟩
  | 12 => ⟨S_, .f32⟩
  | 13 => ⟨S1x16x8192x8192, .f32⟩
  | 14 => ⟨S1x16x8192x8192, .f32⟩
  | 15 => ⟨S1x16x8192x1, .f32⟩
  | 16 => ⟨S1x16x1x8192, .f32⟩
  | 17 => ⟨S1x16x8192x8192, .f32⟩
  | 18 => ⟨S1x16x8192x8192, .f32⟩
  | 19 => ⟨S1x16x8192x8192, .f32⟩
  | 20 => ⟨S1x16x8192x8192, .f32⟩
  | 21 => ⟨S8192, .i32⟩
  | 22 => ⟨S1x8192, .i32⟩
  | 23 => ⟨S8192, .i32⟩
  | 24 => ⟨S8192x1, .i32⟩
  | 25 => ⟨S8192x8192, .i32⟩
  | 26 => ⟨S8192x8192, .i32⟩
  | 27 => ⟨S8192x8192, .i1⟩
  | 28 => ⟨S_, .f32⟩
  | 29 => ⟨S_, .f32⟩
  | 30 => ⟨S1x16x8192x8192, .i1⟩
  | 31 => ⟨S1x16x8192x8192, .f32⟩
  | 32 => ⟨S1x16x8192x8192, .f32⟩
  | 33 => ⟨S_, .f32⟩
  | 34 => ⟨S1x16x8192x8192, .f32⟩
  | 35 => ⟨S_, .f32⟩
  | 36 => ⟨S1x16x8192, .f32⟩
  | 37 => ⟨S1x16x8192x1, .f32⟩
  | 38 => ⟨S1x16x8192x8192, .f32⟩
  | 39 => ⟨S1x16x8192x8192, .i1⟩
  | 40 => ⟨S1x16x8192x8192, .f32⟩
  | 41 => ⟨S_, .f32⟩
  | 42 => ⟨S1x16x8192, .f32⟩
  | 43 => ⟨S_, .f32⟩
  | 44 => ⟨S1x16x8192, .f32⟩
  | 45 => ⟨S1x16x8192, .f32⟩
  | 46 => ⟨S_, .f32⟩
  | 47 => ⟨S1x16x8192, .f32⟩
  | 48 => ⟨S1x16x8192, .i1⟩
  | 49 => ⟨S_, .f32⟩
  | 50 => ⟨S1x16x8192, .f32⟩
  | 51 => ⟨S1x16x8192, .i1⟩
  | 52 => ⟨S_, .f32⟩
  | 53 => ⟨S1x16x8192, .f32⟩
  | 54 => ⟨S_, .f32⟩
  | 55 => ⟨S1x16x8192, .f32⟩
  | 56 => ⟨S_, .f32⟩
  | 57 => ⟨S1x16x8192, .f32⟩
  | 58 => ⟨S1x16x8192, .f32⟩
  | 59 => ⟨S1x16x8192, .f32⟩
  | 60 => ⟨S1x16x8192x1, .f32⟩
  | 61 => ⟨S1x16x8192x8192, .f32⟩
  | 62 => ⟨S1x16x8192x8192, .f32⟩
  | 63 => ⟨S1x16x8192x8192, .f32⟩
  | 64 => ⟨S_, .f32⟩
  | 65 => ⟨S1x16x8192, .f32⟩
  | 66 => ⟨S1x16x8192x1, .f32⟩
  | 67 => ⟨S1x16x8192x8192, .f32⟩
  | 68 => ⟨S1x16x8192x8192, .f32⟩
  | 69 => ⟨S1x16x8192x1, .f32⟩
  | 70 => ⟨S_, .f32⟩
  | 71 => ⟨S1x16x8192x1, .f32⟩
  | 72 => ⟨S1x16x8192x1, .f32⟩
  | 73 => ⟨S1x16x8192x64, .f32⟩
  | 74 => ⟨S1x8192x16x64, .f32⟩
  | 75 => ⟨S1x8192x1024, .f32⟩
  | 76 => ⟨S1x8192x16x64, .f32⟩
  | 77 => ⟨S1x16x8192x64, .f32⟩
  | 78 => ⟨S1x16x64x8192, .f32⟩
  | 79 => ⟨S1x16x8192x64, .f32⟩
  | 80 => ⟨S1x16x8192x8192, .f32⟩
  | 81 => ⟨S1x16x8192x8192, .f32⟩
  | 82 => ⟨S1x16x8192x8192, .f32⟩
  | 83 => ⟨S1x16x8192x8192, .f32⟩
  | 84 => ⟨S_, .f32⟩
  | 85 => ⟨S1x16x8192, .f32⟩
  | 86 => ⟨S1x16x8192x1, .f32⟩
  | 87 => ⟨S1x16x8192x1, .f32⟩
  | 88 => ⟨S1x16x8192x8192, .f32⟩
  | 89 => ⟨S1x16x8192x8192, .f32⟩
  | 90 => ⟨S_, .f32⟩
  | 91 => ⟨S16x8192, .f32⟩
  | 92 => ⟨S1x16x8192, .f32⟩
  | 93 => ⟨S1x16x8192x8192, .f32⟩
  | 94 => ⟨S1x16x8192x8192, .f32⟩
  | 95 => ⟨S1x16x8192x8192, .f32⟩
  | 96 => ⟨S_, .f32⟩
  | 97 => ⟨S1x16x8192x8192, .f32⟩
  | 98 => ⟨S1x16x8192x8192, .f32⟩
  | 99 => ⟨S_, .f32⟩
  | 100 => ⟨S1x16x8192, .f32⟩
  | 101 => ⟨S1x16x8192x1, .f32⟩
  | 102 => ⟨S1x16x8192x8192, .f32⟩
  | 103 => ⟨S_, .f32⟩
  | 104 => ⟨S1x16x8192, .f32⟩
  | 105 => ⟨S1x16x1x8192, .f32⟩
  | 106 => ⟨S_, .f32⟩
  | 107 => ⟨S16x8192, .f32⟩
  | 108 => ⟨S1x16x8192, .f32⟩
  | 109 => ⟨S_, .f32⟩
  | 110 => ⟨S16x8192, .f32⟩
  | 111 => ⟨S1x16x8192, .f32⟩
  | 112 => ⟨S_, .f32⟩
  | 113 => ⟨S1x16x8192x8192, .f32⟩
  | 114 => ⟨S1x16x8192x8192, .f32⟩
  | 115 => ⟨S1x16x8192x64, .f32⟩
  | 116 => ⟨S1x16x8192x64, .f32⟩
  | 117 => ⟨S1x8192x16x64, .f32⟩
  | 118 => ⟨S1x8192x1024, .f32⟩
  | 119 => ⟨S1x8192x16x64, .f32⟩
  | 120 => ⟨S1x8192x1024, .f32⟩
  | 121 => ⟨S1x8192x16x64, .f32⟩
  | 122 => ⟨S1x8192x1024, .f32⟩
  | 123 => ⟨S8x2x8192, .f32⟩
  | 124 => ⟨S8x8192x2, .f32⟩
  | 125 => ⟨S_, .i32⟩
  | 126 => ⟨S_, .f32⟩
  | 127 => ⟨S8x8192x128, .f32⟩
  | _ => ⟨S1x8192x1024, .f32⟩

abbrev hbmTy0_1 (i : Nat) : BufTy := match i % 128 with
  | 0 => ⟨S8x2x16x512, .f32⟩
  | 1 => ⟨S8x16x2x512, .f32⟩
  | 2 => ⟨S_, .i32⟩
  | 3 => ⟨S_, .f32⟩
  | 4 => ⟨S8x16x8x512, .f32⟩
  | 5 => ⟨S8192x1024, .f32⟩
  | 6 => ⟨S8192x1024, .bf16⟩
  | 7 => ⟨S16x512x1024, .f32⟩
  | 8 => ⟨S16x512x1024, .bf16⟩
  | 9 => ⟨S16x512x1024, .f32⟩
  | 10 => ⟨S16x512x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

def κ : String → Option EReal := fun
  | "mask" => some ⊥
  | _ => none
-- ==== KernelLoss.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelAttnOut.lean ====
abbrev S8192x1024 : Shape := ⟨2, ![8192, 1024]⟩
abbrev S1024x1024 : Shape := ⟨2, ![1024, 1024]⟩
abbrev S1x1024 : Shape := ⟨2, ![1, 1024]⟩
abbrev S16x64x128 : Shape := ⟨3, ![16, 64, 128]⟩
abbrev S1024x128 : Shape := ⟨2, ![1024, 128]⟩
abbrev S_ : Shape := ⟨0, ![]⟩
abbrev S8192x128 : Shape := ⟨2, ![8192, 128]⟩
abbrev S8x1024 : Shape := ⟨2, ![8, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S16x64x128, .i32⟩
  | .hbm, ⟨5, _⟩ => ⟨S1024x128, .i32⟩
  | .hbm, ⟨6, _⟩ => ⟨S1024x128, .i32⟩
  | .hbm, ⟨7, _⟩ => ⟨S1024x128, .i1⟩
  | .hbm, ⟨8, _⟩ => ⟨S_, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S8192x1024, .f32⟩
  | .hbm, ⟨14, _⟩ => ⟨S1024x1024, .bf16⟩
  | .hbm, ⟨15, _⟩ => ⟨S8192x1024, .bf16⟩
  | .hbm, ⟨16, _⟩ => ⟨S8192x1024, .bf16⟩
  | .hbm, ⟨17, _⟩ => ⟨S8192x128, .f32⟩
  | .hbm, ⟨18, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceAttnOutIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x16x64 : Shape := ⟨3, ![8192, 16, 64]⟩
abbrev S8192x16 : Shape := ⟨2, ![8192, 16]⟩
abbrev S8192x128 : Shape := ⟨2, ![8192, 128]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x16x64, .f32⟩
  | .hbm, ⟨51, _⟩ => ⟨S_, .f32⟩
  | .hbm, ⟨52, _⟩ => ⟨S8192x16, .f32⟩
  | .hbm, ⟨53, _⟩ => ⟨S8192x1024, .bf16⟩
  | .hbm, ⟨54, _⟩ => ⟨S8192x1024, .bf16⟩
  | .hbm, ⟨55, _⟩ => ⟨S_, .i32⟩
  | .hbm, ⟨56, _⟩ => ⟨S_, .f32⟩
  | .hbm, ⟨57, _⟩ => ⟨S8192x128, .f32⟩
  | .hbm, ⟨58, _⟩ => ⟨S_, .i32⟩
  | .hbm, ⟨59, _⟩ => ⟨S_, .f32⟩
  | .hbm, ⟨60, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_c_9 : Ref sig .tc := ⟨.hbm, 58, rfl⟩
abbrev main_call1_v0 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== KernelAttnFwd.lean ====
abbrev S1x8192x1024 : Shape := ⟨3, ![1, 8192, 1024]⟩
abbrev S1x16x8192 : Shape := ⟨3, ![1, 16, 8192]⟩
abbrev S8x2x16x512 : Shape := ⟨4, ![8, 2, 16, 512]⟩
abbrev S8x16x2x512 : Shape := ⟨4, ![8, 16, 2, 512]⟩
abbrev S_ : Shape := ⟨0, ![]⟩
abbrev S8x16x8x512 : Shape := ⟨4, ![8, 16, 8, 512]⟩
abbrev S8192x1024 : Shape := ⟨2, ![8192, 1024]⟩
abbrev S8x2x8192 : Shape := ⟨3, ![8, 2, 8192]⟩
abbrev S8x8192x2 : Shape := ⟨3, ![8, 8192, 2]⟩
abbrev S8x8192x128 : Shape := ⟨3, ![8, 8192, 128]⟩
abbrev S16x512x1024 : Shape := ⟨3, ![16, 512, 1024]⟩
abbrev S512x128 : Shape := ⟨2, ![512, 128]⟩
abbrev S16x512x128 : Shape := ⟨3, ![16, 512, 128]⟩
abbrev S1x512x128 : Shape := ⟨3, ![1, 512, 128]⟩
abbrev S1x16x8x512 : Shape := ⟨4, ![1, 16, 8, 512]⟩
abbrev S1x128 : Shape := ⟨2, ![1, 128]⟩
abbrev S512x512 : Shape := ⟨2, ![512, 512]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 28
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x16x8192, .f32⟩
  | .hbm, ⟨4, _⟩ => ⟨S8x2x16x512, .f32⟩
  | .hbm, ⟨5, _⟩ => ⟨S8x16x2x512, .f32⟩
  | .hbm, ⟨6, _⟩ => ⟨S_, .i32⟩
  | .hbm, ⟨7, _⟩ => ⟨S_, .f32⟩
  | .hbm, ⟨8, _⟩ => ⟨S8x16x8x512, .f32⟩
  | .hbm, ⟨9, _⟩ => ⟨S_, .f32⟩
  | .hbm, ⟨10, _⟩ => ⟨S1x8192x1024, .f32⟩
  | .hbm, ⟨11, _⟩ => ⟨S1x8192x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8x2x8192, .f32⟩
  | .hbm, ⟨19, _⟩ => ⟨S8x8192x2, .f32⟩
  | .hbm, ⟨20, _⟩ => ⟨S_, .i32⟩
  | .hbm, ⟨21, _⟩ => ⟨S_, .f32⟩
  | .hbm, ⟨22, _⟩ => ⟨S8x8192x128, .f32⟩
  | .hbm, ⟨23, _⟩ => ⟨S16x512x1024, .bf16⟩
  | .hbm, ⟨24, _⟩ => ⟨S16x512x1024, .bf16⟩
  | .hbm, ⟨25, _⟩ => ⟨S8192x1024, .bf16⟩
  | .hbm, ⟨26, _⟩ => ⟨S8192x1024, .f32⟩
  | .hbm, ⟨27, _⟩ => ⟨S8x8192x128, .f32⟩
  | .local _ .vmem, ⟨0, _⟩ => ⟨S512x128, .bf16⟩
  | .local _ .vmem, ⟨1, _⟩ => ⟨S512x128, .bf16⟩
  | .local _ .vmem, ⟨2, _⟩ => ⟨S16x512x128, .bf16⟩
  | .local _ .vmem, ⟨3, _⟩ => ⟨S16x512x128, .bf16⟩
  | .local _ .vmem, ⟨4, _⟩ => ⟨S16x512x128, .bf16⟩
  | .local _ .vmem, ⟨5, _⟩ => ⟨S16x512x128, .bf16⟩
  | .local _ .vmem, ⟨6, _⟩ => ⟨S1x512x128, .f32⟩
  | .local _ .vmem, ⟨7, _⟩ => ⟨S1x512x128, .f32⟩
  | .local _ .vmem, ⟨8, _⟩ => ⟨S1x16x8x512, .f32⟩
  | .local _ .vmem, ⟨9, _⟩ => ⟨S1x16x8x512, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S1x512x128, .f32⟩
  | .local _ .vmem, ⟨15, _⟩ => ⟨S1x512x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_9 : BitVec 32 := 0#32
  let arg1 : BitVec 32 := BitVec.ofNat 32 (i 1).val
  let v23 : BitVec 32 := Scalar.subi arg1 c0_i32_9
  let c1_i32 : BitVec 32 := 1#32
  let v25 : BitVec 32 := Scalar.divsi v23 c1_i32
  let v26 : BitVec 32 := Scalar.muli v25 c1_i32
  let v27 : BitVec 32 := Scalar.addi c0_i32_9 v26
  let c1_i32_10 : BitVec 32 := 1#32
  ⟨c0_i32_9, v27, c1_i32_10⟩
def k0_off1 (i : grid0.Coords) (k0_t1 : Fin (k0_t1_loop i).trips) : Fin 3 → Nat :=
  let c0_i32_9 : BitVec 32 := 0#32
  let c1_i32_10 : BitVec 32 := 1#32
  let arg10 : BitVec 32 := Scf.iv c0_i32_9 c1_i32_10 k0_t1
  let v154 : Index := Scalar.indexCast arg10
  let c0_55 : Index := 0#32
  let c0_56 : Index := 0#32
  ![v154.toNat, 0, 0]
def k0_off2 (i : grid0.Coords) (k0_t1 : Fin (k0_t1_loop i).trips) : Fin 4 → Nat :=
  let c0_60 : Index := 0#32
  let c0_i32_9 : BitVec 32 := 0#32
  let c1_i32_10 : BitVec 32 := 1#32
  let arg10 : BitVec 32 := Scf.iv c0_i32_9 c1_i32_10 k0_t1
  let v161 : Index := Scalar.indexCast arg10
  let c0_61 : Index := 0#32
  let c0_62 : Index := 0#32
  ![0, v161.toNat, 0, 0]
@[reducible] def k0_t2_loop (i : grid0.Coords) : Scf.Loop 32 :=
  let c0_i32_9 : BitVec 32 := 0#32
  let arg1 : BitVec 32 := BitVec.ofNat 32 (i 1).val
  let v23 : BitVec 32 := Scalar.subi arg1 c0_i32_9
  let c1_i32 : BitVec 32 := 1#32
  let v25 : BitVec 32 := Scalar.divsi v23 c1_i32
  let v26 : BitVec 32 := Scalar.muli v25 c1_i32
  let v27 : BitVec 32 := Scalar.addi c0_i32_9 v26
  let v24 : BitVec 32 := Scalar.addi c0_i32_9 v23
  let c1_i32_11 : BitVec 32 := 1#32
  ⟨v27, v24, c1_i32_11⟩
def k0_off3 (i : grid0.Coords) (k0_t2 : Fin (k0_t2_loop i).trips) : Fin 3 → Nat :=
  let c0_i32_9 : BitVec 32 := 0#32
  let arg1 : BitVec 32 := BitVec.ofNat 32 (i 1).val
  let v23 : BitVec 32 := Scalar.subi arg1 c0_i32_9
  let c1_i32 : BitVec 32 := 1#32
  let v25 : BitVec 32 := Scalar.divsi v23 c1_i32
  let v26 : BitVec 32 := Scalar.muli v25 c1_i32
  let v27 : BitVec 32 := Scalar.addi c0_i32_9 v26
  let c1_i32_11 : BitVec 32 := 1#32
  let arg10 : BitVec 32 := Scf.iv v27 c1_i32_11 k0_t2
  let v154 : Index := Scalar.indexCast arg10
  let c0_55 : Index := 0#32
  let c0_56 : Index := 0#32
  ![v154.toNat, 0, 0]
def k0_off4 (i : grid0.Coords) (k0_t2 : Fin (k0_t2_loop i).trips) : Fin 4 → Nat :=
  let c0_60 : Index := 0#32
  let c0_i32_9 : BitVec 32 := 0#32
  let arg1 : BitVec 32 := BitVec.ofNat 32 (i 1).val
  let v23 : BitVec 32 := Scalar.subi arg1 c0_i32_9
  let c1_i32 : BitVec 32 := 1#32
  let v25 : BitVec 32 := Scalar.divsi v23 c1_i32
  let v26 : BitVec 32 := Scalar.muli v25 c1_i32
  let v27 : BitVec 32 := Scalar.addi c0_i32_9 v26
  let c1_i32_11 : BitVec 32 := 1#32
  let arg10 : BitVec 32 := Scf.iv v27 c1_i32_11 k0_t2
  let v161 : Index := Scalar.indexCast arg10
  let c0_61 : Index := 0#32
  let c0_62 : Index := 0#32
  ![0, v161.toNat, 0, 0]
def k0_off5 (i : grid0.Coords) : Fin 3 → Nat :=
  let arg1 : BitVec 32 := BitVec.ofNat 32 (i 1).val
  let v30 : Index := Scalar.indexCast arg1
  let c0_12 : Index := 0#32
  let c0_13 : Index := 0#32
  ![v30.toNat, 0, 0]
def k0_off6 (i : grid0.Coords) : Fin 4 → Nat :=
  let c0_17 : Index := 0#32
  let arg1 : BitVec 32 := BitVec.ofNat 32 (i 1).val
  let v37 : Index := Scalar.indexCast arg1
  let c0_18 : Index := 0#32
  let c0_19 : Index := 0#32
  ![0, v37.toNat, 0, 0]
@[reducible] def k0_t3_loop (i : grid0.Coords) : Scf.Loop 32 :=
  let c0_i32_31 : BitVec 32 := 0#32
  let arg1 : BitVec 32 := BitVec.ofNat 32 (i 1).val
  let v92 : BitVec 32 := Scalar.subi arg1 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_33 : BitVec 32 := 1#32
  ⟨c0_i32_31, v96, c1_i32_33⟩
def k0_off7 (i : grid0.Coords) (k0_t3 : Fin (k0_t3_loop i).trips) : Fin 3 → Nat :=
  let c0_i32_31 : BitVec 32 := 0#32
  let c1_i32_33 : BitVec 32 := 1#32
  let arg10 : BitVec 32 := Scf.iv c0_i32_31 c1_i32_33 k0_t3
  let v154 : Index := Scalar.indexCast arg10
  let c0_55 : Index := 0#32
  let c0_56 : Index := 0#32
  ![v154.toNat, 0, 0]
def k0_off8 (i : grid0.Coords) (k0_t3 : Fin (k0_t3_loop i).trips) : Fin 4 → Nat :=
  let c0_60 : Index := 0#32
  let c0_i32_31 : BitVec 32 := 0#32
  let c1_i32_33 : BitVec 32 := 1#32
  let arg10 : BitVec 32 := Scf.iv c0_i32_31 c1_i32_33 k0_t3
  let v161 : Index := Scalar.indexCast arg10
  let c1_61 : Index := 1#32
  let c0_62 : Index := 0#32
  ![0, v161.toNat, 1, 0]
@[reducible] def k0_t4_loop (i : grid0.Coords) : Scf.Loop 32 :=
  let c0_i32_31 : BitVec 32 := 0#32
  let arg1 : BitVec 32 := BitVec.ofNat 32 (i 1).val
  let v92 : BitVec 32 := Scalar.subi arg1 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let v93 : BitVec 32 := Scalar.addi c0_i32_31 v92
  let c1_i32_34 : BitVec 32 := 1#32
  ⟨v96, v93, c1_i32_34⟩
def k0_off9 (i : grid0.Coords) (k0_t4 : Fin (k0_t4_loop i).trips) : Fin 3 → Nat :=
  let c0_i32_31 : BitVec 32 := 0#32
  let arg1 : BitVec 32 := BitVec.ofNat 32 (i 1).val
  let v92 : BitVec 32 := Scalar.subi arg1 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg10 : BitVec 32 := Scf.iv v96 c1_i32_34 k0_t4
  let v154 : Index := Scalar.indexCast arg10
  let c0_55 : Index := 0#32
  let c0_56 : Index := 0#32
  ![v154.toNat, 0, 0]
def k0_off10 (i : grid0.Coords) (k0_t4 : Fin (k0_t4_loop i).trips) : Fin 4 → Nat :=
  let c0_60 : Index := 0#32
  let c0_i32_31 : BitVec 32 := 0#32
  let arg1 : BitVec 32 := BitVec.ofNat 32 (i 1).val
  let v92 : BitVec 32 := Scalar.subi arg1 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg10 : BitVec 32 := Scf.iv v96 c1_i32_34 k0_t4
  let v161 : Index := Scalar.indexCast arg10
  let c1_61 : Index := 1#32
  let c0_62 : Index := 0#32
  ![0, v161.toNat, 1, 0]
def k0_off11 (i : grid0.Coords) : Fin 4 → Nat :=
  let c0_40 : Index := 0#32
  let arg1 : BitVec 32 := BitVec.ofNat 32 (i 1).val
  let v106 : Index := Scalar.indexCast arg1
  let c1 : Index := 1#32
  let c0_41 : Index := 0#32
  ![0, v106.toNat, 1, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAttnFwdIdeal.lean ====
variable {F : FTy → Type} [FloatOps F] [Named F]
def κ : String → Option EReal := fun
  | "mask" => some ⊥
  | _ => none
-- ==== ReferenceAttnFwdIdeal.lean ====
abbrev S1x8192x1024 : Shape := ⟨3, ![1, 8192, 1024]⟩
abbrev S1x16x8192 : Shape := ⟨3, ![1, 16, 8192]⟩
abbrev S1x8192x16x64 : Shape := ⟨4, ![1, 8192, 16, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S1x16x8192x1 : Shape := ⟨4, ![1, 16, 8192, 1]⟩
abbrev S1x16x1x8192 : Shape := ⟨4, ![1, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x1024 : Shape := ⟨2, ![8192, 1024]⟩
abbrev S8x2x8192 : Shape := ⟨3, ![8, 2, 8192]⟩
abbrev S8x8192x2 : Shape := ⟨3, ![8, 8192, 2]⟩
abbrev S8x8192x128 : Shape := ⟨3, ![8, 8192, 128]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x16x8192, .f32⟩
  | .hbm, ⟨4, _⟩ => ⟨S1x8192x16x64, .f32⟩
  | .hbm, ⟨5, _⟩ => ⟨S1x16x8192x64, .f32⟩
  | .hbm, ⟨6, _⟩ => ⟨S1x8192x16x64, .f32⟩
  | .hbm, ⟨7, _⟩ => ⟨S1x16x8192x64, .f32⟩
  | .hbm, ⟨8, _⟩ => ⟨S1x8192x16x64, .f32⟩
  | .hbm, ⟨9, _⟩ => ⟨S1x16x8192x64, .f32⟩
  | .hbm, ⟨10, _⟩ => ⟨S1x16x8192x8192, .f32⟩
  | .hbm, ⟨11, _⟩ => ⟨S_, .f32⟩
  | .hbm, ⟨12, _⟩ => ⟨S1x16x8192x8192, .f32⟩
  | .hbm, ⟨13, _⟩ => ⟨S1x16x8192x8192, .f32⟩
  | .hbm, ⟨14, _⟩ => ⟨S1x16x8192x1, .f32⟩
  | .hbm, ⟨15, _⟩ => ⟨S1x16x1x8192, .f32⟩
  | .hbm, ⟨16, _⟩ => ⟨S1x16x8192x8192, .f32⟩
  | .hbm, ⟨17, _⟩ => ⟨S1x16x8192x8192, .f32⟩
  | .hbm, ⟨18, _⟩ => ⟨S1x16x8192x8192, .f32⟩
  | .hbm, ⟨19, _⟩ => ⟨S1x16x8192x8192, .f32⟩
  | .hbm, ⟨20, _⟩ => ⟨S8192, .i32⟩
  | .hbm, ⟨21, _⟩ => ⟨S1x8192, .i32⟩
  | .hbm, ⟨22, _⟩ => ⟨S8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S1x16x8192x8192, .i1⟩
  | .hbm, ⟨30, _⟩ => ⟨S1x16x8192x8192, .f32⟩
  | .hbm, ⟨31, _⟩ => ⟨S1x16x8192x8192, .f32⟩
  | .hbm, ⟨32, _⟩ => ⟨S_, .f32⟩
  | .hbm, ⟨33, _⟩ => ⟨S1x16x8192, .f32⟩
  | .hbm, ⟨34, _⟩ => ⟨S_, .f32⟩
  | .hbm, ⟨35, _⟩ => ⟨S1x16x8192, .f32⟩
  | .hbm, ⟨36, _⟩ => ⟨S1x16x8192, .f32⟩
  | .hbm, ⟨37, _⟩ => ⟨S1x16x8192x1, .f32⟩
  | .hbm, ⟨38, _⟩ => ⟨S1x16x8192x8192, .f32⟩
  | .hbm, ⟨39, _⟩ => ⟨S1x16x8192x8192, .f32⟩
  | .hbm, ⟨40, _⟩ => ⟨S1x16x8192x8192, .f32⟩
  | .hbm, ⟨41, _⟩ => ⟨S_, .f32⟩
  | .hbm, ⟨42, _⟩ => ⟨S1x16x8192, .f32⟩
  | .hbm, ⟨43, _⟩ => ⟨S1x16x8192x1, .f32⟩
  | .hbm, ⟨44, _⟩ => ⟨S1x16x8192x8192, .f32⟩
  | .hbm, ⟨45, _⟩ => ⟨S1x16x8192x8192, .f32⟩
  | .hbm, ⟨46, _⟩ => ⟨S1x16x8192x64, .f32⟩
  | .hbm, ⟨47, _⟩ => ⟨S1x8192x16x64, .f32⟩
  | .hbm, ⟨48, _⟩ => ⟨S1x8192x1024, .f32⟩
  | .hbm, ⟨49, _⟩ => ⟨S8192x1024, .f32⟩
  | .hbm, ⟨50, _⟩ => ⟨S1x8192x16x64, .f32⟩
  | .hbm, ⟨51, _⟩ => ⟨S1x16x8192x64, .f32⟩
  | .hbm, ⟨52, _⟩ => ⟨S1x8192x16x64, .f32⟩
  | .hbm, ⟨53, _⟩ => ⟨S1x16x8192x64, .f32⟩
  | .hbm, ⟨54, _⟩ => ⟨S1x16x8192x8192, .f32⟩
  | .hbm, ⟨55, _⟩ => ⟨S_, .f32⟩
  | .hbm, ⟨56, _⟩ => ⟨S1x16x8192x8192, .f32⟩
  | .hbm, ⟨57, _⟩ => ⟨S1x16x8192x8192, .f32⟩
  | .hbm, ⟨58, _⟩ => ⟨S1x16x8192x1, .f32⟩
  | .hbm, ⟨59, _⟩ => ⟨S1x16x1x8192, .f32⟩
  | .hbm, ⟨60, _⟩ => ⟨S1x16x8192x8192, .f32⟩
  | .hbm, ⟨61, _⟩ => ⟨S1x16x8192x8192, .f32⟩
  | .hbm, ⟨62, _⟩ => ⟨S1x16x8192x8192, .f32⟩
  | .hbm, ⟨63, _⟩ => ⟨S1x16x8192x8192, .f32⟩
  | .hbm, ⟨64, _⟩ => ⟨S8192, .i32⟩
  | .hbm, ⟨65, _⟩ => ⟨S1x8192, .i32⟩
  | .hbm, ⟨66, _⟩ => ⟨S8192, .i32⟩
  | .hbm, ⟨67, _⟩ => ⟨S8192x1, .i32⟩
  | .hbm, ⟨68, _⟩ => ⟨S8192x8192, .i32⟩
  | .hbm, ⟨69, _⟩ => ⟨S8192x8192, .i32⟩
  | .hbm, ⟨70, _⟩ => ⟨S8192x8192, .i1⟩
  | .hbm, ⟨71, _⟩ => ⟨S_, .f32⟩
  | .hbm, ⟨72, _⟩ => ⟨S_, .f32⟩
  | .hbm, ⟨73, _⟩ => ⟨S1x16x8192x8192, .i1⟩
  | .hbm, ⟨74, _⟩ => ⟨S1x16x8192x8192, .f32⟩
  | .hbm, ⟨75, _⟩ => ⟨S1x16x8192x8192, .f32⟩
  | .hbm, ⟨76, _⟩ => ⟨S_, .f32⟩
  | .hbm, ⟨77, _⟩ => ⟨S1x16x8192, .f32⟩
  | .hbm, ⟨78, _⟩ => ⟨S1x16x8192x1, .f32⟩
  | .hbm, ⟨79, _⟩ => ⟨S1x16x8192x8192, .f32⟩
  | .hbm, ⟨80, _⟩ => ⟨S1x16x8192x8192, .f32⟩
  | .hbm, ⟨81, _⟩ => ⟨S1x16x8192x8192, .f32⟩
  | .hbm, ⟨82, _⟩ => ⟨S_, .f32⟩
  | .hbm, ⟨83, _⟩ => ⟨S1x16x8192, .f32⟩
  | .hbm, ⟨84, _⟩ => ⟨S1x16x8192x1, .f32⟩
  | .hbm, ⟨85, _⟩ => ⟨S1x16x8192x1, .f32⟩
  | .hbm, ⟨86, _⟩ => ⟨S1x16x8192x1, .f32⟩
  | .hbm, ⟨87, _⟩ => ⟨S8x2x8192, .f32⟩
  | .hbm, ⟨88, _⟩ => ⟨S8x8192x2, .f32⟩
  | .hbm, ⟨89, _⟩ => ⟨S8192x1024, .bf16⟩
  | .hbm, ⟨90, _⟩ => ⟨S_, .i32⟩
  | .hbm, ⟨91, _⟩ => ⟨S_, .f32⟩
  | .hbm, ⟨92, _⟩ => ⟨S8x8192x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c : Ref sig .tc := ⟨.hbm, 90, rfl⟩
abbrev main_call2_v0 : Ref sig .tc := ⟨.hbm, 91, rfl⟩
abbrev main_v71 : Ref sig .tc := ⟨.hbm, 92, rfl⟩

abbrev nD : Nat := 1
abbrev τ : Topo := Topo.v7x

variable {F : FTy → Type} [FloatOps F]

def κ : String → Option EReal := fun
  | "mask" => some ⊥
  | _ => none
-- ==== KernelMlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 38
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x4096, .bf16⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S8x512x1024, .f32⟩
  | .hbm, ⟨32, _⟩ => ⟨S8x512x1024, .bf16⟩
  | .hbm, ⟨33, _⟩ => ⟨S8192x1024, .f32⟩
  | .hbm, ⟨34, _⟩ => ⟨S8192x1024, .bf16⟩
  | .hbm, ⟨35, _⟩ => ⟨S8192x1024, .bf16⟩
  | .hbm, ⟨36, _⟩ => ⟨S8192x4096, .bf16⟩
  | .hbm, ⟨37, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S8x1024x512, .bf16⟩
  | .local _ .vmem, ⟨10, _⟩ => ⟨S8x512x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMlpIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S2x1024 : Shape := ⟨2, ![2, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .bf16⟩
  | .hbm, ⟨114, _⟩ => ⟨S8192x1024, .bf16⟩
  | .hbm, ⟨115, _⟩ => ⟨S8192x4096, .bf16⟩
  | .hbm, ⟨116, _⟩ => ⟨S2x1024, .f32⟩
  | .hbm, ⟨117, _⟩ => ⟨S_, .i32⟩
  | .hbm, ⟨118, _⟩ => ⟨S_, .f32⟩
  | .hbm, ⟨119, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c : Ref sig .tc := ⟨.hbm, 117, rfl⟩
abbrev main_call1_v0 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== KernelConvIn.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024x8x256 : Shape := ⟨3, ![1024, 8, 256]⟩
abbrev S8x1024x256 : Shape := ⟨3, ![8, 1024, 256]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S1024 : Shape := ⟨1, ![1024]⟩

abbrev nBuf : Space → Nat
  | .hbm => 32
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1024x8x256, .f32⟩
  | .hbm, ⟨25, _⟩ => ⟨S8x1024x256, .f32⟩
  | .hbm, ⟨26, _⟩ => ⟨S8x1024x256, .bf16⟩
  | .hbm, ⟨27, _⟩ => ⟨S8192x1024, .f32⟩
  | .hbm, ⟨28, _⟩ => ⟨S8192x1024, .bf16⟩
  | .hbm, ⟨29, _⟩ => ⟨S8192x2048, .bf16⟩
  | .hbm, ⟨30, _⟩ => ⟨S8x1024, .f32⟩
  | .hbm, ⟨31, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S8x1024, .f32⟩
  | .local _ .vmem, ⟨17, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceConvInIdeal.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S2048 : Shape := ⟨1, ![2048]⟩
abbrev S1024 : Shape := ⟨1, ![1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x2048, .bf16⟩
  | .hbm, ⟨78, _⟩ => ⟨S_, .i32⟩
  | .hbm, ⟨79, _⟩ => ⟨S_, .f32⟩
  | .hbm, ⟨80, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c : Ref sig .tc := ⟨.hbm, 78, rfl⟩
abbrev main_call0_v0 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== KernelConvOut.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 56
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x1024, .bf16⟩
  | .hbm, ⟨52, _⟩ => ⟨S8192x1024, .f32⟩
  | .hbm, ⟨53, _⟩ => ⟨S8192x1024, .bf16⟩
  | .hbm, ⟨54, _⟩ => ⟨S8192x1024, .bf16⟩
  | .hbm, ⟨55, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v31_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceConvOutIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1024x1024, .f32⟩
  | 6 => ⟨S1x1024, .f32⟩
  | 7 => ⟨S1x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S8192x1024, .f32⟩
  | 121 => ⟨S_, .f32⟩
  | 122 => ⟨S8192, .f32⟩
  | 123 => ⟨S8192x1, .f32⟩
  | 124 => ⟨S8192x1024, .f32⟩
  | 125 => ⟨S8192x1024, .f32⟩
  | 126 => ⟨S8192x1, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S5x1024, .f32⟩
  | 27 => ⟨S8192x1024, .bf16⟩
  | 28 => ⟨S8192x1024, .bf16⟩
  | 29 => ⟨S_, .i32⟩
  | 30 => ⟨S_, .f32⟩
  | 31 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v29_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v70 : Ref sig .tc := ⟨.hbm, 110, rfl⟩
abbrev main_cst_16 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_17 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_19 : Ref sig .tc := ⟨.hbm, 128, rfl⟩
abbrev main_v85 : Ref sig .tc := ⟨.hbm, 129, rfl⟩
abbrev main_v86 : Ref sig .tc := ⟨.hbm, 130, rfl⟩
abbrev main_cst_20 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_22 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_v97 : Ref sig .tc := ⟨.hbm, 145, rfl⟩
abbrev main_v98 : Ref sig .tc := ⟨.hbm, 146, rfl⟩
abbrev main_cst_24 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_25 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c : Ref sig .tc := ⟨.hbm, 157, rfl⟩
abbrev main_call2_v0 : Ref sig .tc := ⟨.hbm, 158, rfl⟩
abbrev main_v107 : Ref sig .tc := ⟨.hbm, 159, rfl⟩

abbrev nD : Nat := 1
abbrev τ : Topo := Topo.v7x

variable {F : FTy → Type} [FloatOps F]
-- ==== KernelAttnIn.lean ====
abbrev S8192x1024 : Shape := ⟨2, ![8192, 1024]⟩
abbrev S1x1024 : Shape := ⟨2, ![1, 1024]⟩
abbrev S8192x16 : Shape := ⟨2, ![8192, 16]⟩
abbrev S1024x3072 : Shape := ⟨2, ![1024, 3072]⟩
abbrev S1024x16 : Shape := ⟨2, ![1024, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1024x128 : Shape := ⟨2, ![1024, 128]⟩
abbrev S8x1024 : Shape := ⟨2, ![8, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024 : Shape := ⟨1, ![1024]⟩
abbrev S128 : Shape := ⟨1, ![128]⟩

abbrev nBuf : Space → Nat
  | .hbm => 63
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16, .f32⟩
  | .hbm, ⟨7, _⟩ => ⟨S1024x3072, .f32⟩
  | .hbm, ⟨8, _⟩ => ⟨S1024x16, .f32⟩
  | .hbm, ⟨9, _⟩ => ⟨S1x16, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .i1⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S_, .i32⟩
  | .hbm, ⟨48, _⟩ => ⟨S_, .f32⟩
  | .hbm, ⟨49, _⟩ => ⟨S8192x128, .f32⟩
  | .hbm, ⟨50, _⟩ => ⟨S_, .i32⟩
  | .hbm, ⟨51, _⟩ => ⟨S_, .f32⟩
  | .hbm, ⟨52, _⟩ => ⟨S8192x128, .f32⟩
  | .hbm, ⟨53, _⟩ => ⟨S1024x3072, .bf16⟩
  | .hbm, ⟨54, _⟩ => ⟨S1024x16, .bf16⟩
  | .hbm, ⟨55, _⟩ => ⟨S_, .i32⟩
  | .hbm, ⟨56, _⟩ => ⟨S_, .bf16⟩
  | .hbm, ⟨57, _⟩ => ⟨S1024x128, .bf16⟩
  | .hbm, ⟨58, _⟩ => ⟨S8192x1024, .f32⟩
  | .hbm, ⟨59, _⟩ => ⟨S8192x1024, .bf16⟩
  | .hbm, ⟨60, _⟩ => ⟨S8192x128, .bf16⟩
  | .hbm, ⟨61, _⟩ => ⟨S8x1024, .f32⟩
  | .hbm, ⟨62, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1024x3072, .bf16⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .bf16⟩
  | .local _ .vmem, ⟨22, _⟩ => ⟨S512x128, .bf16⟩
  | .local _ .vmem, ⟨23, _⟩ => ⟨S8x1024, .f32⟩
  | .local _ .vmem, ⟨24, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c : Ref sig .tc := ⟨.hbm, 47, rfl⟩
abbrev main_call1_v0 : Ref sig .tc := ⟨.hbm, 48, rfl⟩
abbrev main_v19 : Ref sig .tc := ⟨.hbm, 49, rfl⟩
abbrev main_c_2 : Ref sig .tc := ⟨.hbm, 50, rfl⟩
abbrev main_call2_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_3 : Ref sig .tc := ⟨.hbm, 55, rfl⟩
abbrev main_call3_v0 : Ref sig .tc := ⟨.hbm, 56, rfl⟩
abbrev main_v23 : Ref sig .tc := ⟨.hbm, 57, rfl⟩
abbrev main_v24_0 : Ref sig .tc := ⟨.hbm, 58, rfl⟩
abbrev main_v24_1 : Ref sig .tc := ⟨.hbm, 59, rfl⟩
abbrev main_v24_2 : Ref sig .tc := ⟨.hbm, 60, rfl⟩
abbrev main_v24_3 : Ref sig .tc := ⟨.hbm, 61, rfl⟩
abbrev main_v24_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceAttnInIdeal.lean ====
abbrev S8192x1024 : Shape := ⟨2, ![8192, 1024]⟩
abbrev S1x1024 : Shape := ⟨2, ![1, 1024]⟩
abbrev S8192x16 : Shape := ⟨2, ![8192, 16]⟩
abbrev S1024x3072 : Shape := ⟨2, ![1024, 3072]⟩
abbrev S1024x16 : Shape := ⟨2, ![1024, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S16 : Shape := ⟨1, ![16]⟩
abbrev S1024 : Shape := ⟨1, ![1024]⟩
abbrev S8192x128 : Shape := ⟨2, ![8192, 128]⟩
abbrev S8x1024 : Shape := ⟨2, ![8, 1024]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16, .f32⟩
  | .hbm, ⟨7, _⟩ => ⟨S1024x3072, .f32⟩
  | .hbm, ⟨8, _⟩ => ⟨S1024x16, .f32⟩
  | .hbm, ⟨9, _⟩ => ⟨S1x16, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S_, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .i1⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S_, .f32⟩
  | .hbm, ⟨54, _⟩ => ⟨S8192x16, .f32⟩
  | .hbm, ⟨55, _⟩ => ⟨S8192x16, .i1⟩
  | .hbm, ⟨56, _⟩ => ⟨S_, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S8192x16, .f32⟩
  | .hbm, ⟨61, _⟩ => ⟨S8192x16, .i1⟩
  | .hbm, ⟨62, _⟩ => ⟨S_, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192x16, .f32⟩
  | .hbm, ⟨75, _⟩ => ⟨S8192x16, .i1⟩
  | .hbm, ⟨76, _⟩ => ⟨S_, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x16, .f32⟩
  | .hbm, ⟨81, _⟩ => ⟨S8192x16, .f32⟩
  | .hbm, ⟨82, _⟩ => ⟨S_, .f32⟩
  | .hbm, ⟨83, _⟩ => ⟨S8192x16, .f32⟩
  | .hbm, ⟨84, _⟩ => ⟨S8192x16, .f32⟩
  | .hbm, ⟨85, _⟩ => ⟨S8192x16, .f32⟩
  | .hbm, ⟨86, _⟩ => ⟨S8192x16, .f32⟩
  | .hbm, ⟨87, _⟩ => ⟨S8192x16, .f32⟩
  | .hbm, ⟨88, _⟩ => ⟨S8192x16, .f32⟩
  | .hbm, ⟨89, _⟩ => ⟨S_, .f32⟩
  | .hbm, ⟨90, _⟩ => ⟨S16, .f32⟩
  | .hbm, ⟨91, _⟩ => ⟨S1x16, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .bf16⟩
  | .hbm, ⟨117, _⟩ => ⟨S_, .i32⟩
  | .hbm, ⟨118, _⟩ => ⟨S_, .f32⟩
  | .hbm, ⟨119, _⟩ => ⟨S8192x128, .f32⟩
  | .hbm, ⟨120, _⟩ => ⟨S8192x128, .bf16⟩
  | .hbm, ⟨121, _⟩ => ⟨S_, .i32⟩
  | .hbm, ⟨122, _⟩ => ⟨S_, .f32⟩
  | .hbm, ⟨123, _⟩ => ⟨S8x1024, .f32⟩
  | .hbm, ⟨124, _⟩ => ⟨S_, .i32⟩
  | .hbm, ⟨125, _⟩ => ⟨S_, .f32⟩
  | .hbm, ⟨126, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1_0 : Ref sig .tc := ⟨.hbm, 52, rfl⟩
abbrev main_call0_call0_cst_0 : Ref sig .tc := ⟨.hbm, 53, rfl⟩
abbrev main_call0_call0_v13 : Ref sig .tc := ⟨.hbm, 54, rfl⟩
abbrev main_call0_call0_v14 : Ref sig .tc := ⟨.hbm, 55, rfl⟩
abbrev main_call0_call0_cst_1 : Ref sig .tc := ⟨.hbm, 56, rfl⟩
abbrev main_call0_call0_v15 : Ref sig .tc := ⟨.hbm, 57, rfl⟩
abbrev main_call0_call0_v16 : Ref sig .tc := ⟨.hbm, 58, rfl⟩
abbrev main_call0_call0_cst_2 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_cst_3 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_v21 : Ref sig .tc := ⟨.hbm, 65, rfl⟩
abbrev main_v23_1 : Ref sig .tc := ⟨.hbm, 66, rfl⟩
abbrev main_call0_call0_cst_4 : Ref sig .tc := ⟨.hbm, 67, rfl⟩
abbrev main_call0_call0_cst_5 : Ref sig .tc := ⟨.hbm, 68, rfl⟩
abbrev main_call0_call0_v23 : Ref sig .tc := ⟨.hbm, 69, rfl⟩
abbrev main_call0_call0_cst_6 : Ref sig .tc := ⟨.hbm, 70, rfl⟩
abbrev main_call0_call0_cst_7 : Ref sig .tc := ⟨.hbm, 71, rfl⟩
abbrev main_call0_call0_v24 : Ref sig .tc := ⟨.hbm, 72, rfl⟩
abbrev main_call0_call0_cst_8 : Ref sig .tc := ⟨.hbm, 73, rfl⟩
abbrev main_call0_call0_v25 : Ref sig .tc := ⟨.hbm, 74, rfl⟩
abbrev main_call0_call0_v26 : Ref sig .tc := ⟨.hbm, 75, rfl⟩
abbrev main_call0_call0_cst_9 : Ref sig .tc := ⟨.hbm, 76, rfl⟩
abbrev main_call0_call0_v27 : Ref sig .tc := ⟨.hbm, 77, rfl⟩
abbrev main_call0_call0_v28 : Ref sig .tc := ⟨.hbm, 78, rfl⟩
abbrev main_call0_call0_v29 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_cst_10 : Ref sig .tc := ⟨.hbm, 82, rfl⟩
abbrev main_call0_call0_v32 : Ref sig .tc := ⟨.hbm, 83, rfl⟩
abbrev main_v23_2 : Ref sig .tc := ⟨.hbm, 84, rfl⟩
abbrev main_v23_0 : Ref sig .tc := ⟨.hbm, 85, rfl⟩
abbrev main_call1_v0 : Ref sig .tc := ⟨.hbm, 86, rfl⟩
abbrev main_call1_v1 : Ref sig .tc := ⟨.hbm, 87, rfl⟩
abbrev main_v24 : Ref sig .tc := ⟨.hbm, 88, rfl⟩
abbrev main_cst_4 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_5 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_6 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_7 : Ref sig .tc := ⟨.hbm, 107, rfl⟩
abbrev main_v40 : Ref sig .tc := ⟨.hbm, 108, rfl⟩
abbrev main_v41 : Ref sig .tc := ⟨.hbm, 109, rfl⟩
abbrev main_cst_8 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_c : Ref sig .tc := ⟨.hbm, 117, rfl⟩
abbrev main_call2_v0 : Ref sig .tc := ⟨.hbm, 118, rfl⟩
abbrev main_v48 : Ref sig .tc := ⟨.hbm, 119, rfl⟩
abbrev main_v49 : Ref sig .tc := ⟨.hbm, 120, rfl⟩
abbrev main_c_9 : Ref sig .tc := ⟨.hbm, 121, rfl⟩
abbrev main_call3_v0 : Ref sig .tc := ⟨.hbm, 122, rfl⟩
abbrev main_v50 : Ref sig .tc := ⟨.hbm, 123, rfl⟩
abbrev main_c_10 : Ref sig .tc := ⟨.hbm, 124, rfl⟩
abbrev main_call4_v0 : Ref sig .tc := ⟨.hbm, 125, rfl⟩
abbrev main_v51 : Ref sig .tc := ⟨.hbm, 126, rfl⟩

abbrev nD : Nat := 1
abbrev τ : Topo := Topo.v7x

variable {F : FTy → Type} [FloatOps F]
-- ==== KernelAttnOutFwd.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceAttnOutFwdIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== KernelMlpFwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S8192x4096, .bf16⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMlpFwdIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x4096, .bf16⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelConvInFwd.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S8192x2048, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceConvInFwdIdeal.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelConvOutFwd.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceConvOutFwdIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== KernelAttnInFwd.lean ====
abbrev S8192x1024 : Shape := ⟨2, ![8192, 1024]⟩
abbrev S1x1024 : Shape := ⟨2, ![1, 1024]⟩
abbrev S1024x3072 : Shape := ⟨2, ![1024, 3072]⟩
abbrev S1024x16 : Shape := ⟨2, ![1024, 16]⟩
abbrev S1x16 : Shape := ⟨2, ![1, 16]⟩
abbrev S_ : Shape := ⟨0, ![]⟩
abbrev S1024x128 : Shape := ⟨2, ![1024, 128]⟩
abbrev S1x128 : Shape := ⟨2, ![1, 128]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1024x16, .f32⟩
  | .hbm, ⟨4, _⟩ => ⟨S1x16, .f32⟩
  | .hbm, ⟨5, _⟩ => ⟨S1024x3072, .bf16⟩
  | .hbm, ⟨6, _⟩ => ⟨S1024x16, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAttnInFwdIdeal.lean ====
abbrev S8192x1024 : Shape := ⟨2, ![8192, 1024]⟩
abbrev S1x1024 : Shape := ⟨2, ![1, 1024]⟩
abbrev S1024x3072 : Shape := ⟨2, ![1024, 3072]⟩
abbrev S1024x16 : Shape := ⟨2, ![1024, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x16 : Shape := ⟨2, ![8192, 16]⟩
abbrev S8192x128 : Shape := ⟨2, ![8192, 128]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1024x16, .f32⟩
  | .hbm, ⟨4, _⟩ => ⟨S1x16, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .i1⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S_, .i32⟩
  | .hbm, ⟨50, _⟩ => ⟨S_, .f32⟩
  | .hbm, ⟨51, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v24 : Ref sig .tc := ⟨.hbm, 48, rfl⟩
abbrev main_c : Ref sig .tc := ⟨.hbm, 49, rfl⟩
abbrev main_call1_v0 : Ref sig .tc := ⟨.hbm, 50, rfl⟩
abbrev main_v25 : Ref sig .tc := ⟨.hbm, 51, rfl⟩

abbrev nD : Nat := 1
abbrev τ : Topo := Topo.v7x

variable {F : FTy → Type} [FloatOps F]
-- ==== KernelDwConv.lean ====
abbrev S8192x1024 : Shape := ⟨2, ![8192, 1024]⟩
abbrev S31x1024 : Shape := ⟨2, ![31, 1024]⟩
abbrev S_ : Shape := ⟨0, ![]⟩
abbrev S32x1024 : Shape := ⟨2, ![32, 1024]⟩
abbrev S256x256 : Shape := ⟨2, ![256, 256]⟩
abbrev S32x256 : Shape := ⟨2, ![32, 256]⟩
abbrev S288x256 : Shape := ⟨2, ![288, 256]⟩
abbrev S32x8x256 : Shape := ⟨3, ![32, 8, 256]⟩
abbrev S32x128 : Shape := ⟨2, ![32, 128]⟩
abbrev S1x128 : Shape := ⟨2, ![1, 128]⟩
abbrev S1x8x128 : Shape := ⟨3, ![1, 8, 128]⟩
abbrev S8x128 : Shape := ⟨2, ![8, 128]⟩
abbrev S4x8x128 : Shape := ⟨3, ![4, 8, 128]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S8192x1024, .f32⟩
  | .hbm, ⟨7, _⟩ => ⟨S32x1024, .f32⟩
  | .local _ .vmem, ⟨0, _⟩ => ⟨S256x256, .f32⟩
  | .local _ .vmem, ⟨1, _⟩ => ⟨S256x256, .f32⟩
  | .local _ .vmem, ⟨2, _⟩ => ⟨S32x256, .f32⟩
  | .local _ .vmem, ⟨3, _⟩ => ⟨S32x256, .f32⟩
  | .local _ .vmem, ⟨4, _⟩ => ⟨S256x256, .f32⟩
  | .local _ .vmem, ⟨5, _⟩ => ⟨S256x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S256x256, .f32⟩
  | .local _ .vmem, ⟨11, _⟩ => ⟨S256x256, .f32⟩
  | .local _ .vmem, ⟨12, _⟩ => ⟨S32x256, .f32⟩
  | .local _ .vmem, ⟨13, _⟩ => ⟨S32x256, .f32⟩
  | .local _ .vmem, ⟨14, _⟩ => ⟨S288x256, .f32⟩
  | .local _ .vmem, ⟨15, _⟩ => ⟨S288x256, .f32⟩
  | .local _ .vmem, ⟨16, _⟩ => ⟨S32x8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32_6290 : BitVec 32 := 31#32
  let v8009 : BitVec 1 := Scalar.cmpi .eq arg1 c31_i32_6290
  let v8010 : BitVec 32 := Scalar.extui v8009
  let c0_i32_6291 : BitVec 32 := 0#32
  let v8011 : BitVec 1 := Scalar.cmpi .ne v8010 c0_i32_6291
  v8011

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceDwConvIdeal.lean ====
abbrev S8192x1024 : Shape := ⟨2, ![8192, 1024]⟩
abbrev S31x1024 : Shape := ⟨2, ![31, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S1024 : Shape := ⟨1, ![1024]⟩
abbrev S32x1024 : Shape := ⟨2, ![32, 1024]⟩

abbrev nBuf : Space → Nat
  | .hbm => 697
  | .vmem => 0
  | .smem => 0
  | _ => 0

abbrev hbmTy0_0 (i : Nat) : BufTy := match i % 128 with
  | 0 => ⟨S8192x1024, .f32⟩
  | 1 => ⟨S8192x1024, .f32⟩
  | 2 => ⟨S31x1024, .f32⟩
  | 3 => ⟨S_, .f32⟩
  | 4 => ⟨S30x1024, .f32⟩
  | 5 => ⟨S8222x1024, .f32⟩
  | 6 => ⟨S_, .f32⟩
  | 7 => ⟨S30x1024, .f32⟩
  | 8 => ⟨S8192x1024, .f32⟩
  | 9 => ⟨S1x1024, .f32⟩
  | 10 => ⟨S1024, .f32⟩
  | 11 => ⟨S1x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S1x1024, .f32⟩
  | 19 => ⟨S1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S1x1024, .f32⟩
  | 40 => ⟨S1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S1x1024, .f32⟩
  | 47 => ⟨S1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S1024, .f32⟩
  | 55 => ⟨S1x1024, .f32⟩
  | 56 => ⟨S8192x1024, .f32⟩
  | 57 => ⟨S8192x1024, .f32⟩
  | 58 => ⟨S8192x1024, .f32⟩
  | 59 => ⟨S8192x1024, .f32⟩
  | 60 => ⟨S1x1024, .f32⟩
  | 61 => ⟨S1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S1x1024, .f32⟩
  | 68 => ⟨S1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S1x1024, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S1x1024, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S1x1024, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S1x1024, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S1024, .f32⟩
  | 104 => ⟨S1x1024, .f32⟩
  | 105 => ⟨S8192x1024, .f32⟩
  | 106 => ⟨S8192x1024, .f32⟩
  | 107 => ⟨S8192x1024, .f32⟩
  | 108 => ⟨S8192x1024, .f32⟩
  | 109 => ⟨S1x1024, .f32⟩
  | 110 => ⟨S1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S1x1024, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S8192x1024, .f32⟩
  | 123 => ⟨S1x1024, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S1x1024, .f32⟩
  | 10 => ⟨S1024, .f32⟩
  | 11 => ⟨S1x1024, .f32⟩
  | 12 => ⟨S8192x1024, .f32⟩
  | 13 => ⟨S8192x1024, .f32⟩
  | 14 => ⟨S8192x1024, .f32⟩
  | 15 => ⟨S8192x1024, .f32⟩
  | 16 => ⟨S1x1024, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S31x1024, .f32⟩
  | 112 => ⟨S_, .f32⟩
  | 113 => ⟨S8222x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S_, .f32⟩
  | 127 => ⟨S8222x1024, .f32⟩
  | _ => ⟨S8192x1024, .f32⟩

abbrev hbmTy0_2 (i : Nat) : BufTy := match i % 128 with
  | 0 => ⟨S8222x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S8222x1024, .f32⟩
  | 15 => ⟨S8222x1024, .f32⟩
  | 16 => ⟨S8192x1024, .f32⟩
  | 17 => ⟨S_, .f32⟩
  | 18 => ⟨S1024, .f32⟩
  | 19 => ⟨S1x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S8222x1024, .f32⟩
  | 30 => ⟨S8222x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S8222x1024, .f32⟩
  | 45 => ⟨S8222x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S8222x1024, .f32⟩
  | 60 => ⟨S8222x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S8222x1024, .f32⟩
  | 75 => ⟨S8222x1024, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S_, .f32⟩
  | 86 => ⟨S31x1024, .f32⟩
  | 87 => ⟨S31x1024, .f32⟩
  | 88 => ⟨S_, .f32⟩
  | 89 => ⟨S8222x1024, .f32⟩
  | 90 => ⟨S8222x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S_, .f32⟩
  | 104 => ⟨S8222x1024, .f32⟩
  | 105 => ⟨S8222x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S31x1024, .f32⟩
  | 117 => ⟨S31x1024, .f32⟩
  | 118 => ⟨S_, .f32⟩
  | 119 => ⟨S8222x1024, .f32⟩
  | 120 => ⟨S8222x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x1024, .f32⟩

abbrev hbmTy0_3 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S_, .f32⟩
  | 6 => ⟨S8222x1024, .f32⟩
  | 7 => ⟨S8222x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S31x1024, .f32⟩
  | 19 => ⟨S31x1024, .f32⟩
  | 20 => ⟨S_, .f32⟩
  | 21 => ⟨S8222x1024, .f32⟩
  | 22 => ⟨S8222x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S_, .f32⟩
  | 36 => ⟨S8222x1024, .f32⟩
  | 37 => ⟨S8222x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S31x1024, .f32⟩
  | 49 => ⟨S31x1024, .f32⟩
  | 50 => ⟨S_, .f32⟩
  | 51 => ⟨S8222x1024, .f32⟩
  | 52 => ⟨S8222x1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S_, .f32⟩
  | 66 => ⟨S8222x1024, .f32⟩
  | 67 => ⟨S8222x1024, .f32⟩
  | 68 => ⟨S8192x1024, .f32⟩
  | 69 => ⟨S_, .f32⟩
  | 70 => ⟨S1024, .f32⟩
  | 71 => ⟨S1x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S_, .f32⟩
  | 78 => ⟨S31x1024, .f32⟩
  | 79 => ⟨S31x1024, .f32⟩
  | 80 => ⟨S_, .f32⟩
  | 81 => ⟨S8222x1024, .f32⟩
  | 82 => ⟨S8222x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S_, .f32⟩
  | 93 => ⟨S31x1024, .f32⟩
  | 94 => ⟨S31x1024, .f32⟩
  | 95 => ⟨S_, .f32⟩
  | 96 => ⟨S8222x1024, .f32⟩
  | 97 => ⟨S8222x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S_, .f32⟩
  | 108 => ⟨S31x1024, .f32⟩
  | 109 => ⟨S31x1024, .f32⟩
  | 110 => ⟨S_, .f32⟩
  | 111 => ⟨S8222x1024, .f32⟩
  | 112 => ⟨S8222x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S31x1024, .f32⟩
  | 124 => ⟨S31x1024, .f32⟩
  | 125 => ⟨S_, .f32⟩
  | 126 => ⟨S8222x1024, .f32⟩
  | 127 => ⟨S8222x1024, .f32⟩
  | _ => ⟨S8192x1024, .f32⟩

abbrev hbmTy0_4 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S_, .f32⟩
  | 10 => ⟨S31x1024, .f32⟩
  | 11 => ⟨S31x1024, .f32⟩
  | 12 => ⟨S_, .f32⟩
  | 13 => ⟨S8222x1024, .f32⟩
  | 14 => ⟨S8222x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S_, .f32⟩
  | 25 => ⟨S31x1024, .f32⟩
  | 26 => ⟨S31x1024, .f32⟩
  | 27 => ⟨S_, .f32⟩
  | 28 => ⟨S8222x1024, .f32⟩
  | 29 => ⟨S8222x1024, .f32⟩
  | 30 => ⟨S8192x1024, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S1024, .f32⟩
  | 38 => ⟨S1x1024, .f32⟩
  | 39 => ⟨S_, .f32⟩
  | 40 => ⟨S31x1024, .f32⟩
  | 41 => ⟨S31x1024, .f32⟩
  | 42 => ⟨S_, .f32⟩
  | 43 => ⟨S8222x1024, .f32⟩
  | 44 => ⟨S8222x1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S_, .f32⟩
  | 55 => ⟨S31x1024, .f32⟩
  | 56 => ⟨S31x1024, .f32⟩
  | 57 => ⟨S_, .f32⟩
  | 58 => ⟨S8222x1024, .f32⟩
  | 59 => ⟨S8222x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S1024, .f32⟩
  | 68 => ⟨S1x1024, .f32⟩
  | 69 => ⟨S_, .f32⟩
  | 70 => ⟨S31x1024, .f32⟩
  | 71 => ⟨S31x1024, .f32⟩
  | 72 => ⟨S_, .f32⟩
  | 73 => ⟨S8222x1024, .f32⟩
  | 74 => ⟨S8222x1024, .f32⟩
  | 75 => ⟨S8192x1024, .f32⟩
  | 76 => ⟨S_, .f32⟩
  | 77 => ⟨S1024, .f32⟩
  | 78 => ⟨S1x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S_, .f32⟩
  | 85 => ⟨S31x1024, .f32⟩
  | 86 => ⟨S31x1024, .f32⟩
  | 87 => ⟨S_, .f32⟩
  | 88 => ⟨S8222x1024, .f32⟩
  | 89 => ⟨S8222x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S_, .f32⟩
  | 100 => ⟨S31x1024, .f32⟩
  | 101 => ⟨S31x1024, .f32⟩
  | 102 => ⟨S_, .f32⟩
  | 103 => ⟨S8222x1024, .f32⟩
  | 104 => ⟨S8222x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S_, .f32⟩
  | 115 => ⟨S31x1024, .f32⟩
  | 116 => ⟨S31x1024, .f32⟩
  | 117 => ⟨S_, .f32⟩
  | 118 => ⟨S8222x1024, .f32⟩
  | 119 => ⟨S8222x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_5 (i : Nat) : BufTy := match i % 128 with
  | 0 => ⟨S1x1024, .f32⟩
  | 1 => ⟨S_, .f32⟩
  | 2 => ⟨S31x1024, .f32⟩
  | 3 => ⟨S31x1024, .f32⟩
  | 4 => ⟨S_, .f32⟩
  | 5 => ⟨S8222x1024, .f32⟩
  | 6 => ⟨S8222x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S_, .f32⟩
  | 17 => ⟨S31x1024, .f32⟩
  | 18 => ⟨S31x1024, .f32⟩
  | 19 => ⟨S_, .f32⟩
  | 20 => ⟨S8222x1024, .f32⟩
  | 21 => ⟨S8222x1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S1x1024, .f32⟩
  | 31 => ⟨S_, .f32⟩
  | 32 => ⟨S31x1024, .f32⟩
  | 33 => ⟨S31x1024, .f32⟩
  | 34 => ⟨S_, .f32⟩
  | 35 => ⟨S8222x1024, .f32⟩
  | 36 => ⟨S8222x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S_, .f32⟩
  | 50 => ⟨S8222x1024, .f32⟩
  | 51 => ⟨S8222x1024, .f32⟩
  | 52 => ⟨S30x1024, .f32⟩
  | 53 => ⟨S8192x1024, .f32⟩
  | 54 => ⟨S_, .i32⟩
  | 55 => ⟨S_, .f32⟩
  | 56 => ⟨S32x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_cst_2 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_cst_3 : Ref sig .tc := ⟨.hbm, 235, rfl⟩
abbrev main_v228 : Ref sig .tc := ⟨.hbm, 236, rfl⟩
abbrev main_v229 : Ref sig .tc := ⟨.hbm, 237, rfl⟩
abbrev main_cst_4 : Ref sig .tc := ⟨.hbm, 238, rfl⟩
abbrev main_v230 : Ref sig .tc := ⟨.hbm, 239, rfl⟩
abbrev main_cst_5 : Ref sig .tc := ⟨.hbm, 240, rfl⟩
abbrev main_v231 : Ref sig .tc := ⟨.hbm, 241, rfl⟩
abbrev main_v232 : Ref sig .tc := ⟨.hbm, 242, rfl⟩
abbrev main_cst_6 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_7 : Ref sig .tc := ⟨.hbm, 248, rfl⟩
abbrev main_v237 : Ref sig .tc := ⟨.hbm, 249, rfl⟩
abbrev main_v238 : Ref sig .tc := ⟨.hbm, 250, rfl⟩
abbrev main_cst_8 : Ref sig .tc := ⟨.hbm, 251, rfl⟩
abbrev main_v239 : Ref sig .tc := ⟨.hbm, 252, rfl⟩
abbrev main_v240 : Ref sig .tc := ⟨.hbm, 253, rfl⟩
abbrev main_cst_9 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_10 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_11 : Ref sig .tc := ⟨.hbm, 263, rfl⟩
abbrev main_v248 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_14 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_18 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_cst_20 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_22 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_cst_24 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_26 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_cst_28 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_30 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_cst_32 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_34 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_cst_36 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_38 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_cst_40 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_42 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_cst_44 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_46 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_cst_48 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_50 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_cst_52 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_54 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_cst_56 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_58 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_cst_60 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_62 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_cst_64 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_66 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_cst_68 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_70 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_cst_72 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_74 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_cst_76 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_78 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_cst_80 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_82 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_cst_84 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_86 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_cst_88 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_90 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_cst_92 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_94 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_cst_96 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_98 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_cst_100 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_102 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_cst_104 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_106 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_cst_108 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_110 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_cst_112 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_114 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_cst_116 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_118 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_cst_120 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_122 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_cst_124 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_c : Ref sig .tc := ⟨.hbm, 694, rfl⟩
abbrev main_call0_v0 : Ref sig .tc := ⟨.hbm, 695, rfl⟩
abbrev main_v564 : Ref sig .tc := ⟨.hbm, 696, rfl⟩

abbrev nD : Nat := 1
abbrev τ : Topo := Topo.v7x

variable {F : FTy → Type} [FloatOps F]
-- ==== KernelDwConvFwd.lean ====
abbrev S8192x1024 : Shape := ⟨2, ![8192, 1024]⟩
abbrev S31x1024 : Shape := ⟨2, ![31, 1024]⟩
abbrev S1x1024 : Shape := ⟨2, ![1, 1024]⟩
abbrev S_ : Shape := ⟨0, ![]⟩
abbrev S32x1024 : Shape := ⟨2, ![32, 1024]⟩
abbrev S256x256 : Shape := ⟨2, ![256, 256]⟩
abbrev S32x256 : Shape := ⟨2, ![32, 256]⟩
abbrev S1x256 : Shape := ⟨2, ![1, 256]⟩
abbrev S288x256 : Shape := ⟨2, ![288, 256]⟩
abbrev S32x128 : Shape := ⟨2, ![32, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S288x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDwConvFwdIdeal.lean ====
abbrev S8192x1024 : Shape := ⟨2, ![8192, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩

abbrev nBuf : Space → Nat
  | .hbm => 227
  | .vmem => 0
  | .smem => 0
  | _ => 0

abbrev hbmTy0_0 (i : Nat) : BufTy := match i % 128 with
  | 0 => ⟨S8192x1024, .f32⟩
  | 1 => ⟨S31x1024, .f32⟩
  | 2 => ⟨S1x1024, .f32⟩
  | 3 => ⟨S_, .f32⟩
  | 4 => ⟨S30x1024, .f32⟩
  | 5 => ⟨S8222x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S1x1024, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S1x1024, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S1x1024, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S8192x1024, .f32⟩
  | 114 => ⟨S1x1024, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S8192x1024, .f32⟩
  | 121 => ⟨S1x1024, .f32⟩
  | 122 => ⟨S1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S1x1024, .f32⟩
  | 50 => ⟨S1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S1x1024, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S1x1024, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S1x1024, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S1x1024, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩

abbrev nD : Nat := 1
abbrev τ : Topo := Topo.v7x

variable {F : FTy → Type} [FloatOps F]
-- ==== Proof.Scan.Sums.lean ====
module

public import Idealize.ShloMosaic.Lib.Pointwise

@[expose] public section

set_option maxRecDepth 16384

noncomputable section

namespace Cert.Scan

open Idealize.ShloMosaic Idealize.ShloMosaic.TcCoe Idealize.SL.Sem

/-- A left fold that only adds is the start plus the sum of the terms. -/
theorem foldl_add {ι : Type} (f : ι → EReal) (l : List ι) (v : EReal) :
    l.foldl (fun r n => r + f n) v = v + (l.map f).sum := by
  induction l generalizing v with
  | nil => simp
  | cons a l ih => simp [ih, add_assoc]

/-- The sum of `g` over the steps `T, …, 8191`. -/
def suffix (g : ℕ → EReal) (T : ℕ) : EReal := ∑ s ∈ Finset.Ico T 8192, g s

/-- The ideal window sum as a finite sum over the positions of the window: the initial value, and for each
    position the operand's entry there, or the initial value where the position is padding. -/
theorem reduceWindowAdd_apply {s t u : Shape} (window strides lo hi : Fin s.rank → Nat) (x : s.Idx → EReal)
    (init : u.Idx → EReal) (h : s.ReduceWindows window strides lo hi t) (hu : 0 < u.numel) (j : t.Idx) :
    Host.reduceWindowAdd (F := Ideal) (φ := .f32) window strides lo hi x init h hu j
      = init (Shape.Idx.first hu) + ∑ i : (⟨s.rank, window⟩ : Shape).Idx,
          if hin : ∀ a, lo a ≤ (j (a.cast h.1.symm)).val * strides a + (i a).val ∧
              (j (a.cast h.1.symm)).val * strides a + (i a).val - lo a < s.size a
          then x (fun a => ⟨(j (a.cast h.1.symm)).val * strides a + (i a).val - lo a, (hin a).2⟩)
          else init (Shape.Idx.first hu) := by
  rw [← (⟨s.rank, window⟩ : Shape).rowMajor.symm.sum_comp, Fin.sum_univ_def, ← foldl_add]
  unfold Host.reduceWindowAdd
  rw [Ideal.hostReduceWindowAdd_def]
  unfold Ideal.hostReduceWindowAdd Host.reduceWindow
  dsimp only
  congr!

/-- The host's window sum that pads after the end: entry `t` of the result is the sum of the entries
    `t, …, 8191` of its column. -/
theorem window_suffix (x : (⟨3, ![1, 8192, 16]⟩ : Shape).Idx → EReal) (v : (⟨0, ![]⟩ : Shape).Idx → EReal)
    (hv : ∀ i, v i = 0)
    (h : (⟨3, ![1, 8192, 16]⟩ : Shape).ReduceWindows ![1, 8192, 1] ![1, 1, 1] ![0, 0, 0] ![0, 8191, 0] ⟨3, ![1, 8192, 16]⟩)
    (hu : 0 < (⟨0, ![]⟩ : Shape).numel) (t : Fin 8192) (k : Fin 16) (g : ℕ → EReal)
    (hg : ∀ s : Fin 8192, x (ix3 0 s k) = g s) :
    Host.reduceWindowAdd (F := Ideal) (φ := .f32) ![1, 8192, 1] ![1, 1, 1] ![0, 0, 0] ![0, 8191, 0] x v h hu (ix3 0 t k)
      = suffix g t := by
  rw [reduceWindowAdd_apply, hv, zero_add, sum_idx3]
  simp only [Fin.sum_univ_one, Fin.isValue]
  have key : ∀ w : Fin 8192, (if hin : ∀ a : Fin 3, (![0, 0, 0] : Fin 3 → ℕ) a
        ≤ ((ix3 (0 : Fin 1) t k : (⟨3, ![1, 8192, 16]⟩ : Shape).Idx) (a.cast h.1.symm)).val * (![1, 1, 1] : Fin 3 → ℕ) a
          + ((ix3 (0 : Fin 1) w (0 : Fin 1) : (⟨3, ![1, 8192, 1]⟩ : Shape).Idx) a).val ∧
      ((ix3 (0 : Fin 1) t k : (⟨3, ![1, 8192, 16]⟩ : Shape).Idx) (a.cast h.1.symm)).val * (![1, 1, 1] : Fin 3 → ℕ) a
          + ((ix3 (0 : Fin 1) w (0 : Fin 1) : (⟨3, ![1, 8192, 1]⟩ : Shape).Idx) a).val - (![0, 0, 0] : Fin 3 → ℕ) a
        < (⟨3, ![1, 8192, 16]⟩ : Shape).size a
      then x (fun a => ⟨_, (hin a).2⟩) else 0) = if (t : ℕ) + w < 8192 then g (t + w) else 0 := by
    intro w
    by_cases hw : (t : ℕ) + w < 8192
    · rw [if_pos hw, dif_pos, ← hg ⟨t + w, hw⟩]
      · congr 1
        funext a
        fin_cases a <;> simp [ix3]
      · intro a
        fin_cases a <;> simp [ix3] <;> omega
    · rw [if_neg hw, dif_neg]
      intro hin
      have := (hin 1).2
      simp [ix3] at this
      omega
  refine (Finset.sum_congr rfl fun w _ => key w).trans ?_
  rw [Fin.sum_univ_eq_sum_range (fun w => if (t : ℕ) + w < 8192 then g (t + w) else 0) 8192, ← Finset.sum_filter]
  unfold suffix
  refine Finset.sum_bij (fun w _ => t + w) ?_ ?_ ?_ ?_
  · intro w hw; simp only [Finset.mem_filter, Finset.mem_range, Finset.mem_Ico] at hw ⊢; omega
  · intro a _ b _ hab; simpa using hab
  · intro b hb
    simp only [Finset.mem_Ico] at hb
    exact ⟨b - t, by simp only [Finset.mem_filter, Finset.mem_range]; omega, by omega⟩
  · intro _ _; rfl

/-- Splitting a suffix after its first 256 steps. -/
theorem suffix_split (g : ℕ → EReal) (T r : ℕ) (hr : r ≤ 256) (h : T + 256 ≤ 8192) :
    (∑ k : Fin 256, (if r ≤ (k : ℕ) then g (T + k) else 0)) + suffix g (T + 256) = suffix g (T + r) := by
  rw [Fin.sum_univ_eq_sum_range (fun k => if r ≤ k then g (T + k) else 0) 256]
  unfold suffix
  rw [← Finset.sum_Ico_consecutive g (show T + r ≤ T + 256 by omega) h]
  congr 1
  rw [← Finset.sum_subset (s₁ := Finset.Ico r 256)]
  · rw [add_comm T r, add_comm T 256, ← Finset.sum_Ico_add']
    refine Finset.sum_congr rfl fun k hk => ?_
    rw [if_pos (Finset.mem_Ico.mp hk).1, add_comm]
  · intro k hk; simp only [Finset.mem_range]; exact (Finset.mem_Ico.mp hk).2
  · intro k hk hk'
    simp only [Finset.mem_range, Finset.mem_Ico, not_and, not_lt] at hk hk'
    rw [if_neg (by intro h'; have := hk' h'; omega)]

end Cert.Scan

end
-- ==== Proof.Scan.Point.lean ====
module

public import proofs.«01_k».proof.Proof.Scan.Sums
public import proofs.«01_k».proof.Proof.Gen.KernelScanIdeal.Value
public import Idealize.ShloMosaic.Lib.Pipeline.ValueKit
public import Idealize.ShloMosaic.Lib.Pipeline.ReadBack

@[expose] public section

set_option maxRecDepth 16384

noncomputable section

namespace Cert.Scan

open Idealize.ShloMosaic Idealize.ShloMosaic.TcCoe Idealize.SL.Sem
open Idealize.ShloMosaic.Pipeline (Dat)
open Cert.KernelScanIdeal Cert.KernelScanIdeal.Gen

/-- One step of the scan at row `r`, column `l`. -/
theorem pay2_apply (x y : S256x128.Idx → EReal) (z : S1x128.Idx → EReal) (r : Fin 256) (l : Fin 128) :
    k0_pay2 (F := Ideal) x y z (ix2 r l)
      = (∑ k : Fin 256, (if (r : ℕ) ≤ k then x (ix2 k l) + y (ix2 k l) else 0)) + z (ix2 0 l) := by
  pointwise [k0_pay2]
  congr 1
  refine Finset.sum_congr rfl fun k _ => ?_
  have hk := k.isLt
  have hr := r.isLt
  have e : IntOp.cmpi CmpIPredicate.sge (BitVec.ofNat 32 ↑k) (BitVec.ofNat 32 ↑r) = if (r : ℕ) ≤ k then 1#1 else 0#1 := by
    have e1 := WordCmp.toInt_ofNat_of_lt (w := 32) (a := k) (by omega)
    have e2 := WordCmp.toInt_ofNat_of_lt (w := 32) (a := r) (by omega)
    split
    · rw [IntOp.cmpi_sge, e1, e2]; omega
    · refine (BitVec.eq_zero_or_eq_one _).resolve_right ?_
      rw [IntOp.cmpi_sge, e1, e2]; omega
  rw [e]
  split <;> simp [Scalar.select]

theorem pay3_apply (x y : S256x128.Idx → EReal) (z : S1x128.Idx → EReal) (l : Fin 128) :
    k0_pay3 (F := Ideal) x y z (ix2 0 l) = k0_pay2 (F := Ideal) x y z (ix2 0 l) := by
  pointwise [k0_pay3]

theorem pay1_apply (l : Fin 128) : k0_pay1 (F := Ideal) (ix2 0 l) = 0 := by
  pointwise [k0_pay1]

variable (m : (ℓ : Loc nD τ sig) → Buf (Elt Ideal) ℓ)

theorem idx : ∀ t : Fin cfg0.N, win0_0.index t = ![31 - t.val, 0] ∧ win0_1.index t = ![31 - t.val, 0]
    ∧ win0_2.index t = ![31 - t.val, 0] :=
  (by decide +kernel : ∀ t : Fin grid0.N, _)

theorem read0 (c : Dev nD) (t : Fin cfg0.N) (r : Fin 256) (l : Fin 128) (h : (31 - t.val) * 256 + r < 8192) :
    iblk m c 0 t (ix2 r l) = V m c main_v2 (ix2 ⟨(31 - t.val) * 256 + r, h⟩ l) := by
  unfold iblk
  blk_ext [iblk, V, (idx t).1]

theorem read1 (c : Dev nD) (t : Fin cfg0.N) (r : Fin 256) (l : Fin 128) (h : (31 - t.val) * 256 + r < 8192) :
    iblk m c 1 t (ix2 r l) = V m c main_v5 (ix2 ⟨(31 - t.val) * 256 + r, h⟩ l) := by
  unfold iblk
  blk_ext [iblk, V, (idx t).2.1]

/-- The first point: the step over the carry set to zero. -/
theorem outs_A (c : Dev nD) (t : Fin cfg0.N) (h0 : t.val % 32 = 0) :
    outsAt0 m c t.val t.isLt = (k0_pay2 (F := Ideal) (iblk m c 0 t) (iblk m c 1 t) (k0_pay1 (F := Ideal)),
      k0_pay3 (F := Ideal) (iblk m c 0 t) (iblk m c 1 t) (k0_pay1 (F := Ideal))) := by
  rw [outsAt0_A m c t h0]
  refine Prod.ext ?_ ?_ <;> dsimp only <;> frame_out

/-- A later point: the step over the carry that the point before left. -/
theorem outs_B (c : Dev nD) (t : Fin cfg0.N) (h0 : ¬t.val % 32 = 0) (h : t.val - 1 < cfg0.N) :
    outsAt0 m c t.val t.isLt = (k0_pay2 (F := Ideal) (iblk m c 0 t) (iblk m c 1 t) (outsAt0 m c (t.val - 1) h).2,
      k0_pay3 (F := Ideal) (iblk m c 0 t) (iblk m c 1 t) (outsAt0 m c (t.val - 1) h).2) := by
  rw [outsAt0_B m c t h0]
  refine Prod.ext ?_ ?_ <;> dsimp only <;> frame_out <;> rw [Idealize.ShloMosaic.read_unread_whole]

/-- The two operands as the region reads them. -/
def src0 (c : Dev nD) : S8192x128.Idx → EReal := V m c main_v2
def src1 (c : Dev nD) : S8192x128.Idx → EReal := V m c main_v5

/-- What the scan adds up in column `l`: the sum of the two operands' entries of a row. -/
def col (c : Dev nD) (l : Fin 128) (s : ℕ) : EReal :=
  if h : s < 8192 then src0 m c (ix2 ⟨s, h⟩ l) + src1 m c (ix2 ⟨s, h⟩ l) else 0

/-- The step at a point whose carry is the sum of the rows after its block. -/
theorem step_suffix (c : Dev nD) (t : Fin cfg0.N) (z : S1x128.Idx → EReal) (l : Fin 128) (r : Fin 256)
    (hz : z (ix2 0 l) = suffix (col m c l) ((31 - t.val) * 256 + 256)) :
    k0_pay2 (F := Ideal) (iblk m c 0 t) (iblk m c 1 t) z (ix2 r l) = suffix (col m c l) ((31 - t.val) * 256 + r) := by
  have ht : t.val < 32 := lt_of_lt_of_eq t.isLt N_0
  refine (pay2_apply _ _ _ r l).trans ?_
  rw [hz, ← suffix_split (col m c l) ((31 - t.val) * 256) r (by have := r.isLt; omega) (by omega)]
  congr 1
  refine Finset.sum_congr rfl fun k _ => ?_
  have hk : (31 - t.val) * 256 + k < 8192 := by have := k.isLt; omega
  rw [show col m c l ((31 - t.val) * 256 + k) = _ from dif_pos hk]
  rw [show src0 m c _ = _ from (read0 m c t k l hk).symm, show src1 m c _ = _ from (read1 m c t k l hk).symm]

/-- After point `n` the carry is the sum of the rows from that point's block to the end, and the block the point
    wrote holds in row `r` the sum of the rows from there to the end. -/
theorem outs_suffix (c : Dev nD) (l : Fin 128) : ∀ (n : ℕ) (hn : n < cfg0.N),
    (∀ r : Fin 256, (outsAt0 m c n hn).1 (ix2 r l) = suffix (col m c l) ((31 - n) * 256 + r))
    ∧ (outsAt0 m c n hn).2 (ix2 0 l) = suffix (col m c l) ((31 - n) * 256) := by
  intro n
  induction n with
  | zero =>
    intro hn
    have hz : k0_pay1 (F := Ideal) (ix2 0 l) = suffix (col m c l) ((31 - 0) * 256 + 256) := by
      rw [pay1_apply]; simp [suffix]
    have e := outs_A m c ⟨0, hn⟩ rfl
    refine ⟨fun r => ?_, ?_⟩
    · rw [show outsAt0 m c 0 hn = _ from e]
      exact step_suffix m c ⟨0, hn⟩ _ l r hz
    · rw [show outsAt0 m c 0 hn = _ from e]
      refine (pay3_apply _ _ _ l).trans ?_
      exact step_suffix m c ⟨0, hn⟩ _ l 0 hz
  | succ n ih =>
    intro hn
    have hN : n + 1 < 32 := lt_of_lt_of_eq hn N_0
    have hn' : n < cfg0.N := Nat.lt_of_succ_lt hn
    have hz : (outsAt0 m c n hn').2 (ix2 0 l) = suffix (col m c l) ((31 - (n + 1)) * 256 + 256) := by
      rw [(ih hn').2]; congr 1; omega
    have e := outs_B m c ⟨n + 1, hn⟩ (by show ¬(n + 1) % 32 = 0; omega) hn'
    refine ⟨fun r => ?_, ?_⟩
    · rw [show outsAt0 m c (n + 1) hn = _ from e]
      exact step_suffix m c ⟨n + 1, hn⟩ _ l r hz
    · rw [show outsAt0 m c (n + 1) hn = _ from e]
      refine (pay3_apply _ _ _ l).trans ?_
      exact step_suffix m c ⟨n + 1, hn⟩ _ l 0 hz

end Cert.Scan

end
-- ==== Proof.Scan.Reference.lean ====
module

public import proofs.«01_k».proof.Proof.Scan.Sums
public import proofs.«01_k».proof.Proof.Gen.ReferenceScanIdeal.Run

@[expose] public section

set_option maxRecDepth 16384

noncomputable section

namespace Cert.Scan

open Idealize.ShloMosaic Idealize.ShloMosaic.TcCoe Idealize.SL.Sem
open Cert.ReferenceScanIdeal Cert.ReferenceScanIdeal.Gen

/-- The reference's result as a term of its two arguments. -/
def REF (x y : FVec Ideal S1x16x8192 .f32) : FVec Ideal S8192x128 .f32 :=
  pad S8192x128 ![0, 0] ![0, 112] ![0, 0] (shapeCast _ (Host.reduceWindowAdd (F := Ideal) (φ := .f32) ![1, 8192, 1] ![1, 1, 1] ![0, 0, 0] ![0, 8191, 0] (transpose S1x8192x16 [0, 2, 1] (addf (F := Ideal) (φ := .f32) x y) transposes_S1x16x8192_S1x8192x16_0_2_1) (broadcastInDim S_ ![] bcast_S_S_ (constant (F := Ideal) S_ .f32 0x00000000#32)) reduceWindows_S1x8192x16_S1x8192x16_w1s1p0_0_w8192s1p0_8191_w1s1p0_0 h_S_) shapeCasts_S1x8192x16_S8192x16) (sitofp (F := Ideal) .f32 (constantI S_ 32 0#32)) pads_S8192x16_S8192x128_000_01120 h_S_

/-- Entry `(T, l)` of the reference: in the first 16 columns the sum over the rows from `T` on, 0 in the others. -/
theorem ref_apply (x y : S1x16x8192.Idx → EReal) (T : Fin 8192) (l : Fin 128) :
    REF x y (ix2 T l) = suffix (fun s => if h : l.val < 16 ∧ s < 8192 then x (ix3 0 ⟨l, h.1⟩ ⟨s, h.2⟩) + y (ix3 0 ⟨l, h.1⟩ ⟨s, h.2⟩) else 0) T := by
  pointwise [REF]
  split
  · rename_i h
    refine window_suffix _ _ ?_ _ _ T ⟨l, h⟩ _ ?_
    · intro i; pointwise
    · intro s
      pointwise
      rw [dif_pos h]
  · rename_i h
    unfold suffix
    rw [Finset.sum_eq_zero fun s _ => dif_neg fun h' => h h'.1]
    show (((0#32 : BitVec 32).toInt : ℝ) : EReal) = 0
    simp

end Cert.Scan

end
-- ==== Proof.Scan.Value.lean ====
module

public import proofs.«01_k».proof.Proof.Scan.Point
public import proofs.«01_k».proof.Proof.Scan.Reference

@[expose] public section

set_option maxRecDepth 16384

noncomputable section

namespace Cert.Scan

open Idealize.ShloMosaic Idealize.ShloMosaic.TcCoe Idealize.SL.Sem
open Idealize.ShloMosaic.Pipeline (Dat)
open StableHlo
open Cert.KernelScanIdeal Cert.KernelScanIdeal.Gen

variable (m : (ℓ : Loc nD τ sig) → Buf (Elt Ideal) ℓ)

/-- The output array holds in row `T` the sum of the rows from `T` on. -/
theorem final (c : Dev nD) : (dats m 0 c).arrAt 2 cfg0.N = fun i : S8192x128.Idx => suffix (col m c (i 1)) (i 0).val := by
  refine (dats m 0 c).arrAt_eq_of_covers 2 _ (by decide +kernel) fun t hf y => ?_
  blk_simp
  rw [after0_2]
  refine (congrArg (outsAt0 m c ↑t _).1 (eq_ix2 y)).trans ?_
  refine ((outs_suffix m c (y 1) t.val t.isLt).1 (y 0)).trans ?_
  rw [(idx t).2.2]
  have e : (win0_2.blk t).view.emb y 1 = y 1 := by
    apply Fin.ext
    blk_simp [(idx t).2.2]
    try rfl
  rw [e]
  rfl

/-- The two arguments. -/
def arg0 (c : Dev nD) : S1x16x8192.Idx → EReal := m ((c.tc : Thread nD τ).loc main_arg0)
def arg1 (c : Dev nD) : S1x16x8192.Idx → EReal := m ((c.tc : Thread nD τ).loc main_arg1)

/-- The padding's value. -/
theorem zero_word : FloatOps.sitofp (F := Ideal) FTy.f32 (0#32 : BitVec 32) = (0 : EReal) := by
  show (((0#32 : BitVec 32).toInt : ℝ) : EReal) = 0
  simp

/-- The first operand in the region: the first argument's rows as columns, zeros in the columns from 16 on. -/
theorem src0_apply (c : Dev nD) (T : Fin 8192) (l : Fin 128) :
    src0 m c (ix2 T l) = if h : l.val < 16 then arg0 m c (ix3 0 ⟨l, h⟩ T) else 0 := by
  unfold src0 V
  simp only [hostOps0, hostOps0_1, hostOps0_2, hostOps0_3, List.flatten_cons, List.flatten_nil, List.append_nil, List.cons_append, List.nil_append, TRef.binary, TRef.nullary, TRef.unary, TRef.toBuf, TRef.ofBuf, cast_eq]
  after_results
  pointwise
  split
  · rfl
  · exact zero_word

/-- The second operand likewise. -/
theorem src1_apply (c : Dev nD) (T : Fin 8192) (l : Fin 128) :
    src1 m c (ix2 T l) = if h : l.val < 16 then arg1 m c (ix3 0 ⟨l, h⟩ T) else 0 := by
  unfold src1 V
  simp only [hostOps0, hostOps0_1, hostOps0_2, hostOps0_3, List.flatten_cons, List.flatten_nil, List.append_nil, List.cons_append, List.nil_append, TRef.binary, TRef.nullary, TRef.unary, TRef.toBuf, TRef.ofBuf, cast_eq]
  after_results
  pointwise
  split
  · rfl
  · exact zero_word

/-- The kernel's output array is the reference's term of the two arguments. -/
theorem value (c : Dev nD) : (dats m 0 c).arrAt 2 cfg0.N = REF (arg0 m c) (arg1 m c) := by
  rw [final]
  funext i
  obtain ⟨T, l, rfl⟩ : ∃ (T : Fin 8192) (l : Fin 128), i = ix2 T l := ⟨i 0, i 1, eq_ix2 i⟩
  rw [ref_apply]
  show suffix (col m c l) T = _
  unfold suffix
  refine Finset.sum_congr rfl fun s hs => ?_
  have hs' : s < 8192 := (Finset.mem_Ico.mp hs).2
  unfold col
  dsimp only
  rw [dif_pos hs', src0_apply, src1_apply]
  by_cases h : l.val < 16
  · rw [dif_pos h, dif_pos h, dif_pos ⟨h, hs'⟩]
  · rw [dif_neg h, dif_neg h, dif_neg fun h' => h h'.1, add_zero]

end Cert.Scan

end
-- ==== Proof.Bwd.Coe.lean ====
module

public import Idealize.ShloMosaic.Lib.Pointwise

@[expose] public section

set_option maxRecDepth 16384

noncomputable section

namespace Cert.Bwd

open Idealize.ShloMosaic

/-! # Extended reals that are real -/

/-- A sum of reals, as extended reals, is real. -/
theorem coe_sum {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The larger of two reals. -/
theorem fold_max_real {ι : Type*} [Fintype ι] (f : ι → EReal) (hf : ∀ i, f i < ⊤) (i₀ : ι) (h₀ : ⊥ < f i₀) :
    ∃ M : ℝ, Finset.univ.fold max (⊥ : EReal) f = M := by
  have h1 : ⊥ < Finset.univ.fold max (⊥ : EReal) f := (Finset.lt_fold_max _).2 (.inr ⟨i₀, Finset.mem_univ _, h₀⟩)
  have h2 : Finset.univ.fold max (⊥ : EReal) f < ⊤ := (Finset.fold_max_lt _).2 ⟨bot_lt_top, fun i _ => hf i⟩
  exact ⟨_, (EReal.coe_toReal h2.ne h1.ne').symm⟩

/-- A real over a real that is not zero. -/
theorem div_real (x y : ℝ) (h : y ≠ 0) : Ideal.div (x : EReal) (y : EReal) = ((x / y : ℝ) : EReal) := by
  rw [Ideal.div_coe h, ← EReal.coe_mul, mul_one_div]

/-- A sum over 128 lanes that keeps one half of them. -/
theorem sum_half {h : ℕ} (hh : h < 2) (f : Fin 128 → ℝ) :
    ∑ l : Fin 128, (if l.val / 64 = h then f l else 0) = ∑ d : Fin 64, f ⟨h * 64 + d.val, by have := d.isLt; omega⟩ := by
  rw [Fin.sum_univ_tiles 2 64 rfl, Fin.sum_univ_two]
  obtain rfl | rfl : h = 0 ∨ h = 1 := by omega
  all_goals simp [show ∀ d : Fin 64, (64 + d.val) / 64 = 1 from fun d => by have := d.isLt; omega,
    show ∀ d : Fin 64, d.val / 64 = 0 from fun d => by have := d.isLt; omega]

end Cert.Bwd

end

end
-- ==== Proof.Bwd.Spec.lean ====
module

public import Mathlib.Analysis.SpecialFunctions.Log.Basic
public import proofs.«01_k».proof.Proof.Bwd.Coe

@[expose] public section

set_option maxRecDepth 16384

noncomputable section

namespace Cert.Bwd

open Finset

/-! # The forgetting attention and its gradient, over the reals

Position `t` sees the positions `u ≤ t`; head `H` owns the 64 lanes from `64 H`. -/

/-- The arguments: queries, keys, values and the output's cotangent by position and lane; log decays by head and position. -/
structure Args where
  q : Fin 8192 → Fin 1024 → ℝ
  k : Fin 8192 → Fin 1024 → ℝ
  v : Fin 8192 → Fin 1024 → ℝ
  F : Fin 16 → Fin 8192 → ℝ
  go : Fin 8192 → Fin 1024 → ℝ

/-- Lane `d` of head `H`, and the head of a lane. -/
def ln (H : Fin 16) (d : Fin 64) : Fin 1024 := ⟨H.val * 64 + d.val, by have := H.isLt; have := d.isLt; omega⟩
def headOf (l : Fin 1024) : Fin 16 := ⟨l.val / 64, by have := l.isLt; omega⟩

namespace Args
variable (a : Args) (H : Fin 16) (t u : Fin 8192)

/-- The score of a pair. -/
def S : ℝ := (∑ d, a.q t (ln H d) * a.k u (ln H d)) * (1 / 8) + (a.F H t - a.F H u)

/-- Its exponential, of the pairs that are seen. -/
def E : ℝ := if u ≤ t then Real.exp (a.S H t u) else 0

/-- The row's sum of exponentials. -/
def Z : ℝ := ∑ u, a.E H t u

/-- The weight of a pair. -/
def P : ℝ := a.E H t u / a.Z H t

/-- The output. -/
def O (d : Fin 64) : ℝ := ∑ u, a.P H t u * a.v u (ln H d)

/-- The weight's gradient. -/
def dP : ℝ := ∑ d, a.go t (ln H d) * a.v u (ln H d)

/-- The row's sum of output times cotangent. -/
def Dl : ℝ := ∑ d, a.go t (ln H d) * a.O H t d

/-- The score's gradient. -/
def dS : ℝ := a.P H t u * (a.dP H t u - a.Dl H t)

theorem E_nonneg : 0 ≤ a.E H t u := by
  unfold E; split
  · exact (Real.exp_pos _).le
  · exact le_rfl

theorem Z_pos : 0 < a.Z H t :=
  lt_of_lt_of_le (b := a.E H t t) (by unfold E; rw [if_pos le_rfl]; exact Real.exp_pos _)
    (single_le_sum (fun u _ => a.E_nonneg H t u) (mem_univ t))

theorem E_le_Z : a.E H t u ≤ a.Z H t := single_le_sum (fun u _ => a.E_nonneg H t u) (mem_univ u)

/-- The row's sum of output times cotangent is its sum of weight times weight gradient. -/
theorem Dl_eq : a.Dl H t = ∑ u, a.P H t u * a.dP H t u := by
  unfold Dl O dP
  simp only [mul_sum]
  rw [sum_comm]
  refine sum_congr rfl fun u _ => sum_congr rfl fun d _ => by ring

/-- The weight through the row's log-sum. -/
theorem P_eq : a.P H t u = if u ≤ t then Real.exp (a.S H t u - Real.log (a.Z H t)) else 0 := by
  unfold P E
  split
  · rw [Real.exp_sub, Real.exp_log (a.Z_pos H t)]
  · simp

/-- The gradients of the five arguments. -/
def dq (t : Fin 8192) (l : Fin 1024) : ℝ := (∑ u, a.dS (headOf l) t u * a.k u l) * (1 / 8)
def dk (u : Fin 8192) (l : Fin 1024) : ℝ := ∑ t, a.dS (headOf l) t u * (a.q t l * (1 / 8))
def dv (u : Fin 8192) (l : Fin 1024) : ℝ := ∑ t, a.P (headOf l) t u * a.go t l
def dFq : ℝ := ∑ u, a.dS H t u
def dFk : ℝ := - ∑ t, a.dS H t u
end Args

end Cert.Bwd

end

end
-- ==== Proof.Bwd.Step.lean ====
module

public import proofs.«01_k».proof.Proof.Gen.KernelAttnIdeal.Skeleton
public import Idealize.ShloMosaic.Lib.VecWindow

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

/-! # What one key block does to the gradients of the keys, the values and the log decays

The backward call walks, at a query block, over the key blocks before it and then over its own. Every
visit changes the same five things: what it carries (the query block's gradient and the row sums of
the score gradients) and one slab of each of three accumulators. -/

/-- Slab `j` of sixteen. -/
def slab {e : EltTy} (x : Vec F S16x512x128 e) (j : ℕ) (hj : j < 16) : Vec F S1x512x128 e :=
  VecWindow.window x ![j, 0, 0] S1x512x128.size (by intro a; fin_cases a <;> simp [Shape.size] <;> omega)

/-- Row `h` of slab `j` of an array of log decays. -/
def rowOf (x : Vec F S1x16x8x512 .f32) (j h : ℕ) (hj : j < 16) (hh : h < 8) : Vec F S1x1x1x512 .f32 :=
  VecWindow.window x ![0, j, h, 0] S1x1x1x512.size (by intro a; fin_cases a <;> simp [Shape.size] <;> omega)

/-- `x` with slab `j` replaced. -/
def putSlab (x : Vec F S16x512x128 .f32) (j : ℕ) (w : Vec F S1x512x128 .f32) : Vec F S16x512x128 .f32 :=
  VecWindow.put x ![j, 0, 0] S1x512x128.size w

/-- `x` with row `h` of slab `j` replaced. -/
def putRow (x : Vec F S1x16x8x512 .f32) (j h : ℕ) (w : Vec F S1x1x1x512 .f32) : Vec F S1x16x8x512 .f32 :=
  VecWindow.put x ![0, j, h, 0] S1x1x1x512.size w

/-- What a walk over key blocks carries. -/
structure St (F : FTy → Type) where
  /-- the query block's gradient and the row sums of the score gradients, of one head -/
  acc : FVec F S512x128 .f32 × FVec F S512x1 .f32
  /-- the log decays' gradient, by key -/
  fk : Vec F S1x16x8x512 .f32
  /-- the keys' gradient -/
  dk : Vec F S16x512x128 .f32
  /-- the values' gradient -/
  dv : Vec F S16x512x128 .f32

/-- One visit of key block `j` by head `h`. -/
def visit (qm dom : FVec F S512x128 .bf16) (cc dc : FVec F S512x1 .f32) (K V : Vec F S16x512x128 .bf16)
    (FK : Vec F S1x16x8x512 .f32) (h : ℕ) (hh : h < 8) (j : ℕ) (hj : j < 16) (s : St F) : St F where
  acc := (k0_pay48 s.acc.1 (k0_pay5 (slab K j hj)) (k0_pay9 qm dom cc dc (slab K j hj) (slab V j hj) (rowOf FK j h hj hh)),
    k0_pay49 s.acc.2 (k0_pay7 qm dom cc dc (slab K j hj) (slab V j hj) (rowOf FK j h hj hh)))
  fk := putRow s.fk j h (k0_pay8 qm dom cc dc (slab K j hj) (slab V j hj) (rowOf FK j h hj hh) (rowOf s.fk j h hj hh))
  dk := putSlab s.dk j (k0_pay46 (k0_pay10 qm dom cc dc (slab K j hj) (slab V j hj) (rowOf FK j h hj hh) (slab s.dk j hj)))
  dv := putSlab s.dv j (k0_pay47 dom (k0_pay6 qm cc (slab K j hj) (rowOf FK j h hj hh)) (slab s.dv j hj))

/-- The visits of the key blocks before `n`, in order. -/
def walk (qm dom : FVec F S512x128 .bf16) (cc dc : FVec F S512x1 .f32) (K V : Vec F S16x512x128 .bf16)
    (FK : Vec F S1x16x8x512 .f32) (h : ℕ) (hh : h < 8) (s : St F) : ℕ → St F
  | 0 => s
  | n + 1 => if hn : n < 16 then visit qm dom cc dc K V FK h hh n hn (walk qm dom cc dc K V FK h hh s n)
      else walk qm dom cc dc K V FK h hh s n

end Cert.Bwd

end

end
-- ==== Proof.Bwd.Point.lean ====
module

public import proofs.«01_k».proof.Proof.Bwd.Step

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

/-! # What the call does at one query block

Every function here reads the query block's operands and the state that the walk before it left. -/

/-- What the call reads at a query block `j` of a pair of heads. -/
structure Ops (F : FTy → Type) where
  /-- the queries, both heads side by side -/
  q : Vec F S512x128 .bf16
  /-- the keys, sixteen slabs -/
  K : Vec F S16x512x128 .bf16
  /-- the values, sixteen slabs -/
  V : Vec F S16x512x128 .bf16
  /-- the cotangent of the output -/
  go : Vec F S512x128 .bf16
  /-- the log decays of the query rows -/
  fq : Vec F S1x512x128 .f32
  /-- the log-sum-exp of the query rows -/
  ls : Vec F S1x512x128 .f32
  /-- the row sums of output times cotangent -/
  dl : Vec F S1x512x128 .f32
  /-- the log decays of the keys -/
  fk : Vec F S1x16x8x512 .f32

/-- The lane numbers. -/
abbrev lanes : IVec S1x128 32 := iota .tc S1x128 32 [1] iota_S1x128_d1_w32

section
variable (x : Ops F) (j : ℕ) (hj : j < 16) (s : St F)

/-- Where the first head's walk starts. -/
def init0 (fk : Vec F S1x16x8x512 .f32) (dk dv : Vec F S16x512x128 .f32) : St F :=
  ⟨(k0_pay44 (Scalar.ofBits .f32 0x00000000#32), k0_pay45 (F := F)), fk, dk, dv⟩

/-- Where the second head's walk starts. -/
def init1 (fk : Vec F S1x16x8x512 .f32) (dk dv : Vec F S16x512x128 .f32) : St F :=
  ⟨(k0_pay70 (F := F), k0_pay71 (F := F)), fk, dk, dv⟩

/-- The first head's walk over the key blocks before `j`. -/
def walk0 : St F := walk (k0_pay40 x.q) (k0_pay41 x.go) (k0_pay42 x.fq x.ls) (k0_pay43 x.dl) x.K x.V x.fk 0 (by decide) s j

/-- The first head's score gradients on the query block's own key block. -/
def ds0 : FVec F S512x512 .f32 :=
  k0_pay56 k0_pay32 (k0_pay40 x.q) (k0_pay41 x.go) (k0_pay42 x.fq x.ls) (k0_pay43 x.dl) (slab x.K j hj) (slab x.V j hj)
    (rowOf x.fk j 0 hj (by decide))

/-- The first head's queries' gradient, in its half of the lanes. -/
def dq0 : FVec F S512x128 .f32 :=
  k0_pay62 (k0_pay37 (F := F)) k0_pay39 s.acc.1 (k0_pay54 (slab x.K j hj)) (ds0 x j hj)

/-- The first head's row sums of the score gradients, in lane 0. -/
def dfq0 : FVec F S512x128 .f32 := k0_pay63 lanes (k0_pay38 (F := F)) s.acc.2 (ds0 x j hj)

/-- The accumulators after the first head's own key block; the second head's walk starts from them. -/
def own0 : St F where
  acc := (k0_pay70 (F := F), k0_pay71 (F := F))
  fk := putRow s.fk j 0 (k0_pay58 (k0_pay57 k0_pay32 (k0_pay40 x.q) (k0_pay41 x.go) (k0_pay42 x.fq x.ls) (k0_pay43 x.dl)
    (slab x.K j hj) (slab x.V j hj) (rowOf x.fk j 0 hj (by decide)) (rowOf s.fk j 0 hj (by decide))))
  dk := putSlab s.dk j (k0_pay60 (k0_pay40 x.q) (ds0 x j hj) (slab s.dk j hj))
  dv := putSlab s.dv j (k0_pay61 (k0_pay41 x.go) (k0_pay55 k0_pay32 (k0_pay40 x.q) (k0_pay42 x.fq x.ls) (slab x.K j hj)
    (rowOf x.fk j 0 hj (by decide))) (slab s.dv j hj))

/-- The second head's masked queries. -/
abbrev qm1 : FVec F S512x128 .bf16 := k0_pay66 lanes (k0_pay33 x.q) (k0_pay64 lanes) 128#32

/-- The second head's masked cotangent. -/
abbrev dom1 : FVec F S512x128 .bf16 := k0_pay67 lanes (k0_pay34 x.go) (k0_pay64 lanes) 128#32

/-- The second head's walk over the key blocks before `j`. -/
def walk1 : St F :=
  walk (qm1 x) (dom1 x) (k0_pay68 (k0_pay35 x.fq x.ls)) (k0_pay69 (k0_pay36 x.dl)) x.K x.V x.fk 1 (by decide) s j

/-- The second head's weights on the query block's own key block. -/
def p1 : FVec F S512x512 .f32 :=
  k0_pay81 lanes k0_pay32 (k0_pay33 x.q) (k0_pay35 x.fq x.ls) (k0_pay64 lanes) 128#32 (slab x.K j hj) (rowOf x.fk j 1 hj (by decide))

/-- The second head's weight gradients less the row sums, on the query block's own key block. -/
def dp1 : FVec F S512x512 .f32 :=
  k0_pay82 lanes (k0_pay34 x.go) (k0_pay36 x.dl) (k0_pay64 lanes) 128#32 (slab x.V j hj)

/-- The accumulators after the second head's own key block. -/
def own1 : St F where
  acc := s.acc
  fk := putRow s.fk j 1 (k0_pay84 (p1 x j hj) (dp1 x j hj) (rowOf s.fk j 1 hj (by decide)))
  dk := putSlab s.dk j (k0_pay86 (qm1 x) (p1 x j hj) (dp1 x j hj) (slab s.dk j hj))
  dv := putSlab s.dv j (k0_pay87 (dom1 x) (p1 x j hj) (slab s.dv j hj))

/-- The first head's walk, from the accumulators that the query block found. -/
abbrev st0 (fk : Vec F S1x16x8x512 .f32) (dk dv : Vec F S16x512x128 .f32) : St F := walk0 x j (init0 fk dk dv)

/-- The second head's walk, after the first head's own key block. -/
abbrev st1 (fk : Vec F S1x16x8x512 .f32) (dk dv : Vec F S16x512x128 .f32) : St F := walk1 x j (own0 x j hj (st0 x j fk dk dv))

/-- The accumulators that the query block leaves. -/
def stEnd (fk : Vec F S1x16x8x512 .f32) (dk dv : Vec F S16x512x128 .f32) : St F := own1 x j hj (st1 x j hj fk dk dv)

/-- The queries' gradient that the query block writes. -/
def dqOut (fk : Vec F S1x16x8x512 .f32) (dk dv : Vec F S16x512x128 .f32) : Vec F S512x128 .bf16 :=
  k0_pay1 (dq0 x j hj (st0 x j fk dk dv)) (k0_pay65 lanes (k0_pay64 lanes) 128#32)
    (k0_pay88 (st1 x j hj fk dk dv).acc.1 (k0_pay80 (slab x.K j hj)) (p1 x j hj) (dp1 x j hj))

/-- The log decays' gradient, by query, that the query block writes. -/
def dfqOut (fk : Vec F S1x16x8x512 .f32) (dk dv : Vec F S16x512x128 .f32) : Vec F S1x512x128 .f32 :=
  k0_pay2 lanes (dfq0 x j hj (st0 x j fk dk dv)) (st1 x j hj fk dk dv).acc.2 (k0_pay89 (p1 x j hj) (dp1 x j hj))
end

end Cert.Bwd

end

end
-- ==== Proof.Bwd.Pay.lean ====
module

public import proofs.«01_k».proof.Proof.Bwd.Coe
public import proofs.«01_k».proof.Proof.Bwd.Point
public import Idealize.ShloMosaic.Lib.WordCmp

@[expose] public section

set_option maxRecDepth 16384

noncomputable section

namespace Cert.Bwd

open Idealize.ShloMosaic Idealize.ShloMosaic.TcCoe Idealize.SL.Sem
open Cert.KernelAttnIdeal Cert.KernelAttnIdeal.Gen

/-! # The vector operations of one visit, on real contents

`Q`, `G` are the masked queries and cotangents of one head, `C` the log decay less the log-sum of a row, `D` the row's
sum of output times cotangent; `Kj`, `Vj`, `Fj` one key block. -/

section
variable {qm dom : FVec Ideal S512x128 .bf16} {cc dc : FVec Ideal S512x1 .f32} {Kb Vb : Vec Ideal S1x512x128 .bf16}
  {Fb : Vec Ideal S1x1x1x512 .f32} {Q G Kj Vj : Fin 512 → Fin 128 → ℝ} {C D Fj : Fin 512 → ℝ}
  (hQ : ∀ r l, qm (ix2 r l) = (Q r l : EReal)) (hG : ∀ r l, dom (ix2 r l) = (G r l : EReal))
  (hC : ∀ r, cc (ix2 r 0) = (C r : EReal)) (hD : ∀ r, dc (ix2 r 0) = (D r : EReal))
  (hK : ∀ c l, Kb (ix3 0 c l) = (Kj c l : EReal)) (hV : ∀ c l, Vb (ix3 0 c l) = (Vj c l : EReal))
  (hF : ∀ c, Fb (ix4 0 0 0 c) = (Fj c : EReal))

/-- The score of a pair, less its row's log-sum. -/
def score (Q Kj : Fin 512 → Fin 128 → ℝ) (C Fj : Fin 512 → ℝ) (r c : Fin 512) : ℝ := (∑ l, Q r l * Kj c l) + (C r - Fj c)

/-- The weight's gradient less the row sum. -/
def diff (G Vj : Fin 512 → Fin 128 → ℝ) (D : Fin 512 → ℝ) (r c : Fin 512) : ℝ := (∑ l, G r l * Vj c l) - D r

include hQ hC hK hF in
theorem pay6_real (r c : Fin 512) : k0_pay6 qm cc Kb Fb (ix2 r c) = ((Real.exp (score Q Kj C Fj r c) : ℝ) : EReal) := by
  pointwise [k0_pay6, k0_pay5]
  simp only [hQ, hC, hK, hF, ← EReal.coe_mul, coe_sum, ← EReal.coe_sub, ← EReal.coe_add, Ideal.exp_coe, zero_add]
  rfl

include hQ hG hC hD hK hV hF in
theorem pay7_real (r c : Fin 512) : k0_pay7 qm dom cc dc Kb Vb Fb (ix2 r c)
    = ((Real.exp (score Q Kj C Fj r c) * diff G Vj D r c : ℝ) : EReal) := by
  pointwise [k0_pay7]
  rw [pay6_real hQ hC hK hF]
  simp only [hG, hD, hV, ← EReal.coe_mul, coe_sum, ← EReal.coe_sub, ← EReal.coe_add, zero_add]
  rfl
end

section
variable {g : Fin 512 → Fin 512 → ℝ}

/-- The keys' log decays lose the column sums of the score gradients. -/
theorem negcol_real {qm dom : FVec Ideal S512x128 .bf16} {cc dc : FVec Ideal S512x1 .f32} {Kb Vb : Vec Ideal S1x512x128 .bf16}
    {Fb old : Vec Ideal S1x1x1x512 .f32} (hg : ∀ r c, k0_pay7 qm dom cc dc Kb Vb Fb (ix2 r c) = (g r c : EReal)) {o : Fin 512 → ℝ}
    (ho : ∀ c, old (ix4 0 0 0 c) = (o c : EReal)) (c : Fin 512) :
    k0_pay8 qm dom cc dc Kb Vb Fb old (ix4 0 0 0 c) = ((o c - ∑ r, g r c : ℝ) : EReal) := by
  pointwise [k0_pay8]
  simp only [hg, ho, coe_sum, ← EReal.coe_zero, ← EReal.coe_sub, ← EReal.coe_add]
  congr 1; ring

/-- The keys' gradient gains the score gradients times the queries. -/
theorem gain_real {qm dom : FVec Ideal S512x128 .bf16} {cc dc : FVec Ideal S512x1 .f32} {Kb Vb : Vec Ideal S1x512x128 .bf16}
    {Fb : Vec Ideal S1x1x1x512 .f32} {old : Vec Ideal S1x512x128 .f32} (hg : ∀ r c, k0_pay7 qm dom cc dc Kb Vb Fb (ix2 r c) = (g r c : EReal))
    {Q o : Fin 512 → Fin 128 → ℝ} (hQ : ∀ r l, qm (ix2 r l) = (Q r l : EReal))
    (ho : ∀ c l, old (ix3 0 c l) = (o c l : EReal)) (c : Fin 512) (l : Fin 128) :
    k0_pay46 (k0_pay10 qm dom cc dc Kb Vb Fb old) (ix3 0 c l) = ((o c l + ∑ r, g r c * Q r l : ℝ) : EReal) := by
  pointwise [k0_pay46, k0_pay10, k0_pay9]
  simp only [hg, hQ, ho, ← EReal.coe_mul, coe_sum, ← EReal.coe_add, zero_add]

/-- The values' gradient gains the weights times the cotangent. -/
theorem gainV_real {dom : FVec Ideal S512x128 .bf16} {w : FVec Ideal S512x512 .f32} {old : Vec Ideal S1x512x128 .f32}
    {G o : Fin 512 → Fin 128 → ℝ} {p : Fin 512 → Fin 512 → ℝ} (hw : ∀ r c, w (ix2 r c) = (p r c : EReal))
    (hG : ∀ r l, dom (ix2 r l) = (G r l : EReal)) (ho : ∀ c l, old (ix3 0 c l) = (o c l : EReal)) (c : Fin 512) (l : Fin 128) :
    k0_pay47 dom w old (ix3 0 c l) = ((o c l + ∑ r, p r c * G r l : ℝ) : EReal) := by
  pointwise [k0_pay47]
  simp only [hw, hG, ho, ← EReal.coe_mul, coe_sum, ← EReal.coe_add, zero_add]

/-- The queries' gradient gains the score gradients times the keys. -/
theorem gainQ_real {qm dom : FVec Ideal S512x128 .bf16} {cc dc : FVec Ideal S512x1 .f32} {Kb Vb : Vec Ideal S1x512x128 .bf16}
    {Fb : Vec Ideal S1x1x1x512 .f32} (hg : ∀ r c, k0_pay7 qm dom cc dc Kb Vb Fb (ix2 r c) = (g r c : EReal)) {a : FVec Ideal S512x128 .f32}
    {o Kj : Fin 512 → Fin 128 → ℝ} (hK : ∀ c l, Kb (ix3 0 c l) = (Kj c l : EReal)) (ha : ∀ r l, a (ix2 r l) = (o r l : EReal))
    (r : Fin 512) (l : Fin 128) :
    k0_pay48 a (k0_pay5 Kb) (k0_pay9 qm dom cc dc Kb Vb Fb) (ix2 r l) = ((o r l + ∑ c, g r c * Kj c l : ℝ) : EReal) := by
  pointwise [k0_pay48, k0_pay5, k0_pay9]
  simp only [hg, hK, ha, ← EReal.coe_mul, coe_sum, ← EReal.coe_add, zero_add]

/-- The row sums gain the row sums of the score gradients. -/
theorem gainR_real {w : FVec Ideal S512x512 .f32} {a : FVec Ideal S512x1 .f32} {o : Fin 512 → ℝ}
    (hw : ∀ r c, w (ix2 r c) = (g r c : EReal)) (ha : ∀ r, a (ix2 r 0) = (o r : EReal)) (r : Fin 512) :
    k0_pay49 a w (ix2 r 0) = ((o r + ∑ c, g r c : ℝ) : EReal) := by
  pointwise [k0_pay49]
  simp only [hw, ha, coe_sum, ← EReal.coe_add, zero_add]
end

/-! The same over a query block's own key block, where a row does not see the keys after it. -/

/-- A row of the query block against a key of its own block: the score counts up to the diagonal. -/
theorem mask_apply (r c : Fin 512) : k0_pay32 (ix2 r c) = if (c : ℕ) ≤ r then 1#1 else 0#1 := by
  pointwise [k0_pay32]
  have hc := c.isLt
  have hr := r.isLt
  have e1 := WordCmp.toInt_ofNat_of_lt (w := 32) (a := c) (by omega)
  have e2 := WordCmp.toInt_ofNat_of_lt (w := 32) (a := r) (by omega)
  split
  · rw [IntOp.cmpi_sle, e1, e2]; omega
  · refine (BitVec.eq_zero_or_eq_one _).resolve_right ?_
    rw [IntOp.cmpi_sle, e1, e2]; omega

section
variable {qm dom : FVec Ideal S512x128 .bf16} {cc dc : FVec Ideal S512x1 .f32} {Kb Vb : Vec Ideal S1x512x128 .bf16}
  {Fb : Vec Ideal S1x1x1x512 .f32} {Q G Kj Vj : Fin 512 → Fin 128 → ℝ} {C D Fj : Fin 512 → ℝ}
  (hQ : ∀ r l, qm (ix2 r l) = (Q r l : EReal)) (hG : ∀ r l, dom (ix2 r l) = (G r l : EReal))
  (hC : ∀ r, cc (ix2 r 0) = (C r : EReal)) (hD : ∀ r, dc (ix2 r 0) = (D r : EReal))
  (hK : ∀ c l, Kb (ix3 0 c l) = (Kj c l : EReal)) (hV : ∀ c l, Vb (ix3 0 c l) = (Vj c l : EReal))
  (hF : ∀ c, Fb (ix4 0 0 0 c) = (Fj c : EReal))

theorem named_mask : (Named.named κ "mask" (4048155338#32) : Ideal .f32) = ⊥ := rfl

/-- The weight of a pair of the block on the diagonal. -/
def weight (Q Kj : Fin 512 → Fin 128 → ℝ) (C Fj : Fin 512 → ℝ) (r c : Fin 512) : ℝ :=
  if (c : ℕ) ≤ r then Real.exp (score Q Kj C Fj r c) else 0

include hQ hC hK hF in
theorem pay55_real (r c : Fin 512) : k0_pay55 k0_pay32 qm cc Kb Fb (ix2 r c) = ((weight Q Kj C Fj r c : ℝ) : EReal) := by
  pointwise [k0_pay55, k0_pay54]
  rw [mask_apply]
  simp only [hQ, hC, hK, hF, ← EReal.coe_mul, coe_sum, ← EReal.coe_sub, ← EReal.coe_add, zero_add]
  unfold weight
  split
  · simp only [Scalar.select, if_pos, ← EReal.coe_sub, ← EReal.coe_add, Ideal.exp_coe]; rfl
  · rw [named_mask]; simp [Scalar.select]

include hQ hG hC hD hK hV hF in
theorem pay56_real (r c : Fin 512) : k0_pay56 k0_pay32 qm dom cc dc Kb Vb Fb (ix2 r c)
    = ((weight Q Kj C Fj r c * diff G Vj D r c : ℝ) : EReal) := by
  pointwise [k0_pay56]
  rw [pay55_real hQ hC hK hF]
  simp only [hG, hD, hV, ← EReal.coe_mul, coe_sum, ← EReal.coe_sub, ← EReal.coe_add, zero_add]
  rfl
end

end Cert.Bwd

end

end
-- ==== Proof.Bwd.Walk.lean ====
module

public import proofs.«01_k».proof.Proof.Bwd.Pay

@[expose] public section

set_option maxRecDepth 16384

noncomputable section

namespace Cert.Bwd

open Idealize.ShloMosaic Idealize.ShloMosaic.TcCoe Idealize.SL.Sem
open Cert.KernelAttnIdeal Cert.KernelAttnIdeal.Gen

/-! # A walk over key blocks, on real contents -/

section
variable {F : FTy → Type} [FloatOps F] [Named F]

theorem slab_apply {e : EltTy} (x : Vec F S16x512x128 e) (j : ℕ) (hj : j < 16) (c : Fin 512) (l : Fin 128) :
    slab x j hj (ix3 0 c l) = x (ix3 ⟨j, hj⟩ c l) := by
  unfold slab VecWindow.window
  refine congrArg x (funext fun a => Fin.ext ?_)
  fin_cases a <;> simp [Rect.emb, Rect.unit, ix3]

theorem rowOf_apply (x : Vec F S1x16x8x512 .f32) (j h : ℕ) (hj : j < 16) (hh : h < 8) (c : Fin 512) :
    rowOf x j h hj hh (ix4 0 0 0 c) = x (ix4 0 ⟨j, hj⟩ ⟨h, hh⟩ c) := by
  unfold rowOf VecWindow.window
  refine congrArg x (funext fun a => Fin.ext ?_)
  fin_cases a <;> simp [Rect.emb, Rect.unit, ix4]

theorem putSlab_apply (x : Vec F S16x512x128 .f32) (j : ℕ) (w : Vec F S1x512x128 .f32) (j' : Fin 16) (c : Fin 512) (l : Fin 128) :
    putSlab x j w (ix3 j' c l) = if j'.val = j then w (ix3 0 c l) else x (ix3 j' c l) := by
  unfold putSlab VecWindow.put
  by_cases h : j'.val = j
  · rw [if_pos h, dif_pos (by intro a; have := c.isLt; have := l.isLt; fin_cases a <;> simp [Shape.size, ix3, h] <;> omega)]
    refine congrArg w (funext fun a => Fin.ext ?_)
    fin_cases a <;> simp [Rect.unitLocal, ix3, h]
  · rw [if_neg h, dif_neg]
    intro hall
    have := hall 0
    simp [Shape.size, ix3] at this
    omega

theorem putRow_apply (x : Vec F S1x16x8x512 .f32) (j h : ℕ) (w : Vec F S1x1x1x512 .f32) (j' : Fin 16) (h' : Fin 8) (c : Fin 512) :
    putRow x j h w (ix4 0 j' h' c) = if j'.val = j ∧ h'.val = h then w (ix4 0 0 0 c) else x (ix4 0 j' h' c) := by
  unfold putRow VecWindow.put
  by_cases hj : j'.val = j ∧ h'.val = h
  · rw [if_pos hj, dif_pos (by intro a; have := c.isLt; fin_cases a <;> simp [Shape.size, ix4, hj.1, hj.2] <;> omega)]
    refine congrArg w (funext fun a => Fin.ext ?_)
    fin_cases a <;> simp [Rect.unitLocal, ix4, hj.1, hj.2]
  · rw [if_neg hj, dif_neg]
    intro hall
    have h1 := hall 1
    have h2 := hall 2
    simp [Shape.size, ix4] at h1 h2
    omega
end

/-- What a walk carries, as reals. -/
@[ext] structure RSt where
  a1 : Fin 512 → Fin 128 → ℝ
  a2 : Fin 512 → ℝ
  fk : Fin 16 → Fin 8 → Fin 512 → ℝ
  dk : Fin 16 → Fin 512 → Fin 128 → ℝ
  dv : Fin 16 → Fin 512 → Fin 128 → ℝ

/-- The state `s` holds the reals `R`. -/
structure Is (s : St Ideal) (R : RSt) : Prop where
  a1 : ∀ r l, s.acc.1 (ix2 r l) = (R.a1 r l : EReal)
  a2 : ∀ r, s.acc.2 (ix2 r 0) = (R.a2 r : EReal)
  fk : ∀ j h c, s.fk (ix4 0 j h c) = (R.fk j h c : EReal)
  dk : ∀ j c l, s.dk (ix3 j c l) = (R.dk j c l : EReal)
  dv : ∀ j c l, s.dv (ix3 j c l) = (R.dv j c l : EReal)

/-- The reals that one head reads at a query block. -/
structure Row where
  /-- the queries, zero outside the head's lanes -/
  Q : Fin 512 → Fin 128 → ℝ
  /-- the cotangent, zero outside the head's lanes -/
  G : Fin 512 → Fin 128 → ℝ
  /-- the log decay less the log-sum -/
  C : Fin 512 → ℝ
  /-- the row sum of output times cotangent -/
  D : Fin 512 → ℝ
  K : Fin 16 → Fin 512 → Fin 128 → ℝ
  V : Fin 16 → Fin 512 → Fin 128 → ℝ
  /-- the keys' log decays -/
  F : Fin 16 → Fin 512 → ℝ

/-- The arrays of head `h` hold the reals `x`. -/
structure Row.Read (x : Row) (qm dom : FVec Ideal S512x128 .bf16) (cc dc : FVec Ideal S512x1 .f32) (K V : Vec Ideal S16x512x128 .bf16)
    (FK : Vec Ideal S1x16x8x512 .f32) (h : ℕ) (hh : h < 8) : Prop where
  Q : ∀ r l, qm (ix2 r l) = (x.Q r l : EReal)
  G : ∀ r l, dom (ix2 r l) = (x.G r l : EReal)
  C : ∀ r, cc (ix2 r 0) = (x.C r : EReal)
  D : ∀ r, dc (ix2 r 0) = (x.D r : EReal)
  K : ∀ j c l, K (ix3 j c l) = (x.K j c l : EReal)
  V : ∀ j c l, V (ix3 j c l) = (x.V j c l : EReal)
  F : ∀ j c, FK (ix4 0 j ⟨h, hh⟩ c) = (x.F j c : EReal)

/-- The weights of key block `j` at query block `i`: none after the diagonal. -/
def Row.w (x : Row) (i : ℕ) (j : Fin 16) (r c : Fin 512) : ℝ :=
  if j.val < i then Real.exp (score x.Q (x.K j) x.C (x.F j) r c) else if j.val = i then weight x.Q (x.K j) x.C (x.F j) r c else 0

/-- The score gradients of key block `j` at query block `i`. -/
def Row.g (x : Row) (i : ℕ) (j : Fin 16) (r c : Fin 512) : ℝ := x.w i j r c * diff x.G (x.V j) x.D r c

/-- One more key block, with weights `w` and score gradients `g`. -/
def RSt.step (R : RSt) (x : Row) (h : ℕ) (j : Fin 16) (w g : Fin 512 → Fin 512 → ℝ) : RSt where
  a1 r l := R.a1 r l + ∑ c, g r c * x.K j c l
  a2 r := R.a2 r + ∑ c, g r c
  fk j' h' c := R.fk j' h' c + if j' = j ∧ h'.val = h then - ∑ r, g r c else 0
  dk j' c l := R.dk j' c l + if j' = j then ∑ r, g r c * x.Q r l else 0
  dv j' c l := R.dv j' c l + if j' = j then ∑ r, w r c * x.G r l else 0

/-- The key blocks before `n`, at query block `i`. -/
def RSt.upto (R : RSt) (x : Row) (h i n : ℕ) : RSt where
  a1 r l := R.a1 r l + ∑ j : Fin 16, if j.val < n then ∑ c, x.g i j r c * x.K j c l else 0
  a2 r := R.a2 r + ∑ j : Fin 16, if j.val < n then ∑ c, x.g i j r c else 0
  fk j' h' c := R.fk j' h' c + if j'.val < n ∧ h'.val = h then - ∑ r, x.g i j' r c else 0
  dk j' c l := R.dk j' c l + if j'.val < n then ∑ r, x.g i j' r c * x.Q r l else 0
  dv j' c l := R.dv j' c l + if j'.val < n then ∑ r, x.w i j' r c * x.G r l else 0

theorem sum_lt_succ (f : Fin 16 → ℝ) (n : ℕ) (hn : n < 16) :
    (∑ j : Fin 16, if j.val < n + 1 then f j else 0) = (∑ j : Fin 16, if j.val < n then f j else 0) + f ⟨n, hn⟩ := by
  have e : f ⟨n, hn⟩ = ∑ j : Fin 16, if j = ⟨n, hn⟩ then f j else 0 := by simp
  rw [e, ← Finset.sum_add_distrib]
  refine Finset.sum_congr rfl fun j _ => ?_
  by_cases h1 : j = ⟨n, hn⟩
  · subst h1; simp
  · have h2 : j.val ≠ n := fun h => h1 (Fin.ext h)
    by_cases h3 : j.val < n
    · rw [if_pos (by omega), if_pos h3, if_neg h1, add_zero]
    · rw [if_neg (by omega), if_neg h3, if_neg h1, add_zero]

theorem RSt.upto_zero (R : RSt) (x : Row) (h i : ℕ) : R.upto x h i 0 = R := by
  ext <;> simp [RSt.upto]

theorem RSt.upto_succ (R : RSt) (x : Row) (h i n : ℕ) (hn : n < 16) :
    R.upto x h i (n + 1) = (R.upto x h i n).step x h ⟨n, hn⟩ (x.w i ⟨n, hn⟩) (x.g i ⟨n, hn⟩) := by
  have key (j : Fin 16) (p : Prop) [Decidable p] (f : Fin 16 → ℝ) (a : ℝ) :
      (a + if j.val < n + 1 ∧ p then f j else 0) = (a + if j.val < n ∧ p then f j else 0) + if j = ⟨n, hn⟩ ∧ p then f ⟨n, hn⟩ else 0 := by
    by_cases h1 : j = ⟨n, hn⟩
    · subst h1; simp
    · have h2 : j.val ≠ n := fun h => h1 (Fin.ext h)
      have h4 : (j.val < n + 1) ↔ j.val < n := by omega
      simp only [h4, h1, false_and, if_false, add_zero]
  refine RSt.ext ?_ ?_ ?_ ?_ ?_
  · funext r l
    simp only [RSt.upto, RSt.step]
    rw [sum_lt_succ (fun j => ∑ c, x.g i j r c * x.K j c l) n hn, add_assoc]
  · funext r
    simp only [RSt.upto, RSt.step]
    rw [sum_lt_succ (fun j => ∑ c, x.g i j r c) n hn, add_assoc]
  · funext j h' c
    simp only [RSt.upto, RSt.step]
    exact key j (h'.val = h) (fun j => - ∑ r, x.g i j r c) _
  · funext j c l
    simp only [RSt.upto, RSt.step]
    simpa only [and_true] using key j True (fun j => ∑ r, x.g i j r c * x.Q r l) (R.dk j c l)
  · funext j c l
    simp only [RSt.upto, RSt.step]
    simpa only [and_true] using key j True (fun j => ∑ r, x.w i j r c * x.G r l) (R.dv j c l)

section
variable {x : Row} {qm dom : FVec Ideal S512x128 .bf16} {cc dc : FVec Ideal S512x1 .f32} {K V : Vec Ideal S16x512x128 .bf16}
  {FK : Vec Ideal S1x16x8x512 .f32} {h : ℕ} {hh : h < 8} (hx : x.Read qm dom cc dc K V FK h hh)

include hx in
theorem Row.Read.slabK (j : ℕ) (hj : j < 16) (c : Fin 512) (l : Fin 128) : slab K j hj (ix3 0 c l) = (x.K ⟨j, hj⟩ c l : EReal) :=
  (slab_apply (F := Ideal) K j hj c l).trans (hx.K _ _ _)

include hx in
theorem Row.Read.slabV (j : ℕ) (hj : j < 16) (c : Fin 512) (l : Fin 128) : slab V j hj (ix3 0 c l) = (x.V ⟨j, hj⟩ c l : EReal) :=
  (slab_apply (F := Ideal) V j hj c l).trans (hx.V _ _ _)

include hx in
theorem Row.Read.row (j : ℕ) (hj : j < 16) (c : Fin 512) : rowOf FK j h hj hh (ix4 0 0 0 c) = (x.F ⟨j, hj⟩ c : EReal) :=
  (rowOf_apply (F := Ideal) FK j h hj hh c).trans (hx.F _ _)

/-- The five changes of a visit, each a real sum. -/
theorem Is.step {s s' : St Ideal} {R : RSt} (hs : Is s R) (j : ℕ) (hj : j < 16) {w g : Fin 512 → Fin 512 → ℝ}
    {rf : Vec Ideal S1x1x1x512 .f32} {rk rv : Vec Ideal S1x512x128 .f32}
    (h1 : ∀ r l, s'.acc.1 (ix2 r l) = ((R.a1 r l + ∑ c, g r c * x.K ⟨j, hj⟩ c l : ℝ) : EReal))
    (h2 : ∀ r, s'.acc.2 (ix2 r 0) = ((R.a2 r + ∑ c, g r c : ℝ) : EReal))
    (hf : s'.fk = putRow s.fk j h rf) (hrf : ∀ c, rf (ix4 0 0 0 c) = ((R.fk ⟨j, hj⟩ ⟨h, hh⟩ c - ∑ r, g r c : ℝ) : EReal))
    (hk : s'.dk = putSlab s.dk j rk) (hrk : ∀ c l, rk (ix3 0 c l) = ((R.dk ⟨j, hj⟩ c l + ∑ r, g r c * x.Q r l : ℝ) : EReal))
    (hv : s'.dv = putSlab s.dv j rv) (hrv : ∀ c l, rv (ix3 0 c l) = ((R.dv ⟨j, hj⟩ c l + ∑ r, w r c * x.G r l : ℝ) : EReal)) :
    Is s' (R.step x h ⟨j, hj⟩ w g) where
  a1 := h1
  a2 := h2
  fk j' h' c := by
    rw [hf, show putRow s.fk j h rf (ix4 0 j' h' c) = _ from putRow_apply (F := Ideal) _ _ _ _ _ _ _]
    simp only [RSt.step, Fin.ext_iff]
    by_cases e : j'.val = j ∧ h'.val = h
    · obtain ⟨e1, e2⟩ := e
      obtain rfl : j' = ⟨j, hj⟩ := Fin.ext e1
      obtain rfl : h' = ⟨h, hh⟩ := Fin.ext e2
      rw [if_pos ⟨rfl, rfl⟩, if_pos ⟨rfl, rfl⟩, hrf, sub_eq_add_neg]
    · rw [if_neg e, if_neg e, hs.fk, add_zero]
  dk j' c l := by
    rw [hk, show putSlab s.dk j rk (ix3 j' c l) = _ from putSlab_apply (F := Ideal) _ _ _ _ _ _]
    simp only [RSt.step, Fin.ext_iff]
    by_cases e : j'.val = j
    · obtain rfl : j' = ⟨j, hj⟩ := Fin.ext e
      rw [if_pos rfl, if_pos rfl, hrk]
    · rw [if_neg e, if_neg e, hs.dk, add_zero]
  dv j' c l := by
    rw [hv, show putSlab s.dv j rv (ix3 j' c l) = _ from putSlab_apply (F := Ideal) _ _ _ _ _ _]
    simp only [RSt.step, Fin.ext_iff]
    by_cases e : j'.val = j
    · obtain rfl : j' = ⟨j, hj⟩ := Fin.ext e
      rw [if_pos rfl, if_pos rfl, hrv]
    · rw [if_neg e, if_neg e, hs.dv, add_zero]

include hx in
/-- One visit of a key block before the query block's own. -/
theorem visit_real {s : St Ideal} {R : RSt} (hs : Is s R) (i j : ℕ) (hj : j < 16) (hij : j < i) :
    Is (visit qm dom cc dc K V FK h hh j hj s) (R.step x h ⟨j, hj⟩ (x.w i ⟨j, hj⟩) (x.g i ⟨j, hj⟩)) := by
  have e6 (r c) := pay6_real (qm := qm) (cc := cc) hx.Q hx.C (hx.slabK j hj) (hx.row j hj) r c
  have e7 (r c) := pay7_real hx.Q hx.G hx.C hx.D (hx.slabK j hj) (hx.slabV j hj) (hx.row j hj) r c
  have ew : x.w i ⟨j, hj⟩ = fun r c => Real.exp (score x.Q (x.K ⟨j, hj⟩) x.C (x.F ⟨j, hj⟩) r c) := by
    funext r c; exact if_pos hij
  have eg : x.g i ⟨j, hj⟩ = fun r c => Real.exp (score x.Q (x.K ⟨j, hj⟩) x.C (x.F ⟨j, hj⟩) r c) * diff x.G (x.V ⟨j, hj⟩) x.D r c := by
    funext r c; unfold Row.g; rw [ew]
  rw [ew, eg]
  exact Is.step hs j hj (hh := hh)
    (fun r l => gainQ_real e7 (hx.slabK j hj) hs.a1 r l)
    (fun r => gainR_real e7 hs.a2 r)
    rfl (fun c => negcol_real e7 (fun c => (rowOf_apply (F := Ideal) _ _ _ _ _ _).trans (hs.fk _ _ _)) c)
    rfl (fun c l => gain_real e7 hx.Q (fun c l => (slab_apply (F := Ideal) _ _ _ _ _).trans (hs.dk _ _ _)) c l)
    rfl (fun c l => gainV_real e6 hx.G (fun c l => (slab_apply (F := Ideal) _ _ _ _ _).trans (hs.dv _ _ _)) c l)

include hx in
/-- The walk over the key blocks before the query block's own. -/
theorem walk_real {s : St Ideal} {R : RSt} (hs : Is s R) (i : ℕ) (hi : i < 16) : ∀ n, n ≤ i →
    Is (walk qm dom cc dc K V FK h hh s n) (R.upto x h i n)
  | 0, _ => by rw [RSt.upto_zero]; exact hs
  | n + 1, hn => by
    have h16 : n < 16 := by omega
    rw [RSt.upto_succ R x h i n h16]
    rw [show walk qm dom cc dc K V FK h hh s (n + 1) = visit qm dom cc dc K V FK h hh n h16 (walk qm dom cc dc K V FK h hh s n)
      from dif_pos h16]
    exact visit_real hx (walk_real hs i hi n (by omega)) i n h16 (by omega)

/-- The weights' gradients of the query block's own key block, less the row sums. -/
def centred (dom : FVec Ideal S512x128 .bf16) (dc : FVec Ideal S512x1 .f32) (Vb : Vec Ideal S1x512x128 .bf16) : FVec Ideal S512x512 .f32 :=
  have v : FVec Ideal S512x128 .bf16 := shapeCast S512x128 Vb shapeCasts_S1x512x128_S512x128
  subf (matmul dot_S512x128_S512x128_S512x512_1_1_0_0_n_n none dom v (constant S512x512 .f32 0x00000000#32))
    (broadcastTo S512x512 dc broadcasts_S512x1_S512x512)

/-- The query block's own key block. -/
def own (qm dom : FVec Ideal S512x128 .bf16) (cc dc : FVec Ideal S512x1 .f32) (K V : Vec Ideal S16x512x128 .bf16)
    (FK : Vec Ideal S1x16x8x512 .f32) (h : ℕ) (hh : h < 8) (j : ℕ) (hj : j < 16) (s : St Ideal) : St Ideal where
  acc := (k0_pay88 s.acc.1 (k0_pay80 (slab K j hj)) (k0_pay55 k0_pay32 qm cc (slab K j hj) (rowOf FK j h hj hh))
      (centred dom dc (slab V j hj)),
    k0_pay49 s.acc.2 (k0_pay56 k0_pay32 qm dom cc dc (slab K j hj) (slab V j hj) (rowOf FK j h hj hh)))
  fk := putRow s.fk j h (k0_pay58 (k0_pay57 k0_pay32 qm dom cc dc (slab K j hj) (slab V j hj) (rowOf FK j h hj hh) (rowOf s.fk j h hj hh)))
  dk := putSlab s.dk j (k0_pay60 qm (k0_pay56 k0_pay32 qm dom cc dc (slab K j hj) (slab V j hj) (rowOf FK j h hj hh)) (slab s.dk j hj))
  dv := putSlab s.dv j (k0_pay61 dom (k0_pay55 k0_pay32 qm cc (slab K j hj) (rowOf FK j h hj hh)) (slab s.dv j hj))

include hx in
/-- The query block's own key block, after the walk: all key blocks. -/
theorem own_real {s : St Ideal} {R : RSt} (i : ℕ) (hi : i < 16) (hs : Is s (R.upto x h i i)) :
    Is (own qm dom cc dc K V FK h hh i hi s) (R.upto x h i 16) := by
  have ew : x.w i ⟨i, hi⟩ = fun r c => weight x.Q (x.K ⟨i, hi⟩) x.C (x.F ⟨i, hi⟩) r c := by
    funext r c; exact (if_neg (lt_irrefl i)).trans (if_pos rfl)
  have e6 (r c) : k0_pay55 k0_pay32 qm cc (slab K i hi) (rowOf FK i h hi hh) (ix2 r c) = ((x.w i ⟨i, hi⟩ r c : ℝ) : EReal) := by
    rw [ew]; exact pay55_real (qm := qm) (cc := cc) hx.Q hx.C (hx.slabK i hi) (hx.row i hi) r c
  have e7 (r c) : k0_pay56 k0_pay32 qm dom cc dc (slab K i hi) (slab V i hi) (rowOf FK i h hi hh) (ix2 r c) = ((x.g i ⟨i, hi⟩ r c : ℝ) : EReal) := by
    unfold Row.g; rw [ew]; exact pay56_real hx.Q hx.G hx.C hx.D (hx.slabK i hi) (hx.slabV i hi) (hx.row i hi) r c
  have last : R.upto x h i 16 = R.upto x h i (i + 1) := by
    have z (j : Fin 16) (hj : ¬ j.val < i + 1) (r c) : x.w i j r c = 0 := by
      unfold Row.w; rw [if_neg (by omega), if_neg (by omega)]
    have zg (j : Fin 16) (hj : ¬ j.val < i + 1) (r c) : x.g i j r c = 0 := by
      unfold Row.g; rw [z j hj, zero_mul]
    refine RSt.ext ?_ ?_ ?_ ?_ ?_
    · funext r l; simp only [RSt.upto]; congr 1
      refine Finset.sum_congr rfl fun j _ => ?_
      rw [if_pos j.isLt]; split
      · rfl
      · simp [zg j ‹_›]
    · funext r; simp only [RSt.upto]; congr 1
      refine Finset.sum_congr rfl fun j _ => ?_
      rw [if_pos j.isLt]; split
      · rfl
      · simp [zg j ‹_›]
    · funext j h' c; simp only [RSt.upto, j.isLt, true_and]; congr 1
      by_cases hj : j.val < i + 1
      · simp only [hj, true_and]
      · simp [hj, zg j hj]
    · funext j c l; simp only [RSt.upto, j.isLt, if_true]; congr 1
      split
      · rfl
      · simp [zg j ‹_›]
    · funext j c l; simp only [RSt.upto, j.isLt, if_true]; congr 1
      split
      · rfl
      · simp [z j ‹_›]
  rw [last, RSt.upto_succ R x h i i hi]
  have oF (c) := (rowOf_apply (F := Ideal) s.fk i h hi hh c).trans (hs.fk ⟨i, hi⟩ ⟨h, hh⟩ c)
  have oK (c l) := (slab_apply (F := Ideal) s.dk i hi c l).trans (hs.dk ⟨i, hi⟩ c l)
  have oV (c l) := (slab_apply (F := Ideal) s.dv i hi c l).trans (hs.dv ⟨i, hi⟩ c l)
  refine Is.step hs i hi (hh := hh) (fun r l => ?_) (fun r => gainR_real e7 hs.a2 r) rfl (fun c => ?_) rfl (fun c l => ?_)
    rfl (fun c l => ?_)
  · have := hs.a1
    have e8 (r c) : k0_pay85 (k0_pay55 k0_pay32 qm cc (slab K i hi) (rowOf FK i h hi hh))
      (centred dom dc (slab V i hi)) (ix2 r c)
        = ((x.g i ⟨i, hi⟩ r c : ℝ) : EReal) := e7 r c
    unfold own
    dsimp only
    pointwise [k0_pay88, k0_pay80]
    simp only [e8, hx.slabK, this, ← EReal.coe_mul, coe_sum, ← EReal.coe_add, zero_add]
  · pointwise [k0_pay58, k0_pay57]
    simp only [e7, oF, coe_sum, ← EReal.coe_zero, ← EReal.coe_sub, ← EReal.coe_add]
    congr 1; ring
  · pointwise [k0_pay60, k0_pay59]
    simp only [e7, hx.Q, oK, ← EReal.coe_mul, coe_sum, ← EReal.coe_add, zero_add]
  · pointwise [k0_pay61]
    simp only [e6, hx.G, oV, ← EReal.coe_mul, coe_sum, ← EReal.coe_add, zero_add]
end

end Cert.Bwd

end

end
-- ==== Proof.Bwd.PointVal.lean ====
module

public import proofs.«01_k».proof.Proof.Bwd.Walk

@[expose] public section

set_option maxRecDepth 16384

noncomputable section

namespace Cert.Bwd

open Idealize.ShloMosaic Idealize.ShloMosaic.TcCoe Idealize.SL.Sem
open Cert.KernelAttnIdeal Cert.KernelAttnIdeal.Gen

/-! # One query block, on real contents -/

/-- The reals that the call reads at a query block: `h` counts the pair's two heads. -/
structure Block where
  q : Fin 512 → Fin 128 → ℝ
  go : Fin 512 → Fin 128 → ℝ
  K : Fin 16 → Fin 512 → Fin 128 → ℝ
  V : Fin 16 → Fin 512 → Fin 128 → ℝ
  fq : Fin 2 → Fin 512 → ℝ
  ls : Fin 2 → Fin 512 → ℝ
  dl : Fin 2 → Fin 512 → ℝ
  fk : Fin 2 → Fin 16 → Fin 512 → ℝ

/-- The lane, or the row of eight, of head `h`. -/
def lane (h : Fin 2) : Fin 128 := ⟨h.val, by omega⟩
def rowNo (h : Fin 2) : Fin 8 := ⟨h.val, by omega⟩

/-- The arrays `x` hold the reals `b`. -/
structure Block.Read (b : Block) (x : Ops Ideal) : Prop where
  q : ∀ r l, x.q (ix2 r l) = (b.q r l : EReal)
  go : ∀ r l, x.go (ix2 r l) = (b.go r l : EReal)
  K : ∀ j c l, x.K (ix3 j c l) = (b.K j c l : EReal)
  V : ∀ j c l, x.V (ix3 j c l) = (b.V j c l : EReal)
  fq : ∀ h r, x.fq (ix3 0 r (lane h)) = (b.fq h r : EReal)
  ls : ∀ h r, x.ls (ix3 0 r (lane h)) = (b.ls h r : EReal)
  dl : ∀ h r, x.dl (ix3 0 r (lane h)) = (b.dl h r : EReal)
  fk : ∀ h j c, x.fk (ix4 0 j (rowNo h) c) = (b.fk h j c : EReal)

/-- What head `h` of the pair reads. -/
def Block.row (b : Block) (h : Fin 2) : Row where
  Q r l := if l.val / 64 = h.val then b.q r l else 0
  G r l := if l.val / 64 = h.val then b.go r l else 0
  C r := b.fq h r - b.ls h r
  D r := b.dl h r
  K := b.K
  V := b.V
  F := b.fk h

theorem lo_lanes (l : Fin 128) : k0_pay39 (ix2 0 l) = if l.val / 64 = 0 then 1#1 else 0#1 := by
  pointwise [k0_pay39]
  revert l; decide

theorem hi_lanes (l : Fin 128) : k0_pay65 lanes (k0_pay64 lanes) 128#32 (ix2 0 l) = if l.val / 64 = 1 then 1#1 else 0#1 := by
  pointwise [k0_pay65, k0_pay64, lanes]
  revert l; decide

theorem sel_coe (p : Prop) [Decidable p] (x y : ℝ) :
    Scalar.select (if p then 1#1 else 0#1) (x : EReal) (y : EReal) = ((if p then x else y : ℝ) : EReal) := by
  split <;> simp [Scalar.select]

section
variable {b : Block} {x : Ops Ideal} (hb : b.Read x)

include hb in
theorem Block.Read.row0 : (b.row 0).Read (k0_pay40 x.q) (k0_pay41 x.go) (k0_pay42 x.fq x.ls) (k0_pay43 x.dl) x.K x.V x.fk 0 (by decide) where
  Q r l := by
    pointwise [k0_pay40, k0_pay33]
    rw [lo_lanes, hb.q, ← EReal.coe_zero, sel_coe]
    rfl
  G r l := by
    pointwise [k0_pay41, k0_pay34]
    rw [lo_lanes, hb.go, ← EReal.coe_zero, sel_coe]
    rfl
  C r := by
    have e1 := hb.fq 0 r
    have e2 := hb.ls 0 r
    pointwise [k0_pay42, k0_pay35]
    rw [show x.fq (ix3 0 r 0) = _ from e1, show x.ls (ix3 0 r 0) = _ from e2, ← EReal.coe_sub]
    rfl
  D r := by
    have e1 := hb.dl 0 r
    pointwise [k0_pay43, k0_pay36]
    exact e1
  K := hb.K
  V := hb.V
  F j c := hb.fk 0 j c

include hb in
theorem Block.Read.row1 : (b.row 1).Read (qm1 x) (dom1 x) (k0_pay68 (k0_pay35 x.fq x.ls)) (k0_pay69 (k0_pay36 x.dl)) x.K x.V x.fk 1
    (by decide) where
  Q r l := by
    pointwise [qm1, k0_pay66, k0_pay33]
    rw [hi_lanes, hb.q, ← EReal.coe_zero, sel_coe]
    rfl
  G r l := by
    pointwise [dom1, k0_pay67, k0_pay34]
    rw [hi_lanes, hb.go, ← EReal.coe_zero, sel_coe]
    rfl
  C r := by
    have e1 := hb.fq 1 r
    have e2 := hb.ls 1 r
    pointwise [k0_pay68, k0_pay35]
    rw [show x.fq (ix3 0 r 1) = _ from e1, show x.ls (ix3 0 r 1) = _ from e2, ← EReal.coe_sub]
    rfl
  D r := by
    have e1 := hb.dl 1 r
    pointwise [k0_pay69, k0_pay36]
    exact e1
  K := hb.K
  V := hb.V
  F j c := hb.fk 1 j c

/-- The accumulators as the query block finds them, nothing carried. -/
def start (fk : Fin 16 → Fin 8 → Fin 512 → ℝ) (dk dv : Fin 16 → Fin 512 → Fin 128 → ℝ) : RSt := ⟨fun _ _ => 0, fun _ => 0, fk, dk, dv⟩

theorem init0_real {fk : Vec Ideal S1x16x8x512 .f32} {dk dv : Vec Ideal S16x512x128 .f32} {R : RSt}
    (h1 : ∀ j h c, fk (ix4 0 j h c) = (R.fk j h c : EReal)) (h2 : ∀ j c l, dk (ix3 j c l) = (R.dk j c l : EReal))
    (h3 : ∀ j c l, dv (ix3 j c l) = (R.dv j c l : EReal)) : Is (init0 fk dk dv) (start R.fk R.dk R.dv) where
  a1 r l := by unfold init0; dsimp only; pointwise [k0_pay44]; rfl
  a2 r := by unfold init0; dsimp only; pointwise [k0_pay45]; rfl
  fk := h1
  dk := h2
  dv := h3

theorem init1_real {fk : Vec Ideal S1x16x8x512 .f32} {dk dv : Vec Ideal S16x512x128 .f32} {R : RSt}
    (h1 : ∀ j h c, fk (ix4 0 j h c) = (R.fk j h c : EReal)) (h2 : ∀ j c l, dk (ix3 j c l) = (R.dk j c l : EReal))
    (h3 : ∀ j c l, dv (ix3 j c l) = (R.dv j c l : EReal)) : Is ⟨(k0_pay70, k0_pay71), fk, dk, dv⟩ (start R.fk R.dk R.dv) where
  a1 r l := by dsimp only; pointwise [k0_pay70]; rfl
  a2 r := by dsimp only; pointwise [k0_pay71]; rfl
  fk := h1
  dk := h2
  dv := h3

/-- All key blocks of the first head. -/
def Block.all0 (b : Block) (i : ℕ) (R : RSt) : RSt := (start R.fk R.dk R.dv).upto (b.row 0) 0 i 16

/-- All key blocks of the second head, after the first head's. -/
def Block.all1 (b : Block) (i : ℕ) (R : RSt) : RSt :=
  (start (b.all0 i R).fk (b.all0 i R).dk (b.all0 i R).dv).upto (b.row 1) 1 i 16

variable (i : ℕ) (hi : i < 16) {fk : Vec Ideal S1x16x8x512 .f32} {dk dv : Vec Ideal S16x512x128 .f32} {R : RSt}
  (h1 : ∀ j h c, fk (ix4 0 j h c) = (R.fk j h c : EReal)) (h2 : ∀ j c l, dk (ix3 j c l) = (R.dk j c l : EReal))
  (h3 : ∀ j c l, dv (ix3 j c l) = (R.dv j c l : EReal))

/-- The first head's own key block, in the common form. -/
abbrev head0 (x : Ops Ideal) (i : ℕ) (hi : i < 16) (s : St Ideal) : St Ideal :=
  own (k0_pay40 x.q) (k0_pay41 x.go) (k0_pay42 x.fq x.ls) (k0_pay43 x.dl) x.K x.V x.fk 0 (by decide) i hi s

/-- The second head's own key block, in the common form. -/
abbrev head1 (x : Ops Ideal) (i : ℕ) (hi : i < 16) (s : St Ideal) : St Ideal :=
  own (qm1 x) (dom1 x) (k0_pay68 (k0_pay35 x.fq x.ls)) (k0_pay69 (k0_pay36 x.dl)) x.K x.V x.fk 1 (by decide) i hi s

include hb h1 h2 h3 in
theorem head0_real : Is (head0 x i hi (st0 x i fk dk dv)) (b.all0 i R) :=
  own_real hb.row0 i hi (walk_real hb.row0 (init0_real h1 h2 h3) i hi i le_rfl)

include hb h1 h2 h3 in
theorem head1_real : Is (head1 x i hi (st1 x i hi fk dk dv)) (b.all1 i R) := by
  have h := head0_real hb i hi h1 h2 h3
  refine own_real hb.row1 i hi (walk_real hb.row1 ?_ i hi i le_rfl)
  exact init1_real h.fk h.dk h.dv

theorem stEnd_fk : (stEnd x i hi fk dk dv).fk = (head1 x i hi (st1 x i hi fk dk dv)).fk := rfl
theorem stEnd_dk : (stEnd x i hi fk dk dv).dk = (head1 x i hi (st1 x i hi fk dk dv)).dk := rfl
theorem stEnd_dv : (stEnd x i hi fk dk dv).dv = (head1 x i hi (st1 x i hi fk dk dv)).dv := rfl

theorem eighth : Ideal.ofBits .f32 0x3E000000#32 = (((1 / 8 : ℝ)) : EReal) := by
  simp [Ideal.ofBits, Ideal.ieee, -EReal.coe_mul]; norm_num

include hb h1 h2 h3 in
/-- The queries' gradient: each half of the lanes holds its own head's. -/
theorem dqOut_real (r : Fin 512) (l : Fin 128) : dqOut x i hi fk dk dv (ix2 r l)
    = (((if l.val / 64 = 1 then (b.all1 i R).a1 r l else if l.val / 64 = 0 then (b.all0 i R).a1 r l else 0) * (1 / 8) : ℝ) : EReal) := by
  have e0 := (head0_real hb i hi h1 h2 h3).a1 r l
  have e1 := (head1_real hb i hi h1 h2 h3).a1 r l
  have d0 : dq0 x i hi (st0 x i fk dk dv) (ix2 r l) = ((if l.val / 64 = 0 then (b.all0 i R).a1 r l else 0 : ℝ) : EReal) := by
    rw [← sel_coe, ← e0, ← lo_lanes]
    pointwise [dq0, k0_pay62, k0_pay37, head0, own, k0_pay88]
    rfl
  pointwise [dqOut, k0_pay1]
  rw [hi_lanes, d0]
  rw [show k0_pay88 (st1 x i hi fk dk dv).acc.1 (k0_pay80 (slab x.K i hi)) (p1 x i hi) (dp1 x i hi) (ix2 r l) = _ from e1]
  rw [sel_coe, eighth, ← EReal.coe_mul]

include hb h1 h2 h3 in
/-- The log decays' gradient by query: lanes 0 and 1 hold the two heads'. -/
theorem dfqOut_real (r : Fin 512) (l : Fin 128) : dfqOut x i hi fk dk dv (ix3 0 r l)
    = ((if l.val = 1 then (b.all1 i R).a2 r else if l.val = 0 then (b.all0 i R).a2 r else 0 : ℝ) : EReal) := by
  have e0 := (head0_real hb i hi h1 h2 h3).a2 r
  have e1 := (head1_real hb i hi h1 h2 h3).a2 r
  have d0 : dfq0 x i hi (st0 x i fk dk dv) (ix2 r l) = ((if l.val = 0 then (b.all0 i R).a2 r else 0 : ℝ) : EReal) := by
    rw [← sel_coe, ← e0]
    pointwise [dfq0, k0_pay63, k0_pay38, head0, own, k0_pay49, lanes]
    congr 1
    revert l; decide
  rw [← sel_coe, ← d0, ← e1]
  pointwise [dfqOut, k0_pay2, k0_pay89, head1, own, k0_pay49, lanes]
  congr 1
  clear d0
  revert l; decide
end

end Cert.Bwd

end

end
-- ==== Proof.Bwd.Blocks.lean ====
module

public import proofs.«01_k».proof.Proof.Bwd.Spec
public import proofs.«01_k».proof.Proof.Bwd.PointVal

@[expose] public section

set_option maxRecDepth 16384

noncomputable section

namespace Cert.Bwd

open Idealize.ShloMosaic Idealize.ShloMosaic.TcCoe Idealize.SL.Sem
open Cert.KernelAttnIdeal Cert.KernelAttnIdeal.Gen

/-! # The query blocks of one pair of heads, over the reals -/

/-- Row `r` of block `i`, lane `l` of pair `g`, head `h` of pair `g`. -/
def row (i : Fin 16) (r : Fin 512) : Fin 8192 := ⟨i.val * 512 + r.val, by have := i.isLt; have := r.isLt; omega⟩
def col (g : Fin 8) (l : Fin 128) : Fin 1024 := ⟨g.val * 128 + l.val, by have := g.isLt; have := l.isLt; omega⟩
def hd (g : Fin 8) (h : Fin 2) : Fin 16 := ⟨g.val * 2 + h.val, by have := g.isLt; have := h.isLt; omega⟩

/-- A sum over positions, by blocks. -/
theorem sum_rows (f : Fin 8192 → ℝ) : ∑ t, f t = ∑ i, ∑ r, f (row i r) := Fin.sum_univ_tiles 16 512 rfl f

theorem headOf_col (g : Fin 8) (l : Fin 128) (h : Fin 2) (e : l.val / 64 = h.val) : headOf (col g l) = hd g h := by
  refine Fin.ext ?_
  simp only [headOf, col, hd]
  omega

namespace Args
variable (a : Args) (g : Fin 8)

/-- What the call reads at query block `i` of pair `g`. -/
def blk (i : Fin 16) : Block where
  q r l := a.q (row i r) (col g l) * (1 / 8)
  go r l := a.go (row i r) (col g l)
  K j c l := a.k (row j c) (col g l)
  V j c l := a.v (row j c) (col g l)
  fq h r := a.F (hd g h) (row i r)
  ls h r := Real.log (a.Z (hd g h) (row i r))
  dl h r := a.Dl (hd g h) (row i r)
  fk h j c := a.F (hd g h) (row j c)

/-- A sum over a pair's lanes that keeps one head's. -/
theorem sum_lanes (h : Fin 2) (f : Fin 1024 → ℝ) :
    ∑ l : Fin 128, (if l.val / 64 = h.val then f (col g l) else 0) = ∑ d, f (ln (hd g h) d) := by
  rw [sum_half h.isLt]
  refine Finset.sum_congr rfl fun d _ => congrArg f (Fin.ext ?_)
  simp only [col, ln, hd]
  omega

theorem blk_score (i : Fin 16) (h : Fin 2) (j : Fin 16) (r c : Fin 512) :
    score ((a.blk g i).row h).Q (((a.blk g i).row h).K j) ((a.blk g i).row h).C (((a.blk g i).row h).F j) r c
      = a.S (hd g h) (row i r) (row j c) - Real.log (a.Z (hd g h) (row i r)) := by
  have e := sum_lanes g h fun l => a.q (row i r) l * (1 / 8) * a.k (row j c) l
  simp only [score, Block.row, blk, ite_mul, zero_mul]
  rw [e]
  unfold S
  rw [Finset.sum_mul, Finset.sum_congr rfl fun d _ => show a.q (row i r) (ln (hd g h) d) * (1 / 8) * a.k (row j c) (ln (hd g h) d)
    = a.q (row i r) (ln (hd g h) d) * a.k (row j c) (ln (hd g h) d) * (1 / 8) by ring]
  ring

theorem blk_diff (i : Fin 16) (h : Fin 2) (j : Fin 16) (r c : Fin 512) :
    diff ((a.blk g i).row h).G (((a.blk g i).row h).V j) ((a.blk g i).row h).D r c
      = a.dP (hd g h) (row i r) (row j c) - a.Dl (hd g h) (row i r) := by
  have e := sum_lanes g h fun l => a.go (row i r) l * a.v (row j c) l
  simp only [diff, Block.row, blk, ite_mul, zero_mul]
  rw [e]
  rfl

/-- The block's weights are the attention's. -/
theorem blk_w (i : Fin 16) (h : Fin 2) (j : Fin 16) (r c : Fin 512) :
    ((a.blk g i).row h).w i j r c = a.P (hd g h) (row i r) (row j c) := by
  rw [P_eq]
  have hr := r.isLt
  have hc := c.isLt
  have hle : row j c ≤ row i r ↔ j.val < i.val ∨ (j.val = i.val ∧ c.val ≤ r.val) := by
    rw [Fin.le_def]; simp only [row]; omega
  unfold Row.w weight
  simp only [blk_score]
  by_cases h1 : j.val < i.val
  · rw [if_pos h1, if_pos (hle.2 (.inl h1))]
  · rw [if_neg h1]
    by_cases h2 : j.val = i.val
    · rw [if_pos h2]
      by_cases h3 : c.val ≤ r.val
      · rw [if_pos h3, if_pos (hle.2 (.inr ⟨h2, h3⟩))]
      · rw [if_neg h3, if_neg fun h => h3 ((hle.1 h).resolve_left h1).2]
    · rw [if_neg h2, if_neg fun h => h2 ((hle.1 h).resolve_left h1).1]

/-- And the block's score gradients. -/
theorem blk_g (i : Fin 16) (h : Fin 2) (j : Fin 16) (r c : Fin 512) :
    ((a.blk g i).row h).g i j r c = a.dS (hd g h) (row i r) (row j c) := by
  unfold Row.g
  rw [blk_w, blk_diff]
  rfl

/-- What query block `i` adds to the three accumulators. -/
def fkTerm (i j : Fin 16) (h' : Fin 8) (c : Fin 512) : ℝ :=
  (if h'.val = 0 then - ∑ r, a.dS (hd g 0) (row i r) (row j c) else 0)
    + if h'.val = 1 then - ∑ r, a.dS (hd g 1) (row i r) (row j c) else 0
def dkTerm (i j : Fin 16) (c : Fin 512) (l : Fin 128) : ℝ :=
  ∑ r, a.dS (headOf (col g l)) (row i r) (row j c) * (a.q (row i r) (col g l) * (1 / 8))
def dvTerm (i j : Fin 16) (c : Fin 512) (l : Fin 128) : ℝ :=
  ∑ r, a.P (headOf (col g l)) (row i r) (row j c) * a.go (row i r) (col g l)

theorem two_halves (f : Fin 2 → ℝ) (l : Fin 128) (e : Fin 2) (he : l.val / 64 = e.val) :
    ((if l.val / 64 = (0 : Fin 2).val then f 0 else 0) + if l.val / 64 = (1 : Fin 2).val then f 1 else 0) = f e := by
  rw [he]
  fin_cases e <;> simp

variable (R : RSt)

theorem all1_fk (i j : Fin 16) (h' : Fin 8) (c : Fin 512) :
    ((a.blk g i).all1 i R).fk j h' c = R.fk j h' c + a.fkTerm g i j h' c := by
  simp only [Block.all1, Block.all0, RSt.upto, start, blk_g, j.isLt, true_and]
  rw [add_assoc]
  rfl

theorem all1_dk (i j : Fin 16) (c : Fin 512) (l : Fin 128) :
    ((a.blk g i).all1 i R).dk j c l = R.dk j c l + a.dkTerm g i j c l := by
  simp only [Block.all1, Block.all0, RSt.upto, start, blk_g, j.isLt, if_true]
  rw [add_assoc]
  congr 1
  have hl : l.val / 64 < 2 := by have := l.isLt; omega
  unfold dkTerm
  rw [headOf_col g l ⟨_, hl⟩ rfl, ← two_halves (fun h => ∑ r, a.dS (hd g h) (row i r) (row j c) * (a.q (row i r) (col g l) * (1 / 8))) l ⟨_, hl⟩ rfl]
  simp only [Block.row, blk, mul_ite, mul_zero]
  congr 1 <;> split <;> simp

theorem all1_dv (i j : Fin 16) (c : Fin 512) (l : Fin 128) :
    ((a.blk g i).all1 i R).dv j c l = R.dv j c l + a.dvTerm g i j c l := by
  simp only [Block.all1, Block.all0, RSt.upto, start, blk_w, j.isLt, if_true]
  rw [add_assoc]
  congr 1
  have hl : l.val / 64 < 2 := by have := l.isLt; omega
  unfold dvTerm
  rw [headOf_col g l ⟨_, hl⟩ rfl, ← two_halves (fun h => ∑ r, a.P (hd g h) (row i r) (row j c) * a.go (row i r) (col g l)) l ⟨_, hl⟩ rfl]
  simp only [Block.row, blk, mul_ite, mul_zero]
  congr 1 <;> split <;> simp

/-- The queries' gradient that a query block writes. -/
theorem all_dq (i : Fin 16) (r : Fin 512) (l : Fin 128) :
    (if l.val / 64 = 1 then ((a.blk g i).all1 i R).a1 r l else if l.val / 64 = 0 then ((a.blk g i).all0 i R).a1 r l else 0) * (1 / 8)
      = a.dq (row i r) (col g l) := by
  have hl : l.val / 64 < 2 := by have := l.isLt; omega
  simp only [Block.all1, Block.all0, RSt.upto, start, blk_g, Fin.is_lt, if_true, zero_add]
  unfold dq
  congr 1
  rw [sum_rows]
  obtain h | h : l.val / 64 = 1 ∨ l.val / 64 = 0 := by omega
  · rw [if_pos h, headOf_col g l 1 h]; rfl
  · rw [if_neg (by omega), if_pos h, headOf_col g l 0 h]; rfl

/-- The log decays' gradient, by query, that a query block writes. -/
theorem all_dfq (i : Fin 16) (r : Fin 512) :
    ((a.blk g i).all0 i R).a2 r = a.dFq (hd g 0) (row i r) ∧ ((a.blk g i).all1 i R).a2 r = a.dFq (hd g 1) (row i r) := by
  simp only [Block.all1, Block.all0, RSt.upto, start, blk_g, Fin.is_lt, if_true, zero_add, dFq]
  exact ⟨(sum_rows _).symm, (sum_rows _).symm⟩

/-- The log decays' gradients as the call stores them: by query in two of 128 lanes, by key in two of eight rows. -/
def dFqPad (g : Fin 8) (t : Fin 8192) (l : Fin 128) : ℝ := if hl : l.val < 2 then a.dFq (hd g ⟨l.val, hl⟩) t else 0
def dFkPad (g : Fin 8) (u : Fin 8192) (k : Fin 8) : ℝ := if hk : k.val < 2 then a.dFk (hd g ⟨k.val, hk⟩) u else 0

/-- The accumulators after the query blocks before `n`. -/
def upto (n : ℕ) : RSt where
  a1 _ _ := 0
  a2 _ := 0
  fk j h' c := ∑ i : Fin 16, if i.val < n then a.fkTerm g i j h' c else 0
  dk j c l := ∑ i : Fin 16, if i.val < n then a.dkTerm g i j c l else 0
  dv j c l := ∑ i : Fin 16, if i.val < n then a.dvTerm g i j c l else 0

/-- After all sixteen. -/
theorem upto_dk (j : Fin 16) (c : Fin 512) (l : Fin 128) : (a.upto g 16).dk j c l = a.dk (row j c) (col g l) := by
  simp only [upto, Fin.is_lt, if_true, dkTerm, dk]
  rw [sum_rows]

theorem upto_dv (j : Fin 16) (c : Fin 512) (l : Fin 128) : (a.upto g 16).dv j c l = a.dv (row j c) (col g l) := by
  simp only [upto, Fin.is_lt, if_true, dvTerm, dv]
  rw [sum_rows]

theorem upto_fk (j : Fin 16) (h' : Fin 8) (c : Fin 512) : (a.upto g 16).fk j h' c
    = a.dFkPad g (row j c) h' := by
  unfold dFkPad
  simp only [upto, Fin.is_lt, if_true, fkTerm, dFk]
  by_cases h0 : h'.val = 0
  · simp [h0, ← sum_rows (fun t => a.dS (hd g 0) t (row j c))]
  · by_cases h1 : h'.val = 1
    · simp [h1, ← sum_rows (fun t => a.dS (hd g 1) t (row j c))]
    · rw [dif_neg (by omega)]; simp [h0, h1]
end Args

end Cert.Bwd

end

end
-- ==== Proof.Bwd.Loops.lean ====
module

public import proofs.«01_k».proof.Proof.Bwd.Step
public import Idealize.ShloMosaic.Lib.Exec
public import Idealize.ShloMosaic.Lib.Tactic
public import Idealize.ShloMosaic.Lib.Pipeline.Kit

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

local notation "𝕄" => MT nD τ sig Unit (Elt F) ℕ (UR sig nD τ) ℕ

variable {arg2 : Memref sig .tc .vmem S512x128 .bf16} {harg2 : arg2.IsWhole}
  {arg3 : Memref sig .tc .vmem S16x512x128 .bf16} {harg3 : arg3.IsWhole}
  {arg4 : Memref sig .tc .vmem S16x512x128 .bf16} {harg4 : arg4.IsWhole}
  {arg5 : Memref sig .tc .vmem S512x128 .bf16} {harg5 : arg5.IsWhole}
  {arg6 : Memref sig .tc .vmem S1x512x128 .f32} {harg6 : arg6.IsWhole}
  {arg7 : Memref sig .tc .vmem S1x512x128 .f32} {harg7 : arg7.IsWhole}
  {arg8 : Memref sig .tc .vmem S1x512x128 .f32} {harg8 : arg8.IsWhole}
  {arg9 : Memref sig .tc .vmem S1x16x8x512 .f32} {harg9 : arg9.IsWhole}
  {arg10 : Memref sig .tc .vmem S512x128 .bf16} {harg10 : arg10.IsWhole}
  {arg11 : Memref sig .tc .vmem S16x512x128 .bf16} {harg11 : arg11.IsWhole}
  {arg12 : Memref sig .tc .vmem S16x512x128 .bf16} {harg12 : arg12.IsWhole}
  {arg13 : Memref sig .tc .vmem S1x512x128 .f32} {harg13 : arg13.IsWhole}
  {arg14 : Memref sig .tc .vmem S1x16x8x512 .f32} {harg14 : arg14.IsWhole}
  {arg15 : Memref sig .tc .vmem S16x512x128 .f32} {harg15 : arg15.IsWhole}
  {arg16 : Memref sig .tc .vmem S16x512x128 .f32} {harg16 : arg16.IsWhole}
variable (c : Dev nD) (i : grid0.Coords)

/-- The six arrays that a walk over key blocks reads or changes, held at their contents. -/
abbrev walkHeld (c : Dev nD) (arg3 arg4 : Memref sig .tc .vmem S16x512x128 .bf16) (arg9 arg14 : Memref sig .tc .vmem S1x16x8x512 .f32)
    (arg15 arg16 : Memref sig .tc .vmem S16x512x128 .f32) (K V : Vec F S16x512x128 .bf16) (FK : Vec F S1x16x8x512 .f32)
    (s : St F) : sProp 𝕄 :=
  iprop((arg3.view.loc (c : Thread nD τ) ↦[arg3.view.set]{fullShare} arg3.view.rep K) ∗ (arg4.view.loc (c : Thread nD τ) ↦[arg4.view.set]{fullShare} arg4.view.rep V) ∗ (arg9.view.loc (c : Thread nD τ) ↦[arg9.view.set]{fullShare} arg9.view.rep FK) ∗ (arg14.view.loc (c : Thread nD τ) ↦[arg14.view.set]{fullShare} arg14.view.rep s.fk) ∗ (arg15.view.loc (c : Thread nD τ) ↦[arg15.view.set]{fullShare} arg15.view.rep s.dk) ∗ (arg16.view.loc (c : Thread nD τ) ↦[arg16.view.set]{fullShare} arg16.view.rep s.dv))

/-- A load of one slab of a buffer held at `x`. -/
theorem read_slab {e : EltTy} (a : Memref sig .tc .vmem S16x512x128 e) (x : Vec F S16x512x128 e) {off : Fin 3 → ℕ} {j : ℕ}
    (inb : ∀ d, off d + S1x512x128.size d ≤ S16x512x128.size d) (h : off = ![j, 0, 0]) (hj : j < 16) :
    a.view.readAt (Elt F) (Rect.unit (s := S16x512x128) off S1x512x128.size inb).toLoadRect (a.view.rep x) = slab x j hj :=
  View.readAt_rep_unit _ _ _ h _

/-- A load of one row of a buffer held at `x`. -/
theorem read_row (a : Memref sig .tc .vmem S1x16x8x512 .f32) (x : Vec F S1x16x8x512 .f32) {off : Fin 4 → ℕ} {j h : ℕ}
    (inb : ∀ d, off d + S1x1x1x512.size d ≤ S1x16x8x512.size d) (ho : off = ![0, j, h, 0]) (hj : j < 16) (hh : h < 8) :
    a.view.readAt (Elt F) (Rect.unit (s := S1x16x8x512) off S1x1x1x512.size inb).toLoadRect (a.view.rep x) = rowOf x j h hj hh :=
  View.readAt_rep_unit _ _ _ ho _

/-- One stored slab, over a buffer held at `x`. -/
theorem held_slab (c : Dev nD) (a : Memref sig .tc .vmem S16x512x128 .f32) (x : Vec F S16x512x128 .f32) {off : Fin 3 → ℕ} {j : ℕ}
    (inb : ∀ d, off d + S1x512x128.size d ≤ S16x512x128.size d) (w w' : Vec F S1x512x128 .f32) (h : off = ![j, 0, 0]) (hw : w = w') :
    ((a.view.loc (c : Thread nD τ) ↦[a.view.set]{fullShare} a.view.writes (Elt F) (a.view.rep x) [⟨Rect.unit off S1x512x128.size inb, w⟩] : sProp 𝕄))
      ⊢ (a.view.loc (c : Thread nD τ) ↦[a.view.set]{fullShare} a.view.rep (putSlab x j w')) := by
  subst hw
  exact pointsTo_rep_of_read _ _ _ _ _ (View.read_writes_rep_unit _ _ _ _ h)

/-- One stored row, over a buffer held at `x`. -/
theorem held_row (c : Dev nD) (a : Memref sig .tc .vmem S1x16x8x512 .f32) (x : Vec F S1x16x8x512 .f32) {off : Fin 4 → ℕ} {j h : ℕ}
    (inb : ∀ d, off d + S1x1x1x512.size d ≤ S1x16x8x512.size d) (w w' : Vec F S1x1x1x512 .f32) (ho : off = ![0, j, h, 0]) (hw : w = w') :
    ((a.view.loc (c : Thread nD τ) ↦[a.view.set]{fullShare} a.view.writes (Elt F) (a.view.rep x) [⟨Rect.unit off S1x1x1x512.size inb, w⟩] : sProp 𝕄))
      ⊢ (a.view.loc (c : Thread nD τ) ↦[a.view.set]{fullShare} a.view.rep (putRow x j h w')) := by
  subst hw
  exact pointsTo_rep_of_read _ _ _ _ _ (View.read_writes_rep_unit _ _ _ _ ho)

/-- The walk of the first head over the key blocks before the query block, as a loop invariant. -/
@[sl_loop, reducible] def loop1 (E : Set ℕ) (arg1 : BitVec 32) (v6 : IVec S512x512 1) (qm dom : FVec F S512x128 .bf16) (cc dc : FVec F S512x1 .f32) (cst : F .f32)
    (K V : Vec F S16x512x128 .bf16) (FK : Vec F S1x16x8x512 .f32) (s : St F) :
    Idealize.ShloMosaic.LoopInv (M := 𝕄) Idealize.ShloMosaic.frame (wpE (defs₀ (F := F)) Variants.none (c : Thread nD τ) none) E
      (k0_t1_loop i).lb (k0_t1_loop i).ub (k0_t1_loop i).st (k0_t1_ok i) s.acc
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v6 qm dom cc dc cst) where
  inv k acc := iprop(walkHeld c arg3 arg4 arg9 arg14 arg15 arg16 K V FK (walk qm dom cc dc K V FK 0 (by decide) s k)
    ∗ ⌜acc = (walk qm dom cc dc K V FK 0 (by decide) s k).acc⌝)
  step k acc := by
    have hk : (k : ℕ) < 16 := lt_of_lt_of_le k.isLt ((k0_t1_abs i).2.1.trans (by decide))
    rw [show walk qm dom cc dc K V FK 0 (by decide) s (k.val + 1)
      = visit qm dom cc dc K V FK 0 (by decide) k.val hk (walk qm dom cc dc K V FK 0 (by decide) s k.val) from dif_pos hk]
    generalize walk qm dom cc dc K V FK 0 _ s k.val = S
    iintro ⟨⟨H3, H4, H9, H14, H15, H16⟩, %hacc⟩
    subst hacc
    unfold k0_t1_body
    simp only [k0_part1_eq_skeleton]
    unfold k0_part1_skel
    sl_exec
    sl_step
    isplitl [H3 H4 H9 H14 H15 H16]
    · isplitl [H3]; · iexact H3
      isplitl [H4]; · iexact H4
      isplitl [H9]; · iexact H9
      isplitl [H14]
      · iapply (held_row c arg14 _ _ _ _ (k0_off2_eq i k) ?_) $$ H14
        simp only [read_slab (h := k0_off1_eq i k) (hj := hk), read_row (ho := k0_off2_eq i k) (hj := hk) (hh := show 0 < 8 by decide)]; try rfl
      isplitl [H15]
      · iapply (held_slab c arg15 _ _ _ _ (k0_off1_eq i k) ?_) $$ H15
        simp only [read_slab (h := k0_off1_eq i k) (hj := hk), read_row (ho := k0_off2_eq i k) (hj := hk) (hh := show 0 < 8 by decide)]; try rfl
      · iapply (held_slab c arg16 _ _ _ _ (k0_off1_eq i k) ?_) $$ H16
        simp only [read_slab (h := k0_off1_eq i k) (hj := hk), read_row (ho := k0_off2_eq i k) (hj := hk) (hh := show 0 < 8 by decide)]; try rfl
    · ipureintro
      simp only [read_slab (h := k0_off1_eq i k) (hj := hk), read_row (ho := k0_off2_eq i k) (hj := hk) (hh := show 0 < 8 by decide)]; try rfl

/-- The walk of the second head over the key blocks before the query block, as a loop invariant. -/
@[sl_loop, reducible] def loop3 (E : Set ℕ) (arg1 : BitVec 32) (v3 : IVec S1x128 32) (v6 : IVec S512x512 1) (v8 v10 : FVec F S512x128 .bf16) (v15 v17 : FVec F S512x128 .f32) (v113 : IVec S1x128 1) (c128 : BitVec 32)
    (K V : Vec F S16x512x128 .bf16) (FK : Vec F S1x16x8x512 .f32) (s : St F) :
    Idealize.ShloMosaic.LoopInv (M := 𝕄) Idealize.ShloMosaic.frame (wpE (defs₀ (F := F)) Variants.none (c : Thread nD τ) none) E
      (k0_t3_loop i).lb (k0_t3_loop i).ub (k0_t3_loop i).st (k0_t3_ok i) s.acc
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v6 v8 v10 v15 v17 v113 c128) where
  inv k acc := iprop(walkHeld c arg3 arg4 arg9 arg14 arg15 arg16 K V FK (walk (k0_pay66 v3 v8 v113 c128) (k0_pay67 v3 v10 v113 c128) (k0_pay68 v15) (k0_pay69 v17) K V FK 1 (by decide) s k)
    ∗ ⌜acc = (walk (k0_pay66 v3 v8 v113 c128) (k0_pay67 v3 v10 v113 c128) (k0_pay68 v15) (k0_pay69 v17) K V FK 1 (by decide) s k).acc⌝)
  step k acc := by
    have hk : (k : ℕ) < 16 := lt_of_lt_of_le k.isLt ((k0_t3_abs i).2.1.trans (by decide))
    rw [show walk (k0_pay66 v3 v8 v113 c128) (k0_pay67 v3 v10 v113 c128) (k0_pay68 v15) (k0_pay69 v17) K V FK 1 (by decide) s (k.val + 1)
      = visit (k0_pay66 v3 v8 v113 c128) (k0_pay67 v3 v10 v113 c128) (k0_pay68 v15) (k0_pay69 v17) K V FK 1 (by decide) k.val hk (walk (k0_pay66 v3 v8 v113 c128) (k0_pay67 v3 v10 v113 c128) (k0_pay68 v15) (k0_pay69 v17) K V FK 1 (by decide) s k.val) from dif_pos hk]
    generalize walk (k0_pay66 v3 v8 v113 c128) (k0_pay67 v3 v10 v113 c128) (k0_pay68 v15) (k0_pay69 v17) K V FK 1 _ s k.val = S
    iintro ⟨⟨H3, H4, H9, H14, H15, H16⟩, %hacc⟩
    subst hacc
    unfold k0_t3_body
    simp only [k0_part3_eq_skeleton]
    unfold k0_part3_skel
    sl_exec
    sl_step
    isplitl [H3 H4 H9 H14 H15 H16]
    · isplitl [H3]; · iexact H3
      isplitl [H4]; · iexact H4
      isplitl [H9]; · iexact H9
      isplitl [H14]
      · iapply (held_row c arg14 _ _ _ _ (k0_off8_eq i k) ?_) $$ H14
        simp only [read_slab (h := k0_off7_eq i k) (hj := hk), read_row (ho := k0_off8_eq i k) (hj := hk) (hh := show 1 < 8 by decide)]; try rfl
      isplitl [H15]
      · iapply (held_slab c arg15 _ _ _ _ (k0_off7_eq i k) ?_) $$ H15
        simp only [read_slab (h := k0_off7_eq i k) (hj := hk), read_row (ho := k0_off8_eq i k) (hj := hk) (hh := show 1 < 8 by decide)]; try rfl
      · iapply (held_slab c arg16 _ _ _ _ (k0_off7_eq i k) ?_) $$ H16
        simp only [read_slab (h := k0_off7_eq i k) (hj := hk), read_row (ho := k0_off8_eq i k) (hj := hk) (hh := show 1 < 8 by decide)]; try rfl
    · ipureintro
      simp only [read_slab (h := k0_off7_eq i k) (hj := hk), read_row (ho := k0_off8_eq i k) (hj := hk) (hh := show 1 < 8 by decide)]; try rfl

end Cert.Bwd

end

end
-- ==== Proof.Bwd.Parts.lean ====
module

public import proofs.«01_k».proof.Proof.Bwd.Point
public import proofs.«01_k».proof.Proof.Bwd.Loops
public import Idealize.ShloMosaic.Lib.LoopRemainder

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

local notation "𝕄" => MT nD τ sig Unit (Elt F) ℕ (UR sig nD τ) ℕ

variable {arg2 : Memref sig .tc .vmem S512x128 .bf16} {harg2 : arg2.IsWhole}
  {arg3 : Memref sig .tc .vmem S16x512x128 .bf16} {harg3 : arg3.IsWhole}
  {arg4 : Memref sig .tc .vmem S16x512x128 .bf16} {harg4 : arg4.IsWhole}
  {arg5 : Memref sig .tc .vmem S512x128 .bf16} {harg5 : arg5.IsWhole}
  {arg6 : Memref sig .tc .vmem S1x512x128 .f32} {harg6 : arg6.IsWhole}
  {arg7 : Memref sig .tc .vmem S1x512x128 .f32} {harg7 : arg7.IsWhole}
  {arg8 : Memref sig .tc .vmem S1x512x128 .f32} {harg8 : arg8.IsWhole}
  {arg9 : Memref sig .tc .vmem S1x16x8x512 .f32} {harg9 : arg9.IsWhole}
  {arg10 : Memref sig .tc .vmem S512x128 .bf16} {harg10 : arg10.IsWhole}
  {arg11 : Memref sig .tc .vmem S16x512x128 .bf16} {harg11 : arg11.IsWhole}
  {arg12 : Memref sig .tc .vmem S16x512x128 .bf16} {harg12 : arg12.IsWhole}
  {arg13 : Memref sig .tc .vmem S1x512x128 .f32} {harg13 : arg13.IsWhole}
  {arg14 : Memref sig .tc .vmem S1x16x8x512 .f32} {harg14 : arg14.IsWhole}
  {arg15 : Memref sig .tc .vmem S16x512x128 .f32} {harg15 : arg15.IsWhole}
  {arg16 : Memref sig .tc .vmem S16x512x128 .f32} {harg16 : arg16.IsWhole}
variable (c : Dev nD) (i : grid0.Coords)

/-- A continuation held at one result is held at an equal one. -/
theorem at_eq {α : Type} (K : α → sProp 𝕄) {a b : α} (h : a = b) : K b ⊢ K a := by subst h; exact .rfl

/-- A whole buffer stored. -/
theorem held_full {s : Shape} {e : EltTy} (c : Dev nD) (a : Memref sig .tc .vmem s e) (f : a.view.ty.Contents (Elt F)) {X : Vec F s e} {off : Fin s.rank → ℕ}
    (inb : ∀ d, off d + s.size d ≤ s.size d) (w : (Rect.unit off s.size inb).shape.Idx → Elt F e) (h : w = X) :
    ((a.view.loc (c : Thread nD τ) ↦[a.view.set]{fullShare} a.view.writes (Elt F) f [⟨Rect.unit off s.size inb, w⟩] : sProp 𝕄))
      ⊢ (a.view.loc (c : Thread nD τ) ↦[a.view.set]{fullShare} a.view.rep X) :=
  pointsTo_rep_of_read _ _ _ _ _ ((View.read_writes_full _ _ _ _ _).trans h)

/-- The first head's walk visits as many key blocks as the query block's number. -/
theorem trips1 : ∀ i : grid0.Coords, Scf.trips (k0_t1_loop i).lb (k0_t1_loop i).ub (k0_t1_loop i).st = (i 1).val := by decide +kernel

/-- So does the second head's. -/
theorem trips3 : ∀ i : grid0.Coords, Scf.trips (k0_t3_loop i).lb (k0_t3_loop i).ub (k0_t3_loop i).st = (i 1).val := by decide +kernel

/-- Before a pair's first query block the three accumulators are cleared; before any other they stay. -/
def cleared {s : Shape} {e : EltTy} (i : grid0.Coords) (zero x : Vec F s e) : Vec F s e := if (i 1).val = 0 then zero else x

theorem first_iff : ∀ i : grid0.Coords,
    (Scalar.cmpi .ne (Scalar.extui (Scalar.cmpi .eq (BitVec.ofNat 32 (i 1).val) 0#32 : BitVec 1) : BitVec 32) 0#32 = 1#1) ↔ (i 1).val = 0 := by decide +kernel

/-- The opening of the body: the accumulators cleared at a first query block, the query block read. -/
theorem part5_run (x : Ops F) (fk : Vec F S1x16x8x512 .f32) (dk dv : Vec F S16x512x128 .f32) (E : Set ℕ) (K : _ → sProp 𝕄) :
    iprop((arg2.view.loc (c : Thread nD τ) ↦[arg2.view.set]{fullShare} arg2.view.rep x.q) ∗ (arg5.view.loc (c : Thread nD τ) ↦[arg5.view.set]{fullShare} arg5.view.rep x.go) ∗ (arg6.view.loc (c : Thread nD τ) ↦[arg6.view.set]{fullShare} arg6.view.rep x.fq) ∗ (arg7.view.loc (c : Thread nD τ) ↦[arg7.view.set]{fullShare} arg7.view.rep x.ls) ∗ (arg8.view.loc (c : Thread nD τ) ↦[arg8.view.set]{fullShare} arg8.view.rep x.dl) ∗ (arg14.view.loc (c : Thread nD τ) ↦[arg14.view.set]{fullShare} arg14.view.rep fk) ∗ (arg15.view.loc (c : Thread nD τ) ↦[arg15.view.set]{fullShare} arg15.view.rep dk) ∗ (arg16.view.loc (c : Thread nD τ) ↦[arg16.view.set]{fullShare} arg16.view.rep dv) ∗ (iprop((arg2.view.loc (c : Thread nD τ) ↦[arg2.view.set]{fullShare} arg2.view.rep x.q) ∗ (arg5.view.loc (c : Thread nD τ) ↦[arg5.view.set]{fullShare} arg5.view.rep x.go) ∗ (arg6.view.loc (c : Thread nD τ) ↦[arg6.view.set]{fullShare} arg6.view.rep x.fq) ∗ (arg7.view.loc (c : Thread nD τ) ↦[arg7.view.set]{fullShare} arg7.view.rep x.ls) ∗ (arg8.view.loc (c : Thread nD τ) ↦[arg8.view.set]{fullShare} arg8.view.rep x.dl) ∗ (arg14.view.loc (c : Thread nD τ) ↦[arg14.view.set]{fullShare} arg14.view.rep (cleared i k0_pay31 fk)) ∗ (arg15.view.loc (c : Thread nD τ) ↦[arg15.view.set]{fullShare} arg15.view.rep (cleared i k0_pay29 dk)) ∗ (arg16.view.loc (c : Thread nD τ) ↦[arg16.view.set]{fullShare} arg16.view.rep (cleared i k0_pay30 dv))) -∗ K ⟨BitVec.ofNat 32 (i 1).val, lanes, k0_pay32, k0_pay33 x.q, k0_pay34 x.go, k0_pay35 x.fq x.ls, k0_pay36 x.dl, k0_pay37 (F := F), k0_pay38 (F := F), k0_pay39, k0_pay40 x.q, k0_pay41 x.go, k0_pay42 x.fq x.ls, k0_pay43 x.dl, Scalar.ofBits .f32 0x00000000#32⟩))
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) K := by
  simp only [k0_part5_eq_skeleton]; unfold k0_part5_skel
  iintro ⟨H2, H5, H6, H7, H8, H14, H15, H16, Hk⟩
  by_cases h : (i 1).val = 0
  · have h' := (first_iff i).2 h
    sl_exec
    sl_step
    iapply (at_eq K (b := ⟨BitVec.ofNat 32 (i 1).val, lanes, k0_pay32, k0_pay33 x.q, k0_pay34 x.go, k0_pay35 x.fq x.ls, k0_pay36 x.dl, k0_pay37 (F := F), k0_pay38 (F := F), k0_pay39, k0_pay40 x.q, k0_pay41 x.go, k0_pay42 x.fq x.ls, k0_pay43 x.dl, Scalar.ofBits .f32 0x00000000#32⟩) ?_)
    · rw [View.readAt_rep_full arg2.view x.q, View.readAt_rep_full arg5.view x.go, View.readAt_rep_full arg6.view x.fq, View.readAt_rep_full arg7.view x.ls, View.readAt_rep_full arg8.view x.dl]
      rfl
    iapply Hk
    isplitl [H2]
    · iexact H2
    isplitl [H5]
    · iexact H5
    isplitl [H6]
    · iexact H6
    isplitl [H7]
    · iexact H7
    isplitl [H8]
    · iexact H8
    isplitl [H14]
    · iapply (held_full c arg14 _ _ _ (if_pos h).symm) $$ H14
    isplitl [H15]
    · iapply (held_full c arg15 _ _ _ (if_pos h).symm) $$ H15
    iapply (held_full c arg16 _ _ _ (if_pos h).symm) $$ H16
  · have h' := mt (first_iff i).1 h
    sl_exec
    sl_step
    iapply (at_eq K (b := ⟨BitVec.ofNat 32 (i 1).val, lanes, k0_pay32, k0_pay33 x.q, k0_pay34 x.go, k0_pay35 x.fq x.ls, k0_pay36 x.dl, k0_pay37 (F := F), k0_pay38 (F := F), k0_pay39, k0_pay40 x.q, k0_pay41 x.go, k0_pay42 x.fq x.ls, k0_pay43 x.dl, Scalar.ofBits .f32 0x00000000#32⟩) ?_)
    · rw [View.readAt_rep_full arg2.view x.q, View.readAt_rep_full arg5.view x.go, View.readAt_rep_full arg6.view x.fq, View.readAt_rep_full arg7.view x.ls, View.readAt_rep_full arg8.view x.dl]
      rfl
    iapply Hk
    isplitl [H2]
    · iexact H2
    isplitl [H5]
    · iexact H5
    isplitl [H6]
    · iexact H6
    isplitl [H7]
    · iexact H7
    isplitl [H8]
    · iexact H8
    isplitl [H14]
    · rw [show cleared i k0_pay31 fk = fk from if_neg h]; iexact H14
    isplitl [H15]
    · rw [show cleared i k0_pay29 dk = dk from if_neg h]; iexact H15
    rw [show cleared i k0_pay30 dv = dv from if_neg h]; iexact H16

/-- The first head: the walk over the earlier key blocks, then the own key block read. -/
theorem part6_run (x : Ops F) (fk : Vec F S1x16x8x512 .f32) (dk dv : Vec F S16x512x128 .f32) (E : Set ℕ) (K : _ → sProp 𝕄) :
    iprop((arg3.view.loc (c : Thread nD τ) ↦[arg3.view.set]{fullShare} arg3.view.rep x.K) ∗ (arg4.view.loc (c : Thread nD τ) ↦[arg4.view.set]{fullShare} arg4.view.rep x.V) ∗ (arg9.view.loc (c : Thread nD τ) ↦[arg9.view.set]{fullShare} arg9.view.rep x.fk) ∗ (arg14.view.loc (c : Thread nD τ) ↦[arg14.view.set]{fullShare} arg14.view.rep (init0 fk dk dv).fk) ∗ (arg15.view.loc (c : Thread nD τ) ↦[arg15.view.set]{fullShare} arg15.view.rep (init0 fk dk dv).dk) ∗ (arg16.view.loc (c : Thread nD τ) ↦[arg16.view.set]{fullShare} arg16.view.rep (init0 fk dk dv).dv) ∗ (iprop((arg3.view.loc (c : Thread nD τ) ↦[arg3.view.set]{fullShare} arg3.view.rep x.K) ∗ (arg4.view.loc (c : Thread nD τ) ↦[arg4.view.set]{fullShare} arg4.view.rep x.V) ∗ (arg9.view.loc (c : Thread nD τ) ↦[arg9.view.set]{fullShare} arg9.view.rep x.fk) ∗ (arg14.view.loc (c : Thread nD τ) ↦[arg14.view.set]{fullShare} arg14.view.rep (walk0 x (i 1).val (init0 fk dk dv)).fk) ∗ (arg15.view.loc (c : Thread nD τ) ↦[arg15.view.set]{fullShare} arg15.view.rep (walk0 x (i 1).val (init0 fk dk dv)).dk) ∗ (arg16.view.loc (c : Thread nD τ) ↦[arg16.view.set]{fullShare} arg16.view.rep (walk0 x (i 1).val (init0 fk dk dv)).dv)) -∗ K ⟨(walk0 x (i 1).val (init0 fk dk dv)).acc.1, (walk0 x (i 1).val (init0 fk dk dv)).acc.2, k0_pay54 (slab x.K (i 1).val (i 1).isLt), k0_pay55 k0_pay32 (k0_pay40 x.q) (k0_pay42 x.fq x.ls) (slab x.K (i 1).val (i 1).isLt) (rowOf x.fk (i 1).val 0 (i 1).isLt (by decide)), ds0 x (i 1).val (i 1).isLt, k0_pay57 k0_pay32 (k0_pay40 x.q) (k0_pay41 x.go) (k0_pay42 x.fq x.ls) (k0_pay43 x.dl) (slab x.K (i 1).val (i 1).isLt) (slab x.V (i 1).val (i 1).isLt) (rowOf x.fk (i 1).val 0 (i 1).isLt (by decide)) (rowOf (walk0 x (i 1).val (init0 fk dk dv)).fk (i 1).val 0 (i 1).isLt (by decide))⟩))
      ⊢ wp frame (wpE (defs₀ (F := F)) Variants.none (c : Thread nD τ) none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay32 (k0_pay40 x.q) (k0_pay41 x.go) (k0_pay42 x.fq x.ls) (k0_pay43 x.dl) (Scalar.ofBits .f32 0x00000000#32)) K := by
  simp only [k0_part6_eq_skeleton]; unfold k0_part6_skel
  iintro ⟨H3, H4, H9, H14, H15, H16, Hk⟩
  let L := loop1 (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) c i E (BitVec.ofNat 32 (i 1).val) k0_pay32 (k0_pay40 x.q) (k0_pay41 x.go) (k0_pay42 x.fq x.ls) (k0_pay43 x.dl) (Scalar.ofBits .f32 0x00000000#32) x.K x.V x.fk (init0 fk dk dv)
  sl_exec
  sl_step
  rw [show walk (k0_pay40 x.q) (k0_pay41 x.go) (k0_pay42 x.fq x.ls) (k0_pay43 x.dl) x.K x.V x.fk 0 (by decide) (init0 fk dk dv) (Scf.trips (k0_t1_loop i).lb (k0_t1_loop i).ub (k0_t1_loop i).st)
    = walk0 x (i 1).val (init0 fk dk dv) from by rw [trips1 i]; rfl]
  iapply (at_eq K (b := ⟨(walk0 x (i 1).val (init0 fk dk dv)).acc.1, (walk0 x (i 1).val (init0 fk dk dv)).acc.2, k0_pay54 (slab x.K (i 1).val (i 1).isLt), k0_pay55 k0_pay32 (k0_pay40 x.q) (k0_pay42 x.fq x.ls) (slab x.K (i 1).val (i 1).isLt) (rowOf x.fk (i 1).val 0 (i 1).isLt (by decide)), ds0 x (i 1).val (i 1).isLt, k0_pay57 k0_pay32 (k0_pay40 x.q) (k0_pay41 x.go) (k0_pay42 x.fq x.ls) (k0_pay43 x.dl) (slab x.K (i 1).val (i 1).isLt) (slab x.V (i 1).val (i 1).isLt) (rowOf x.fk (i 1).val 0 (i 1).isLt (by decide)) (rowOf (walk0 x (i 1).val (init0 fk dk dv)).fk (i 1).val 0 (i 1).isLt (by decide))⟩) ?_)
  · rw [read_slab arg3 x.K _ (k0_off5_eq i) (i 1).isLt, read_slab arg4 x.V _ (k0_off5_eq i) (i 1).isLt, read_row arg9 x.fk _ (k0_off6_eq i) (i 1).isLt (show 0 < 8 by decide), read_row arg14 (walk0 x (i 1).val (init0 fk dk dv)).fk _ (k0_off6_eq i) (i 1).isLt (show 0 < 8 by decide)]
    try rfl
  iapply Hk
  isplitl [H3]
  · iexact H3
  isplitl [H4]
  · iexact H4
  isplitl [H9]
  · iexact H9
  isplitl [H14]
  · iexact H14
  isplitl [H15]
  · iexact H15
  iexact H16

/-- The first head: the own key block's slabs stored. -/
theorem part7_run (x : Ops F) (s : St F) (E : Set ℕ) (K : _ → sProp 𝕄) :
    iprop((arg14.view.loc (c : Thread nD τ) ↦[arg14.view.set]{fullShare} arg14.view.rep s.fk) ∗ (arg15.view.loc (c : Thread nD τ) ↦[arg15.view.set]{fullShare} arg15.view.rep s.dk) ∗ (arg16.view.loc (c : Thread nD τ) ↦[arg16.view.set]{fullShare} arg16.view.rep s.dv) ∗ (iprop((arg14.view.loc (c : Thread nD τ) ↦[arg14.view.set]{fullShare} arg14.view.rep (own0 x (i 1).val (i 1).isLt s).fk) ∗ (arg15.view.loc (c : Thread nD τ) ↦[arg15.view.set]{fullShare} arg15.view.rep (own0 x (i 1).val (i 1).isLt s).dk) ∗ (arg16.view.loc (c : Thread nD τ) ↦[arg16.view.set]{fullShare} arg16.view.rep (own0 x (i 1).val (i 1).isLt s).dv)) -∗ K ⟨dq0 x (i 1).val (i 1).isLt s, dfq0 x (i 1).val (i 1).isLt s, k0_pay64 lanes, 128#32⟩))
      ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) lanes (k0_pay37 (F := F)) (k0_pay38 (F := F)) k0_pay39 (k0_pay40 x.q) (k0_pay41 x.go) s.acc.1 s.acc.2 (k0_pay54 (slab x.K (i 1).val (i 1).isLt)) (k0_pay55 k0_pay32 (k0_pay40 x.q) (k0_pay42 x.fq x.ls) (slab x.K (i 1).val (i 1).isLt) (rowOf x.fk (i 1).val 0 (i 1).isLt (by decide))) (ds0 x (i 1).val (i 1).isLt) (k0_pay57 k0_pay32 (k0_pay40 x.q) (k0_pay41 x.go) (k0_pay42 x.fq x.ls) (k0_pay43 x.dl) (slab x.K (i 1).val (i 1).isLt) (slab x.V (i 1).val (i 1).isLt) (rowOf x.fk (i 1).val 0 (i 1).isLt (by decide)) (rowOf s.fk (i 1).val 0 (i 1).isLt (by decide)))) K := by
  simp only [k0_part7_eq_skeleton]; unfold k0_part7_skel
  iintro ⟨H14, H15, H16, Hk⟩
  sl_exec
  sl_step
  iapply (at_eq K (b := ⟨dq0 x (i 1).val (i 1).isLt s, dfq0 x (i 1).val (i 1).isLt s, k0_pay64 lanes, 128#32⟩) ?_)
  · rfl
  iapply Hk
  isplitl [H14]
  · iapply (held_row c arg14 _ _ _ _ (k0_off6_eq i) ?_) $$ H14
    rfl
  isplitl [H15]
  · iapply (held_slab c arg15 _ _ _ _ (k0_off5_eq i) ?_) $$ H15
    rw [read_slab arg15 s.dk _ (k0_off5_eq i) (i 1).isLt]
  iapply (held_slab c arg16 _ _ _ _ (k0_off5_eq i) ?_) $$ H16
  rw [read_slab arg16 s.dv _ (k0_off5_eq i) (i 1).isLt]

/-- The second head: the walk over the earlier key blocks, then the own key block read. -/
theorem part8_run (x : Ops F) (fk : Vec F S1x16x8x512 .f32) (dk dv : Vec F S16x512x128 .f32) (E : Set ℕ) (K : _ → sProp 𝕄) :
    iprop((arg3.view.loc (c : Thread nD τ) ↦[arg3.view.set]{fullShare} arg3.view.rep x.K) ∗ (arg4.view.loc (c : Thread nD τ) ↦[arg4.view.set]{fullShare} arg4.view.rep x.V) ∗ (arg9.view.loc (c : Thread nD τ) ↦[arg9.view.set]{fullShare} arg9.view.rep x.fk) ∗ (arg14.view.loc (c : Thread nD τ) ↦[arg14.view.set]{fullShare} arg14.view.rep (init1 fk dk dv).fk) ∗ (arg15.view.loc (c : Thread nD τ) ↦[arg15.view.set]{fullShare} arg15.view.rep (init1 fk dk dv).dk) ∗ (arg16.view.loc (c : Thread nD τ) ↦[arg16.view.set]{fullShare} arg16.view.rep (init1 fk dk dv).dv) ∗ (iprop((arg3.view.loc (c : Thread nD τ) ↦[arg3.view.set]{fullShare} arg3.view.rep x.K) ∗ (arg4.view.loc (c : Thread nD τ) ↦[arg4.view.set]{fullShare} arg4.view.rep x.V) ∗ (arg9.view.loc (c : Thread nD τ) ↦[arg9.view.set]{fullShare} arg9.view.rep x.fk) ∗ (arg14.view.loc (c : Thread nD τ) ↦[arg14.view.set]{fullShare} arg14.view.rep (walk1 x (i 1).val (init1 fk dk dv)).fk) ∗ (arg15.view.loc (c : Thread nD τ) ↦[arg15.view.set]{fullShare} arg15.view.rep (walk1 x (i 1).val (init1 fk dk dv)).dk) ∗ (arg16.view.loc (c : Thread nD τ) ↦[arg16.view.set]{fullShare} arg16.view.rep (walk1 x (i 1).val (init1 fk dk dv)).dv)) -∗ K ⟨k0_pay65 lanes (k0_pay64 lanes) 128#32, qm1 x, dom1 x, (walk1 x (i 1).val (init1 fk dk dv)).acc.1, (walk1 x (i 1).val (init1 fk dk dv)).acc.2, k0_pay80 (slab x.K (i 1).val (i 1).isLt), p1 x (i 1).val (i 1).isLt, dp1 x (i 1).val (i 1).isLt⟩))
      ⊢ wp frame (wpE (defs₀ (F := F)) Variants.none (c : Thread nD τ) none) E (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) lanes k0_pay32 (k0_pay33 x.q) (k0_pay34 x.go) (k0_pay35 x.fq x.ls) (k0_pay36 x.dl) (k0_pay64 lanes) 128#32) K := by
  simp only [k0_part8_eq_skeleton]; unfold k0_part8_skel
  iintro ⟨H3, H4, H9, H14, H15, H16, Hk⟩
  let L := loop3 (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) c i E (BitVec.ofNat 32 (i 1).val) lanes k0_pay32 (k0_pay33 x.q) (k0_pay34 x.go) (k0_pay35 x.fq x.ls) (k0_pay36 x.dl) (k0_pay64 lanes) 128#32 x.K x.V x.fk (init1 fk dk dv)
  sl_exec
  sl_step
  rw [show walk (qm1 x) (dom1 x) (k0_pay68 (k0_pay35 x.fq x.ls)) (k0_pay69 (k0_pay36 x.dl)) x.K x.V x.fk 1 (by decide) (init1 fk dk dv) (Scf.trips (k0_t3_loop i).lb (k0_t3_loop i).ub (k0_t3_loop i).st)
    = walk1 x (i 1).val (init1 fk dk dv) from by rw [trips3 i]; rfl]
  iapply (at_eq K (b := ⟨k0_pay65 lanes (k0_pay64 lanes) 128#32, qm1 x, dom1 x, (walk1 x (i 1).val (init1 fk dk dv)).acc.1, (walk1 x (i 1).val (init1 fk dk dv)).acc.2, k0_pay80 (slab x.K (i 1).val (i 1).isLt), p1 x (i 1).val (i 1).isLt, dp1 x (i 1).val (i 1).isLt⟩) ?_)
  · rw [read_slab arg3 x.K _ (k0_off5_eq i) (i 1).isLt, read_slab arg4 x.V _ (k0_off5_eq i) (i 1).isLt, read_row arg9 x.fk _ (k0_off11_eq i) (i 1).isLt (show 1 < 8 by decide)]
    try rfl
  iapply Hk
  isplitl [H3]
  · iexact H3
  isplitl [H4]
  · iexact H4
  isplitl [H9]
  · iexact H9
  isplitl [H14]
  · iexact H14
  isplitl [H15]
  · iexact H15
  iexact H16

/-- The second head: the own key block's slabs stored. -/
theorem part9_run (x : Ops F) (s : St F) (E : Set ℕ) (K : _ → sProp 𝕄) :
    iprop((arg14.view.loc (c : Thread nD τ) ↦[arg14.view.set]{fullShare} arg14.view.rep s.fk) ∗ (arg15.view.loc (c : Thread nD τ) ↦[arg15.view.set]{fullShare} arg15.view.rep s.dk) ∗ (arg16.view.loc (c : Thread nD τ) ↦[arg16.view.set]{fullShare} arg16.view.rep s.dv) ∗ (iprop((arg14.view.loc (c : Thread nD τ) ↦[arg14.view.set]{fullShare} arg14.view.rep (own1 x (i 1).val (i 1).isLt s).fk) ∗ (arg15.view.loc (c : Thread nD τ) ↦[arg15.view.set]{fullShare} arg15.view.rep (own1 x (i 1).val (i 1).isLt s).dk) ∗ (arg16.view.loc (c : Thread nD τ) ↦[arg16.view.set]{fullShare} arg16.view.rep (own1 x (i 1).val (i 1).isLt s).dv)) -∗ K ⟨k0_pay88 s.acc.1 (k0_pay80 (slab x.K (i 1).val (i 1).isLt)) (p1 x (i 1).val (i 1).isLt) (dp1 x (i 1).val (i 1).isLt), k0_pay89 (p1 x (i 1).val (i 1).isLt) (dp1 x (i 1).val (i 1).isLt)⟩))
      ⊢ wp frame (wpE (defs₀ (F := F)) Variants.none (c : Thread nD τ) none) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (qm1 x) (dom1 x) s.acc.1 (k0_pay80 (slab x.K (i 1).val (i 1).isLt)) (p1 x (i 1).val (i 1).isLt) (dp1 x (i 1).val (i 1).isLt)) K := by
  simp only [k0_part9_eq_skeleton]; unfold k0_part9_skel
  iintro ⟨H14, H15, H16, Hk⟩
  sl_exec
  sl_step
  iapply (at_eq K (b := ⟨k0_pay88 s.acc.1 (k0_pay80 (slab x.K (i 1).val (i 1).isLt)) (p1 x (i 1).val (i 1).isLt) (dp1 x (i 1).val (i 1).isLt), k0_pay89 (p1 x (i 1).val (i 1).isLt) (dp1 x (i 1).val (i 1).isLt)⟩) ?_)
  · rfl
  iapply Hk
  isplitl [H14]
  · iapply (held_row c arg14 _ _ _ _ (k0_off11_eq i) ?_) $$ H14
    rw [read_row arg14 s.fk _ (k0_off11_eq i) (i 1).isLt (show 1 < 8 by decide)]
  isplitl [H15]
  · iapply (held_slab c arg15 _ _ _ _ (k0_off5_eq i) ?_) $$ H15
    rw [read_slab arg15 s.dk _ (k0_off5_eq i) (i 1).isLt]
  iapply (held_slab c arg16 _ _ _ _ (k0_off5_eq i) ?_) $$ H16
  rw [read_slab arg16 s.dv _ (k0_off5_eq i) (i 1).isLt]

end Cert.Bwd

end

end
-- ==== Proof.Bwd.Body.lean ====
module

public import proofs.«01_k».proof.Proof.Bwd.Parts

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

local notation "𝕄" => MT nD τ sig Unit (Elt F) ℕ (UR sig nD τ) ℕ

variable {arg2 : Memref sig .tc .vmem S512x128 .bf16} {harg2 : arg2.IsWhole}
  {arg3 : Memref sig .tc .vmem S16x512x128 .bf16} {harg3 : arg3.IsWhole}
  {arg4 : Memref sig .tc .vmem S16x512x128 .bf16} {harg4 : arg4.IsWhole}
  {arg5 : Memref sig .tc .vmem S512x128 .bf16} {harg5 : arg5.IsWhole}
  {arg6 : Memref sig .tc .vmem S1x512x128 .f32} {harg6 : arg6.IsWhole}
  {arg7 : Memref sig .tc .vmem S1x512x128 .f32} {harg7 : arg7.IsWhole}
  {arg8 : Memref sig .tc .vmem S1x512x128 .f32} {harg8 : arg8.IsWhole}
  {arg9 : Memref sig .tc .vmem S1x16x8x512 .f32} {harg9 : arg9.IsWhole}
  {arg10 : Memref sig .tc .vmem S512x128 .bf16} {harg10 : arg10.IsWhole}
  {arg11 : Memref sig .tc .vmem S16x512x128 .bf16} {harg11 : arg11.IsWhole}
  {arg12 : Memref sig .tc .vmem S16x512x128 .bf16} {harg12 : arg12.IsWhole}
  {arg13 : Memref sig .tc .vmem S1x512x128 .f32} {harg13 : arg13.IsWhole}
  {arg14 : Memref sig .tc .vmem S1x16x8x512 .f32} {harg14 : arg14.IsWhole}
  {arg15 : Memref sig .tc .vmem S16x512x128 .f32} {harg15 : arg15.IsWhole}
  {arg16 : Memref sig .tc .vmem S16x512x128 .f32} {harg16 : arg16.IsWhole}
variable (c : Dev nD) (i : grid0.Coords)

/-- At a pair's last query block an output is written; at any other its staging copy stays. -/
def atLast {s : Shape} {e : EltTy} (i : grid0.Coords) (w d : Vec F s e) : Vec F s e := if (i 1).val = 15 then w else d

theorem last_iff : ∀ i : grid0.Coords, k0_cond2 i = 1#1 ↔ (i 1).val = 15 := by decide +kernel

set_option maxHeartbeats 1000000 in
/-- The whole body at one query block: from the operands and the accumulators that it finds, what it writes. -/
theorem body_run (x : Ops F) (d10 : Vec F S512x128 .bf16) (d11 d12 : Vec F S16x512x128 .bf16) (d13 : Vec F S1x512x128 .f32)
    (fk : Vec F S1x16x8x512 .f32) (dk dv : Vec F S16x512x128 .f32) (E : Set ℕ) (K : PUnit → sProp 𝕄) :
    iprop((arg2.view.loc (c : Thread nD τ) ↦[arg2.view.set]{fullShare} arg2.view.rep x.q) ∗ (arg3.view.loc (c : Thread nD τ) ↦[arg3.view.set]{fullShare} arg3.view.rep x.K) ∗ (arg4.view.loc (c : Thread nD τ) ↦[arg4.view.set]{fullShare} arg4.view.rep x.V) ∗ (arg5.view.loc (c : Thread nD τ) ↦[arg5.view.set]{fullShare} arg5.view.rep x.go) ∗ (arg6.view.loc (c : Thread nD τ) ↦[arg6.view.set]{fullShare} arg6.view.rep x.fq) ∗ (arg7.view.loc (c : Thread nD τ) ↦[arg7.view.set]{fullShare} arg7.view.rep x.ls) ∗ (arg8.view.loc (c : Thread nD τ) ↦[arg8.view.set]{fullShare} arg8.view.rep x.dl) ∗ (arg9.view.loc (c : Thread nD τ) ↦[arg9.view.set]{fullShare} arg9.view.rep x.fk) ∗ (arg10.view.loc (c : Thread nD τ) ↦[arg10.view.set]{fullShare} arg10.view.rep d10) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep fk) ∗ (arg15.view.loc (c : Thread nD τ) ↦[arg15.view.set]{fullShare} arg15.view.rep dk) ∗ (arg16.view.loc (c : Thread nD τ) ↦[arg16.view.set]{fullShare} arg16.view.rep dv) ∗ (iprop((arg2.view.loc (c : Thread nD τ) ↦[arg2.view.set]{fullShare} arg2.view.rep x.q) ∗ (arg3.view.loc (c : Thread nD τ) ↦[arg3.view.set]{fullShare} arg3.view.rep x.K) ∗ (arg4.view.loc (c : Thread nD τ) ↦[arg4.view.set]{fullShare} arg4.view.rep x.V) ∗ (arg5.view.loc (c : Thread nD τ) ↦[arg5.view.set]{fullShare} arg5.view.rep x.go) ∗ (arg6.view.loc (c : Thread nD τ) ↦[arg6.view.set]{fullShare} arg6.view.rep x.fq) ∗ (arg7.view.loc (c : Thread nD τ) ↦[arg7.view.set]{fullShare} arg7.view.rep x.ls) ∗ (arg8.view.loc (c : Thread nD τ) ↦[arg8.view.set]{fullShare} arg8.view.rep x.dl) ∗ (arg9.view.loc (c : Thread nD τ) ↦[arg9.view.set]{fullShare} arg9.view.rep x.fk) ∗ (arg10.view.loc (c : Thread nD τ) ↦[arg10.view.set]{fullShare} arg10.view.rep (dqOut x (i 1).val (i 1).isLt (cleared i k0_pay31 fk) (cleared i k0_pay29 dk) (cleared i k0_pay30 dv))) ∗ (arg11.view.loc (c : Thread nD τ) ↦[arg11.view.set]{fullShare} arg11.view.rep (atLast i (k0_pay3 (stEnd x (i 1).val (i 1).isLt (cleared i k0_pay31 fk) (cleared i k0_pay29 dk) (cleared i k0_pay30 dv)).dk) d11)) ∗ (arg12.view.loc (c : Thread nD τ) ↦[arg12.view.set]{fullShare} arg12.view.rep (atLast i (k0_pay4 (stEnd x (i 1).val (i 1).isLt (cleared i k0_pay31 fk) (cleared i k0_pay29 dk) (cleared i k0_pay30 dv)).dv) d12)) ∗ (arg13.view.loc (c : Thread nD τ) ↦[arg13.view.set]{fullShare} arg13.view.rep (dfqOut x (i 1).val (i 1).isLt (cleared i k0_pay31 fk) (cleared i k0_pay29 dk) (cleared i k0_pay30 dv))) ∗ (arg14.view.loc (c : Thread nD τ) ↦[arg14.view.set]{fullShare} arg14.view.rep (stEnd x (i 1).val (i 1).isLt (cleared i k0_pay31 fk) (cleared i k0_pay29 dk) (cleared i k0_pay30 dv)).fk) ∗ (arg15.view.loc (c : Thread nD τ) ↦[arg15.view.set]{fullShare} arg15.view.rep (stEnd x (i 1).val (i 1).isLt (cleared i k0_pay31 fk) (cleared i k0_pay29 dk) (cleared i k0_pay30 dv)).dk) ∗ (arg16.view.loc (c : Thread nD τ) ↦[arg16.view.set]{fullShare} arg16.view.rep (stEnd x (i 1).val (i 1).isLt (cleared i k0_pay31 fk) (cleared i k0_pay29 dk) (cleared i k0_pay30 dv)).dv)) -∗ K ⟨⟩))
      ⊢ wp frame (wpE (defs₀ (F := F)) Variants.none (c : Thread nD τ) none) E (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  iintro ⟨H2, H3, H4, H5, H6, H7, H8, H9, H10, H11, H12, H13, H14, H15, H16, Hk⟩
  rw [wp_bind]
  iapply (part5_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x fk dk dv E _)
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, H14, H15, H16⟩
  dsimp only
  rw [wp_bind]
  iapply (part6_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x (cleared i k0_pay31 fk) (cleared i k0_pay29 dk) (cleared i k0_pay30 dv) E _)
  isplitl [H3]; · iexact H3
  isplitl [H4]; · iexact H4
  isplitl [H9]; · iexact H9
  isplitl [H14]; · iexact H14
  isplitl [H15]; · iexact H15
  isplitl [H16]; · iexact H16
  iintro ⟨H3, H4, H9, H14, H15, H16⟩
  dsimp only
  rw [wp_bind]
  iapply (part7_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x (st0 x (i 1).val (cleared i k0_pay31 fk) (cleared i k0_pay29 dk) (cleared i k0_pay30 dv)) E _)
  isplitl [H14]; · iexact H14
  isplitl [H15]; · iexact H15
  isplitl [H16]; · iexact H16
  iintro ⟨H14, H15, H16⟩
  dsimp only
  rw [wp_bind]
  iapply (part8_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x (own0 x (i 1).val (i 1).isLt (st0 x (i 1).val (cleared i k0_pay31 fk) (cleared i k0_pay29 dk) (cleared i k0_pay30 dv))).fk (own0 x (i 1).val (i 1).isLt (st0 x (i 1).val (cleared i k0_pay31 fk) (cleared i k0_pay29 dk) (cleared i k0_pay30 dv))).dk (own0 x (i 1).val (i 1).isLt (st0 x (i 1).val (cleared i k0_pay31 fk) (cleared i k0_pay29 dk) (cleared i k0_pay30 dv))).dv E _)
  isplitl [H3]; · iexact H3
  isplitl [H4]; · iexact H4
  isplitl [H9]; · iexact H9
  isplitl [H14]; · iexact H14
  isplitl [H15]; · iexact H15
  isplitl [H16]; · iexact H16
  iintro ⟨H3, H4, H9, H14, H15, H16⟩
  dsimp only
  rw [wp_bind]
  iapply (part9_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x (st1 x (i 1).val (i 1).isLt (cleared i k0_pay31 fk) (cleared i k0_pay29 dk) (cleared i k0_pay30 dv)) E _)
  isplitl [H14]; · iexact H14
  isplitl [H15]; · iexact H15
  isplitl [H16]; · iexact H16
  iintro ⟨H14, H15, H16⟩
  dsimp only
  by_cases h : (i 1).val = 15
  · have h' := (last_iff i).2 h
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iapply (held_full c arg10 _ _ _ rfl) $$ H10
    isplitl [H11]
    · iapply (held_full c arg11 _ _ _ ?_) $$ H11
      exact (congrArg k0_pay3 (View.readAt_rep_full arg15.view (stEnd x (i 1).val (i 1).isLt (cleared i k0_pay31 fk) (cleared i k0_pay29 dk) (cleared i k0_pay30 dv)).dk _)).trans (if_pos h).symm
    isplitl [H12]
    · iapply (held_full c arg12 _ _ _ ?_) $$ H12
      exact (congrArg k0_pay4 (View.readAt_rep_full arg16.view (stEnd x (i 1).val (i 1).isLt (cleared i k0_pay31 fk) (cleared i k0_pay29 dk) (cleared i k0_pay30 dv)).dv _)).trans (if_pos h).symm
    isplitl [H13]
    · iapply (held_full c arg13 _ _ _ rfl) $$ H13
    isplitl [H14]
    · iexact H14
    isplitl [H15]
    · iexact H15
    iexact H16
  · have h' := mt (last_iff i).1 h
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iapply (held_full c arg10 _ _ _ rfl) $$ H10
    isplitl [H11]
    · rw [show atLast i (k0_pay3 (stEnd x (i 1).val (i 1).isLt (cleared i k0_pay31 fk) (cleared i k0_pay29 dk) (cleared i k0_pay30 dv)).dk) d11 = d11 from if_neg h]; iexact H11
    isplitl [H12]
    · rw [show atLast i (k0_pay4 (stEnd x (i 1).val (i 1).isLt (cleared i k0_pay31 fk) (cleared i k0_pay29 dk) (cleared i k0_pay30 dv)).dv) d12 = d12 from if_neg h]; iexact H12
    isplitl [H13]
    · iapply (held_full c arg13 _ _ _ rfl) $$ H13
    isplitl [H14]
    · iexact H14
    isplitl [H15]
    · iexact H15
    iexact H16

end Cert.Bwd

end

end
-- ==== Proof.Bwd.Data.lean ====
module

public import proofs.«01_k».proof.Proof.Bwd.Body
public import proofs.«01_k».proof.Proof.Gen.KernelAttnIdeal.Frame

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

section
variable {arg2 : Memref sig .tc .vmem S512x128 .bf16} {harg2 : arg2.IsWhole}
  {arg3 : Memref sig .tc .vmem S16x512x128 .bf16} {harg3 : arg3.IsWhole}
  {arg4 : Memref sig .tc .vmem S16x512x128 .bf16} {harg4 : arg4.IsWhole}
  {arg5 : Memref sig .tc .vmem S512x128 .bf16} {harg5 : arg5.IsWhole}
  {arg6 : Memref sig .tc .vmem S1x512x128 .f32} {harg6 : arg6.IsWhole}
  {arg7 : Memref sig .tc .vmem S1x512x128 .f32} {harg7 : arg7.IsWhole}
  {arg8 : Memref sig .tc .vmem S1x512x128 .f32} {harg8 : arg8.IsWhole}
  {arg9 : Memref sig .tc .vmem S1x16x8x512 .f32} {harg9 : arg9.IsWhole}
  {arg10 : Memref sig .tc .vmem S512x128 .bf16} {harg10 : arg10.IsWhole}
  {arg11 : Memref sig .tc .vmem S16x512x128 .bf16} {harg11 : arg11.IsWhole}
  {arg12 : Memref sig .tc .vmem S16x512x128 .bf16} {harg12 : arg12.IsWhole}
  {arg13 : Memref sig .tc .vmem S1x512x128 .f32} {harg13 : arg13.IsWhole}
  {arg14 : Memref sig .tc .vmem S1x16x8x512 .f32} {harg14 : arg14.IsWhole}
  {arg15 : Memref sig .tc .vmem S16x512x128 .f32} {harg15 : arg15.IsWhole}
  {arg16 : Memref sig .tc .vmem S16x512x128 .f32} {harg16 : arg16.IsWhole}
variable (c : Dev nD) (i : grid0.Coords)

/-- A memref owned at `x` is held at the representative of `x`. -/
theorem held_of_owns {s : Shape} {e : EltTy} (c : Dev nD) (a : Memref sig .tc .vmem s e) (x : Vec F s e) :
    (owns (c : Thread nD τ) a fullShare x : sProp 𝕄) ⊢ (a.view.loc (c : Thread nD τ) ↦[a.view.set]{fullShare} a.view.rep x) := by
  unfold owns
  iintro ⟨%f, %hf, H⟩
  iapply (pointsTo_rep_of_read _ _ _ _ _ hf) $$ H

/-- And the other way round. -/
theorem owns_of_held {s : Shape} {e : EltTy} (c : Dev nD) (a : Memref sig .tc .vmem s e) (x : Vec F s e) :
    (a.view.loc (c : Thread nD τ) ↦[a.view.set]{fullShare} a.view.rep x : sProp 𝕄) ⊢ owns (c : Thread nD τ) a fullShare x := by
  unfold owns
  iintro H
  iexists _; isplitr
  swap; · iexact H
  ipureintro; exact View.read_rep _ _

/-- The body's triple, over owned memrefs. -/
theorem body_owns (x : Ops F) (d10 : Vec F S512x128 .bf16) (d11 d12 : Vec F S16x512x128 .bf16) (d13 : Vec F S1x512x128 .f32)
    (fk : Vec F S1x16x8x512 .f32) (dk dv : Vec F S16x512x128 .f32) (E : Set ℕ) (K : PUnit → sProp 𝕄) :
    iprop(owns (c : Thread nD τ) arg2 fullShare x.q ∗ owns (c : Thread nD τ) arg3 fullShare x.K ∗ owns (c : Thread nD τ) arg4 fullShare x.V ∗ owns (c : Thread nD τ) arg5 fullShare x.go ∗ owns (c : Thread nD τ) arg6 fullShare x.fq ∗ owns (c : Thread nD τ) arg7 fullShare x.ls ∗ owns (c : Thread nD τ) arg8 fullShare x.dl ∗ owns (c : Thread nD τ) arg9 fullShare x.fk ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare fk ∗ owns (c : Thread nD τ) arg15 fullShare dk ∗ owns (c : Thread nD τ) arg16 fullShare dv ∗ (iprop(owns (c : Thread nD τ) arg2 fullShare x.q ∗ owns (c : Thread nD τ) arg3 fullShare x.K ∗ owns (c : Thread nD τ) arg4 fullShare x.V ∗ owns (c : Thread nD τ) arg5 fullShare x.go ∗ owns (c : Thread nD τ) arg6 fullShare x.fq ∗ owns (c : Thread nD τ) arg7 fullShare x.ls ∗ owns (c : Thread nD τ) arg8 fullShare x.dl ∗ owns (c : Thread nD τ) arg9 fullShare x.fk ∗ owns (c : Thread nD τ) arg10 fullShare (dqOut x (i 1).val (i 1).isLt (cleared i k0_pay31 fk) (cleared i k0_pay29 dk) (cleared i k0_pay30 dv)) ∗ owns (c : Thread nD τ) arg11 fullShare (atLast i (k0_pay3 (stEnd x (i 1).val (i 1).isLt (cleared i k0_pay31 fk) (cleared i k0_pay29 dk) (cleared i k0_pay30 dv)).dk) d11) ∗ owns (c : Thread nD τ) arg12 fullShare (atLast i (k0_pay4 (stEnd x (i 1).val (i 1).isLt (cleared i k0_pay31 fk) (cleared i k0_pay29 dk) (cleared i k0_pay30 dv)).dv) d12) ∗ owns (c : Thread nD τ) arg13 fullShare (dfqOut x (i 1).val (i 1).isLt (cleared i k0_pay31 fk) (cleared i k0_pay29 dk) (cleared i k0_pay30 dv)) ∗ owns (c : Thread nD τ) arg14 fullShare (stEnd x (i 1).val (i 1).isLt (cleared i k0_pay31 fk) (cleared i k0_pay29 dk) (cleared i k0_pay30 dv)).fk ∗ owns (c : Thread nD τ) arg15 fullShare (stEnd x (i 1).val (i 1).isLt (cleared i k0_pay31 fk) (cleared i k0_pay29 dk) (cleared i k0_pay30 dv)).dk ∗ owns (c : Thread nD τ) arg16 fullShare (stEnd x (i 1).val (i 1).isLt (cleared i k0_pay31 fk) (cleared i k0_pay29 dk) (cleared i k0_pay30 dv)).dv) -∗ K ⟨⟩))
      ⊢ wp frame (wpE (defs₀ (F := F)) Variants.none (c : Thread nD τ) none) E (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H2, H3, H4, H5, H6, H7, H8, H9, H10, H11, H12, H13, H14, H15, H16, Hk⟩
  iapply (body_run (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) c i x d10 d11 d12 d13 fk dk dv E K)
  isplitl [H2]; · iapply (held_of_owns c arg2 _) $$ H2
  isplitl [H3]; · iapply (held_of_owns c arg3 _) $$ H3
  isplitl [H4]; · iapply (held_of_owns c arg4 _) $$ H4
  isplitl [H5]; · iapply (held_of_owns c arg5 _) $$ H5
  isplitl [H6]; · iapply (held_of_owns c arg6 _) $$ H6
  isplitl [H7]; · iapply (held_of_owns c arg7 _) $$ H7
  isplitl [H8]; · iapply (held_of_owns c arg8 _) $$ H8
  isplitl [H9]; · iapply (held_of_owns c arg9 _) $$ H9
  isplitl [H10]; · iapply (held_of_owns c arg10 _) $$ H10
  isplitl [H11]; · iapply (held_of_owns c arg11 _) $$ H11
  isplitl [H12]; · iapply (held_of_owns c arg12 _) $$ H12
  isplitl [H13]; · iapply (held_of_owns c arg13 _) $$ H13
  isplitl [H14]; · iapply (held_of_owns c arg14 _) $$ H14
  isplitl [H15]; · iapply (held_of_owns c arg15 _) $$ H15
  isplitl [H16]; · iapply (held_of_owns c arg16 _) $$ H16
  iintro ⟨H2, H3, H4, H5, H6, H7, H8, H9, H10, H11, H12, H13, H14, H15, H16⟩
  iapply Hk
  isplitl [H2]; · iapply (owns_of_held c arg2 _) $$ H2
  isplitl [H3]; · iapply (owns_of_held c arg3 _) $$ H3
  isplitl [H4]; · iapply (owns_of_held c arg4 _) $$ H4
  isplitl [H5]; · iapply (owns_of_held c arg5 _) $$ H5
  isplitl [H6]; · iapply (owns_of_held c arg6 _) $$ H6
  isplitl [H7]; · iapply (owns_of_held c arg7 _) $$ H7
  isplitl [H8]; · iapply (owns_of_held c arg8 _) $$ H8
  isplitl [H9]; · iapply (owns_of_held c arg9 _) $$ H9
  isplitl [H10]; · iapply (owns_of_held c arg10 _) $$ H10
  isplitl [H11]; · iapply (owns_of_held c arg11 _) $$ H11
  isplitl [H12]; · iapply (owns_of_held c arg12 _) $$ H12
  isplitl [H13]; · iapply (owns_of_held c arg13 _) $$ H13
  isplitl [H14]; · iapply (owns_of_held c arg14 _) $$ H14
  isplitl [H15]; · iapply (owns_of_held c arg15 _) $$ H15
  iapply (owns_of_held c arg16 _) $$ H16
end

variable (m : (ℓ : Loc nD τ sig) → Buf (Elt F) ℓ) (ρ : Dev nD → PrngReg)

/-- The operands at a point. -/
def opsAt (c : Dev nD) (t : Fin cfg0.N) : Ops F :=
  ⟨iblk m c 0 t, iblk m c 1 t, iblk m c 2 t, iblk m c 3 t, iblk m c 4 t, iblk m c 5 t, iblk m c 6 t, iblk m c 7 t⟩

/-- The query block's number within its pair of heads. -/
theorem coord1 : ∀ t : Fin cfg0.N, (grid0.coords t 1).val = t.val % 16 := (by decide +kernel : ∀ t : Fin grid0.N, _)

/-- The three accumulators before point `n` (before the first point: anything, since it clears them). -/
def left (c : Dev nD) : ℕ → St F
  | 0 => init0 k0_pay31 k0_pay29 k0_pay30
  | n + 1 => if h : n < cfg0.N then
      stEnd (opsAt m c ⟨n, h⟩) (grid0.coords ⟨n, h⟩ 1).val (grid0.coords ⟨n, h⟩ 1).isLt
        (cleared (grid0.coords ⟨n, h⟩) k0_pay31 (left c n).fk) (cleared (grid0.coords ⟨n, h⟩) k0_pay29 (left c n).dk)
        (cleared (grid0.coords ⟨n, h⟩) k0_pay30 (left c n).dv)
    else left c n

theorem left_succ (c : Dev nD) (t : Fin cfg0.N) :
    left m c (t.val + 1) = stEnd (opsAt m c t) (grid0.coords t 1).val (grid0.coords t 1).isLt
        (cleared (grid0.coords t) k0_pay31 (left m c t.val).fk) (cleared (grid0.coords t) k0_pay29 (left m c t.val).dk)
        (cleared (grid0.coords t) k0_pay30 (left m c t.val).dv) := dif_pos t.isLt

/-- The two scratch buffers. -/
abbrev scK : Memref sig .tc .vmem S16x512x128 .f32 := Memref.whole cc0_scratch0
abbrev scV : Memref sig .tc .vmem S16x512x128 .f32 := Memref.whole cc0_scratch1

/-- What the region hands the body: the scratch buffers at anything and the generator register. -/
theorem entry_eq (c : Dev nD) : (Pipeline.ΦA spec0 c : sProp 𝕄)
    = iprop(((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- The invariant before point `n`: after the first point the scratch buffers hold the accumulators. -/
def held (c : Dev nD) : ℕ → sProp 𝕄
  | 0 => Pipeline.ΦA spec0 c
  | n + 1 => iprop((owns (c : Thread nD τ) scK fullShare (left m c (n + 1)).dk ∗ owns (c : Thread nD τ) scV fullShare (left m c (n + 1)).dv)
      ∗ (∃ r, prngReg c r))

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (opsAt m c t) (grid0.coords t 1).val (grid0.coords t 1).isLt
        (cleared (grid0.coords t) k0_pay31 (left m c t.val).fk) (cleared (grid0.coords t) k0_pay29 (left m c t.val).dk)
        (cleared (grid0.coords t) k0_pay30 (left m c t.val).dv)
    | ⟨9, _⟩ => k0_pay3 (left m c (t.val + 1)).dk
    | ⟨10, _⟩ => k0_pay4 (left m c (t.val + 1)).dv
    | ⟨11, _⟩ => dfqOut (opsAt m c t) (grid0.coords t 1).val (grid0.coords t 1).isLt
        (cleared (grid0.coords t) k0_pay31 (left m c t.val).fk) (cleared (grid0.coords t) k0_pay29 (left m c t.val).dk)
        (cleared (grid0.coords t) k0_pay30 (left m c t.val).dv)
    | ⟨12, _⟩ => (left m c (t.val + 1)).fk
  Φ t := held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

theorem after0_8 (c : Dev nD) (t : Fin cfg0.N) : (dats m 0 c).after 8 t =
    dqOut (opsAt m c t) (grid0.coords t 1).val (grid0.coords t 1).isLt
        (cleared (grid0.coords t) k0_pay31 (left m c t.val).fk) (cleared (grid0.coords t) k0_pay29 (left m c t.val).dk)
        (cleared (grid0.coords t) k0_pay30 (left m c t.val).dv) := by dsimp only [dats]
theorem after0_9 (c : Dev nD) (t : Fin cfg0.N) : (dats m 0 c).after 9 t = k0_pay3 (left m c (t.val + 1)).dk := by dsimp only [dats]
theorem after0_10 (c : Dev nD) (t : Fin cfg0.N) : (dats m 0 c).after 10 t = k0_pay4 (left m c (t.val + 1)).dv := by dsimp only [dats]
theorem after0_11 (c : Dev nD) (t : Fin cfg0.N) : (dats m 0 c).after 11 t =
    dfqOut (opsAt m c t) (grid0.coords t 1).val (grid0.coords t 1).isLt
        (cleared (grid0.coords t) k0_pay31 (left m c t.val).fk) (cleared (grid0.coords t) k0_pay29 (left m c t.val).dk)
        (cleared (grid0.coords t) k0_pay30 (left m c t.val).dv) := by dsimp only [dats]
theorem after0_12 (c : Dev nD) (t : Fin cfg0.N) : (dats m 0 c).after 12 t = (left m c (t.val + 1)).fk := by dsimp only [dats]

/-- At a first query block whatever the accumulator's buffer holds is cleared; at any other it holds what the point before left. -/
theorem before0_12 (c : Dev nD) (t : Fin cfg0.N) (d) :
    cleared (grid0.coords t) (k0_pay31 (F := F)) ((dats m 0 c).before 12 t d) = cleared (grid0.coords t) k0_pay31 (left m c t.val).fk := by
  unfold cleared
  rw [coord1 t]
  split
  · rfl
  · rename_i h
    have ht : t.val ≠ 0 := fun h0 => h (by rw [h0])
    rw [(dats m 0 c).before_out_kept 12 rfl t ht
      (Bool.eq_false_iff.2 fun hf => by have := (flush0_12 _).1 hf; simp only at this; omega) (fun _ => rfl) (fun _ _ => rfl), after0_12]
    simp only [Nat.sub_add_cancel (Nat.pos_of_ne_zero ht)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t
    ∗ owns (c : Thread nD τ) (st0_11 t) fullShare ((dats m 0 c).after 11 t)
    ∗ owns (c : Thread nD τ) (st0_12 t) fullShare ((dats m 0 c).after 12 t))

theorem Φ_castSucc (c : Dev nD) (t : Fin cfg0.N) : (dats m 0 c).Φ t.castSucc = held m c t.val := by
  dsimp only [dats]; rfl

theorem Φ_succ (c : Dev nD) (t : Fin cfg0.N) : (dats m 0 c).Φ t.succ = held m c (t.val + 1) := by
  dsimp only [dats]; rfl

end Cert.Bwd

end

end
-- ==== Proof.Bwd.Left.lean ====
module

public import proofs.«01_k».proof.Proof.Bwd.Blocks
public import proofs.«01_k».proof.Proof.Bwd.Data
public import Idealize.ShloMosaic.Lib.Pipeline.ValueKit
public import Idealize.ShloMosaic.Lib.Pipeline.ReadBack

@[expose] public section

set_option maxRecDepth 16384

noncomputable section

namespace Cert.Bwd

open Idealize.ShloMosaic Idealize.ShloMosaic.TcCoe Idealize.SL.Sem
open Cert.KernelAttnIdeal Cert.KernelAttnIdeal.Gen

open Idealize.ShloMosaic.Pipeline (Dat)

/-! # What the query blocks leave in the accumulators -/

variable (m : (ℓ : Loc nD τ sig) → Buf (Elt Ideal) ℓ)

/-! Where each window's block lies. -/
theorem idx0 : ∀ t : Fin cfg0.N, win0_0.index t = ![t.val % 16, t.val / 16] := (by decide +kernel : ∀ t : Fin grid0.N, _)
theorem idx1 : ∀ t : Fin cfg0.N, win0_1.index t = ![0, 0, t.val / 16] := (by decide +kernel : ∀ t : Fin grid0.N, _)
theorem idx2 : ∀ t : Fin cfg0.N, win0_2.index t = ![0, 0, t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val / 16, t.val % 16, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, 0, 0, 0] := (by decide +kernel : ∀ t : Fin grid0.N, _)
theorem idx8 : ∀ t : Fin cfg0.N, win0_8.index t = ![t.val % 16, t.val / 16] := (by decide +kernel : ∀ t : Fin grid0.N, _)
theorem idx9 : ∀ t : Fin cfg0.N, win0_9.index t = ![0, 0, t.val / 16] := (by decide +kernel : ∀ t : Fin grid0.N, _)
theorem idx10 : ∀ t : Fin cfg0.N, win0_10.index t = ![0, 0, t.val / 16] := (by decide +kernel : ∀ t : Fin grid0.N, _)
theorem idx11 : ∀ t : Fin cfg0.N, win0_11.index t = ![t.val / 16, t.val % 16, 0] := (by decide +kernel : ∀ t : Fin grid0.N, _)
theorem idx12 : ∀ t : Fin cfg0.N, win0_12.index t = ![t.val / 16, 0, 0, 0] := (by decide +kernel : ∀ t : Fin grid0.N, _)

/-- The query block and the pair of heads of a point. -/
def ki (t : Fin cfg0.N) : Fin 16 := ⟨t.val % 16, Nat.mod_lt _ (by decide)⟩
def pg (t : Fin cfg0.N) : Fin 8 := ⟨t.val / 16, by have := lt_of_lt_of_eq t.isLt N_0; omega⟩

theorem read_q (c : Dev nD) (t : Fin cfg0.N) (r : Fin 512) (l : Fin 128) :
    iblk m c 0 t (ix2 r l) = V m c main_v46 (ix2 (row (ki t) r) (col (pg t) l)) := by
  unfold iblk
  blk_ext [iblk, V, row, col, ki, pg, idx0 t]

theorem read_K (c : Dev nD) (t : Fin cfg0.N) (j : Fin 16) (r : Fin 512) (l : Fin 128) :
    iblk m c 1 t (ix3 j r l) = V m c main_v62 (ix3 j r (col (pg t) l)) := by
  unfold iblk
  blk_ext [iblk, V, row, col, ki, pg, idx1 t]

theorem read_V (c : Dev nD) (t : Fin cfg0.N) (j : Fin 16) (r : Fin 512) (l : Fin 128) :
    iblk m c 2 t (ix3 j r l) = V m c main_v63 (ix3 j r (col (pg t) l)) := by
  unfold iblk
  blk_ext [iblk, V, row, col, ki, pg, idx2 t]

theorem read_go (c : Dev nD) (t : Fin cfg0.N) (r : Fin 512) (l : Fin 128) :
    iblk m c 3 t (ix2 r l) = V m c main_v52 (ix2 (row (ki t) r) (col (pg t) l)) := by
  unfold iblk
  blk_ext [iblk, V, row, col, ki, pg, idx3 t]

theorem read_fq (c : Dev nD) (t : Fin cfg0.N) (r : Fin 512) (l : Fin 128) :
    iblk m c 4 t (ix3 0 r l) = V m c main_v55 (ix3 (pg t) (row (ki t) r) l) := by
  unfold iblk
  blk_ext [iblk, V, row, col, ki, pg, idx4 t]

theorem read_ls (c : Dev nD) (t : Fin cfg0.N) (r : Fin 512) (l : Fin 128) :
    iblk m c 5 t (ix3 0 r l) = V m c main_v58 (ix3 (pg t) (row (ki t) r) l) := by
  unfold iblk
  blk_ext [iblk, V, row, col, ki, pg, idx5 t]

theorem read_dl (c : Dev nD) (t : Fin cfg0.N) (r : Fin 512) (l : Fin 128) :
    iblk m c 6 t (ix3 0 r l) = V m c main_v61 (ix3 (pg t) (row (ki t) r) l) := by
  unfold iblk
  blk_ext [iblk, V, row, col, ki, pg, idx6 t]

theorem read_fk (c : Dev nD) (t : Fin cfg0.N) (j : Fin 16) (h : Fin 8) (r : Fin 512) :
    iblk m c 7 t (ix4 0 j h r) = V m c main_v42 (ix4 (pg t) j h r) := by
  unfold iblk
  blk_ext [iblk, V, row, col, ki, pg, idx7 t]

/-- The operands that the region reads hold the arguments `a` and what the forward pass saved of them. -/
structure Holds (a : Args) (c : Dev nD) : Prop where
  q : ∀ t l, V m c main_v46 (ix2 t l) = ((a.q t l * (1 / 8) : ℝ) : EReal)
  go : ∀ t l, V m c main_v52 (ix2 t l) = ((a.go t l : ℝ) : EReal)
  kk : ∀ j r l, V m c main_v62 (ix3 j r l) = ((a.k (row j r) l : ℝ) : EReal)
  vv : ∀ j r l, V m c main_v63 (ix3 j r l) = ((a.v (row j r) l : ℝ) : EReal)
  fq : ∀ g t h, V m c main_v55 (ix3 g t (lane h)) = ((a.F (hd g h) t : ℝ) : EReal)
  ls : ∀ g t h, V m c main_v58 (ix3 g t (lane h)) = ((Real.log (a.Z (hd g h) t) : ℝ) : EReal)
  dl : ∀ g t h, V m c main_v61 (ix3 g t (lane h)) = ((a.Dl (hd g h) t : ℝ) : EReal)
  fk : ∀ g j h r, V m c main_v42 (ix4 g j (rowNo h) r) = ((a.F (hd g h) (row j r) : ℝ) : EReal)

section
variable {m} {a : Args} {c : Dev nD} (h : Holds m a c)

include h in
theorem Holds.block (t : Fin cfg0.N) : (a.blk (pg t) (ki t)).Read (opsAt m c t) := by
  have e0 (r l) := (read_q m c t r l).trans (h.q _ _)
  have e3 (r l) := (read_go m c t r l).trans (h.go _ _)
  have e1 (j r l) := (read_K m c t j r l).trans (h.kk _ _ _)
  have e2 (j r l) := (read_V m c t j r l).trans (h.vv _ _ _)
  have e4 (k r) := (read_fq m c t r (lane k)).trans (h.fq _ _ _)
  have e5 (k r) := (read_ls m c t r (lane k)).trans (h.ls _ _ _)
  have e6 (k r) := (read_dl m c t r (lane k)).trans (h.dl _ _ _)
  have e7 (k j r) := (read_fk m c t j (rowNo k) r).trans (h.fk _ _ _ _)
  constructor
  · intro r l; dsimp only [opsAt, Args.blk]; exact e0 r l
  · intro r l; dsimp only [opsAt, Args.blk]; exact e3 r l
  · intro j r l; dsimp only [opsAt, Args.blk]; exact e1 j r l
  · intro j r l; dsimp only [opsAt, Args.blk]; exact e2 j r l
  · intro k r; dsimp only [opsAt, Args.blk]; exact e4 k r
  · intro k r; dsimp only [opsAt, Args.blk]; exact e5 k r
  · intro k r; dsimp only [opsAt, Args.blk]; exact e6 k r
  · intro k j r; dsimp only [opsAt, Args.blk]; exact e7 k j r

/-- The three accumulators of `s` hold the reals of `R`. -/
structure Acc (fk : Vec Ideal S1x16x8x512 .f32) (dk dv : Vec Ideal S16x512x128 .f32) (R : RSt) : Prop where
  fk : ∀ j h r, fk (ix4 0 j h r) = (R.fk j h r : EReal)
  dk : ∀ j r l, dk (ix3 j r l) = (R.dk j r l : EReal)
  dv : ∀ j r l, dv (ix3 j r l) = (R.dv j r l : EReal)

/-- What a point finds, once it has cleared the accumulators where it has to. -/
def found (m : (ℓ : Loc nD τ sig) → Buf (Elt Ideal) ℓ) (c : Dev nD) (t : Fin cfg0.N) : Vec Ideal S1x16x8x512 .f32 × Vec Ideal S16x512x128 .f32 × Vec Ideal S16x512x128 .f32 :=
  (cleared (F := Ideal) (grid0.coords t) (k0_pay31 (F := Ideal)) (left m c t.val).fk, cleared (F := Ideal) (grid0.coords t) (k0_pay29 (F := Ideal)) (left m c t.val).dk,
    cleared (F := Ideal) (grid0.coords t) (k0_pay30 (F := Ideal)) (left m c t.val).dv)

include h in
/-- A point that finds the accumulators of the query blocks before it leaves those up to it. -/
theorem Holds.point (t : Fin cfg0.N) (hf : Acc (found m c t).1 (found m c t).2.1 (found m c t).2.2 (a.upto (pg t) (ki t))) :
    Acc (left m c (t.val + 1)).fk (left m c (t.val + 1)).dk (left m c (t.val + 1)).dv (a.upto (pg t) ((ki t).val + 1)) := by
  have hi : (grid0.coords t 1).val = (ki t).val := coord1 t
  have e := head1_real (h.block t) (grid0.coords t 1).val (grid0.coords t 1).isLt hf.fk hf.dk hf.dv
  rw [left_succ]
  refine ⟨fun j h' r => ?_, fun j r l => ?_, fun j r l => ?_⟩
  · refine (e.fk j h' r).trans ?_
    rw [hi, Args.all1_fk]
    simp only [Args.upto]
    rw [sum_lt_succ (fun i => a.fkTerm (pg t) i j h' r) _ (ki t).isLt]
  · refine (e.dk j r l).trans ?_
    rw [hi, Args.all1_dk]
    simp only [Args.upto]
    rw [sum_lt_succ (fun i => a.dkTerm (pg t) i j r l) _ (ki t).isLt]
  · refine (e.dv j r l).trans ?_
    rw [hi, Args.all1_dv]
    simp only [Args.upto]
    rw [sum_lt_succ (fun i => a.dvTerm (pg t) i j r l) _ (ki t).isLt]

/-- At a first query block the accumulators are cleared. -/
theorem found_first (t : Fin cfg0.N) (h0 : t.val % 16 = 0) :
    Acc (found m c t).1 (found m c t).2.1 (found m c t).2.2 (a.upto (pg t) (ki t)) := by
  have e : (ki t).val = 0 := h0
  have hc : (grid0.coords t 1).val = 0 := (coord1 t).trans h0
  unfold found cleared
  rw [if_pos hc, if_pos hc, if_pos hc, e]
  refine ⟨fun j h' r => ?_, fun j r l => ?_, fun j r l => ?_⟩
  · pointwise [k0_pay31]; simp [Args.upto]
  · pointwise [k0_pay29]; simp [Args.upto]
  · pointwise [k0_pay30]; simp [Args.upto]

include h in
/-- What every point finds. -/
theorem Holds.found : ∀ (n : ℕ) (hn : n < cfg0.N),
    Acc (found m c ⟨n, hn⟩).1 (found m c ⟨n, hn⟩).2.1 (found m c ⟨n, hn⟩).2.2 (a.upto (pg ⟨n, hn⟩) (ki ⟨n, hn⟩))
  | 0, hn => found_first ⟨0, hn⟩ rfl
  | n + 1, hn => by
    by_cases h0 : (n + 1) % 16 = 0
    · exact found_first ⟨n + 1, hn⟩ h0
    · have hp := h.point ⟨n, by omega⟩ (Holds.found n (by omega))
      have e1 : pg ⟨n + 1, hn⟩ = pg ⟨n, by omega⟩ := Fin.ext (by simp only [pg]; omega)
      have e2 : (ki ⟨n + 1, hn⟩).val = (ki ⟨n, by omega⟩).val + 1 := by simp only [ki]; omega
      have hc : ¬ (grid0.coords ⟨n + 1, hn⟩ 1).val = 0 := fun e => h0 ((coord1 _).symm.trans e)
      rw [e1, e2]
      unfold Cert.Bwd.found cleared
      rw [if_neg hc, if_neg hc, if_neg hc]
      exact hp

include h in
/-- What a pair's last query block leaves. -/
theorem Holds.last (t : Fin cfg0.N) (h15 : t.val % 16 = 15) :
    Acc (left m c (t.val + 1)).fk (left m c (t.val + 1)).dk (left m c (t.val + 1)).dv (a.upto (pg t) 16) := by
  have := h.point t (h.found t.val t.isLt)
  rwa [show (ki t).val + 1 = 16 by simp only [ki]; omega] at this

include h in
/-- The queries' gradient that a point writes. -/
theorem Holds.dq (t : Fin cfg0.N) (r : Fin 512) (l : Fin 128) :
    (dats m 0 c).after 8 t (ix2 r l) = ((a.dq (row (ki t) r) (col (pg t) l) : ℝ) : EReal) := by
  have hf := h.found t.val t.isLt
  have hi : (grid0.coords t 1).val = (ki t).val := coord1 t
  have e := dqOut_real (h.block t) (grid0.coords t 1).val (grid0.coords t 1).isLt hf.fk hf.dk hf.dv r l
  rw [after0_8]
  refine e.trans ?_
  rw [hi, Args.all_dq]

include h in
/-- The log decays' gradient, by query, that a point writes. -/
theorem Holds.dfq (t : Fin cfg0.N) (r : Fin 512) (l : Fin 128) :
    (dats m 0 c).after 11 t (ix3 0 r l)
      = ((a.dFqPad (pg t) (row (ki t) r) l : ℝ) : EReal) := by
  have hf := h.found t.val t.isLt
  have hi : (grid0.coords t 1).val = (ki t).val := coord1 t
  have e := dfqOut_real (h.block t) (grid0.coords t 1).val (grid0.coords t 1).isLt hf.fk hf.dk hf.dv r l
  obtain ⟨e0, e1⟩ := Args.all_dfq a (pg t) (a.upto (pg t) (ki t)) (ki t) r
  rw [after0_11]
  refine e.trans ?_
  rw [hi, e0, e1]
  unfold Args.dFqPad
  congr 1
  by_cases h1 : l.val = 1
  · simp [h1]
  · by_cases h0 : l.val = 0
    · simp [h0]
    · rw [if_neg h1, if_neg h0, dif_neg (by omega)]
end

end Cert.Bwd

end

end
-- ==== Proof.Bwd.Fwd.lean ====
module

public import proofs.«01_k».proof.Proof.Gen.ReferenceAttnIdeal.Run
public import proofs.«01_k».proof.Proof.Bwd.Spec
public import Idealize.ShloMosaic.Lib.WordCmp

@[expose] public section

set_option maxRecDepth 16384

noncomputable section

namespace Cert.Bwd

open Idealize.ShloMosaic Idealize.ShloMosaic.TcCoe Idealize.SL.Sem
open Cert.ReferenceAttnIdeal Cert.ReferenceAttnIdeal.Gen

/-! # The forward lines of the attention, at real arguments -/

abbrev Act : Type := FVec Ideal S1x8192x1024 .f32
abbrev Decay : Type := FVec Ideal S1x16x8192 .f32
abbrev Heads : Type := FVec Ideal S1x16x8192x64 .f32
abbrev Pairs : Type := FVec Ideal S1x16x8192x8192 .f32
abbrev Rows : Type := FVec Ideal S1x16x8192 .f32

/-- An activation by heads. -/
def heads (x : Act) : Heads :=
  transpose S1x16x8192x64 [0, 2, 1, 3] (shapeCast _ x shapeCasts_S1x8192x1024_S1x8192x16x64) transposes_S1x8192x16x64_S1x16x8192x64_0_2_1_3

/-- Which pairs are seen. -/
def seen : IVec S1x16x8192x8192 1 :=
  broadcastInDim S1x16x8192x8192 ![2, 3] bcast_S8192x8192_S1x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- A row's value at every pair, and an array of zeros. -/
def spread (x : Rows) : Pairs :=
  broadcastInDim S1x16x8192x8192 ![0, 1, 2, 3] bcast_S1x16x8192x1_S1x16x8192x8192_0_1_2_3 (broadcastInDim S1x16x8192x1 ![0, 1, 2] bcast_S1x16x8192_S1x16x8192x1_0_1_2 x)
def level (b : BitVec 32) : Pairs := broadcastInDim S1x16x8192x8192 ![] bcast_S_S1x16x8192x8192 (constant S_ .f32 b)

/-- The masked scores. -/
def masked (q k : Act) (F : Decay) : Pairs :=
  select seen (addf (mulf (Host.dotGeneral dot_S1x16x8192x64_S1x16x8192x64_S1x16x8192x8192_3_3_2_2_01_01 none (heads q) (heads k)) (level 0x3E000000#32))
    (subf (spread F) (broadcastInDim S1x16x8192x8192 ![0, 1, 2, 3] bcast_S1x16x1x8192_S1x16x8192x8192_0_1_2_3 (broadcastInDim S1x16x1x8192 ![0, 1, 3] bcast_S1x16x8192_S1x16x1x8192_0_1_3 F))))
    (broadcastInDim S1x16x8192x8192 ![] bcast_S_S1x16x8192x8192 (id (constant S_ .f32 0xFF800000#32)))

/-- A row's largest score. -/
def top (s : Pairs) : Rows :=
  Host.reduce FloatOps.maximumf s (constant S_ .f32 0xFF800000#32) reducesTo_S1x16x8192x8192_S1x16x8192_d3 h_S_

/-- A row's sum. -/
def total (x : Pairs) : Rows := Host.reduceAdd x (constant S_ .f32 0x00000000#32) reducesTo_S1x16x8192x8192_S1x16x8192_d3 h_S_

/-- What the arguments are when they are real. -/
structure Args.Reads (a : Args) (q k v : Act) (F : Decay) (go : Act) : Prop where
  q : ∀ t l, q (ix3 0 t l) = ((a.q t l : ℝ) : EReal)
  k : ∀ t l, k (ix3 0 t l) = ((a.k t l : ℝ) : EReal)
  v : ∀ t l, v (ix3 0 t l) = ((a.v t l : ℝ) : EReal)
  F : ∀ H t, F (ix3 0 H t) = ((a.F H t : ℝ) : EReal)
  go : ∀ t l, go (ix3 0 t l) = ((a.go t l : ℝ) : EReal)

theorem eighth' : Ideal.ofBits .f32 0x3E000000#32 = (((1 / 8 : ℝ) : ℝ) : EReal) := by
  simp [Ideal.ofBits, Ideal.ieee, -EReal.coe_mul]; norm_num

theorem minus_inf : Ideal.ofBits .f32 0xFF800000#32 = (⊥ : EReal) := by simp [Ideal.ofBits, Ideal.ieee]

theorem one_word : Ideal.ofBits .f32 0x3F800000#32 = (((1 : ℝ) : ℝ) : EReal) := by
  simp [Ideal.ofBits, Ideal.ieee, -EReal.coe_mul]; norm_num

theorem heads_at (x : Act) (H : Fin 16) (t : Fin 8192) (d : Fin 64) : heads x (ix4 0 H t d) = x (ix3 0 t (ln H d)) := by
  pointwise [heads]
  rfl

theorem seen_at (H : Fin 16) (t u : Fin 8192) : seen (ix4 0 H t u) = if u ≤ t then 1#1 else 0#1 := by
  pointwise [seen]
  have ht := t.isLt
  have hu := u.isLt
  have e1 := WordCmp.toInt_ofNat_of_lt (w := 32) (a := u) (by omega)
  have e2 := WordCmp.toInt_ofNat_of_lt (w := 32) (a := t) (by omega)
  simp only [Fin.le_def]
  split
  · rw [IntOp.cmpi_sle, e1, e2]; omega
  · refine (BitVec.eq_zero_or_eq_one _).resolve_right ?_
    rw [IntOp.cmpi_sle, e1, e2]; omega

theorem spread_at (x : Rows) (H : Fin 16) (t u : Fin 8192) : spread x (ix4 0 H t u) = x (ix3 0 H t) := by
  pointwise [spread]

theorem top_at (s : Pairs) (H : Fin 16) (t : Fin 8192) :
    top s (ix3 0 H t) = Finset.univ.fold max (⊥ : EReal) fun u => s (ix4 0 H t u) := by
  pointwise [top]
  rw [minus_inf]

theorem total_at (s : Pairs) (H : Fin 16) (t : Fin 8192) : total s (ix3 0 H t) = (∑ u, s (ix4 0 H t u) : EReal) := by
  pointwise [total]

variable (a : Args) {q k v : Act} {F : Decay} {go : Act}

theorem masked_at (h : a.Reads q k v F go) (H : Fin 16) (t u : Fin 8192) :
    masked q k F (ix4 0 H t u) = if u ≤ t then ((a.S H t u : ℝ) : EReal) else ⊥ := by
  pointwise [masked, level]
  simp only [heads_at, spread_at, seen_at, h.q, h.k, h.F, eighth', ← EReal.coe_mul, coe_sum, ← EReal.coe_sub, ← EReal.coe_add]
  split
  · rfl
  · exact minus_inf

/-- A row's largest score is real. -/
theorem top_real (h : a.Reads q k v F go) (H : Fin 16) (t : Fin 8192) :
    ∃ M : ℝ, top (masked q k F) (ix3 0 H t) = (M : EReal) := by
  rw [top_at]
  refine fold_max_real _ (fun u => ?_) t ?_
  · rw [masked_at a h]; split
    · exact EReal.coe_lt_top _
    · exact bot_lt_top
  · rw [masked_at a h, if_pos le_rfl]; exact EReal.bot_lt_coe _

/-- The exponentials of the scores below a value of the row, and the weights. -/
def expo (s : Pairs) (M : Rows) : Pairs := Host.exp (subf s (spread M))
def weights (e : Pairs) : Pairs := Host.divf e (spread (total e))

theorem expo_at (h : a.Reads q k v F go) {M : Rows} {H : Fin 16} {t : Fin 8192} {x : ℝ} (hx : M (ix3 0 H t) = (x : EReal)) (u : Fin 8192) :
    expo (masked q k F) M (ix4 0 H t u) = ((a.E H t u * Real.exp (-x) : ℝ) : EReal) := by
  pointwise [expo]
  rw [spread_at, hx, masked_at a h]
  unfold Args.E
  split
  · rw [← EReal.coe_sub, Ideal.exp_coe, sub_eq_add_neg, Real.exp_add]
  · rw [EReal.bot_sub, Ideal.exp_bot, zero_mul]; rfl

theorem total_expo_at (h : a.Reads q k v F go) {M : Rows} {H : Fin 16} {t : Fin 8192} {x : ℝ} (hx : M (ix3 0 H t) = (x : EReal)) :
    total (expo (masked q k F) M) (ix3 0 H t) = ((a.Z H t * Real.exp (-x) : ℝ) : EReal) := by
  rw [total_at]
  simp only [expo_at a h hx, coe_sum, ← Finset.sum_mul]
  rfl

theorem scale_ne (H : Fin 16) (t : Fin 8192) (x : ℝ) : a.Z H t * Real.exp (-x) ≠ 0 :=
  mul_ne_zero (a.Z_pos H t).ne' (Real.exp_pos _).ne'

theorem weight_at (h : a.Reads q k v F go) {M : Rows} {H : Fin 16} {t : Fin 8192} {x : ℝ} (hx : M (ix3 0 H t) = (x : EReal)) (u : Fin 8192) :
    weights (expo (masked q k F) M) (ix4 0 H t u) = ((a.P H t u : ℝ) : EReal) := by
  pointwise [weights]
  rw [spread_at, expo_at a h hx, total_expo_at a h hx, div_real _ _ (scale_ne a H t x), mul_div_mul_right _ _ (Real.exp_pos _).ne']
  rfl

/-- The outputs by heads. -/
def outs (w : Pairs) (v : Act) : Heads :=
  Host.dotGeneral dot_S1x16x8192x8192_S1x16x8192x64_S1x16x8192x64_3_2_2_3_01_01 none w (heads v)

theorem outs_at (h : a.Reads q k v F go) {w : Pairs} {H : Fin 16} {t : Fin 8192} (hw : ∀ u, w (ix4 0 H t u) = ((a.P H t u : ℝ) : EReal)) (d : Fin 64) :
    outs w v (ix4 0 H t d) = ((a.O H t d : ℝ) : EReal) := by
  pointwise [outs]
  simp only [heads_at, hw, h.v, ← EReal.coe_mul, coe_sum]
  rfl

end Cert.Bwd

end

end
-- ==== Proof.Bwd.Host.lean ====
module

public import proofs.«01_k».proof.Proof.Bwd.Left
public import proofs.«01_k».proof.Proof.Bwd.Fwd

@[expose] public section

set_option maxRecDepth 16384

noncomputable section

namespace Cert.Bwd

open Idealize.ShloMosaic Idealize.ShloMosaic.TcCoe Idealize.SL.Sem
open Cert.KernelAttnIdeal Cert.KernelAttnIdeal.Gen

open StableHlo

/-! # What the call is given, at real arguments -/

/-- A row's value plus the logarithm of another; the sum over a head's lanes of a product. -/
def plusLog (y z : Rows) : Rows :=
  shapeCast S1x16x8192 (addf (broadcastInDim S1x16x8192x1 ![0, 1, 2] bcast_S1x16x8192_S1x16x8192x1_0_1_2 y)
    (Host.log (broadcastInDim S1x16x8192x1 ![0, 1, 2] bcast_S1x16x8192_S1x16x8192x1_0_1_2 z))) shapeCasts_S1x16x8192x1_S1x16x8192
def laneDot (x y : Heads) : Rows := Host.reduceAdd (mulf x y) (constant S_ .f32 0x00000000#32) reducesTo_S1x16x8192x64_S1x16x8192_d3 h_S_

/-- The log-sum of a row, and the row's sum of output times cotangent, as the host computes them. -/
def logSum (s : Pairs) : Rows := plusLog (top s) (total (expo s (top s)))
def outDot (s : Pairs) (v go : Act) : Rows := laneDot (heads go) (outs (weights (expo s (top s))) v)

/-- Rows by pairs of heads in the first two of 128 lanes, and in the first two of 8 rows. -/
def toLanes (x : Rows) : FVec Ideal S8x8192x128 .f32 :=
  pad S8x8192x128 ![0, 0, 0] ![0, 0, 126] ![0, 0, 0] (transpose S8x8192x2 [0, 2, 1] (shapeCast S8x2x8192 x shapeCasts_S1x16x8192_S8x2x8192) transposes_S8x2x8192_S8x8192x2_0_2_1)
    (sitofp .f32 (constantI S_ 32 0#32)) pads_S8x8192x2_S8x8192x128_000_000_01260 h_S_
def toRows (x : Rows) : FVec Ideal S8x16x8x512 .f32 :=
  pad S8x16x8x512 ![0, 0, 0, 0] ![0, 0, 6, 0] ![0, 0, 0, 0] (transpose S8x16x2x512 [0, 2, 1, 3] (shapeCast S8x2x16x512 x shapeCasts_S1x16x8192_S8x2x16x512) transposes_S8x2x16x512_S8x16x2x512_0_2_1_3)
    (sitofp .f32 (constantI S_ 32 0#32)) pads_S8x16x2x512_S8x16x8x512_000_000_060_000 h_S_

variable (m : (ℓ : Loc nD τ sig) → Buf (Elt Ideal) ℓ) (c : Dev nD)

/-- The five arguments as the call's host lines are given them. -/
def inQ : Act := m ((c.tc : Thread nD τ).loc main_arg0)
def inK : Act := m ((c.tc : Thread nD τ).loc main_arg1)
def inV : Act := m ((c.tc : Thread nD τ).loc main_arg2)
def inF : Decay := m ((c.tc : Thread nD τ).loc main_arg3)
def inO : Act := m ((c.tc : Thread nD τ).loc main_arg4)

theorem plusLog_at (y z : Rows) (H : Fin 16) (t : Fin 8192) : plusLog y z (ix3 0 H t) = y (ix3 0 H t) + Ideal.log (z (ix3 0 H t)) := by
  pointwise [plusLog]

theorem laneDot_at (x y : Heads) (H : Fin 16) (t : Fin 8192) : laneDot x y (ix3 0 H t) = (∑ d, x (ix4 0 H t d) * y (ix4 0 H t d) : EReal) := by
  pointwise [laneDot]

section
variable (a : Args) {q k v : Act} {F : Decay} {go : Act} (h : a.Reads q k v F go)
include h

theorem logSum_at (H : Fin 16) (t : Fin 8192) : logSum (masked q k F) (ix3 0 H t) = ((Real.log (a.Z H t) : ℝ) : EReal) := by
  obtain ⟨x, hx⟩ := top_real a h H t
  rw [logSum, plusLog_at, hx, total_expo_at a h hx, Ideal.log_coe, if_neg (not_le.2 (mul_pos (a.Z_pos H t) (Real.exp_pos _))), ← EReal.coe_add,
    Real.log_mul (a.Z_pos H t).ne' (Real.exp_pos _).ne', Real.log_exp, add_comm, add_assoc, neg_add_cancel, add_zero]

theorem outDot_at (H : Fin 16) (t : Fin 8192) : outDot (masked q k F) v go (ix3 0 H t) = ((a.Dl H t : ℝ) : EReal) := by
  obtain ⟨x, hx⟩ := top_real a h H t
  rw [outDot, laneDot_at]
  simp only [heads_at, outs_at a h (weight_at a h hx), h.go, ← EReal.coe_mul, coe_sum]
  rfl
end

theorem toLanes_at (x : Rows) (g : Fin 8) (t : Fin 8192) (h : Fin 2) : toLanes x (ix3 g t (lane h)) = x (ix3 0 (hd g h) t) := by
  have hl : (lane h).val = h.val := rfl
  pointwise [toLanes]
  rw [dif_pos (show (lane h).val < 2 from h.isLt)]
  rfl

theorem toRows_at (x : Rows) (g : Fin 8) (j : Fin 16) (h : Fin 2) (r : Fin 512) : toRows x (ix4 g j (rowNo h) r) = x (ix3 0 (hd g h) (row j r)) := by
  pointwise [toRows]
  rw [dif_pos (show (rowNo h).val < 2 from h.isLt)]
  rfl

/-- An activation as the call takes it, whole and in blocks of rows. -/
def flat (x : Act) : FVec Ideal S8192x1024 .bf16 := truncf .bf16 (shapeCast S8192x1024 x shapeCasts_S1x8192x1024_S8192x1024) bitsLt_bf16_f32
def blocks (x : Act) : FVec Ideal S16x512x1024 .bf16 := shapeCast S16x512x1024 (flat x) shapeCasts_S8192x1024_S16x512x1024
def scaled (x : Act) : Act := mulf x (broadcastInDim S1x8192x1024 ![] bcast_S_S1x8192x1024 (constant S_ .f32 0x3E000000#32))

theorem flat_at (x : Act) (t : Fin 8192) (l : Fin 1024) : flat x (ix2 t l) = x (ix3 0 t l) := by
  pointwise [flat]

theorem blocks_at (x : Act) (j : Fin 16) (r : Fin 512) (l : Fin 1024) : blocks x (ix3 j r l) = x (ix3 0 (row j r) l) := by
  pointwise [blocks]
  exact flat_at x (row j r) l

theorem scaled_at (x : Act) (t : Fin 8192) (l : Fin 1024) : scaled x (ix3 0 t l) = (x (ix3 0 t l) * ((1 / 8 : ℝ) : EReal) : EReal) := by
  pointwise [scaled]
  rw [eighth']

/-- The operands. -/
theorem V_q : V m c main_v46 = flat (scaled (inQ m c)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_go : V m c main_v52 = flat (inO m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_k : V m c main_v62 = blocks (inK m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_v : V m c main_v63 = blocks (inV m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_fq : V m c main_v55 = toLanes (inF m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_ls : V m c main_v58 = toLanes (logSum (masked (inQ m c) (inK m c) (inF m c))) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_dl : V m c main_v61 = toLanes (outDot (masked (inQ m c) (inK m c) (inF m c)) (inV m c) (inO m c)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

theorem V_fk : V m c main_v42 = toRows (inF m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.binary, TRef.nullary, TRef.unary, TRef.toBuf, TRef.ofBuf, cast_eq]
  after_results
  rfl

/-- Where the arguments are real, the call is given what its results are stated of. -/
theorem holds (a : Args) (h : a.Reads (inQ m c) (inK m c) (inV m c) (inF m c) (inO m c)) : Holds m a c where
  q t l := by rw [V_q]; exact (flat_at _ t l).trans ((scaled_at _ t l).trans (by rw [h.q, ← EReal.coe_mul]))
  go t l := by rw [V_go]; exact (flat_at _ t l).trans (h.go t l)
  kk j r l := by rw [V_k]; exact (blocks_at _ j r l).trans (h.k _ l)
  vv j r l := by rw [V_v]; exact (blocks_at _ j r l).trans (h.v _ l)
  fq g t i := by rw [V_fq]; exact (toLanes_at _ g t i).trans (h.F _ t)
  ls g t i := by rw [V_ls]; exact (toLanes_at _ g t i).trans (logSum_at a h _ t)
  dl g t i := by rw [V_dl]; exact (toLanes_at _ g t i).trans (outDot_at a h _ t)
  fk g j i r := by rw [V_fk]; exact (toRows_at _ g j i r).trans (h.F _ _)

end Cert.Bwd

end

end
-- ==== Proof.Bwd.Frame.lean ====
module

public import proofs.«01_k».proof.Proof.Bwd.Data
public import Idealize.ShloMosaic.Lib.Claim

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Window 9 is stored at a last query block only: there the body leaves the accumulator, elsewhere what it found. -/
theorem leaves0_9 (c : Dev nD) (t : Fin cfg0.N) (d) :
    (owns (c : Thread nD τ) (st0_9 t) fullShare (atLast (grid0.coords t) (k0_pay3 (left m c (t.val + 1)).dk) ((dats m 0 c).before 9 t d)) : sProp 𝕄)
      ⊢ (dats m 0 c).leavesExact 9 t := by
  rw [← after0_9 m c t]
  by_cases h : (grid0.coords t 1).val = 15
  · have hi : cfg0.idle 9 (cfg0.grid.coords t) = false := by
      show (!(k0_cond2 (grid0.coords t) == 1#1)) = false
      rw [(last_iff _).2 h]; rfl
    unfold Dat.leavesExact atLast
    rw [hi, if_pos h]
  · have hi : cfg0.idle 9 (cfg0.grid.coords t) = true := by
      show (!(k0_cond2 (grid0.coords t) == 1#1)) = true
      rw [Bool.not_eq_true', beq_eq_false_iff_ne]
      exact fun hc => h ((last_iff _).1 hc)
    have hf : (cfg0.win 9).flush t = false :=
      Bool.eq_false_iff.2 fun hf => h ((coord1 t).trans ((flush0_9 t).1 hf))
    rw [Dat.leavesExact_idle _ 9 t hi hf]
    unfold atLast
    rw [if_neg h]
    iintro H; iexists d; iexact H

/-- Window 10 is stored at a last query block only: there the body leaves the accumulator, elsewhere what it found. -/
theorem leaves0_10 (c : Dev nD) (t : Fin cfg0.N) (d) :
    (owns (c : Thread nD τ) (st0_10 t) fullShare (atLast (grid0.coords t) (k0_pay4 (left m c (t.val + 1)).dv) ((dats m 0 c).before 10 t d)) : sProp 𝕄)
      ⊢ (dats m 0 c).leavesExact 10 t := by
  rw [← after0_10 m c t]
  by_cases h : (grid0.coords t 1).val = 15
  · have hi : cfg0.idle 10 (cfg0.grid.coords t) = false := by
      show (!(k0_cond2 (grid0.coords t) == 1#1)) = false
      rw [(last_iff _).2 h]; rfl
    unfold Dat.leavesExact atLast
    rw [hi, if_pos h]
  · have hi : cfg0.idle 10 (cfg0.grid.coords t) = true := by
      show (!(k0_cond2 (grid0.coords t) == 1#1)) = true
      rw [Bool.not_eq_true', beq_eq_false_iff_ne]
      exact fun hc => h ((last_iff _).1 hc)
    have hf : (cfg0.win 10).flush t = false :=
      Bool.eq_false_iff.2 fun hf => h ((coord1 t).trans ((flush0_10 t).1 hf))
    rw [Dat.leavesExact_idle _ 10 t hi hf]
    unfold atLast
    rw [if_neg h]
    iintro H; iexists d; iexact H

/-- The invariant before a point gives the two scratch buffers, their contents the accumulators' unless the point clears them. -/
theorem held_open (c : Dev nD) (t : Fin cfg0.N) : (held m c t.val : sProp 𝕄) ⊢
    iprop(∃ dk dv : Vec F S16x512x128 .f32, ⌜cleared (grid0.coords t) k0_pay29 dk = cleared (grid0.coords t) k0_pay29 (left m c t.val).dk
        ∧ cleared (grid0.coords t) k0_pay30 dv = cleared (grid0.coords t) k0_pay30 (left m c t.val).dv⌝
      ∗ owns (c : Thread nD τ) scK fullShare dk ∗ owns (c : Thread nD τ) scV fullShare dv ∗ (∃ r, prngReg c r)) := by
  by_cases hz : t.val = 0
  · rw [hz]; unfold held; rw [entry_eq]
    have h0 : (grid0.coords t 1).val = 0 := by rw [coord1 t, hz]
    iintro ⟨⟨⟨%dk, HK⟩, ⟨%dv, HV⟩⟩, Hg⟩
    iexists dk, dv
    isplitr; · ipureintro; unfold cleared; rw [if_pos h0, if_pos h0, if_pos h0, if_pos h0]; exact ⟨rfl, rfl⟩
    isplitl [HK]; · iexact HK
    isplitl [HV]; · iexact HV
    iexact Hg
  · obtain ⟨n, hn⟩ := Nat.exists_eq_succ_of_ne_zero hz
    rw [hn]; unfold held
    iintro ⟨⟨HK, HV⟩, Hg⟩
    iexists _, _
    isplitr; swap
    · isplitl [HK]; · iexact HK
      isplitl [HV]; · iexact HV
      iexact Hg
    ipureintro; exact ⟨rfl, rfl⟩

set_option maxHeartbeats 4000000 in
/-- The body's triple at a point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_11, after0_12, Φ_castSucc, Φ_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  icases (held_open m c t) $$ HΦ with ⟨%dk, %dv, %hc, HK, HV, Hg⟩
  iapply (body_owns c (grid0.coords t) (opsAt m c t) ((dats m 0 c).before 8 t d8) ((dats m 0 c).before 9 t d9) ((dats m 0 c).before 10 t d10)
    ((dats m 0 c).before 11 t d11) ((dats m 0 c).before 12 t d12) dk dv Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HK]; · iexact HK
  isplitl [HV]; · iexact HV
  rw [before0_12 m c t d12, hc.1, hc.2, ← left_succ m c t]
  iintro ⟨H0, H1, H2, H3, H4, H5, H6, H7, H8, H9, H10, H11, H12, HK, HV⟩
  isplitl [HK HV Hg]
  · unfold held
    isplitl [HK HV]
    · isplitl [HK]; · iexact HK
      iexact HV
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves0_9 m c t d9) $$ H9
  isplitl [H10]; · iapply (leaves0_10 m c t d10) $$ H10
  isplitl [H11]; · iexact H11
  iexact H12

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region hands over is the invariant before the first point. -/
theorem hin (c : Dev nD) : Pipeline.ΦA spec0 c ⊢ (dats m 0 c).Φ 0 := by
  rw [show (dats m 0 c).Φ 0 = held m c 0 from rfl]; unfold held
  exact Idealize.SL.BI.Entails.refl _

/-- After the last point the scratch buffers' contents are forgotten. -/
theorem hout (c : Dev nD) : (dats m 0 c).Φ (Fin.last cfg0.N) ⊢ Pipeline.ΦA spec0 c := by
  rw [show (dats m 0 c).Φ (Fin.last cfg0.N) = held m c (127 + 1) from rfl, entry_eq]; unfold held
  iintro ⟨⟨HK, HV⟩, Hg⟩
  isplitl [HK HV]
  · isplitl [HK]
    · iexists _; iexact HK
    iexists _; iexact HV
  iexact Hg

set_option backward.isDefEq.respectTransparency.types false in
/-- The launch: every execution terminates, the arrays end at what the proof data says, and the semaphores at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the semaphores at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.Bwd

end

end
-- ==== Proof.Bwd.Final.lean ====
module

public import proofs.«01_k».proof.Proof.Bwd.Left

@[expose] public section

set_option maxRecDepth 16384

noncomputable section

namespace Cert.Bwd

open Idealize.ShloMosaic Idealize.ShloMosaic.TcCoe Idealize.SL.Sem
open Cert.KernelAttnIdeal Cert.KernelAttnIdeal.Gen

open Idealize.ShloMosaic.Pipeline (Dat)

/-! # The call's results, whole -/

variable {m : (ℓ : Loc nD τ sig) → Buf (Elt Ideal) ℓ} {a : Args} {c : Dev nD} (h : Holds m a c)

include h

/-- The queries' gradient. -/
theorem final_dq : (dats m 0 c).arrAt 8 cfg0.N = fun y : S8192x1024.Idx => ((a.dq (y 0) (y 1) : ℝ) : EReal) := by
  refine (dats m 0 c).arrAt_eq_of_covers 8 _ (by decide +kernel) fun t hf y => ?_
  obtain ⟨r, l, rfl⟩ : ∃ (r : Fin 512) (l : Fin 128), y = ix2 r l := ⟨y 0, y 1, eq_ix2 y⟩
  have e0 : (win0_8.blk t).view.emb (ix2 r l) 0 = row (ki t) r := by
    apply Fin.ext
    blk_simp [idx8 t, row, col, ki, pg]
    try rfl
  have e1 : (win0_8.blk t).view.emb (ix2 r l) 1 = col (pg t) l := by
    apply Fin.ext
    blk_simp [idx8 t, row, col, ki, pg]
    try rfl
  blk_simp
  rw [e0, e1]
  exact h.dq t r l

/-- The keys' gradient, sixteen slabs. -/
theorem final_dk : (dats m 0 c).arrAt 9 cfg0.N = fun y : S16x512x1024.Idx => ((a.dk (row (y 0) (y 1)) (y 2) : ℝ) : EReal) := by
  refine (dats m 0 c).arrAt_eq_of_covers 9 _ (by decide +kernel) fun t hf y => ?_
  obtain ⟨j, r, l, rfl⟩ : ∃ (j : Fin 16) (r : Fin 512) (l : Fin 128), y = ix3 j r l := ⟨y 0, y 1, y 2, eq_ix3 y⟩
  have e0 : (win0_9.blk t).view.emb (ix3 j r l) 0 = j := by
    apply Fin.ext
    blk_simp [idx9 t, row, col, ki, pg]
    try rfl
  have e1 : (win0_9.blk t).view.emb (ix3 j r l) 1 = r := by
    apply Fin.ext
    blk_simp [idx9 t, row, col, ki, pg]
    try rfl
  have e2 : (win0_9.blk t).view.emb (ix3 j r l) 2 = col (pg t) l := by
    apply Fin.ext
    blk_simp [idx9 t, row, col, ki, pg]
    try rfl
  blk_simp
  rw [e0, e1, e2, after0_9, ← Args.upto_dk]
  refine Eq.trans ?_ ((h.last t ((flush0_9 t).1 hf)).dk j r l)
  pointwise [k0_pay3]

/-- The values' gradient, sixteen slabs. -/
theorem final_dv : (dats m 0 c).arrAt 10 cfg0.N = fun y : S16x512x1024.Idx => ((a.dv (row (y 0) (y 1)) (y 2) : ℝ) : EReal) := by
  refine (dats m 0 c).arrAt_eq_of_covers 10 _ (by decide +kernel) fun t hf y => ?_
  obtain ⟨j, r, l, rfl⟩ : ∃ (j : Fin 16) (r : Fin 512) (l : Fin 128), y = ix3 j r l := ⟨y 0, y 1, y 2, eq_ix3 y⟩
  have e0 : (win0_10.blk t).view.emb (ix3 j r l) 0 = j := by
    apply Fin.ext
    blk_simp [idx10 t, row, col, ki, pg]
    try rfl
  have e1 : (win0_10.blk t).view.emb (ix3 j r l) 1 = r := by
    apply Fin.ext
    blk_simp [idx10 t, row, col, ki, pg]
    try rfl
  have e2 : (win0_10.blk t).view.emb (ix3 j r l) 2 = col (pg t) l := by
    apply Fin.ext
    blk_simp [idx10 t, row, col, ki, pg]
    try rfl
  blk_simp
  rw [e0, e1, e2, after0_10, ← Args.upto_dv]
  refine Eq.trans ?_ ((h.last t ((flush0_10 t).1 hf)).dv j r l)
  pointwise [k0_pay4]

/-- The log decays' gradient by query: two lanes a pair. -/
theorem final_dfq : (dats m 0 c).arrAt 11 cfg0.N = fun y : S8x8192x128.Idx => ((a.dFqPad (y 0) (y 1) (y 2) : ℝ) : EReal) := by
  refine (dats m 0 c).arrAt_eq_of_covers 11 _ (by decide +kernel) fun t hf y => ?_
  obtain ⟨r, l, rfl⟩ : ∃ (r : Fin 512) (l : Fin 128), y = ix3 0 r l := ⟨y 1, y 2, (eq_ix3 y).trans (by congr 1; exact Subsingleton.elim _ _)⟩
  have e0 : (win0_11.blk t).view.emb (ix3 0 r l) 0 = pg t := by
    apply Fin.ext
    blk_simp [idx11 t, row, col, ki, pg]
    try rfl
  have e1 : (win0_11.blk t).view.emb (ix3 0 r l) 1 = row (ki t) r := by
    apply Fin.ext
    blk_simp [idx11 t, row, col, ki, pg]
    try rfl
  have e2 : (win0_11.blk t).view.emb (ix3 0 r l) 2 = l := by
    apply Fin.ext
    blk_simp [idx11 t, row, col, ki, pg]
    try rfl
  blk_simp
  rw [e0, e1, e2]
  exact h.dfq t r l

/-- The log decays' gradient by key: two rows a pair. -/
theorem final_dfk : (dats m 0 c).arrAt 12 cfg0.N = fun y : S8x16x8x512.Idx => ((a.dFkPad (y 0) (row (y 1) (y 3)) (y 2) : ℝ) : EReal) := by
  refine (dats m 0 c).arrAt_eq_of_covers 12 _ (by decide +kernel) fun t hf y => ?_
  obtain ⟨j, k, r, rfl⟩ : ∃ (j : Fin 16) (k : Fin 8) (r : Fin 512), y = ix4 0 j k r := ⟨y 1, y 2, y 3, (eq_ix4 y).trans (by congr 1; exact Subsingleton.elim _ _)⟩
  have e0 : (win0_12.blk t).view.emb (ix4 0 j k r) 0 = pg t := by
    apply Fin.ext
    blk_simp [idx12 t, row, col, ki, pg]
    try rfl
  have e1 : (win0_12.blk t).view.emb (ix4 0 j k r) 1 = j := by
    apply Fin.ext
    blk_simp [idx12 t, row, col, ki, pg]
    try rfl
  have e2 : (win0_12.blk t).view.emb (ix4 0 j k r) 2 = k := by
    apply Fin.ext
    blk_simp [idx12 t, row, col, ki, pg]
    try rfl
  have e3 : (win0_12.blk t).view.emb (ix4 0 j k r) 3 = r := by
    apply Fin.ext
    blk_simp [idx12 t, row, col, ki, pg]
    try rfl
  blk_simp
  rw [e0, e1, e2, e3, after0_12, ← Args.upto_fk]
  exact (h.last t ((flush0_12 t).1 hf)).fk j k r

end Cert.Bwd

end

end
-- ==== Proof.Norm.Rms.lean ====
module

public import Idealize.ShloMosaic.Lib.Pointwise

@[expose] public section

noncomputable section

namespace Cert.Norm

open Idealize.ShloMosaic

/-! # The root-mean-square norm's gradient in one row

A row is a function of its 1024 columns. `back` is the gradient as the kernels write it, `vjp` as the derivative of the
norm's forward line writes it; on real rows they are equal. -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type*} (s : Finset ι) (f : ι → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

theorem IsReal.sum {ι : Type*} (s : Finset ι) (f : ι → EReal) (hf : ∀ i, IsReal (f i)) : IsReal (∑ i ∈ s, f i) := by
  choose g hg using hf
  exact ⟨∑ i ∈ s, g i, by rw [← coe_sum]; exact Finset.sum_congr rfl fun i _ => hg i⟩

theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- The words of the constants. -/
theorem word_width : Ideal.ofBits .f32 0x44800000#32 = ((1024 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

/-- The ε that the norm adds is a positive real number. -/
theorem word_eps : ∃ e : ℝ, 0 < e ∧ Ideal.ofBits .f32 0x358637BD#32 = (e : EReal) := by
  refine ⟨8796093 * 2 ^ (-43 : ℤ), by positivity, ?_⟩
  simp [Ideal.ofBits, Ideal.ieee]

/-- The mean of the squares, plus ε. -/
def power (x : Fin 1024 → EReal) : EReal :=
  Ideal.div (∑ k, x k * x k) (Ideal.ofBits .f32 0x44800000#32) + Ideal.ofBits .f32 0x358637BD#32

/-- The norm's factor. -/
def scale (x : Fin 1024 → EReal) : EReal := Ideal.rsqrt (power x)

/-- The gradient with respect to `x` for the norm's weights `g` and the cotangent `d`, as the kernels compute it. -/
def back (x g d : Fin 1024 → EReal) (l : Fin 1024) : EReal :=
  scale x * (d l * g l - x l * scale x * Ideal.div (∑ k, d k * g k * (x k * scale x)) (Ideal.ofBits .f32 0x44800000#32))

/-- The same gradient, as differentiating `x · (mean(x²) + ε)^(-1/2) · g` writes it. -/
def vjp (x g d : Fin 1024 → EReal) (l : Fin 1024) : EReal :=
  d l * g l * scale x + Ideal.div ((∑ k, x k * (d k * g k))
    * (Ideal.ofBits .f32 0xBF000000#32 * Ideal.div (scale x) (power x))) (Ideal.ofBits .f32 0x44800000#32)
    * (Ideal.ofBits .f32 0x40000000#32 * x l)

/-- On a real row `power` is a positive real and `scale` its inverse square root. -/
theorem power_real (x : Fin 1024 → ℝ) : ∃ p : ℝ, 0 < p ∧ power (fun k => (x k : EReal)) = (p : EReal)
    ∧ scale (fun k => (x k : EReal)) = (((Real.sqrt p)⁻¹ : ℝ) : EReal) := by
  obtain ⟨e, he, h⟩ := word_eps
  have hp : 0 < (∑ k, x k * x k) / 1024 + e := add_pos_of_nonneg_of_pos
    (div_nonneg (Finset.sum_nonneg fun k _ => mul_self_nonneg _) (by norm_num)) he
  have hpow : power (fun k => (x k : EReal)) = (((∑ k, x k * x k) / 1024 + e : ℝ) : EReal) := by
    unfold power
    simp only [← EReal.coe_mul]
    rw [h, coe_sum, word_width, div_coe _ _ (by norm_num), ← EReal.coe_add]
  refine ⟨_, hp, hpow, ?_⟩
  unfold scale
  rw [hpow, Ideal.rsqrt_coe, if_neg (not_lt.mpr hp.le), if_neg hp.ne']

theorem scale_isReal {x : Fin 1024 → EReal} (hx : ∀ k, IsReal (x k)) : IsReal (scale x) := by
  choose a ha using hx
  obtain rfl : x = fun k => (a k : EReal) := funext ha
  obtain ⟨p, hp, h1, h2⟩ := power_real a
  exact ⟨_, h2⟩

theorem back_isReal {x g d : Fin 1024 → EReal} (hx : ∀ k, IsReal (x k)) (hg : ∀ k, IsReal (g k)) (hd : ∀ k, IsReal (d k))
    (l : Fin 1024) : IsReal (back x g d l) := by
  have hs := scale_isReal hx
  have hq : IsReal (Ideal.div (∑ k, d k * g k * (x k * scale x)) (Ideal.ofBits .f32 0x44800000#32)) := by
    obtain ⟨r, hr⟩ := IsReal.sum Finset.univ _ fun k => ((hd k).mul (hg k)).mul ((hx k).mul hs)
    exact ⟨r / 1024, by rw [hr, word_width, div_coe _ _ (by norm_num)]⟩
  exact hs.mul (((hd l).mul (hg l)).sub (((hx l).mul hs).mul hq))

/-- On real rows the two forms of the gradient are equal. -/
theorem vjp_eq_back {x g d : Fin 1024 → EReal} (hx : ∀ k, IsReal (x k)) (hg : ∀ k, IsReal (g k)) (hd : ∀ k, IsReal (d k))
    (l : Fin 1024) : vjp x g d l = back x g d l := by
  choose a ha using hx
  choose b hb using hg
  choose c hc using hd
  obtain rfl : x = fun k => (a k : EReal) := funext ha
  obtain rfl : g = fun k => (b k : EReal) := funext hb
  obtain rfl : d = fun k => (c k : EReal) := funext hc
  obtain ⟨p, hp, h1, h2⟩ := power_real a
  unfold vjp back
  rw [h1, h2, word_width, word_two, word_neg_half, div_coe _ _ hp.ne']
  simp only [← EReal.coe_mul]
  rw [coe_sum, coe_sum]
  simp only [← EReal.coe_mul]
  rw [div_coe _ _ (by norm_num), div_coe _ _ (by norm_num)]
  simp only [← EReal.coe_mul, ← EReal.coe_add, ← EReal.coe_sub]
  congr 1
  obtain ⟨s, hs0, hs⟩ : ∃ s : ℝ, 0 < s ∧ p = s * s := ⟨Real.sqrt p, Real.sqrt_pos.mpr hp, (Real.mul_self_sqrt hp.le).symm⟩
  rw [hs, Real.sqrt_mul_self hs0.le]
  have e : ∑ k, c k * b k * (a k * s⁻¹) = (∑ k, a k * (c k * b k)) * s⁻¹ := by
    rw [Finset.sum_mul]; exact Finset.sum_congr rfl fun k _ => by ring
  rw [e]
  field_simp
  ring

end Cert.Norm

end
-- ==== Proof.Norm.Finite.lean ====
module

public import proofs.«01_k».proof.Proof.Norm.Rms

@[expose] public section

noncomputable section

namespace Cert.Norm

open Idealize.ShloMosaic

/-! # What the tests of the preconditions say -/

/-- An extended real below +∞ in size is its real part. -/
theorem real_of_lt {x : EReal} (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have h' : max x (-x) < ⊤ := by
    by_contra hn
    simp [Ideal.cmp, hn] at h
  rw [max_lt_iff] at h'
  refine (EReal.coe_toReal h'.1.ne fun e => ?_).symm
  rw [e] at h'
  exact absurd h'.2 (by simp)

theorem isReal_of_lt {x : EReal} (h : Ideal.cmp .olt (max x (-x)) (Ideal.ofBits .f32 0x7F800000#32) = 1#1) : IsReal x :=
  ⟨_, real_of_lt h⟩

theorem and_one {x y : BitVec 1} (h : x &&& y = 1#1) : x = 1#1 ∧ y = 1#1 := by
  revert x y; decide

end Cert.Norm

end

end
-- ==== Proof.Bwd.Finite.lean ====
module

public import proofs.«01_k».proof.Pre_finite
public import proofs.«01_k».proof.Proof.Norm.Finite
public import proofs.«01_k».proof.Proof.Bwd.Fwd

@[expose] public section

set_option maxRecDepth 16384

noncomputable section

namespace Cert.Bwd

open Idealize.ShloMosaic

/-! # Finite arguments are real -/

/-- The shape facts the precondition states. -/
theorem finite_facts : Cert.Pre_finite.Facts := ⟨by decide, by decide⟩

section
variable [Cert.Pre_finite.Facts]
open Cert.Pre_finite Cert.Norm

/-- Under the precondition the arguments read as reals. -/
theorem reads_of_finite {q k v : Act} {F : Decay} {go : Act}
    (h : (Cert.Pre_finite.fn (F := Ideal) q k v F go).1 = (fun _ => 1#1) ∧ (Cert.Pre_finite.fn (F := Ideal) q k v F go).2 = fun _ => 1#1) :
    Args.Reads ⟨fun t l => (q (ix3 0 t l)).toReal, fun t l => (k (ix3 0 t l)).toReal, fun t l => (v (ix3 0 t l)).toReal,
      fun H t => (F (ix3 0 H t)).toReal, fun t l => (go (ix3 0 t l)).toReal⟩ q k v F go := by
  have h1 : ∀ i, (Ideal.cmp .olt (max (q i : EReal) (-(q i : EReal))) (Ideal.ofBits .f32 0x7F800000#32)
      &&& Ideal.cmp .olt (max (k i : EReal) (-(k i : EReal))) (Ideal.ofBits .f32 0x7F800000#32)
      &&& Ideal.cmp .olt (max (v i : EReal) (-(v i : EReal))) (Ideal.ofBits .f32 0x7F800000#32)
      &&& Ideal.cmp .olt (max (go i : EReal) (-(go i : EReal))) (Ideal.ofBits .f32 0x7F800000#32)) = 1#1 := fun i => congrFun h.1 i
  have h2 : ∀ i, Ideal.cmp .olt (max (F i : EReal) (-(F i : EReal))) (Ideal.ofBits .f32 0x7F800000#32) = 1#1 := fun i => congrFun h.2 i
  have h3 := fun i => and_one (h1 i)
  have h4 := fun i => and_one (h3 i).1
  have h5 := fun i => and_one (h4 i).1
  exact ⟨fun t l => real_of_lt (h5 _).1, fun t l => real_of_lt (h5 _).2, fun t l => real_of_lt (h4 _).2, fun H t => real_of_lt (h2 _),
    fun t l => real_of_lt (h3 _).2⟩
end

end Cert.Bwd

end

end
-- ==== Proof.Bwd.Ref.lean ====
module

public import proofs.«01_k».proof.Proof.Bwd.Fwd
public import proofs.«01_k».proof.Proof.Bwd.Blocks

@[expose] public section

set_option maxRecDepth 16384

noncomputable section

namespace Cert.Bwd

open Idealize.ShloMosaic Idealize.ShloMosaic.TcCoe Idealize.SL.Sem
open Cert.ReferenceAttnIdeal Cert.ReferenceAttnIdeal.Gen

/-! # The derivative of the forward lines, at real arguments -/

/-- The larger of a row's value and −∞, as the derivative's forward pass takes it. -/
def raised (y : Rows) : Rows := maximumf (broadcastInDim S1x16x8192 ![] bcast_S_S1x16x8192 (constant S_ .f32 0xFF800000#32)) y

/-- The weights' gradient. -/
def dW (v go : Act) : Pairs :=
  Host.dotGeneral dot_S1x16x8192x64_S1x16x8192x64_S1x16x8192x8192_3_3_2_2_01_01 none (heads go) (heads v)

/-- A sum along axes of size one, spread again. -/
def column (x : FVec Ideal S1x16x8192x1 .f32) : Rows :=
  broadcastInDim S1x16x8192 ![1, 2] bcast_S16x8192_S1x16x8192_1_2 (Host.reduceAdd x (constant S_ .f32 0x00000000#32) reducesTo_S1x16x8192x1_S16x8192_d0_3 h_S_)
def flatRow (x : FVec Ideal S1x16x1x8192 .f32) : Rows :=
  broadcastInDim S1x16x8192 ![1, 2] bcast_S16x8192_S1x16x8192_1_2 (Host.reduceAdd x (constant S_ .f32 0x00000000#32) reducesTo_S1x16x1x8192_S16x8192_d0_2 h_S_)

/-- The derivative of a reciprocal. -/
def recip2 (z : Rows) : Pairs :=
  broadcastInDim S1x16x8192x8192 ![0, 1, 2, 3] bcast_S1x16x8192x1_S1x16x8192x8192_0_1_2_3 (Host.divf (broadcastInDim S1x16x8192x1 ![] bcast_S_S1x16x8192x1 (constant S_ .f32 0x3F800000#32))
    (mulf (broadcastInDim S1x16x8192x1 ![0, 1, 2] bcast_S1x16x8192_S1x16x8192x1_0_1_2 z) (broadcastInDim S1x16x8192x1 ![0, 1, 2] bcast_S1x16x8192_S1x16x8192x1_0_1_2 z)))

/-- The gradient that reaches a row's sum of exponentials. -/
def dTotal (e g : Pairs) : Rows :=
  column (Host.negf (shapeCast _ (total (mulf (mulf g (recip2 (total e))) e)) shapeCasts_S1x16x8192_S1x16x8192x1))

/-- The scores' gradient. -/
def dScore (e g : Pairs) : Pairs :=
  select seen (mulf (addf (Host.divf g (spread (total e))) (broadcastInDim S1x16x8192x8192 ![0, 1, 2] bcast_S1x16x8192_S1x16x8192x8192_0_1_2 (dTotal e g))) e) (level 0x00000000#32)

/-- The gradients by heads. -/
def dQ (ds : Pairs) (k : Act) : Heads :=
  Host.dotGeneral dot_S1x16x8192x8192_S1x16x8192x64_S1x16x8192x64_3_2_2_3_01_01 none (mulf ds (level 0x3E000000#32)) (heads k)
def dK (ds : Pairs) (q : Act) : Heads :=
  Host.dotGeneral dot_S1x16x8192x8192_S1x16x8192x64_S1x16x8192x64_2_2_3_3_01_01 none (mulf ds (level 0x3E000000#32)) (heads q)
def dV (w : Pairs) (go : Act) : Heads :=
  transpose S1x16x8192x64 [0, 1, 3, 2] (Host.dotGeneral dot_S1x16x8192x64_S1x16x8192x8192_S1x16x64x8192_2_2_3_3_01_01 none (heads go) w) transposes_S1x16x64x8192_S1x16x8192x64_0_1_3_2

/-- Back to positions and lanes. -/
def back (x : Heads) : Act :=
  shapeCast _ (transpose S1x8192x16x64 [0, 2, 1, 3] x transposes_S1x16x8192x64_S1x8192x16x64_0_2_1_3) shapeCasts_S1x8192x16x64_S1x8192x1024

def dFrow (ds : Pairs) : FVec Ideal S8x8192x128 .f32 :=
  pad S8x8192x128 ![0, 0, 0] ![0, 0, 126] ![0, 0, 0] (transpose S8x8192x2 [0, 2, 1] (shapeCast _ (column (shapeCast _ (total ds) shapeCasts_S1x16x8192_S1x16x8192x1)) shapeCasts_S1x16x8192_S8x2x8192) transposes_S8x2x8192_S8x8192x2_0_2_1)
    (sitofp .f32 (constantI S_ 32 0#32)) pads_S8x8192x2_S8x8192x128_000_000_01260 h_S_

def dFcol (ds : Pairs) : FVec Ideal S8x16x8x512 .f32 :=
  pad S8x16x8x512 ![0, 0, 0, 0] ![0, 0, 6, 0] ![0, 0, 0, 0] (transpose S8x16x2x512 [0, 2, 1, 3] (shapeCast _ (flatRow (shapeCast _ (Host.reduceAdd (Host.negf ds) (constant S_ .f32 0x00000000#32) reducesTo_S1x16x8192x8192_S1x16x8192_d2 h_S_) shapeCasts_S1x16x8192_S1x16x1x8192)) shapeCasts_S1x16x8192_S8x2x16x512) transposes_S8x2x16x512_S8x16x2x512_0_2_1_3)
    (sitofp .f32 (constantI S_ 32 0#32)) pads_S8x16x2x512_S8x16x8x512_000_000_060_000 h_S_

variable (a : Args) {q k v : Act} {F : Decay} {go : Act}

theorem raised_at (y : Rows) (H : Fin 16) (t : Fin 8192) : raised y (ix3 0 H t) = y (ix3 0 H t) := by
  pointwise [raised]
  rw [minus_inf]
  exact max_eq_right bot_le

theorem dW_at (h : a.Reads q k v F go) (H : Fin 16) (t u : Fin 8192) : dW v go (ix4 0 H t u) = ((a.dP H t u : ℝ) : EReal) := by
  pointwise [dW]
  simp only [heads_at, h.v, h.go, ← EReal.coe_mul, coe_sum]
  rfl

theorem column_at (x : FVec Ideal S1x16x8192x1 .f32) (H : Fin 16) (t : Fin 8192) : column x (ix3 0 H t) = x (ix4 0 H t 0) := by
  pointwise [column]
  refine (congrArg ((0 : EReal) + ·) (?_ : ∑ i ∈ Finset.univ.filter (fun i => reducesTo_S1x16x8192x1_S16x8192_d0_3.drop i = ix2 H t), x i = x (ix4 0 H t 0))).trans (zero_add _)
  refine Finset.sum_eq_single_of_mem (ix4 0 H t 0) ?_ fun i hi hne => absurd ?_ hne
  · refine Finset.mem_filter.2 ⟨Finset.mem_univ _, ?_⟩
    funext b
    match b with
    | ⟨0, _⟩ => rfl
    | ⟨1, _⟩ => rfl
  · have e := (Finset.mem_filter.1 hi).2
    have e0 : i 1 = H := congrFun e 0
    have e1 : i 2 = t := congrFun e 1
    funext b
    match b with
    | ⟨0, _⟩ => exact Subsingleton.elim (α := Fin 1) _ _
    | ⟨1, _⟩ => exact e0
    | ⟨2, _⟩ => exact e1
    | ⟨3, _⟩ => exact Subsingleton.elim (α := Fin 1) _ _

theorem flatRow_at (x : FVec Ideal S1x16x1x8192 .f32) (H : Fin 16) (t : Fin 8192) : flatRow x (ix3 0 H t) = x (ix4 0 H 0 t) := by
  pointwise [flatRow]
  refine (congrArg ((0 : EReal) + ·) (?_ : ∑ i ∈ Finset.univ.filter (fun i => reducesTo_S1x16x1x8192_S16x8192_d0_2.drop i = ix2 H t), x i = x (ix4 0 H 0 t))).trans (zero_add _)
  refine Finset.sum_eq_single_of_mem (ix4 0 H 0 t) ?_ fun i hi hne => absurd ?_ hne
  · refine Finset.mem_filter.2 ⟨Finset.mem_univ _, ?_⟩
    funext b
    match b with
    | ⟨0, _⟩ => rfl
    | ⟨1, _⟩ => rfl
  · have e := (Finset.mem_filter.1 hi).2
    have e0 : i 1 = H := congrFun e 0
    have e1 : i 3 = t := congrFun e 1
    funext b
    match b with
    | ⟨0, _⟩ => exact Subsingleton.elim (α := Fin 1) _ _
    | ⟨1, _⟩ => exact e0
    | ⟨2, _⟩ => exact Subsingleton.elim (α := Fin 1) _ _
    | ⟨3, _⟩ => exact e1

theorem recip2_at {z : Rows} {H : Fin 16} {t : Fin 8192} {x : ℝ} (hx0 : x ≠ 0) (hx : z (ix3 0 H t) = (x : EReal)) (u : Fin 8192) :
    recip2 z (ix4 0 H t u) = ((1 / (x * x) : ℝ) : EReal) := by
  pointwise [recip2]
  rw [hx, ← EReal.coe_one, ← EReal.coe_mul, div_real _ _ (mul_ne_zero hx0 hx0)]

theorem dTotal_at {e g : Pairs} {H : Fin 16} {t : Fin 8192} {z : ℝ} {E G : Fin 8192 → ℝ} (hz0 : z ≠ 0)
    (hz : total e (ix3 0 H t) = (z : EReal)) (he : ∀ u, e (ix4 0 H t u) = (E u : EReal)) (hg : ∀ u, g (ix4 0 H t u) = (G u : EReal)) :
    dTotal e g (ix3 0 H t) = ((-∑ u, G u * (1 / (z * z)) * E u : ℝ) : EReal) := by
  unfold dTotal
  rw [column_at]
  pointwise []
  rw [total_at]
  pointwise []
  simp only [he, hg, recip2_at hz0 hz, ← EReal.coe_mul, coe_sum, ← EReal.coe_neg]

theorem dScore_at (h : a.Reads q k v F go) {M : Rows} {H : Fin 16} {t : Fin 8192} {x : ℝ} (hx : M (ix3 0 H t) = (x : EReal)) (u : Fin 8192) :
    dScore (expo (masked q k F) M) (dW v go) (ix4 0 H t u) = ((a.dS H t u : ℝ) : EReal) := by
  pointwise [dScore, level]
  rw [dTotal_at (scale_ne a H t x) (total_expo_at a h hx) (expo_at a h hx) (dW_at a h H t), spread_at, seen_at, expo_at a h hx, total_expo_at a h hx,
    dW_at a h, div_real _ _ (scale_ne a H t x), ← EReal.coe_add, ← EReal.coe_mul]
  have hz := (a.Z_pos H t).ne'
  have hx := (Real.exp_pos (-x)).ne'
  have e : (a.dP H t u / (a.Z H t * Real.exp (-x)) + -∑ u, a.dP H t u * (1 / (a.Z H t * Real.exp (-x) * (a.Z H t * Real.exp (-x)))) * (a.E H t u * Real.exp (-x)))
      * (a.E H t u * Real.exp (-x)) = a.dS H t u := by
    unfold Args.dS
    rw [a.Dl_eq]
    unfold Args.P
    simp only [Finset.mul_sum, Finset.sum_mul, add_mul, neg_mul, mul_sub]
    rw [sub_eq_add_neg]
    refine congrArg₂ (· + ·) (by field_simp) (congrArg Neg.neg (Finset.sum_congr rfl fun u' _ => by field_simp))
  rw [e]
  split
  · rfl
  · rename_i hu
    unfold Args.dS Args.P Args.E
    rw [if_neg hu, zero_div, zero_mul]
    rfl

theorem back_at (x : Heads) (t : Fin 8192) (l : Fin 1024) : back x (ix3 0 t l) = x (ix4 0 (headOf l) t ⟨l.val % 64, Nat.mod_lt _ (by decide)⟩) := by
  pointwise [back]
  rfl

theorem ln_headOf (l : Fin 1024) : ln (headOf l) ⟨l.val % 64, Nat.mod_lt _ (by decide)⟩ = l := by
  refine Fin.ext ?_
  simp only [ln, headOf]
  omega

section
variable {ds : Pairs} (hd : ∀ H t u, ds (ix4 0 H t u) = ((a.dS H t u : ℝ) : EReal))
include hd

theorem dQ_at (h : a.Reads q k v F go) (t : Fin 8192) (l : Fin 1024) : back (dQ ds k) (ix3 0 t l) = ((a.dq t l : ℝ) : EReal) := by
  rw [back_at]
  pointwise [dQ, level]
  simp only [heads_at, ln_headOf, hd, h.k, eighth', ← EReal.coe_mul, coe_sum]
  unfold Args.dq
  simp only [Finset.sum_mul, mul_right_comm]

theorem dK_at (h : a.Reads q k v F go) (t : Fin 8192) (l : Fin 1024) : back (dK ds q) (ix3 0 t l) = ((a.dk t l : ℝ) : EReal) := by
  rw [back_at]
  pointwise [dK, level]
  simp only [heads_at, ln_headOf, hd, h.q, eighth', ← EReal.coe_mul, coe_sum]
  unfold Args.dk
  simp only [mul_assoc, mul_comm (1 / 8 : ℝ)]

theorem dFrow_at (g : Fin 8) (t : Fin 8192) (l : Fin 128) : dFrow ds (ix3 g t l) = ((a.dFqPad g t l : ℝ) : EReal) := by
  pointwise [dFrow]
  unfold Args.dFqPad
  split
  · rw [column_at]
    pointwise []
    rw [total_at]
    simp only [hd, coe_sum]
    rfl
  · show (((0#32 : BitVec 32).toInt : ℝ) : EReal) = _
    simp

theorem dFcol_at (g : Fin 8) (j : Fin 16) (s : Fin 8) (r : Fin 512) : dFcol ds (ix4 g j s r) = ((a.dFkPad g (row j r) s : ℝ) : EReal) := by
  pointwise [dFcol]
  unfold Args.dFkPad
  split
  · rw [flatRow_at]
    pointwise []
    simp only [hd, ← EReal.coe_neg, coe_sum, Finset.sum_neg_distrib]
    rfl
  · show (((0#32 : BitVec 32).toInt : ℝ) : EReal) = _
    simp
end

theorem dV_at {w : Pairs} (h : a.Reads q k v F go) (hd : ∀ H t u, w (ix4 0 H t u) = ((a.P H t u : ℝ) : EReal)) (t : Fin 8192) (l : Fin 1024) :
    back (dV w go) (ix3 0 t l) = ((a.dv t l : ℝ) : EReal) := by
  rw [back_at]
  pointwise [dV]
  simp only [heads_at, ln_headOf, hd, h.go, ← EReal.coe_mul, coe_sum]
  unfold Args.dv
  simp only [mul_comm (a.go _ l)]

end Cert.Bwd

end

end
-- ==== Proof.Bwd.RefRes.lean ====
module

public import proofs.«01_k».proof.Proof.Bwd.Ref

@[expose] public section

set_option maxRecDepth 16384

noncomputable section

namespace Cert.Bwd

open Idealize.ShloMosaic Idealize.ShloMosaic.TcCoe Idealize.SL.Sem
open Cert.ReferenceAttnIdeal Cert.ReferenceAttnIdeal.Gen

/-! # The reference's results -/

section
variable (q k v : Act) (F : Decay) (go : Act)

/-- The exponentials, and the scores' gradient. -/
def refExpo : Pairs := expo (masked q k F) (raised (top (masked q k F)))
def refScore : Pairs := dScore (refExpo q k F) (dW v go)

/-- The five results. -/
def refQ : FVec Ideal S8192x1024 .bf16 := truncf .bf16 (shapeCast S8192x1024 (back (dQ (refScore q k v F go) k)) shapeCasts_S1x8192x1024_S8192x1024) bitsLt_bf16_f32
def refK : FVec Ideal S16x512x1024 .bf16 := truncf .bf16 (shapeCast S16x512x1024 (back (dK (refScore q k v F go) q)) shapeCasts_S1x8192x1024_S16x512x1024) bitsLt_bf16_f32
def refV : FVec Ideal S16x512x1024 .bf16 := truncf .bf16 (shapeCast S16x512x1024 (back (dV (weights (refExpo q k F)) go)) shapeCasts_S1x8192x1024_S16x512x1024) bitsLt_bf16_f32
def refFrow : FVec Ideal S8x8192x128 .f32 := dFrow (refScore q k v F go)
def refFcol : FVec Ideal S8x16x8x512 .f32 := dFcol (refScore q k v F go)
end

section
variable (a : Args) {q k v : Act} {F : Decay} {go : Act} (h : a.Reads q k v F go)
include h

theorem refScore_at (H : Fin 16) (t u : Fin 8192) : refScore q k v F go (ix4 0 H t u) = ((a.dS H t u : ℝ) : EReal) := by
  obtain ⟨x, hx⟩ := top_real a h H t
  exact dScore_at a h ((raised_at _ H t).trans hx) u

theorem refWeight_at (H : Fin 16) (t u : Fin 8192) : weights (refExpo q k F) (ix4 0 H t u) = ((a.P H t u : ℝ) : EReal) := by
  obtain ⟨x, hx⟩ := top_real a h H t
  exact weight_at a h ((raised_at _ H t).trans hx) u

theorem refQ_eq : refQ q k v F go = fun y => ((a.dq (y 0) (y 1) : ℝ) : EReal) := by
  funext y
  obtain ⟨t, l, rfl⟩ : ∃ t l, y = ix2 t l := ⟨y 0, y 1, eq_ix2 y⟩
  pointwise [refQ]
  exact dQ_at a (refScore_at a h) h t l

theorem refK_eq : refK q k v F go = fun y => ((a.dk (row (y 0) (y 1)) (y 2) : ℝ) : EReal) := by
  funext y
  obtain ⟨j, r, l, rfl⟩ : ∃ j r l, y = ix3 j r l := ⟨y 0, y 1, y 2, eq_ix3 y⟩
  pointwise [refK]
  exact dK_at a (refScore_at a h) h (row j r) l

theorem refV_eq : refV q k F go = fun y => ((a.dv (row (y 0) (y 1)) (y 2) : ℝ) : EReal) := by
  funext y
  obtain ⟨j, r, l, rfl⟩ : ∃ j r l, y = ix3 j r l := ⟨y 0, y 1, y 2, eq_ix3 y⟩
  pointwise [refV]
  exact dV_at a h (refWeight_at a h) (row j r) l

theorem refFrow_eq : refFrow q k v F go = fun y => ((a.dFqPad (y 0) (y 1) (y 2) : ℝ) : EReal) := by
  funext y
  obtain ⟨g, t, l, rfl⟩ : ∃ g t l, y = ix3 g t l := ⟨y 0, y 1, y 2, eq_ix3 y⟩
  exact dFrow_at a (refScore_at a h) g t l

theorem refFcol_eq : refFcol q k v F go = fun y => ((a.dFkPad (y 0) (row (y 1) (y 3)) (y 2) : ℝ) : EReal) := by
  funext y
  obtain ⟨g, j, s, r, rfl⟩ : ∃ g j s r, y = ix4 g j s r := ⟨y 0, y 1, y 2, y 3, eq_ix4 y⟩
  exact dFcol_at a (refScore_at a h) g j s r
end

section
variable (m : (ℓ : Loc nD τ sig) → Buf (Elt Ideal) ℓ) (c : Dev nD)

/-- The five arguments as the reference is given them. -/
def argQ : Act := m ((c.tc : Thread nD τ).loc main_arg0)
def argK : Act := m ((c.tc : Thread nD τ).loc main_arg1)
def argV : Act := m ((c.tc : Thread nD τ).loc main_arg2)
def argF : Decay := m ((c.tc : Thread nD τ).loc main_arg3)
def argO : Act := m ((c.tc : Thread nD τ).loc main_arg4)

theorem res_q : Value.res_out0 m c = refQ (argQ m c) (argK m c) (argV m c) (argF m c) (argO m c) := rfl
theorem res_k : Value.res_out1 m c = refK (argQ m c) (argK m c) (argV m c) (argF m c) (argO m c) := rfl
theorem res_v : Value.res_out2 m c = refV (argQ m c) (argK m c) (argF m c) (argO m c) := rfl
theorem res_row : Value.res_out3 m c = refFrow (argQ m c) (argK m c) (argV m c) (argF m c) (argO m c) := rfl
theorem res_col : Value.res_out4 m c = refFcol (argQ m c) (argK m c) (argV m c) (argF m c) (argO m c) := rfl
end

end Cert.Bwd

end

end
-- ==== Proof.Bwd.Value.lean ====
module

public import proofs.«01_k».proof.Defs
public import proofs.«01_k».proof.Proof.Bwd.Host
public import proofs.«01_k».proof.Proof.Bwd.Frame
public import proofs.«01_k».proof.Proof.Gen.KernelAttn
public import proofs.«01_k».proof.Proof.Bwd.Final
public import proofs.«01_k».proof.Proof.Bwd.Finite
public import proofs.«01_k».proof.Proof.Bwd.RefRes
public import Idealize.ShloMosaic.Lib.Tactic
public import Idealize.ShloMosaic.Lib.Claim

@[expose] public section

set_option maxRecDepth 16384

noncomputable section

namespace Cert.Bwd

open Idealize.ShloMosaic Idealize.ShloMosaic.TcCoe Idealize.SL.Sem
open Cert.KernelAttnIdeal Cert.KernelAttnIdeal.Gen

/-! # The gradient of the attention: kernel and reference -/

variable (m : (ℓ : Loc nD τ sig) → Buf (Elt Ideal) ℓ) (ρ : Dev nD → PrngReg)

/-- The kernel's run with its five results named. -/
theorem run_results : θ_run defs (onTc (τ := τ) (main (F := Ideal))) ⟨m, fun _ => 0, ρ⟩ fun r => ∀ c : Dev nD,
      r.2.mem ((c.tc : Thread nD τ).loc main_v64_0) = (dats m 0 c).arrAt 8 cfg0.N
      ∧ r.2.mem ((c.tc : Thread nD τ).loc main_v64_1) = (dats m 0 c).arrAt 9 cfg0.N
      ∧ r.2.mem ((c.tc : Thread nD τ).loc main_v64_2) = (dats m 0 c).arrAt 10 cfg0.N
      ∧ r.2.mem ((c.tc : Thread nD τ).loc main_v64_3) = (dats m 0 c).arrAt 11 cfg0.N
      ∧ r.2.mem ((c.tc : Thread nD τ).loc main_v64_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 8, (h c).1 9, (h c).1 10, (h c).1 11, (h c).1 12,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

/-- On finite arguments the kernel's arrays are the reference's terms. -/
theorem arrays_eq (c : Dev nD) [Cert.Pre_finite.Facts]
    (h : (Cert.Pre_finite.fn (F := Ideal) (inQ m c) (inK m c) (inV m c) (inF m c) (inO m c)).1 = (fun _ => 1#1)
      ∧ (Cert.Pre_finite.fn (F := Ideal) (inQ m c) (inK m c) (inV m c) (inF m c) (inO m c)).2 = fun _ => 1#1) :
    (dats m 0 c).arrAt 8 cfg0.N = refQ (inQ m c) (inK m c) (inV m c) (inF m c) (inO m c)
    ∧ (dats m 0 c).arrAt 9 cfg0.N = refK (inQ m c) (inK m c) (inV m c) (inF m c) (inO m c)
    ∧ (dats m 0 c).arrAt 10 cfg0.N = refV (inQ m c) (inK m c) (inF m c) (inO m c)
    ∧ (dats m 0 c).arrAt 11 cfg0.N = refFrow (inQ m c) (inK m c) (inV m c) (inF m c) (inO m c)
    ∧ (dats m 0 c).arrAt 12 cfg0.N = refFcol (inQ m c) (inK m c) (inV m c) (inF m c) (inO m c) := by
  have hr := reads_of_finite h
  have hh := holds m c _ hr
  exact ⟨(final_dq hh).trans (refQ_eq _ hr).symm, (final_dk hh).trans (refK_eq _ hr).symm, (final_dv hh).trans (refV_eq _ hr).symm,
    (final_dfq hh).trans (refFrow_eq _ hr).symm, (final_dfk hh).trans (refFcol_eq _ hr).symm⟩

end Cert.Bwd

namespace Cert.Proof
open Idealize.ShloMosaic Idealize.SL.Sem

/-- Named constants over the floats' words: each is its own word. -/
@[reducible] def asWritten : Named Bits := ⟨fun _ _ {_} b => FloatOps.ofBits _ b⟩

/-- The attention's gradient terminates, its arguments unchanged: as written, and on the ideal numbers. -/
theorem attn_frame : Cert.quiescent_KernelAttn := fun m ρ _ => by
  have h := @Cert.Bwd.frame_main Bits _ asWritten m ρ
  refine cast ?_ h
  sl_kernel_rfl

theorem attn_frame_ideal : Cert.quiescent_KernelAttnIdeal := fun m ρ _ => Cert.Bwd.frame_main m ρ

theorem attn_reference : Cert.quiescent_ReferenceAttnIdeal := by
  intro m g _
  run_from Cert.ReferenceAttnIdeal.Value.run m g
  · exact fun _ => ⟨trivial, trivial, trivial, trivial, trivial⟩
  · exact funext fun s => nomatch s

/-- The two masks, −10³⁰ as written, are named −∞. -/
theorem attn_preserves : Cert.preserves_KernelAttn_KernelAttnIdeal :=
  IdealRules.named_const.statement Cert.KernelAttnIdeal.κ "mask" .f32 0xF149F2CA#32 ⊥ rfl

/-- On finite arguments kernel and reference end with equal gradients on the ideal numbers. -/
theorem attn_value [hPre_finite : Cert.Pre_finite.Facts] : Cert.algebraic_KernelAttnIdeal_ReferenceAttnIdeal_pre_finite := by
  intro m g m' g' hpre hagree
  refine ⟨_, _, _, _, _, Cert.Bwd.run_results m g, ?_⟩
  refine (θ_run Cert.ReferenceAttnIdeal.defs _ _).mono (fun _ h c => ?_) (Cert.ReferenceAttnIdeal.Value.run (F := Ideal) m' g')
  obtain ⟨e0, e1, e2, e3, e4⟩ := Cert.Bwd.arrays_eq m c (hpre c)
  obtain ⟨a0, a1, a2, a3, a4⟩ := hagree c
  have hq : Cert.Bwd.argQ m' c = Cert.Bwd.inQ m c := a0
  have hk : Cert.Bwd.argK m' c = Cert.Bwd.inK m c := a1
  have hv : Cert.Bwd.argV m' c = Cert.Bwd.inV m c := a2
  have hF : Cert.Bwd.argF m' c = Cert.Bwd.inF m c := a3
  have ho : Cert.Bwd.argO m' c = Cert.Bwd.inO m c := a4
  have r0 := (h c).1.trans (Cert.Bwd.res_q m' c)
  have r1 := (h c).2.1.trans (Cert.Bwd.res_k m' c)
  have r2 := (h c).2.2.1.trans (Cert.Bwd.res_v m' c)
  have r3 := (h c).2.2.2.1.trans (Cert.Bwd.res_row m' c)
  have r4 := (h c).2.2.2.2.1.trans (Cert.Bwd.res_col m' c)
  rw [hq, hk, hF, ho] at r0 r1 r2 r3 r4
  rw [hv] at r0 r1 r3 r4
  exact ⟨r0.trans e0.symm, r1.trans e1.symm, r2.trans e2.symm, r3.trans e3.symm, r4.trans e4.symm, (h c).2.2.2.2.2⟩

end Cert.Proof

end

end
-- ==== Proof.Loss.Value.lean ====
module

public import proofs.«01_k».proof.Proof.Gen.KernelLossIdeal.Value
public import proofs.«01_k».proof.Proof.Gen.ReferenceLossIdeal.Run
public import Idealize.ShloMosaic.Lib.Pipeline.ValueKit

@[expose] public section

set_option maxRecDepth 16384

noncomputable section

namespace Cert.Loss

open Idealize.ShloMosaic Idealize.ShloMosaic.TcCoe Idealize.SL.Sem
open Cert.KernelLossIdeal Cert.KernelLossIdeal.Gen

/-! # The loss and its gradient -/

/-- A factor that is a real number at least zero goes through a sum of terms at least zero. -/
theorem mul_sum {n : ℕ} (a : EReal) (f : Fin n → EReal) (hf : ∀ k, 0 ≤ f k) :
    a * ∑ k, f k = ∑ k, a * f k := by
  have h : ∀ s : Finset (Fin n), 0 ≤ ∑ k ∈ s, f k ∧ a * ∑ k ∈ s, f k = ∑ k ∈ s, a * f k := by
    intro s
    induction s using Finset.cons_induction with
    | empty => simp
    | cons k s hk ih =>
      rw [Finset.sum_cons, Finset.sum_cons]
      exact ⟨add_nonneg (hf k) ih.1, by rw [EReal.left_distrib_of_nonneg (hf k) ih.1, ih.2]⟩
  exact (h Finset.univ).2

theorem word_half : Ideal.ofBits .f32 0x3F000000#32 = ((1 / 2 : ℝ) : EReal) := by
  simp [Ideal.ofBits, Ideal.ieee]; rw [← EReal.coe_mul]; norm_num

theorem word_D : Ideal.ofBits .f32 0x44800000#32 = ((1024 : ℝ) : EReal) := by
  simp [Ideal.ofBits, Ideal.ieee]; rw [← EReal.coe_mul]; norm_num

/-- The gradient in an entry. -/
def grad (e : EReal) : EReal := e * Ideal.ofBits .f32 0x3A800000#32

/-- The mean of the squares of `x - y` in row `s`. -/
def rowLoss {n : ℕ} (x y : (⟨2, ![n, 1024]⟩ : Shape).Idx → EReal) (s : Fin n) : EReal :=
  Ideal.div (∑ k : Fin 1024, (x (ix2 s k) - y (ix2 s k)) * (x (ix2 s k) - y (ix2 s k))) (Ideal.ofBits .f32 0x44800000#32)

/-- The sum over a block's rows, times one half. -/
def part (x y : S512x1024.Idx → EReal) : EReal := Ideal.ofBits .f32 0x3F000000#32 * ∑ s : Fin 512, rowLoss x y s

theorem sq_nonneg (x : EReal) : 0 ≤ x * x := by
  rcases le_total 0 x with h | h
  · exact mul_nonneg h h
  · rw [← neg_mul_neg]; exact mul_nonneg (EReal.neg_nonneg.mpr h) (EReal.neg_nonneg.mpr h)

theorem rowLoss_nonneg {n : ℕ} (x y : (⟨2, ![n, 1024]⟩ : Shape).Idx → EReal) (s : Fin n) : 0 ≤ rowLoss x y s := by
  unfold rowLoss
  rw [word_D, Ideal.div, if_neg (by norm_num)]
  refine mul_nonneg (Finset.sum_nonneg fun k _ => sq_nonneg _) ?_
  rw [← EReal.coe_inv]
  exact EReal.coe_nonneg.mpr (by norm_num)

theorem pay2_apply (x y : S512x1024.Idx → EReal) (r : Fin 512) (l : Fin 1024) :
    k0_pay2 (F := Ideal) x y (ix2 r l) = grad (x (ix2 r l) - y (ix2 r l)) := by
  pointwise [k0_pay2, k0_pay1, grad]

theorem pay4_apply (x y : S512x1024.Idx → EReal) (z : S8x128.Idx → EReal) (r : Fin 8) (l : Fin 128) :
    k0_pay4 (F := Ideal) x y z (ix2 r l) = z (ix2 r l) + part x y := by
  pointwise [k0_pay4, k0_pay1, part, rowLoss]

theorem pay3_apply (r : Fin 8) (l : Fin 128) : k0_pay3 (F := Ideal) (ix2 r l) = 0 := by
  pointwise [k0_pay3]

variable (m : (ℓ : Loc nD τ sig) → Buf (Elt Ideal) ℓ)

theorem idx : ∀ t : Fin cfg0.N, win0_0.index t = ![t.val, 0] ∧ win0_1.index t = ![t.val, 0] ∧ win0_2.index t = ![t.val, 0] :=
  (by decide +kernel : ∀ t : Fin grid0.N, _)

/-- The two arguments. -/
def argY (c : Dev nD) : S8192x1024.Idx → EReal := m ((c.tc : Thread nD τ).loc main_arg0)
def argT (c : Dev nD) : S8192x1024.Idx → EReal := m ((c.tc : Thread nD τ).loc main_arg1)

/-- The blocks of the two arguments at a point. -/
def blkY (c : Dev nD) (t : Fin cfg0.N) : S512x1024.Idx → EReal := iblk m c 0 t
def blkT (c : Dev nD) (t : Fin cfg0.N) : S512x1024.Idx → EReal := iblk m c 1 t

theorem blkY_apply (c : Dev nD) (t : Fin cfg0.N) (r : Fin 512) (l : Fin 1024) (h : t.val * 512 + r < 8192) :
    blkY m c t (ix2 r l) = argY m c (ix2 ⟨t.val * 512 + r, h⟩ l) := by
  unfold blkY argY iblk
  blk_ext [iblk, V, (idx t).1]

theorem blkT_apply (c : Dev nD) (t : Fin cfg0.N) (r : Fin 512) (l : Fin 1024) (h : t.val * 512 + r < 8192) :
    blkT m c t (ix2 r l) = argT m c (ix2 ⟨t.val * 512 + r, h⟩ l) := by
  unfold blkT argT iblk
  blk_ext [iblk, V, (idx t).2.1]

/-- What a point leaves in the two outputs. -/
theorem outs_A (c : Dev nD) (t : Fin cfg0.N) (h0 : t.val % 16 = 0) :
    outsAt0 m c t.val t.isLt = (k0_pay2 (F := Ideal) (blkY m c t) (blkT m c t), k0_pay4 (F := Ideal) (blkY m c t) (blkT m c t) (k0_pay3 (F := Ideal))) := by
  rw [outsAt0_A m c t h0]
  refine Prod.ext ?_ ?_ <;> dsimp only <;> frame_out <;> rfl

theorem outs_B (c : Dev nD) (t : Fin cfg0.N) (h0 : ¬t.val % 16 = 0) :
    outsAt0 m c t.val t.isLt = (k0_pay2 (F := Ideal) (blkY m c t) (blkT m c t),
      k0_pay4 (F := Ideal) (blkY m c t) (blkT m c t) (outsAt0 m c (t.val - 1) (Nat.lt_of_le_of_lt (Nat.sub_le _ _) t.isLt)).2) := by
  rw [outsAt0_B m c t h0]
  refine Prod.ext ?_ ?_ <;> dsimp only <;> frame_out <;> rfl

theorem outs_grad (c : Dev nD) (t : Fin cfg0.N) : (outsAt0 m c t.val t.isLt).1 = k0_pay2 (F := Ideal) (blkY m c t) (blkT m c t) := by
  by_cases h0 : t.val % 16 = 0
  · rw [outs_A m c t h0]
  · rw [outs_B m c t h0]

/-- The gradient's array. -/
theorem final2 (c : Dev nD) : (dats m 0 c).arrAt 2 cfg0.N = fun i : S8192x1024.Idx => grad (argY m c i - argT m c i) := by
  refine (dats m 0 c).arrAt_eq_of_covers 2 _ (by decide +kernel) fun t hf y => ?_
  blk_simp
  rw [after0_2, outs_grad]
  obtain ⟨r, l, rfl⟩ : ∃ (r : Fin 512) (l : Fin 1024), y = ix2 r l := ⟨y 0, y 1, eq_ix2 y⟩
  have ht : t.val < 16 := lt_of_lt_of_eq t.isLt N_0
  have hr : t.val * 512 + r < 8192 := by have := r.isLt; omega
  refine (pay2_apply _ _ r l).trans ?_
  rw [blkY_apply m c t r l hr, blkT_apply m c t r l hr]
  unfold grad argY argT
  blk_point [idx t]

/-- The loss's blocks after a point: the points' parts so far. -/
theorem outs_loss (c : Dev nD) (t : Fin cfg0.N) (ht : t.val + 1 = cfg0.N) (r : Fin 8) (l : Fin 128) :
    (outsAt0 m c t.val t.isLt).2 (ix2 r l) = ∑ p : Fin cfg0.N, part (blkY m c p) (blkT m c p) := by
  rw [Pipeline.eq_sum_fin_of_reset_step_apply_last (fun n h (_ : Unit) => (outsAt0 m c n h).2 (ix2 r l)) 16 (fun _ => 0)
    (fun t _ => part (blkY m c t) (blkT m c t)) ?_ ?_ (le_of_eq N_0) t ht (), zero_add]
  · intro t h0 _
    rw [outs_A m c t h0]
    dsimp only
    rw [pay4_apply, pay3_apply]
  · intro t h0 _
    conv_lhs => rw [outs_B m c t h0]
    exact pay4_apply _ _ _ _ _

/-- The loss's array: every entry one half of the sum over the rows. -/
theorem final3 (c : Dev nD) : (dats m 0 c).arrAt 3 cfg0.N = fun _ : S8x128.Idx =>
    Ideal.ofBits .f32 0x3F000000#32 * ∑ T : Fin 8192, rowLoss (argY m c) (argT m c) T := by
  refine (dats m 0 c).arrAt_eq_of_after_last 3 t0_15 (by decide +kernel) _ fun j => ?_
  blk_simp
  obtain ⟨r, l, rfl⟩ : ∃ (r : Fin 8) (l : Fin 128), j = ix2 r l := ⟨j 0, j 1, eq_ix2 j⟩
  rw [after0_3, outs_loss m c t0_15 rfl]
  unfold part
  rw [word_half, ← mul_sum _ _ (fun t => Finset.sum_nonneg fun s _ => rowLoss_nonneg _ _ s)]
  congr 1
  refine Fin.sum_mul_add_congr fun t s hl => ?_
  unfold rowLoss
  congr 1
  refine Finset.sum_congr rfl fun k _ => ?_
  rw [blkY_apply m c t s k hl, blkT_apply m c t s k hl]

/-- The reference's gradient and loss as terms of the two arguments. -/
def refGrad (y t : FVec Ideal S8192x1024 .f32) : FVec Ideal S8192x1024 .f32 :=
  mulf (broadcastInDim Cert.ReferenceLossIdeal.S8192x1024 ![0] Cert.ReferenceLossIdeal.Gen.bcast_S8192_S8192x1024_0 (Host.divf (broadcastInDim Cert.ReferenceLossIdeal.S8192 ![] Cert.ReferenceLossIdeal.Gen.bcast_S_S8192 (mulf (constant Cert.ReferenceLossIdeal.S_ .f32 0x3F000000#32) (constant Cert.ReferenceLossIdeal.S_ .f32 0x3F800000#32))) (broadcastInDim Cert.ReferenceLossIdeal.S8192 ![] Cert.ReferenceLossIdeal.Gen.bcast_S_S8192 (constant Cert.ReferenceLossIdeal.S_ .f32 0x44800000#32)))) (mulf (broadcastInDim Cert.ReferenceLossIdeal.S8192x1024 ![] Cert.ReferenceLossIdeal.Gen.bcast_S_S8192x1024 (constant Cert.ReferenceLossIdeal.S_ .f32 0x40000000#32)) (subf y t))

def refLoss (y t : FVec Ideal S8192x1024 .f32) : FVec Ideal S8x128 .f32 :=
  broadcastInDim Cert.ReferenceLossIdeal.S8x128 ![] Cert.ReferenceLossIdeal.Gen.bcast_S_S8x128 (mulf (constant Cert.ReferenceLossIdeal.S_ .f32 0x3F000000#32) (Host.reduceAdd (Host.divf (Host.reduceAdd (mulf (subf y t) (subf y t)) (constant Cert.ReferenceLossIdeal.S_ .f32 0x00000000#32) Cert.ReferenceLossIdeal.Gen.reducesTo_S8192x1024_S8192_d1 Cert.ReferenceLossIdeal.Gen.h_S_) (broadcastInDim Cert.ReferenceLossIdeal.S8192 ![] Cert.ReferenceLossIdeal.Gen.bcast_S_S8192 (constant Cert.ReferenceLossIdeal.S_ .f32 0x44800000#32))) (constant Cert.ReferenceLossIdeal.S_ .f32 0x00000000#32) Cert.ReferenceLossIdeal.Gen.reducesTo_S8192_S_d0 Cert.ReferenceLossIdeal.Gen.h_S_))

theorem words : Ideal.div (Ideal.ofBits .f32 0x3F000000#32) (Ideal.ofBits .f32 0x44800000#32)
    * Ideal.ofBits .f32 0x40000000#32 = Ideal.ofBits .f32 0x3A800000#32 := by
  have h2 : Ideal.ofBits .f32 0x40000000#32 = ((2 : ℝ) : EReal) := by
    simp [Ideal.ofBits, Ideal.ieee]; rw [← EReal.coe_mul]; norm_num
  have h3 : Ideal.ofBits .f32 0x3A800000#32 = ((1 / 1024 : ℝ) : EReal) := by
    simp [Ideal.ofBits, Ideal.ieee]; rw [← EReal.coe_mul]; norm_num
  rw [word_half, word_D, h2, h3, Ideal.div, if_neg (by norm_num), ← EReal.coe_inv, ← EReal.coe_mul, ← EReal.coe_mul]
  norm_num

theorem refGrad_apply (y t : S8192x1024.Idx → EReal) (r : Fin 8192) (l : Fin 1024) :
    refGrad y t (ix2 r l) = grad (y (ix2 r l) - t (ix2 r l)) := by
  pointwise [refGrad, grad]
  rw [← words, ← mul_assoc, mul_comm]

theorem refLoss_apply (y t : S8192x1024.Idx → EReal) (r : Fin 8) (l : Fin 128) :
    refLoss y t (ix2 r l) = Ideal.ofBits .f32 0x3F000000#32 * ∑ T : Fin 8192, rowLoss y t T := by
  pointwise [refLoss, rowLoss]

/-- The two output arrays are the reference's terms. -/
theorem value2 (c : Dev nD) : (dats m 0 c).arrAt 2 cfg0.N = refGrad (argY m c) (argT m c) := by
  rw [final2]
  funext i
  obtain ⟨r, l, rfl⟩ : ∃ (r : Fin 8192) (l : Fin 1024), i = ix2 r l := ⟨i 0, i 1, eq_ix2 i⟩
  exact (refGrad_apply _ _ r l).symm

theorem value3 (c : Dev nD) : (dats m 0 c).arrAt 3 cfg0.N = refLoss (argY m c) (argT m c) := by
  rw [final3]
  funext i
  obtain ⟨r, l, rfl⟩ : ∃ (r : Fin 8) (l : Fin 128), i = ix2 r l := ⟨i 0, i 1, eq_ix2 i⟩
  exact (refLoss_apply _ _ r l).symm

end Cert.Loss

end
-- ==== Proof.Loss.Claims.lean ====
module

public import proofs.«01_k».proof.Defs
public import proofs.«01_k».proof.Proof.Gen.KernelLoss.Frame
public import proofs.«01_k».proof.Proof.Loss.Value
public import proofs.«01_k».proof.Proof.Gen.ReferenceLossIdeal.Run
public import Idealize.ShloMosaic.Lib.Claim

@[expose] public section

noncomputable section

namespace Cert.Proof

open Idealize.ShloMosaic Idealize.SL.Sem

/-- The loss and its gradient: kernel and reference end with equal results on the ideal numbers. -/
theorem loss_value : Cert.algebraic_KernelLossIdeal_ReferenceLossIdeal := by
  intro m g m' g' _ hagree
  refine ⟨_, _, Cert.KernelLossIdeal.Value.run_blocks m g, ?_⟩
  refine (θ_run Cert.ReferenceLossIdeal.defs _ _).mono (fun _ h c => ?_) (Cert.ReferenceLossIdeal.Value.run (F := Ideal) m' g')
  obtain ⟨a0, a1⟩ := hagree c
  obtain ⟨r0, r1, k⟩ := h c
  rw [a0, a1] at r0 r1
  exact ⟨r0.trans (Cert.Loss.value2 m c).symm, r1.trans (Cert.Loss.value3 m c).symm, k⟩

/-- The reference terminates, its arguments unchanged. -/
theorem loss_reference : Cert.quiescent_ReferenceLossIdeal := by
  intro m g _
  run_from Cert.ReferenceLossIdeal.Value.run m g
  · exact fun _ => ⟨trivial, trivial⟩
  · exact funext fun s => nomatch s

end Cert.Proof

end

end
-- ==== Proof.Norm.Ref.lean ====
module

public import proofs.«01_k».proof.Proof.Norm.Rms
public import proofs.«01_k».proof.Proof.Gen.ReferenceAttnOutIdeal.Run

@[expose] public section

set_option maxRecDepth 16384

noncomputable section

namespace Cert.Norm

open Idealize.ShloMosaic Idealize.ShloMosaic.TcCoe Idealize.SL.Sem
open Cert.ReferenceAttnOutIdeal Cert.ReferenceAttnOutIdeal.Gen

/-! # The references' terms for the norm, and what they hold in an entry -/

/-- The row of a matrix. -/
def row {n w : ℕ} (X : (⟨2, ![n, w]⟩ : Shape).Idx → EReal) (T : Fin n) : Fin w → EReal := fun k => X (ix2 T k)

def refPower (M : FVec Ideal S8192x1024 .f32) : FVec Ideal S8192x1 .f32 :=
  addf (Host.divf (broadcastInDim S8192x1 ![0] bcast_S8192_S8192x1_0 (Host.reduceAdd (mulf M M) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- `x · (mean(x²) + ε)^(-1/2)`. -/
def refUnit (M : FVec Ideal S8192x1024 .f32) : FVec Ideal S8192x1024 .f32 :=
  mulf M (broadcastInDim S8192x1024 ![0, 1] bcast_S8192x1_S8192x1024_0_1 (Host.rsqrt (refPower M)))

/-- The gradient with respect to `x`. -/
def refBack (M : FVec Ideal S8192x1024 .f32) (G : FVec Ideal S1x1024 .f32) (D : FVec Ideal S8192x1024 .f32) : FVec Ideal S8192x1024 .f32 :=
  addf (mulf (mulf D (broadcastInDim S8192x1024 ![0, 1] bcast_S1x1024_S8192x1024_0_1 G)) (broadcastInDim S8192x1024 ![0, 1] bcast_S8192x1_S8192x1024_0_1 (Host.rsqrt (refPower M))))
    (mulf (broadcastInDim S8192x1024 ![0] bcast_S8192_S8192x1024_0 (Host.reduceAdd (Host.divf (mulf (shapeCast _ (Host.reduceAdd (mulf M (mulf D (broadcastInDim S8192x1024 ![0, 1] bcast_S1x1024_S8192x1024_0_1 G))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (refPower M)) (refPower M)))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) M))

/-- The gradient with respect to the norm's weights. -/
def refWeights (M D : FVec Ideal S8192x1024 .f32) : FVec Ideal S1x1024 .f32 :=
  shapeCast _ (Host.reduceAdd (mulf (refUnit M) D) (constant S_ .f32 0x00000000#32) reducesTo_S8192x1024_S1024_d0 h_S_) shapeCasts_S1024_S1x1024

theorem refPower_apply (M : S8192x1024.Idx → EReal) (T : Fin 8192) : refPower M (ix2 T 0) = power (row M T) := by
  pointwise [refPower, power, row]

theorem refUnit_apply (M : S8192x1024.Idx → EReal) (T : Fin 8192) (l : Fin 1024) :
    refUnit M (ix2 T l) = M (ix2 T l) * scale (row M T) := by
  pointwise [refUnit]
  rw [refPower_apply]; rfl

theorem refBack_apply (M : S8192x1024.Idx → EReal) (G : S1x1024.Idx → EReal) (D : S8192x1024.Idx → EReal) (T : Fin 8192) (l : Fin 1024) :
    refBack M G D (ix2 T l) = vjp (row M T) (row G 0) (row D T) l := by
  pointwise [refBack]
  rw [Fin.sum_univ_one, refPower_apply]
  rfl

theorem refWeights_apply (M D : S8192x1024.Idx → EReal) (l : Fin 1024) :
    refWeights M D (ix2 0 l) = ∑ T : Fin 8192, D (ix2 T l) * (M (ix2 T l) * scale (row M T)) := by
  pointwise [refWeights]
  refine Finset.sum_congr rfl fun T _ => ?_
  rw [refUnit_apply, mul_comm]

end Cert.Norm

end
-- ==== Proof.Norm.Rows.lean ====
module

public import Idealize.ShloMosaic.Lib.Pipeline.ValueKit
public import Idealize.ShloMosaic.Lib.Pipeline.ReadBack
public import Idealize.ShloMosaic.Lib.WritesUnit

@[expose] public section

noncomputable section

namespace Cert.Norm

open Idealize.ShloMosaic Idealize.SL.Sem

/-! # Stores and loads of one row of a matrix -/

variable {Val : EltTy → Type} [∀ e, Nonempty (Val e)] {sig : RefSig} {κ : Kind} {sp : Space} {e : EltTy} {R n : ℕ}

/-- Reading after the row `q` was written: in row `q` the payload, elsewhere what was there. -/
theorem read_row (v : View sig κ sp (⟨2, ![R, n]⟩ : Shape) e) (f : v.ty.Contents Val) (q : ℕ)
    (inb : ∀ a : Fin 2, (![q, 0] : Fin 2 → ℕ) a + (![1, n] : Fin 2 → ℕ) a ≤ (![R, n] : Fin 2 → ℕ) a)
    (w : (⟨2, ![1, n]⟩ : Shape).Idx → Val e) (L : List (View.Piece Val (⟨2, ![R, n]⟩ : Shape) e)) (r : Fin R) (l : Fin n) :
    v.read Val (v.writes Val f ((⟨Rect.unit (s := ⟨2, ![R, n]⟩) ![q, 0] ![1, n] inb, w⟩ : View.Piece Val (⟨2, ![R, n]⟩ : Shape) e) :: L)) (ix2 r l)
      = if r.val = q then w (ix2 0 l) else v.read Val (v.writes Val f L) (ix2 r l) := by
  split
  · rename_i h
    exact View.read_writes_cons_rows_of_mem v f inb w L (ix2 r l) (ix2 0 l) rfl (by show r.val = q + 0; omega) rfl
  · rename_i h
    exact View.read_writes_cons_rows_of_not_mem (o := q) (W := 1) v f inb w L (ix2 r l) rfl rfl (by show r.val < q ∨ q + 1 ≤ r.val; omega)

/-- The same for contents that are unknown before the writes. -/
theorem canon_row (q : ℕ)
    (inb : ∀ a : Fin 2, (![q, 0] : Fin 2 → ℕ) a + (![1, n] : Fin 2 → ℕ) a ≤ (![R, n] : Fin 2 → ℕ) a)
    (w : (⟨2, ![1, n]⟩ : Shape).Idx → Val e) (L : List (View.Piece Val (⟨2, ![R, n]⟩ : Shape) e)) (r : Fin R) (l : Fin n) :
    View.canon ((⟨Rect.unit (s := ⟨2, ![R, n]⟩) ![q, 0] ![1, n] inb, w⟩ : View.Piece Val (⟨2, ![R, n]⟩ : Shape) e) :: L) (ix2 r l)
      = if r.val = q then w (ix2 0 l) else View.canon L (ix2 r l) := by
  split
  · rename_i h
    have hy : (Rect.unit (s := ⟨2, ![R, n]⟩) ![q, 0] ![1, n] inb).emb (ix2 0 l) = ix2 r l := by
      funext a
      match a with
      | ⟨0, _⟩ => exact Fin.ext (show q + 1 * 0 = r.val by omega)
      | ⟨1, _⟩ => exact Fin.ext (show 0 + 1 * l.val = l.val by omega)
    rw [← hy]
    exact View.canon_cons_emb _ _ _ _
  · rename_i h
    refine View.canon_cons_of_not_mem _ _ fun hm => ?_
    have := (Rect.mem_set_unit (inb := inb)).mp hm 0
    have h2 : q ≤ r.val ∧ r.val < q + 1 := this
    omega

/-- A write to another row leaves the row. -/
theorem canon_row_miss (q : ℕ)
    (inb : ∀ a : Fin 2, (![q, 0] : Fin 2 → ℕ) a + (![1, n] : Fin 2 → ℕ) a ≤ (![R, n] : Fin 2 → ℕ) a)
    (w : (⟨2, ![1, n]⟩ : Shape).Idx → Val e) (L : List (View.Piece Val (⟨2, ![R, n]⟩ : Shape) e)) (r : Fin R) (l : Fin n) (h : r.val ≠ q)
    {z : Val e} (hz : View.canon L (ix2 r l) = z) :
    View.canon ((⟨Rect.unit (s := ⟨2, ![R, n]⟩) ![q, 0] ![1, n] inb, w⟩ : View.Piece Val (⟨2, ![R, n]⟩ : Shape) e) :: L) (ix2 r l) = z :=
  (canon_row q inb w L r l).trans ((if_neg h).trans hz)

/-- A row loaded. -/
theorem ld_row (X : (⟨2, ![R, n]⟩ : Shape).Idx → Val e) (q : ℕ) (hq : q < R)
    (inb : ∀ a : Fin 2, (![q, 0] : Fin 2 → ℕ) a + (![1, n] : Fin 2 → ℕ) a ≤ (![R, n] : Fin 2 → ℕ) a) (l : Fin n) :
    View.ld X (Rect.unit (s := ⟨2, ![R, n]⟩) ![q, 0] ![1, n] inb) (ix2 0 l) = X (ix2 ⟨q, hq⟩ l) := by
  refine congrArg X (funext fun a => ?_)
  match a with
  | ⟨0, _⟩ => exact Fin.ext (show q + 1 * 0 = q by omega)
  | ⟨1, _⟩ => exact Fin.ext (show 0 + 1 * l.val = l.val by omega)

/-- A row loaded after writes. -/
theorem readCov_row (v : View sig κ sp (⟨2, ![R, n]⟩ : Shape) e) (L : List (View.Piece Val (⟨2, ![R, n]⟩ : Shape) e)) (q : ℕ) (hq : q < R)
    (inb : ∀ a : Fin 2, (![q, 0] : Fin 2 → ℕ) a + (![1, n] : Fin 2 → ℕ) a ≤ (![R, n] : Fin 2 → ℕ) a) (l : Fin n) :
    v.readCov L (Rect.unit (s := ⟨2, ![R, n]⟩) ![q, 0] ![1, n] inb).toLoadRect (ix2 0 l) = View.canon L (ix2 ⟨q, hq⟩ l) := by
  rw [View.readCov_eq_canon']
  refine congrArg (View.canon L) (funext fun a => ?_)
  match a with
  | ⟨0, _⟩ => exact Fin.ext (show q + 1 * 0 = q by omega)
  | ⟨1, _⟩ => exact Fin.ext (show 0 + 1 * l.val = l.val by omega)

/-- The whole matrix written. -/
theorem canon_whole (inb : ∀ a : Fin 2, (![0, 0] : Fin 2 → ℕ) a + (![R, n] : Fin 2 → ℕ) a ≤ (![R, n] : Fin 2 → ℕ) a)
    (w : (⟨2, ![R, n]⟩ : Shape).Idx → Val e) (L : List (View.Piece Val (⟨2, ![R, n]⟩ : Shape) e)) :
    View.canon ((⟨Rect.unit (s := ⟨2, ![R, n]⟩) ![0, 0] ![R, n] inb, w⟩ : View.Piece Val (⟨2, ![R, n]⟩ : Shape) e) :: L) = w :=
  View.canon_cons_unit_lit' (S := ⟨2, ![R, n]⟩) inb w L fun a =>
    match a with
    | ⟨0, _⟩ => rfl
    | ⟨1, _⟩ => rfl

end Cert.Norm

end
-- ==== Proof.AttnOut.Point.lean ====
module

public import proofs.«01_k».proof.Proof.Norm.Ref
public import proofs.«01_k».proof.Proof.Norm.Rows
public import proofs.«01_k».proof.Proof.Gen.KernelAttnOutIdeal.Value
public import Idealize.ShloMosaic.Lib.Pipeline.ValueKit

@[expose] public section

set_option maxRecDepth 16384

noncomputable section

namespace Cert.AttnOut

open Idealize.ShloMosaic Idealize.ShloMosaic.TcCoe Idealize.SL.Sem
open Cert.KernelAttnOutIdeal Cert.KernelAttnOutIdeal.Gen Cert.Norm

/-! # What one point of the attention's output gradient computes -/

theorem pay5_apply (x : S512x1024.Idx → EReal) (r : Fin 512) : k0_pay5 (F := Ideal) x (ix2 r 0) = scale (row x r) := by
  pointwise [k0_pay5, k0_pay4, scale, power, row]

theorem pay6_apply (x : S512x1024.Idx → EReal) (r : Fin 512) (l : Fin 1024) :
    k0_pay6 (F := Ideal) x (ix2 r l) = x (ix2 r l) * scale (row x r) := by
  pointwise [k0_pay6, k0_pay4]
  rw [pay5_apply]

theorem pay7_apply (x d : S512x1024.Idx → EReal) (l : Fin 1024) :
    k0_pay7 (F := Ideal) x d (ix2 0 l) = ∑ r : Fin 512, d (ix2 r l) * (x (ix2 r l) * scale (row x r)) := by
  pointwise [k0_pay7]
  simp only [pay6_apply]

theorem pay8_apply (x : S512x1024.Idx → EReal) (g : S1x1024.Idx → EReal) (d : S512x1024.Idx → EReal) (r : Fin 512) (l : Fin 1024) :
    k0_pay8 (F := Ideal) x g d (ix2 r l) = back (row x r) (row g 0) (row d r) l := by
  pointwise [k0_pay8]
  simp only [pay6_apply, pay5_apply]
  rfl

theorem pay9_apply (x : S512x1024.Idx → EReal) (g : S1x1024.Idx → EReal) (d : S512x1024.Idx → EReal) (w : S1024x1024.Idx → EReal)
    (r : Fin 512) (l : Fin 1024) :
    k0_pay9 (F := Ideal) x g d w (ix2 r l) = ∑ k : Fin 1024, back (row x r) (row g 0) (row d r) k * w (ix2 l k) := by
  pointwise [k0_pay9]
  simp only [pay8_apply]

theorem pay10_apply (x : S512x1024.Idx → EReal) (g : S1x1024.Idx → EReal) (d : S512x1024.Idx → EReal) (w : S1024x1024.Idx → EReal)
    (r : Fin 512) (l : Fin 1024) : k0_pay10 (F := Ideal) x g d w (ix2 r l) = k0_pay9 (F := Ideal) x g d w (ix2 r l) := by
  pointwise [k0_pay10]

theorem pay1_apply (p o : S512x1024.Idx → EReal) (h : S1024x128.Idx → EReal) (r : Fin 512) (l : Fin 128) :
    k0_pay1 (F := Ideal) p o h (ix2 r l) = ∑ k : Fin 1024, p (ix2 r k) * o (ix2 r k) * h (ix2 k l) := by
  pointwise [k0_pay1]

theorem pay2_apply (r : Fin 8) (l : Fin 1024) : k0_pay2 (F := Ideal) (ix2 r l) = 0 := by
  pointwise [k0_pay2]

theorem pay3_apply (p s : S1x1024.Idx → EReal) (l : Fin 1024) : k0_pay3 (F := Ideal) p s (ix2 0 l) = s (ix2 0 l) + p (ix2 0 l) := by
  pointwise [k0_pay3]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] :=
  (by decide +kernel : ∀ t : Fin grid0.N, _)

theorem idx_out : ∀ t : Fin cfg0.N, win0_6.index t = ![t.val, 0] ∧ win0_7.index t = ![t.val, 0] ∧ win0_8.index t = ![t.val, 0] :=
  (by decide +kernel : ∀ t : Fin grid0.N, _)

/-- The arrays the region reads: cotangent, product, attention's output, weights, norm's weights, heads. -/
def inD (c : Dev nD) : S8192x1024.Idx → EReal := V m c main_arg0
def inM (c : Dev nD) : S8192x1024.Idx → EReal := V m c (Pipeline.arrRef spec0 1)
def inO (c : Dev nD) : S8192x1024.Idx → EReal := V m c (Pipeline.arrRef spec0 2)
def inW (c : Dev nD) : S1024x1024.Idx → EReal := V m c (Pipeline.arrRef spec0 3)
def inG (c : Dev nD) : S1x1024.Idx → EReal := V m c (Pipeline.arrRef spec0 4)
def inH (c : Dev nD) : S1024x128.Idx → EReal := V m c (Pipeline.arrRef spec0 5)

/-- Their blocks at a point. -/
def blkD (c : Dev nD) (t : Fin cfg0.N) : S512x1024.Idx → EReal := iblk m c 0 t
def blkM (c : Dev nD) (t : Fin cfg0.N) : S512x1024.Idx → EReal := iblk m c 1 t
def blkO (c : Dev nD) (t : Fin cfg0.N) : S512x1024.Idx → EReal := iblk m c 2 t
def blkW (c : Dev nD) (t : Fin cfg0.N) : S1024x1024.Idx → EReal := iblk m c 3 t
def blkG (c : Dev nD) (t : Fin cfg0.N) : S1x1024.Idx → EReal := iblk m c 4 t
def blkH (c : Dev nD) (t : Fin cfg0.N) : S1024x128.Idx → EReal := iblk m c 5 t

theorem blkD_apply (c : Dev nD) (t : Fin cfg0.N) (r : Fin 512) (l : Fin 1024) (h : t.val * 512 + r < 8192) :
    blkD m c t (ix2 r l) = inD m c (ix2 ⟨t.val * 512 + r, h⟩ l) := by
  unfold blkD inD iblk
  blk_ext [iblk, (idx t).1]

theorem blkM_apply (c : Dev nD) (t : Fin cfg0.N) (r : Fin 512) (l : Fin 1024) (h : t.val * 512 + r < 8192) :
    blkM m c t (ix2 r l) = inM m c (ix2 ⟨t.val * 512 + r, h⟩ l) := by
  unfold blkM inM iblk
  blk_ext [iblk, (idx t).2.1]

theorem blkO_apply (c : Dev nD) (t : Fin cfg0.N) (r : Fin 512) (l : Fin 1024) (h : t.val * 512 + r < 8192) :
    blkO m c t (ix2 r l) = inO m c (ix2 ⟨t.val * 512 + r, h⟩ l) := by
  unfold blkO inO iblk
  blk_ext [iblk, (idx t).2.2.1]

theorem blkW_eq (c : Dev nD) (t : Fin cfg0.N) : blkW m c t = inW m c := by
  funext i
  obtain ⟨r, l, rfl⟩ : ∃ (r : Fin 1024) (l : Fin 1024), i = ix2 r l := ⟨i 0, i 1, eq_ix2 i⟩
  unfold blkW inW iblk
  blk_ext [iblk, (idx t).2.2.2.1]

theorem blkG_eq (c : Dev nD) (t : Fin cfg0.N) : blkG m c t = inG m c := by
  funext i
  obtain ⟨r, l, rfl⟩ : ∃ (r : Fin 1) (l : Fin 1024), i = ix2 r l := ⟨i 0, i 1, eq_ix2 i⟩
  unfold blkG inG iblk
  blk_ext [iblk, (idx t).2.2.2.2.1]

theorem blkH_eq (c : Dev nD) (t : Fin cfg0.N) : blkH m c t = inH m c := by
  funext i
  obtain ⟨r, l, rfl⟩ : ∃ (r : Fin 1024) (l : Fin 128), i = ix2 r l := ⟨i 0, i 1, eq_ix2 i⟩
  unfold blkH inH iblk
  blk_ext [iblk, (idx t).2.2.2.2.2]

theorem row_blkM (c : Dev nD) (t : Fin cfg0.N) (r : Fin 512) (h : t.val * 512 + r < 8192) :
    row (blkM m c t) r = row (inM m c) ⟨t.val * 512 + r, h⟩ := funext fun k => blkM_apply m c t r k h

theorem row_blkD (c : Dev nD) (t : Fin cfg0.N) (r : Fin 512) (h : t.val * 512 + r < 8192) :
    row (blkD m c t) r = row (inD m c) ⟨t.val * 512 + r, h⟩ := funext fun k => blkD_apply m c t r k h

/-- What a point leaves in the outputs that it writes whole. -/
theorem outs_dm (c : Dev nD) (t : Fin cfg0.N) : (outsAt0 m c t.val t.isLt).1 = k0_pay8 (F := Ideal) (blkM m c t) (blkG m c t) (blkD m c t) := by
  by_cases h0 : t.val % 16 = 0
  · rw [outsAt0_A m c t h0]; dsimp only; frame_out; rfl
  · rw [outsAt0_B m c t h0]; dsimp only; frame_out; rfl

theorem outs_do (c : Dev nD) (t : Fin cfg0.N) : (outsAt0 m c t.val t.isLt).2.1 = k0_pay9 (F := Ideal) (blkM m c t) (blkG m c t) (blkD m c t) (blkW m c t) := by
  by_cases h0 : t.val % 16 = 0
  · rw [outsAt0_A m c t h0]; dsimp only; frame_out; rfl
  · rw [outsAt0_B m c t h0]; dsimp only; frame_out; rfl

theorem outs_delta (c : Dev nD) (t : Fin cfg0.N) : (outsAt0 m c t.val t.isLt).2.2.1
    = k0_pay1 (F := Ideal) (k0_pay10 (F := Ideal) (blkM m c t) (blkG m c t) (blkD m c t) (blkW m c t)) (blkO m c t) (blkH m c t) := by
  by_cases h0 : t.val % 16 = 0
  · rw [outsAt0_A m c t h0]; dsimp only; frame_out; rfl
  · rw [outsAt0_B m c t h0]; dsimp only; frame_out; rfl

theorem sums_A (c : Dev nD) (t : Fin cfg0.N) (h0 : t.val % 16 = 0) (r : Fin 8) (l : Fin 1024) : (outsAt0 m c t.val t.isLt).2.2.2 (ix2 r l)
    = 0 + if r = 0 then k0_pay7 (F := Ideal) (blkM m c t) (blkD m c t) (ix2 0 l) else 0 := by
  rw [outsAt0_A m c t h0]; dsimp only; frame_out
  refine (canon_row 0 _ _ _ r l).trans ?_
  rw [zero_add]
  have hZ : ∀ (r : Fin 8) (l : Fin 1024), View.canon [(⟨Rect.unit (s := S8x1024) ![0, 0] ![8, 1024] inb_S8x1024_S8x1024_0_0, k0_pay2 (F := Ideal)⟩ : View.Piece (Elt Ideal) S8x1024 .f32)] (ix2 r l) = (0 : EReal) :=
    fun r l => (congrFun (canon_whole _ _ _) _).trans (pay2_apply r l)
  by_cases hr : r = 0
  · subst hr
    rw [if_pos (rfl : (0 : Fin 8) = 0)]
    refine (if_pos rfl).trans ?_
    refine (pay3_apply _ _ l).trans ?_
    refine (congrArg (· + _) ((readCov_row _ _ 0 (by decide) _ l).trans (hZ 0 l))).trans (zero_add _)
  · rw [if_neg hr]
    exact (if_neg fun h => hr (Fin.ext h)).trans (hZ r l)

theorem sums_B (c : Dev nD) (t : Fin cfg0.N) (h0 : ¬t.val % 16 = 0) (r : Fin 8) (l : Fin 1024) : (outsAt0 m c t.val t.isLt).2.2.2 (ix2 r l)
    = (outsAt0 m c (t.val - 1) (Nat.lt_of_le_of_lt (Nat.sub_le _ _) t.isLt)).2.2.2 (ix2 r l)
      + if r = 0 then k0_pay7 (F := Ideal) (blkM m c t) (blkD m c t) (ix2 0 l) else 0 := by
  conv_lhs => rw [outsAt0_B m c t h0]
  dsimp only; frame_out
  refine (read_row _ _ 0 _ _ _ r l).trans ?_
  by_cases hr : r = 0
  · subst hr
    rw [if_pos (rfl : (0 : Fin 8) = 0)]
    refine (if_pos rfl).trans ?_
    refine (pay3_apply _ _ l).trans ?_
    exact congrArg (· + _) (ld_row _ 0 (by decide) _ l)
  · rw [if_neg hr, add_zero]
    refine (if_neg fun h => hr (Fin.ext h)).trans ?_
    exact congrFun ((hs0_9 t).read_unread _) _

end Cert.AttnOut

end
-- ==== Proof.AttnOut.Final.lean ====
module

public import proofs.«01_k».proof.Proof.AttnOut.Point

@[expose] public section

set_option maxRecDepth 16384

noncomputable section

namespace Cert.AttnOut

open Idealize.ShloMosaic Idealize.ShloMosaic.TcCoe Idealize.SL.Sem
open Cert.KernelAttnOutIdeal Cert.KernelAttnOutIdeal.Gen Cert.Norm

/-! # The four output arrays after the run -/

/-- The gradient with respect to the product. -/
def dmArr (M : S8192x1024.Idx → EReal) (G : S1x1024.Idx → EReal) (D : S8192x1024.Idx → EReal) (T : Fin 8192) (l : Fin 1024) : EReal :=
  back (row M T) (row G 0) (row D T) l

/-- The gradient with respect to the attention's output. -/
def doArr (M : S8192x1024.Idx → EReal) (G : S1x1024.Idx → EReal) (D : S8192x1024.Idx → EReal) (W : S1024x1024.Idx → EReal) (T : Fin 8192) (l : Fin 1024) : EReal :=
  ∑ k : Fin 1024, dmArr M G D T k * W (ix2 l k)

/-- The gradient with respect to the norm's weights. -/
def dgArr (M D : S8192x1024.Idx → EReal) (l : Fin 1024) : EReal :=
  ∑ T : Fin 8192, D (ix2 T l) * (M (ix2 T l) * scale (row M T))

variable (m : (ℓ : Loc nD τ sig) → Buf (Elt Ideal) ℓ)

theorem lt_rows (t : Fin cfg0.N) (r : Fin 512) : t.val * 512 + r < 8192 := by
  have ht : t.val < 16 := lt_of_lt_of_eq t.isLt N_0
  have := r.isLt
  omega

theorem final_dm (c : Dev nD) : (dats m 0 c).arrAt 6 cfg0.N = fun i : S8192x1024.Idx => dmArr (inM m c) (inG m c) (inD m c) (i 0) (i 1) := by
  generalize hA : (fun i : S8192x1024.Idx => dmArr (inM m c) (inG m c) (inD m c) (i 0) (i 1)) = A
  refine (dats m 0 c).arrAt_eq_of_covers 6 _ (by decide +kernel) fun t hf y => ?_
  blk_simp
  rw [after0_6, outs_dm]
  obtain ⟨r, l, rfl⟩ : ∃ (r : Fin 512) (l : Fin 1024), y = ix2 r l := ⟨y 0, y 1, eq_ix2 y⟩
  refine (pay8_apply _ _ _ r l).trans ?_
  rw [row_blkM m c t r (lt_rows t r), row_blkD m c t r (lt_rows t r), blkG_eq]
  refine (congrFun hA (ix2 ⟨t.val * 512 + r, lt_rows t r⟩ l)).trans ?_
  blk_point [idx_out t]

theorem final_do (c : Dev nD) : (dats m 0 c).arrAt 7 cfg0.N = fun i : S8192x1024.Idx => doArr (inM m c) (inG m c) (inD m c) (inW m c) (i 0) (i 1) := by
  generalize hA : (fun i : S8192x1024.Idx => doArr (inM m c) (inG m c) (inD m c) (inW m c) (i 0) (i 1)) = A
  refine (dats m 0 c).arrAt_eq_of_covers 7 _ (by decide +kernel) fun t hf y => ?_
  blk_simp
  rw [after0_7, outs_do]
  obtain ⟨r, l, rfl⟩ : ∃ (r : Fin 512) (l : Fin 1024), y = ix2 r l := ⟨y 0, y 1, eq_ix2 y⟩
  refine (pay9_apply _ _ _ _ r l).trans ?_
  rw [row_blkM m c t r (lt_rows t r), row_blkD m c t r (lt_rows t r), blkG_eq, blkW_eq]
  refine (congrFun hA (ix2 ⟨t.val * 512 + r, lt_rows t r⟩ l)).trans ?_
  blk_point [idx_out t]

theorem final_delta (c : Dev nD) : (dats m 0 c).arrAt 8 cfg0.N = fun i : S8192x128.Idx =>
    ∑ k : Fin 1024, doArr (inM m c) (inG m c) (inD m c) (inW m c) (i 0) k * inO m c (ix2 (i 0) k) * inH m c (ix2 k (i 1)) := by
  generalize hA : (fun i : S8192x128.Idx =>
    ∑ k : Fin 1024, doArr (inM m c) (inG m c) (inD m c) (inW m c) (i 0) k * inO m c (ix2 (i 0) k) * inH m c (ix2 k (i 1))) = A
  refine (dats m 0 c).arrAt_eq_of_covers 8 _ (by decide +kernel) fun t hf y => ?_
  blk_simp
  rw [after0_8, outs_delta]
  obtain ⟨r, l, rfl⟩ : ∃ (r : Fin 512) (l : Fin 128), y = ix2 r l := ⟨y 0, y 1, eq_ix2 y⟩
  refine (pay1_apply _ _ _ r l).trans ?_
  simp only [pay10_apply, pay9_apply]
  rw [row_blkM m c t r (lt_rows t r), row_blkD m c t r (lt_rows t r), blkG_eq, blkW_eq, blkH_eq]
  simp only [fun k => blkO_apply m c t r k (lt_rows t r)]
  refine (congrFun hA (ix2 ⟨t.val * 512 + r, lt_rows t r⟩ l)).trans ?_
  blk_point [idx_out t]

theorem sums_last (c : Dev nD) (t : Fin cfg0.N) (ht : t.val + 1 = cfg0.N) (r : Fin 8) (l : Fin 1024) :
    (outsAt0 m c t.val t.isLt).2.2.2 (ix2 r l)
      = ∑ p : Fin cfg0.N, if r = 0 then k0_pay7 (F := Ideal) (blkM m c p) (blkD m c p) (ix2 0 l) else 0 := by
  rw [Pipeline.eq_sum_fin_of_reset_step_apply_last (fun n h (_ : Unit) => (outsAt0 m c n h).2.2.2 (ix2 r l)) 16 (fun _ => 0)
    (fun t _ => if r = 0 then k0_pay7 (F := Ideal) (blkM m c t) (blkD m c t) (ix2 0 l) else 0)
    (fun t h0 _ => sums_A m c t h0 r l) (fun t h0 _ => sums_B m c t h0 r l) (le_of_eq N_0) t ht (), zero_add]

theorem final_sums (c : Dev nD) : (dats m 0 c).arrAt 9 cfg0.N = fun i : S8x1024.Idx => if (i 0).val = 0 then dgArr (inM m c) (inD m c) (i 1) else (0 : EReal) := by
  refine (dats m 0 c).arrAt_eq_of_after_last 9 t0_15 (by decide +kernel) _ fun j => ?_
  blk_simp
  obtain ⟨r, l, rfl⟩ : ∃ (r : Fin 8) (l : Fin 1024), j = ix2 r l := ⟨j 0, j 1, eq_ix2 j⟩
  rw [after0_9, sums_last m c t0_15 rfl]
  by_cases hr : r = 0
  · subst hr
    simp only [if_pos, pay7_apply]
    refine Eq.trans (b := dgArr (inM m c) (inD m c) l) ?_ (if_pos rfl).symm
    unfold dgArr
    refine Fin.sum_mul_add_congr fun t s hl => ?_
    rw [row_blkM m c t s hl, blkM_apply m c t s l hl, blkD_apply m c t s l hl]
  · simp only [if_neg hr]
    exact (show ∑ p : Fin cfg0.N, (0 : EReal) = 0 from Finset.sum_const_zero).trans (if_neg fun h => hr (Fin.ext h)).symm

end Cert.AttnOut

end
-- ==== Proof.AttnOut.Reference.lean ====
module

public import proofs.«01_k».proof.Proof.Norm.Ref

@[expose] public section

set_option maxRecDepth 16384

noncomputable section

namespace Cert.AttnOut

open Idealize.ShloMosaic Idealize.ShloMosaic.TcCoe Idealize.SL.Sem
open Cert.ReferenceAttnOutIdeal Cert.ReferenceAttnOutIdeal.Gen Cert.Norm

/-! # The reference's four results -/

/-- The output product. -/
def refM (o : FVec Ideal S8192x1024 .f32) (w : FVec Ideal S1024x1024 .f32) : FVec Ideal S8192x1024 .f32 :=
  Host.dotGeneral dot_S8192x1024_S1024x1024_S8192x1024_1_0_0_1_n_n none o w

def refDo (d o : FVec Ideal S8192x1024 .f32) (w : FVec Ideal S1024x1024 .f32) (g : FVec Ideal S1x1024 .f32) : FVec Ideal S8192x1024 .f32 :=
  Host.dotGeneral dot_S8192x1024_S1024x1024_S8192x1024_1_1_0_0_n_n none (refBack (refM o w) g d) w

def refDelta (d o : FVec Ideal S8192x1024 .f32) (w : FVec Ideal S1024x1024 .f32) (g : FVec Ideal S1x1024 .f32) : FVec Ideal S8192x128 .f32 :=
  pad S8192x128 ![0, 0] ![0, 112] ![0, 0] (Host.reduceAdd (shapeCast _ (mulf (refDo d o w g) o) shapeCasts_S8192x1024_S8192x16x64) (constant S_ .f32 0x00000000#32) reducesTo_S8192x16x64_S8192x16_d2 h_S_) (sitofp .f32 (constantI S_ 32 0#32)) pads_S8192x16_S8192x128_000_01120 h_S_

def refSums (d o : FVec Ideal S8192x1024 .f32) (w : FVec Ideal S1024x1024 .f32) : FVec Ideal S8x1024 .f32 :=
  pad S8x1024 ![0, 0] ![7, 0] ![0, 0] (refWeights (refM o w) d) (sitofp .f32 (constantI S_ 32 0#32)) pads_S1x1024_S8x1024_070_000 h_S_

theorem zero_word : FloatOps.sitofp (F := Ideal) FTy.f32 (0#32 : BitVec 32) = (0 : EReal) := by
  show (((0#32 : BitVec 32).toInt : ℝ) : EReal) = 0
  simp

theorem refM_apply (o : S8192x1024.Idx → EReal) (w : S1024x1024.Idx → EReal) (T : Fin 8192) (l : Fin 1024) :
    refM o w (ix2 T l) = ∑ k : Fin 1024, o (ix2 T k) * w (ix2 k l) := by
  pointwise [refM]

theorem refDo_apply (d o : S8192x1024.Idx → EReal) (w : S1024x1024.Idx → EReal) (g : S1x1024.Idx → EReal) (T : Fin 8192) (l : Fin 1024) :
    refDo d o w g (ix2 T l) = ∑ k : Fin 1024, vjp (row (refM o w) T) (row g 0) (row d T) k * w (ix2 l k) := by
  pointwise [refDo]
  simp only [refBack_apply]

theorem refDelta_apply (d o : S8192x1024.Idx → EReal) (w : S1024x1024.Idx → EReal) (g : S1x1024.Idx → EReal) (T : Fin 8192) (l : Fin 128) :
    refDelta d o w g (ix2 T l) = if l.val < 16 then ∑ e : Fin 64, (if h : l.val * 64 + e.val < 1024 then
      refDo d o w g (ix2 T ⟨l.val * 64 + e.val, h⟩) * o (ix2 T ⟨l.val * 64 + e.val, h⟩) else 0) else 0 := by
  pointwise [refDelta]
  split
  · exact Finset.sum_congr rfl fun e _ => by rw [dif_pos (show l.val * 64 + e.val < 1024 by have := e.isLt; omega)]
  · exact zero_word

theorem refSums_apply (d o : S8192x1024.Idx → EReal) (w : S1024x1024.Idx → EReal) (r : Fin 8) (l : Fin 1024) :
    refSums d o w (ix2 r l) = if r = 0 then ∑ T : Fin 8192, d (ix2 T l) * (refM o w (ix2 T l) * scale (row (refM o w) T)) else 0 := by
  pointwise [refSums]
  by_cases h : r = 0
  · subst h
    exact (dif_pos (by decide)).trans ((refWeights_apply _ _ l).trans (if_pos rfl).symm)
  · have h1 : ¬r.val < 1 := fun h' => h (Fin.ext (by show r.val = 0; omega))
    exact (dif_neg h1).trans (zero_word.trans (if_neg h).symm)

end Cert.AttnOut

end
-- ==== Proof.AttnOut.Value.lean ====
module

public import proofs.«01_k».proof.Pre_finite_ao
public import proofs.«01_k».proof.Proof.Norm.Finite
public import proofs.«01_k».proof.Proof.AttnOut.Final
public import proofs.«01_k».proof.Proof.AttnOut.Reference

@[expose] public section

set_option maxRecDepth 16384

noncomputable section

namespace Cert.AttnOut

open Idealize.ShloMosaic Idealize.ShloMosaic.TcCoe Idealize.ShloMosaic.StableHlo Idealize.SL.Sem
open Cert.KernelAttnOutIdeal Cert.KernelAttnOutIdeal.Gen Cert.Norm

/-! # The four outputs are the reference's results -/

variable (m : (ℓ : Loc nD τ sig) → Buf (Elt Ideal) ℓ)

/-- The four arguments: cotangent, attention's output, weights, norm's weights. -/
def argD (c : Dev nD) : S8192x1024.Idx → EReal := m ((c.tc : Thread nD τ).loc main_arg0)
def argO (c : Dev nD) : S8192x1024.Idx → EReal := m ((c.tc : Thread nD τ).loc main_arg1)
def argW (c : Dev nD) : S1024x1024.Idx → EReal := m ((c.tc : Thread nD τ).loc main_arg2)
def argG (c : Dev nD) : S1x1024.Idx → EReal := m ((c.tc : Thread nD τ).loc main_arg3)

/-- What the host operations leave in the arrays the region reads. -/
theorem inD_eq (c : Dev nD) : inD m c = argD m c := by
  unfold inD V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inO_eq (c : Dev nD) : inO m c = argO m c := by
  unfold inO V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inG_eq (c : Dev nD) : inG m c = argG m c := by
  unfold inG V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inM_eq (c : Dev nD) : inM m c = refM (argO m c) (argW m c) := by
  unfold inM V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inW_eq (c : Dev nD) : inW m c = argW m c := by
  unfold inW V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

/-- The array of the heads as the host writes it. -/
def heads : S1024x128.Idx → EReal :=
  select (cmpi .eq (shapeCast S1024x128 (iotaInDim S16x64x128 32 0) shapeCasts_S16x64x128_S1024x128) (iotaInDim S1024x128 32 1))
    (broadcastInDim S1024x128 ![] bcast_S_S1024x128 (constant (F := Ideal) S_ .f32 0x3F800000#32))
    (broadcastInDim S1024x128 ![] bcast_S_S1024x128 (constant (F := Ideal) S_ .f32 0x00000000#32))

theorem inH_eq (c : Dev nD) : inH m c = heads := by
  unfold inH V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem heads_apply (k : Fin 1024) (l : Fin 128) : heads (ix2 k l) = if k.val / 64 = l.val then 1 else 0 := by
  pointwise [heads]
  have hk : (BitVec.ofNat 32 (k.val / 64) = BitVec.ofNat 32 l.val) ↔ k.val / 64 = l.val := by
    refine ⟨fun h => ?_, fun h => by rw [h]⟩
    have h' := congrArg BitVec.toNat h
    rwa [BitVec.toNat_ofNat, BitVec.toNat_ofNat, Nat.mod_eq_of_lt (by have := k.isLt; omega), Nat.mod_eq_of_lt (by have := l.isLt; omega)] at h'
  by_cases h : k.val / 64 = l.val
  · rw [if_pos h, hk.mpr h]; simp [Scalar.select, IntOp.cmpi]
  · rw [if_neg h, WordCmp.cmpi_eq_eq, decide_eq_false (mt hk.mp h)]; rfl

/-- A sum of products with the array of the heads is the sum over the head's 64 columns. -/
theorem sum_heads (a : Fin 1024 → EReal) (l : Fin 128) : ∑ k : Fin 1024, a k * heads (ix2 k l)
    = if l.val < 16 then ∑ e : Fin 64, (if h : l.val * 64 + e.val < 1024 then a ⟨l.val * 64 + e.val, h⟩ else 0) else 0 := by
  have h1 : ∑ t : Fin 16, ∑ e : Fin 64, (if h : t.val * 64 + e.val < 1024 then a ⟨t.val * 64 + e.val, h⟩ * (if t.val = l.val then 1 else 0) else 0)
      = ∑ k : Fin 1024, a k * heads (ix2 k l) := Fin.sum_mul_add_congr fun t e hl => by
    rw [dif_pos hl, heads_apply, show (t.val * 64 + e.val) / 64 = t.val by have := e.isLt; omega]
  rw [← h1]
  split
  · rename_i h
    rw [Finset.sum_eq_single (⟨l.val, h⟩ : Fin 16) (fun t _ ht => Finset.sum_eq_zero fun e _ => ?_) (fun hn => absurd (Finset.mem_univ _) hn)]
    · refine Finset.sum_congr rfl fun e _ => ?_
      rw [if_pos rfl]; simp only [mul_one]
    · rw [if_neg fun h' => ht (Fin.ext h')]; simp
  · rename_i h
    refine Finset.sum_eq_zero fun t _ => Finset.sum_eq_zero fun e _ => ?_
    rw [if_neg fun h' : t.val = l.val => h (h' ▸ t.isLt)]; simp

section
variable [Cert.Pre_finite_ao.Facts]

/-- Under the precondition the arguments are real. -/
theorem reals {d o : S8192x1024.Idx → EReal} {w : S1024x1024.Idx → EReal} {g : S1x1024.Idx → EReal}
    (h : (Cert.Pre_finite_ao.fn (F := Ideal) d o w g).1 = (fun _ => 1#1) ∧ (Cert.Pre_finite_ao.fn (F := Ideal) d o w g).2.1 = (fun _ => 1#1)
      ∧ (Cert.Pre_finite_ao.fn (F := Ideal) d o w g).2.2.1 = (fun _ => 1#1) ∧ (Cert.Pre_finite_ao.fn (F := Ideal) d o w g).2.2.2 = fun _ => 1#1) :
    (∀ i, IsReal (d i)) ∧ (∀ i, IsReal (o i)) ∧ (∀ i, IsReal (w i)) ∧ ∀ i, IsReal (g i) :=
  ⟨fun i => isReal_of_lt (congrFun h.1 i), fun i => isReal_of_lt (congrFun h.2.1 i), fun i => isReal_of_lt (congrFun h.2.2.1 i),
    fun i => isReal_of_lt (congrFun h.2.2.2 i)⟩
end

variable {d o : S8192x1024.Idx → EReal} {w : S1024x1024.Idx → EReal} {g : S1x1024.Idx → EReal}

theorem refM_isReal (ho : ∀ i, IsReal (o i)) (hw : ∀ i, IsReal (w i)) (T : Fin 8192) (k : Fin 1024) : IsReal (row (refM o w) T k) := by
  unfold row
  rw [refM_apply]
  exact IsReal.sum _ _ fun k => (ho _).mul (hw _)

/-- The kernel's and the reference's form of the product's gradient. -/
theorem dmArr_eq (hd : ∀ i, IsReal (d i)) (ho : ∀ i, IsReal (o i)) (hw : ∀ i, IsReal (w i)) (hg : ∀ i, IsReal (g i)) (T : Fin 8192) (l : Fin 1024) :
    dmArr (refM o w) g d T l = vjp (row (refM o w) T) (row g 0) (row d T) l :=
  (vjp_eq_back (refM_isReal ho hw T) (fun _ => hg _) (fun _ => hd _) l).symm

theorem doArr_eq (hd : ∀ i, IsReal (d i)) (ho : ∀ i, IsReal (o i)) (hw : ∀ i, IsReal (w i)) (hg : ∀ i, IsReal (g i)) (T : Fin 8192) (l : Fin 1024) :
    doArr (refM o w) g d w T l = refDo d o w g (ix2 T l) := by
  rw [refDo_apply]
  exact Finset.sum_congr rfl fun k _ => by rw [dmArr_eq hd ho hw hg]

/-- The four output arrays are the reference's four results. -/
theorem values (c : Dev nD) (hd : ∀ i, IsReal (argD m c i)) (ho : ∀ i, IsReal (argO m c i)) (hw : ∀ i, IsReal (argW m c i)) (hg : ∀ i, IsReal (argG m c i)) :
    (dats m 0 c).arrAt 6 cfg0.N = refBack (refM (argO m c) (argW m c)) (argG m c) (argD m c)
    ∧ (dats m 0 c).arrAt 7 cfg0.N = refDo (argD m c) (argO m c) (argW m c) (argG m c)
    ∧ (dats m 0 c).arrAt 8 cfg0.N = refDelta (argD m c) (argO m c) (argW m c) (argG m c)
    ∧ (dats m 0 c).arrAt 9 cfg0.N = refSums (argD m c) (argO m c) (argW m c) := by
  rw [final_dm, final_do, final_delta, final_sums, inM_eq, inD_eq, inG_eq, inW_eq, inO_eq, inH_eq]
  refine ⟨funext fun i => ?_, funext fun i => ?_, funext fun i => ?_, funext fun i => ?_⟩
  · obtain ⟨r, l, rfl⟩ : ∃ (r : Fin 8192) (l : Fin 1024), i = ix2 r l := ⟨i 0, i 1, eq_ix2 i⟩
    exact (dmArr_eq hd ho hw hg r l).trans (refBack_apply _ _ _ r l).symm
  · obtain ⟨r, l, rfl⟩ : ∃ (r : Fin 8192) (l : Fin 1024), i = ix2 r l := ⟨i 0, i 1, eq_ix2 i⟩
    exact doArr_eq hd ho hw hg r l
  · obtain ⟨r, l, rfl⟩ : ∃ (r : Fin 8192) (l : Fin 128), i = ix2 r l := ⟨i 0, i 1, eq_ix2 i⟩
    refine (sum_heads (fun k => doArr (refM (argO m c) (argW m c)) (argG m c) (argD m c) (argW m c) r k * argO m c (ix2 r k)) l).trans ?_
    simp only [doArr_eq hd ho hw hg]
    exact (refDelta_apply _ _ _ _ r l).symm
  · obtain ⟨r, l, rfl⟩ : ∃ (r : Fin 8) (l : Fin 1024), i = ix2 r l := ⟨i 0, i 1, eq_ix2 i⟩
    refine Eq.trans ?_ (refSums_apply _ _ _ r l).symm
    by_cases hr : r = 0
    · subst hr
      exact (if_pos rfl).trans (if_pos rfl).symm
    · exact (if_neg fun h => hr (Fin.ext h)).trans (if_neg hr).symm

end Cert.AttnOut

end

end
-- ==== Proof.AttnOut.Claims.lean ====
module

public import proofs.«01_k».proof.Defs
public import proofs.«01_k».proof.Proof.Gen.KernelAttnOut.Frame
public import proofs.«01_k».proof.Proof.AttnOut.Value
public import proofs.«01_k».proof.Proof.Gen.ReferenceAttnOutIdeal.Run
public import Idealize.ShloMosaic.Lib.Claim

@[expose] public section

noncomputable section

namespace Cert.Proof

open Idealize.ShloMosaic Idealize.SL.Sem

/-- The gradient through the attention's output projection and its norm: on finite arguments kernel and reference end with equal results on the ideal numbers. -/
theorem attn_out_value [hPre_finite_ao : Cert.Pre_finite_ao.Facts] : Cert.algebraic_KernelAttnOutIdeal_ReferenceAttnOutIdeal_pre_finite_ao := by
  intro m g m' g' hpre hagree
  refine ⟨_, _, _, _, Cert.KernelAttnOutIdeal.Value.run_blocks m g, ?_⟩
  refine (θ_run Cert.ReferenceAttnOutIdeal.defs _ _).mono (fun _ h c => ?_) (Cert.ReferenceAttnOutIdeal.Value.run (F := Ideal) m' g')
  obtain ⟨hd, ho, hw, hg⟩ := Cert.AttnOut.reals (hpre c)
  obtain ⟨e0, e1, e2, e3⟩ := Cert.AttnOut.values m c hd ho hw hg
  obtain ⟨a0, a1, a2, a3⟩ := hagree c
  obtain ⟨r0, r1, r2, r3, k⟩ := h c
  rw [a0, a1, a2, a3] at r0 r1 r2
  rw [a0, a1, a2] at r3
  exact ⟨r0.trans e0.symm, r1.trans e1.symm, r2.trans e2.symm, r3.trans e3.symm, k⟩

/-- The reference terminates, its arguments unchanged. -/
theorem attn_out_reference : Cert.quiescent_ReferenceAttnOutIdeal := by
  intro m g _
  run_from Cert.ReferenceAttnOutIdeal.Value.run m g
  · exact fun _ => ⟨trivial, trivial, trivial, trivial⟩
  · exact funext fun s => nomatch s

end Cert.Proof

end

end
-- ==== Proof.AttnFwd.Step.lean ====
module

public import proofs.«01_k».proof.Proof.Gen.KernelAttnFwdIdeal.Value
public import proofs.«01_k».proof.Proof.Bwd.Host
public import Idealize.ShloMosaic.Lib.Pipeline.ValueKit

@[expose] public section

set_option maxRecDepth 16384

noncomputable section

namespace Cert.Fwd

open Idealize.ShloMosaic Idealize.ShloMosaic.TcCoe Idealize.SL.Sem
open Cert.KernelAttnFwdIdeal Cert.KernelAttnFwdIdeal.Gen
open Cert.Bwd (Args row col hd coe_sum fold_max_real)

/-! # One key block of the forward pass

At a query block the call carries, for each of its rows, the largest score so far, the sum of the
exponentials of the scores less it, and the values weighted by those exponentials. -/

/-- What the call carries. -/
abbrev St (F : FTy → Type) : Type := FVec F S512x1 .f32 × FVec F S512x1 .f32 × FVec F S512x128 .f32

section
variable {F : FTy → Type} [FloatOps F] [Named F]

/-- The scores of the query block against a key block. -/
def scores (qm : FVec F S512x128 .bf16) (cc : FVec F S512x1 .f32) (K : Vec F S1x512x128 .bf16) (f : Vec F S1x1x1x512 .f32) : FVec F S512x512 .f32 :=
  addf (matmul dot_S512x128_S512x128_S512x512_1_1_0_0_n_n none qm (shapeCast S512x128 K shapeCasts_S1x512x128_S512x128) (constant S512x512 .f32 0x00000000#32))
    (subf (broadcastTo S512x512 cc broadcasts_S512x1_S512x512)
      (broadcastTo S512x512 (shapeCast S1x512 f shapeCasts_S1x1x1x512_S1x512) broadcasts_S1x512_S512x512))

/-- The scores against the query block's own key block, where a row does not see the keys after it. -/
def ownScores (qm : FVec F S512x128 .bf16) (cc : FVec F S512x1 .f32) (K : Vec F S1x512x128 .bf16) (f : Vec F S1x1x1x512 .f32) : FVec F S512x512 .f32 :=
  select k0_pay5 (scores qm cc K f) (broadcast S512x512 (Named.named κ "mask" 0xF149F2CA#32))

variable (s : FVec F S512x512 .f32) (V : Vec F S1x512x128 .bf16) (x : St F)

/-- The largest score once the key block is seen. -/
def newMax (m : FVec F S512x1 .f32) : FVec F S512x1 .f32 :=
  maximumf m (shapeCast S512x1 (multiReduction .maximumf [1] S512 s 0xFF800000#32 reduces_S512x512_S512 (.inl rfl) rfl) shapeCasts_S512_S512x1)

/-- What the sums so far are scaled by. -/
def fade (m : FVec F S512x1 .f32) : FVec F S512x1 .f32 := exp (subf m (newMax s m))

/-- The exponentials of the key block's scores. -/
def expos (m : FVec F S512x1 .f32) : FVec F S512x512 .f32 := exp (subf s (broadcastTo S512x512 (newMax s m) broadcasts_S512x1_S512x512))

/-- The sum of exponentials once the key block is seen. -/
def newSum : FVec F S512x1 .f32 :=
  addf (mulf (fade s x.1) x.2.1)
    (shapeCast S512x1 (multiReduction .add [1] S512 (expos s x.1) 0x00000000#32 reduces_S512x512_S512 (.inl rfl) rfl) shapeCasts_S512_S512x1)

/-- The weighted values once the key block is seen. -/
def newVals : FVec F S512x128 .f32 :=
  addf (mulf (broadcastTo S512x128 (fade s x.1) broadcasts_S512x1_S512x128) x.2.2)
    (matmul dot_S512x512_S512x128_S512x128_1_0_0_1_n_n none (truncf .bf16 (expos s x.1) bitsLt_bf16_f32)
      (shapeCast S512x128 V shapeCasts_S1x512x128_S512x128) (constant S512x128 .f32 0x00000000#32))

/-- One visit of a key block. -/
def step : St F := (newMax s x.1, newSum s x, newVals s V x)
end

/-! ## Over the reals -/

theorem minus_inf : Ideal.ofBits .f32 0xFF800000#32 = (⊥ : EReal) := by simp [Ideal.ofBits, Ideal.ieee]

section
variable (s : FVec Ideal S512x512 .f32) (V : Vec Ideal S1x512x128 .bf16) (x : St Ideal) (m : FVec Ideal S512x1 .f32) (r : Fin 512)

theorem newMax_at : newMax s m (ix2 r 0) = max (m (ix2 r 0)) (Finset.univ.fold max (⊥ : EReal) fun c => s (ix2 r c)) := by
  pointwise [newMax]
  rw [minus_inf]

theorem fade_at : fade s m (ix2 r 0) = Ideal.exp (m (ix2 r 0) - newMax s m (ix2 r 0)) := by
  pointwise [fade]

theorem expos_at (c : Fin 512) : expos s m (ix2 r c) = Ideal.exp (s (ix2 r c) - newMax s m (ix2 r 0)) := by
  pointwise [expos]

theorem newSum_at : newSum s x (ix2 r 0) = (fade s x.1 (ix2 r 0) * x.2.1 (ix2 r 0) + ∑ c, expos s x.1 (ix2 r c) : EReal) := by
  pointwise [newSum]

theorem newVals_at (l : Fin 128) :
    newVals s V x (ix2 r l) = (fade s x.1 (ix2 r 0) * x.2.2 (ix2 r l) + ∑ c, expos s x.1 (ix2 r c) * V (ix3 0 c l) : EReal) := by
  pointwise [newVals]
end

variable (a : Args) (g : Fin 8) (h : Fin 2) (t : Fin 8192)

/-- The sum of exponentials over the key blocks before `n`, and the values they weight. -/
def part (n : ℕ) : ℝ := ∑ j : Fin 16, if j.val < n then ∑ c, a.E (hd g h) t (row j c) else 0
def partV (n : ℕ) (l : Fin 128) : ℝ := ∑ j : Fin 16, if j.val < n then ∑ c, a.E (hd g h) t (row j c) * a.v (row j c) (col g l) else 0

theorem part_zero : part a g h t 0 = 0 := by simp [part]
theorem partV_zero (l : Fin 128) : partV a g h t 0 l = 0 := by simp [partV]

/-- Row `r` of the state `x` holds what the key blocks before `n` give the row at position `t`. -/
def Reached (n : ℕ) (x : St Ideal) (r : Fin 512) : Prop :=
  (n = 0 ∧ x.1 (ix2 r 0) = (⊥ : EReal) ∧ x.2.1 (ix2 r 0) = (0 : EReal) ∧ ∀ l, x.2.2 (ix2 r l) = (0 : EReal))
    ∨ ∃ M : ℝ, x.1 (ix2 r 0) = (M : EReal) ∧ x.2.1 (ix2 r 0) = ((part a g h t n * Real.exp (-M) : ℝ) : EReal)
      ∧ ∀ l, x.2.2 (ix2 r l) = ((partV a g h t n l * Real.exp (-M) : ℝ) : EReal)

variable {a g h t} {s : FVec Ideal S512x512 .f32} {V : Vec Ideal S1x512x128 .bf16} {x : St Ideal} {r : Fin 512}

/-- A visit adds its key block. -/
theorem Reached.step (j : Fin 16) (hx : Reached a g h t j.val x r)
    (hs : ∀ c, s (ix2 r c) = if row j c ≤ t then ((a.S (hd g h) t (row j c) : ℝ) : EReal) else ⊥) (h0 : row j 0 ≤ t)
    (hV : ∀ c l, V (ix3 0 c l) = ((a.v (row j c) (col g l) : ℝ) : EReal)) : Reached a g h t (j.val + 1) (step s V x) r := by
  obtain ⟨M₁, hM₁⟩ := fold_max_real (fun c => s (ix2 r c)) (fun c => by
    rw [hs]; split
    · exact EReal.coe_lt_top _
    · exact bot_lt_top) 0 (by rw [hs, if_pos h0]; exact EReal.bot_lt_coe _)
  obtain ⟨M, hM⟩ : ∃ M : ℝ, newMax s x.1 (ix2 r 0) = (M : EReal) := by
    rw [newMax_at, hM₁]
    rcases hx with ⟨-, hm, -⟩ | ⟨M₀, hm, -⟩
    · exact ⟨M₁, by rw [hm]; exact max_eq_right bot_le⟩
    · exact ⟨max M₀ M₁, by rw [hm]; exact (EReal.coe_strictMono.monotone.map_max).symm⟩
  have hf : fade s x.1 (ix2 r 0) * x.2.1 (ix2 r 0) = ((part a g h t j.val * Real.exp (-M) : ℝ) : EReal)
      ∧ ∀ l, fade s x.1 (ix2 r 0) * x.2.2 (ix2 r l) = ((partV a g h t j.val l * Real.exp (-M) : ℝ) : EReal) := by
    rw [fade_at, hM]
    rcases hx with ⟨hj, hm, hl, hv⟩ | ⟨M₀, hm, hl, hv⟩
    · rw [hj, hl, part_zero]
      refine ⟨by simp, fun l => ?_⟩
      rw [hv, partV_zero]; simp
    · rw [hm, hl, ← EReal.coe_sub, Ideal.exp_coe, ← EReal.coe_mul]
      have e : Real.exp (M₀ - M) * Real.exp (-M₀) = Real.exp (-M) := by rw [← Real.exp_add]; congr 1; ring
      refine ⟨by rw [← e]; congr 1; ring, fun l => ?_⟩
      rw [hv, ← EReal.coe_mul, ← e]; congr 1; ring
  have he (c : Fin 512) : expos s x.1 (ix2 r c) = ((a.E (hd g h) t (row j c) * Real.exp (-M) : ℝ) : EReal) := by
    rw [expos_at, hM, hs]
    unfold Args.E
    split
    · rw [← EReal.coe_sub, Ideal.exp_coe, sub_eq_add_neg, Real.exp_add]
    · rw [EReal.bot_sub, Ideal.exp_bot, zero_mul]; rfl
  refine .inr ⟨M, hM, ?_, fun l => ?_⟩
  · show newSum s x (ix2 r 0) = _
    rw [newSum_at, hf.1]
    simp only [he, coe_sum, ← EReal.coe_add]
    congr 1
    unfold part
    rw [Cert.Bwd.sum_lt_succ _ _ j.isLt, add_mul, ← Finset.sum_mul]
  · show newVals s V x (ix2 r l) = _
    rw [newVals_at, hf.2 l]
    simp only [he, hV, ← EReal.coe_mul, coe_sum, ← EReal.coe_add]
    congr 1
    unfold partV
    rw [Cert.Bwd.sum_lt_succ _ _ j.isLt, add_mul, Finset.sum_mul (s := Finset.univ) (f := fun c => a.E (hd g h) t (row j c) * a.v (row j c) (col g l))]
    congr 1
    exact Finset.sum_congr rfl fun c _ => by ring

end Cert.Fwd

end

end
-- ==== Proof.AttnFwd.Loops.lean ====
module

public import proofs.«01_k».proof.Proof.AttnFwd.Step
public import Idealize.ShloMosaic.Lib.WholeRead

@[expose] public section

set_option maxRecDepth 16384

noncomputable section

namespace Cert.Fwd

open Idealize.ShloMosaic Idealize.ShloMosaic.TcCoe Idealize.ShloMosaic.Tactic Idealize.SL.Sem
open Cert.KernelAttnFwdIdeal Cert.KernelAttnFwdIdeal.Gen
open Cert.Bwd (slab rowOf)

/-! # What a query block's two walks over the key blocks leave

Each head visits the key blocks before the query block and then, its later keys hidden, the query
block's own. -/

section
variable {F : FTy → Type} [FloatOps F] [Named F]

/-- The state before any key block. -/
def start : St F := (k0_pay13, k0_pay14, k0_pay15)

/-- The state of head `h` once the key blocks before `n` are visited. -/
def visits (qm : FVec F S512x128 .bf16) (cc : FVec F S512x1 .f32) (K V : Vec F S16x512x128 .bf16) (FK : Vec F S1x16x8x512 .f32)
    (h : ℕ) (hh : h < 8) (x : St F) : ℕ → St F
  | 0 => x
  | n + 1 => if hn : n < 16 then
      step (scores qm cc (slab K n hn) (rowOf FK n h hn hh)) (slab V n hn) (visits qm cc K V FK h hh x n)
    else visits qm cc K V FK h hh x n

theorem visits_succ (qm : FVec F S512x128 .bf16) (cc : FVec F S512x1 .f32) (K V : Vec F S16x512x128 .bf16) (FK : Vec F S1x16x8x512 .f32)
    (h : ℕ) (hh : h < 8) (x : St F) (n : ℕ) (hn : n < 16) : visits qm cc K V FK h hh x (n + 1)
      = step (scores qm cc (slab K n hn) (rowOf FK n h hn hh)) (slab V n hn) (visits qm cc K V FK h hh x n) := dif_pos hn

/-- The state of head `h` once its own key block, the block `n`, is visited too. -/
def visitsOwn (qm : FVec F S512x128 .bf16) (cc : FVec F S512x1 .f32) (K V : Vec F S16x512x128 .bf16) (FK : Vec F S1x16x8x512 .f32)
    (h : ℕ) (hh : h < 8) (n : ℕ) (hn : n < 16) : St F :=
  step (ownScores qm cc (slab K n hn) (rowOf FK n h hn hh)) (slab V n hn) (visits qm cc K V FK h hh start n)

/-! ## Loads -/

theorem ld_slab {e : EltTy} (x : Vec F S16x512x128 e) {off : Fin 3 → ℕ} {j : ℕ}
    (inb : ∀ d, off d + S1x512x128.size d ≤ S16x512x128.size d) (h : off = ![j, 0, 0]) (hj : j < 16) :
    View.ld x (Rect.unit (s := S16x512x128) off S1x512x128.size inb) = slab x j hj := by
  subst h; rfl

theorem ld_row (x : Vec F S1x16x8x512 .f32) {off : Fin 4 → ℕ} {j h : ℕ}
    (inb : ∀ d, off d + S1x1x1x512.size d ≤ S1x16x8x512.size d) (ho : off = ![0, j, h, 0]) (hj : j < 16) (hh : h < 8) :
    View.ld x (Rect.unit (s := S1x16x8x512) off S1x1x1x512.size inb) = rowOf x j h hj hh := by
  subst ho; rfl

theorem read_slab {e : EltTy} {a : Memref sig .tc .vmem S16x512x128 e} (ha : a.IsWhole) (x : Vec F S16x512x128 e) {off : Fin 3 → ℕ} {j : ℕ}
    (inb : ∀ d, off d + S1x512x128.size d ≤ S16x512x128.size d) (h : off = ![j, 0, 0]) (hj : j < 16) :
    a.view.readAt (Elt F) (Rect.unit (s := S16x512x128) off S1x512x128.size inb).toLoadRect (ha.unread x) = slab x j hj := by
  subst h; funext y; exact ha.readAt_unread x _ y

theorem read_row {a : Memref sig .tc .vmem S1x16x8x512 .f32} (ha : a.IsWhole) (x : Vec F S1x16x8x512 .f32) {off : Fin 4 → ℕ} {j h : ℕ}
    (inb : ∀ d, off d + S1x1x1x512.size d ≤ S1x16x8x512.size d) (ho : off = ![0, j, h, 0]) (hj : j < 16) (hh : h < 8) :
    a.view.readAt (Elt F) (Rect.unit (s := S1x16x8x512) off S1x1x1x512.size inb).toLoadRect (ha.unread x) = rowOf x j h hj hh := by
  subst ho; funext y; exact ha.readAt_unread x _ y

/-! ## The loops' counts -/

theorem trips_before (i : grid0.Coords) :
    Scf.trips (0#32) (Scalar.addi (0#32) (Scalar.muli (Scalar.divsi (Scalar.subi (BitVec.ofNat 32 (i 1).val) 0#32) 1#32) 1#32)) 1#32 = (i 1).val := by
  revert i; decide +kernel

theorem trips_rest (i : grid0.Coords) :
    Scf.trips (Scalar.addi (0#32) (Scalar.muli (Scalar.divsi (Scalar.subi (BitVec.ofNat 32 (i 1).val) 0#32) 1#32) 1#32))
      (Scalar.addi (0#32) (Scalar.subi (BitVec.ofNat 32 (i 1).val) 0#32)) 1#32 = 0 := by
  revert i; decide +kernel

theorem block_lt (i : grid0.Coords) : (i 1).val < 16 := (i 1).isLt

/-! ## The loops -/

variable {arg2 : Memref sig .tc .vmem S512x128 .bf16} {harg2 : arg2.IsWhole}
  {arg3 : Memref sig .tc .vmem S16x512x128 .bf16} {harg3 : arg3.IsWhole}
  {arg4 : Memref sig .tc .vmem S16x512x128 .bf16} {harg4 : arg4.IsWhole}
  {arg5 : Memref sig .tc .vmem S1x512x128 .f32} {harg5 : arg5.IsWhole}
  {arg6 : Memref sig .tc .vmem S1x16x8x512 .f32} {harg6 : arg6.IsWhole}
  {arg7 : Memref sig .tc .vmem S512x128 .bf16} {harg7 : arg7.IsWhole}
  {arg8 : Memref sig .tc .vmem S512x128 .f32} {harg8 : arg8.IsWhole}
  {arg9 : Memref sig .tc .vmem S1x512x128 .f32} {harg9 : arg9.IsWhole}
variable (c : Dev nD) (i : grid0.Coords) (K V : Vec F S16x512x128 .bf16) (FK : Vec F S1x16x8x512 .f32) (x : St F)

theorem loop1 (v4 : Vec F S512x128 .bf16) (v6 : Vec F S1x512x128 .f32) (n : ℕ) (hn : n ≤ (k0_t1_loop i).trips) :
    st_k0_t1 Variants.none c none i arg2 harg2 arg3 harg3 arg4 harg4 arg5 harg5 arg6 harg6 arg7 harg7 arg8 harg8 arg9 harg9
      v4 v6 (harg3.unread K) (harg4.unread V) (harg6.unread FK) x n
      = visits (k0_pay11 v4) (k0_pay12 v6) K V FK 0 (by decide) x n := by
  induction n with
  | zero => rfl
  | succ n ih =>
    have hk : n < 16 := lt_of_lt_of_le (Nat.lt_of_succ_le hn) ((k0_t1_abs i).2.1.trans (by decide))
    rw [visits_succ _ _ _ _ _ _ _ _ _ hk, ← ih (Nat.le_of_succ_le hn)]
    refine (st_k0_t1_succ Variants.none c none i arg2 harg2 arg3 harg3 arg4 harg4 arg5 harg5 arg6 harg6 arg7 harg7 arg8 harg8 arg9 harg9
      v4 v6 (harg3.unread K) (harg4.unread V) (harg6.unread FK) x ⟨n, Nat.lt_of_succ_le hn⟩).trans ?_
    generalize st_k0_t1 Variants.none c none i arg2 harg2 arg3 harg3 arg4 harg4 arg5 harg5 arg6 harg6 arg7 harg7 arg8 harg8 arg9 harg9
      v4 v6 (harg3.unread K) (harg4.unread V) (harg6.unread FK) x n = y
    unfold tripR_k0_t1 trip_k0_t1
    dsimp only
    rw [read_slab harg3 K _ (k0_off1_eq i _) hk, read_slab harg4 V _ (k0_off1_eq i _) hk, read_row harg6 FK _ (k0_off2_eq i _) hk (by decide)]
    rfl

theorem loop3 (a1 : BitVec 32) (v3 : IVec S512x512 1) (v5 : FVec F S512x128 .bf16) (v7 : FVec F S512x128 .f32) (v83 : IVec S1x128 1) (z : F .bf16)
    (n : ℕ) (hn : n ≤ (k0_t3_loop i).trips) :
    st_k0_t3 Variants.none c none i arg2 harg2 arg3 harg3 arg4 harg4 arg5 harg5 arg6 harg6 arg7 harg7 arg8 harg8 arg9 harg9
      a1 v3 v5 v7 v83 z (harg3.unread K) (harg4.unread V) (harg6.unread FK) x n
      = visits (k0_pay38 v5 v83 z) (k0_pay39 v7) K V FK 1 (by decide) x n := by
  induction n with
  | zero => rfl
  | succ n ih =>
    have hk : n < 16 := lt_of_lt_of_le (Nat.lt_of_succ_le hn) ((k0_t3_abs i).2.1.trans (by decide))
    rw [visits_succ _ _ _ _ _ _ _ _ _ hk, ← ih (Nat.le_of_succ_le hn)]
    refine (st_k0_t3_succ Variants.none c none i arg2 harg2 arg3 harg3 arg4 harg4 arg5 harg5 arg6 harg6 arg7 harg7 arg8 harg8 arg9 harg9
      a1 v3 v5 v7 v83 z (harg3.unread K) (harg4.unread V) (harg6.unread FK) x ⟨n, Nat.lt_of_succ_le hn⟩).trans ?_
    generalize st_k0_t3 Variants.none c none i arg2 harg2 arg3 harg3 arg4 harg4 arg5 harg5 arg6 harg6 arg7 harg7 arg8 harg8 arg9 harg9
      a1 v3 v5 v7 v83 z (harg3.unread K) (harg4.unread V) (harg6.unread FK) x n = y
    unfold tripR_k0_t3 trip_k0_t3
    dsimp only
    rw [read_slab harg3 K _ (k0_off7_eq i _) hk, read_slab harg4 V _ (k0_off7_eq i _) hk, read_row harg6 FK _ (k0_off8_eq i _) hk (by decide)]
    rfl

theorem loops1 (v4 : Vec F S512x128 .bf16) (v6 : Vec F S1x512x128 .f32) :
    st_k0_t1 Variants.none c none i arg2 harg2 arg3 harg3 arg4 harg4 arg5 harg5 arg6 harg6 arg7 harg7 arg8 harg8 arg9 harg9
      v4 v6 (harg3.unread K) (harg4.unread V) (harg6.unread FK) x (i 1).val
      = visits (k0_pay11 v4) (k0_pay12 v6) K V FK 0 (by decide) x (i 1).val :=
  loop1 c i K V FK x v4 v6 _ (trips_before i).ge

theorem loops3 (a1 : BitVec 32) (v3 : IVec S512x512 1) (v5 : FVec F S512x128 .bf16) (v7 : FVec F S512x128 .f32) (v83 : IVec S1x128 1) (z : F .bf16) :
    st_k0_t3 Variants.none c none i arg2 harg2 arg3 harg3 arg4 harg4 arg5 harg5 arg6 harg6 arg7 harg7 arg8 harg8 arg9 harg9
      a1 v3 v5 v7 v83 z (harg3.unread K) (harg4.unread V) (harg6.unread FK) x (i 1).val
      = visits (k0_pay38 v5 v83 z) (k0_pay39 v7) K V FK 1 (by decide) x (i 1).val :=
  loop3 c i K V FK x a1 v3 v5 v7 v83 z _ (trips_before i).ge

/-! ## The three blocks that a query block leaves -/

/-- The lanes of the second head. -/
def hiLanes : IVec S1x128 1 := k0_pay37 (iota Kind.tc S1x128 32 [1] iota_S1x128_d1_w32)

variable (x0 : Vec F S512x128 .bf16) (x3 : Vec F S1x512x128 .f32)

/-- The two heads' states at the query block `i`. -/
def head0 : St F := visitsOwn (k0_pay11 x0) (k0_pay12 x3) K V FK 0 (by decide) (i 1).val (block_lt i)
def head1 : St F := visitsOwn (k0_pay38 (k0_pay6 x0) hiLanes (FloatOps.ofBits .bf16 0#16)) (k0_pay39 (k0_pay7 x3)) K V FK 1 (by decide) (i 1).val (block_lt i)

end

end Cert.Fwd

end

end
-- ==== Proof.AttnFwd.Out.lean ====
module

public import proofs.«01_k».proof.Proof.AttnFwd.Loops

@[expose] public section

set_option maxRecDepth 16384

noncomputable section

namespace Cert.Fwd

open Idealize.ShloMosaic Idealize.ShloMosaic.TcCoe Idealize.ShloMosaic.Tactic Idealize.SL.Sem
open Cert.KernelAttnFwdIdeal Cert.KernelAttnFwdIdeal.Gen
open Cert.Bwd (slab rowOf)

/-! # The three blocks that a query block leaves -/

section
variable {F : FTy → Type} [FloatOps F] [Named F]

/-- `a` on the lanes that `m` names, `b` on the others. -/
def pick (m : IVec S1x128 1) (a b : FVec F S512x128 .f32) : FVec F S512x128 .f32 :=
  select (broadcastTo S512x128 (shapeCast S1x128 m shapeCasts_S1x128_S1x128) broadcasts_S1x128_S512x128) a b

/-- The weighted values over the sum of the weights. -/
def average (x : St F) : FVec F S512x128 .f32 :=
  mulf x.2.2 (broadcastTo S512x128 (divf (broadcast S512x1 (Scalar.ofBits .f32 0x3F800000#32)) x.2.1) broadcasts_S512x1_S512x128)

/-- The row's log of the sum of exponentials, on every lane. -/
def logSum (x : St F) : FVec F S512x128 .f32 :=
  broadcastTo S512x128 (shapeCast S512x1 (addf x.1 (log x.2.1)) shapeCasts_S512x1_S512x1) broadcasts_S512x1_S512x128

/-- The lane numbers of a row. -/
def lanes : IVec S1x128 32 := iota Kind.tc S1x128 32 [1] iota_S1x128_d1_w32

/-- The block of the output, in the two heads' states. -/
def outBlk (x y : St F) : FVec F S512x128 .f32 := pick hiLanes (average y) (pick k0_pay10 (average x) k0_pay8)

/-- The block of the rows' log-sums, in the two heads' states. -/
def lseBlk (x y : St F) : FVec F S1x512x128 .f32 :=
  shapeCast S1x512x128 (pick (cmpi .eq lanes (broadcast S1x128 1#32)) (logSum y) (pick (cmpi .eq lanes (broadcast S1x128 0#32)) (logSum x) k0_pay9))
    shapeCasts_S512x128_S1x512x128

variable (c : Dev nD) (i : grid0.Coords) (arg2 : Memref sig .tc .vmem S512x128 .bf16) (harg2 : arg2.IsWhole)
  (arg3 : Memref sig .tc .vmem S16x512x128 .bf16) (harg3 : arg3.IsWhole)
  (arg4 : Memref sig .tc .vmem S16x512x128 .bf16) (harg4 : arg4.IsWhole)
  (arg5 : Memref sig .tc .vmem S1x512x128 .f32) (harg5 : arg5.IsWhole)
  (arg6 : Memref sig .tc .vmem S1x16x8x512 .f32) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S1x512x128 .f32) (harg9 : arg9.IsWhole)
  (x0 : Vec F S512x128 .bf16) (x1 x2 : Vec F S16x512x128 .bf16) (x3 : Vec F S1x512x128 .f32) (x4 : Vec F S1x16x8x512 .f32)

theorem out6 : out0_A_6 c i arg2 harg2 arg3 harg3 arg4 harg4 arg5 harg5 arg6 harg6 arg7 harg7 arg8 harg8 arg9 harg9 x0 x1 x2 x3 x4
    = outBlk (head0 i x1 x2 x4 x0 x3) (head1 i x1 x2 x4 x0 x3) := by
  frame_out
  simp only [trips_before, trips_rest, st_k0_t4_zero, st_k0_t2_zero]
  rw [loops1, loops3]
  rw [ld_slab x1 _ (k0_off5_eq i) (block_lt i), ld_slab x2 _ (k0_off5_eq i) (block_lt i), ld_row x4 _ (k0_off6_eq i) (block_lt i) (by decide),
    ld_row x4 _ (k0_off11_eq i) (block_lt i) (by decide)]
  rfl

theorem out5 : out0_A_5 c i arg2 harg2 arg3 harg3 arg4 harg4 arg5 harg5 arg6 harg6 arg7 harg7 arg8 harg8 arg9 harg9 x0 x1 x2 x3 x4
    = truncf .bf16 (outBlk (head0 i x1 x2 x4 x0 x3) (head1 i x1 x2 x4 x0 x3)) bitsLt_bf16_f32 := by
  frame_out
  simp only [trips_before, trips_rest, st_k0_t4_zero, st_k0_t2_zero]
  rw [loops1, loops3]
  rw [ld_slab x1 _ (k0_off5_eq i) (block_lt i), ld_slab x2 _ (k0_off5_eq i) (block_lt i), ld_row x4 _ (k0_off6_eq i) (block_lt i) (by decide),
    ld_row x4 _ (k0_off11_eq i) (block_lt i) (by decide)]
  rfl

theorem out7 : out0_A_7 c i arg2 harg2 arg3 harg3 arg4 harg4 arg5 harg5 arg6 harg6 arg7 harg7 arg8 harg8 arg9 harg9 x0 x1 x2 x3 x4
    = lseBlk (head0 i x1 x2 x4 x0 x3) (head1 i x1 x2 x4 x0 x3) := by
  frame_out
  simp only [trips_before, trips_rest, st_k0_t4_zero, st_k0_t2_zero]
  rw [loops1, loops3]
  rw [ld_slab x1 _ (k0_off5_eq i) (block_lt i), ld_row x4 _ (k0_off6_eq i) (block_lt i) (by decide),
    ld_row x4 _ (k0_off11_eq i) (block_lt i) (by decide)]
  rfl

end

end Cert.Fwd

end

end
-- ==== Proof.AttnFwd.Heads.lean ====
module

public import proofs.«01_k».proof.Proof.AttnFwd.Out

@[expose] public section

set_option maxRecDepth 16384

noncomputable section

namespace Cert.Fwd

open Idealize.ShloMosaic Idealize.ShloMosaic.TcCoe Idealize.SL.Sem
open Cert.KernelAttnFwdIdeal Cert.KernelAttnFwdIdeal.Gen
open Cert.Bwd (Args row col hd ln headOf lane rowNo coe_sum div_real sel_coe slab rowOf slab_apply rowOf_apply sum_rows)

/-! # What a query block leaves, at real arguments -/

/-- The blocks that the call is given at query block `i` of the pair `g` hold the arguments `a`. -/
structure Blk (a : Args) (g : Fin 8) (i : Fin 16) (x0 : Vec Ideal S512x128 .bf16) (x1 x2 : Vec Ideal S16x512x128 .bf16)
    (x3 : Vec Ideal S1x512x128 .f32) (x4 : Vec Ideal S1x16x8x512 .f32) : Prop where
  q : ∀ r l, x0 (ix2 r l) = ((a.q (row i r) (col g l) * (1 / 8) : ℝ) : EReal)
  K : ∀ j c l, x1 (ix3 j c l) = ((a.k (row j c) (col g l) : ℝ) : EReal)
  V : ∀ j c l, x2 (ix3 j c l) = ((a.v (row j c) (col g l) : ℝ) : EReal)
  fq : ∀ h r, x3 (ix3 0 r (lane h)) = ((a.F (hd g h) (row i r) : ℝ) : EReal)
  fk : ∀ h j c, x4 (ix4 0 j (rowNo h) c) = ((a.F (hd g h) (row j c) : ℝ) : EReal)

theorem lo_lanes (l : Fin 128) : k0_pay10 (ix2 0 l) = if l.val / 64 = 0 then 1#1 else 0#1 := by
  pointwise [k0_pay10]
  revert l; decide

theorem hi_lanes (l : Fin 128) : hiLanes (ix2 0 l) = if l.val / 64 = 1 then 1#1 else 0#1 := by
  pointwise [hiLanes, k0_pay37]
  revert l; decide

theorem lane0 (l : Fin 128) : cmpi .eq lanes (broadcast S1x128 0#32) (ix2 0 l) = if l.val = 0 then 1#1 else 0#1 := by
  pointwise [lanes]
  revert l; decide

theorem lane1 (l : Fin 128) : cmpi .eq lanes (broadcast S1x128 1#32) (ix2 0 l) = if l.val = 1 then 1#1 else 0#1 := by
  pointwise [lanes]
  revert l; decide

theorem named_mask : (Named.named κ "mask" (4048155338#32) : Ideal .f32) = ⊥ := rfl

theorem mask_apply (r c : Fin 512) : k0_pay5 (ix2 r c) = if c.val ≤ r.val then 1#1 else 0#1 := by
  pointwise [k0_pay5]
  have hc := c.isLt
  have hr := r.isLt
  have e1 := WordCmp.toInt_ofNat_of_lt (w := 32) (a := c) (by omega)
  have e2 := WordCmp.toInt_ofNat_of_lt (w := 32) (a := r) (by omega)
  split
  · rw [IntOp.cmpi_sle, e1, e2]; omega
  · refine (BitVec.eq_zero_or_eq_one _).resolve_right ?_
    rw [IntOp.cmpi_sle, e1, e2]; omega

section
variable (qm : FVec Ideal S512x128 .bf16) (cc : FVec Ideal S512x1 .f32) (K : Vec Ideal S1x512x128 .bf16) (f : Vec Ideal S1x1x1x512 .f32) (r c : Fin 512)

theorem scores_apply : scores qm cc K f (ix2 r c) = ((∑ l, qm (ix2 r l) * K (ix3 0 c l)) + (cc (ix2 r 0) - f (ix4 0 0 0 c)) : EReal) := by
  pointwise [scores]

theorem ownScores_apply : ownScores qm cc K f (ix2 r c) = if c.val ≤ r.val then scores qm cc K f (ix2 r c) else (⊥ : EReal) := by
  pointwise [ownScores]
  rw [mask_apply, named_mask]
  split <;> rfl
end

variable {a : Args} {g : Fin 8} {i : Fin 16} {x0 : Vec Ideal S512x128 .bf16} {x1 x2 : Vec Ideal S16x512x128 .bf16}
    {x3 : Vec Ideal S1x512x128 .f32} {x4 : Vec Ideal S1x16x8x512 .f32} (hx : Blk a g i x0 x1 x2 x3 x4)

/-- The head's queries and log decays. -/
structure HeadOf (a : Args) (g : Fin 8) (i : Fin 16) (h : Fin 2) (qm : FVec Ideal S512x128 .bf16) (cc : FVec Ideal S512x1 .f32) : Prop where
  q : ∀ r l, qm (ix2 r l) = ((if l.val / 64 = h.val then a.q (row i r) (col g l) * (1 / 8) else 0 : ℝ) : EReal)
  c : ∀ r, cc (ix2 r 0) = ((a.F (hd g h) (row i r) : ℝ) : EReal)

include hx in
theorem Blk.head0 : HeadOf a g i 0 (k0_pay11 x0) (k0_pay12 x3) where
  q r l := by
    pointwise [k0_pay11, k0_pay6]
    rw [lo_lanes, hx.q, ← EReal.coe_zero, sel_coe]
  c r := by
    pointwise [k0_pay12, k0_pay7]
    exact hx.fq 0 r

include hx in
theorem Blk.head1 : HeadOf a g i 1 (k0_pay38 (k0_pay6 x0) hiLanes (FloatOps.ofBits .bf16 0#16)) (k0_pay39 (k0_pay7 x3)) where
  q r l := by
    pointwise [k0_pay38, k0_pay6]
    rw [hi_lanes, hx.q, ← EReal.coe_zero, sel_coe]
  c r := by
    pointwise [k0_pay39, k0_pay7]
    exact hx.fq 1 r

section
variable {h : Fin 2} {qm : FVec Ideal S512x128 .bf16} {cc : FVec Ideal S512x1 .f32} (hh : HeadOf a g i h qm cc) {hb : h.val < 8}
include hx hh

/-- The head's scores. -/
theorem scores_real (j : Fin 16) (r c : Fin 512) : scores qm cc (slab x1 j.val j.isLt) (rowOf x4 j.val h.val j.isLt hb) (ix2 r c)
    = ((a.S (hd g h) (row i r) (row j c) : ℝ) : EReal) := by
  rw [scores_apply, hh.c, show rowOf x4 j.val h.val j.isLt hb (ix4 0 0 0 c) = _ from (rowOf_apply (F := Ideal) x4 j.val h.val j.isLt hb c).trans (hx.fk h j c)]
  have e (l : Fin 128) : slab x1 j.val j.isLt (ix3 0 c l) = _ := (slab_apply (F := Ideal) x1 j.val j.isLt c l).trans (hx.K j c l)
  have e2 := Args.sum_lanes g h fun l => a.q (row i r) l * (1 / 8) * a.k (row j c) l
  simp only [e, hh.q, ← EReal.coe_mul, coe_sum, ← EReal.coe_sub, ← EReal.coe_add, ite_mul, zero_mul]
  rw [e2]
  unfold Args.S
  rw [Finset.sum_mul, Finset.sum_congr rfl fun d _ => show a.q (row i r) (ln (hd g h) d) * (1 / 8) * a.k (row j c) (ln (hd g h) d)
    = a.q (row i r) (ln (hd g h) d) * a.k (row j c) (ln (hd g h) d) * (1 / 8) by ring]

omit hx hh in
theorem row_le (j : Fin 16) (r c : Fin 512) : row j c ≤ row i r ↔ j.val < i.val ∨ (j.val = i.val ∧ c.val ≤ r.val) := by
  have hr := r.isLt
  have hc := c.isLt
  rw [Fin.le_def]; simp only [row]; omega

theorem slabV (j : Fin 16) (c : Fin 512) (l : Fin 128) : slab x2 j.val j.isLt (ix3 0 c l) = ((a.v (row j c) (col g l) : ℝ) : EReal) :=
  (slab_apply (F := Ideal) x2 j.val j.isLt c l).trans (hx.V j c l)

/-- The key blocks before the query block. -/
theorem reached (r : Fin 512) (n : ℕ) (hn : n ≤ i.val) :
    Reached a g h (row i r) n (visits qm cc x1 x2 x4 h.val hb start n) r := by
  induction n with
  | zero =>
    refine .inl ⟨rfl, ?_, ?_, fun l => ?_⟩
    · show start.1 (ix2 r 0) = _
      pointwise [start, k0_pay13]
      exact named_mask
    · show start.2.1 (ix2 r 0) = _
      pointwise [start, k0_pay14]
    · show start.2.2 (ix2 r l) = _
      pointwise [start, k0_pay15]
  | succ n ih =>
    have h16 : n < 16 := by have := i.isLt; omega
    rw [visits_succ _ _ _ _ _ _ _ _ _ h16]
    have hle (c : Fin 512) : row ⟨n, h16⟩ c ≤ row i r := (row_le _ r c).2 (.inl (Nat.lt_of_succ_le hn))
    have hs (c : Fin 512) := scores_real (hb := hb) hx hh ⟨n, h16⟩ r c
    refine (ih (Nat.le_of_succ_le hn)).step ⟨n, h16⟩ (fun c => ?_) (hle 0) (slabV hx hh ⟨n, h16⟩)
    rw [if_pos (hle c)]
    exact hs c

/-- And its own. -/
theorem reachedOwn (r : Fin 512) : Reached a g h (row i r) (i.val + 1) (visitsOwn qm cc x1 x2 x4 h.val hb i.val i.isLt) r := by
  have hle (c : Fin 512) := row_le (i := i) i r c
  refine (reached hx hh r i.val le_rfl).step i (fun c => ?_) ((hle 0).2 (.inr ⟨rfl, Nat.zero_le _⟩)) (slabV hx hh _)
  rw [ownScores_apply, scores_real hx hh i r c]
  by_cases hc : c.val ≤ r.val
  · rw [if_pos hc, if_pos ((hle c).2 (.inr ⟨rfl, hc⟩))]
  · rw [if_neg hc, if_neg fun h => hc (((hle c).1 h).resolve_left (lt_irrefl _)).2]
end

/-! ## After the last key block that a row sees -/

/-- The output at a lane. -/
def out (a : Args) (t : Fin 8192) (l : Fin 1024) : ℝ := ∑ u, a.P (headOf l) t u * a.v u l

theorem E_late (H : Fin 16) (r c : Fin 512) (j : Fin 16) (hj : ¬ j.val < i.val + 1) : a.E H (row i r) (row j c) = 0 := by
  unfold Args.E
  rw [if_neg]
  rw [row_le]; omega

theorem part_all (h : Fin 2) (r : Fin 512) : part a g h (row i r) (i.val + 1) = a.Z (hd g h) (row i r) := by
  unfold part Args.Z
  rw [sum_rows]
  refine Finset.sum_congr rfl fun j _ => ?_
  split
  · rfl
  · next hj => exact (Finset.sum_eq_zero fun c _ => E_late _ r c j hj).symm

theorem partV_all (h : Fin 2) (r : Fin 512) (l : Fin 128) (hl : l.val / 64 = h.val) :
    partV a g h (row i r) (i.val + 1) l = a.Z (hd g h) (row i r) * out a (row i r) (col g l) := by
  have hz := (a.Z_pos (hd g h) (row i r)).ne'
  unfold out
  rw [Finset.mul_sum, Cert.Bwd.headOf_col g l h hl, sum_rows]
  unfold partV
  refine Finset.sum_congr rfl fun j _ => ?_
  split
  · refine Finset.sum_congr rfl fun c _ => ?_
    unfold Args.P
    field_simp
  · next hj =>
    refine (Finset.sum_eq_zero fun c _ => ?_).symm
    unfold Args.P
    rw [E_late _ r c j hj]; simp

theorem average_real {h : Fin 2} {x : St Ideal} {r : Fin 512} (hr : Reached a g h (row i r) (i.val + 1) x r) (l : Fin 128) (hl : l.val / 64 = h.val) :
    average x (ix2 r l) = ((out a (row i r) (col g l) : ℝ) : EReal) := by
  obtain ⟨h0, -⟩ | ⟨M, -, hL, hA⟩ := hr
  · exact absurd h0 (Nat.succ_ne_zero _)
  · pointwise [average]
    have hz0 := (a.Z_pos (hd g h) (row i r)).ne'
    have hz : a.Z (hd g h) (row i r) * Real.exp (-M) ≠ 0 := mul_ne_zero (a.Z_pos _ _).ne' (Real.exp_pos _).ne'
    rw [hL, hA, part_all, partV_all h r l hl, ← EReal.coe_one, div_real _ _ hz, ← EReal.coe_mul]
    congr 1
    field_simp

theorem logSum_real {h : Fin 2} {x : St Ideal} {r : Fin 512} (hr : Reached a g h (row i r) (i.val + 1) x r) (l : Fin 128) :
    logSum x (ix2 r l) = ((Real.log (a.Z (hd g h) (row i r)) : ℝ) : EReal) := by
  obtain ⟨h0, -⟩ | ⟨M, hM, hL, -⟩ := hr
  · exact absurd h0 (Nat.succ_ne_zero _)
  · pointwise [logSum]
    have hz := a.Z_pos (hd g h) (row i r)
    rw [hM, hL, part_all, Ideal.log_coe, if_neg (not_le.2 (mul_pos hz (Real.exp_pos _))), ← EReal.coe_add,
      Real.log_mul hz.ne' (Real.exp_pos _).ne', Real.log_exp]
    congr 1
    ring

theorem pick_apply (m : IVec S1x128 1) (y z : FVec Ideal S512x128 .f32) (r : Fin 512) (l : Fin 128) :
    pick m y z (ix2 r l) = Scalar.select (m (ix2 0 l)) (y (ix2 r l)) (z (ix2 r l)) := by
  pointwise [pick]

variable {x y : St Ideal} {r : Fin 512} (h0 : Reached a g 0 (row i r) (i.val + 1) x r) (h1 : Reached a g 1 (row i r) (i.val + 1) y r)
include h0 h1

theorem outBlk_real (l : Fin 128) : outBlk x y (ix2 r l) = ((out a (row i r) (col g l) : ℝ) : EReal) := by
  unfold outBlk
  rw [pick_apply, pick_apply, hi_lanes, lo_lanes]
  have hl : l.val / 64 = 0 ∨ l.val / 64 = 1 := by have := l.isLt; omega
  rcases hl with hl | hl
  · rw [if_neg (by omega), if_pos hl]; exact average_real h0 l hl
  · rw [if_pos hl]; exact average_real h1 l hl

/-- The rows' log-sums as the call stores them, in two of 128 lanes. -/
def lsePad (a : Args) (g : Fin 8) (t : Fin 8192) (l : Fin 128) : ℝ := if hl : l.val < 2 then Real.log (a.Z (hd g ⟨l.val, hl⟩) t) else 0

theorem lseBlk_real (l : Fin 128) : lseBlk x y (ix3 0 r l) = ((lsePad a g (row i r) l : ℝ) : EReal) := by
  have e : lseBlk x y (ix3 0 r l) = pick (cmpi .eq lanes (broadcast S1x128 1#32)) (logSum y) (pick (cmpi .eq lanes (broadcast S1x128 0#32)) (logSum x) k0_pay9) (ix2 r l) := by
    pointwise [lseBlk]
  rw [e, pick_apply, pick_apply, lane0, lane1]
  unfold lsePad
  by_cases e1 : l.val = 1
  · rw [if_pos e1, dif_pos (by omega)]
    refine (logSum_real h1 l).trans ?_
    simp only [e1]; rfl
  · rw [if_neg e1]
    by_cases e0 : l.val = 0
    · rw [if_pos e0, dif_pos (by omega)]
      refine (logSum_real h0 l).trans ?_
      simp only [e0]; rfl
    · rw [if_neg e0, dif_neg (by omega)]
      show k0_pay9 (ix2 r l) = _
      pointwise [k0_pay9]
      exact EReal.coe_zero.symm

end Cert.Fwd

end

end
-- ==== Proof.AttnFwd.Final.lean ====
module

public import proofs.«01_k».proof.Proof.AttnFwd.Heads

@[expose] public section

set_option maxRecDepth 16384

noncomputable section

namespace Cert.Fwd

open Idealize.ShloMosaic Idealize.ShloMosaic.TcCoe Idealize.SL.Sem
open Cert.KernelAttnFwdIdeal Cert.KernelAttnFwdIdeal.Gen
open Idealize.ShloMosaic.Pipeline (Dat)
open Cert.Bwd (Args row col hd lane rowNo)

/-! # The call's three results, whole -/

variable (m : (ℓ : Loc nD τ sig) → Buf (Elt Ideal) ℓ)

/-! Where each window's block lies. -/
theorem idx0 : ∀ t : Fin cfg0.N, win0_0.index t = ![t.val % 16, t.val / 16] := (by decide +kernel : ∀ t : Fin grid0.N, _)
theorem idx1 : ∀ t : Fin cfg0.N, win0_1.index t = ![0, 0, t.val / 16] := (by decide +kernel : ∀ t : Fin grid0.N, _)
theorem idx2 : ∀ t : Fin cfg0.N, win0_2.index t = ![0, 0, t.val / 16] := (by decide +kernel : ∀ t : Fin grid0.N, _)
theorem idx3 : ∀ t : Fin cfg0.N, win0_3.index t = ![t.val / 16, t.val % 16, 0] := (by decide +kernel : ∀ t : Fin grid0.N, _)
theorem idx4 : ∀ t : Fin cfg0.N, win0_4.index t = ![t.val / 16, 0, 0, 0] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![t.val % 16, t.val / 16] := (by decide +kernel : ∀ t : Fin grid0.N, _)
theorem idx7 : ∀ t : Fin cfg0.N, win0_7.index t = ![t.val / 16, t.val % 16, 0] := (by decide +kernel : ∀ t : Fin grid0.N, _)

/-- The query block and the pair of heads of a point. -/
def ki (t : Fin cfg0.N) : Fin 16 := ⟨t.val % 16, Nat.mod_lt _ (by decide)⟩
def pg (t : Fin cfg0.N) : Fin 8 := ⟨t.val / 16, by have := lt_of_lt_of_eq t.isLt N_0; omega⟩

theorem coord : ∀ t : Fin cfg0.N, (grid0.coords t 1).val = (ki t).val := (by decide +kernel : ∀ t : Fin grid0.N, _)

theorem read_q (c : Dev nD) (t : Fin cfg0.N) (r : Fin 512) (l : Fin 128) :
    iblk m c 0 t (ix2 r l) = V m c (Pipeline.arrRef spec0 0) (ix2 (row (ki t) r) (col (pg t) l)) := by
  unfold iblk
  blk_ext [iblk, V, row, col, ki, pg, idx0 t]

theorem read_K (c : Dev nD) (t : Fin cfg0.N) (j : Fin 16) (r : Fin 512) (l : Fin 128) :
    iblk m c 1 t (ix3 j r l) = V m c (Pipeline.arrRef spec0 1) (ix3 j r (col (pg t) l)) := by
  unfold iblk
  blk_ext [iblk, V, row, col, ki, pg, idx1 t]

theorem read_V (c : Dev nD) (t : Fin cfg0.N) (j : Fin 16) (r : Fin 512) (l : Fin 128) :
    iblk m c 2 t (ix3 j r l) = V m c (Pipeline.arrRef spec0 2) (ix3 j r (col (pg t) l)) := by
  unfold iblk
  blk_ext [iblk, V, row, col, ki, pg, idx2 t]

theorem read_fq (c : Dev nD) (t : Fin cfg0.N) (r : Fin 512) (l : Fin 128) :
    iblk m c 3 t (ix3 0 r l) = V m c (Pipeline.arrRef spec0 3) (ix3 (pg t) (row (ki t) r) l) := by
  unfold iblk
  blk_ext [iblk, V, row, col, ki, pg, idx3 t]

theorem read_fk (c : Dev nD) (t : Fin cfg0.N) (j : Fin 16) (h : Fin 8) (r : Fin 512) :
    iblk m c 4 t (ix4 0 j h r) = V m c (Pipeline.arrRef spec0 4) (ix4 (pg t) j h r) := by
  unfold iblk
  blk_ext [iblk, V, row, col, ki, pg, idx4 t]

/-- The call's operands as host arrays. -/
def opQ (c : Dev nD) : S8192x1024.Idx → EReal := V m c (Pipeline.arrRef spec0 0)
def opK (c : Dev nD) : S16x512x1024.Idx → EReal := V m c (Pipeline.arrRef spec0 1)
def opV (c : Dev nD) : S16x512x1024.Idx → EReal := V m c (Pipeline.arrRef spec0 2)
def opFq (c : Dev nD) : S8x8192x128.Idx → EReal := V m c (Pipeline.arrRef spec0 3)
def opFk (c : Dev nD) : S8x16x8x512.Idx → EReal := V m c (Pipeline.arrRef spec0 4)

/-- The operands hold the arguments `a`. -/
structure Holds (a : Args) (c : Dev nD) : Prop where
  q : ∀ t l, opQ m c (ix2 t l) = ((a.q t l * (1 / 8) : ℝ) : EReal)
  kk : ∀ j r l, opK m c (ix3 j r l) = ((a.k (row j r) l : ℝ) : EReal)
  vv : ∀ j r l, opV m c (ix3 j r l) = ((a.v (row j r) l : ℝ) : EReal)
  fq : ∀ g t h, opFq m c (ix3 g t (lane h)) = ((a.F (hd g h) t : ℝ) : EReal)
  fk : ∀ g j h r, opFk m c (ix4 g j (rowNo h) r) = ((a.F (hd g h) (row j r) : ℝ) : EReal)

variable {m} {a : Args} {c : Dev nD} (h : Holds m a c)
include h

theorem Holds.blk (t : Fin cfg0.N) : Blk a (pg t) (ki t) (iblk m c 0 t) (iblk m c 1 t) (iblk m c 2 t) (iblk m c 3 t) (iblk m c 4 t) where
  q r l := (read_q m c t r l).trans (h.q _ _)
  K j r l := (read_K m c t j r l).trans (h.kk _ _ _)
  V j r l := (read_V m c t j r l).trans (h.vv _ _ _)
  fq i r := (read_fq m c t r (lane i)).trans (h.fq _ _ _)
  fk i j r := (read_fk m c t j (rowNo i) r).trans (h.fk _ _ _ _)

/-- The two heads' states at a point. -/
theorem Holds.head0 (t : Fin cfg0.N) (r : Fin 512) : Reached a (pg t) 0 (row (ki t) r) ((ki t).val + 1)
    (Cert.Fwd.head0 (grid0.coords t) (iblk m c 1 t) (iblk m c 2 t) (iblk m c 4 t) (iblk m c 0 t) (iblk m c 3 t)) r := by
  unfold Cert.Fwd.head0
  simp only [coord t]
  exact reachedOwn (hb := by decide) (h.blk t) (h.blk t).head0 r

theorem Holds.head1 (t : Fin cfg0.N) (r : Fin 512) : Reached a (pg t) 1 (row (ki t) r) ((ki t).val + 1)
    (Cert.Fwd.head1 (grid0.coords t) (iblk m c 1 t) (iblk m c 2 t) (iblk m c 4 t) (iblk m c 0 t) (iblk m c 3 t)) r := by
  unfold Cert.Fwd.head1
  simp only [coord t]
  exact reachedOwn (hb := by decide) (h.blk t) (h.blk t).head1 r

theorem out5_real (t : Fin cfg0.N) (r : Fin 512) (l : Fin 128) :
    (outsAt0 m c t).1 (ix2 r l) = ((out a (row (ki t) r) (col (pg t) l) : ℝ) : EReal) := by
  unfold outsAt0
  dsimp only
  rw [out5]
  exact outBlk_real (h.head0 t r) (h.head1 t r) l

theorem out6_real (t : Fin cfg0.N) (r : Fin 512) (l : Fin 128) :
    (outsAt0 m c t).2.1 (ix2 r l) = ((out a (row (ki t) r) (col (pg t) l) : ℝ) : EReal) := by
  unfold outsAt0
  dsimp only
  rw [out6]
  exact outBlk_real (h.head0 t r) (h.head1 t r) l

theorem out7_real (t : Fin cfg0.N) (r : Fin 512) (l : Fin 128) :
    (outsAt0 m c t).2.2 (ix3 0 r l) = ((lsePad a (pg t) (row (ki t) r) l : ℝ) : EReal) := by
  unfold outsAt0
  dsimp only
  rw [out7]
  exact lseBlk_real (h.head0 t r) (h.head1 t r) l

/-- The output, in bfloat16 and in float32. -/
theorem final_o16 : (dats m 0 c).arrAt 5 cfg0.N = fun y : S8192x1024.Idx => ((out a (y 0) (y 1) : ℝ) : EReal) := by
  refine (dats m 0 c).arrAt_eq_of_covers 5 _ (by decide +kernel) fun t hf y => ?_
  obtain ⟨r, l, rfl⟩ : ∃ (r : Fin 512) (l : Fin 128), y = ix2 r l := ⟨y 0, y 1, eq_ix2 y⟩
  have e0 : (win0_5.blk t).view.emb (ix2 r l) 0 = row (ki t) r := by
    apply Fin.ext
    blk_simp [idx5 t, row, col, ki, pg]
    try rfl
  have e1 : (win0_5.blk t).view.emb (ix2 r l) 1 = col (pg t) l := by
    apply Fin.ext
    blk_simp [idx5 t, row, col, ki, pg]
    try rfl
  blk_simp
  rw [e0, e1, after0_5]
  exact out5_real h t r l

theorem final_o32 : (dats m 0 c).arrAt 6 cfg0.N = fun y : S8192x1024.Idx => ((out a (y 0) (y 1) : ℝ) : EReal) := by
  refine (dats m 0 c).arrAt_eq_of_covers 6 _ (by decide +kernel) fun t hf y => ?_
  obtain ⟨r, l, rfl⟩ : ∃ (r : Fin 512) (l : Fin 128), y = ix2 r l := ⟨y 0, y 1, eq_ix2 y⟩
  have e0 : (win0_6.blk t).view.emb (ix2 r l) 0 = row (ki t) r := by
    apply Fin.ext
    blk_simp [idx6 t, row, col, ki, pg]
    try rfl
  have e1 : (win0_6.blk t).view.emb (ix2 r l) 1 = col (pg t) l := by
    apply Fin.ext
    blk_simp [idx6 t, row, col, ki, pg]
    try rfl
  blk_simp
  rw [e0, e1, after0_6]
  exact out6_real h t r l

/-- The rows' log-sums. -/
theorem final_lse : (dats m 0 c).arrAt 7 cfg0.N = fun y : S8x8192x128.Idx => ((lsePad a (y 0) (y 1) (y 2) : ℝ) : EReal) := by
  refine (dats m 0 c).arrAt_eq_of_covers 7 _ (by decide +kernel) fun t hf y => ?_
  obtain ⟨r, l, rfl⟩ : ∃ (r : Fin 512) (l : Fin 128), y = ix3 0 r l := ⟨y 1, y 2, (eq_ix3 y).trans (by congr 1; exact Subsingleton.elim _ _)⟩
  have e0 : (win0_7.blk t).view.emb (ix3 0 r l) 0 = pg t := by
    apply Fin.ext
    blk_simp [idx7 t, row, col, ki, pg]
    try rfl
  have e1 : (win0_7.blk t).view.emb (ix3 0 r l) 1 = row (ki t) r := by
    apply Fin.ext
    blk_simp [idx7 t, row, col, ki, pg]
    try rfl
  have e2 : (win0_7.blk t).view.emb (ix3 0 r l) 2 = l := by
    apply Fin.ext
    blk_simp [idx7 t, row, col, ki, pg]
    try rfl
  blk_simp
  rw [e0, e1, e2, after0_7]
  exact out7_real h t r l

end Cert.Fwd

end

end
-- ==== Proof.AttnFwd.Host.lean ====
module

public import proofs.«01_k».proof.Proof.AttnFwd.Final

@[expose] public section

set_option maxRecDepth 16384

noncomputable section

namespace Cert.Fwd

open Idealize.ShloMosaic Idealize.ShloMosaic.TcCoe Idealize.SL.Sem
open Cert.KernelAttnFwdIdeal Cert.KernelAttnFwdIdeal.Gen
open StableHlo
open Cert.Bwd (Args Act Decay Heads Pairs Rows toLanes toRows flat blocks scaled flat_at blocks_at scaled_at toLanes_at toRows_at)

/-! # What the call is given, at real arguments -/

variable (m : (ℓ : Loc nD τ sig) → Buf (Elt Ideal) ℓ) (c : Dev nD)

/-- The four arguments as the call's host lines are given them. -/
def inQ : Act := m ((c.tc : Thread nD τ).loc main_arg0)
def inK : Act := m ((c.tc : Thread nD τ).loc main_arg1)
def inV : Act := m ((c.tc : Thread nD τ).loc main_arg2)
def inF : Decay := m ((c.tc : Thread nD τ).loc main_arg3)

theorem opQ_eq : opQ m c = flat (scaled (inQ m c)) := by
  unfold opQ V
  simp only [hostOps0, hostOps0_1, hostOps0_2, hostOps0_3, hostOps0_4, List.flatten_cons, List.flatten_nil, List.append_nil, List.cons_append, List.nil_append, TRef.ternary, TRef.binary, TRef.nullary, TRef.unary, TRef.toBuf, TRef.ofBuf, cast_eq]
  after_results
  rfl

theorem opK_eq : opK m c = blocks (inK m c) := by
  unfold opK V
  simp only [hostOps0, hostOps0_1, hostOps0_2, hostOps0_3, hostOps0_4, List.flatten_cons, List.flatten_nil, List.append_nil, List.cons_append, List.nil_append, TRef.ternary, TRef.binary, TRef.nullary, TRef.unary, TRef.toBuf, TRef.ofBuf, cast_eq]
  after_results
  rfl

theorem opV_eq : opV m c = blocks (inV m c) := by
  unfold opV V
  simp only [hostOps0, hostOps0_1, hostOps0_2, hostOps0_3, hostOps0_4, List.flatten_cons, List.flatten_nil, List.append_nil, List.cons_append, List.nil_append, TRef.ternary, TRef.binary, TRef.nullary, TRef.unary, TRef.toBuf, TRef.ofBuf, cast_eq]
  after_results
  rfl

theorem opFq_eq : opFq m c = toLanes (inF m c) := by
  unfold opFq V
  simp only [hostOps0, hostOps0_1, hostOps0_2, hostOps0_3, hostOps0_4, List.flatten_cons, List.flatten_nil, List.append_nil, List.cons_append, List.nil_append, TRef.ternary, TRef.binary, TRef.nullary, TRef.unary, TRef.toBuf, TRef.ofBuf, cast_eq]
  after_results
  rfl

theorem opFk_eq : opFk m c = toRows (inF m c) := by
  unfold opFk V
  simp only [hostOps0, hostOps0_1, hostOps0_2, hostOps0_3, hostOps0_4, List.flatten_cons, List.flatten_nil, List.append_nil, List.cons_append, List.nil_append, TRef.ternary, TRef.binary, TRef.nullary, TRef.unary, TRef.toBuf, TRef.ofBuf, cast_eq]
  after_results
  rfl

/-- Where the arguments are real, the call is given what its results are stated of. -/
theorem holds (a : Args) (go : Act) (h : a.Reads (inQ m c) (inK m c) (inV m c) (inF m c) go) : Holds m a c where
  q t l := by rw [opQ_eq]; exact (flat_at _ t l).trans ((scaled_at _ t l).trans (by rw [h.q, ← EReal.coe_mul]))
  kk j r l := by rw [opK_eq]; exact (blocks_at _ j r l).trans (h.k _ l)
  vv j r l := by rw [opV_eq]; exact (blocks_at _ j r l).trans (h.v _ l)
  fq g t i := by rw [opFq_eq]; exact (toLanes_at _ g t i).trans (h.F _ t)
  fk g j i r := by rw [opFk_eq]; exact (toRows_at _ g j i r).trans (h.F _ _)

end Cert.Fwd

end

end
-- ==== Proof.AttnFwd.Ref.lean ====
module

public import proofs.«01_k».proof.Pre_finite_fwd
public import proofs.«01_k».proof.Proof.Gen.ReferenceAttnFwdIdeal.Run
public import proofs.«01_k».proof.Proof.Norm.Finite
public import proofs.«01_k».proof.Proof.Bwd.Ref
public import proofs.«01_k».proof.Proof.AttnFwd.Heads

@[expose] public section

set_option maxRecDepth 16384

noncomputable section

namespace Cert.Fwd

open Idealize.ShloMosaic Idealize.ShloMosaic.TcCoe Idealize.SL.Sem
open Cert.ReferenceAttnFwdIdeal Cert.ReferenceAttnFwdIdeal.Gen Cert.Bwd

/-! # The reference's attention -/

section
variable (q k v : Act) (F : Decay)

/-- The outputs, and the rows' log-sums in the first two of 128 lanes. -/
def refOut : FVec Ideal S8192x1024 .f32 :=
  shapeCast S8192x1024 (back (outs (weights (expo (masked q k F) (raised (top (masked q k F))))) v)) shapeCasts_S1x8192x1024_S8192x1024
def pairLog (y z : Rows) : FVec Ideal S8x8192x128 .f32 :=
  pad S8x8192x128 ![0, 0, 0] ![0, 0, 126] ![0, 0, 0] (transpose S8x8192x2 [0, 2, 1] (shapeCast S8x2x8192
    (addf (broadcastInDim S1x16x8192x1 ![0, 1, 2] bcast_S1x16x8192_S1x16x8192x1_0_1_2 y) (Host.log (broadcastInDim S1x16x8192x1 ![0, 1, 2] bcast_S1x16x8192_S1x16x8192x1_0_1_2 z)))
    shapeCasts_S1x16x8192x1_S8x2x8192) transposes_S8x2x8192_S8x8192x2_0_2_1) (sitofp .f32 (constantI S_ 32 0#32)) pads_S8x8192x2_S8x8192x128_000_000_01260 h_S_
def refLse : FVec Ideal S8x8192x128 .f32 := pairLog (top (masked q k F)) (total (expo (masked q k F) (top (masked q k F))))
end

/-- A pair's lanes: the first two hold its heads' values plus the logarithms, the others zero. -/
theorem pairLog_at (y z : Rows) (g : Fin 8) (t : Fin 8192) (l : Fin 128) :
    pairLog y z (ix3 g t l) = if hl : l.val < 2 then y (ix3 0 (hd g ⟨l.val, hl⟩) t) + Ideal.log (z (ix3 0 (hd g ⟨l.val, hl⟩) t)) else (0 : EReal) := by
  pointwise [pairLog]
  split
  · pointwise [hd]
  · show (((0#32 : BitVec 32).toInt : ℝ) : EReal) = _
    simp

section
variable (a : Args) {q k v : Act} {F : Decay} {go : Act} (h : a.Reads q k v F go)
include h

theorem refOut_at (t : Fin 8192) (l : Fin 1024) : refOut q k v F (ix2 t l) = ((out a t l : ℝ) : EReal) := by
  have e : refOut q k v F (ix2 t l) = back (outs (weights (expo (masked q k F) (raised (top (masked q k F))))) v) (ix3 0 t l) := by
    pointwise [refOut]
  obtain ⟨x, hx⟩ := top_real a h (headOf l) t
  rw [e, back_at, outs_at a h fun u => weight_at a h ((raised_at _ _ t).trans hx) u]
  unfold out Args.O
  simp only [ln_headOf]

theorem refOut_eq : refOut q k v F = fun y : S8192x1024.Idx => ((out a (y 0) (y 1) : ℝ) : EReal) := by
  funext y
  obtain ⟨t, l, rfl⟩ : ∃ t l, y = ix2 t l := ⟨y 0, y 1, eq_ix2 y⟩
  exact refOut_at a h t l

theorem refOut16_eq : truncf .bf16 (refOut q k v F) bitsLt_bf16_f32 = fun y : S8192x1024.Idx => ((out a (y 0) (y 1) : ℝ) : EReal) :=
  refOut_eq a h

theorem refLse_eq : refLse q k F = fun y : S8x8192x128.Idx => ((lsePad a (y 0) (y 1) (y 2) : ℝ) : EReal) := by
  funext y
  obtain ⟨g, t, l, rfl⟩ : ∃ g t l, y = ix3 g t l := ⟨y 0, y 1, y 2, eq_ix3 y⟩
  refine (pairLog_at _ _ g t l).trans ?_
  show _ = ((lsePad a g t l : ℝ) : EReal)
  unfold lsePad
  split
  · rename_i hl
    exact (plusLog_at _ _ _ t).symm.trans (logSum_at a h _ t)
  · rfl
end

section
variable (m : (ℓ : Loc nD τ sig) → Buf (Elt Ideal) ℓ) (c : Dev nD)

/-- The four arguments as the reference is given them. -/
def argQ : Act := m ((c.tc : Thread nD τ).loc main_arg0)
def argK : Act := m ((c.tc : Thread nD τ).loc main_arg1)
def argV : Act := m ((c.tc : Thread nD τ).loc main_arg2)
def argF : Decay := m ((c.tc : Thread nD τ).loc main_arg3)

theorem res_o16 : Value.res_out0 m c = truncf .bf16 (refOut (argQ m c) (argK m c) (argV m c) (argF m c)) bitsLt_bf16_f32 := rfl
theorem res_o32 : Value.res_out1 m c = refOut (argQ m c) (argK m c) (argV m c) (argF m c) := rfl
theorem res_lse : Value.res_out2 m c = refLse (argQ m c) (argK m c) (argF m c) := rfl
end

section
variable [Cert.Pre_finite_fwd.Facts]
open Cert.Pre_finite_fwd Cert.Norm

/-- Under the precondition the arguments read as reals (beside a cotangent of zeros, which nothing here reads). -/
theorem reads_of_finite {q k v : Act} {F : Decay}
    (h : (Cert.Pre_finite_fwd.fn (F := Ideal) q k v F).1 = (fun _ => 1#1) ∧ (Cert.Pre_finite_fwd.fn (F := Ideal) q k v F).2 = fun _ => 1#1) :
    Args.Reads ⟨fun t l => (q (ix3 0 t l)).toReal, fun t l => (k (ix3 0 t l)).toReal, fun t l => (v (ix3 0 t l)).toReal,
      fun H t => (F (ix3 0 H t)).toReal, fun _ _ => 0⟩ q k v F (fun _ => ((0 : ℝ) : EReal)) := by
  have h1 : ∀ i, (Ideal.cmp .olt (max (q i : EReal) (-(q i : EReal))) (Ideal.ofBits .f32 0x7F800000#32)
      &&& Ideal.cmp .olt (max (k i : EReal) (-(k i : EReal))) (Ideal.ofBits .f32 0x7F800000#32)
      &&& Ideal.cmp .olt (max (v i : EReal) (-(v i : EReal))) (Ideal.ofBits .f32 0x7F800000#32)) = 1#1 := fun i => congrFun h.1 i
  have h2 : ∀ i, Ideal.cmp .olt (max (F i : EReal) (-(F i : EReal))) (Ideal.ofBits .f32 0x7F800000#32) = 1#1 := fun i => congrFun h.2 i
  have h4 := fun i => and_one (h1 i)
  have h5 := fun i => and_one (h4 i).1
  exact ⟨fun t l => real_of_lt (h5 _).1, fun t l => real_of_lt (h5 _).2, fun t l => real_of_lt (h4 _).2, fun H t => real_of_lt (h2 _), fun _ _ => rfl⟩
end

end Cert.Fwd

end

end
-- ==== Proof.AttnFwd.Claims.lean ====
module

public import proofs.«01_k».proof.Defs
public import proofs.«01_k».proof.Proof.Gen.KernelAttnFwd.Frame
public import proofs.«01_k».proof.Proof.Gen.KernelAttnFwdIdeal.Value
public import proofs.«01_k».proof.Proof.AttnFwd.Host
public import proofs.«01_k».proof.Proof.AttnFwd.Ref
public import Idealize.ShloMosaic.Lib.Claim

@[expose] public section

noncomputable section

namespace Cert.Fwd

open Idealize.ShloMosaic Idealize.ShloMosaic.TcCoe Idealize.SL.Sem
open Cert.KernelAttnFwdIdeal Cert.KernelAttnFwdIdeal.Gen

/-- On finite arguments the kernel's arrays are the reference's terms. -/
theorem arrays_eq (m : (ℓ : Loc nD τ sig) → Buf (Elt Ideal) ℓ) (c : Dev nD) [Cert.Pre_finite_fwd.Facts]
    (h : (Cert.Pre_finite_fwd.fn (F := Ideal) (inQ m c) (inK m c) (inV m c) (inF m c)).1 = (fun _ => 1#1)
      ∧ (Cert.Pre_finite_fwd.fn (F := Ideal) (inQ m c) (inK m c) (inV m c) (inF m c)).2 = fun _ => 1#1) :
    (dats m 0 c).arrAt 5 cfg0.N = truncf .bf16 (refOut (inQ m c) (inK m c) (inV m c) (inF m c)) (by decide)
    ∧ (dats m 0 c).arrAt 6 cfg0.N = refOut (inQ m c) (inK m c) (inV m c) (inF m c)
    ∧ (dats m 0 c).arrAt 7 cfg0.N = refLse (inQ m c) (inK m c) (inF m c) := by
  have hr := reads_of_finite h
  have hh := holds m c _ _ hr
  exact ⟨(final_o16 hh).trans (refOut16_eq _ hr).symm, (final_o32 hh).trans (refOut_eq _ hr).symm, (final_lse hh).trans (refLse_eq _ hr).symm⟩

end Cert.Fwd

namespace Cert.Proof

open Idealize.ShloMosaic Idealize.SL.Sem

/-- The attention's forward pass: on finite arguments kernel and reference end with equal outputs and log-sums on the ideal numbers. -/
theorem attn_fwd_value [hPre_finite_fwd : Cert.Pre_finite_fwd.Facts] : Cert.algebraic_KernelAttnFwdIdeal_ReferenceAttnFwdIdeal_pre_finite_fwd := by
  intro m g m' g' hpre hagree
  refine ⟨_, _, _, Cert.KernelAttnFwdIdeal.Value.run_blocks m g, ?_⟩
  refine (θ_run Cert.ReferenceAttnFwdIdeal.defs _ _).mono (fun _ h c => ?_) (Cert.ReferenceAttnFwdIdeal.Value.run (F := Ideal) m' g')
  obtain ⟨e0, e1, e2⟩ := Cert.Fwd.arrays_eq m c (hpre c)
  obtain ⟨a0, a1, a2, a3⟩ := hagree c
  have hq : Cert.Fwd.argQ m' c = Cert.Fwd.inQ m c := a0
  have hk : Cert.Fwd.argK m' c = Cert.Fwd.inK m c := a1
  have hv : Cert.Fwd.argV m' c = Cert.Fwd.inV m c := a2
  have hF : Cert.Fwd.argF m' c = Cert.Fwd.inF m c := a3
  obtain ⟨r0, r1, r2, kept⟩ := h c
  have r0 := r0.trans (Cert.Fwd.res_o16 m' c)
  have r1 := r1.trans (Cert.Fwd.res_o32 m' c)
  have r2 := r2.trans (Cert.Fwd.res_lse m' c)
  rw [hq, hk, hF] at r0 r1 r2
  rw [hv] at r0 r1
  exact ⟨r0.trans e0.symm, r1.trans e1.symm, r2.trans e2.symm, kept⟩

/-- The reference terminates, its arguments unchanged. -/
theorem attn_fwd_reference : Cert.quiescent_ReferenceAttnFwdIdeal := by
  intro m g _
  run_from Cert.ReferenceAttnFwdIdeal.Value.run m g
  · exact fun _ => ⟨trivial, trivial, trivial, trivial⟩
  · exact funext fun s => nomatch s

/-- The mask, −10³⁰ as written, is named −∞. -/
theorem attn_fwd_preserves : Cert.preserves_KernelAttnFwd_KernelAttnFwdIdeal :=
  IdealRules.named_const.statement Cert.KernelAttnFwdIdeal.κ "mask" .f32 0xF149F2CA#32 ⊥ rfl

end Cert.Proof

end

end
-- ==== Proof.Mlp.Block.lean ====
module

public import proofs.«01_k».proof.Proof.Norm.Ref
public import proofs.«01_k».proof.Proof.Norm.Rows
public import proofs.«01_k».proof.Proof.Gen.KernelMlpIdeal.Value
public import Idealize.ShloMosaic.Lib.Pipeline.ValueKit

@[expose] public section

set_option maxRecDepth 16384

noncomputable section

namespace Cert.Mlp

open Idealize.ShloMosaic Idealize.ShloMosaic.TcCoe Idealize.SL.Sem
open Cert.KernelMlpIdeal Cert.KernelMlpIdeal.Gen Cert.Norm

/-! # What one point of the perceptron's gradient computes on its blocks -/

/-- The gradient before the squared ReLU for one part of the hidden columns: `p` is the cotangent after the second product,
    `w` the part of its weights, `u` the part of the hidden rows. -/
def act (p : S256x1024.Idx → EReal) (w : S1x512x1024.Idx → EReal) (u : S256x512.Idx → EReal) (r : Fin 256) (e : Fin 512) : EReal :=
  (∑ k : Fin 1024, p (ix2 r k) * w (ix3 0 e k)) * (Ideal.ofBits .f32 0x40000000#32 * max (u (ix2 r e)) 0)

/-- What that part adds to the gradient before the first product; `v` is the part of the first weights. -/
def part (p : S256x1024.Idx → EReal) (w : S1x512x1024.Idx → EReal) (u : S256x512.Idx → EReal) (v : S1x1024x512.Idx → EReal)
    (r : Fin 256) (l : Fin 1024) : EReal :=
  ∑ e : Fin 512, act p w u r e * v (ix3 0 l e)

variable (p : S256x1024.Idx → EReal) (acc : S256x1024.Idx → EReal) (w w' : S1x512x1024.Idx → EReal) (u u' : S256x512.Idx → EReal)
  (v v' : S1x1024x512.Idx → EReal) (x d : S256x1024.Idx → EReal) (g : S1x1024.Idx → EReal) (s q : S1x1024.Idx → EReal)

theorem pay2_apply (r : Fin 8) (l : Fin 1024) : k0_pay2 (F := Ideal) (ix2 r l) = 0 := by
  pointwise [k0_pay2]

theorem pay3_apply (l : Fin 1024) : k0_pay3 (F := Ideal) q s (ix2 0 l) = s (ix2 0 l) + q (ix2 0 l) := by
  pointwise [k0_pay3]

theorem pay4_apply (l : Fin 1024) : k0_pay4 (F := Ideal) q s (ix2 0 l) = s (ix2 0 l) + q (ix2 0 l) := by
  pointwise [k0_pay4]

theorem pay6_apply (r : Fin 256) : k0_pay6 (F := Ideal) x (ix2 r 0) = scale (row x r) := by
  pointwise [k0_pay6, k0_pay5, scale, power, row]

theorem pay7_apply (r : Fin 256) (l : Fin 1024) : k0_pay7 (F := Ideal) x (ix2 r l) = x (ix2 r l) * scale (row x r) := by
  pointwise [k0_pay7, k0_pay5]
  rw [pay6_apply]

theorem pay8_apply (l : Fin 1024) :
    k0_pay8 (F := Ideal) d x (ix2 0 l) = ∑ r : Fin 256, d (ix2 r l) * (x (ix2 r l) * scale (row x r)) := by
  pointwise [k0_pay8]
  simp only [pay7_apply]

theorem pay9_apply (r : Fin 256) (l : Fin 1024) : k0_pay9 (F := Ideal) d x g (ix2 r l) = back (row x r) (row g 0) (row d r) l := by
  pointwise [k0_pay9]
  simp only [pay7_apply, pay6_apply]
  rfl

theorem pay11_apply (r : Fin 256) (l : Fin 1024) :
    k0_pay11 (F := Ideal) x g (k0_pay10 (F := Ideal) x) (ix2 r l) = x (ix2 r l) * scale (row x r) * g (ix2 0 l) := by
  pointwise [k0_pay11, k0_pay10, scale, power, row]

theorem pay12_apply (r : Fin 256) (e : Fin 512) : k0_pay12 (F := Ideal) p w u (ix2 r e) = act p w u r e := by
  pointwise [k0_pay12, act]

theorem pay17_apply (r : Fin 256) (e : Fin 512) : k0_pay17 (F := Ideal) p w u (ix2 r e) = act p w u r e := by
  pointwise [k0_pay17, act]

theorem pay21_apply (r : Fin 256) (e : Fin 512) : k0_pay21 (F := Ideal) p w u (ix2 r e) = act p w u r e := by
  pointwise [k0_pay21, act]

theorem pay25_apply (r : Fin 256) (e : Fin 512) : k0_pay25 (F := Ideal) p w u (ix2 r e) = act p w u r e := by
  pointwise [k0_pay25, act]

theorem pay27_apply (r : Fin 256) (e : Fin 512) : k0_pay27 (F := Ideal) p w u (ix2 r e) = act p w u r e := by
  pointwise [k0_pay27, act]

theorem pay16_apply (z : EReal) (hz : z = 0) (r : Fin 256) (e : Fin 512) :
    k0_pay16 (F := Ideal) (k0_pay14 (F := Ideal) p w) (k0_pay15 (F := Ideal) u) z (ix2 r e) = act p w u r e := by
  subst hz
  pointwise [k0_pay16, k0_pay14, k0_pay15, act]

theorem pay20_apply (r : Fin 256) (e : Fin 512) : k0_pay20 (F := Ideal) (k0_pay19 (F := Ideal) p w) u (ix2 r e) = act p w u r e := by
  pointwise [k0_pay20, k0_pay19, act]

theorem pay24_apply (r : Fin 256) (e : Fin 512) : k0_pay24 (F := Ideal) p (k0_pay23 (F := Ideal) w) u (ix2 r e) = act p w u r e := by
  pointwise [k0_pay24, k0_pay23, act]

theorem pay13_apply (r : Fin 256) (l : Fin 1024) : k0_pay13 (F := Ideal) p w u v (ix2 r l) = part p w u v r l := by
  pointwise [k0_pay13, part]
  simp only [pay12_apply]

theorem pay18_apply (r : Fin 256) (l : Fin 1024) : k0_pay18 (F := Ideal) p acc (k0_pay14 (F := Ideal) p w) (k0_pay15 (F := Ideal) u)
    (FloatOps.ofBits FTy.f32 0#32) v w' u' v' (ix2 r l) = acc (ix2 r l) + part p w u v r l + part p w' u' v' r l := by
  pointwise [k0_pay18, part]
  simp only [pay16_apply p w u 0 rfl, pay17_apply]

theorem pay22_apply (r : Fin 256) (l : Fin 1024) : k0_pay22 (F := Ideal) p acc (k0_pay19 (F := Ideal) p w) u v w' u' v' (ix2 r l)
    = acc (ix2 r l) + part p w u v r l + part p w' u' v' r l := by
  pointwise [k0_pay22, part]
  simp only [pay20_apply, pay21_apply]

theorem pay26_apply (r : Fin 256) (l : Fin 1024) : k0_pay26 (F := Ideal) p acc (k0_pay23 (F := Ideal) w) u v w' u' v' (ix2 r l)
    = acc (ix2 r l) + part p w u v r l + part p w' u' v' r l := by
  pointwise [k0_pay26, part]
  simp only [pay24_apply, pay25_apply]

theorem pay28_apply (r : Fin 256) (l : Fin 1024) : k0_pay28 (F := Ideal) p acc w u v (ix2 r l) = acc (ix2 r l) + part p w u v r l := by
  pointwise [k0_pay28, part]
  simp only [pay27_apply]

theorem pay29_apply (r : Fin 256) : k0_pay29 (F := Ideal) x (ix2 r 0) = scale (row x r) := by
  pointwise [k0_pay29, scale, power, row]

theorem pay30_apply (r : Fin 256) (l : Fin 1024) : k0_pay30 (F := Ideal) x (ix2 r l) = x (ix2 r l) * scale (row x r) := by
  pointwise [k0_pay30]
  rw [pay29_apply]

/-- The last part completes the gradient before the first product; with it the sums for the norm's weights, -/
theorem pay31_apply (l : Fin 1024) : k0_pay31 (F := Ideal) p x acc w u v (ix2 0 l)
    = ∑ r : Fin 256, k0_pay28 (F := Ideal) p acc w u v (ix2 r l) * (x (ix2 r l) * scale (row x r)) := by
  pointwise [k0_pay31]
  simp only [pay30_apply]

/-- and the first norm's gradient. -/
theorem pay1_apply (r : Fin 256) (l : Fin 1024) :
    k0_pay1 (F := Ideal) d (k0_pay29 (F := Ideal) x) (k0_pay30 (F := Ideal) x) (k0_pay32 (F := Ideal) p acc w u v g)
      (k0_pay33 (F := Ideal) p x acc w u v g) (ix2 r l)
    = d (ix2 r l) + back (row x r) (row g 0) (row (k0_pay28 (F := Ideal) p acc w u v) r) l := by
  pointwise [k0_pay1, k0_pay32, k0_pay33]
  simp only [pay29_apply, pay30_apply]
  rfl

end Cert.Mlp

end
-- ==== Proof.Mlp.Point.lean ====
module

public import proofs.«01_k».proof.Proof.Mlp.Block

@[expose] public section

set_option maxRecDepth 16384

noncomputable section

namespace Cert.Mlp

open Idealize.ShloMosaic Idealize.ShloMosaic.TcCoe Idealize.SL.Sem
open Cert.KernelMlpIdeal Cert.KernelMlpIdeal.Gen Cert.Norm

/-! # What one point of the perceptron's gradient leaves -/

/-- The part `s` of the second weights, of the hidden rows and of the first weights, as the body loads it. -/
def wdPart (X : S8x512x1024.Idx → EReal) (s : Fin 8) : S1x512x1024.Idx → EReal :=
  View.ld (Val := Elt Ideal) (e' := .bf16) X (Rect.unit (s := S8x512x1024) ![s.val, 0, 0] ![1, 512, 1024]
    ((by decide : ∀ s : Fin 8, ∀ a : Fin 3, (![s.val, 0, 0] : Fin 3 → ℕ) a + (![1, 512, 1024] : Fin 3 → ℕ) a ≤ (![8, 512, 1024] : Fin 3 → ℕ) a) s))
def wuPart (X : S8x1024x512.Idx → EReal) (s : Fin 8) : S1x1024x512.Idx → EReal :=
  View.ld (Val := Elt Ideal) (e' := .bf16) X (Rect.unit (s := S8x1024x512) ![s.val, 0, 0] ![1, 1024, 512]
    ((by decide : ∀ s : Fin 8, ∀ a : Fin 3, (![s.val, 0, 0] : Fin 3 → ℕ) a + (![1, 1024, 512] : Fin 3 → ℕ) a ≤ (![8, 1024, 512] : Fin 3 → ℕ) a) s))
theorem cols (s : Fin 8) : ∀ a : Fin 2, (![0, s.val * 512] : Fin 2 → ℕ) a + (![256, 512] : Fin 2 → ℕ) a ≤ (![256, 4096] : Fin 2 → ℕ) a :=
  (by decide : ∀ s : Fin 8, ∀ a : Fin 2, (![0, s.val * 512] : Fin 2 → ℕ) a + (![256, 512] : Fin 2 → ℕ) a ≤ (![256, 4096] : Fin 2 → ℕ) a) s
def upPart (X : S256x4096.Idx → EReal) (s : Fin 8) : S256x512.Idx → EReal :=
  View.ld (Val := Elt Ideal) (e' := .bf16) X (Rect.unit (s := S256x4096) ![0, s.val * 512] ![256, 512] (cols s))

theorem wdPart_apply (X : S8x512x1024.Idx → EReal) (s : Fin 8) (e : Fin 512) (k : Fin 1024) : wdPart X s (ix3 0 e k) = X (ix3 s e k) := by
  refine congrArg X (funext fun a => ?_)
  match a with
  | ⟨0, _⟩ => exact Fin.ext (show s.val + 1 * 0 = s.val by omega)
  | ⟨1, _⟩ => exact Fin.ext (show 0 + 1 * e.val = e.val by omega)
  | ⟨2, _⟩ => exact Fin.ext (show 0 + 1 * k.val = k.val by omega)

theorem wuPart_apply (X : S8x1024x512.Idx → EReal) (s : Fin 8) (l : Fin 1024) (e : Fin 512) : wuPart X s (ix3 0 l e) = X (ix3 s l e) := by
  refine congrArg X (funext fun a => ?_)
  match a with
  | ⟨0, _⟩ => exact Fin.ext (show s.val + 1 * 0 = s.val by omega)
  | ⟨1, _⟩ => exact Fin.ext (show 0 + 1 * l.val = l.val by omega)
  | ⟨2, _⟩ => exact Fin.ext (show 0 + 1 * e.val = e.val by omega)

theorem upPart_apply (X : S256x4096.Idx → EReal) (s : Fin 8) (r : Fin 256) (e : Fin 512) (h : s.val * 512 + e.val < 4096) :
    upPart X s (ix2 r e) = X (ix2 r ⟨s.val * 512 + e.val, h⟩) := by
  refine congrArg X (funext fun a => ?_)
  match a with
  | ⟨0, _⟩ => exact Fin.ext (show 0 + 1 * r.val = r.val by omega)
  | ⟨1, _⟩ => exact Fin.ext (show s.val * 512 + 1 * e.val = s.val * 512 + e.val by omega)

section
variable (P : S256x1024.Idx → EReal) (X : S8x512x1024.Idx → EReal) (U : S256x4096.Idx → EReal) (Y : S8x1024x512.Idx → EReal)

/-- The gradient before the first product over the first seven parts, as the body adds it up, -/
def seven : S256x1024.Idx → EReal :=
  k0_pay26 (F := Ideal) P
    (k0_pay22 (F := Ideal) P
      (k0_pay18 (F := Ideal) P (k0_pay13 (F := Ideal) P (wdPart X 0) (upPart U 0) (wuPart Y 0)) (k0_pay14 (F := Ideal) P (wdPart X 1)) (k0_pay15 (F := Ideal) (upPart U 1))
        (FloatOps.ofBits FTy.f32 0#32) (wuPart Y 1) (wdPart X 2) (upPart U 2) (wuPart Y 2))
      (k0_pay19 (F := Ideal) P (wdPart X 3)) (upPart U 3) (wuPart Y 3) (wdPart X 4) (upPart U 4) (wuPart Y 4))
    (k0_pay23 (F := Ideal) (wdPart X 5)) (upPart U 5) (wuPart Y 5) (wdPart X 6) (upPart U 6) (wuPart Y 6)

/-- and over all eight. -/
def eight : S256x1024.Idx → EReal := k0_pay28 (F := Ideal) P (seven P X U Y) (wdPart X 7) (upPart U 7) (wuPart Y 7)

theorem eight_apply (r : Fin 256) (l : Fin 1024) :
    eight P X U Y (ix2 r l) = ∑ s : Fin 8, part P (wdPart X s) (upPart U s) (wuPart Y s) r l := by
  unfold eight seven
  rw [pay28_apply, pay26_apply, pay22_apply, pay18_apply, pay13_apply, Fin.sum_univ_eight]
end

variable (m : (ℓ : Loc nD τ sig) → Buf (Elt Ideal) ℓ)

/-- A point's blocks: cotangent, product, input, hidden rows, first norm's weights, the two weights, second norm's weights. -/
def blkD (c : Dev nD) (t : Fin cfg0.N) : S256x1024.Idx → EReal := iblk m c 0 t
def blkM (c : Dev nD) (t : Fin cfg0.N) : S256x1024.Idx → EReal := iblk m c 1 t
def blkX (c : Dev nD) (t : Fin cfg0.N) : S256x1024.Idx → EReal := iblk m c 2 t
def blkU (c : Dev nD) (t : Fin cfg0.N) : S256x4096.Idx → EReal := iblk m c 3 t
def blkP (c : Dev nD) (t : Fin cfg0.N) : S1x1024.Idx → EReal := iblk m c 4 t
def blkWu (c : Dev nD) (t : Fin cfg0.N) : S8x1024x512.Idx → EReal := iblk m c 5 t
def blkWd (c : Dev nD) (t : Fin cfg0.N) : S8x512x1024.Idx → EReal := iblk m c 6 t
def blkQ (c : Dev nD) (t : Fin cfg0.N) : S1x1024.Idx → EReal := iblk m c 7 t

/-- The cotangent after the second product, and the one before the first. -/
def bDm (c : Dev nD) (t : Fin cfg0.N) : S256x1024.Idx → EReal := k0_pay9 (F := Ideal) (blkD m c t) (blkM m c t) (blkQ m c t)
def bDh (c : Dev nD) (t : Fin cfg0.N) : S256x1024.Idx → EReal := eight (bDm m c t) (blkWd m c t) (blkU m c t) (blkWu m c t)

/-- What a point leaves in the outputs. -/
theorem outs_h (c : Dev nD) (t : Fin cfg0.N) : (outsAt0 m c t.val t.isLt).2.1 = k0_pay11 (F := Ideal) (blkX m c t) (blkP m c t) (k0_pay10 (F := Ideal) (blkX m c t)) := by
  by_cases h0 : t.val % 32 = 0
  · rw [outsAt0_A m c t h0]; dsimp only; frame_out; rfl
  · rw [outsAt0_B m c t h0]; dsimp only; frame_out; rfl

theorem outs_dm (c : Dev nD) (t : Fin cfg0.N) : (outsAt0 m c t.val t.isLt).2.2.1 = bDm m c t := by
  by_cases h0 : t.val % 32 = 0
  · rw [outsAt0_A m c t h0]; dsimp only; frame_out; rfl
  · rw [outsAt0_B m c t h0]; dsimp only; frame_out; rfl

theorem outs_dx (c : Dev nD) (t : Fin cfg0.N) : (outsAt0 m c t.val t.isLt).1
    = k0_pay1 (F := Ideal) (blkD m c t) (k0_pay29 (F := Ideal) (blkX m c t)) (k0_pay30 (F := Ideal) (blkX m c t))
      (k0_pay32 (F := Ideal) (bDm m c t) (seven (bDm m c t) (blkWd m c t) (blkU m c t) (blkWu m c t)) (wdPart (blkWd m c t) 7) (upPart (blkU m c t) 7) (wuPart (blkWu m c t) 7) (blkP m c t))
      (k0_pay33 (F := Ideal) (bDm m c t) (blkX m c t) (seven (bDm m c t) (blkWd m c t) (blkU m c t) (blkWu m c t)) (wdPart (blkWd m c t) 7) (upPart (blkU m c t) 7) (wuPart (blkWu m c t) 7) (blkP m c t)) := by
  by_cases h0 : t.val % 32 = 0
  · rw [outsAt0_A m c t h0]; dsimp only; frame_out; rfl
  · rw [outsAt0_B m c t h0]; dsimp only; frame_out; rfl

/-- A store into the columns of part `q` leaves the other parts as they were. -/
theorem canon_col (q s : Fin 8) (Y : S256x512.Idx → EReal) (L : List (View.Piece (Elt Ideal) S256x4096 .bf16)) (r : Fin 256) (e : Fin 512)
    (h : s.val * 512 + e.val < 4096) :
    View.canon (Val := Elt Ideal) (⟨Rect.unit (s := S256x4096) ![0, q.val * 512] ![256, 512] (cols q), Y⟩ :: L) (ix2 r ⟨s.val * 512 + e.val, h⟩)
      = if s = q then Y (ix2 r e) else View.canon L (ix2 r ⟨s.val * 512 + e.val, h⟩) := by
  split
  · rename_i hs
    subst hs
    refine Eq.trans (congrArg _ (funext fun a => ?_)) (View.canon_cons_emb (Val := Elt Ideal) (e := .bf16) (Rect.unit (s := S256x4096) ![0, s.val * 512] ![256, 512] (cols s)) Y L (ix2 r e))
    match a with
    | ⟨0, _⟩ => exact Fin.ext (show r.val = 0 + 1 * r.val by omega)
    | ⟨1, _⟩ => exact Fin.ext (show s.val * 512 + e.val = s.val * 512 + 1 * e.val by omega)
  · rename_i hs
    refine View.canon_cons_of_not_mem _ _ fun hm => hs (Fin.ext ?_)
    obtain ⟨x, hx⟩ := (Rect.unit (s := S256x4096) ![0, q.val * 512] ![256, 512] (cols q)).exists_idx_of_mem hm
    have h1 : q.val * 512 + 1 * (x 1).val = s.val * 512 + e.val := congrArg (fun y : S256x4096.Idx => (y 1).val) hx
    have h2 : (x 1).val < 512 := (x 1).isLt
    have := e.isLt
    omega

/-- The eight stores of parts of the hidden gradient leave each part at its columns. -/
theorem canon_parts (P : S256x1024.Idx → EReal) (X : S8x512x1024.Idx → EReal) (U : S256x4096.Idx → EReal) (s : Fin 8) (r : Fin 256) (e : Fin 512)
    (h : s.val * 512 + e.val < 4096) :
    View.canon (Val := Elt Ideal) (e := .bf16) [⟨Rect.unit (s := S256x4096) ![0, 3584] ![256, 512] (cols 7), k0_pay27 (F := Ideal) P (wdPart X 7) (upPart U 7)⟩,
      ⟨Rect.unit (s := S256x4096) ![0, 3072] ![256, 512] (cols 6), k0_pay25 (F := Ideal) P (wdPart X 6) (upPart U 6)⟩,
      ⟨Rect.unit (s := S256x4096) ![0, 2560] ![256, 512] (cols 5), k0_pay24 (F := Ideal) P (k0_pay23 (F := Ideal) (wdPart X 5)) (upPart U 5)⟩,
      ⟨Rect.unit (s := S256x4096) ![0, 2048] ![256, 512] (cols 4), k0_pay21 (F := Ideal) P (wdPart X 4) (upPart U 4)⟩,
      ⟨Rect.unit (s := S256x4096) ![0, 1536] ![256, 512] (cols 3), k0_pay20 (F := Ideal) (k0_pay19 (F := Ideal) P (wdPart X 3)) (upPart U 3)⟩,
      ⟨Rect.unit (s := S256x4096) ![0, 1024] ![256, 512] (cols 2), k0_pay17 (F := Ideal) P (wdPart X 2) (upPart U 2)⟩,
      ⟨Rect.unit (s := S256x4096) ![0, 512] ![256, 512] (cols 1), k0_pay16 (F := Ideal) (k0_pay14 (F := Ideal) P (wdPart X 1)) (k0_pay15 (F := Ideal) (upPart U 1)) (FloatOps.ofBits FTy.f32 0#32)⟩,
      ⟨Rect.unit (s := S256x4096) ![0, 0] ![256, 512] (cols 0), k0_pay12 (F := Ideal) P (wdPart X 0) (upPart U 0)⟩] (ix2 r ⟨s.val * 512 + e.val, h⟩)
    = act P (wdPart X s) (upPart U s) r e := by
  refine (canon_col 7 s _ _ r e h).trans ?_
  by_cases h7 : s = 7
  · subst h7; exact (if_pos rfl).trans (pay27_apply _ _ _ r e)
  refine (if_neg h7).trans ?_
  refine (canon_col 6 s _ _ r e h).trans ?_
  by_cases h6 : s = 6
  · subst h6; exact (if_pos rfl).trans (pay25_apply _ _ _ r e)
  refine (if_neg h6).trans ?_
  refine (canon_col 5 s _ _ r e h).trans ?_
  by_cases h5 : s = 5
  · subst h5; exact (if_pos rfl).trans (pay24_apply _ _ _ r e)
  refine (if_neg h5).trans ?_
  refine (canon_col 4 s _ _ r e h).trans ?_
  by_cases h4 : s = 4
  · subst h4; exact (if_pos rfl).trans (pay21_apply _ _ _ r e)
  refine (if_neg h4).trans ?_
  refine (canon_col 3 s _ _ r e h).trans ?_
  by_cases h3 : s = 3
  · subst h3; exact (if_pos rfl).trans (pay20_apply _ _ _ r e)
  refine (if_neg h3).trans ?_
  refine (canon_col 2 s _ _ r e h).trans ?_
  by_cases h2 : s = 2
  · subst h2; exact (if_pos rfl).trans (pay17_apply _ _ _ r e)
  refine (if_neg h2).trans ?_
  refine (canon_col 1 s _ _ r e h).trans ?_
  by_cases h1 : s = 1
  · subst h1; exact (if_pos rfl).trans (pay16_apply _ _ _ _ (by simp [FloatOps.ofBits, Ideal.ofBits, Ideal.ieee]) r e)
  refine (if_neg h1).trans ?_
  refine (canon_col 0 s _ _ r e h).trans ?_
  by_cases h0 : s = 0
  · subst h0; exact (if_pos rfl).trans (pay12_apply _ _ _ r e)
  refine (if_neg h0).trans ?_
  exact absurd ((by decide : ∀ s : Fin 8, s = 7 ∨ s = 6 ∨ s = 5 ∨ s = 4 ∨ s = 3 ∨ s = 2 ∨ s = 1 ∨ s = 0) s) (by simp only [h7, h6, h5, h4, h3, h2, h1, h0, or_self, not_false_eq_true])

theorem outs_dup (c : Dev nD) (t : Fin cfg0.N) (s : Fin 8) (r : Fin 256) (e : Fin 512) (h : s.val * 512 + e.val < 4096) :
    (outsAt0 m c t.val t.isLt).2.2.2.1 (ix2 r ⟨s.val * 512 + e.val, h⟩) = act (bDm m c t) (wdPart (blkWd m c t) s) (upPart (blkU m c t) s) r e := by
  by_cases h0 : t.val % 32 = 0
  · rw [outsAt0_A m c t h0]; dsimp only; frame_out; exact canon_parts (bDm m c t) (blkWd m c t) (blkU m c t) s r e h
  · rw [outsAt0_B m c t h0]; dsimp only; frame_out; exact canon_parts (bDm m c t) (blkWd m c t) (blkU m c t) s r e h

/-- What a point adds to the sums: row 0 is the second norm's, row 1 the first norm's. -/
def bQ (c : Dev nD) (t : Fin cfg0.N) : S1x1024.Idx → EReal := k0_pay8 (F := Ideal) (blkD m c t) (blkM m c t)
def bP (c : Dev nD) (t : Fin cfg0.N) : S1x1024.Idx → EReal :=
  k0_pay31 (F := Ideal) (bDm m c t) (blkX m c t) (seven (bDm m c t) (blkWd m c t) (blkU m c t) (blkWu m c t)) (wdPart (blkWd m c t) 7) (upPart (blkU m c t) 7) (wuPart (blkWu m c t) 7)
def bSum (c : Dev nD) (t : Fin cfg0.N) (r : Fin 8) (l : Fin 1024) : EReal :=
  if r = 1 then bP m c t (ix2 0 l) else if r = 0 then bQ m c t (ix2 0 l) else 0

theorem sums_A (c : Dev nD) (t : Fin cfg0.N) (h0 : t.val % 32 = 0) (r : Fin 8) (l : Fin 1024) :
    (outsAt0 m c t.val t.isLt).2.2.2.2 (ix2 r l) = 0 + bSum m c t r l := by
  rw [outsAt0_A m c t h0]; dsimp only; frame_out
  refine (canon_row 1 _ _ _ r l).trans ?_
  rw [zero_add]
  unfold bSum
  have hZ : ∀ (r : Fin 8) (l : Fin 1024), View.canon [(⟨Rect.unit (s := S8x1024) ![0, 0] ![8, 1024] inb_S8x1024_S8x1024_0_0, k0_pay2 (F := Ideal)⟩ : View.Piece (Elt Ideal) S8x1024 .f32)] (ix2 r l) = (0 : EReal) :=
    fun r l => (congrFun (canon_whole _ _ _) _).trans (pay2_apply r l)
  by_cases h1 : r = 1
  · subst h1
    rw [if_pos (rfl : (1 : Fin 8) = 1)]
    refine (if_pos rfl).trans ?_
    refine (pay4_apply _ _ l).trans ?_
    refine (congrArg (· + _) ((readCov_row _ _ 1 (by decide) _ l).trans ((canon_row 0 _ _ _ 1 l).trans ((if_neg (by decide)).trans (hZ 1 l))))).trans (zero_add _)
  rw [if_neg h1]
  refine (if_neg fun h => h1 (Fin.ext h)).trans ((canon_row 0 _ _ _ r l).trans ?_)
  by_cases hr : r = 0
  · subst hr
    rw [if_pos (rfl : (0 : Fin 8) = 0)]
    refine (if_pos rfl).trans ?_
    refine (pay3_apply _ _ l).trans ?_
    refine (congrArg (· + _) ((readCov_row _ _ 0 (by decide) _ l).trans (hZ 0 l))).trans (zero_add _)
  · rw [if_neg hr]
    exact (if_neg fun h => hr (Fin.ext h)).trans (hZ r l)

theorem sums_B (c : Dev nD) (t : Fin cfg0.N) (h0 : ¬t.val % 32 = 0) (r : Fin 8) (l : Fin 1024) : (outsAt0 m c t.val t.isLt).2.2.2.2 (ix2 r l)
    = (outsAt0 m c (t.val - 1) (Nat.lt_of_le_of_lt (Nat.sub_le _ _) t.isLt)).2.2.2.2 (ix2 r l) + bSum m c t r l := by
  conv_lhs => rw [outsAt0_B m c t h0]
  dsimp only; frame_out
  refine (read_row _ _ 1 _ _ _ r l).trans ?_
  unfold bSum
  by_cases h1 : r = 1
  · subst h1
    rw [if_pos (rfl : (1 : Fin 8) = 1)]
    refine (if_pos rfl).trans ?_
    refine (pay4_apply _ _ l).trans ?_
    exact congrArg (· + _) (ld_row _ 1 (by decide) _ l)
  rw [if_neg h1]
  refine (if_neg fun h => h1 (Fin.ext h)).trans ((read_row _ _ 0 _ _ _ r l).trans ?_)
  by_cases hr : r = 0
  · subst hr
    rw [if_pos (rfl : (0 : Fin 8) = 0)]
    refine (if_pos rfl).trans ?_
    refine (pay3_apply _ _ l).trans ?_
    exact congrArg (· + _) (ld_row _ 0 (by decide) _ l)
  · rw [if_neg hr, add_zero]
    refine (if_neg fun h => hr (Fin.ext h)).trans ?_
    exact congrFun ((hs0_12 t).read_unread _) _

end Cert.Mlp

end
-- ==== Proof.Mlp.Final.lean ====
module

public import proofs.«01_k».proof.Proof.Mlp.Point

@[expose] public section

set_option maxRecDepth 16384

noncomputable section

namespace Cert.Mlp

open Idealize.ShloMosaic Idealize.ShloMosaic.TcCoe Idealize.SL.Sem
open Cert.KernelMlpIdeal Cert.KernelMlpIdeal.Gen Cert.Norm

/-! # The five output arrays after the run -/

section
variable (D M X : S8192x1024.Idx → EReal) (U : S8192x4096.Idx → EReal) (P Q : S1x1024.Idx → EReal) (Wu : S8x1024x512.Idx → EReal) (Wd : S8x512x1024.Idx → EReal)

/-- Column `e` of part `s`. -/
def col (s : Fin 8) (e : Fin 512) : Fin 4096 := ⟨s.val * 512 + e.val, by have := s.isLt; have := e.isLt; omega⟩

/-- The cotangent after the second product. -/
def dmArr (T : Fin 8192) (l : Fin 1024) : EReal := back (row M T) (row Q 0) (row D T) l

/-- The gradient before the squared ReLU, at column `e` of part `s`. -/
def dupArr (T : Fin 8192) (s : Fin 8) (e : Fin 512) : EReal :=
  (∑ k : Fin 1024, dmArr D M Q T k * Wd (ix3 s e k)) * (Ideal.ofBits .f32 0x40000000#32 * max (U (ix2 T (col s e))) 0)

/-- The gradient before the first product. -/
def dhArr (T : Fin 8192) (l : Fin 1024) : EReal := ∑ s : Fin 8, ∑ e : Fin 512, dupArr D M U Q Wd T s e * Wu (ix3 s l e)

/-- The perceptron's gradient with respect to its input, added to the cotangent. -/
def dxArr (T : Fin 8192) (l : Fin 1024) : EReal := D (ix2 T l) + back (row X T) (row P 0) (dhArr D M U Q Wu Wd T) l

/-- The first norm's result. -/
def hArr (T : Fin 8192) (l : Fin 1024) : EReal := X (ix2 T l) * scale (row X T) * P (ix2 0 l)

/-- The sums for the weights of the second and of the first norm. -/
def dgqArr (l : Fin 1024) : EReal := ∑ T : Fin 8192, D (ix2 T l) * (M (ix2 T l) * scale (row M T))
def dgpArr (l : Fin 1024) : EReal := ∑ T : Fin 8192, dhArr D M U Q Wu Wd T l * (X (ix2 T l) * scale (row X T))
end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0] ∧ win0_7.index t = ![0, 0] :=
  (by decide +kernel : ∀ t : Fin grid0.N, _)

theorem idx_out : ∀ t : Fin cfg0.N, win0_8.index t = ![t.val, 0] ∧ win0_9.index t = ![t.val, 0] ∧ win0_10.index t = ![t.val, 0] ∧ win0_11.index t = ![t.val, 0] :=
  (by decide +kernel : ∀ t : Fin grid0.N, _)

/-- The arrays the region reads. -/
def inD (c : Dev nD) : S8192x1024.Idx → EReal := V m c (Pipeline.arrRef spec0 0)
def inM (c : Dev nD) : S8192x1024.Idx → EReal := V m c (Pipeline.arrRef spec0 1)
def inX (c : Dev nD) : S8192x1024.Idx → EReal := V m c (Pipeline.arrRef spec0 2)
def inU (c : Dev nD) : S8192x4096.Idx → EReal := V m c (Pipeline.arrRef spec0 3)
def inP (c : Dev nD) : S1x1024.Idx → EReal := V m c (Pipeline.arrRef spec0 4)
def inWu (c : Dev nD) : S8x1024x512.Idx → EReal := V m c (Pipeline.arrRef spec0 5)
def inWd (c : Dev nD) : S8x512x1024.Idx → EReal := V m c (Pipeline.arrRef spec0 6)
def inQ (c : Dev nD) : S1x1024.Idx → EReal := V m c (Pipeline.arrRef spec0 7)

theorem blkD_apply (c : Dev nD) (t : Fin cfg0.N) (r : Fin 256) (l : Fin 1024) (h : t.val * 256 + r < 8192) :
    blkD m c t (ix2 r l) = inD m c (ix2 ⟨t.val * 256 + r, h⟩ l) := by
  unfold blkD inD iblk
  blk_ext [iblk, (idx t).1]

theorem blkM_apply (c : Dev nD) (t : Fin cfg0.N) (r : Fin 256) (l : Fin 1024) (h : t.val * 256 + r < 8192) :
    blkM m c t (ix2 r l) = inM m c (ix2 ⟨t.val * 256 + r, h⟩ l) := by
  unfold blkM inM iblk
  blk_ext [iblk, (idx t).2.1]

theorem blkX_apply (c : Dev nD) (t : Fin cfg0.N) (r : Fin 256) (l : Fin 1024) (h : t.val * 256 + r < 8192) :
    blkX m c t (ix2 r l) = inX m c (ix2 ⟨t.val * 256 + r, h⟩ l) := by
  unfold blkX inX iblk
  blk_ext [iblk, (idx t).2.2.1]

theorem blkU_apply (c : Dev nD) (t : Fin cfg0.N) (r : Fin 256) (l : Fin 4096) (h : t.val * 256 + r < 8192) :
    blkU m c t (ix2 r l) = inU m c (ix2 ⟨t.val * 256 + r, h⟩ l) := by
  unfold blkU inU iblk
  blk_ext [iblk, (idx t).2.2.2.1]

theorem blkP_eq (c : Dev nD) (t : Fin cfg0.N) : blkP m c t = inP m c := by
  funext i
  obtain ⟨r, l, rfl⟩ : ∃ (r : Fin 1) (l : Fin 1024), i = ix2 r l := ⟨i 0, i 1, eq_ix2 i⟩
  unfold blkP inP iblk
  blk_ext [iblk, (idx t).2.2.2.2.1]

theorem blkWu_eq (c : Dev nD) (t : Fin cfg0.N) : blkWu m c t = inWu m c := by
  funext i
  obtain ⟨s, r, l, rfl⟩ : ∃ (s : Fin 8) (r : Fin 1024) (l : Fin 512), i = ix3 s r l := ⟨i 0, i 1, i 2, eq_ix3 i⟩
  unfold blkWu inWu iblk
  blk_ext [iblk, (idx t).2.2.2.2.2.1]

theorem blkWd_eq (c : Dev nD) (t : Fin cfg0.N) : blkWd m c t = inWd m c := by
  funext i
  obtain ⟨s, r, l, rfl⟩ : ∃ (s : Fin 8) (r : Fin 512) (l : Fin 1024), i = ix3 s r l := ⟨i 0, i 1, i 2, eq_ix3 i⟩
  unfold blkWd inWd iblk
  blk_ext [iblk, (idx t).2.2.2.2.2.2.1]

theorem blkQ_eq (c : Dev nD) (t : Fin cfg0.N) : blkQ m c t = inQ m c := by
  funext i
  obtain ⟨r, l, rfl⟩ : ∃ (r : Fin 1) (l : Fin 1024), i = ix2 r l := ⟨i 0, i 1, eq_ix2 i⟩
  unfold blkQ inQ iblk
  blk_ext [iblk, (idx t).2.2.2.2.2.2.2]

theorem row_blkD (c : Dev nD) (t : Fin cfg0.N) (r : Fin 256) (h : t.val * 256 + r < 8192) :
    row (blkD m c t) r = row (inD m c) ⟨t.val * 256 + r, h⟩ := funext fun k => blkD_apply m c t r k h

theorem row_blkM (c : Dev nD) (t : Fin cfg0.N) (r : Fin 256) (h : t.val * 256 + r < 8192) :
    row (blkM m c t) r = row (inM m c) ⟨t.val * 256 + r, h⟩ := funext fun k => blkM_apply m c t r k h

theorem row_blkX (c : Dev nD) (t : Fin cfg0.N) (r : Fin 256) (h : t.val * 256 + r < 8192) :
    row (blkX m c t) r = row (inX m c) ⟨t.val * 256 + r, h⟩ := funext fun k => blkX_apply m c t r k h

/-- A point's intermediate gradients are rows of the whole arrays'. -/
theorem bDm_apply (c : Dev nD) (t : Fin cfg0.N) (r : Fin 256) (l : Fin 1024) (h : t.val * 256 + r < 8192) :
    bDm m c t (ix2 r l) = dmArr (inD m c) (inM m c) (inQ m c) ⟨t.val * 256 + r, h⟩ l := by
  unfold bDm
  rw [pay9_apply, row_blkM m c t r h, row_blkD m c t r h, blkQ_eq]
  rfl

theorem act_apply (c : Dev nD) (t : Fin cfg0.N) (s : Fin 8) (r : Fin 256) (e : Fin 512) (h : t.val * 256 + r < 8192) :
    act (bDm m c t) (wdPart (blkWd m c t) s) (upPart (blkU m c t) s) r e
      = dupArr (inD m c) (inM m c) (inU m c) (inQ m c) (inWd m c) ⟨t.val * 256 + r, h⟩ s e := by
  unfold act dupArr
  rw [upPart_apply _ s r e (col s e).isLt, blkU_apply m c t r _ h, blkWd_eq]
  simp only [wdPart_apply, fun k => bDm_apply m c t r k h]
  rfl

theorem bDh_apply (c : Dev nD) (t : Fin cfg0.N) (r : Fin 256) (l : Fin 1024) (h : t.val * 256 + r < 8192) :
    bDh m c t (ix2 r l) = dhArr (inD m c) (inM m c) (inU m c) (inQ m c) (inWu m c) (inWd m c) ⟨t.val * 256 + r, h⟩ l := by
  unfold bDh
  rw [eight_apply]
  unfold dhArr part
  simp only [fun s e => act_apply m c t s r e h, wuPart_apply, blkWu_eq]

theorem row_bDh (c : Dev nD) (t : Fin cfg0.N) (r : Fin 256) (h : t.val * 256 + r < 8192) :
    row (bDh m c t) r = dhArr (inD m c) (inM m c) (inU m c) (inQ m c) (inWu m c) (inWd m c) ⟨t.val * 256 + r, h⟩ := funext fun k => bDh_apply m c t r k h

theorem bP_apply (c : Dev nD) (t : Fin cfg0.N) (l : Fin 1024) :
    bP m c t (ix2 0 l) = ∑ r : Fin 256, bDh m c t (ix2 r l) * (blkX m c t (ix2 r l) * scale (row (blkX m c t) r)) :=
  pay31_apply _ _ _ _ _ _ l

theorem lt_rows (t : Fin cfg0.N) (r : Fin 256) : t.val * 256 + r < 8192 := by
  have ht : t.val < 32 := lt_of_lt_of_eq t.isLt N_0
  have := r.isLt
  omega

theorem final_dx (c : Dev nD) : (dats m 0 c).arrAt 8 cfg0.N
    = fun i : S8192x1024.Idx => dxArr (inD m c) (inM m c) (inX m c) (inU m c) (inP m c) (inQ m c) (inWu m c) (inWd m c) (i 0) (i 1) := by
  generalize hA : (fun i : S8192x1024.Idx => dxArr (inD m c) (inM m c) (inX m c) (inU m c) (inP m c) (inQ m c) (inWu m c) (inWd m c) (i 0) (i 1)) = A
  refine (dats m 0 c).arrAt_eq_of_covers 8 _ (by decide +kernel) fun t hf y => ?_
  blk_simp
  rw [after0_8, outs_dx]
  obtain ⟨r, l, rfl⟩ : ∃ (r : Fin 256) (l : Fin 1024), y = ix2 r l := ⟨y 0, y 1, eq_ix2 y⟩
  refine (pay1_apply _ _ _ _ _ _ _ _ r l).trans ?_
  refine Eq.trans (b := blkD m c t (ix2 r l) + back (row (blkX m c t) r) (row (blkP m c t) 0) (row (bDh m c t) r) l) rfl ?_
  rw [row_blkX m c t r (lt_rows t r), row_bDh m c t r (lt_rows t r), blkD_apply m c t r l (lt_rows t r), blkP_eq]
  refine (congrFun hA (ix2 ⟨t.val * 256 + r, lt_rows t r⟩ l)).trans ?_
  blk_point [idx_out t]

theorem final_h (c : Dev nD) : (dats m 0 c).arrAt 9 cfg0.N = fun i : S8192x1024.Idx => hArr (inX m c) (inP m c) (i 0) (i 1) := by
  generalize hA : (fun i : S8192x1024.Idx => hArr (inX m c) (inP m c) (i 0) (i 1)) = A
  refine (dats m 0 c).arrAt_eq_of_covers 9 _ (by decide +kernel) fun t hf y => ?_
  blk_simp
  rw [after0_9, outs_h]
  obtain ⟨r, l, rfl⟩ : ∃ (r : Fin 256) (l : Fin 1024), y = ix2 r l := ⟨y 0, y 1, eq_ix2 y⟩
  refine (pay11_apply _ _ r l).trans ?_
  rw [row_blkX m c t r (lt_rows t r), blkX_apply m c t r l (lt_rows t r), blkP_eq]
  refine (congrFun hA (ix2 ⟨t.val * 256 + r, lt_rows t r⟩ l)).trans ?_
  blk_point [idx_out t]

theorem final_dm (c : Dev nD) : (dats m 0 c).arrAt 10 cfg0.N = fun i : S8192x1024.Idx => dmArr (inD m c) (inM m c) (inQ m c) (i 0) (i 1) := by
  generalize hA : (fun i : S8192x1024.Idx => dmArr (inD m c) (inM m c) (inQ m c) (i 0) (i 1)) = A
  refine (dats m 0 c).arrAt_eq_of_covers 10 _ (by decide +kernel) fun t hf y => ?_
  blk_simp
  rw [after0_10, outs_dm]
  obtain ⟨r, l, rfl⟩ : ∃ (r : Fin 256) (l : Fin 1024), y = ix2 r l := ⟨y 0, y 1, eq_ix2 y⟩
  refine (bDm_apply m c t r l (lt_rows t r)).trans ?_
  refine (congrFun hA (ix2 ⟨t.val * 256 + r, lt_rows t r⟩ l)).trans ?_
  blk_point [idx_out t]

/-- The hidden gradient, a column split into its part and its place there. -/
def dupFun (D M : S8192x1024.Idx → EReal) (U : S8192x4096.Idx → EReal) (Q : S1x1024.Idx → EReal) (Wd : S8x512x1024.Idx → EReal) (i : S8192x4096.Idx) : EReal :=
  dupArr D M U Q Wd (i 0) ⟨(i 1).val / 512, by have : (i 1).val < 4096 := (i 1).isLt; omega⟩ ⟨(i 1).val % 512, Nat.mod_lt _ (by decide)⟩

theorem split_col (l : Fin 4096) : ∃ (s : Fin 8) (e : Fin 512), l = col s e :=
  ⟨⟨l.val / 512, by have := l.isLt; omega⟩, ⟨l.val % 512, Nat.mod_lt _ (by decide)⟩, Fin.ext (by show l.val = l.val / 512 * 512 + l.val % 512; omega)⟩

theorem dupFun_apply (D M : S8192x1024.Idx → EReal) (U : S8192x4096.Idx → EReal) (Q : S1x1024.Idx → EReal) (Wd : S8x512x1024.Idx → EReal)
    (T : Fin 8192) (s : Fin 8) (e : Fin 512) : dupFun D M U Q Wd (ix2 T (col s e)) = dupArr D M U Q Wd T s e := by
  have e1 : (⟨(col s e).val / 512, by have := (col s e).isLt; omega⟩ : Fin 8) = s := Fin.ext (by show (s.val * 512 + e.val) / 512 = s.val; have := e.isLt; omega)
  have e2 : (⟨(col s e).val % 512, Nat.mod_lt _ (by decide)⟩ : Fin 512) = e := Fin.ext (by show (s.val * 512 + e.val) % 512 = e.val; have := e.isLt; omega)
  show dupArr D M U Q Wd T ⟨(col s e).val / 512, _⟩ ⟨(col s e).val % 512, _⟩ = _
  rw [e1, e2]

theorem final_dup (c : Dev nD) : (dats m 0 c).arrAt 11 cfg0.N = dupFun (inD m c) (inM m c) (inU m c) (inQ m c) (inWd m c) := by
  generalize hA : dupFun (inD m c) (inM m c) (inU m c) (inQ m c) (inWd m c) = A
  refine (dats m 0 c).arrAt_eq_of_covers 11 _ (by decide +kernel) fun t hf y => ?_
  blk_simp
  rw [after0_11]
  obtain ⟨r, l, rfl⟩ : ∃ (r : Fin 256) (l : Fin 4096), y = ix2 r l := ⟨y 0, y 1, eq_ix2 y⟩
  obtain ⟨s, e, rfl⟩ := split_col l
  refine (outs_dup m c t s r e (col s e).isLt).trans ((act_apply m c t s r e (lt_rows t r)).trans ?_)
  rw [← dupFun_apply]
  refine (congrFun hA (ix2 ⟨t.val * 256 + r, lt_rows t r⟩ (col s e))).trans ?_
  blk_point [idx_out t]

/-- The last point. -/
def last : Fin cfg0.N := ⟨31, lt_of_lt_of_eq (by decide) N_0.symm⟩

theorem sums_last (c : Dev nD) (t : Fin cfg0.N) (ht : t.val + 1 = cfg0.N) (r : Fin 8) (l : Fin 1024) :
    (outsAt0 m c t.val t.isLt).2.2.2.2 (ix2 r l) = ∑ p : Fin cfg0.N, bSum m c p r l := by
  rw [Pipeline.eq_sum_fin_of_reset_step_apply_last (fun n h (_ : Unit) => (outsAt0 m c n h).2.2.2.2 (ix2 r l)) 32 (fun _ => 0)
    (fun t _ => bSum m c t r l)
    (fun t h0 _ => sums_A m c t h0 r l) (fun t h0 _ => sums_B m c t h0 r l) (le_of_eq N_0) t ht (), zero_add]

theorem final_sums (c : Dev nD) : (dats m 0 c).arrAt 12 cfg0.N = fun i : S8x1024.Idx => if (i 0).val = 1 then
    dgpArr (inD m c) (inM m c) (inX m c) (inU m c) (inQ m c) (inWu m c) (inWd m c) (i 1) else if (i 0).val = 0 then dgqArr (inD m c) (inM m c) (i 1) else (0 : EReal) := by
  refine (dats m 0 c).arrAt_eq_of_after_last 12 last (by decide +kernel) _ fun j => ?_
  blk_simp
  obtain ⟨r, l, rfl⟩ : ∃ (r : Fin 8) (l : Fin 1024), j = ix2 r l := ⟨j 0, j 1, eq_ix2 j⟩
  rw [after0_12, sums_last m c _ rfl]
  unfold bSum
  by_cases h1 : r = 1
  · subst h1
    simp only [if_pos]
    refine Eq.trans (b := dgpArr (inD m c) (inM m c) (inX m c) (inU m c) (inQ m c) (inWu m c) (inWd m c) l) ?_ (if_pos rfl).symm
    unfold dgpArr
    simp only [bP_apply]
    refine Fin.sum_mul_add_congr fun t s hl => ?_
    rw [row_blkX m c t s hl, blkX_apply m c t s l hl, bDh_apply m c t s l hl]
  simp only [if_neg h1]
  refine Eq.trans ?_ (if_neg fun h => h1 (Fin.ext h)).symm
  by_cases hr : r = 0
  · subst hr
    simp only [if_pos, bQ, pay8_apply]
    refine Eq.trans (b := dgqArr (inD m c) (inM m c) l) ?_ (if_pos rfl).symm
    unfold dgqArr
    refine Fin.sum_mul_add_congr fun t s hl => ?_
    rw [row_blkM m c t s hl, blkM_apply m c t s l hl, blkD_apply m c t s l hl]
  · simp only [if_neg hr]
    exact (show ∑ p : Fin cfg0.N, (0 : EReal) = 0 from Finset.sum_const_zero).trans (if_neg fun h => hr (Fin.ext h)).symm

end Cert.Mlp

end
-- ==== Proof.Mlp.Reference.lean ====
module

public import proofs.«01_k».proof.Proof.Norm.Ref
public import proofs.«01_k».proof.Proof.Gen.ReferenceMlpIdeal.Run

@[expose] public section

set_option maxRecDepth 16384

noncomputable section

namespace Cert.Mlp

open Idealize.ShloMosaic Idealize.ShloMosaic.TcCoe Idealize.SL.Sem
open Cert.ReferenceMlpIdeal Cert.ReferenceMlpIdeal.Gen Cert.Norm

/-! # The reference's five results -/

section
variable (d x : FVec Ideal S8192x1024 .f32) (gp : FVec Ideal S1x1024 .f32) (wu : FVec Ideal S1024x4096 .f32) (wd : FVec Ideal S4096x1024 .f32)
  (gq : FVec Ideal S1x1024 .f32)

/-- The first norm, the hidden rows, their squared ReLU times the second weights. -/
def refH : FVec Ideal S8192x1024 .f32 := mulf (refUnit x) (broadcastInDim S8192x1024 ![0, 1] bcast_S1x1024_S8192x1024_0_1 gp)
def refUp : FVec Ideal S8192x4096 .f32 := Host.dotGeneral dot_S8192x1024_S1024x4096_S8192x4096_1_0_0_1_n_n none (refH x gp) wu
def relu (u : FVec Ideal S8192x4096 .f32) : FVec Ideal S8192x4096 .f32 := maximumf u (broadcastInDim S8192x4096 ![] bcast_S_S8192x4096 (constant S_ .f32 0x00000000#32))
def refM : FVec Ideal S8192x1024 .f32 := Host.dotGeneral dot_S8192x4096_S4096x1024_S8192x1024_1_0_0_1_n_n none (mulf (relu (refUp x gp wu)) (relu (refUp x gp wu))) wd

/-- The gradients after the second product, before the squared ReLU, before the first product. -/
def refDm : FVec Ideal S8192x1024 .f32 := refBack (refM x gp wu wd) gq d
def refDup : FVec Ideal S8192x4096 .f32 :=
  select (cmpf .ogt (refUp x gp wu) (broadcastInDim S8192x4096 ![] bcast_S_S8192x4096 (constant S_ .f32 0x00000000#32)))
    (mulf (Host.dotGeneral dot_S8192x1024_S4096x1024_S8192x4096_1_1_0_0_n_n none (refDm d x gp wu wd gq) wd)
      (mulf (broadcastInDim S8192x4096 ![] bcast_S_S8192x4096 (constant S_ .f32 0x40000000#32)) (relu (refUp x gp wu))))
    (broadcastInDim S8192x4096 ![] bcast_S_S8192x4096 (constant S_ .f32 0x00000000#32))
def refDh : FVec Ideal S8192x1024 .f32 := Host.dotGeneral dot_S8192x4096_S1024x4096_S8192x1024_1_1_0_0_n_n none (refDup d x gp wu wd gq) wu
def refDx : FVec Ideal S8192x1024 .f32 := addf d (refBack x gp (refDh d x gp wu wd gq))
def refSums : FVec Ideal S8x1024 .f32 :=
  pad S8x1024 ![0, 0] ![6, 0] ![0, 0] (concatenate S2x1024 0 [⟨S1x1024, refWeights (refM x gp wu wd) d⟩, ⟨S1x1024, refWeights x (refDh d x gp wu wd gq)⟩] concatenates_S1x1024_S1x1024_S2x1024_d0)
    (sitofp .f32 (constantI S_ 32 0#32)) pads_S2x1024_S8x1024_060_000 h_S_
end

variable (d x : S8192x1024.Idx → EReal) (gp : S1x1024.Idx → EReal) (wu : S1024x4096.Idx → EReal) (wd : S4096x1024.Idx → EReal) (gq : S1x1024.Idx → EReal)

theorem refH_apply (T : Fin 8192) (l : Fin 1024) : refH x gp (ix2 T l) = x (ix2 T l) * scale (row x T) * gp (ix2 0 l) := by
  pointwise [refH]
  rw [refUnit_apply]

theorem refUp_apply (T : Fin 8192) (l : Fin 4096) : refUp x gp wu (ix2 T l) = ∑ k : Fin 1024, refH x gp (ix2 T k) * wu (ix2 k l) := by
  pointwise [refUp]

theorem relu_apply (u : S8192x4096.Idx → EReal) (T : Fin 8192) (l : Fin 4096) : relu u (ix2 T l) = max (u (ix2 T l)) 0 := by
  pointwise [relu]

theorem refM_apply (T : Fin 8192) (l : Fin 1024) : refM x gp wu wd (ix2 T l)
    = ∑ k : Fin 4096, max (refUp x gp wu (ix2 T k)) 0 * max (refUp x gp wu (ix2 T k)) 0 * wd (ix2 k l) := by
  pointwise [refM]
  simp only [relu_apply]

theorem refDm_apply (T : Fin 8192) (l : Fin 1024) :
    refDm d x gp wu wd gq (ix2 T l) = vjp (row (refM x gp wu wd) T) (row gq 0) (row d T) l := refBack_apply _ _ _ T l

theorem refDup_apply (T : Fin 8192) (l : Fin 4096) : refDup d x gp wu wd gq (ix2 T l)
    = (∑ k : Fin 1024, refDm d x gp wu wd gq (ix2 T k) * wd (ix2 l k)) * (Ideal.ofBits .f32 0x40000000#32 * max (refUp x gp wu (ix2 T l)) 0) := by
  pointwise [refDup]
  rw [relu_apply]
  split
  · rfl
  · rename_i h
    rw [max_eq_right (not_lt.mp h), mul_zero, mul_zero]

theorem refDh_apply (T : Fin 8192) (l : Fin 1024) : refDh d x gp wu wd gq (ix2 T l) = ∑ e : Fin 4096, refDup d x gp wu wd gq (ix2 T e) * wu (ix2 l e) := by
  pointwise [refDh]

theorem refDx_apply (T : Fin 8192) (l : Fin 1024) : refDx d x gp wu wd gq (ix2 T l)
    = d (ix2 T l) + vjp (row x T) (row gp 0) (row (refDh d x gp wu wd gq) T) l := by
  pointwise [refDx]
  rw [refBack_apply]

theorem refSums_apply (r : Fin 8) (l : Fin 1024) : refSums d x gp wu wd gq (ix2 r l)
    = if r.val = 1 then ∑ T : Fin 8192, refDh d x gp wu wd gq (ix2 T l) * (x (ix2 T l) * scale (row x T))
      else if r.val = 0 then ∑ T : Fin 8192, d (ix2 T l) * (refM x gp wu wd (ix2 T l) * scale (row (refM x gp wu wd) T)) else 0 := by
  pointwise [refSums]
  by_cases h1 : r.val = 1
  · obtain rfl : r = 1 := Fin.ext h1
    exact (dif_pos (by decide)).trans ((dif_neg (by decide)).trans ((refWeights_apply _ _ l).trans (if_pos rfl).symm))
  rw [if_neg h1]
  by_cases h0 : r.val = 0
  · obtain rfl : r = 0 := Fin.ext h0
    exact (dif_pos (by decide)).trans ((dif_pos (by decide)).trans ((refWeights_apply _ _ l).trans (if_pos rfl).symm))
  · rw [if_neg h0, dif_neg (by omega)]
    show (((0#32 : BitVec 32).toInt : ℝ) : EReal) = 0
    simp

end Cert.Mlp

end
-- ==== Proof.Mlp.Value.lean ====
module

public import proofs.«01_k».proof.Pre_finite_mlp
public import proofs.«01_k».proof.Proof.Norm.Finite
public import proofs.«01_k».proof.Proof.Mlp.Final
public import proofs.«01_k».proof.Proof.Mlp.Reference

@[expose] public section

set_option maxRecDepth 16384

noncomputable section

namespace Cert.Mlp

open Idealize.ShloMosaic Idealize.ShloMosaic.TcCoe Idealize.ShloMosaic.StableHlo Idealize.SL.Sem
open Cert.KernelMlpIdeal Cert.KernelMlpIdeal.Gen Cert.Norm

/-! # The five outputs are the reference's results -/

variable (m : (ℓ : Loc nD τ sig) → Buf (Elt Ideal) ℓ)

/-- The six arguments: cotangent, input, first norm's weights, the two weights, second norm's weights. -/
def argD (c : Dev nD) : S8192x1024.Idx → EReal := m ((c.tc : Thread nD τ).loc main_arg0)
def argX (c : Dev nD) : S8192x1024.Idx → EReal := m ((c.tc : Thread nD τ).loc main_arg1)
def argP (c : Dev nD) : S1x1024.Idx → EReal := m ((c.tc : Thread nD τ).loc main_arg2)
def argWu (c : Dev nD) : S1024x4096.Idx → EReal := m ((c.tc : Thread nD τ).loc main_arg3)
def argWd (c : Dev nD) : S4096x1024.Idx → EReal := m ((c.tc : Thread nD τ).loc main_arg4)
def argQ (c : Dev nD) : S1x1024.Idx → EReal := m ((c.tc : Thread nD τ).loc main_arg5)

/-- What the host operations leave in the arrays the region reads. -/
theorem inD_eq (c : Dev nD) : inD m c = argD m c := by
  unfold inD V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inX_eq (c : Dev nD) : inX m c = argX m c := by
  unfold inX V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inP_eq (c : Dev nD) : inP m c = argP m c := by
  unfold inP V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inQ_eq (c : Dev nD) : inQ m c = argQ m c := by
  unfold inQ V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inU_eq (c : Dev nD) : inU m c = refUp (argX m c) (argP m c) (argWu m c) := by
  unfold inU V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inM_eq (c : Dev nD) : inM m c = refM (argX m c) (argP m c) (argWu m c) (argWd m c) := by
  unfold inM V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

/-- The weights cut into eight parts. -/
def cutWu (w : FVec Ideal S1024x4096 .f32) : FVec Ideal S8x1024x512 .f32 :=
  transpose S8x1024x512 [1, 0, 2] (shapeCast S1024x8x512 w shapeCasts_S1024x4096_S1024x8x512) transposes_S1024x8x512_S8x1024x512_1_0_2
def cutWd (w : FVec Ideal S4096x1024 .f32) : FVec Ideal S8x512x1024 .f32 := shapeCast S8x512x1024 w shapeCasts_S4096x1024_S8x512x1024

theorem cutWu_apply (w : S1024x4096.Idx → EReal) (s : Fin 8) (l : Fin 1024) (e : Fin 512) : cutWu w (ix3 s l e) = w (ix2 l (col s e)) := by
  pointwise [cutWu]
  rfl

theorem cutWd_apply (w : S4096x1024.Idx → EReal) (s : Fin 8) (e : Fin 512) (k : Fin 1024) : cutWd w (ix3 s e k) = w (ix2 (col s e) k) := by
  pointwise [cutWd]
  rfl

theorem inWu_eq (c : Dev nD) : inWu m c = cutWu (argWu m c) := by
  unfold inWu V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inWd_eq (c : Dev nD) : inWd m c = cutWd (argWd m c) := by
  unfold inWd V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

section
variable [Cert.Pre_finite_mlp.Facts]

/-- Under the precondition the arguments are real. -/
theorem reals {d x : S8192x1024.Idx → EReal} {gp : S1x1024.Idx → EReal} {wu : S1024x4096.Idx → EReal} {wd : S4096x1024.Idx → EReal} {gq : S1x1024.Idx → EReal}
    (h : (Cert.Pre_finite_mlp.fn (F := Ideal) d x gp wu wd gq).1 = (fun _ => 1#1) ∧ (Cert.Pre_finite_mlp.fn (F := Ideal) d x gp wu wd gq).2.1 = (fun _ => 1#1)
      ∧ (Cert.Pre_finite_mlp.fn (F := Ideal) d x gp wu wd gq).2.2.1 = (fun _ => 1#1) ∧ (Cert.Pre_finite_mlp.fn (F := Ideal) d x gp wu wd gq).2.2.2 = fun _ => 1#1) :
    (∀ i, IsReal (d i)) ∧ (∀ i, IsReal (x i)) ∧ (∀ i, IsReal (gp i)) ∧ (∀ i, IsReal (wu i)) ∧ (∀ i, IsReal (wd i)) ∧ ∀ i, IsReal (gq i) :=
  ⟨fun i => isReal_of_lt (and_one (congrFun h.1 i)).1, fun i => isReal_of_lt (and_one (congrFun h.1 i)).2, fun i => isReal_of_lt (and_one (congrFun h.2.1 i)).1,
    fun i => isReal_of_lt (congrFun h.2.2.1 i), fun i => isReal_of_lt (congrFun h.2.2.2 i), fun i => isReal_of_lt (and_one (congrFun h.2.1 i)).2⟩
end

theorem IsReal.max_zero {a : EReal} (h : IsReal a) : IsReal (max a 0) := by
  obtain ⟨r, rfl⟩ := h
  exact ⟨max r 0, by rw [← EReal.coe_zero]; exact (EReal.coe_strictMono.monotone.map_max).symm⟩

section
variable {d x : S8192x1024.Idx → EReal} {gp : S1x1024.Idx → EReal} {wu : S1024x4096.Idx → EReal} {wd : S4096x1024.Idx → EReal} {gq : S1x1024.Idx → EReal}
  (hd : ∀ i, IsReal (d i)) (hx : ∀ i, IsReal (x i)) (hgp : ∀ i, IsReal (gp i)) (hwu : ∀ i, IsReal (wu i)) (hwd : ∀ i, IsReal (wd i)) (hgq : ∀ i, IsReal (gq i))
include hx hgp hwu

theorem up_isReal (T : Fin 8192) (l : Fin 4096) : IsReal (refUp x gp wu (ix2 T l)) := by
  rw [refUp_apply]
  refine IsReal.sum _ _ fun k => IsReal.mul ?_ (hwu _)
  rw [refH_apply]
  exact ((hx _).mul (scale_isReal fun _ => hx _)).mul (hgp _)

include hwd

theorem m_isReal (T : Fin 8192) (k : Fin 1024) : IsReal (row (refM x gp wu wd) T k) := by
  unfold row
  rw [refM_apply]
  have hu := fun l => IsReal.max_zero (up_isReal hx hgp hwu T l)
  exact IsReal.sum _ _ fun k => ((hu _).mul (hu _)).mul (hwd _)

include hd hgq

/-- The kernel's and the reference's forms of the intermediate gradients. -/
theorem dm_eq (T : Fin 8192) (l : Fin 1024) : dmArr d (refM x gp wu wd) gq T l = refDm d x gp wu wd gq (ix2 T l) :=
  (vjp_eq_back (m_isReal hx hgp hwu hwd T) (fun _ => hgq _) (fun _ => hd _) l).symm.trans (refDm_apply _ _ _ _ _ _ T l).symm

theorem dup_eq (T : Fin 8192) (s : Fin 8) (e : Fin 512) :
    dupArr d (refM x gp wu wd) (refUp x gp wu) gq (cutWd wd) T s e = refDup d x gp wu wd gq (ix2 T (col s e)) := by
  rw [refDup_apply]
  unfold dupArr
  simp only [dm_eq hd hx hgp hwu hwd hgq, cutWd_apply]

theorem dh_eq (T : Fin 8192) (l : Fin 1024) :
    dhArr d (refM x gp wu wd) (refUp x gp wu) gq (cutWu wu) (cutWd wd) T l = refDh d x gp wu wd gq (ix2 T l) := by
  rw [refDh_apply]
  unfold dhArr
  refine Fin.sum_mul_add_congr fun s e hl => ?_
  rw [dup_eq hd hx hgp hwu hwd hgq, cutWu_apply]
  rfl

theorem dh_isReal (T : Fin 8192) (l : Fin 1024) : IsReal (row (refDh d x gp wu wd gq) T l) := by
  unfold row
  rw [refDh_apply]
  refine IsReal.sum _ _ fun e => IsReal.mul ?_ (hwu _)
  rw [refDup_apply]
  refine (IsReal.sum _ _ fun k => IsReal.mul ?_ (hwd _)).mul (IsReal.mul ⟨2, word_two⟩ (IsReal.max_zero (up_isReal hx hgp hwu T e)))
  rw [← dm_eq hd hx hgp hwu hwd hgq]
  exact back_isReal (m_isReal hx hgp hwu hwd T) (fun _ => hgq _) (fun _ => hd _) k

theorem dx_eq (T : Fin 8192) (l : Fin 1024) :
    dxArr d (refM x gp wu wd) x (refUp x gp wu) gp gq (cutWu wu) (cutWd wd) T l = refDx d x gp wu wd gq (ix2 T l) := by
  rw [refDx_apply]
  unfold dxArr
  rw [show dhArr d (refM x gp wu wd) (refUp x gp wu) gq (cutWu wu) (cutWd wd) T = row (refDh d x gp wu wd gq) T from funext fun l => dh_eq hd hx hgp hwu hwd hgq T l,
    vjp_eq_back (x := row x T) (g := row gp 0) (fun _ => hx _) (fun _ => hgp _) (dh_isReal hd hx hgp hwu hwd hgq T)]
theorem dxFun_eq : (fun i : S8192x1024.Idx => dxArr d (refM x gp wu wd) x (refUp x gp wu) gp gq (cutWu wu) (cutWd wd) (i 0) (i 1)) = refDx d x gp wu wd gq := by
  funext i
  obtain ⟨r, l, rfl⟩ : ∃ (r : Fin 8192) (l : Fin 1024), i = ix2 r l := ⟨i 0, i 1, eq_ix2 i⟩
  exact dx_eq hd hx hgp hwu hwd hgq r l

theorem dmFun_eq : (fun i : S8192x1024.Idx => dmArr d (refM x gp wu wd) gq (i 0) (i 1)) = refDm d x gp wu wd gq := by
  funext i
  obtain ⟨r, l, rfl⟩ : ∃ (r : Fin 8192) (l : Fin 1024), i = ix2 r l := ⟨i 0, i 1, eq_ix2 i⟩
  exact dm_eq hd hx hgp hwu hwd hgq r l

theorem dupFun_eq : dupFun d (refM x gp wu wd) (refUp x gp wu) gq (cutWd wd) = refDup d x gp wu wd gq := by
  funext i
  obtain ⟨r, l, rfl⟩ : ∃ (r : Fin 8192) (l : Fin 4096), i = ix2 r l := ⟨i 0, i 1, eq_ix2 i⟩
  obtain ⟨s, e, rfl⟩ := split_col l
  exact (dupFun_apply _ _ _ _ _ r s e).trans (dup_eq hd hx hgp hwu hwd hgq r s e)

theorem sumsFun_eq : (fun i : S8x1024.Idx => if (i 0).val = 1 then dgpArr d (refM x gp wu wd) x (refUp x gp wu) gq (cutWu wu) (cutWd wd) (i 1)
    else if (i 0).val = 0 then dgqArr d (refM x gp wu wd) (i 1) else (0 : EReal)) = refSums d x gp wu wd gq := by
  funext i
  obtain ⟨r, l, rfl⟩ : ∃ (r : Fin 8) (l : Fin 1024), i = ix2 r l := ⟨i 0, i 1, eq_ix2 i⟩
  refine Eq.trans ?_ (refSums_apply _ _ _ _ _ _ r l).symm
  have h : dgpArr d (refM x gp wu wd) x (refUp x gp wu) gq (cutWu wu) (cutWd wd) l = ∑ T : Fin 8192, refDh d x gp wu wd gq (ix2 T l) * (x (ix2 T l) * scale (row x T)) :=
    Finset.sum_congr rfl fun T _ => by rw [dh_eq hd hx hgp hwu hwd hgq]
  rw [← h]
  rfl
end

theorem hFun_eq (x : S8192x1024.Idx → EReal) (gp : S1x1024.Idx → EReal) : (fun i : S8192x1024.Idx => hArr x gp (i 0) (i 1)) = refH x gp := by
  funext i
  obtain ⟨r, l, rfl⟩ : ∃ (r : Fin 8192) (l : Fin 1024), i = ix2 r l := ⟨i 0, i 1, eq_ix2 i⟩
  exact (refH_apply _ _ r l).symm

set_option maxHeartbeats 2000000 in
/-- The five output arrays are the reference's five results. -/
theorem values (c : Dev nD) (hd : ∀ i, IsReal (argD m c i)) (hx : ∀ i, IsReal (argX m c i)) (hgp : ∀ i, IsReal (argP m c i)) (hwu : ∀ i, IsReal (argWu m c i))
    (hwd : ∀ i, IsReal (argWd m c i)) (hgq : ∀ i, IsReal (argQ m c i)) :
    (dats m 0 c).arrAt 8 cfg0.N = refDx (argD m c) (argX m c) (argP m c) (argWu m c) (argWd m c) (argQ m c)
    ∧ (dats m 0 c).arrAt 9 cfg0.N = refH (argX m c) (argP m c)
    ∧ (dats m 0 c).arrAt 10 cfg0.N = refDm (argD m c) (argX m c) (argP m c) (argWu m c) (argWd m c) (argQ m c)
    ∧ (dats m 0 c).arrAt 11 cfg0.N = refDup (argD m c) (argX m c) (argP m c) (argWu m c) (argWd m c) (argQ m c)
    ∧ (dats m 0 c).arrAt 12 cfg0.N = refSums (argD m c) (argX m c) (argP m c) (argWu m c) (argWd m c) (argQ m c) := by
  rw [final_dx, final_h, final_dm, final_dup, final_sums, inD_eq, inM_eq, inX_eq, inU_eq, inP_eq, inQ_eq, inWu_eq, inWd_eq]
  have h0 := dxFun_eq hd hx hgp hwu hwd hgq
  have h2 := dmFun_eq hd hx hgp hwu hwd hgq
  have h3 := dupFun_eq hd hx hgp hwu hwd hgq
  have h4 := sumsFun_eq hd hx hgp hwu hwd hgq
  refine ⟨?_, hFun_eq (argX m c) (argP m c), ?_, ?_, ?_⟩
  · exact h0
  · exact h2
  · exact h3
  · exact h4

end Cert.Mlp

end
-- ==== Proof.Mlp.Claims.lean ====
module

public import proofs.«01_k».proof.Defs
public import proofs.«01_k».proof.Proof.Gen.KernelMlp.Frame
public import proofs.«01_k».proof.Proof.Mlp.Value
public import proofs.«01_k».proof.Proof.Gen.ReferenceMlpIdeal.Run
public import Idealize.ShloMosaic.Lib.Claim

@[expose] public section

noncomputable section

namespace Cert.Proof

open Idealize.ShloMosaic Idealize.SL.Sem

set_option maxHeartbeats 2000000 in
/-- The gradient through the perceptron and its two norms: on finite arguments kernel and reference end with equal results on the ideal numbers. -/
theorem mlp_value [hPre_finite_mlp : Cert.Pre_finite_mlp.Facts] : Cert.algebraic_KernelMlpIdeal_ReferenceMlpIdeal_pre_finite_mlp := by
  intro m g m' g' hpre hagree
  refine ⟨_, _, _, _, _, Cert.KernelMlpIdeal.Value.run_blocks m g, ?_⟩
  refine (θ_run Cert.ReferenceMlpIdeal.defs _ _).mono (fun _ h c => ?_) (Cert.ReferenceMlpIdeal.Value.run (F := Ideal) m' g')
  obtain ⟨hd, hx, hgp, hwu, hwd, hgq⟩ := Cert.Mlp.reals (hpre c)
  obtain ⟨e0, e1, e2, e3, e4⟩ := Cert.Mlp.values m c hd hx hgp hwu hwd hgq
  obtain ⟨a0, a1, a2, a3, a4, a5⟩ := hagree c
  obtain ⟨r0, r1, r2, r3, r4, k⟩ := h c
  unfold Cert.ReferenceMlpIdeal.Value.res_main_v82 at r0
  unfold Cert.ReferenceMlpIdeal.Value.res_main_v84 at r2
  unfold Cert.ReferenceMlpIdeal.Value.res_main_v85 at r3
  unfold Cert.ReferenceMlpIdeal.Value.res_main_v87 at r4
  rw [a0, a1, a2, a3, a4, a5] at r0 r2 r3 r4
  rw [a1, a2] at r1
  exact ⟨r0.trans e0.symm, r1.trans e1.symm, r2.trans e2.symm, r3.trans e3.symm, r4.trans e4.symm, k⟩

/-- The reference terminates, its arguments unchanged. -/
theorem mlp_reference : Cert.quiescent_ReferenceMlpIdeal := by
  intro m g _
  run_from Cert.ReferenceMlpIdeal.Value.run m g
  · exact fun _ => ⟨trivial, trivial, trivial, trivial, trivial, trivial⟩
  · exact funext fun s => nomatch s

end Cert.Proof

end
-- ==== Proof.Norm.Gate.lean ====
module

public import proofs.«01_k».proof.Proof.Norm.Rms

@[expose] public section

noncomputable section

namespace Cert.Norm

open Idealize.ShloMosaic

/-! # The logistic function -/

/-- The exponential of a real number is real and positive, so the logistic function of a real number is real. -/
theorem exp_coe (r : ℝ) : Ideal.exp (r : EReal) = ((Real.exp r : ℝ) : EReal) := rfl

theorem logistic_isReal {z : EReal} (hz : IsReal z) : IsReal (Ideal.div 1 (1 + Ideal.exp (0 - z))) := by
  obtain ⟨r, rfl⟩ := hz
  refine ⟨1 / (1 + Real.exp (-r)), ?_⟩
  rw [zero_sub, ← EReal.coe_neg, exp_coe, ← EReal.coe_one, ← EReal.coe_add, div_coe _ _ (by positivity)]

end Cert.Norm

end
-- ==== Proof.Norm.Columns.lean ====
module

public import Idealize.ShloMosaic.Lib.Pipeline.ValueKit
public import Idealize.ShloMosaic.Lib.Pipeline.ReadBack
public import Idealize.ShloMosaic.Lib.WritesUnit

@[expose] public section

noncomputable section

namespace Cert.Norm

open Idealize.ShloMosaic Idealize.SL.Sem

/-! # Stores and loads of one of the equal column parts of a matrix -/

variable {Val : EltTy → Type} [∀ e, Nonempty (Val e)] {sig : RefSig} {κ : Kind} {sp : Space} {e : EltTy} {R n W : ℕ}

/-- Column `j` of part `q` of the matrix is column `q * W + j`. -/
theorem emb_part (q o : ℕ) (ho : o = q * W) (inb : ∀ a : Fin 2, (![0, o] : Fin 2 → ℕ) a + (![R, W] : Fin 2 → ℕ) a ≤ (![R, n] : Fin 2 → ℕ) a)
    (r : Fin R) (j : Fin W) (h : q * W + j.val < n) :
    (Rect.unit (s := ⟨2, ![R, n]⟩) ![0, o] ![R, W] inb).emb (ix2 r j) = ix2 r ⟨q * W + j.val, h⟩ := by
  subst ho
  funext a
  match a with
  | ⟨0, _⟩ => exact Fin.ext (show 0 + 1 * r.val = r.val by omega)
  | ⟨1, _⟩ => exact Fin.ext (show q * W + 1 * j.val = q * W + j.val by omega)

theorem not_mem_part (q o : ℕ) (ho : o = q * W) (inb : ∀ a : Fin 2, (![0, o] : Fin 2 → ℕ) a + (![R, W] : Fin 2 → ℕ) a ≤ (![R, n] : Fin 2 → ℕ) a)
    (s : ℕ) (hs : ¬s = q) (r : Fin R) (j : Fin W) (h : s * W + j.val < n) :
    ix2 r ⟨s * W + j.val, h⟩ ∉ (Rect.unit (s := ⟨2, ![R, n]⟩) ![0, o] ![R, W] inb).set := by
  intro hm
  subst ho
  have h1 : q * W ≤ s * W + j.val ∧ s * W + j.val < q * W + W := (Rect.mem_set_unit (inb := inb)).mp hm 1
  have hj := j.isLt
  have a1 : q < s + 1 := Nat.lt_of_mul_lt_mul_right (a := W) (by rw [Nat.succ_mul]; omega)
  have a2 : s < q + 1 := Nat.lt_of_mul_lt_mul_right (a := W) (by rw [Nat.succ_mul]; omega)
  omega

/-- After the part `q` was written: in its columns the payload, elsewhere what was there. -/
theorem canon_part (q o : ℕ) (ho : o = q * W) (inb : ∀ a : Fin 2, (![0, o] : Fin 2 → ℕ) a + (![R, W] : Fin 2 → ℕ) a ≤ (![R, n] : Fin 2 → ℕ) a)
    (Y : (⟨2, ![R, W]⟩ : Shape).Idx → Val e) (L : List (View.Piece Val (⟨2, ![R, n]⟩ : Shape) e)) (s : ℕ) (r : Fin R) (j : Fin W) (h : s * W + j.val < n) :
    View.canon ((⟨Rect.unit (s := ⟨2, ![R, n]⟩) ![0, o] ![R, W] inb, Y⟩ : View.Piece Val (⟨2, ![R, n]⟩ : Shape) e) :: L) (ix2 r ⟨s * W + j.val, h⟩)
      = if s = q then Y (ix2 r j) else View.canon L (ix2 r ⟨s * W + j.val, h⟩) := by
  split
  · rename_i hs
    subst hs
    rw [← emb_part s o ho inb r j h]
    exact View.canon_cons_emb _ _ _ _
  · rename_i hs
    exact View.canon_cons_of_not_mem _ _ (not_mem_part q o ho inb s hs r j h)

/-- The same, for a value that the entry has in both cases. -/
theorem canon_part_eq (q o : ℕ) (ho : o = q * W) (inb : ∀ a : Fin 2, (![0, o] : Fin 2 → ℕ) a + (![R, W] : Fin 2 → ℕ) a ≤ (![R, n] : Fin 2 → ℕ) a)
    (Y : (⟨2, ![R, W]⟩ : Shape).Idx → Val e) (L : List (View.Piece Val (⟨2, ![R, n]⟩ : Shape) e)) (s : ℕ) (r : Fin R) (j : Fin W) (h : s * W + j.val < n)
    {X : Val e} (h1 : s = q → Y (ix2 r j) = X) (h2 : ¬s = q → View.canon L (ix2 r ⟨s * W + j.val, h⟩) = X) :
    View.canon ((⟨Rect.unit (s := ⟨2, ![R, n]⟩) ![0, o] ![R, W] inb, Y⟩ : View.Piece Val (⟨2, ![R, n]⟩ : Shape) e) :: L) (ix2 r ⟨s * W + j.val, h⟩) = X := by
  rw [canon_part q o ho inb Y L s r j h]
  split
  · exact h1 ‹_›
  · exact h2 ‹_›

/-- A part loaded. -/
theorem ld_part (X : (⟨2, ![R, n]⟩ : Shape).Idx → Val e) (q o : ℕ) (ho : o = q * W)
    (inb : ∀ a : Fin 2, (![0, o] : Fin 2 → ℕ) a + (![R, W] : Fin 2 → ℕ) a ≤ (![R, n] : Fin 2 → ℕ) a) (r : Fin R) (j : Fin W) (h : q * W + j.val < n) :
    View.ld X (Rect.unit (s := ⟨2, ![R, n]⟩) ![0, o] ![R, W] inb) (ix2 r j) = X (ix2 r ⟨q * W + j.val, h⟩) :=
  congrArg X (emb_part q o ho inb r j h)

/-- A part loaded after writes. -/
theorem readCov_part (v : View sig κ sp (⟨2, ![R, n]⟩ : Shape) e) (L : List (View.Piece Val (⟨2, ![R, n]⟩ : Shape) e)) (q o : ℕ) (ho : o = q * W)
    (inb : ∀ a : Fin 2, (![0, o] : Fin 2 → ℕ) a + (![R, W] : Fin 2 → ℕ) a ≤ (![R, n] : Fin 2 → ℕ) a) (r : Fin R) (j : Fin W) (h : q * W + j.val < n) :
    v.readCov L (Rect.unit (s := ⟨2, ![R, n]⟩) ![0, o] ![R, W] inb).toLoadRect (ix2 r j) = View.canon L (ix2 r ⟨q * W + j.val, h⟩) := by
  rw [View.readCov_eq_canon']
  exact congrArg (View.canon L) (emb_part q o ho inb r j h)

/-- Reading after the part `q` was written: in its columns the payload, elsewhere what was there. -/
theorem read_part (v : View sig κ sp (⟨2, ![R, n]⟩ : Shape) e) (f : v.ty.Contents Val) (q o : ℕ) (ho : o = q * W)
    (inb : ∀ a : Fin 2, (![0, o] : Fin 2 → ℕ) a + (![R, W] : Fin 2 → ℕ) a ≤ (![R, n] : Fin 2 → ℕ) a)
    (Y : (⟨2, ![R, W]⟩ : Shape).Idx → Val e) (L : List (View.Piece Val (⟨2, ![R, n]⟩ : Shape) e)) (s : ℕ) (r : Fin R) (j : Fin W) (h : s * W + j.val < n) :
    v.read Val (v.writes Val f ((⟨Rect.unit (s := ⟨2, ![R, n]⟩) ![0, o] ![R, W] inb, Y⟩ : View.Piece Val (⟨2, ![R, n]⟩ : Shape) e) :: L)) (ix2 r ⟨s * W + j.val, h⟩)
      = if s = q then Y (ix2 r j) else v.read Val (v.writes Val f L) (ix2 r ⟨s * W + j.val, h⟩) := by
  split
  · rename_i hs
    subst hs
    rw [← emb_part s o ho inb r j h]
    exact View.read_writes_cons_emb _ _ _ _ _ _
  · rename_i hs
    exact View.read_writes_cons_miss _ _ _ _ _ (not_mem_part q o ho inb s hs r j h)

end Cert.Norm

end
-- ==== Proof.ConvIn.Block.lean ====
module

public import proofs.«01_k».proof.Proof.Norm.Ref
public import proofs.«01_k».proof.Proof.Norm.Rows
public import proofs.«01_k».proof.Proof.Norm.Columns
public import proofs.«01_k».proof.Proof.Gen.KernelConvInIdeal.Value
public import Idealize.ShloMosaic.Lib.Pipeline.ValueKit

@[expose] public section

set_option maxRecDepth 16384

noncomputable section

namespace Cert.ConvIn

open Idealize.ShloMosaic Idealize.ShloMosaic.TcCoe Idealize.SL.Sem
open Cert.KernelConvInIdeal Cert.KernelConvInIdeal.Gen Cert.Norm

/-! # What one point of the gradient through the convolution's gate and input product computes on its blocks -/

/-- The logistic function, as the kernel writes it. -/
def gate (z : EReal) : EReal := Ideal.div 1 (1 + Ideal.exp (0 - z))

/-- The gradient of the gated value and of the gate. -/
def gradU (g d : EReal) : EReal := d * gate g
def gradG (a g d : EReal) : EReal := d * a * gate g * (1 - gate g)

variable (a g d : S512x256.Idx → EReal) (w w' : S1x1024x256.Idx → EReal) (acc : S512x1024.Idx → EReal)
  (u : S512x256.Idx → EReal) (v : S512x256.Idx → EReal) (x y : S512x1024.Idx → EReal) (p : S1x1024.Idx → EReal)
  (s b : S1x256.Idx → EReal) (q : S1x1024.Idx → EReal)

/-- What a part of the columns adds to the gradient before the product. -/
def part (v : S512x256.Idx → EReal) (w : S1x1024x256.Idx → EReal) (r : Fin 512) (l : Fin 1024) : EReal :=
  ∑ e : Fin 256, v (ix2 r e) * w (ix3 0 l e)

theorem pay5_apply (r : Fin 512) (l : Fin 1024) : k0_pay5 (F := Ideal) x p (ix2 r l) = x (ix2 r l) * scale (row x r) * p (ix2 0 l) := by
  pointwise [k0_pay5, scale, power, row]

theorem pay6_apply (r : Fin 512) (l : Fin 1024) : k0_pay6 (F := Ideal) (ix2 r l) = 0 := by
  pointwise [k0_pay6]

theorem pay7_apply (r : Fin 512) (e : Fin 256) : k0_pay7 (F := Ideal) g (ix2 r e) = gate (g (ix2 r e)) := by
  pointwise [k0_pay7, gate]

theorem pay8_apply (r : Fin 512) (e : Fin 256) : k0_pay8 (F := Ideal) g d (ix2 r e) = gradU (g (ix2 r e)) (d (ix2 r e)) := by
  pointwise [k0_pay8, gradU]
  rw [pay7_apply]

theorem pay9_apply (r : Fin 512) (e : Fin 256) : k0_pay9 (F := Ideal) a g d (ix2 r e) = gradG (a (ix2 r e)) (g (ix2 r e)) (d (ix2 r e)) := by
  pointwise [k0_pay9, gradG]
  rw [pay7_apply]

theorem pay15_apply (r : Fin 512) (e : Fin 256) : k0_pay15 (F := Ideal) g (ix2 r e) = gate (g (ix2 r e)) := pay7_apply g r e

theorem pay16_apply (r : Fin 512) (e : Fin 256) : k0_pay16 (F := Ideal) g d (ix2 r e) = gradU (g (ix2 r e)) (d (ix2 r e)) := pay8_apply g d r e

theorem pay17_apply (r : Fin 512) (e : Fin 256) : k0_pay17 (F := Ideal) a g d (ix2 r e) = gradG (a (ix2 r e)) (g (ix2 r e)) (d (ix2 r e)) :=
  pay9_apply a g d r e

theorem pay23_apply (r : Fin 512) (e : Fin 256) : k0_pay23 (F := Ideal) g (ix2 r e) = gate (g (ix2 r e)) := pay7_apply g r e

theorem pay24_apply (r : Fin 512) (e : Fin 256) : k0_pay24 (F := Ideal) g d (ix2 r e) = gradU (g (ix2 r e)) (d (ix2 r e)) := pay8_apply g d r e

theorem pay25_apply (r : Fin 512) (e : Fin 256) : k0_pay25 (F := Ideal) a g d (ix2 r e) = gradG (a (ix2 r e)) (g (ix2 r e)) (d (ix2 r e)) :=
  pay9_apply a g d r e

theorem pay31_apply (r : Fin 512) (e : Fin 256) : k0_pay31 (F := Ideal) g (ix2 r e) = gate (g (ix2 r e)) := pay7_apply g r e

theorem pay32_apply (r : Fin 512) (e : Fin 256) : k0_pay32 (F := Ideal) g d (ix2 r e) = gradU (g (ix2 r e)) (d (ix2 r e)) := pay8_apply g d r e

theorem pay33_apply (r : Fin 512) (e : Fin 256) : k0_pay33 (F := Ideal) a g d (ix2 r e) = gradG (a (ix2 r e)) (g (ix2 r e)) (d (ix2 r e)) :=
  pay9_apply a g d r e

/-- The sum of a part's rows. -/
theorem pay11_apply (e : Fin 256) : k0_pay11 (F := Ideal) u (ix2 0 e) = ∑ r : Fin 512, u (ix2 r e) := by
  pointwise [k0_pay11]

/-- A pair of parts added to the gradient before the product. -/
theorem pay14_apply (r : Fin 512) (l : Fin 1024) :
    k0_pay14 (F := Ideal) acc v u w w' (ix2 r l) = acc (ix2 r l) + part u w r l + part v w' r l := by
  pointwise [k0_pay14, k0_pay12, part]

theorem pay39_apply (r : Fin 512) : k0_pay39 (F := Ideal) x (ix2 r 0) = scale (row x r) := by
  pointwise [k0_pay39, scale, power, row]

theorem pay40_apply (r : Fin 512) (l : Fin 1024) : k0_pay40 (F := Ideal) x (ix2 r l) = x (ix2 r l) * scale (row x r) := by
  pointwise [k0_pay40]
  rw [pay39_apply]

/-- With the last pair the gradient before the product is complete: the sums for the norm's weights, -/
theorem pay41_apply (l : Fin 1024) : k0_pay41 (F := Ideal) x acc v u w w' (ix2 0 l)
    = ∑ r : Fin 512, k0_pay38 (F := Ideal) acc v u w w' (ix2 r l) * (x (ix2 r l) * scale (row x r)) := by
  pointwise [k0_pay41]
  simp only [pay40_apply]

/-- and the norm's gradient. -/
theorem pay44_apply (r : Fin 512) (l : Fin 1024) :
    k0_pay44 (F := Ideal) (k0_pay39 (F := Ideal) x) (k0_pay42 (F := Ideal) acc v u w w' p) (k0_pay43 (F := Ideal) x acc v u w w' p) y (ix2 r l)
    = y (ix2 r l) + back (row x r) (row p 0) (row (k0_pay38 (F := Ideal) acc v u w w') r) l := by
  pointwise [k0_pay44, k0_pay42, k0_pay43]
  simp only [pay39_apply, pay40_apply]
  rfl

theorem pay45_apply (r : Fin 8) (l : Fin 1024) : k0_pay45 (F := Ideal) (ix2 r l) = 0 := by
  pointwise [k0_pay45]

theorem pay46_apply (l : Fin 2048) : k0_pay46 (F := Ideal) (ix2 0 l) = 0 := by
  pointwise [k0_pay46]

theorem pay47_apply (l : Fin 1024) : k0_pay47 (F := Ideal) q p (ix2 0 l) = p (ix2 0 l) + q (ix2 0 l) := by
  pointwise [k0_pay47]

theorem pay48_apply (e : Fin 256) : k0_pay48 (F := Ideal) s b (ix2 0 e) = b (ix2 0 e) + s (ix2 0 e) := by
  pointwise [k0_pay48]

end Cert.ConvIn

end
-- ==== Proof.ConvIn.Point.lean ====
module

public import proofs.«01_k».proof.Proof.ConvIn.Block

@[expose] public section

set_option maxRecDepth 16384

noncomputable section

namespace Cert.ConvIn

open Idealize.ShloMosaic Idealize.ShloMosaic.TcCoe Idealize.SL.Sem
open Cert.KernelConvInIdeal Cert.KernelConvInIdeal.Gen Cert.Norm

/-! # What one point of the gradient through the convolution's gate and input product leaves -/

/-- The parts of the columns: the first four hold the gated values, the last four the gates. -/
def lo (s : Fin 4) : Fin 8 := ⟨s.val, by omega⟩
def hi (s : Fin 4) : Fin 8 := ⟨s.val + 4, by omega⟩

/-- Column `e` of part `s`. -/
def col (s : Fin 8) (e : Fin 256) : Fin 2048 := ⟨s.val * 256 + e.val, by have := s.isLt; have := e.isLt; omega⟩

/-- The gradient of a row before the gate, from the row `a` and the cotangent `d`. -/
def gradA (a : Fin 2048 → EReal) (d : Fin 1024 → EReal) (k : Fin 2048) : EReal :=
  if h : k.val < 1024 then gradU (a ⟨1024 + k.val, by omega⟩) (d ⟨k.val, h⟩)
  else gradG (a ⟨k.val - 1024, by omega⟩) (a k) (d ⟨k.val - 1024, by omega⟩)

/-- The part `s` of the weights, of the saved product and of the cotangent, as the body loads it. -/
def wPart (X : S8x1024x256.Idx → EReal) (s : Fin 8) : S1x1024x256.Idx → EReal :=
  View.ld (Val := Elt Ideal) (e' := .bf16) X (Rect.unit (s := S8x1024x256) ![s.val, 0, 0] ![1, 1024, 256]
    ((by decide : ∀ s : Fin 8, ∀ a : Fin 3, (![s.val, 0, 0] : Fin 3 → ℕ) a + (![1, 1024, 256] : Fin 3 → ℕ) a ≤ (![8, 1024, 256] : Fin 3 → ℕ) a) s))
def aPart (X : S512x2048.Idx → EReal) (s : Fin 8) : S512x256.Idx → EReal :=
  View.ld (Val := Elt Ideal) (e' := .f32) X (Rect.unit (s := S512x2048) ![0, s.val * 256] ![512, 256]
    ((by decide : ∀ s : Fin 8, ∀ a : Fin 2, (![0, s.val * 256] : Fin 2 → ℕ) a + (![512, 256] : Fin 2 → ℕ) a ≤ (![512, 2048] : Fin 2 → ℕ) a) s))
def dPart (X : S512x1024.Idx → EReal) (s : Fin 4) : S512x256.Idx → EReal :=
  View.ld (Val := Elt Ideal) (e' := .f32) X (Rect.unit (s := S512x1024) ![0, s.val * 256] ![512, 256]
    ((by decide : ∀ s : Fin 4, ∀ a : Fin 2, (![0, s.val * 256] : Fin 2 → ℕ) a + (![512, 256] : Fin 2 → ℕ) a ≤ (![512, 1024] : Fin 2 → ℕ) a) s))

theorem wPart_apply (X : S8x1024x256.Idx → EReal) (s : Fin 8) (l : Fin 1024) (e : Fin 256) : wPart X s (ix3 0 l e) = X (ix3 s l e) := by
  refine congrArg X (funext fun a => ?_)
  match a with
  | ⟨0, _⟩ => exact Fin.ext (show s.val + 1 * 0 = s.val by omega)
  | ⟨1, _⟩ => exact Fin.ext (show 0 + 1 * l.val = l.val by omega)
  | ⟨2, _⟩ => exact Fin.ext (show 0 + 1 * e.val = e.val by omega)

theorem aPart_apply (X : S512x2048.Idx → EReal) (s : Fin 8) (r : Fin 512) (e : Fin 256) : aPart X s (ix2 r e) = row X r (col s e) :=
  ld_part (Val := Elt Ideal) (e := .f32) X s.val _ rfl _ r e _

theorem dPart_apply (X : S512x1024.Idx → EReal) (s : Fin 4) (r : Fin 512) (e : Fin 256) (h : s.val * 256 + e.val < 1024) :
    dPart X s (ix2 r e) = row X r ⟨s.val * 256 + e.val, h⟩ :=
  ld_part (Val := Elt Ideal) (e := .f32) X s.val _ rfl _ r e _

section
variable (A : S512x2048.Idx → EReal) (D : S512x1024.Idx → EReal) (W : S8x1024x256.Idx → EReal)

theorem gradU_part (s : Fin 4) (r : Fin 512) (e : Fin 256) :
    gradU (aPart A (hi s) (ix2 r e)) (dPart D s (ix2 r e)) = gradA (row A r) (row D r) (col (lo s) e) := by
  have hs := s.isLt
  have he := e.isLt
  have h : (col (lo s) e).val < 1024 := show s.val * 256 + e.val < 1024 by omega
  unfold gradA
  rw [dif_pos h, aPart_apply, dPart_apply D s r e h]
  exact congrArg (fun k => gradU (row A r k) _) (Fin.ext (show (s.val + 4) * 256 + e.val = 1024 + (s.val * 256 + e.val) by omega))

theorem gradG_part (s : Fin 4) (r : Fin 512) (e : Fin 256) :
    gradG (aPart A (lo s) (ix2 r e)) (aPart A (hi s) (ix2 r e)) (dPart D s (ix2 r e)) = gradA (row A r) (row D r) (col (hi s) e) := by
  have hs := s.isLt
  have he := e.isLt
  have h : ¬(col (hi s) e).val < 1024 := show ¬(s.val + 4) * 256 + e.val < 1024 by omega
  have h1 : (s.val + 4) * 256 + e.val - 1024 = s.val * 256 + e.val := by omega
  unfold gradA
  rw [dif_neg h, aPart_apply, aPart_apply, dPart_apply D s r e (by omega)]
  have h2 : (⟨(col (hi s) e).val - 1024, by have := (col (hi s) e).isLt; omega⟩ : Fin 2048) = col (lo s) e := Fin.ext h1
  have h3 : (⟨(col (hi s) e).val - 1024, by have := (col (hi s) e).isLt; omega⟩ : Fin 1024) = ⟨s.val * 256 + e.val, by omega⟩ := Fin.ext h1
  rw [h2, h3]

/-- The gradient before the product over the first three pairs of parts, as the body adds it up, -/
def three : S512x1024.Idx → EReal :=
  k0_pay30 (F := Ideal)
    (k0_pay22 (F := Ideal)
      (k0_pay14 (F := Ideal) (k0_pay6 (F := Ideal)) (k0_pay9 (F := Ideal) (aPart A 0) (aPart A 4) (dPart D 0)) (k0_pay10 (F := Ideal) (aPart A 4) (dPart D 0)) (wPart W 0) (wPart W 4))
      (k0_pay17 (F := Ideal) (aPart A 1) (aPart A 5) (dPart D 1)) (k0_pay18 (F := Ideal) (aPart A 5) (dPart D 1)) (wPart W 1) (wPart W 5))
    (k0_pay25 (F := Ideal) (aPart A 2) (aPart A 6) (dPart D 2)) (k0_pay26 (F := Ideal) (aPart A 6) (dPart D 2)) (wPart W 2) (wPart W 6)

/-- and over all four. -/
def four : S512x1024.Idx → EReal :=
  k0_pay38 (F := Ideal) (three A D W) (k0_pay33 (F := Ideal) (aPart A 3) (aPart A 7) (dPart D 3)) (k0_pay34 (F := Ideal) (aPart A 7) (dPart D 3)) (wPart W 3) (wPart W 7)

/-- What part `s` adds to an entry. -/
def add (r : Fin 512) (l : Fin 1024) (s : Fin 8) : EReal := ∑ e : Fin 256, gradA (row A r) (row D r) (col s e) * W (ix3 s l e)

theorem add_lo (r : Fin 512) (l : Fin 1024) (s : Fin 4) :
    part (k0_pay8 (F := Ideal) (aPart A (hi s)) (dPart D s)) (wPart W (lo s)) r l = add A D W r l (lo s) := by
  unfold part add
  simp only [pay8_apply, gradU_part, wPart_apply]

theorem add_hi (r : Fin 512) (l : Fin 1024) (s : Fin 4) :
    part (k0_pay9 (F := Ideal) (aPart A (lo s)) (aPart A (hi s)) (dPart D s)) (wPart W (hi s)) r l = add A D W r l (hi s) := by
  unfold part add
  simp only [pay9_apply, gradG_part, wPart_apply]

theorem four_apply (r : Fin 512) (l : Fin 1024) : four A D W (ix2 r l) = ∑ s : Fin 8, add A D W r l s := by
  have e : four A D W (ix2 r l) = 0 + add A D W r l 0 + add A D W r l 4 + add A D W r l 1 + add A D W r l 5 + add A D W r l 2 + add A D W r l 6
      + add A D W r l 3 + add A D W r l 7 := by
    rw [← pay6_apply r l, ← show part _ _ r l = add A D W r l 0 from add_lo A D W r l 0, ← show part _ _ r l = add A D W r l 4 from add_hi A D W r l 0,
      ← show part _ _ r l = add A D W r l 1 from add_lo A D W r l 1, ← show part _ _ r l = add A D W r l 5 from add_hi A D W r l 1,
      ← show part _ _ r l = add A D W r l 2 from add_lo A D W r l 2, ← show part _ _ r l = add A D W r l 6 from add_hi A D W r l 2,
      ← show part _ _ r l = add A D W r l 3 from add_lo A D W r l 3, ← show part _ _ r l = add A D W r l 7 from add_hi A D W r l 3]
    refine (pay14_apply _ _ _ _ _ r l).trans (congrArg (· + _) (congrArg (· + _) ?_))
    refine (pay14_apply _ _ _ _ _ r l).trans (congrArg (· + _) (congrArg (· + _) ?_))
    refine (pay14_apply _ _ _ _ _ r l).trans (congrArg (· + _) (congrArg (· + _) ?_))
    exact pay14_apply _ _ _ _ _ r l
  rw [e, Fin.sum_univ_eight, zero_add]
  ac_rfl
end

variable (m : (ℓ : Loc nD τ sig) → Buf (Elt Ideal) ℓ)

/-- A point's blocks: cotangent, cotangent of the gated rows, saved product, input, norm's weights, weights. -/
def blkO (c : Dev nD) (t : Fin cfg0.N) : S512x1024.Idx → EReal := iblk m c 0 t
def blkD (c : Dev nD) (t : Fin cfg0.N) : S512x1024.Idx → EReal := iblk m c 1 t
def blkA (c : Dev nD) (t : Fin cfg0.N) : S512x2048.Idx → EReal := iblk m c 2 t
def blkX (c : Dev nD) (t : Fin cfg0.N) : S512x1024.Idx → EReal := iblk m c 3 t
def blkG (c : Dev nD) (t : Fin cfg0.N) : S1x1024.Idx → EReal := iblk m c 4 t
def blkW (c : Dev nD) (t : Fin cfg0.N) : S8x1024x256.Idx → EReal := iblk m c 5 t

/-- The gradient before the product. -/
def bDh (c : Dev nD) (t : Fin cfg0.N) : S512x1024.Idx → EReal := four (blkA m c t) (blkD m c t) (blkW m c t)

/-- What a point leaves in the outputs. -/
theorem outs_h (c : Dev nD) (t : Fin cfg0.N) : (outsAt0 m c t.val t.isLt).2.1 = k0_pay5 (F := Ideal) (blkX m c t) (blkG m c t) := by
  by_cases h0 : t.val % 16 = 0
  · rw [outsAt0_A m c t h0]; dsimp only; frame_out; rfl
  · rw [outsAt0_B m c t h0]; dsimp only; frame_out; rfl

theorem outs_dx (c : Dev nD) (t : Fin cfg0.N) : (outsAt0 m c t.val t.isLt).1
    = k0_pay44 (F := Ideal) (k0_pay39 (F := Ideal) (blkX m c t))
      (k0_pay42 (F := Ideal) (three (blkA m c t) (blkD m c t) (blkW m c t)) (k0_pay33 (F := Ideal) (aPart (blkA m c t) 3) (aPart (blkA m c t) 7) (dPart (blkD m c t) 3))
        (k0_pay34 (F := Ideal) (aPart (blkA m c t) 7) (dPart (blkD m c t) 3)) (wPart (blkW m c t) 3) (wPart (blkW m c t) 7) (blkG m c t))
      (k0_pay43 (F := Ideal) (blkX m c t) (three (blkA m c t) (blkD m c t) (blkW m c t)) (k0_pay33 (F := Ideal) (aPart (blkA m c t) 3) (aPart (blkA m c t) 7) (dPart (blkD m c t) 3))
        (k0_pay34 (F := Ideal) (aPart (blkA m c t) 7) (dPart (blkD m c t) 3)) (wPart (blkW m c t) 3) (wPart (blkW m c t) 7) (blkG m c t))
      (blkO m c t) := by
  by_cases h0 : t.val % 16 = 0
  · rw [outsAt0_A m c t h0]; dsimp only; frame_out; rfl
  · rw [outsAt0_B m c t h0]; dsimp only; frame_out; rfl

section
variable (A : S512x2048.Idx → EReal) (D : S512x1024.Idx → EReal)

/-- The gradient before the gate, in the columns of part `s`. -/
def vPart (s : Fin 8) : S512x256.Idx → EReal :=
  if h : s.val < 4 then k0_pay8 (F := Ideal) (aPart A (hi ⟨s.val, h⟩)) (dPart D ⟨s.val, h⟩)
  else k0_pay9 (F := Ideal) (aPart A ⟨s.val - 4, by omega⟩) (aPart A s) (dPart D ⟨s.val - 4, by omega⟩)

theorem vPart_apply (s : Fin 8) (r : Fin 512) (e : Fin 256) : vPart A D s (ix2 r e) = gradA (row A r) (row D r) (col s e) := by
  unfold vPart
  split
  · rename_i h
    exact (pay8_apply _ _ r e).trans (gradU_part A D ⟨s.val, h⟩ r e)
  · rename_i h
    have hs : hi ⟨s.val - 4, by omega⟩ = s := Fin.ext (show s.val - 4 + 4 = s.val by omega)
    have := gradG_part A D ⟨s.val - 4, by omega⟩ r e
    rw [hs] at this
    exact (pay9_apply _ _ _ r e).trans this

/-- The eight stores of parts of the gradient before the gate leave each part at its columns. -/
theorem canon_parts (s : Fin 8) (r : Fin 512) (e : Fin 256) :
    View.canon (Val := Elt Ideal) (e := .bf16) [⟨Rect.unit (s := S512x2048) ![0, 1792] ![512, 256] inb_S512x2048_S512x256_0_1792, k0_pay36 (F := Ideal) (k0_pay33 (F := Ideal) (aPart A 3) (aPart A 7) (dPart D 3))⟩,
      ⟨Rect.unit (s := S512x2048) ![0, 768] ![512, 256] inb_S512x2048_S512x256_0_768, k0_pay34 (F := Ideal) (aPart A 7) (dPart D 3)⟩,
      ⟨Rect.unit (s := S512x2048) ![0, 1536] ![512, 256] inb_S512x2048_S512x256_0_1536, k0_pay28 (F := Ideal) (k0_pay25 (F := Ideal) (aPart A 2) (aPart A 6) (dPart D 2))⟩,
      ⟨Rect.unit (s := S512x2048) ![0, 512] ![512, 256] inb_S512x2048_S512x256_0_512, k0_pay26 (F := Ideal) (aPart A 6) (dPart D 2)⟩,
      ⟨Rect.unit (s := S512x2048) ![0, 1280] ![512, 256] inb_S512x2048_S512x256_0_1280, k0_pay20 (F := Ideal) (k0_pay17 (F := Ideal) (aPart A 1) (aPart A 5) (dPart D 1))⟩,
      ⟨Rect.unit (s := S512x2048) ![0, 256] ![512, 256] inb_S512x2048_S512x256_0_256, k0_pay18 (F := Ideal) (aPart A 5) (dPart D 1)⟩,
      ⟨Rect.unit (s := S512x2048) ![0, 1024] ![512, 256] inb_S512x2048_S512x256_0_1024, k0_pay12 (F := Ideal) (k0_pay9 (F := Ideal) (aPart A 0) (aPart A 4) (dPart D 0))⟩,
      ⟨Rect.unit (s := S512x2048) ![0, 0] ![512, 256] inb_S512x2048_S512x256_0_0, k0_pay10 (F := Ideal) (aPart A 4) (dPart D 0)⟩] (ix2 r (col s e))
    = gradA (row A r) (row D r) (col s e) := by
  have hv := vPart_apply A D s r e
  refine canon_part_eq 7 1792 rfl _ _ _ _ r e _ (fun h => ?_) fun h7 => ?_
  · obtain rfl : s = 7 := Fin.ext h
    exact hv
  refine canon_part_eq 3 768 rfl _ _ _ _ r e _ (fun h => ?_) fun h3 => ?_
  · obtain rfl : s = 3 := Fin.ext h
    exact hv
  refine canon_part_eq 6 1536 rfl _ _ _ _ r e _ (fun h => ?_) fun h6 => ?_
  · obtain rfl : s = 6 := Fin.ext h
    exact hv
  refine canon_part_eq 2 512 rfl _ _ _ _ r e _ (fun h => ?_) fun h2 => ?_
  · obtain rfl : s = 2 := Fin.ext h
    exact hv
  refine canon_part_eq 5 1280 rfl _ _ _ _ r e _ (fun h => ?_) fun h5 => ?_
  · obtain rfl : s = 5 := Fin.ext h
    exact hv
  refine canon_part_eq 1 256 rfl _ _ _ _ r e _ (fun h => ?_) fun h1 => ?_
  · obtain rfl : s = 1 := Fin.ext h
    exact hv
  refine canon_part_eq 4 1024 rfl _ _ _ _ r e _ (fun h => ?_) fun h4 => ?_
  · obtain rfl : s = 4 := Fin.ext h
    exact hv
  refine canon_part_eq 0 0 rfl _ _ _ _ r e _ (fun h => ?_) fun h0 => ?_
  · obtain rfl : s = 0 := Fin.ext h
    exact hv
  have := s.isLt
  omega

/-- The columns of part `s` of a row of sums. -/
def cols (s : Fin 8) : Rect S1x2048 := Rect.unit (s := S1x2048) ![0, s.val * 256] ![1, 256]
  ((by decide : ∀ s : Fin 8, ∀ a : Fin 2, (![0, s.val * 256] : Fin 2 → ℕ) a + (![1, 256] : Fin 2 → ℕ) a ≤ (![1, 2048] : Fin 2 → ℕ) a) s)

/-- The first `q` parts added to the sums `B`, each loaded before the store, -/
def addTo (B : S1x2048.Idx → EReal) : (q : ℕ) → q ≤ 8 → List (View.Piece (Elt Ideal) S1x2048 .f32)
  | 0, _ => []
  | q + 1, hq => ⟨cols ⟨q, hq⟩, k0_pay48 (F := Ideal) (k0_pay11 (F := Ideal) (vPart A D ⟨q, hq⟩)) (View.ld (Val := Elt Ideal) (e' := .f32) B (cols ⟨q, hq⟩))⟩ :: addTo B q (Nat.le_of_succ_le hq)

/-- or after zeros were stored. -/
def addFrom (v : View sig .tc .vmem S1x2048 .f32) : (q : ℕ) → q ≤ 8 → List (View.Piece (Elt Ideal) S1x2048 .f32)
  | 0, _ => [⟨Rect.unit (s := S1x2048) ![0, 0] ![1, 2048] inb_S1x2048_S1x2048_0_0, k0_pay46 (F := Ideal)⟩]
  | q + 1, hq => ⟨cols ⟨q, hq⟩, k0_pay48 (F := Ideal) (k0_pay11 (F := Ideal) (vPart A D ⟨q, hq⟩)) (v.readCov (addFrom v q (Nat.le_of_succ_le hq)) (cols ⟨q, hq⟩).toLoadRect)⟩
      :: addFrom v q (Nat.le_of_succ_le hq)

/-- What a point adds to the sums. -/
def sumA (k : Fin 2048) : EReal := ∑ r : Fin 512, gradA (row A r) (row D r) k

theorem sum_part (s : Fin 8) (e : Fin 256) : k0_pay11 (F := Ideal) (vPart A D s) (ix2 0 e) = sumA A D (col s e) := by
  rw [pay11_apply]
  simp only [vPart_apply]
  rfl

theorem canon_addTo (B : S1x2048.Idx → EReal) (s : Fin 8) (e : Fin 256) : ∀ (q : ℕ) (hq : q ≤ 8), s.val < q →
    View.canon (addTo A D B q hq) (ix2 0 (col s e)) = B (ix2 0 (col s e)) + sumA A D (col s e)
  | q + 1, hq, hs => by
    refine canon_part_eq q _ rfl _ _ _ _ 0 e _ (fun h => ?_) fun h => canon_addTo B s e q (Nat.le_of_succ_le hq) (by omega)
    obtain rfl : s = ⟨q, hq⟩ := Fin.ext h
    refine (pay48_apply _ _ e).trans ?_
    rw [sum_part]
    exact congrArg (· + _) (ld_part (Val := Elt Ideal) (e := .f32) B q _ rfl _ 0 e _)

theorem canon_addFrom_other (v : View sig .tc .vmem S1x2048 .f32) (s : Fin 8) (e : Fin 256) : ∀ (q : ℕ) (hq : q ≤ 8), q ≤ s.val →
    View.canon (addFrom A D v q hq) (ix2 0 (col s e)) = (0 : EReal)
  | 0, _, _ => (congrFun (canon_whole _ _ _) _).trans (pay46_apply _)
  | q + 1, hq, hs => by
    refine canon_part_eq q _ rfl _ _ _ _ 0 e _ (fun h => ?_) fun h => canon_addFrom_other v s e q (Nat.le_of_succ_le hq) (by omega)
    omega

theorem canon_addFrom (v : View sig .tc .vmem S1x2048 .f32) (s : Fin 8) (e : Fin 256) : ∀ (q : ℕ) (hq : q ≤ 8), s.val < q →
    View.canon (addFrom A D v q hq) (ix2 0 (col s e)) = (0 : EReal) + sumA A D (col s e)
  | q + 1, hq, hs => by
    refine canon_part_eq q _ rfl _ _ _ _ 0 e _ (fun h => ?_) fun h => canon_addFrom v s e q (Nat.le_of_succ_le hq) (by omega)
    obtain rfl : s = ⟨q, hq⟩ := Fin.ext h
    refine (pay48_apply _ _ e).trans ?_
    rw [sum_part]
    exact congrArg (· + _) ((readCov_part (Val := Elt Ideal) (e := .f32) v _ q _ rfl _ 0 e _).trans (canon_addFrom_other A D v ⟨q, hq⟩ e q (Nat.le_of_succ_le hq) le_rfl))
end

theorem outs_da (c : Dev nD) (t : Fin cfg0.N) (s : Fin 8) (r : Fin 512) (e : Fin 256) :
    (outsAt0 m c t.val t.isLt).2.2.1 (ix2 r (col s e)) = gradA (row (blkA m c t) r) (row (blkD m c t) r) (col s e) := by
  by_cases h0 : t.val % 16 = 0
  · rw [outsAt0_A m c t h0]; dsimp only; frame_out; exact canon_parts (blkA m c t) (blkD m c t) s r e
  · rw [outsAt0_B m c t h0]; dsimp only; frame_out; exact canon_parts (blkA m c t) (blkD m c t) s r e

set_option maxHeartbeats 2000000 in
theorem db_A (c : Dev nD) (t : Fin cfg0.N) (h0 : t.val % 16 = 0) (s : Fin 8) (e : Fin 256) :
    (outsAt0 m c t.val t.isLt).2.2.2.2 (ix2 0 (col s e)) = 0 + sumA (blkA m c t) (blkD m c t) (col s e) := by
  rw [outsAt0_A m c t h0]; dsimp only; frame_out
  exact canon_addFrom (blkA m c t) (blkD m c t) (ms0_10 t).view s e 8 le_rfl s.isLt

theorem db_B (c : Dev nD) (t : Fin cfg0.N) (h0 : ¬t.val % 16 = 0) (s : Fin 8) (e : Fin 256) : (outsAt0 m c t.val t.isLt).2.2.2.2 (ix2 0 (col s e))
    = (outsAt0 m c (t.val - 1) (Nat.lt_of_le_of_lt (Nat.sub_le _ _) t.isLt)).2.2.2.2 (ix2 0 (col s e)) + sumA (blkA m c t) (blkD m c t) (col s e) := by
  conv_lhs => rw [outsAt0_B m c t h0]
  dsimp only; frame_out
  exact canon_addTo (blkA m c t) (blkD m c t) _ s e 8 le_rfl s.isLt

/-- What a point adds to the sums for the norm's weights. -/
def bG (c : Dev nD) (t : Fin cfg0.N) : S1x1024.Idx → EReal :=
  k0_pay41 (F := Ideal) (blkX m c t) (three (blkA m c t) (blkD m c t) (blkW m c t)) (k0_pay33 (F := Ideal) (aPart (blkA m c t) 3) (aPart (blkA m c t) 7) (dPart (blkD m c t) 3))
    (k0_pay34 (F := Ideal) (aPart (blkA m c t) 7) (dPart (blkD m c t) 3)) (wPart (blkW m c t) 3) (wPart (blkW m c t) 7)
def bSum (c : Dev nD) (t : Fin cfg0.N) (r : Fin 8) (l : Fin 1024) : EReal := if r = 0 then bG m c t (ix2 0 l) else 0

theorem sums_A (c : Dev nD) (t : Fin cfg0.N) (h0 : t.val % 16 = 0) (r : Fin 8) (l : Fin 1024) :
    (outsAt0 m c t.val t.isLt).2.2.2.1 (ix2 r l) = 0 + bSum m c t r l := by
  rw [outsAt0_A m c t h0]; dsimp only; frame_out
  refine (canon_row 0 _ _ _ r l).trans ?_
  have hZ : ∀ (r : Fin 8) (l : Fin 1024), View.canon [(⟨Rect.unit (s := S8x1024) ![0, 0] ![8, 1024] inb_S8x1024_S8x1024_0_0, k0_pay45 (F := Ideal)⟩ : View.Piece (Elt Ideal) S8x1024 .f32)] (ix2 r l) = (0 : EReal) :=
    fun r l => (congrFun (canon_whole _ _ _) _).trans (pay45_apply r l)
  unfold bSum
  by_cases hr : r = 0
  · subst hr
    rw [if_pos (rfl : (0 : Fin 8) = 0)]
    refine (if_pos rfl).trans ?_
    refine (pay47_apply _ _ l).trans ?_
    exact congrArg (· + _) ((readCov_row _ _ 0 (by decide) _ l).trans (hZ 0 l))
  · rw [if_neg hr, add_zero]
    exact (if_neg fun h => hr (Fin.ext h)).trans (hZ r l)

theorem sums_B (c : Dev nD) (t : Fin cfg0.N) (h0 : ¬t.val % 16 = 0) (r : Fin 8) (l : Fin 1024) : (outsAt0 m c t.val t.isLt).2.2.2.1 (ix2 r l)
    = (outsAt0 m c (t.val - 1) (Nat.lt_of_le_of_lt (Nat.sub_le _ _) t.isLt)).2.2.2.1 (ix2 r l) + bSum m c t r l := by
  conv_lhs => rw [outsAt0_B m c t h0]
  dsimp only; frame_out
  refine (read_row _ _ 0 _ _ _ r l).trans ?_
  unfold bSum
  by_cases hr : r = 0
  · subst hr
    rw [if_pos (rfl : (0 : Fin 8) = 0)]
    refine (if_pos rfl).trans ?_
    refine (pay47_apply _ _ l).trans ?_
    exact congrArg (· + _) (ld_row _ 0 (by decide) _ l)
  · rw [if_neg hr, add_zero]
    refine (if_neg fun h => hr (Fin.ext h)).trans ?_
    exact congrFun ((hs0_9 t).read_unread _) _

end Cert.ConvIn

end
-- ==== Proof.ConvIn.Final.lean ====
module

public import proofs.«01_k».proof.Proof.ConvIn.Point

@[expose] public section

set_option maxRecDepth 16384

noncomputable section

namespace Cert.ConvIn

open Idealize.ShloMosaic Idealize.ShloMosaic.TcCoe Idealize.SL.Sem
open Cert.KernelConvInIdeal Cert.KernelConvInIdeal.Gen Cert.Norm

/-! # The five output arrays after the run -/

section
variable (O D : S8192x1024.Idx → EReal) (A : S8192x2048.Idx → EReal) (X : S8192x1024.Idx → EReal) (G : S1x1024.Idx → EReal) (W : S8x1024x256.Idx → EReal)

/-- The gradient before the product. -/
def dhArr (T : Fin 8192) (l : Fin 1024) : EReal := ∑ s : Fin 8, ∑ e : Fin 256, gradA (row A T) (row D T) (col s e) * W (ix3 s l e)

/-- The gradient with respect to the input, added to the cotangent. -/
def dxArr (T : Fin 8192) (l : Fin 1024) : EReal := O (ix2 T l) + back (row X T) (row G 0) (dhArr D A W T) l

/-- The norm's result. -/
def hArr (T : Fin 8192) (l : Fin 1024) : EReal := X (ix2 T l) * scale (row X T) * G (ix2 0 l)

/-- The sums for the norm's weights and for the bias. -/
def dgArr (l : Fin 1024) : EReal := ∑ T : Fin 8192, dhArr D A W T l * (X (ix2 T l) * scale (row X T))
def dbArr (k : Fin 2048) : EReal := ∑ T : Fin 8192, gradA (row A T) (row D T) k
end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] :=
  (by decide +kernel : ∀ t : Fin grid0.N, _)

theorem idx_out : ∀ t : Fin cfg0.N, win0_6.index t = ![t.val, 0] ∧ win0_7.index t = ![t.val, 0] ∧ win0_8.index t = ![t.val, 0] :=
  (by decide +kernel : ∀ t : Fin grid0.N, _)

/-- The arrays the region reads. -/
def inO (c : Dev nD) : S8192x1024.Idx → EReal := V m c (Pipeline.arrRef spec0 0)
def inD (c : Dev nD) : S8192x1024.Idx → EReal := V m c (Pipeline.arrRef spec0 1)
def inA (c : Dev nD) : S8192x2048.Idx → EReal := V m c (Pipeline.arrRef spec0 2)
def inX (c : Dev nD) : S8192x1024.Idx → EReal := V m c (Pipeline.arrRef spec0 3)
def inG (c : Dev nD) : S1x1024.Idx → EReal := V m c (Pipeline.arrRef spec0 4)
def inW (c : Dev nD) : S8x1024x256.Idx → EReal := V m c (Pipeline.arrRef spec0 5)

theorem blkO_apply (c : Dev nD) (t : Fin cfg0.N) (r : Fin 512) (l : Fin 1024) (h : t.val * 512 + r < 8192) :
    blkO m c t (ix2 r l) = inO m c (ix2 ⟨t.val * 512 + r, h⟩ l) := by
  unfold blkO inO iblk
  blk_ext [iblk, (idx t).1]

theorem blkD_apply (c : Dev nD) (t : Fin cfg0.N) (r : Fin 512) (l : Fin 1024) (h : t.val * 512 + r < 8192) :
    blkD m c t (ix2 r l) = inD m c (ix2 ⟨t.val * 512 + r, h⟩ l) := by
  unfold blkD inD iblk
  blk_ext [iblk, (idx t).2.1]

theorem blkA_apply (c : Dev nD) (t : Fin cfg0.N) (r : Fin 512) (l : Fin 2048) (h : t.val * 512 + r < 8192) :
    blkA m c t (ix2 r l) = inA m c (ix2 ⟨t.val * 512 + r, h⟩ l) := by
  unfold blkA inA iblk
  blk_ext [iblk, (idx t).2.2.1]

theorem blkX_apply (c : Dev nD) (t : Fin cfg0.N) (r : Fin 512) (l : Fin 1024) (h : t.val * 512 + r < 8192) :
    blkX m c t (ix2 r l) = inX m c (ix2 ⟨t.val * 512 + r, h⟩ l) := by
  unfold blkX inX iblk
  blk_ext [iblk, (idx t).2.2.2.1]

theorem blkG_eq (c : Dev nD) (t : Fin cfg0.N) : blkG m c t = inG m c := by
  funext i
  obtain ⟨r, l, rfl⟩ : ∃ (r : Fin 1) (l : Fin 1024), i = ix2 r l := ⟨i 0, i 1, eq_ix2 i⟩
  unfold blkG inG iblk
  blk_ext [iblk, (idx t).2.2.2.2.1]

theorem blkW_eq (c : Dev nD) (t : Fin cfg0.N) : blkW m c t = inW m c := by
  funext i
  obtain ⟨s, r, l, rfl⟩ : ∃ (s : Fin 8) (r : Fin 1024) (l : Fin 256), i = ix3 s r l := ⟨i 0, i 1, i 2, eq_ix3 i⟩
  unfold blkW inW iblk
  blk_ext [iblk, (idx t).2.2.2.2.2]

theorem row_blkD (c : Dev nD) (t : Fin cfg0.N) (r : Fin 512) (h : t.val * 512 + r < 8192) :
    row (blkD m c t) r = row (inD m c) ⟨t.val * 512 + r, h⟩ := funext fun k => blkD_apply m c t r k h

theorem row_blkA (c : Dev nD) (t : Fin cfg0.N) (r : Fin 512) (h : t.val * 512 + r < 8192) :
    row (blkA m c t) r = row (inA m c) ⟨t.val * 512 + r, h⟩ := funext fun k => blkA_apply m c t r k h

theorem row_blkX (c : Dev nD) (t : Fin cfg0.N) (r : Fin 512) (h : t.val * 512 + r < 8192) :
    row (blkX m c t) r = row (inX m c) ⟨t.val * 512 + r, h⟩ := funext fun k => blkX_apply m c t r k h

/-- A point's gradient before the product is rows of the whole array's. -/
theorem bDh_apply (c : Dev nD) (t : Fin cfg0.N) (r : Fin 512) (l : Fin 1024) (h : t.val * 512 + r < 8192) :
    bDh m c t (ix2 r l) = dhArr (inD m c) (inA m c) (inW m c) ⟨t.val * 512 + r, h⟩ l := by
  unfold bDh
  rw [four_apply]
  unfold dhArr add
  rw [row_blkA m c t r h, row_blkD m c t r h, blkW_eq]

theorem row_bDh (c : Dev nD) (t : Fin cfg0.N) (r : Fin 512) (h : t.val * 512 + r < 8192) :
    row (bDh m c t) r = dhArr (inD m c) (inA m c) (inW m c) ⟨t.val * 512 + r, h⟩ := funext fun k => bDh_apply m c t r k h

theorem bG_apply (c : Dev nD) (t : Fin cfg0.N) (l : Fin 1024) :
    bG m c t (ix2 0 l) = ∑ r : Fin 512, bDh m c t (ix2 r l) * (blkX m c t (ix2 r l) * scale (row (blkX m c t) r)) :=
  pay41_apply _ _ _ _ _ _ l

theorem lt_rows (t : Fin cfg0.N) (r : Fin 512) : t.val * 512 + r < 8192 := by
  have ht : t.val < 16 := lt_of_lt_of_eq t.isLt N_0
  have := r.isLt
  omega

theorem final_dx (c : Dev nD) : (dats m 0 c).arrAt 6 cfg0.N
    = fun i : S8192x1024.Idx => dxArr (inO m c) (inD m c) (inA m c) (inX m c) (inG m c) (inW m c) (i 0) (i 1) := by
  generalize hA : (fun i : S8192x1024.Idx => dxArr (inO m c) (inD m c) (inA m c) (inX m c) (inG m c) (inW m c) (i 0) (i 1)) = Z
  refine (dats m 0 c).arrAt_eq_of_covers 6 _ (by decide +kernel) fun t hf y => ?_
  blk_simp
  rw [after0_6, outs_dx]
  obtain ⟨r, l, rfl⟩ : ∃ (r : Fin 512) (l : Fin 1024), y = ix2 r l := ⟨y 0, y 1, eq_ix2 y⟩
  refine (pay44_apply _ _ _ _ _ _ _ _ r l).trans ?_
  refine Eq.trans (b := blkO m c t (ix2 r l) + back (row (blkX m c t) r) (row (blkG m c t) 0) (row (bDh m c t) r) l) rfl ?_
  rw [row_blkX m c t r (lt_rows t r), row_bDh m c t r (lt_rows t r), blkO_apply m c t r l (lt_rows t r), blkG_eq]
  refine (congrFun hA (ix2 ⟨t.val * 512 + r, lt_rows t r⟩ l)).trans ?_
  blk_point [idx_out t]

theorem final_h (c : Dev nD) : (dats m 0 c).arrAt 7 cfg0.N = fun i : S8192x1024.Idx => hArr (inX m c) (inG m c) (i 0) (i 1) := by
  generalize hA : (fun i : S8192x1024.Idx => hArr (inX m c) (inG m c) (i 0) (i 1)) = Z
  refine (dats m 0 c).arrAt_eq_of_covers 7 _ (by decide +kernel) fun t hf y => ?_
  blk_simp
  rw [after0_7, outs_h]
  obtain ⟨r, l, rfl⟩ : ∃ (r : Fin 512) (l : Fin 1024), y = ix2 r l := ⟨y 0, y 1, eq_ix2 y⟩
  refine (pay5_apply _ _ r l).trans ?_
  rw [row_blkX m c t r (lt_rows t r), blkX_apply m c t r l (lt_rows t r), blkG_eq]
  refine (congrFun hA (ix2 ⟨t.val * 512 + r, lt_rows t r⟩ l)).trans ?_
  blk_point [idx_out t]

theorem split_col (l : Fin 2048) : ∃ (s : Fin 8) (e : Fin 256), l = col s e :=
  ⟨⟨l.val / 256, by have := l.isLt; omega⟩, ⟨l.val % 256, Nat.mod_lt _ (by decide)⟩, Fin.ext (by show l.val = l.val / 256 * 256 + l.val % 256; omega)⟩

theorem final_da (c : Dev nD) : (dats m 0 c).arrAt 8 cfg0.N = fun i : S8192x2048.Idx => gradA (row (inA m c) (i 0)) (row (inD m c) (i 0)) (i 1) := by
  generalize hA : (fun i : S8192x2048.Idx => gradA (row (inA m c) (i 0)) (row (inD m c) (i 0)) (i 1)) = Z
  refine (dats m 0 c).arrAt_eq_of_covers 8 _ (by decide +kernel) fun t hf y => ?_
  blk_simp
  rw [after0_8]
  obtain ⟨r, l, rfl⟩ : ∃ (r : Fin 512) (l : Fin 2048), y = ix2 r l := ⟨y 0, y 1, eq_ix2 y⟩
  obtain ⟨s, e, rfl⟩ := split_col l
  refine (outs_da m c t s r e).trans ?_
  rw [row_blkA m c t r (lt_rows t r), row_blkD m c t r (lt_rows t r)]
  refine (congrFun hA (ix2 ⟨t.val * 512 + r, lt_rows t r⟩ (col s e))).trans ?_
  blk_point [idx_out t]

/-- The last point. -/
def last : Fin cfg0.N := ⟨15, lt_of_lt_of_eq (by decide) N_0.symm⟩

theorem sums_last (c : Dev nD) (t : Fin cfg0.N) (ht : t.val + 1 = cfg0.N) (r : Fin 8) (l : Fin 1024) :
    (outsAt0 m c t.val t.isLt).2.2.2.1 (ix2 r l) = ∑ p : Fin cfg0.N, bSum m c p r l := by
  rw [Pipeline.eq_sum_fin_of_reset_step_apply_last (fun n h (_ : Unit) => (outsAt0 m c n h).2.2.2.1 (ix2 r l)) 16 (fun _ => 0)
    (fun t _ => bSum m c t r l)
    (fun t h0 _ => sums_A m c t h0 r l) (fun t h0 _ => sums_B m c t h0 r l) (le_of_eq N_0) t ht (), zero_add]

theorem db_last (c : Dev nD) (t : Fin cfg0.N) (ht : t.val + 1 = cfg0.N) (s : Fin 8) (e : Fin 256) :
    (outsAt0 m c t.val t.isLt).2.2.2.2 (ix2 0 (col s e)) = ∑ p : Fin cfg0.N, sumA (blkA m c p) (blkD m c p) (col s e) := by
  rw [Pipeline.eq_sum_fin_of_reset_step_apply_last (fun n h (_ : Unit) => (outsAt0 m c n h).2.2.2.2 (ix2 0 (col s e))) 16 (fun _ => 0)
    (fun t _ => sumA (blkA m c t) (blkD m c t) (col s e))
    (fun t h0 _ => db_A m c t h0 s e) (fun t h0 _ => db_B m c t h0 s e) (le_of_eq N_0) t ht (), zero_add]

theorem final_sums (c : Dev nD) : (dats m 0 c).arrAt 9 cfg0.N = fun i : S8x1024.Idx => if (i 0).val = 0 then
    dgArr (inD m c) (inA m c) (inX m c) (inW m c) (i 1) else (0 : EReal) := by
  refine (dats m 0 c).arrAt_eq_of_after_last 9 last (by decide +kernel) _ fun j => ?_
  blk_simp
  obtain ⟨r, l, rfl⟩ : ∃ (r : Fin 8) (l : Fin 1024), j = ix2 r l := ⟨j 0, j 1, eq_ix2 j⟩
  rw [after0_9, sums_last m c _ rfl]
  unfold bSum
  by_cases hr : r = 0
  · subst hr
    simp only [if_pos, bG_apply]
    refine Eq.trans (b := dgArr (inD m c) (inA m c) (inX m c) (inW m c) l) ?_ (if_pos rfl).symm
    unfold dgArr
    refine Fin.sum_mul_add_congr fun t s hl => ?_
    rw [row_blkX m c t s hl, blkX_apply m c t s l hl, bDh_apply m c t s l hl]
  · simp only [if_neg hr]
    exact (show ∑ p : Fin cfg0.N, (0 : EReal) = 0 from Finset.sum_const_zero).trans (if_neg fun h => hr (Fin.ext h)).symm

theorem final_db (c : Dev nD) : (dats m 0 c).arrAt 10 cfg0.N = fun i : S1x2048.Idx => dbArr (inD m c) (inA m c) (i 1) := by
  refine (dats m 0 c).arrAt_eq_of_after_last 10 last (by decide +kernel) _ fun j => ?_
  blk_simp
  obtain ⟨r, l, rfl⟩ : ∃ (r : Fin 1) (l : Fin 2048), j = ix2 r l := ⟨j 0, j 1, eq_ix2 j⟩
  obtain rfl : r = 0 := Subsingleton.elim _ _
  obtain ⟨s, e, rfl⟩ := split_col l
  rw [after0_10]
  refine (db_last m c _ rfl s e).trans ?_
  refine Eq.trans (b := dbArr (inD m c) (inA m c) (col s e)) ?_ rfl
  unfold dbArr sumA
  refine Fin.sum_mul_add_congr fun t r hl => ?_
  rw [row_blkA m c t r hl, row_blkD m c t r hl]

end Cert.ConvIn

end
-- ==== Proof.ConvIn.Reference.lean ====
module

public import proofs.«01_k».proof.Proof.Norm.Ref
public import proofs.«01_k».proof.Proof.ConvIn.Point
public import proofs.«01_k».proof.Proof.Gen.ReferenceConvInIdeal.Run

@[expose] public section

set_option maxRecDepth 16384

noncomputable section

namespace Cert.ConvIn

open Idealize.ShloMosaic Idealize.ShloMosaic.TcCoe Idealize.SL.Sem
open Cert.ReferenceConvInIdeal Cert.ReferenceConvInIdeal.Gen Cert.Norm

/-! # The reference's five results -/

section
variable (o d x : FVec Ideal S8192x1024 .f32) (g : FVec Ideal S1x1024 .f32) (w : FVec Ideal S1024x2048 .f32) (b : FVec Ideal S1x2048 .f32)

/-- The norm, the product with the bias, the logistic function of its second half. -/
def refH : FVec Ideal S8192x1024 .f32 := mulf (refUnit x) (broadcastInDim S8192x1024 ![0, 1] bcast_S1x1024_S8192x1024_0_1 g)
def refA : FVec Ideal S8192x2048 .f32 :=
  addf (Host.dotGeneral dot_S8192x1024_S1024x2048_S8192x2048_1_0_0_1_n_n none (refH x g) w) (broadcastInDim S8192x2048 ![0, 1] bcast_S1x2048_S8192x2048_0_1 b)
def refGate (a : FVec Ideal S8192x2048 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32))
    (Host.exp (Host.negf (extractStridedSlice S8192x1024 ![0, 1024] a slices_S8192x2048_S8192x1024_0_1024))))

/-- The gradients before the gate and before the product. -/
def refDa : FVec Ideal S8192x2048 .f32 :=
  concatenate S8192x2048 1 [⟨S8192x1024, mulf d (refGate (refA x g w b))⟩,
    ⟨S8192x1024, mulf (mulf (extractStridedSlice S8192x1024 ![0, 0] (refA x g w b) slices_S8192x2048_S8192x1024_0_0) d)
      (mulf (refGate (refA x g w b)) (subf (broadcastInDim S8192x1024 ![] bcast_S_S8192x1024 (constant S_ .f32 0x3F800000#32)) (refGate (refA x g w b))))⟩]
    concatenates_S8192x1024_S8192x1024_S8192x2048_d1
def refDh : FVec Ideal S8192x1024 .f32 := Host.dotGeneral dot_S8192x2048_S1024x2048_S8192x1024_1_1_0_0_n_n none (refDa d x g w b) w
def refDx : FVec Ideal S8192x1024 .f32 := addf o (refBack x g (refDh d x g w b))
def refSums : FVec Ideal S8x1024 .f32 :=
  pad S8x1024 ![0, 0] ![7, 0] ![0, 0] (refWeights x (refDh d x g w b)) (sitofp .f32 (constantI S_ 32 0#32)) pads_S1x1024_S8x1024_070_000 h_S_
def refDb : FVec Ideal S1x2048 .f32 :=
  shapeCast _ (Host.reduceAdd (refDa d x g w b) (constant S_ .f32 0x00000000#32) reducesTo_S8192x2048_S2048_d0 h_S_) shapeCasts_S2048_S1x2048
end

variable (o d x : S8192x1024.Idx → EReal) (g : S1x1024.Idx → EReal) (w : S1024x2048.Idx → EReal) (b : S1x2048.Idx → EReal)

theorem refH_apply (T : Fin 8192) (l : Fin 1024) : refH x g (ix2 T l) = x (ix2 T l) * scale (row x T) * g (ix2 0 l) := by
  pointwise [refH]
  rw [refUnit_apply]

theorem refA_apply (T : Fin 8192) (l : Fin 2048) : refA x g w b (ix2 T l) = (∑ k : Fin 1024, refH x g (ix2 T k) * w (ix2 k l)) + b (ix2 0 l) := by
  pointwise [refA]

theorem refGate_apply (a : S8192x2048.Idx → EReal) (T : Fin 8192) (l : Fin 1024) : refGate a (ix2 T l) = gate (a (ix2 T ⟨1024 + l.val, by omega⟩)) := by
  pointwise [refGate, gate]
  rw [zero_sub]

theorem refDa_apply (T : Fin 8192) (k : Fin 2048) : refDa d x g w b (ix2 T k) = gradA (row (refA x g w b) T) (row d T) k := by
  pointwise [refDa, gradA]
  split
  · rename_i h
    rw [refGate_apply]
    rfl
  · rename_i h
    have e : (⟨1024 + (k.val - 1024), by omega⟩ : Fin 2048) = k := Fin.ext (by show 1024 + (k.val - 1024) = k.val; omega)
    rw [refGate_apply]
    unfold gradG
    rw [mul_comm (row d T _), mul_assoc _ (gate _)]
    have e' : refA x g w b (ix2 T ⟨1024 + (k.val - 1024), by omega⟩) = row (refA x g w b) T k := congrArg (fun k => refA x g w b (ix2 T k)) e
    rw [← e']
    rfl

theorem refDh_apply (T : Fin 8192) (l : Fin 1024) : refDh d x g w b (ix2 T l) = ∑ k : Fin 2048, refDa d x g w b (ix2 T k) * w (ix2 l k) := by
  pointwise [refDh]

theorem refDx_apply (T : Fin 8192) (l : Fin 1024) : refDx o d x g w b (ix2 T l) = o (ix2 T l) + vjp (row x T) (row g 0) (row (refDh d x g w b) T) l := by
  pointwise [refDx]
  rw [refBack_apply]

theorem refSums_apply (r : Fin 8) (l : Fin 1024) : refSums d x g w b (ix2 r l)
    = if r.val = 0 then ∑ T : Fin 8192, refDh d x g w b (ix2 T l) * (x (ix2 T l) * scale (row x T)) else 0 := by
  pointwise [refSums]
  by_cases h0 : r.val = 0
  · obtain rfl : r = 0 := Fin.ext h0
    exact (dif_pos (by decide)).trans ((refWeights_apply _ _ l).trans (if_pos rfl).symm)
  · rw [if_neg h0, dif_neg (by omega)]
    show (((0#32 : BitVec 32).toInt : ℝ) : EReal) = 0
    simp

theorem refDb_apply (k : Fin 2048) : refDb d x g w b (ix2 0 k) = ∑ T : Fin 8192, refDa d x g w b (ix2 T k) := by
  pointwise [refDb]

end Cert.ConvIn

end
-- ==== Proof.ConvIn.Value.lean ====
module

public import proofs.«01_k».proof.Pre_finite_ci
public import proofs.«01_k».proof.Proof.Norm.Finite
public import proofs.«01_k».proof.Proof.Norm.Gate
public import proofs.«01_k».proof.Proof.ConvIn.Final
public import proofs.«01_k».proof.Proof.ConvIn.Reference

@[expose] public section

set_option maxRecDepth 16384

noncomputable section

namespace Cert.ConvIn

open Idealize.ShloMosaic Idealize.ShloMosaic.TcCoe Idealize.ShloMosaic.StableHlo Idealize.SL.Sem
open Cert.KernelConvInIdeal Cert.KernelConvInIdeal.Gen Cert.Norm

/-! # The five outputs are the reference's results -/

variable (m : (ℓ : Loc nD τ sig) → Buf (Elt Ideal) ℓ)

/-- The six arguments: cotangent, cotangent of the gated rows, input, norm's weights, weights, bias. -/
def argO (c : Dev nD) : S8192x1024.Idx → EReal := m ((c.tc : Thread nD τ).loc main_arg0)
def argD (c : Dev nD) : S8192x1024.Idx → EReal := m ((c.tc : Thread nD τ).loc main_arg1)
def argX (c : Dev nD) : S8192x1024.Idx → EReal := m ((c.tc : Thread nD τ).loc main_arg2)
def argG (c : Dev nD) : S1x1024.Idx → EReal := m ((c.tc : Thread nD τ).loc main_arg3)
def argW (c : Dev nD) : S1024x2048.Idx → EReal := m ((c.tc : Thread nD τ).loc main_arg4)
def argB (c : Dev nD) : S1x2048.Idx → EReal := m ((c.tc : Thread nD τ).loc main_arg5)

/-- The weights' columns cut into eight parts. -/
def cut (w : FVec Ideal S1024x2048 .f32) : FVec Ideal S8x1024x256 .f32 :=
  transpose S8x1024x256 [1, 0, 2] (shapeCast S1024x8x256 w shapeCasts_S1024x2048_S1024x8x256) transposes_S1024x8x256_S8x1024x256_1_0_2

theorem cut_apply (w : S1024x2048.Idx → EReal) (s : Fin 8) (l : Fin 1024) (e : Fin 256) : cut w (ix3 s l e) = w (ix2 l (col s e)) := by
  pointwise [cut]
  rfl

/-- What the host operations leave in the arrays the region reads. -/
theorem inO_eq (c : Dev nD) : inO m c = argO m c := by
  unfold inO V
  simp only [hostOps0, List.flatten_cons, List.flatten_nil, List.append_nil, TRef.ternary, TRef.binary, TRef.nullary, TRef.unary, TRef.toBuf, TRef.ofBuf, cast_eq]
  after_results; rfl

theorem inD_eq (c : Dev nD) : inD m c = argD m c := by
  unfold inD V
  simp only [hostOps0, List.flatten_cons, List.flatten_nil, List.append_nil, TRef.ternary, TRef.binary, TRef.nullary, TRef.unary, TRef.toBuf, TRef.ofBuf, cast_eq]
  after_results; rfl

theorem inX_eq (c : Dev nD) : inX m c = argX m c := by
  unfold inX V
  simp only [hostOps0, List.flatten_cons, List.flatten_nil, List.append_nil, TRef.ternary, TRef.binary, TRef.nullary, TRef.unary, TRef.toBuf, TRef.ofBuf, cast_eq]
  after_results; rfl

theorem inG_eq (c : Dev nD) : inG m c = argG m c := by
  unfold inG V
  simp only [hostOps0, List.flatten_cons, List.flatten_nil, List.append_nil, TRef.ternary, TRef.binary, TRef.nullary, TRef.unary, TRef.toBuf, TRef.ofBuf, cast_eq]
  after_results; rfl

theorem inA_eq (c : Dev nD) : inA m c = refA (argX m c) (argG m c) (argW m c) (argB m c) := by
  unfold inA V
  simp only [hostOps0, List.flatten_cons, List.flatten_nil, List.append_nil, TRef.ternary, TRef.binary, TRef.nullary, TRef.unary, TRef.toBuf, TRef.ofBuf, cast_eq]
  after_results; rfl

theorem inW_eq (c : Dev nD) : inW m c = cut (argW m c) := by
  unfold inW V
  simp only [hostOps0, List.flatten_cons, List.flatten_nil, List.append_nil, TRef.ternary, TRef.binary, TRef.nullary, TRef.unary, TRef.toBuf, TRef.ofBuf, cast_eq]
  after_results; rfl

section
variable [Cert.Pre_finite_ci.Facts]

/-- Under the precondition the arguments are real. -/
theorem reals {o d x : S8192x1024.Idx → EReal} {g : S1x1024.Idx → EReal} {w : S1024x2048.Idx → EReal} {b : S1x2048.Idx → EReal}
    (h : (Cert.Pre_finite_ci.fn (F := Ideal) o d x g w b).1 = (fun _ => 1#1) ∧ (Cert.Pre_finite_ci.fn (F := Ideal) o d x g w b).2.1 = (fun _ => 1#1)
      ∧ (Cert.Pre_finite_ci.fn (F := Ideal) o d x g w b).2.2.1 = (fun _ => 1#1) ∧ (Cert.Pre_finite_ci.fn (F := Ideal) o d x g w b).2.2.2 = fun _ => 1#1) :
    (∀ i, IsReal (d i)) ∧ (∀ i, IsReal (x i)) ∧ (∀ i, IsReal (g i)) ∧ (∀ i, IsReal (w i)) ∧ ∀ i, IsReal (b i) :=
  ⟨fun i => isReal_of_lt (and_one (and_one (congrFun h.1 i)).1).2, fun i => isReal_of_lt (and_one (congrFun h.1 i)).2, fun i => isReal_of_lt (congrFun h.2.1 i),
    fun i => isReal_of_lt (congrFun h.2.2.1 i), fun i => isReal_of_lt (congrFun h.2.2.2 i)⟩
end

/-- The gradient before the gate is real on real rows. -/
theorem gate_isReal {z : EReal} (hz : IsReal z) : IsReal (gate z) := logistic_isReal hz

theorem gradA_isReal {a : Fin 2048 → EReal} {d : Fin 1024 → EReal} (ha : ∀ k, IsReal (a k)) (hd : ∀ k, IsReal (d k)) (k : Fin 2048) : IsReal (gradA a d k) := by
  unfold gradA
  split
  · exact (hd _).mul (gate_isReal (ha _))
  · exact (((hd _).mul (ha _)).mul (gate_isReal (ha _))).mul (IsReal.sub ⟨1, rfl⟩ (gate_isReal (ha _)))

section
variable {o d x : S8192x1024.Idx → EReal} {g : S1x1024.Idx → EReal} {w : S1024x2048.Idx → EReal} {b : S1x2048.Idx → EReal}
  (hd : ∀ i, IsReal (d i)) (hx : ∀ i, IsReal (x i)) (hg : ∀ i, IsReal (g i)) (hw : ∀ i, IsReal (w i)) (hb : ∀ i, IsReal (b i))

/-- The kernel's and the reference's gradient before the product. -/
theorem dh_eq (T : Fin 8192) (l : Fin 1024) : dhArr d (refA x g w b) (cut w) T l = refDh d x g w b (ix2 T l) := by
  rw [refDh_apply]
  unfold dhArr
  refine Fin.sum_mul_add_congr fun s e hl => ?_
  rw [refDa_apply, cut_apply]
  rfl

include hd hx hg hw hb

theorem dh_isReal (T : Fin 8192) (l : Fin 1024) : IsReal (row (refDh d x g w b) T l) := by
  unfold row
  rw [refDh_apply]
  refine IsReal.sum _ _ fun k => IsReal.mul ?_ (hw _)
  rw [refDa_apply]
  refine gradA_isReal (fun k => ?_) (fun _ => hd _) k
  unfold row
  rw [refA_apply]
  refine (IsReal.sum _ _ fun k => IsReal.mul ?_ (hw _)).add (hb _)
  rw [refH_apply]
  exact ((hx _).mul (scale_isReal fun _ => hx _)).mul (hg _)

theorem dxFun_eq : (fun i : S8192x1024.Idx => dxArr o d (refA x g w b) x g (cut w) (i 0) (i 1)) = refDx o d x g w b := by
  funext i
  obtain ⟨T, l, rfl⟩ : ∃ (r : Fin 8192) (l : Fin 1024), i = ix2 r l := ⟨i 0, i 1, eq_ix2 i⟩
  rw [refDx_apply, vjp_eq_back (x := row x T) (g := row g 0) (fun _ => hx _) (fun _ => hg _) (dh_isReal hd hx hg hw hb T),
    ← show dhArr d (refA x g w b) (cut w) T = row (refDh d x g w b) T from funext fun l => dh_eq T l]
  rfl
end

section
variable (d x : S8192x1024.Idx → EReal) (g : S1x1024.Idx → EReal) (w : S1024x2048.Idx → EReal) (b : S1x2048.Idx → EReal)

theorem hFun_eq : (fun i : S8192x1024.Idx => hArr x g (i 0) (i 1)) = refH x g := by
  funext i
  obtain ⟨r, l, rfl⟩ : ∃ (r : Fin 8192) (l : Fin 1024), i = ix2 r l := ⟨i 0, i 1, eq_ix2 i⟩
  exact (refH_apply _ _ r l).symm

theorem daFun_eq : (fun i : S8192x2048.Idx => gradA (row (refA x g w b) (i 0)) (row d (i 0)) (i 1)) = refDa d x g w b := by
  funext i
  obtain ⟨r, l, rfl⟩ : ∃ (r : Fin 8192) (l : Fin 2048), i = ix2 r l := ⟨i 0, i 1, eq_ix2 i⟩
  exact (refDa_apply _ _ _ _ _ r l).symm

theorem sumsFun_eq : (fun i : S8x1024.Idx => if (i 0).val = 0 then dgArr d (refA x g w b) x (cut w) (i 1) else (0 : EReal)) = refSums d x g w b := by
  funext i
  obtain ⟨r, l, rfl⟩ : ∃ (r : Fin 8) (l : Fin 1024), i = ix2 r l := ⟨i 0, i 1, eq_ix2 i⟩
  refine Eq.trans ?_ (refSums_apply _ _ _ _ _ r l).symm
  have h : dgArr d (refA x g w b) x (cut w) l = ∑ T : Fin 8192, refDh d x g w b (ix2 T l) * (x (ix2 T l) * scale (row x T)) :=
    Finset.sum_congr rfl fun T _ => by rw [dh_eq]
  rw [← h]
  rfl

theorem dbFun_eq : (fun i : S1x2048.Idx => dbArr d (refA x g w b) (i 1)) = refDb d x g w b := by
  funext i
  obtain ⟨r, l, rfl⟩ : ∃ (r : Fin 1) (l : Fin 2048), i = ix2 r l := ⟨i 0, i 1, eq_ix2 i⟩
  obtain rfl : r = 0 := Subsingleton.elim _ _
  refine Eq.trans ?_ (refDb_apply _ _ _ _ _ l).symm
  exact Finset.sum_congr rfl fun T _ => (refDa_apply _ _ _ _ _ T l).symm
end

set_option maxHeartbeats 2000000 in
/-- The five output arrays are the reference's five results. -/
theorem values (c : Dev nD) (hd : ∀ i, IsReal (argD m c i)) (hx : ∀ i, IsReal (argX m c i)) (hg : ∀ i, IsReal (argG m c i)) (hw : ∀ i, IsReal (argW m c i))
    (hb : ∀ i, IsReal (argB m c i)) :
    (dats m 0 c).arrAt 6 cfg0.N = refDx (argO m c) (argD m c) (argX m c) (argG m c) (argW m c) (argB m c)
    ∧ (dats m 0 c).arrAt 7 cfg0.N = refH (argX m c) (argG m c)
    ∧ (dats m 0 c).arrAt 8 cfg0.N = refDa (argD m c) (argX m c) (argG m c) (argW m c) (argB m c)
    ∧ (dats m 0 c).arrAt 9 cfg0.N = refSums (argD m c) (argX m c) (argG m c) (argW m c) (argB m c)
    ∧ (dats m 0 c).arrAt 10 cfg0.N = refDb (argD m c) (argX m c) (argG m c) (argW m c) (argB m c) := by
  rw [final_dx, final_h, final_da, final_sums, final_db, inO_eq, inD_eq, inA_eq, inX_eq, inG_eq, inW_eq]
  have h0 := dxFun_eq (o := argO m c) hd hx hg hw hb
  have h2 := daFun_eq (argD m c) (argX m c) (argG m c) (argW m c) (argB m c)
  have h3 := sumsFun_eq (argD m c) (argX m c) (argG m c) (argW m c) (argB m c)
  have h4 := dbFun_eq (argD m c) (argX m c) (argG m c) (argW m c) (argB m c)
  refine ⟨?_, hFun_eq (argX m c) (argG m c), ?_, ?_, ?_⟩
  · exact h0
  · exact h2
  · exact h3
  · exact h4

end Cert.ConvIn

end
-- ==== Proof.ConvIn.Claims.lean ====
module

public import proofs.«01_k».proof.Defs
public import proofs.«01_k».proof.Proof.Gen.KernelConvIn.Frame
public import proofs.«01_k».proof.Proof.ConvIn.Value
public import proofs.«01_k».proof.Proof.Gen.ReferenceConvInIdeal.Run
public import Idealize.ShloMosaic.Lib.Claim

@[expose] public section

noncomputable section

namespace Cert.Proof

open Idealize.ShloMosaic Idealize.SL.Sem

set_option maxHeartbeats 2000000 in
/-- The gradient through the convolution's gate, its input product and norm: on finite arguments kernel and reference end with equal results on the ideal numbers. -/
theorem conv_in_value [hPre_finite_ci : Cert.Pre_finite_ci.Facts] : Cert.algebraic_KernelConvInIdeal_ReferenceConvInIdeal_pre_finite_ci := by
  intro m g m' g' hpre hagree
  refine ⟨_, _, _, _, _, Cert.KernelConvInIdeal.Value.run_blocks m g, ?_⟩
  refine (θ_run Cert.ReferenceConvInIdeal.defs _ _).mono (fun _ h c => ?_) (Cert.ReferenceConvInIdeal.Value.run (F := Ideal) m' g')
  obtain ⟨hd, hx, hg, hw, hb⟩ := Cert.ConvIn.reals (hpre c)
  obtain ⟨e0, e1, e2, e3, e4⟩ := Cert.ConvIn.values m c hd hx hg hw hb
  obtain ⟨a0, a1, a2, a3, a4, a5⟩ := hagree c
  obtain ⟨r0, r1, r2, r3, r4, k⟩ := h c
  unfold Cert.ReferenceConvInIdeal.Value.res_main_v56 at r0
  unfold Cert.ReferenceConvInIdeal.Value.res_main_v58 at r2
  unfold Cert.ReferenceConvInIdeal.Value.res_main_v59 at r3
  unfold Cert.ReferenceConvInIdeal.Value.res_main_v37 at r4
  rw [a0, a1, a2, a3, a4, a5] at r0
  rw [a1, a2, a3, a4, a5] at r2 r3 r4
  rw [a2, a3] at r1
  exact ⟨r0.trans e0.symm, r1.trans e1.symm, r2.trans e2.symm, r3.trans e3.symm, r4.trans e4.symm, k⟩

/-- The reference terminates, its arguments unchanged. -/
theorem conv_in_reference : Cert.quiescent_ReferenceConvInIdeal := by
  intro m g _
  run_from Cert.ReferenceConvInIdeal.Value.run m g
  · exact fun _ => ⟨trivial, trivial, trivial, trivial, trivial, trivial⟩
  · exact funext fun s => nomatch s

end Cert.Proof

end
-- ==== Proof.Norm.Layer.lean ====
module

public import proofs.«01_k».proof.Proof.Norm.Gate

@[expose] public section

noncomputable section

namespace Cert.Norm

open Idealize.ShloMosaic

/-! # The layer norm and its gradient in one row

`layerBack` is the gradient with respect to the row as the kernel writes it, `layerVjp` as the derivative of the norm's
forward line writes it, the mean being differentiated separately; on real rows they are equal. -/

/-- The ε that the layer norm adds is a positive real number. -/
theorem word_layer_eps : ∃ e : ℝ, 0 < e ∧ Ideal.ofBits .f32 0x3727C5AC#32 = (e : EReal) := by
  refine ⟨10995116 * 2 ^ (-40 : ℤ), by positivity, ?_⟩
  simp [Ideal.ofBits, Ideal.ieee]

/-- The row less its mean, the mean square of that plus ε, the inverse square root, the normed row. -/
def centred (y : Fin 1024 → EReal) (l : Fin 1024) : EReal := y l - Ideal.div (∑ k, y k) (Ideal.ofBits .f32 0x44800000#32)
def spread (y : Fin 1024 → EReal) : EReal :=
  Ideal.div (∑ k, centred y k * centred y k) (Ideal.ofBits .f32 0x44800000#32) + Ideal.ofBits .f32 0x3727C5AC#32
def layerScale (y : Fin 1024 → EReal) : EReal := Ideal.rsqrt (spread y)
def normed (y : Fin 1024 → EReal) (l : Fin 1024) : EReal := centred y l * layerScale y

/-- The gradient for the cotangent `e` of the normed row, as the kernel computes it. -/
def layerBack (y e : Fin 1024 → EReal) (l : Fin 1024) : EReal :=
  layerScale y * (e l - Ideal.div (∑ k, e k) (Ideal.ofBits .f32 0x44800000#32)
    - normed y l * Ideal.div (∑ k, e k * normed y k) (Ideal.ofBits .f32 0x44800000#32))

/-- What reaches the centred row through the mean square. -/
def layerTwo (y e : Fin 1024 → EReal) (l : Fin 1024) : EReal :=
  Ideal.div ((∑ k, centred y k * e k) * (Ideal.ofBits .f32 0xBF000000#32 * Ideal.div (layerScale y) (spread y))) (Ideal.ofBits .f32 0x44800000#32)
    * (Ideal.ofBits .f32 0x40000000#32 * centred y l)

/-- The same gradient, as differentiating the forward line writes it. -/
def layerVjp (y e : Fin 1024 → EReal) (l : Fin 1024) : EReal :=
  e l * layerScale y + layerTwo y e l
    + Ideal.div ((∑ k, -(e k * layerScale y)) + ∑ k, -layerTwo y e k) (Ideal.ofBits .f32 0x44800000#32)

/-- A real row less its mean is real and sums to zero. -/
theorem centred_real (y : Fin 1024 → ℝ) : ∃ z : Fin 1024 → ℝ, ∑ k, z k = 0 ∧ ∀ l, centred (fun k => (y k : EReal)) l = (z l : EReal) := by
  refine ⟨fun l => y l - (∑ k, y k) / 1024, ?_, fun l => ?_⟩
  · rw [Finset.sum_sub_distrib, Finset.sum_const, Finset.card_univ, Fintype.card_fin, nsmul_eq_mul]
    push_cast
    ring
  · unfold centred
    rw [coe_sum, word_width, div_coe _ _ (by norm_num), ← EReal.coe_sub]

/-- On a real row the spread is a positive real and the scale its inverse square root. -/
theorem spread_real {y : Fin 1024 → EReal} {z : Fin 1024 → ℝ} (hz : ∀ l, centred y l = (z l : EReal)) :
    ∃ s : ℝ, 0 < s ∧ spread y = ((s * s : ℝ) : EReal) ∧ layerScale y = ((s⁻¹ : ℝ) : EReal) := by
  obtain ⟨e, he, h⟩ := word_layer_eps
  have hp : 0 < (∑ k, z k * z k) / 1024 + e := add_pos_of_nonneg_of_pos
    (div_nonneg (Finset.sum_nonneg fun k _ => mul_self_nonneg _) (by norm_num)) he
  have hs : spread y = (((∑ k, z k * z k) / 1024 + e : ℝ) : EReal) := by
    unfold spread
    simp only [hz, ← EReal.coe_mul]
    rw [h, coe_sum, word_width, div_coe _ _ (by norm_num), ← EReal.coe_add]
  refine ⟨_, Real.sqrt_pos.mpr hp, by rw [hs, Real.mul_self_sqrt hp.le], ?_⟩
  unfold layerScale
  rw [hs, Ideal.rsqrt_coe, if_neg (not_lt.mpr hp.le), if_neg hp.ne']

theorem normed_isReal {y : Fin 1024 → EReal} (hy : ∀ k, IsReal (y k)) (l : Fin 1024) : IsReal (normed y l) := by
  choose a ha using hy
  obtain rfl : y = fun k => (a k : EReal) := funext ha
  obtain ⟨z, -, hz⟩ := centred_real a
  obtain ⟨s, -, -, hs⟩ := spread_real hz
  exact IsReal.mul ⟨_, hz l⟩ ⟨_, hs⟩

/-- On real rows the two forms of the gradient are equal. -/
theorem layerVjp_eq {y e : Fin 1024 → EReal} (hy : ∀ k, IsReal (y k)) (he : ∀ k, IsReal (e k)) (l : Fin 1024) :
    layerVjp y e l = layerBack y e l := by
  choose a ha using hy
  choose b hb using he
  obtain rfl : y = fun k => (a k : EReal) := funext ha
  obtain rfl : e = fun k => (b k : EReal) := funext hb
  obtain ⟨z, hz0, hz⟩ := centred_real a
  obtain ⟨s, hs0, hs1, hs2⟩ := spread_real hz
  have h2 : ∀ k, layerTwo (fun k => (a k : EReal)) (fun k => (b k : EReal)) k
      = (((∑ k, z k * b k) * (-(1 / 2) * (s⁻¹ / (s * s))) / 1024 * (2 * z k) : ℝ) : EReal) := by
    intro k
    unfold layerTwo
    rw [hs1, hs2, word_width, word_two, word_neg_half, div_coe _ _ (by positivity)]
    simp only [hz, ← EReal.coe_mul]
    rw [coe_sum, ← EReal.coe_mul, div_coe _ _ (by norm_num), ← EReal.coe_mul]
  unfold layerVjp layerBack normed
  simp only [h2, hz]
  rw [hs2, word_width]
  simp only [← EReal.coe_mul, ← EReal.coe_neg]
  simp only [coe_sum, ← EReal.coe_add]
  rw [div_coe _ _ (by norm_num), div_coe _ _ (by norm_num), div_coe _ _ (by norm_num)]
  simp only [← EReal.coe_mul, ← EReal.coe_add, ← EReal.coe_sub]
  congr 1
  rw [Finset.sum_neg_distrib, Finset.sum_neg_distrib, ← Finset.sum_mul, ← Finset.mul_sum, ← Finset.mul_sum, hz0]
  have e1 : ∑ k, b k * (z k * s⁻¹) = (∑ k, z k * b k) * s⁻¹ := by
    rw [Finset.sum_mul]; exact Finset.sum_congr rfl fun k _ => by ring
  rw [e1]
  field_simp
  ring

end Cert.Norm

end
-- ==== Proof.ConvOut.Block.lean ====
module

public import proofs.«01_k».proof.Proof.Norm.Layer
public import proofs.«01_k».proof.Proof.Norm.Ref
public import proofs.«01_k».proof.Proof.Norm.Rows
public import proofs.«01_k».proof.Proof.Gen.KernelConvOutIdeal.Value
public import Idealize.ShloMosaic.Lib.Pipeline.ValueKit

@[expose] public section

set_option maxRecDepth 16384

noncomputable section

namespace Cert.ConvOut

open Idealize.ShloMosaic Idealize.ShloMosaic.TcCoe Idealize.SL.Sem
open Cert.KernelConvOutIdeal Cert.KernelConvOutIdeal.Gen Cert.Norm

/-! # The terms of one point, in an entry -/

/-- The logistic function, the swish's slope as the kernel writes it, the layer norm with its weights in a row. -/
def logistic (z : EReal) : EReal := Ideal.div 1 (1 + Ideal.exp (0 - z))
def slope (z : EReal) : EReal := logistic z + z * logistic z * (1 - logistic z)
def layer (y g b : Fin 1024 → EReal) (l : Fin 1024) : EReal := normed y l * g l + b l

section
variable (x d y : S512x1024.Idx → EReal) (g lg lb : S1x1024.Idx → EReal) (w : S1024x1024.Idx → EReal)

theorem pay4_apply (r : Fin 512) : k0_pay4 (F := Ideal) x (ix2 r 0) = scale (row x r) := by
  pointwise [k0_pay4, k0_pay3, scale, power, row]

theorem pay5_apply (r : Fin 512) (l : Fin 1024) : k0_pay5 (F := Ideal) x (ix2 r l) = x (ix2 r l) * scale (row x r) := by
  pointwise [k0_pay5, k0_pay3]
  rw [pay4_apply]

theorem pay6_apply (l : Fin 1024) : k0_pay6 (F := Ideal) x d (ix2 0 l) = ∑ r : Fin 512, d (ix2 r l) * (x (ix2 r l) * scale (row x r)) := by
  pointwise [k0_pay6]
  simp only [pay5_apply]

theorem pay7_apply (r : Fin 512) (l : Fin 1024) : k0_pay7 (F := Ideal) x g d (ix2 r l) = back (row x r) (row g 0) (row d r) l := by
  pointwise [k0_pay7]
  simp only [pay5_apply, pay4_apply]
  rfl

theorem pay8_apply (r : Fin 512) (l : Fin 1024) : k0_pay8 (F := Ideal) x g d (ix2 r l) = back (row x r) (row g 0) (row d r) l := by
  pointwise [k0_pay8]
  rw [pay7_apply]

/-- The layer norm's terms for the rows `y`. -/
def pCen : S512x1024.Idx → EReal := k0_pay11 (F := Ideal) (k0_pay9 (F := Ideal) y) (k0_pay10 (F := Ideal) y)
def pScale : S512x1.Idx → EReal := k0_pay12 (F := Ideal) (k0_pay9 (F := Ideal) y) (k0_pay10 (F := Ideal) y)
def pHat : S512x1024.Idx → EReal := k0_pay13 (F := Ideal) (k0_pay9 (F := Ideal) y) (k0_pay10 (F := Ideal) y)
def pLayer : S512x1024.Idx → EReal := k0_pay14 (F := Ideal) (k0_pay9 (F := Ideal) y) lg lb (k0_pay10 (F := Ideal) y)
def pGate : S512x1024.Idx → EReal := k0_pay15 (F := Ideal) (k0_pay9 (F := Ideal) y) lg lb (k0_pay10 (F := Ideal) y)
def pZ : S512x1024.Idx → EReal := k0_pay16 (F := Ideal) (k0_pay9 (F := Ideal) y) lg lb (k0_pay10 (F := Ideal) y)

theorem pCen_apply (r : Fin 512) (l : Fin 1024) : pCen y (ix2 r l) = centred (row y r) l := by
  pointwise [pCen, k0_pay11, k0_pay10, k0_pay9, centred, row]

theorem pScale_apply (r : Fin 512) : pScale y (ix2 r 0) = layerScale (row y r) := by
  unfold pScale
  pointwise [k0_pay12]
  exact congrArg (fun s => Ideal.rsqrt (Ideal.div s _ + _)) (Finset.sum_congr rfl fun k _ => congrArg₂ (· * ·) (pCen_apply y r k) (pCen_apply y r k))

theorem pHat_apply (r : Fin 512) (l : Fin 1024) : pHat y (ix2 r l) = normed (row y r) l := by
  unfold pHat
  pointwise [k0_pay13]
  exact congrArg₂ (· * ·) (pCen_apply y r l) (pScale_apply y r)

theorem pLayer_apply (r : Fin 512) (l : Fin 1024) : pLayer y lg lb (ix2 r l) = layer (row y r) (row lg 0) (row lb 0) l := by
  unfold pLayer
  pointwise [k0_pay14]
  exact congrArg (· * _ + _) (pHat_apply y r l)

theorem pGate_apply (r : Fin 512) (l : Fin 1024) : pGate y lg lb (ix2 r l) = logistic (layer (row y r) (row lg 0) (row lb 0) l) := by
  unfold pGate
  pointwise [k0_pay15]
  exact congrArg logistic (pLayer_apply y lg lb r l)

theorem pZ_apply (r : Fin 512) (l : Fin 1024) :
    pZ y lg lb (ix2 r l) = layer (row y r) (row lg 0) (row lb 0) l * logistic (layer (row y r) (row lg 0) (row lb 0) l) := by
  unfold pZ
  pointwise [k0_pay16]
  exact congrArg₂ (· * ·) (pLayer_apply y lg lb r l) (pGate_apply y lg lb r l)

/-- The gradients before the swish, of the normed rows, its row sums, and of the rows, for the gradient `p` after the product. -/
def pDyn (p : S512x1024.Idx → EReal) : S512x1024.Idx → EReal := k0_pay17 (F := Ideal) p (k0_pay9 (F := Ideal) y) lg lb (k0_pay10 (F := Ideal) y) w
def pHatGrad (p : S512x1024.Idx → EReal) : S512x1024.Idx → EReal := k0_pay18 (F := Ideal) p (k0_pay9 (F := Ideal) y) lg lb (k0_pay10 (F := Ideal) y) w lg
def pHatSum (p : S512x1024.Idx → EReal) : S512x1.Idx → EReal := k0_pay19 (F := Ideal) p (k0_pay9 (F := Ideal) y) lg lb (k0_pay10 (F := Ideal) y) w lg
def pDy (p : S512x1024.Idx → EReal) : S512x1024.Idx → EReal :=
  k0_pay20 (F := Ideal) (pScale y) (pHat y) (pHatGrad y lg lb w p) (pHatSum y lg lb w p) (FloatOps.ofBits FTy.f32 0x44800000#32)

/-- The same in a row, for the row `p`. -/
def rDyn (y lg lb : Fin 1024 → EReal) (w : S1024x1024.Idx → EReal) (p : Fin 1024 → EReal) (l : Fin 1024) : EReal :=
  (∑ k : Fin 1024, p k * w (ix2 l k)) * slope (layer y lg lb l)
def rDy (y lg lb : Fin 1024 → EReal) (w : S1024x1024.Idx → EReal) (p : Fin 1024 → EReal) (l : Fin 1024) : EReal :=
  layerBack y (fun k => rDyn y lg lb w p k * lg k) l

theorem pDyn_apply (p : S512x1024.Idx → EReal) (r : Fin 512) (l : Fin 1024) :
    pDyn y lg lb w p (ix2 r l) = rDyn (row y r) (row lg 0) (row lb 0) w (row p r) l := by
  unfold pDyn
  pointwise [k0_pay17]
  have h : ∀ a b : EReal, a = layer (row y r) (row lg 0) (row lb 0) l → b = logistic a → b + a * b * (1 - b) = slope (layer (row y r) (row lg 0) (row lb 0) l) := by
    rintro a b rfl rfl; rfl
  exact congrArg (_ * ·) (h _ _ (pLayer_apply y lg lb r l) ((pGate_apply y lg lb r l).trans (congrArg logistic (pLayer_apply y lg lb r l).symm)))

theorem pHatGrad_apply (p : S512x1024.Idx → EReal) (r : Fin 512) (l : Fin 1024) :
    pHatGrad y lg lb w p (ix2 r l) = rDyn (row y r) (row lg 0) (row lb 0) w (row p r) l * row lg 0 l := by
  unfold pHatGrad
  pointwise [k0_pay18]
  exact congrArg (· * _) (pDyn_apply y lg lb w p r l)

theorem pHatSum_apply (p : S512x1024.Idx → EReal) (r : Fin 512) : pHatSum y lg lb w p (ix2 r 0) = ∑ k : Fin 1024, pHatGrad y lg lb w p (ix2 r k) := by
  unfold pHatSum
  pointwise [k0_pay19]
  rfl

theorem pDy_apply (p : S512x1024.Idx → EReal) (r : Fin 512) (l : Fin 1024) :
    pDy y lg lb w p (ix2 r l) = rDy (row y r) (row lg 0) (row lb 0) w (row p r) l := by
  unfold pDy
  pointwise [k0_pay20]
  simp only [pScale_apply, pHat_apply, pHatSum_apply, pHatGrad_apply]
  rfl

theorem pay1_apply (p : S512x1024.Idx → EReal) (s : S1x1024.Idx → EReal) (l : Fin 1024) :
    k0_pay1 (F := Ideal) p s (ix2 0 l) = s (ix2 0 l) + ∑ r : Fin 512, p (ix2 r l) := by
  pointwise [k0_pay1]

theorem pay2_apply (p : S512x1024.Idx → EReal) (s : S1x1024.Idx → EReal) (l : Fin 1024) :
    k0_pay2 (F := Ideal) p s (ix2 0 l) = s (ix2 0 l) + ∑ r : Fin 512, p (ix2 r l) := pay1_apply p s l

theorem pay24_apply (p : S512x1024.Idx → EReal) (s : S1x1024.Idx → EReal) (l : Fin 1024) :
    k0_pay24 (F := Ideal) p s (ix2 0 l) = s (ix2 0 l) + ∑ r : Fin 512, p (ix2 r l) := pay1_apply p s l

theorem pay23_apply (p q : S512x1024.Idx → EReal) (s : S1x1024.Idx → EReal) (l : Fin 1024) :
    k0_pay23 (F := Ideal) p q s (ix2 0 l) = s (ix2 0 l) + ∑ r : Fin 512, q (ix2 r l) * p (ix2 r l) := by
  pointwise [k0_pay23]

theorem pay22_apply (p s : S1x1024.Idx → EReal) (l : Fin 1024) : k0_pay22 (F := Ideal) p s (ix2 0 l) = s (ix2 0 l) + p (ix2 0 l) := by
  pointwise [k0_pay22]

theorem pay21_apply (r : Fin 8) (l : Fin 1024) : k0_pay21 (F := Ideal) (ix2 r l) = 0 := by
  pointwise [k0_pay21]
end

end Cert.ConvOut

end
-- ==== Proof.ConvOut.Point.lean ====
module

public import proofs.«01_k».proof.Proof.ConvOut.Block

@[expose] public section

set_option maxRecDepth 16384

noncomputable section

namespace Cert.ConvOut

open Idealize.ShloMosaic Idealize.ShloMosaic.TcCoe Idealize.SL.Sem
open Cert.KernelConvOutIdeal Cert.KernelConvOutIdeal.Gen Cert.Norm

/-! # What one point leaves in the outputs -/

variable (m : (ℓ : Loc nD τ sig) → Buf (Elt Ideal) ℓ)

/-- The blocks at a point: cotangent, product, convolution's rows, layer norm's weights, product's weights, norm's weights. -/
def blkD (c : Dev nD) (t : Fin cfg0.N) : S512x1024.Idx → EReal := iblk m c 0 t
def blkM (c : Dev nD) (t : Fin cfg0.N) : S512x1024.Idx → EReal := iblk m c 1 t
def blkY (c : Dev nD) (t : Fin cfg0.N) : S512x1024.Idx → EReal := iblk m c 2 t
def blkP (c : Dev nD) (t : Fin cfg0.N) : S1x1024.Idx → EReal := iblk m c 3 t
def blkQ (c : Dev nD) (t : Fin cfg0.N) : S1x1024.Idx → EReal := iblk m c 4 t
def blkW (c : Dev nD) (t : Fin cfg0.N) : S1024x1024.Idx → EReal := iblk m c 5 t
def blkG (c : Dev nD) (t : Fin cfg0.N) : S1x1024.Idx → EReal := iblk m c 6 t

/-- The gradients after and before the product, and of the rows. -/
def bDm (c : Dev nD) (t : Fin cfg0.N) : S512x1024.Idx → EReal := k0_pay7 (F := Ideal) (blkM m c t) (blkG m c t) (blkD m c t)
def bDmb (c : Dev nD) (t : Fin cfg0.N) : S512x1024.Idx → EReal := k0_pay8 (F := Ideal) (blkM m c t) (blkG m c t) (blkD m c t)
def bDyn (c : Dev nD) (t : Fin cfg0.N) : S512x1024.Idx → EReal := pDyn (blkY m c t) (blkP m c t) (blkQ m c t) (blkW m c t) (bDmb m c t)
def bDy (c : Dev nD) (t : Fin cfg0.N) : S512x1024.Idx → EReal := pDy (blkY m c t) (blkP m c t) (blkQ m c t) (blkW m c t) (bDmb m c t)

theorem outs_dy (c : Dev nD) (t : Fin cfg0.N) : (outsAt0 m c t.val t.isLt).1 = bDy m c t := by
  by_cases h0 : t.val % 16 = 0
  · rw [outsAt0_A m c t h0]; dsimp only; frame_out; rfl
  · rw [outsAt0_B m c t h0]; dsimp only; frame_out; rfl

theorem outs_dm (c : Dev nD) (t : Fin cfg0.N) : (outsAt0 m c t.val t.isLt).2.1 = bDmb m c t := by
  by_cases h0 : t.val % 16 = 0
  · rw [outsAt0_A m c t h0]; dsimp only; frame_out; rfl
  · rw [outsAt0_B m c t h0]; dsimp only; frame_out; rfl

theorem outs_z (c : Dev nD) (t : Fin cfg0.N) : (outsAt0 m c t.val t.isLt).2.2.1 = pZ (blkY m c t) (blkP m c t) (blkQ m c t) := by
  by_cases h0 : t.val % 16 = 0
  · rw [outsAt0_A m c t h0]; dsimp only; frame_out; rfl
  · rw [outsAt0_B m c t h0]; dsimp only; frame_out; rfl

/-- What a point adds to the first five rows of the sums. -/
def bSum (c : Dev nD) (t : Fin cfg0.N) (r : Fin 8) (l : Fin 1024) : EReal :=
  if r = 4 then ∑ k : Fin 512, bDy m c t (ix2 k l)
  else if r = 3 then ∑ k : Fin 512, bDm m c t (ix2 k l)
  else if r = 2 then ∑ k : Fin 512, bDyn m c t (ix2 k l)
  else if r = 1 then ∑ k : Fin 512, bDyn m c t (ix2 k l) * pHat (blkY m c t) (ix2 k l)
  else if r = 0 then k0_pay6 (F := Ideal) (blkM m c t) (blkD m c t) (ix2 0 l) else 0

theorem sums_A (c : Dev nD) (t : Fin cfg0.N) (h0 : t.val % 16 = 0) (r : Fin 8) (l : Fin 1024) :
    (outsAt0 m c t.val t.isLt).2.2.2 (ix2 r l) = 0 + bSum m c t r l := by
  rw [outsAt0_A m c t h0]; dsimp only; frame_out
  have hZ : ∀ (r : Fin 8) (l : Fin 1024), View.canon [(⟨Rect.unit (s := S8x1024) ![0, 0] ![8, 1024] inb_S8x1024_S8x1024_0_0, k0_pay21 (F := Ideal)⟩ : View.Piece (Elt Ideal) S8x1024 .f32)] (ix2 r l) = (0 : EReal) :=
    fun r l => (congrFun (canon_whole _ _ _) _).trans (pay21_apply r l)
  unfold bSum
  refine (canon_row 4 _ _ _ r l).trans ?_
  by_cases h4 : r = 4
  · subst h4
    rw [if_pos (rfl : (4 : Fin 8) = 4)]
    refine (if_pos rfl).trans ((pay2_apply _ _ l).trans ?_)
    exact congrArg (· + _) ((readCov_row _ _ 4 (by decide) _ l).trans
      (canon_row_miss 3 _ _ _ _ _ (by decide) (canon_row_miss 2 _ _ _ _ _ (by decide) (canon_row_miss 1 _ _ _ _ _ (by decide) (canon_row_miss 0 _ _ _ _ _ (by decide) (hZ 4 l))))))
  rw [if_neg h4]
  refine (if_neg fun h => h4 (Fin.ext h)).trans ((canon_row 3 _ _ _ r l).trans ?_)
  by_cases h3 : r = 3
  · subst h3
    rw [if_pos (rfl : (3 : Fin 8) = 3)]
    refine (if_pos rfl).trans ((pay1_apply _ _ l).trans ?_)
    exact congrArg (· + _) ((readCov_row _ _ 3 (by decide) _ l).trans
      (canon_row_miss 2 _ _ _ _ _ (by decide) (canon_row_miss 1 _ _ _ _ _ (by decide) (canon_row_miss 0 _ _ _ _ _ (by decide) (hZ 3 l)))))
  rw [if_neg h3]
  refine (if_neg fun h => h3 (Fin.ext h)).trans ((canon_row 2 _ _ _ r l).trans ?_)
  by_cases h2 : r = 2
  · subst h2
    rw [if_pos (rfl : (2 : Fin 8) = 2)]
    refine (if_pos rfl).trans ((pay24_apply _ _ l).trans ?_)
    exact congrArg (· + _) ((readCov_row _ _ 2 (by decide) _ l).trans
      (canon_row_miss 1 _ _ _ _ _ (by decide) (canon_row_miss 0 _ _ _ _ _ (by decide) (hZ 2 l))))
  rw [if_neg h2]
  refine (if_neg fun h => h2 (Fin.ext h)).trans ((canon_row 1 _ _ _ r l).trans ?_)
  by_cases h1 : r = 1
  · subst h1
    rw [if_pos (rfl : (1 : Fin 8) = 1)]
    refine (if_pos rfl).trans ((pay23_apply _ _ _ l).trans ?_)
    exact congrArg (· + _) ((readCov_row _ _ 1 (by decide) _ l).trans (canon_row_miss 0 _ _ _ _ _ (by decide) (hZ 1 l)))
  rw [if_neg h1]
  refine (if_neg fun h => h1 (Fin.ext h)).trans ((canon_row 0 _ _ _ r l).trans ?_)
  by_cases hr : r = 0
  · subst hr
    rw [if_pos (rfl : (0 : Fin 8) = 0)]
    refine (if_pos rfl).trans ((pay22_apply _ _ l).trans ?_)
    exact congrArg (· + _) ((readCov_row _ _ 0 (by decide) _ l).trans (hZ 0 l))
  · rw [if_neg hr, zero_add]
    exact (if_neg fun h => hr (Fin.ext h)).trans (hZ r l)

theorem sums_B (c : Dev nD) (t : Fin cfg0.N) (h0 : ¬t.val % 16 = 0) (r : Fin 8) (l : Fin 1024) : (outsAt0 m c t.val t.isLt).2.2.2 (ix2 r l)
    = (outsAt0 m c (t.val - 1) (Nat.lt_of_le_of_lt (Nat.sub_le _ _) t.isLt)).2.2.2 (ix2 r l) + bSum m c t r l := by
  conv_lhs => rw [outsAt0_B m c t h0]
  dsimp only; frame_out
  unfold bSum
  refine (read_row _ _ 4 _ _ _ r l).trans ?_
  by_cases h4 : r = 4
  · subst h4
    rw [if_pos (rfl : (4 : Fin 8) = 4)]
    exact (if_pos rfl).trans ((pay2_apply _ _ l).trans (congrArg (· + _) (ld_row _ 4 (by decide) _ l)))
  rw [if_neg h4]
  refine (if_neg fun h => h4 (Fin.ext h)).trans ((read_row _ _ 3 _ _ _ r l).trans ?_)
  by_cases h3 : r = 3
  · subst h3
    rw [if_pos (rfl : (3 : Fin 8) = 3)]
    exact (if_pos rfl).trans ((pay1_apply _ _ l).trans (congrArg (· + _) (ld_row _ 3 (by decide) _ l)))
  rw [if_neg h3]
  refine (if_neg fun h => h3 (Fin.ext h)).trans ((read_row _ _ 2 _ _ _ r l).trans ?_)
  by_cases h2 : r = 2
  · subst h2
    rw [if_pos (rfl : (2 : Fin 8) = 2)]
    exact (if_pos rfl).trans ((pay24_apply _ _ l).trans (congrArg (· + _) (ld_row _ 2 (by decide) _ l)))
  rw [if_neg h2]
  refine (if_neg fun h => h2 (Fin.ext h)).trans ((read_row _ _ 1 _ _ _ r l).trans ?_)
  by_cases h1 : r = 1
  · subst h1
    rw [if_pos (rfl : (1 : Fin 8) = 1)]
    exact (if_pos rfl).trans ((pay23_apply _ _ _ l).trans (congrArg (· + _) (ld_row _ 1 (by decide) _ l)))
  rw [if_neg h1]
  refine (if_neg fun h => h1 (Fin.ext h)).trans ((read_row _ _ 0 _ _ _ r l).trans ?_)
  by_cases hr : r = 0
  · subst hr
    rw [if_pos (rfl : (0 : Fin 8) = 0)]
    exact (if_pos rfl).trans ((pay22_apply _ _ l).trans (congrArg (· + _) (ld_row _ 0 (by decide) _ l)))
  · rw [if_neg hr, add_zero]
    refine (if_neg fun h => hr (Fin.ext h)).trans ?_
    exact congrFun ((hs0_10 t).read_unread _) _

end Cert.ConvOut

end
-- ==== Proof.ConvOut.Final.lean ====
module

public import proofs.«01_k».proof.Proof.ConvOut.Point

@[expose] public section

set_option maxRecDepth 16384

noncomputable section

namespace Cert.ConvOut

open Idealize.ShloMosaic Idealize.ShloMosaic.TcCoe Idealize.SL.Sem
open Cert.KernelConvOutIdeal Cert.KernelConvOutIdeal.Gen Cert.Norm

/-! # The four output arrays after the run -/

section
variable (D M Y : S8192x1024.Idx → EReal) (P Q : S1x1024.Idx → EReal) (W : S1024x1024.Idx → EReal) (G : S1x1024.Idx → EReal)

/-- The gradients after the product, before the swish and before the layer norm, and the swish's values. -/
def dmArr (T : Fin 8192) (l : Fin 1024) : EReal := back (row M T) (row G 0) (row D T) l
def dynArr (T : Fin 8192) (l : Fin 1024) : EReal := rDyn (row Y T) (row P 0) (row Q 0) W (dmArr D M G T) l
def dyArr (T : Fin 8192) (l : Fin 1024) : EReal := rDy (row Y T) (row P 0) (row Q 0) W (dmArr D M G T) l
def zArr (T : Fin 8192) (l : Fin 1024) : EReal := layer (row Y T) (row P 0) (row Q 0) l * logistic (layer (row Y T) (row P 0) (row Q 0) l)

/-- The sums over the rows. -/
def sumsArr (r : Fin 8) (l : Fin 1024) : EReal :=
  if r = 4 then ∑ T : Fin 8192, dyArr D M Y P Q W G T l
  else if r = 3 then ∑ T : Fin 8192, dmArr D M G T l
  else if r = 2 then ∑ T : Fin 8192, dynArr D M Y P Q W G T l
  else if r = 1 then ∑ T : Fin 8192, dynArr D M Y P Q W G T l * normed (row Y T) l
  else if r = 0 then ∑ T : Fin 8192, D (ix2 T l) * (M (ix2 T l) * scale (row M T)) else 0
end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] :=
  (by decide +kernel : ∀ t : Fin grid0.N, _)

theorem idx_out : ∀ t : Fin cfg0.N, win0_7.index t = ![t.val, 0] ∧ win0_8.index t = ![t.val, 0] ∧ win0_9.index t = ![t.val, 0] :=
  (by decide +kernel : ∀ t : Fin grid0.N, _)

/-- The arrays the region reads. -/
def inD (c : Dev nD) : S8192x1024.Idx → EReal := V m c (Pipeline.arrRef spec0 0)
def inM (c : Dev nD) : S8192x1024.Idx → EReal := V m c (Pipeline.arrRef spec0 1)
def inY (c : Dev nD) : S8192x1024.Idx → EReal := V m c (Pipeline.arrRef spec0 2)
def inP (c : Dev nD) : S1x1024.Idx → EReal := V m c (Pipeline.arrRef spec0 3)
def inQ (c : Dev nD) : S1x1024.Idx → EReal := V m c (Pipeline.arrRef spec0 4)
def inW (c : Dev nD) : S1024x1024.Idx → EReal := V m c (Pipeline.arrRef spec0 5)
def inG (c : Dev nD) : S1x1024.Idx → EReal := V m c (Pipeline.arrRef spec0 6)

theorem lt_rows (t : Fin cfg0.N) (r : Fin 512) : t.val * 512 + r < 8192 := by
  have ht : t.val < 16 := lt_of_lt_of_eq t.isLt N_0
  have := r.isLt
  omega

/-- The row of the whole arrays that a point's row is. -/
def at_ (t : Fin cfg0.N) (r : Fin 512) : Fin 8192 := ⟨t.val * 512 + r, lt_rows t r⟩

theorem row_blkD (c : Dev nD) (t : Fin cfg0.N) (r : Fin 512) : row (blkD m c t) r = row (inD m c) (at_ t r) := by
  funext l
  unfold row at_ blkD inD iblk
  blk_ext [iblk, (idx t).1]

theorem row_blkM (c : Dev nD) (t : Fin cfg0.N) (r : Fin 512) : row (blkM m c t) r = row (inM m c) (at_ t r) := by
  funext l
  unfold row at_ blkM inM iblk
  blk_ext [iblk, (idx t).2.1]

theorem row_blkY (c : Dev nD) (t : Fin cfg0.N) (r : Fin 512) : row (blkY m c t) r = row (inY m c) (at_ t r) := by
  funext l
  unfold row at_ blkY inY iblk
  blk_ext [iblk, (idx t).2.2.1]

theorem blkP_eq (c : Dev nD) (t : Fin cfg0.N) : blkP m c t = inP m c := by
  funext i
  obtain ⟨r, l, rfl⟩ : ∃ (r : Fin 1) (l : Fin 1024), i = ix2 r l := ⟨i 0, i 1, eq_ix2 i⟩
  unfold blkP inP iblk
  blk_ext [iblk, (idx t).2.2.2.1]

theorem blkQ_eq (c : Dev nD) (t : Fin cfg0.N) : blkQ m c t = inQ m c := by
  funext i
  obtain ⟨r, l, rfl⟩ : ∃ (r : Fin 1) (l : Fin 1024), i = ix2 r l := ⟨i 0, i 1, eq_ix2 i⟩
  unfold blkQ inQ iblk
  blk_ext [iblk, (idx t).2.2.2.2.1]

theorem blkW_eq (c : Dev nD) (t : Fin cfg0.N) : blkW m c t = inW m c := by
  funext i
  obtain ⟨r, l, rfl⟩ : ∃ (r : Fin 1024) (l : Fin 1024), i = ix2 r l := ⟨i 0, i 1, eq_ix2 i⟩
  unfold blkW inW iblk
  blk_ext [iblk, (idx t).2.2.2.2.2.1]

theorem blkG_eq (c : Dev nD) (t : Fin cfg0.N) : blkG m c t = inG m c := by
  funext i
  obtain ⟨r, l, rfl⟩ : ∃ (r : Fin 1) (l : Fin 1024), i = ix2 r l := ⟨i 0, i 1, eq_ix2 i⟩
  unfold blkG inG iblk
  blk_ext [iblk, (idx t).2.2.2.2.2.2]

/-- A point's gradients are rows of the whole arrays'. -/
theorem bDm_apply (c : Dev nD) (t : Fin cfg0.N) (r : Fin 512) (l : Fin 1024) : bDm m c t (ix2 r l) = dmArr (inD m c) (inM m c) (inG m c) (at_ t r) l := by
  unfold bDm dmArr
  rw [pay7_apply, row_blkM, row_blkD, blkG_eq]

theorem bDmb_apply (c : Dev nD) (t : Fin cfg0.N) (r : Fin 512) (l : Fin 1024) : bDmb m c t (ix2 r l) = dmArr (inD m c) (inM m c) (inG m c) (at_ t r) l := by
  unfold bDmb dmArr
  rw [pay8_apply, row_blkM, row_blkD, blkG_eq]

theorem row_bDmb (c : Dev nD) (t : Fin cfg0.N) (r : Fin 512) : row (bDmb m c t) r = dmArr (inD m c) (inM m c) (inG m c) (at_ t r) :=
  funext fun l => bDmb_apply m c t r l

theorem bDyn_apply (c : Dev nD) (t : Fin cfg0.N) (r : Fin 512) (l : Fin 1024) :
    bDyn m c t (ix2 r l) = dynArr (inD m c) (inM m c) (inY m c) (inP m c) (inQ m c) (inW m c) (inG m c) (at_ t r) l := by
  unfold bDyn dynArr
  rw [pDyn_apply, row_blkY, row_bDmb, blkP_eq, blkQ_eq, blkW_eq]

theorem bDy_apply (c : Dev nD) (t : Fin cfg0.N) (r : Fin 512) (l : Fin 1024) :
    bDy m c t (ix2 r l) = dyArr (inD m c) (inM m c) (inY m c) (inP m c) (inQ m c) (inW m c) (inG m c) (at_ t r) l := by
  unfold bDy dyArr
  rw [pDy_apply, row_blkY, row_bDmb, blkP_eq, blkQ_eq, blkW_eq]

theorem final_dy (c : Dev nD) : (dats m 0 c).arrAt 7 cfg0.N
    = fun i : S8192x1024.Idx => dyArr (inD m c) (inM m c) (inY m c) (inP m c) (inQ m c) (inW m c) (inG m c) (i 0) (i 1) := by
  generalize hA : (fun i : S8192x1024.Idx => dyArr (inD m c) (inM m c) (inY m c) (inP m c) (inQ m c) (inW m c) (inG m c) (i 0) (i 1)) = Z
  refine (dats m 0 c).arrAt_eq_of_covers 7 _ (by decide +kernel) fun t hf y => ?_
  blk_simp
  rw [after0_7, outs_dy]
  obtain ⟨r, l, rfl⟩ : ∃ (r : Fin 512) (l : Fin 1024), y = ix2 r l := ⟨y 0, y 1, eq_ix2 y⟩
  refine (bDy_apply m c t r l).trans ?_
  refine (congrFun hA (ix2 ⟨t.val * 512 + r, lt_rows t r⟩ l)).trans ?_
  blk_point [idx_out t]

theorem final_dm (c : Dev nD) : (dats m 0 c).arrAt 8 cfg0.N
    = fun i : S8192x1024.Idx => dmArr (inD m c) (inM m c) (inG m c) (i 0) (i 1) := by
  generalize hA : (fun i : S8192x1024.Idx => dmArr (inD m c) (inM m c) (inG m c) (i 0) (i 1)) = Z
  refine (dats m 0 c).arrAt_eq_of_covers 8 _ (by decide +kernel) fun t hf y => ?_
  blk_simp
  rw [after0_8, outs_dm]
  obtain ⟨r, l, rfl⟩ : ∃ (r : Fin 512) (l : Fin 1024), y = ix2 r l := ⟨y 0, y 1, eq_ix2 y⟩
  refine (bDmb_apply m c t r l).trans ?_
  refine (congrFun hA (ix2 ⟨t.val * 512 + r, lt_rows t r⟩ l)).trans ?_
  blk_point [idx_out t]

theorem final_z (c : Dev nD) : (dats m 0 c).arrAt 9 cfg0.N
    = fun i : S8192x1024.Idx => zArr (inY m c) (inP m c) (inQ m c) (i 0) (i 1) := by
  generalize hA : (fun i : S8192x1024.Idx => zArr (inY m c) (inP m c) (inQ m c) (i 0) (i 1)) = Z
  refine (dats m 0 c).arrAt_eq_of_covers 9 _ (by decide +kernel) fun t hf y => ?_
  blk_simp
  rw [after0_9, outs_z]
  obtain ⟨r, l, rfl⟩ : ∃ (r : Fin 512) (l : Fin 1024), y = ix2 r l := ⟨y 0, y 1, eq_ix2 y⟩
  refine (pZ_apply _ _ _ r l).trans ?_
  rw [row_blkY, blkP_eq, blkQ_eq]
  refine (congrFun hA (ix2 ⟨t.val * 512 + r, lt_rows t r⟩ l)).trans ?_
  blk_point [idx_out t]

/-- The last point. -/
def last : Fin cfg0.N := ⟨15, lt_of_lt_of_eq (by decide) N_0.symm⟩

theorem sums_last (c : Dev nD) (t : Fin cfg0.N) (ht : t.val + 1 = cfg0.N) (r : Fin 8) (l : Fin 1024) :
    (outsAt0 m c t.val t.isLt).2.2.2 (ix2 r l) = ∑ p : Fin cfg0.N, bSum m c p r l := by
  rw [Pipeline.eq_sum_fin_of_reset_step_apply_last (fun n h (_ : Unit) => (outsAt0 m c n h).2.2.2 (ix2 r l)) 16 (fun _ => 0)
    (fun t _ => bSum m c t r l)
    (fun t h0 _ => sums_A m c t h0 r l) (fun t h0 _ => sums_B m c t h0 r l) (le_of_eq N_0) t ht (), zero_add]

/-- The points' sums of the first five rows are the sums over all rows. -/
theorem sum_points (c : Dev nD) (r : Fin 8) (l : Fin 1024) :
    ∑ p : Fin cfg0.N, bSum m c p r l = sumsArr (inD m c) (inM m c) (inY m c) (inP m c) (inQ m c) (inW m c) (inG m c) r l := by
  unfold bSum sumsArr
  by_cases h4 : r = 4
  · simp only [if_pos h4]
    exact Fin.sum_mul_add_congr fun t s hl => bDy_apply m c t s l
  simp only [if_neg h4]
  by_cases h3 : r = 3
  · simp only [if_pos h3]
    exact Fin.sum_mul_add_congr fun t s hl => bDm_apply m c t s l
  simp only [if_neg h3]
  by_cases h2 : r = 2
  · simp only [if_pos h2]
    exact Fin.sum_mul_add_congr fun t s hl => bDyn_apply m c t s l
  simp only [if_neg h2]
  by_cases h1 : r = 1
  · simp only [if_pos h1]
    exact Fin.sum_mul_add_congr fun t s hl => by
      rw [bDyn_apply, pHat_apply, row_blkY]
      rfl
  simp only [if_neg h1]
  by_cases h0 : r = 0
  · simp only [if_pos h0, pay6_apply]
    exact Fin.sum_mul_add_congr fun t s hl =>
      congrArg₂ (· * ·) (congrFun (row_blkD m c t s) l) (congrArg₂ (· * ·) (congrFun (row_blkM m c t s) l) (congrArg scale (row_blkM m c t s)))
  simp only [if_neg h0, Finset.sum_const_zero]

theorem final_sums (c : Dev nD) : (dats m 0 c).arrAt 10 cfg0.N
    = fun i : S8x1024.Idx => sumsArr (inD m c) (inM m c) (inY m c) (inP m c) (inQ m c) (inW m c) (inG m c) (i 0) (i 1) := by
  refine (dats m 0 c).arrAt_eq_of_after_last 10 last (by decide +kernel) _ fun j => ?_
  blk_simp
  obtain ⟨r, l, rfl⟩ : ∃ (r : Fin 8) (l : Fin 1024), j = ix2 r l := ⟨j 0, j 1, eq_ix2 j⟩
  rw [after0_10, sums_last m c _ rfl]
  exact sum_points m c r l

end Cert.ConvOut

end
-- ==== Proof.ConvOut.Reference.lean ====
module

public import proofs.«01_k».proof.Proof.ConvOut.Block
public import proofs.«01_k».proof.Proof.Gen.ReferenceConvOutIdeal.Run

@[expose] public section

set_option maxRecDepth 16384

noncomputable section

namespace Cert.ConvOut

open Idealize.ShloMosaic Idealize.ShloMosaic.TcCoe Idealize.SL.Sem
open Cert.ReferenceConvOutIdeal Cert.ReferenceConvOutIdeal.Gen Cert.Norm

/-! # The reference's four results -/

/-- A row repeated for all rows, a column for all columns, a column of a constant, the rows' sums. -/
def down (g : FVec Ideal S1x1024 .f32) : FVec Ideal S8192x1024 .f32 := broadcastInDim S8192x1024 ![0, 1] bcast_S1x1024_S8192x1024_0_1 g
def along (s : FVec Ideal S8192x1 .f32) : FVec Ideal S8192x1024 .f32 := broadcastInDim S8192x1024 ![0, 1] bcast_S8192x1_S8192x1024_0_1 s
def col (b : BitVec 32) : FVec Ideal S8192x1 .f32 := broadcastInDim S8192x1 ![] bcast_S_S8192x1 (constant S_ .f32 b)
def all (b : BitVec 32) : FVec Ideal S8192x1024 .f32 := broadcastInDim S8192x1024 ![] bcast_S_S8192x1024 (constant S_ .f32 b)
def rowSum (x : FVec Ideal S8192x1024 .f32) : FVec Ideal S8192 .f32 := Host.reduceAdd x (constant S_ .f32 0x00000000#32) reducesTo_S8192x1024_S8192_d1 h_S_
def colSum (x : FVec Ideal S8192x1024 .f32) : FVec Ideal S1x1024 .f32 :=
  shapeCast _ (Host.reduceAdd x (constant S_ .f32 0x00000000#32) reducesTo_S8192x1024_S1024_d0 h_S_) shapeCasts_S1024_S1x1024
def spreadOut (s : FVec Ideal S8192x1 .f32) : FVec Ideal S8192x1024 .f32 :=
  broadcastInDim S8192x1024 ![0] bcast_S8192_S8192x1024_0 (Host.reduceAdd (Host.divf s (col 0x44800000#32)) (constant S_ .f32 0x00000000#32) reducesTo_S8192x1_S8192_d1 h_S_)

section
variable (y e : FVec Ideal S8192x1024 .f32)

/-- The layer norm's terms, and its gradient for the cotangent `e` of the normed rows. -/
def refCen : FVec Ideal S8192x1024 .f32 :=
  subf y (along (Host.divf (broadcastInDim S8192x1 ![0] bcast_S8192_S8192x1_0 (rowSum y)) (col 0x44800000#32)))
def refSpread : FVec Ideal S8192x1 .f32 :=
  addf (Host.divf (broadcastInDim S8192x1 ![0] bcast_S8192_S8192x1_0 (rowSum (mulf (refCen y) (refCen y)))) (col 0x44800000#32)) (col 0x3727C5AC#32)
def refHat : FVec Ideal S8192x1024 .f32 := mulf (refCen y) (along (Host.rsqrt (refSpread y)))
def refTwo : FVec Ideal S8192x1024 .f32 :=
  mulf (spreadOut (mulf (shapeCast _ (rowSum (mulf (refCen y) e)) shapeCasts_S8192_S8192x1) (mulf (col 0xBF000000#32) (Host.divf (Host.rsqrt (refSpread y)) (refSpread y)))))
    (mulf (all 0x40000000#32) (refCen y))
def refLayerGrad : FVec Ideal S8192x1024 .f32 :=
  addf (addf (mulf e (along (Host.rsqrt (refSpread y)))) (refTwo y e))
    (spreadOut (addf (shapeCast _ (rowSum (Host.negf (mulf e (along (Host.rsqrt (refSpread y)))))) shapeCasts_S8192_S8192x1)
      (shapeCast _ (rowSum (Host.negf (refTwo y e))) shapeCasts_S8192_S8192x1)))
end

section
variable (d c : FVec Ideal S8192x1024 .f32) (a p q : FVec Ideal S1x1024 .f32) (w : FVec Ideal S1024x1024 .f32) (b g : FVec Ideal S1x1024 .f32)

def refY : FVec Ideal S8192x1024 .f32 := addf c (down a)
def refLayer : FVec Ideal S8192x1024 .f32 := addf (mulf (refHat (refY c a)) (down p)) (down q)
def refGate : FVec Ideal S8192x1024 .f32 :=
  Host.divf (all 0x3F800000#32) (addf (all 0x3F800000#32) (Host.exp (Host.negf (refLayer c a p q))))
def refZ : FVec Ideal S8192x1024 .f32 := mulf (refLayer c a p q) (refGate c a p q)
def refM : FVec Ideal S8192x1024 .f32 :=
  addf (Host.dotGeneral dot_S8192x1024_S1024x1024_S8192x1024_1_0_0_1_n_n none (refZ c a p q) w) (down b)
def refDm : FVec Ideal S8192x1024 .f32 := refBack (refM c a p q w b) g d
def refDz : FVec Ideal S8192x1024 .f32 := Host.dotGeneral dot_S8192x1024_S1024x1024_S8192x1024_1_1_0_0_n_n none (refDm d c a p q w b g) w
def refDyn : FVec Ideal S8192x1024 .f32 :=
  addf (mulf (refDz d c a p q w b g) (refGate c a p q)) (mulf (mulf (refLayer c a p q) (refDz d c a p q w b g)) (mulf (refGate c a p q) (subf (all 0x3F800000#32) (refGate c a p q))))
def refDc : FVec Ideal S8192x1024 .f32 := refLayerGrad (refY c a) (mulf (refDyn d c a p q w b g) (down p))
def refSums : FVec Ideal S8x1024 .f32 :=
  pad S8x1024 ![0, 0] ![3, 0] ![0, 0] (concatenate S5x1024 0 [⟨S1x1024, refWeights (refM c a p q w b) d⟩, ⟨S1x1024, colSum (mulf (refHat (refY c a)) (refDyn d c a p q w b g))⟩,
    ⟨S1x1024, colSum (refDyn d c a p q w b g)⟩, ⟨S1x1024, colSum (refDm d c a p q w b g)⟩, ⟨S1x1024, colSum (refDc d c a p q w b g)⟩]
    concatenates_S1x1024_S1x1024_S1x1024_S1x1024_S1x1024_S5x1024_d0) (sitofp .f32 (constantI S_ 32 0#32)) pads_S5x1024_S8x1024_030_000 h_S_
end

variable (y e : S8192x1024.Idx → EReal)

theorem colSum_apply (l : Fin 1024) : colSum y (ix2 0 l) = ∑ T : Fin 8192, y (ix2 T l) := by
  pointwise [colSum]

theorem refCen_apply (T : Fin 8192) (l : Fin 1024) : refCen y (ix2 T l) = centred (row y T) l := by
  pointwise [refCen, along, rowSum, col, centred, row]

theorem refSpread_apply (T : Fin 8192) : refSpread y (ix2 T 0) = spread (row y T) := by
  pointwise [refSpread, rowSum, col]
  simp only [refCen_apply]
  rfl

theorem refHat_apply (T : Fin 8192) (l : Fin 1024) : refHat y (ix2 T l) = normed (row y T) l := by
  pointwise [refHat, along]
  rw [refCen_apply, refSpread_apply]
  rfl

theorem spreadOut_apply (s : S8192x1.Idx → EReal) (T : Fin 8192) (l : Fin 1024) : spreadOut s (ix2 T l) = Ideal.div (s (ix2 T 0)) (Ideal.ofBits .f32 0x44800000#32) := by
  pointwise [spreadOut, col]
  rw [Fin.sum_univ_one]

theorem refTwo_apply (T : Fin 8192) (l : Fin 1024) : refTwo y e (ix2 T l) = layerTwo (row y T) (row e T) l := by
  pointwise [refTwo, rowSum, col, all]
  rw [spreadOut_apply]
  pointwise [rowSum, col, all]
  simp only [refCen_apply, refSpread_apply]
  rfl

theorem refLayerGrad_apply (T : Fin 8192) (l : Fin 1024) : refLayerGrad y e (ix2 T l) = layerVjp (row y T) (row e T) l := by
  pointwise [refLayerGrad, along]
  rw [spreadOut_apply]
  pointwise [rowSum, along]
  simp only [refTwo_apply, refSpread_apply]
  rfl

variable (d c : S8192x1024.Idx → EReal) (a p q : S1x1024.Idx → EReal) (w : S1024x1024.Idx → EReal) (b g : S1x1024.Idx → EReal)

theorem refLayer_apply (T : Fin 8192) (l : Fin 1024) : refLayer c a p q (ix2 T l) = layer (row (refY c a) T) (row p 0) (row q 0) l := by
  pointwise [refLayer, down]
  rw [refHat_apply]
  rfl

theorem refGate_apply (T : Fin 8192) (l : Fin 1024) : refGate c a p q (ix2 T l) = logistic (layer (row (refY c a) T) (row p 0) (row q 0) l) := by
  pointwise [refGate, all, logistic]
  rw [refLayer_apply, zero_sub]

theorem refZ_apply (T : Fin 8192) (l : Fin 1024) : refZ c a p q (ix2 T l)
    = layer (row (refY c a) T) (row p 0) (row q 0) l * logistic (layer (row (refY c a) T) (row p 0) (row q 0) l) := by
  pointwise [refZ]
  rw [refLayer_apply, refGate_apply]

theorem refM_apply (T : Fin 8192) (l : Fin 1024) : refM c a p q w b (ix2 T l) = (∑ k : Fin 1024, refZ c a p q (ix2 T k) * w (ix2 k l)) + b (ix2 0 l) := by
  pointwise [refM, down]

theorem refDm_apply (T : Fin 8192) (l : Fin 1024) :
    refDm d c a p q w b g (ix2 T l) = vjp (row (refM c a p q w b) T) (row g 0) (row d T) l := refBack_apply _ _ _ T l

theorem refDz_apply (T : Fin 8192) (l : Fin 1024) : refDz d c a p q w b g (ix2 T l) = ∑ k : Fin 1024, refDm d c a p q w b g (ix2 T k) * w (ix2 l k) := by
  pointwise [refDz]

/-- The swish's gradient in an entry, as differentiating writes it. -/
theorem refDyn_apply (T : Fin 8192) (l : Fin 1024) : refDyn d c a p q w b g (ix2 T l)
    = refDz d c a p q w b g (ix2 T l) * logistic (layer (row (refY c a) T) (row p 0) (row q 0) l)
      + layer (row (refY c a) T) (row p 0) (row q 0) l * refDz d c a p q w b g (ix2 T l)
        * (logistic (layer (row (refY c a) T) (row p 0) (row q 0) l) * (1 - logistic (layer (row (refY c a) T) (row p 0) (row q 0) l))) := by
  pointwise [refDyn, all]
  rw [refLayer_apply, refGate_apply]

theorem refDc_apply (T : Fin 8192) (l : Fin 1024) : refDc d c a p q w b g (ix2 T l)
    = layerVjp (row (refY c a) T) (fun k => refDyn d c a p q w b g (ix2 T k) * p (ix2 0 k)) l := by
  refine (refLayerGrad_apply _ _ T l).trans (congrFun (congrArg (layerVjp _) (funext fun k => ?_)) l)
  unfold row
  pointwise [down]

theorem refSums_apply (r : Fin 8) (l : Fin 1024) : refSums d c a p q w b g (ix2 r l)
    = if r = 4 then ∑ T : Fin 8192, refDc d c a p q w b g (ix2 T l)
      else if r = 3 then ∑ T : Fin 8192, refDm d c a p q w b g (ix2 T l)
      else if r = 2 then ∑ T : Fin 8192, refDyn d c a p q w b g (ix2 T l)
      else if r = 1 then ∑ T : Fin 8192, refDyn d c a p q w b g (ix2 T l) * normed (row (refY c a) T) l
      else if r = 0 then ∑ T : Fin 8192, d (ix2 T l) * (refM c a p q w b (ix2 T l) * scale (row (refM c a p q w b) T)) else 0 := by
  pointwise [refSums]
  by_cases h4 : r = 4
  · subst h4
    rw [if_pos (rfl : (4 : Fin 8) = 4)]
    exact (dif_pos (by decide)).trans ((dif_neg (by decide)).trans ((dif_neg (by decide)).trans ((dif_neg (by decide)).trans ((dif_neg (by decide)).trans (colSum_apply _ l)))))
  rw [if_neg h4]
  by_cases h3 : r = 3
  · subst h3
    rw [if_pos (rfl : (3 : Fin 8) = 3)]
    exact (dif_pos (by decide)).trans ((dif_neg (by decide)).trans ((dif_neg (by decide)).trans ((dif_neg (by decide)).trans ((dif_pos (by decide)).trans (colSum_apply _ l)))))
  rw [if_neg h3]
  by_cases h2 : r = 2
  · subst h2
    rw [if_pos (rfl : (2 : Fin 8) = 2)]
    exact (dif_pos (by decide)).trans ((dif_neg (by decide)).trans ((dif_neg (by decide)).trans ((dif_pos (by decide)).trans (colSum_apply _ l))))
  rw [if_neg h2]
  by_cases h1 : r = 1
  · subst h1
    rw [if_pos (rfl : (1 : Fin 8) = 1)]
    have hs : colSum (mulf (refHat (refY c a)) (refDyn d c a p q w b g)) (ix2 0 l) = ∑ T : Fin 8192, refDyn d c a p q w b g (ix2 T l) * normed (row (refY c a) T) l :=
      (colSum_apply _ l).trans (Finset.sum_congr rfl fun T _ => (mul_comm _ _).trans (congrArg (_ * ·) (refHat_apply _ T l)))
    exact (dif_pos (by decide)).trans ((dif_neg (by decide)).trans ((dif_pos (by decide)).trans hs))
  rw [if_neg h1]
  by_cases h0 : r = 0
  · subst h0
    rw [if_pos (rfl : (0 : Fin 8) = 0)]
    exact (dif_pos (by decide)).trans ((dif_pos (by decide)).trans (refWeights_apply _ _ l))
  rw [if_neg h0]
  have h : ¬r.val < 5 := fun h => by
    have := (by decide : ∀ r : Fin 8, r.val < 5 → r = 4 ∨ r = 3 ∨ r = 2 ∨ r = 1 ∨ r = 0) r h
    simp only [h4, h3, h2, h1, h0, or_self] at this
  rw [dif_neg h]
  show (((0#32 : BitVec 32).toInt : ℝ) : EReal) = 0
  simp

end Cert.ConvOut

end
-- ==== Proof.ConvOut.Value.lean ====
module

public import proofs.«01_k».proof.Pre_finite_co
public import proofs.«01_k».proof.Proof.Norm.Finite
public import proofs.«01_k».proof.Proof.ConvOut.Final
public import proofs.«01_k».proof.Proof.ConvOut.Reference

@[expose] public section

set_option maxRecDepth 16384

noncomputable section

namespace Cert.ConvOut

open Idealize.ShloMosaic Idealize.ShloMosaic.TcCoe Idealize.ShloMosaic.StableHlo Idealize.SL.Sem
open Cert.KernelConvOutIdeal Cert.KernelConvOutIdeal.Gen Cert.Norm

/-! # The four outputs are the reference's results -/

variable (m : (ℓ : Loc nD τ sig) → Buf (Elt Ideal) ℓ)

/-- The arguments: cotangent, convolution, its bias, the layer norm's weights, the product's weights and bias, the norm's weights. -/
def argD (c : Dev nD) : S8192x1024.Idx → EReal := m ((c.tc : Thread nD τ).loc main_arg0)
def argC (c : Dev nD) : S8192x1024.Idx → EReal := m ((c.tc : Thread nD τ).loc main_arg1)
def argA (c : Dev nD) : S1x1024.Idx → EReal := m ((c.tc : Thread nD τ).loc main_arg2)
def argP (c : Dev nD) : S1x1024.Idx → EReal := m ((c.tc : Thread nD τ).loc main_arg3)
def argQ (c : Dev nD) : S1x1024.Idx → EReal := m ((c.tc : Thread nD τ).loc main_arg4)
def argW (c : Dev nD) : S1024x1024.Idx → EReal := m ((c.tc : Thread nD τ).loc main_arg5)
def argB (c : Dev nD) : S1x1024.Idx → EReal := m ((c.tc : Thread nD τ).loc main_arg6)
def argG (c : Dev nD) : S1x1024.Idx → EReal := m ((c.tc : Thread nD τ).loc main_arg7)

/-- What the host operations leave in the arrays the region reads. -/
theorem inD_eq (c : Dev nD) : inD m c = argD m c := by
  unfold inD V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inM_eq (c : Dev nD) : inM m c = refM (argC m c) (argA m c) (argP m c) (argQ m c) (argW m c) (argB m c) := by
  unfold inM V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inY_eq (c : Dev nD) : inY m c = refY (argC m c) (argA m c) := by
  unfold inY V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inP_eq (c : Dev nD) : inP m c = argP m c := by
  unfold inP V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inQ_eq (c : Dev nD) : inQ m c = argQ m c := by
  unfold inQ V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inW_eq (c : Dev nD) : inW m c = argW m c := by
  unfold inW V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

theorem inG_eq (c : Dev nD) : inG m c = argG m c := by
  unfold inG V
  simp only [hostOps0, hostOps0_1, hostOps0_2, List.flatten_cons, List.flatten_nil, List.append_nil, List.cons_append, List.nil_append, TRef.ternary, TRef.binary, TRef.nullary, TRef.unary, TRef.toBuf, TRef.ofBuf, cast_eq]
  after_results; rfl

section
variable [Cert.Pre_finite_co.Facts]

/-- Under the precondition the arguments are real. -/
theorem reals {d k : S8192x1024.Idx → EReal} {a p q : S1x1024.Idx → EReal} {w : S1024x1024.Idx → EReal} {b g : S1x1024.Idx → EReal}
    (h : (Cert.Pre_finite_co.fn (F := Ideal) d k a p q w b g).1 = (fun _ => 1#1) ∧ (Cert.Pre_finite_co.fn (F := Ideal) d k a p q w b g).2.1 = (fun _ => 1#1)
      ∧ (Cert.Pre_finite_co.fn (F := Ideal) d k a p q w b g).2.2 = fun _ => 1#1) :
    (∀ i, IsReal (d i)) ∧ (∀ i, IsReal (k i)) ∧ (∀ i, IsReal (a i)) ∧ (∀ i, IsReal (p i)) ∧ (∀ i, IsReal (q i)) ∧ (∀ i, IsReal (w i))
      ∧ (∀ i, IsReal (b i)) ∧ ∀ i, IsReal (g i) :=
  ⟨fun i => isReal_of_lt (and_one (congrFun h.1 i)).1, fun i => isReal_of_lt (and_one (congrFun h.1 i)).2,
    fun i => isReal_of_lt (and_one (and_one (and_one (and_one (congrFun h.2.1 i)).1).1).1).1, fun i => isReal_of_lt (and_one (and_one (and_one (and_one (congrFun h.2.1 i)).1).1).1).2,
    fun i => isReal_of_lt (and_one (and_one (and_one (congrFun h.2.1 i)).1).1).2, fun i => isReal_of_lt (congrFun h.2.2 i),
    fun i => isReal_of_lt (and_one (and_one (congrFun h.2.1 i)).1).2, fun i => isReal_of_lt (and_one (congrFun h.2.1 i)).2⟩
end

/-- The two forms of the swish's gradient are equal on real numbers. -/
theorem slope_eq {x z : EReal} (hx : IsReal x) (hz : IsReal z) : x * logistic z + z * x * (logistic z * (1 - logistic z)) = x * slope z := by
  unfold slope
  obtain ⟨s, hs⟩ : IsReal (logistic z) := logistic_isReal hz
  obtain ⟨x, rfl⟩ := hx
  obtain ⟨z, rfl⟩ := hz
  rw [hs, ← EReal.coe_one]
  simp only [← EReal.coe_mul, ← EReal.coe_sub, ← EReal.coe_add]
  congr 1
  ring

section
variable {d k : S8192x1024.Idx → EReal} {a p q : S1x1024.Idx → EReal} {w : S1024x1024.Idx → EReal} {b g : S1x1024.Idx → EReal}
  (hd : ∀ i, IsReal (d i)) (hk : ∀ i, IsReal (k i)) (ha : ∀ i, IsReal (a i)) (hp : ∀ i, IsReal (p i)) (hq : ∀ i, IsReal (q i))
  (hw : ∀ i, IsReal (w i)) (hb : ∀ i, IsReal (b i)) (hg : ∀ i, IsReal (g i))
include hk ha

theorem y_isReal (T : Fin 8192) (l : Fin 1024) : IsReal (row (refY k a) T l) := (hk _).add (ha _)

include hp hq

theorem layer_isReal (T : Fin 8192) (l : Fin 1024) : IsReal (layer (row (refY k a) T) (row p 0) (row q 0) l) :=
  ((normed_isReal (y_isReal hk ha T) l).mul (hp _)).add (hq _)

include hw hb

theorem m_isReal (T : Fin 8192) (l : Fin 1024) : IsReal (row (refM k a p q w b) T l) := by
  unfold row
  rw [refM_apply]
  refine (IsReal.sum _ _ fun e => IsReal.mul ?_ (hw _)).add (hb _)
  rw [refZ_apply]
  exact (layer_isReal hk ha hp hq T e).mul (logistic_isReal (layer_isReal hk ha hp hq T e))

include hd hg

/-- The kernel's and the reference's forms of the gradients. -/
theorem dm_eq (T : Fin 8192) (l : Fin 1024) : dmArr d (refM k a p q w b) g T l = refDm d k a p q w b g (ix2 T l) :=
  (vjp_eq_back (m_isReal hk ha hp hq hw hb T) (fun _ => hg _) (fun _ => hd _) l).symm.trans (refDm_apply _ _ _ _ _ _ _ _ T l).symm

theorem dz_isReal (T : Fin 8192) (l : Fin 1024) : IsReal (refDz d k a p q w b g (ix2 T l)) := by
  rw [refDz_apply]
  refine IsReal.sum _ _ fun e => IsReal.mul ?_ (hw _)
  rw [← dm_eq hd hk ha hp hq hw hb hg]
  exact back_isReal (m_isReal hk ha hp hq hw hb T) (fun _ => hg _) (fun _ => hd _) e

theorem dyn_eq (T : Fin 8192) (l : Fin 1024) : dynArr d (refM k a p q w b) (refY k a) p q w g T l = refDyn d k a p q w b g (ix2 T l) := by
  rw [refDyn_apply, slope_eq (dz_isReal hd hk ha hp hq hw hb hg T l) (layer_isReal hk ha hp hq T l), refDz_apply]
  unfold dynArr rDyn
  simp only [dm_eq hd hk ha hp hq hw hb hg]

theorem dyn_isReal (T : Fin 8192) (l : Fin 1024) : IsReal (refDyn d k a p q w b g (ix2 T l)) := by
  have hs : IsReal (logistic (layer (row (refY k a) T) (row p 0) (row q 0) l)) := logistic_isReal (layer_isReal hk ha hp hq T l)
  have hz := dz_isReal hd hk ha hp hq hw hb hg T l
  rw [refDyn_apply]
  exact (hz.mul hs).add (((layer_isReal hk ha hp hq T l).mul hz).mul (hs.mul (IsReal.sub ⟨1, rfl⟩ hs)))

theorem dc_eq (T : Fin 8192) (l : Fin 1024) : dyArr d (refM k a p q w b) (refY k a) p q w g T l = refDc d k a p q w b g (ix2 T l) := by
  rw [refDc_apply, layerVjp_eq (y_isReal hk ha T) fun e => (dyn_isReal hd hk ha hp hq hw hb hg T e).mul (hp _)]
  unfold dyArr rDy
  refine congrFun (congrArg (layerBack _) (funext fun e => ?_)) l
  exact congrArg (· * _) (dyn_eq hd hk ha hp hq hw hb hg T e)

theorem dcFun_eq : (fun i : S8192x1024.Idx => dyArr d (refM k a p q w b) (refY k a) p q w g (i 0) (i 1)) = refDc d k a p q w b g := by
  funext i
  obtain ⟨r, l, rfl⟩ : ∃ (r : Fin 8192) (l : Fin 1024), i = ix2 r l := ⟨i 0, i 1, eq_ix2 i⟩
  exact dc_eq hd hk ha hp hq hw hb hg r l

theorem dmFun_eq : (fun i : S8192x1024.Idx => dmArr d (refM k a p q w b) g (i 0) (i 1)) = refDm d k a p q w b g := by
  funext i
  obtain ⟨r, l, rfl⟩ : ∃ (r : Fin 8192) (l : Fin 1024), i = ix2 r l := ⟨i 0, i 1, eq_ix2 i⟩
  exact dm_eq hd hk ha hp hq hw hb hg r l

theorem sumsFun_eq : (fun i : S8x1024.Idx => sumsArr d (refM k a p q w b) (refY k a) p q w g (i 0) (i 1)) = refSums d k a p q w b g := by
  funext i
  obtain ⟨r, l, rfl⟩ : ∃ (r : Fin 8) (l : Fin 1024), i = ix2 r l := ⟨i 0, i 1, eq_ix2 i⟩
  refine Eq.trans ?_ (refSums_apply _ _ _ _ _ _ _ _ r l).symm
  refine Eq.trans (b := sumsArr d (refM k a p q w b) (refY k a) p q w g r l) rfl ?_
  unfold sumsArr
  simp only [dc_eq hd hk ha hp hq hw hb hg, dm_eq hd hk ha hp hq hw hb hg, dyn_eq hd hk ha hp hq hw hb hg]
end

theorem zFun_eq (k : S8192x1024.Idx → EReal) (a p q : S1x1024.Idx → EReal) :
    (fun i : S8192x1024.Idx => zArr (refY k a) p q (i 0) (i 1)) = refZ k a p q := by
  funext i
  obtain ⟨r, l, rfl⟩ : ∃ (r : Fin 8192) (l : Fin 1024), i = ix2 r l := ⟨i 0, i 1, eq_ix2 i⟩
  exact (refZ_apply _ _ _ _ r l).symm

set_option maxHeartbeats 2000000 in
/-- The four output arrays are the reference's four results. -/
theorem values (c : Dev nD) (hd : ∀ i, IsReal (argD m c i)) (hk : ∀ i, IsReal (argC m c i)) (ha : ∀ i, IsReal (argA m c i)) (hp : ∀ i, IsReal (argP m c i))
    (hq : ∀ i, IsReal (argQ m c i)) (hw : ∀ i, IsReal (argW m c i)) (hb : ∀ i, IsReal (argB m c i)) (hg : ∀ i, IsReal (argG m c i)) :
    (dats m 0 c).arrAt 7 cfg0.N = refDc (argD m c) (argC m c) (argA m c) (argP m c) (argQ m c) (argW m c) (argB m c) (argG m c)
    ∧ (dats m 0 c).arrAt 8 cfg0.N = refDm (argD m c) (argC m c) (argA m c) (argP m c) (argQ m c) (argW m c) (argB m c) (argG m c)
    ∧ (dats m 0 c).arrAt 9 cfg0.N = refZ (argC m c) (argA m c) (argP m c) (argQ m c)
    ∧ (dats m 0 c).arrAt 10 cfg0.N = refSums (argD m c) (argC m c) (argA m c) (argP m c) (argQ m c) (argW m c) (argB m c) (argG m c) := by
  rw [final_dy, final_dm, final_z, final_sums, inD_eq, inM_eq, inY_eq, inP_eq, inQ_eq, inW_eq, inG_eq]
  have h0 := dcFun_eq hd hk ha hp hq hw hb hg
  have h1 := dmFun_eq hd hk ha hp hq hw hb hg
  have h2 := zFun_eq (argC m c) (argA m c) (argP m c) (argQ m c)
  have h3 := sumsFun_eq hd hk ha hp hq hw hb hg
  refine ⟨?_, ?_, ?_, ?_⟩
  · exact h0
  · exact h1
  · exact h2
  · exact h3

end Cert.ConvOut

end
-- ==== Proof.ConvOut.Run.lean ====
module

public import proofs.«01_k».proof.Proof.ConvOut.Reference

@[expose] public section

set_option maxRecDepth 16384

noncomputable section

namespace Cert.ConvOut

open Idealize.ShloMosaic Idealize.ShloMosaic.TcCoe Idealize.SL.Sem
open Cert.ReferenceConvOutIdeal Cert.ReferenceConvOutIdeal.Gen Cert.ReferenceConvOutIdeal.Value Cert.Norm

/-! # The reference's run ends with these terms -/

variable (V0 : Valuation τ sig (Elt Ideal))

theorem run_v1 : res_main_v1 V0 = refY (V0 (Proc.devRef .tc main_arg1)) (V0 (Proc.devRef .tc main_arg2)) := by
  unfold res_main_v1
  rfl

theorem run_v16 : res_main_v16 V0 = refCen (refY (V0 (Proc.devRef .tc main_arg1)) (V0 (Proc.devRef .tc main_arg2))) := by
  unfold res_main_v16 res_main_v5
  rw [run_v1]
  rfl

theorem run_v7 : res_main_v7 V0 = refCen (refY (V0 (Proc.devRef .tc main_arg1)) (V0 (Proc.devRef .tc main_arg2))) := by
  unfold res_main_v7 res_main_v5
  rw [run_v1]
  rfl

theorem run_v18 : res_main_v18 V0 = refSpread (refY (V0 (Proc.devRef .tc main_arg1)) (V0 (Proc.devRef .tc main_arg2))) := by
  unfold res_main_v18
  rw [run_v7]
  rfl

theorem run_v24 : res_main_v24 V0 = refHat (refY (V0 (Proc.devRef .tc main_arg1)) (V0 (Proc.devRef .tc main_arg2))) := by
  unfold res_main_v24 res_main_v19
  rw [run_v16, run_v18]
  rfl

theorem run_v28 : res_main_v28 V0 = refLayer (V0 (Proc.devRef .tc main_arg1)) (V0 (Proc.devRef .tc main_arg2)) (V0 (Proc.devRef .tc main_arg3)) (V0 (Proc.devRef .tc main_arg4)) := by
  unfold res_main_v28
  rw [run_v24]
  rfl

theorem run_v29_2 : res_main_v29_2 V0 = refGate (V0 (Proc.devRef .tc main_arg1)) (V0 (Proc.devRef .tc main_arg2)) (V0 (Proc.devRef .tc main_arg3)) (V0 (Proc.devRef .tc main_arg4)) := by
  unfold res_main_v29_2
  rw [run_v28]
  rfl

theorem run_v29_0 : res_main_v29_0 V0 = refZ (V0 (Proc.devRef .tc main_arg1)) (V0 (Proc.devRef .tc main_arg2)) (V0 (Proc.devRef .tc main_arg3)) (V0 (Proc.devRef .tc main_arg4)) := by
  unfold res_main_v29_0
  rw [run_v28, run_v29_2]
  rfl

theorem run_v32 : res_main_v32 V0 = refM (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold res_main_v32
  rw [run_v29_0]
  rfl

theorem run_v66 : res_main_v66 V0 = refDm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold res_main_v66 res_main_v54 res_main_v42 res_main_v41
  rw [run_v32]
  rfl

theorem run_v69 : res_main_v69 V0 = refDz (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold res_main_v69
  rw [run_v66]
  rfl

theorem run_v70 : res_main_v70 V0 = refDyn (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold res_main_v70
  rw [run_v69, run_v28, run_v29_2]
  rfl

theorem run_v91 : res_main_v91 V0 = refTwo (refY (V0 (Proc.devRef .tc main_arg1)) (V0 (Proc.devRef .tc main_arg2))) (mulf (refDyn (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (down (V0 (Proc.devRef .tc main_arg3)))) := by
  unfold res_main_v91 res_main_v77 res_main_v19
  rw [run_v70, run_v16, run_v7, run_v18]
  rfl

theorem run_v82 : res_main_v82 V0 = mulf (mulf (refDyn (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (down (V0 (Proc.devRef .tc main_arg3)))) (along (Host.rsqrt (refSpread (refY (V0 (Proc.devRef .tc main_arg1)) (V0 (Proc.devRef .tc main_arg2)))))) := by
  unfold res_main_v82 res_main_v77 res_main_v19
  rw [run_v70, run_v18]
  rfl

/-- The four results. -/
theorem run_dc : addf (addf (res_main_v82 V0) (res_main_v91 V0)) (broadcastInDim S8192x1024 ![0] bcast_S8192_S8192x1024_0 (Host.reduceAdd (Host.divf (addf (shapeCast _ (Host.reduceAdd (Host.negf (res_main_v82 V0)) (constant S_ .f32 0x00000000#32) reducesTo_S8192x1024_S8192_d1 h_S_) shapeCasts_S8192_S8192x1) (shapeCast _ (Host.reduceAdd (Host.negf (res_main_v91 V0)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))
    = refDc (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [run_v82, run_v91]
  rfl

theorem run_dm : truncf .bf16 (res_main_v66 V0) bitsLt_bf16_f32 = refDm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [run_v66]
  rfl

theorem run_z : truncf .bf16 (res_main_v29_0 V0) bitsLt_bf16_f32 = refZ (V0 (Proc.devRef .tc main_arg1)) (V0 (Proc.devRef .tc main_arg2)) (V0 (Proc.devRef .tc main_arg3)) (V0 (Proc.devRef .tc main_arg4)) := by
  rw [run_v29_0]
  rfl

theorem run_sums : pad S8x1024 ![0, 0] ![3, 0] ![0, 0] ((concatenate S5x1024 0 [⟨S1x1024, ((shapeCast _ (Host.reduceAdd (mulf (res_main_v47 V0) (V0 (Proc.devRef .tc main_arg0))) (constant S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (mulf (res_main_v24 V0) (res_main_v70 V0)) (constant S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (res_main_v70 V0) (constant S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (res_main_v66 V0) (constant S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (addf (addf (res_main_v82 V0) (res_main_v91 V0)) (broadcastInDim S8192x1024 ![0] bcast_S8192_S8192x1024_0 (Host.reduceAdd (Host.divf (addf (shapeCast _ (Host.reduceAdd (Host.negf (res_main_v82 V0)) (constant S_ .f32 0x00000000#32) reducesTo_S8192x1024_S8192_d1 h_S_) shapeCasts_S8192_S8192x1) (shapeCast _ (Host.reduceAdd (Host.negf (res_main_v91 V0)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))) (constant S_ .f32 0x00000000#32) reducesTo_S8192x1024_S1024_d0 h_S_) shapeCasts_S1024_S1x1024) : (⟨S1x1024, .f32⟩ : BufTy).Contents (Elt Ideal))⟩] concatenates_S1x1024_S1x1024_S1x1024_S1x1024_S1x1024_S5x1024_d0 : (⟨S5x1024, .f32⟩ : BufTy).Contents (Elt Ideal))) (sitofp (F := Ideal) .f32 (constantI S_ 32 0#32)) pads_S5x1024_S8x1024_030_000 h_S_
    = refSums (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [run_dc, run_v70, run_v24, run_v66]
  unfold res_main_v47 res_main_v42 res_main_v41
  rw [run_v32]
  rfl

end Cert.ConvOut

end
-- ==== Proof.ConvOut.Claims.lean ====
module

public import proofs.«01_k».proof.Defs
public import proofs.«01_k».proof.Proof.Gen.KernelConvOut.Frame
public import proofs.«01_k».proof.Proof.ConvOut.Value
public import proofs.«01_k».proof.Proof.ConvOut.Run
public import proofs.«01_k».proof.Proof.Gen.ReferenceConvOutIdeal.Run
public import Idealize.ShloMosaic.Lib.Claim

@[expose] public section

noncomputable section

namespace Cert.Proof

open Idealize.ShloMosaic Idealize.ShloMosaic.StableHlo Idealize.SL.Sem

set_option maxHeartbeats 2000000 in
/-- The gradient through the convolution's layer norm, swish, product and norm: on finite arguments kernel and reference end with equal results on the ideal numbers. -/
theorem conv_out_value [hPre_finite_co : Cert.Pre_finite_co.Facts] : Cert.algebraic_KernelConvOutIdeal_ReferenceConvOutIdeal_pre_finite_co := by
  intro m g m' g' hpre hagree
  refine ⟨_, _, _, _, Cert.KernelConvOutIdeal.Value.run_blocks m g, ?_⟩
  refine (θ_run Cert.ReferenceConvOutIdeal.defs _ _).mono (fun _ h c => ?_) (Cert.ReferenceConvOutIdeal.Value.run (F := Ideal) m' g')
  obtain ⟨hd, hk, ha, hp, hq, hw, hb, hg⟩ := Cert.ConvOut.reals (hpre c)
  obtain ⟨e0, e1, e2, e3⟩ := Cert.ConvOut.values m c hd hk ha hp hq hw hb hg
  obtain ⟨a0, a1, a2, a3, a4, a5, a6, a7⟩ := hagree c
  obtain ⟨r0, r1, r2, r3, k⟩ := h c
  have r0 := r0.trans (Cert.ConvOut.run_dc _)
  have r1 := r1.trans (Cert.ConvOut.run_dm _)
  have r2 := r2.trans (Cert.ConvOut.run_z _)
  have r3 := r3.trans (Cert.ConvOut.run_sums _)
  have b0 : launchContents m' c (Proc.devRef .tc Cert.ReferenceConvOutIdeal.main_arg0) = Cert.ConvOut.argD m c := a0
  have b1 : launchContents m' c (Proc.devRef .tc Cert.ReferenceConvOutIdeal.main_arg1) = Cert.ConvOut.argC m c := a1
  have b2 : launchContents m' c (Proc.devRef .tc Cert.ReferenceConvOutIdeal.main_arg2) = Cert.ConvOut.argA m c := a2
  have b3 : launchContents m' c (Proc.devRef .tc Cert.ReferenceConvOutIdeal.main_arg3) = Cert.ConvOut.argP m c := a3
  have b4 : launchContents m' c (Proc.devRef .tc Cert.ReferenceConvOutIdeal.main_arg4) = Cert.ConvOut.argQ m c := a4
  have b5 : launchContents m' c (Proc.devRef .tc Cert.ReferenceConvOutIdeal.main_arg5) = Cert.ConvOut.argW m c := a5
  have b6 : launchContents m' c (Proc.devRef .tc Cert.ReferenceConvOutIdeal.main_arg6) = Cert.ConvOut.argB m c := a6
  have b7 : launchContents m' c (Proc.devRef .tc Cert.ReferenceConvOutIdeal.main_arg7) = Cert.ConvOut.argG m c := a7
  rw [b1, b2, b3, b4] at r2
  rw [b0, b1, b2, b3, b4, b5, b6, b7] at r0 r1 r3
  exact ⟨r0.trans e0.symm, r1.trans e1.symm, r2.trans e2.symm, r3.trans e3.symm, k⟩

/-- The reference terminates, its arguments unchanged. -/
theorem conv_out_reference : Cert.quiescent_ReferenceConvOutIdeal := by
  intro m g _
  run_from Cert.ReferenceConvOutIdeal.Value.run m g
  · exact fun _ => ⟨trivial, trivial, trivial, trivial, trivial, trivial, trivial, trivial⟩
  · exact funext fun s => nomatch s

end Cert.Proof

end
-- ==== Proof.AttnIn.Block.lean ====
module

public import proofs.«01_k».proof.Proof.Norm.Ref
public import proofs.«01_k».proof.Proof.Norm.Rows
public import proofs.«01_k».proof.Proof.Norm.Columns
public import proofs.«01_k».proof.Proof.Gen.KernelAttnInIdeal.Value
public import Idealize.ShloMosaic.Lib.Pipeline.ValueKit

@[expose] public section

set_option maxRecDepth 16384

noncomputable section

namespace Cert.AttnIn

open Idealize.ShloMosaic Idealize.ShloMosaic.TcCoe Idealize.SL.Sem
open Cert.KernelAttnInIdeal Cert.KernelAttnInIdeal.Gen Cert.Norm

/-! # What one point of the gradient through the attention's input products, gate and norm computes on its blocks -/

/-- The gradient before the gate, from the cotangent `d` of the gate's logarithm `f`; the lanes from the sixteenth on hold nothing. -/
def gradF (e : Fin 128) (d f : EReal) : EReal := if e.val < 16 then d * (1 - Ideal.exp f) else 0

variable (x y q k v : S512x1024.Idx → EReal) (p s : S1x1024.Idx → EReal) (d f u : S512x128.Idx → EReal) (wq wk wv : S1024x1024.Idx → EReal)
  (wf : S1024x128.Idx → EReal) (b : S1x128.Idx → EReal)

theorem pay6_apply (r : Fin 512) (l : Fin 1024) : k0_pay6 (F := Ideal) x p (ix2 r l) = x (ix2 r l) * scale (row x r) * p (ix2 0 l) := by
  pointwise [k0_pay6, scale, power, row]

theorem lane (e : Fin 128) : IntOp.cmpi CmpIPredicate.slt (BitVec.ofNat 32 e.val) 16#32 = BitVec.ofBool (decide (e.val < 16)) := by
  revert e
  decide

theorem pay7_apply (r : Fin 512) (e : Fin 128) : k0_pay7 (F := Ideal) d f (ix2 r e) = gradF e (d (ix2 r e)) (f (ix2 r e)) := by
  pointwise [k0_pay7, gradF]
  rw [lane]
  by_cases h : e.val < 16
  · rw [if_pos h, decide_eq_true h]
    rfl
  · rw [if_neg h, decide_eq_false h]
    rfl

theorem pay8_apply (r : Fin 512) (e : Fin 128) : k0_pay8 (F := Ideal) d f (ix2 r e) = gradF e (d (ix2 r e)) (f (ix2 r e)) := pay7_apply d f r e

/-- The gradient of the norm's result: four products. -/
theorem pay10_apply (r : Fin 512) (l : Fin 1024) : k0_pay10 (F := Ideal) u (k0_pay9 (F := Ideal) q) wq k wk v wv wf (ix2 r l)
    = (∑ j : Fin 1024, q (ix2 r j) * wq (ix2 l j)) + (∑ j : Fin 1024, k (ix2 r j) * wk (ix2 l j)) + (∑ j : Fin 1024, v (ix2 r j) * wv (ix2 l j))
      + ∑ e : Fin 128, u (ix2 r e) * wf (ix2 l e) := by
  pointwise [k0_pay10, k0_pay9]

theorem pay11_apply (r : Fin 512) : k0_pay11 (F := Ideal) x (ix2 r 0) = scale (row x r) := by
  pointwise [k0_pay11, scale, power, row]

theorem pay12_apply (r : Fin 512) (l : Fin 1024) : k0_pay12 (F := Ideal) x (ix2 r l) = x (ix2 r l) * scale (row x r) := by
  pointwise [k0_pay12]
  rw [pay11_apply]

/-- The sums for the norm's weights. -/
theorem pay13_apply (l : Fin 1024) : k0_pay13 (F := Ideal) x u q wq k wk v wv wf (ix2 0 l)
    = ∑ r : Fin 512, k0_pay10 (F := Ideal) u q wq k wk v wv wf (ix2 r l) * (x (ix2 r l) * scale (row x r)) := by
  pointwise [k0_pay13]
  simp only [pay12_apply]

/-- The norm's gradient, added to the cotangent. -/
theorem pay1_apply (r : Fin 512) (l : Fin 1024) :
    k0_pay1 (F := Ideal) (k0_pay11 (F := Ideal) x) (k0_pay12 (F := Ideal) x) (k0_pay14 (F := Ideal) u q wq k wk v wv wf p) (k0_pay15 (F := Ideal) x u q wq k wk v wv wf p)
      (Ideal.ofBits .f32 0x44800000#32) y (ix2 r l)
    = y (ix2 r l) + back (row x r) (row p 0) (row (k0_pay10 (F := Ideal) u q wq k wk v wv wf) r) l := by
  pointwise [k0_pay1, k0_pay14, k0_pay15]
  simp only [pay11_apply, pay12_apply]
  rfl

theorem pay2_apply (r : Fin 8) (l : Fin 1024) : k0_pay2 (F := Ideal) (ix2 r l) = 0 := by
  pointwise [k0_pay2]

theorem pay3_apply (e : Fin 128) : k0_pay3 (F := Ideal) (ix2 0 e) = 0 := by
  pointwise [k0_pay3]

theorem pay4_apply (l : Fin 1024) : k0_pay4 (F := Ideal) s p (ix2 0 l) = p (ix2 0 l) + s (ix2 0 l) := by
  pointwise [k0_pay4]

theorem pay5_apply (e : Fin 128) : k0_pay5 (F := Ideal) u b (ix2 0 e) = b (ix2 0 e) + ∑ r : Fin 512, u (ix2 r e) := by
  pointwise [k0_pay5]

end Cert.AttnIn

end
-- ==== Proof.AttnIn.Point.lean ====
module

public import proofs.«01_k».proof.Proof.AttnIn.Block

@[expose] public section

set_option maxRecDepth 16384

noncomputable section

namespace Cert.AttnIn

open Idealize.ShloMosaic Idealize.ShloMosaic.TcCoe Idealize.SL.Sem
open Cert.KernelAttnInIdeal Cert.KernelAttnInIdeal.Gen Cert.Norm

/-! # What one point of the gradient through the attention's input products, gate and norm leaves -/

/-- A third of the weights' columns, as the body loads it. -/
def wPart (X : S1024x3072.Idx → EReal) (s : Fin 3) : S1024x1024.Idx → EReal :=
  View.ld (Val := Elt Ideal) (e' := .bf16) X (Rect.unit (s := S1024x3072) ![0, s.val * 1024] ![1024, 1024]
    ((by decide : ∀ s : Fin 3, ∀ a : Fin 2, (![0, s.val * 1024] : Fin 2 → ℕ) a + (![1024, 1024] : Fin 2 → ℕ) a ≤ (![1024, 3072] : Fin 2 → ℕ) a) s))

theorem wPart_apply (X : S1024x3072.Idx → EReal) (s : Fin 3) (l j : Fin 1024) (h : s.val * 1024 + j.val < 3072) :
    wPart X s (ix2 l j) = X (ix2 l ⟨s.val * 1024 + j.val, h⟩) :=
  ld_part (Val := Elt Ideal) (e := .bf16) X s.val _ rfl _ l j _

variable (m : (ℓ : Loc nD τ sig) → Buf (Elt Ideal) ℓ)

/-- A point's blocks: cotangent, input, norm's weights, the gradients of q, k, v and of the gate's logarithm, that logarithm, the products' and the gate's weights. -/
def blkO (c : Dev nD) (t : Fin cfg0.N) : S512x1024.Idx → EReal := iblk m c 0 t
def blkX (c : Dev nD) (t : Fin cfg0.N) : S512x1024.Idx → EReal := iblk m c 1 t
def blkG (c : Dev nD) (t : Fin cfg0.N) : S1x1024.Idx → EReal := iblk m c 2 t
def blkQ (c : Dev nD) (t : Fin cfg0.N) : S512x1024.Idx → EReal := iblk m c 3 t
def blkK (c : Dev nD) (t : Fin cfg0.N) : S512x1024.Idx → EReal := iblk m c 4 t
def blkV (c : Dev nD) (t : Fin cfg0.N) : S512x1024.Idx → EReal := iblk m c 5 t
def blkD (c : Dev nD) (t : Fin cfg0.N) : S512x128.Idx → EReal := iblk m c 6 t
def blkL (c : Dev nD) (t : Fin cfg0.N) : S512x128.Idx → EReal := iblk m c 7 t
def blkW (c : Dev nD) (t : Fin cfg0.N) : S1024x3072.Idx → EReal := iblk m c 8 t
def blkF (c : Dev nD) (t : Fin cfg0.N) : S1024x128.Idx → EReal := iblk m c 9 t

/-- The gradient before the gate, and of the norm's result. -/
def bF (c : Dev nD) (t : Fin cfg0.N) : S512x128.Idx → EReal := k0_pay8 (F := Ideal) (blkD m c t) (blkL m c t)
def bDh (c : Dev nD) (t : Fin cfg0.N) : S512x1024.Idx → EReal :=
  k0_pay10 (F := Ideal) (bF m c t) (k0_pay9 (F := Ideal) (blkQ m c t)) (wPart (blkW m c t) 0) (blkK m c t) (wPart (blkW m c t) 1) (blkV m c t) (wPart (blkW m c t) 2) (blkF m c t)

/-- What a point leaves in the outputs. -/
theorem outs_h (c : Dev nD) (t : Fin cfg0.N) : (outsAt0 m c t.val t.isLt).2.1 = k0_pay6 (F := Ideal) (blkX m c t) (blkG m c t) := by
  by_cases h0 : t.val % 16 = 0
  · rw [outsAt0_A m c t h0]; dsimp only; frame_out; rfl
  · rw [outsAt0_B m c t h0]; dsimp only; frame_out; rfl

theorem outs_df (c : Dev nD) (t : Fin cfg0.N) : (outsAt0 m c t.val t.isLt).2.2.1 = bF m c t := by
  by_cases h0 : t.val % 16 = 0
  · rw [outsAt0_A m c t h0]; dsimp only; frame_out; rfl
  · rw [outsAt0_B m c t h0]; dsimp only; frame_out; rfl

/-- The norm's gradient, from the three parts the body computes. -/
def bDx (c : Dev nD) (t : Fin cfg0.N) : S512x1024.Idx → EReal :=
  k0_pay1 (F := Ideal) (k0_pay11 (F := Ideal) (blkX m c t)) (k0_pay12 (F := Ideal) (blkX m c t))
    (k0_pay14 (F := Ideal) (bF m c t) (k0_pay9 (F := Ideal) (blkQ m c t)) (wPart (blkW m c t) 0) (blkK m c t) (wPart (blkW m c t) 1) (blkV m c t) (wPart (blkW m c t) 2) (blkF m c t) (blkG m c t))
    (k0_pay15 (F := Ideal) (blkX m c t) (bF m c t) (k0_pay9 (F := Ideal) (blkQ m c t)) (wPart (blkW m c t) 0) (blkK m c t) (wPart (blkW m c t) 1) (blkV m c t) (wPart (blkW m c t) 2) (blkF m c t) (blkG m c t))
    (Ideal.ofBits .f32 0x44800000#32) (blkO m c t)

theorem outs_dx (c : Dev nD) (t : Fin cfg0.N) : (outsAt0 m c t.val t.isLt).1 = bDx m c t := by
  by_cases h0 : t.val % 16 = 0
  · rw [outsAt0_A m c t h0]; dsimp only; frame_out; rfl
  · rw [outsAt0_B m c t h0]; dsimp only; frame_out; rfl

/-- What a point adds to the sums for the norm's weights, in the first row of eight, -/
def bG (c : Dev nD) (t : Fin cfg0.N) : S1x1024.Idx → EReal :=
  k0_pay13 (F := Ideal) (blkX m c t) (bF m c t) (k0_pay9 (F := Ideal) (blkQ m c t)) (wPart (blkW m c t) 0) (blkK m c t) (wPart (blkW m c t) 1) (blkV m c t) (wPart (blkW m c t) 2) (blkF m c t)
def bSum (c : Dev nD) (t : Fin cfg0.N) (r : Fin 8) (l : Fin 1024) : EReal := if r = 0 then bG m c t (ix2 0 l) else 0

/-- and to those for the gate's bias. -/
def bB (c : Dev nD) (t : Fin cfg0.N) (e : Fin 128) : EReal := ∑ r : Fin 512, bF m c t (ix2 r e)

theorem sums_A (c : Dev nD) (t : Fin cfg0.N) (h0 : t.val % 16 = 0) (r : Fin 8) (l : Fin 1024) :
    (outsAt0 m c t.val t.isLt).2.2.2.1 (ix2 r l) = 0 + bSum m c t r l := by
  rw [outsAt0_A m c t h0]; dsimp only; frame_out
  refine (canon_row 0 _ _ _ r l).trans ?_
  have hZ : ∀ (r : Fin 8) (l : Fin 1024), View.canon [(⟨Rect.unit (s := S8x1024) ![0, 0] ![8, 1024] inb_S8x1024_S8x1024_0_0, k0_pay2 (F := Ideal)⟩ : View.Piece (Elt Ideal) S8x1024 .f32)] (ix2 r l) = (0 : EReal) :=
    fun r l => (congrFun (canon_whole _ _ _) _).trans (pay2_apply r l)
  unfold bSum
  by_cases hr : r = 0
  · subst hr
    rw [if_pos (rfl : (0 : Fin 8) = 0)]
    refine (if_pos rfl).trans ?_
    refine (pay4_apply _ _ l).trans ?_
    exact congrArg (· + _) ((readCov_row _ _ 0 (by decide) _ l).trans (hZ 0 l))
  · rw [if_neg hr, add_zero]
    exact (if_neg fun h => hr (Fin.ext h)).trans (hZ r l)

theorem sums_B (c : Dev nD) (t : Fin cfg0.N) (h0 : ¬t.val % 16 = 0) (r : Fin 8) (l : Fin 1024) : (outsAt0 m c t.val t.isLt).2.2.2.1 (ix2 r l)
    = (outsAt0 m c (t.val - 1) (Nat.lt_of_le_of_lt (Nat.sub_le _ _) t.isLt)).2.2.2.1 (ix2 r l) + bSum m c t r l := by
  conv_lhs => rw [outsAt0_B m c t h0]
  dsimp only; frame_out
  refine (read_row _ _ 0 _ _ _ r l).trans ?_
  unfold bSum
  by_cases hr : r = 0
  · subst hr
    rw [if_pos (rfl : (0 : Fin 8) = 0)]
    refine (if_pos rfl).trans ?_
    refine (pay4_apply _ _ l).trans ?_
    exact congrArg (· + _) (ld_row _ 0 (by decide) _ l)
  · rw [if_neg hr, add_zero]
    refine (if_neg fun h => hr (Fin.ext h)).trans ?_
    exact congrFun ((hs0_13 t).read_unread _) _

theorem db_A (c : Dev nD) (t : Fin cfg0.N) (h0 : t.val % 16 = 0) (e : Fin 128) : (outsAt0 m c t.val t.isLt).2.2.2.2 (ix2 0 e) = 0 + bB m c t e := by
  rw [outsAt0_A m c t h0]; dsimp only; frame_out
  refine (pay5_apply _ _ e).trans ?_
  exact congrArg (· + _) (pay3_apply e)

theorem db_B (c : Dev nD) (t : Fin cfg0.N) (h0 : ¬t.val % 16 = 0) (e : Fin 128) : (outsAt0 m c t.val t.isLt).2.2.2.2 (ix2 0 e)
    = (outsAt0 m c (t.val - 1) (Nat.lt_of_le_of_lt (Nat.sub_le _ _) t.isLt)).2.2.2.2 (ix2 0 e) + bB m c t e := by
  conv_lhs => rw [outsAt0_B m c t h0]
  dsimp only; frame_out
  exact pay5_apply _ _ e

end Cert.AttnIn

end
-- ==== Proof.AttnIn.Final.lean ====
module

public import proofs.«01_k».proof.Proof.AttnIn.Point

@[expose] public section

set_option maxRecDepth 16384

noncomputable section

namespace Cert.AttnIn

open Idealize.ShloMosaic Idealize.ShloMosaic.TcCoe Idealize.SL.Sem
open Cert.KernelAttnInIdeal Cert.KernelAttnInIdeal.Gen Cert.Norm

/-! # The five output arrays after the run -/

section
variable (O X : S8192x1024.Idx → EReal) (G : S1x1024.Idx → EReal) (Q K V : S8192x1024.Idx → EReal) (D L : S8192x128.Idx → EReal)
  (W : S1024x3072.Idx → EReal) (F : S1024x128.Idx → EReal)

/-- The gradient before the gate. -/
def dfArr (T : Fin 8192) (e : Fin 128) : EReal := gradF e (D (ix2 T e)) (L (ix2 T e))

/-- The gradient of the norm's result. -/
def dhArr (T : Fin 8192) (l : Fin 1024) : EReal :=
  (∑ j : Fin 1024, row Q T j * W (ix2 l ⟨0 * 1024 + j.val, by omega⟩)) + (∑ j : Fin 1024, row K T j * W (ix2 l ⟨1 * 1024 + j.val, by omega⟩))
    + (∑ j : Fin 1024, row V T j * W (ix2 l ⟨2 * 1024 + j.val, by omega⟩)) + ∑ e : Fin 128, dfArr D L T e * F (ix2 l e)

/-- The gradient with respect to the input, added to the cotangent. -/
def dxArr (T : Fin 8192) (l : Fin 1024) : EReal := O (ix2 T l) + back (row X T) (row G 0) (dhArr Q K V D L W F T) l

/-- The norm's result. -/
def hArr (T : Fin 8192) (l : Fin 1024) : EReal := X (ix2 T l) * scale (row X T) * G (ix2 0 l)

/-- The sums for the norm's weights and for the gate's bias. -/
def dgArr (l : Fin 1024) : EReal := ∑ T : Fin 8192, dhArr Q K V D L W F T l * (X (ix2 T l) * scale (row X T))
def dbArr (e : Fin 128) : EReal := ∑ T : Fin 8192, dfArr D L T e
end

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

theorem idx_out : ∀ t : Fin cfg0.N, win0_10.index t = ![t.val, 0] ∧ win0_11.index t = ![t.val, 0] ∧ win0_12.index t = ![t.val, 0] :=
  (by decide +kernel : ∀ t : Fin grid0.N, _)

/-- The arrays the region reads. -/
def inO (c : Dev nD) : S8192x1024.Idx → EReal := V m c (Pipeline.arrRef spec0 0)
def inX (c : Dev nD) : S8192x1024.Idx → EReal := V m c (Pipeline.arrRef spec0 1)
def inG (c : Dev nD) : S1x1024.Idx → EReal := V m c (Pipeline.arrRef spec0 2)
def inQ (c : Dev nD) : S8192x1024.Idx → EReal := V m c (Pipeline.arrRef spec0 3)
def inK (c : Dev nD) : S8192x1024.Idx → EReal := V m c (Pipeline.arrRef spec0 4)
def inV (c : Dev nD) : S8192x1024.Idx → EReal := V m c (Pipeline.arrRef spec0 5)
def inD (c : Dev nD) : S8192x128.Idx → EReal := V m c (Pipeline.arrRef spec0 6)
def inL (c : Dev nD) : S8192x128.Idx → EReal := V m c (Pipeline.arrRef spec0 7)
def inW (c : Dev nD) : S1024x3072.Idx → EReal := V m c (Pipeline.arrRef spec0 8)
def inF (c : Dev nD) : S1024x128.Idx → EReal := V m c (Pipeline.arrRef spec0 9)

theorem lt_rows (t : Fin cfg0.N) (r : Fin 512) : t.val * 512 + r < 8192 := by
  have ht : t.val < 16 := lt_of_lt_of_eq t.isLt N_0
  have := r.isLt
  omega

/-- Row `r` of a point's blocks, in the whole arrays. -/
def at_ (t : Fin cfg0.N) (r : Fin 512) : Fin 8192 := ⟨t.val * 512 + r, lt_rows t r⟩

theorem blkO_apply (c : Dev nD) (t : Fin cfg0.N) (r : Fin 512) (l : Fin 1024) : blkO m c t (ix2 r l) = inO m c (ix2 (at_ t r) l) := by
  unfold blkO inO iblk at_
  blk_ext [iblk, (idx t).1]

theorem row_blkX (c : Dev nD) (t : Fin cfg0.N) (r : Fin 512) : row (blkX m c t) r = row (inX m c) (at_ t r) := by
  funext l
  unfold row blkX inX iblk at_
  blk_ext [iblk, (idx t).2.1]

theorem row_blkQ (c : Dev nD) (t : Fin cfg0.N) (r : Fin 512) : row (blkQ m c t) r = row (inQ m c) (at_ t r) := by
  funext l
  unfold row blkQ inQ iblk at_
  blk_ext [iblk, (idx t).2.2.2.1]

theorem row_blkK (c : Dev nD) (t : Fin cfg0.N) (r : Fin 512) : row (blkK m c t) r = row (inK m c) (at_ t r) := by
  funext l
  unfold row blkK inK iblk at_
  blk_ext [iblk, (idx t).2.2.2.2.1]

theorem row_blkV (c : Dev nD) (t : Fin cfg0.N) (r : Fin 512) : row (blkV m c t) r = row (inV m c) (at_ t r) := by
  funext l
  unfold row blkV inV iblk at_
  blk_ext [iblk, (idx t).2.2.2.2.2.1]

theorem blkD_apply (c : Dev nD) (t : Fin cfg0.N) (r : Fin 512) (l : Fin 128) : blkD m c t (ix2 r l) = inD m c (ix2 (at_ t r) l) := by
  unfold blkD inD iblk at_
  blk_ext [iblk, (idx t).2.2.2.2.2.2.1]

theorem blkL_apply (c : Dev nD) (t : Fin cfg0.N) (r : Fin 512) (l : Fin 128) : blkL m c t (ix2 r l) = inL m c (ix2 (at_ t r) l) := by
  unfold blkL inL iblk at_
  blk_ext [iblk, (idx t).2.2.2.2.2.2.2.1]

theorem blkG_eq (c : Dev nD) (t : Fin cfg0.N) : blkG m c t = inG m c := by
  funext i
  obtain ⟨r, l, rfl⟩ : ∃ (r : Fin 1) (l : Fin 1024), i = ix2 r l := ⟨i 0, i 1, eq_ix2 i⟩
  unfold blkG inG iblk
  blk_ext [iblk, (idx t).2.2.1]

theorem blkW_eq (c : Dev nD) (t : Fin cfg0.N) : blkW m c t = inW m c := by
  funext i
  obtain ⟨r, l, rfl⟩ : ∃ (r : Fin 1024) (l : Fin 3072), i = ix2 r l := ⟨i 0, i 1, eq_ix2 i⟩
  unfold blkW inW iblk
  blk_ext [iblk, (idx t).2.2.2.2.2.2.2.2.1]

theorem blkF_eq (c : Dev nD) (t : Fin cfg0.N) : blkF m c t = inF m c := by
  funext i
  obtain ⟨r, l, rfl⟩ : ∃ (r : Fin 1024) (l : Fin 128), i = ix2 r l := ⟨i 0, i 1, eq_ix2 i⟩
  unfold blkF inF iblk
  blk_ext [iblk, (idx t).2.2.2.2.2.2.2.2.2]

/-- A point's gradients are rows of the whole arrays'. -/
theorem bF_apply (c : Dev nD) (t : Fin cfg0.N) (r : Fin 512) (e : Fin 128) : bF m c t (ix2 r e) = dfArr (inD m c) (inL m c) (at_ t r) e := by
  unfold bF
  rw [pay8_apply, blkD_apply, blkL_apply]
  rfl

theorem bDh_apply (c : Dev nD) (t : Fin cfg0.N) (r : Fin 512) (l : Fin 1024) :
    bDh m c t (ix2 r l) = dhArr (inQ m c) (inK m c) (inV m c) (inD m c) (inL m c) (inW m c) (inF m c) (at_ t r) l := by
  unfold bDh
  rw [pay10_apply]
  unfold dhArr
  have w0 : ∀ j : Fin 1024, wPart (inW m c) 0 (ix2 l j) = inW m c (ix2 l ⟨0 * 1024 + j.val, by omega⟩) := fun j => wPart_apply _ 0 l j (by show 0 * 1024 + j.val < 3072; omega)
  have w1 : ∀ j : Fin 1024, wPart (inW m c) 1 (ix2 l j) = inW m c (ix2 l ⟨1 * 1024 + j.val, by omega⟩) := fun j => wPart_apply _ 1 l j (by show 1 * 1024 + j.val < 3072; omega)
  have w2 : ∀ j : Fin 1024, wPart (inW m c) 2 (ix2 l j) = inW m c (ix2 l ⟨2 * 1024 + j.val, by omega⟩) := fun j => wPart_apply _ 2 l j (by show 2 * 1024 + j.val < 3072; omega)
  simp only [bF_apply, blkW_eq, blkF_eq, ← row_blkQ, ← row_blkK, ← row_blkV, w0, w1, w2]
  rfl

theorem row_bDh (c : Dev nD) (t : Fin cfg0.N) (r : Fin 512) :
    row (bDh m c t) r = dhArr (inQ m c) (inK m c) (inV m c) (inD m c) (inL m c) (inW m c) (inF m c) (at_ t r) := funext fun l => bDh_apply m c t r l

theorem bG_apply (c : Dev nD) (t : Fin cfg0.N) (l : Fin 1024) :
    bG m c t (ix2 0 l) = ∑ r : Fin 512, row (bDh m c t) r l * (row (blkX m c t) r l * scale (row (blkX m c t) r)) :=
  pay13_apply _ _ _ _ _ _ _ _ _ l

theorem final_dx (c : Dev nD) : (dats m 0 c).arrAt 10 cfg0.N
    = fun i : S8192x1024.Idx => dxArr (inO m c) (inX m c) (inG m c) (inQ m c) (inK m c) (inV m c) (inD m c) (inL m c) (inW m c) (inF m c) (i 0) (i 1) := by
  generalize hA : (fun i : S8192x1024.Idx => dxArr (inO m c) (inX m c) (inG m c) (inQ m c) (inK m c) (inV m c) (inD m c) (inL m c) (inW m c) (inF m c) (i 0) (i 1)) = Z
  refine (dats m 0 c).arrAt_eq_of_covers 10 _ (by decide +kernel) fun t hf y => ?_
  blk_simp
  rw [after0_10, outs_dx]
  obtain ⟨r, l, rfl⟩ : ∃ (r : Fin 512) (l : Fin 1024), y = ix2 r l := ⟨y 0, y 1, eq_ix2 y⟩
  refine (pay1_apply _ _ _ _ _ _ _ _ _ _ _ r l).trans ?_
  refine Eq.trans (b := blkO m c t (ix2 r l) + back (row (blkX m c t) r) (row (blkG m c t) 0) (row (bDh m c t) r) l) rfl ?_
  rw [row_blkX, row_bDh, blkO_apply, blkG_eq]
  refine (congrFun hA (ix2 (at_ t r) l)).trans ?_
  unfold at_
  blk_point [idx_out t]

theorem final_h (c : Dev nD) : (dats m 0 c).arrAt 11 cfg0.N = fun i : S8192x1024.Idx => hArr (inX m c) (inG m c) (i 0) (i 1) := by
  generalize hA : (fun i : S8192x1024.Idx => hArr (inX m c) (inG m c) (i 0) (i 1)) = Z
  refine (dats m 0 c).arrAt_eq_of_covers 11 _ (by decide +kernel) fun t hf y => ?_
  blk_simp
  rw [after0_11, outs_h]
  obtain ⟨r, l, rfl⟩ : ∃ (r : Fin 512) (l : Fin 1024), y = ix2 r l := ⟨y 0, y 1, eq_ix2 y⟩
  refine (pay6_apply _ _ r l).trans ?_
  refine Eq.trans (b := row (blkX m c t) r l * scale (row (blkX m c t) r) * blkG m c t (ix2 0 l)) rfl ?_
  rw [row_blkX, blkG_eq]
  refine (congrFun hA (ix2 (at_ t r) l)).trans ?_
  unfold at_
  blk_point [idx_out t]

theorem final_df (c : Dev nD) : (dats m 0 c).arrAt 12 cfg0.N = fun i : S8192x128.Idx => dfArr (inD m c) (inL m c) (i 0) (i 1) := by
  generalize hA : (fun i : S8192x128.Idx => dfArr (inD m c) (inL m c) (i 0) (i 1)) = Z
  refine (dats m 0 c).arrAt_eq_of_covers 12 _ (by decide +kernel) fun t hf y => ?_
  blk_simp
  rw [after0_12, outs_df]
  obtain ⟨r, e, rfl⟩ : ∃ (r : Fin 512) (e : Fin 128), y = ix2 r e := ⟨y 0, y 1, eq_ix2 y⟩
  refine (bF_apply m c t r e).trans ?_
  refine (congrFun hA (ix2 (at_ t r) e)).trans ?_
  unfold at_
  blk_point [idx_out t]

/-- The last point. -/
def last : Fin cfg0.N := ⟨15, lt_of_lt_of_eq (by decide) N_0.symm⟩

theorem sums_last (c : Dev nD) (t : Fin cfg0.N) (ht : t.val + 1 = cfg0.N) (r : Fin 8) (l : Fin 1024) :
    (outsAt0 m c t.val t.isLt).2.2.2.1 (ix2 r l) = ∑ p : Fin cfg0.N, bSum m c p r l := by
  rw [Pipeline.eq_sum_fin_of_reset_step_apply_last (fun n h (_ : Unit) => (outsAt0 m c n h).2.2.2.1 (ix2 r l)) 16 (fun _ => 0)
    (fun t _ => bSum m c t r l)
    (fun t h0 _ => sums_A m c t h0 r l) (fun t h0 _ => sums_B m c t h0 r l) (le_of_eq N_0) t ht (), zero_add]

theorem db_last (c : Dev nD) (t : Fin cfg0.N) (ht : t.val + 1 = cfg0.N) (e : Fin 128) :
    (outsAt0 m c t.val t.isLt).2.2.2.2 (ix2 0 e) = ∑ p : Fin cfg0.N, bB m c p e := by
  rw [Pipeline.eq_sum_fin_of_reset_step_apply_last (fun n h (_ : Unit) => (outsAt0 m c n h).2.2.2.2 (ix2 0 e)) 16 (fun _ => 0)
    (fun t _ => bB m c t e)
    (fun t h0 _ => db_A m c t h0 e) (fun t h0 _ => db_B m c t h0 e) (le_of_eq N_0) t ht (), zero_add]

theorem final_sums (c : Dev nD) : (dats m 0 c).arrAt 13 cfg0.N = fun i : S8x1024.Idx => if (i 0).val = 0 then
    dgArr (inX m c) (inQ m c) (inK m c) (inV m c) (inD m c) (inL m c) (inW m c) (inF m c) (i 1) else (0 : EReal) := by
  refine (dats m 0 c).arrAt_eq_of_after_last 13 last (by decide +kernel) _ fun j => ?_
  blk_simp
  obtain ⟨r, l, rfl⟩ : ∃ (r : Fin 8) (l : Fin 1024), j = ix2 r l := ⟨j 0, j 1, eq_ix2 j⟩
  rw [after0_13, sums_last m c _ rfl]
  unfold bSum
  by_cases hr : r = 0
  · subst hr
    simp only [if_pos, bG_apply]
    refine Eq.trans (b := dgArr (inX m c) (inQ m c) (inK m c) (inV m c) (inD m c) (inL m c) (inW m c) (inF m c) l) ?_ (if_pos rfl).symm
    unfold dgArr
    refine Fin.sum_mul_add_congr fun t s hl => ?_
    rw [row_blkX, row_bDh]
    rfl
  · simp only [if_neg hr]
    exact (show ∑ p : Fin cfg0.N, (0 : EReal) = 0 from Finset.sum_const_zero).trans (if_neg fun h => hr (Fin.ext h)).symm

theorem final_db (c : Dev nD) : (dats m 0 c).arrAt 14 cfg0.N = fun i : S1x128.Idx => dbArr (inD m c) (inL m c) (i 1) := by
  refine (dats m 0 c).arrAt_eq_of_after_last 14 last (by decide +kernel) _ fun j => ?_
  blk_simp
  obtain ⟨r, e, rfl⟩ : ∃ (r : Fin 1) (e : Fin 128), j = ix2 r e := ⟨j 0, j 1, eq_ix2 j⟩
  obtain rfl : r = 0 := Subsingleton.elim _ _
  rw [after0_14]
  refine (db_last m c _ rfl e).trans ?_
  refine Eq.trans (b := dbArr (inD m c) (inL m c) e) ?_ rfl
  unfold dbArr bB
  exact Fin.sum_mul_add_congr fun t r hl => bF_apply m c t r e

end Cert.AttnIn

end
-- ==== Proof.AttnIn.Gate.lean ====
module

public import proofs.«01_k».proof.Proof.Norm.Gate

@[expose] public section

noncomputable section

namespace Cert.AttnIn

open Idealize.ShloMosaic Cert.Norm

/-! # The gradient of the logarithm of the logistic function

The forward pass keeps `log (1 / (1 + eᶻ))`, `z` the negated logit, as `-softplus z`. From it the kernel takes
`1 - exp (-softplus z)`, the derivative takes `exp (z - softplus z)`. -/

/-- `softplus`, as the forward line writes it. -/
def soft (z : EReal) : EReal := max z 0 + Ideal.log1p (Ideal.exp (-(max z (-z))))

theorem soft_real (r : ℝ) : max r 0 + Real.log (1 + Real.exp (-(max r (-r)))) = Real.log (1 + Real.exp r) := by
  have h1 : (0 : ℝ) < 1 + Real.exp (-r) := by positivity
  rcases le_total 0 r with h | h
  · rw [max_eq_left h, max_eq_left (by linarith)]
    have e : 1 + Real.exp r = Real.exp r * (1 + Real.exp (-r)) := by
      rw [mul_add, mul_one, ← Real.exp_add, add_neg_cancel, Real.exp_zero, add_comm]
    rw [e, Real.log_mul (Real.exp_pos r).ne' h1.ne', Real.log_exp]
  · rw [max_eq_right h, max_eq_right (by linarith), neg_neg, zero_add]

theorem soft_coe (r : ℝ) : soft (r : EReal) = ((Real.log (1 + Real.exp r) : ℝ) : EReal) := by
  have hp : ¬1 + Real.exp (-(max r (-r))) ≤ 0 := not_le.mpr (by positivity)
  have hm : ∀ a b : ℝ, max (a : EReal) (b : EReal) = ((max a b : ℝ) : EReal) := fun a b => (EReal.coe_strictMono.monotone.map_max).symm
  unfold soft Ideal.log1p
  rw [← EReal.coe_neg, hm, ← EReal.coe_neg, exp_coe, ← EReal.coe_one, ← EReal.coe_add, Ideal.log_coe, if_neg hp, ← EReal.coe_zero, hm, ← EReal.coe_add, soft_real]

/-- The two ways to write the gradient agree at a real logit. -/
theorem gate_grad (d : EReal) {z : EReal} (hz : IsReal z) : d * (1 - Ideal.exp (-soft z)) = -(-d * Ideal.exp (z - soft z)) := by
  obtain ⟨r, rfl⟩ := hz
  have hp : (0 : ℝ) < 1 + Real.exp r := by positivity
  have e : 1 - Real.exp (-Real.log (1 + Real.exp r)) = Real.exp (r - Real.log (1 + Real.exp r)) := by
    rw [Real.exp_sub, Real.exp_neg, Real.exp_log hp]
    field_simp
    ring
  rw [soft_coe, ← EReal.coe_neg, exp_coe, ← EReal.coe_one, ← EReal.coe_sub, ← EReal.coe_sub, exp_coe, e, EReal.neg_mul, neg_neg]

theorem soft_isReal {z : EReal} (hz : IsReal z) : IsReal (soft z) := by
  obtain ⟨r, rfl⟩ := hz
  exact ⟨_, soft_coe r⟩

/-- The gradient is real. -/
theorem gate_grad_isReal {d z : EReal} (hd : IsReal d) (hz : IsReal z) : IsReal (d * (1 - Ideal.exp (-soft z))) := by
  obtain ⟨r, rfl⟩ := hz
  rw [soft_coe, ← EReal.coe_neg, exp_coe]
  exact hd.mul (IsReal.sub ⟨1, rfl⟩ ⟨_, rfl⟩)

end Cert.AttnIn

end
-- ==== Proof.AttnIn.Reference.lean ====
module

public import proofs.«01_k».proof.Proof.Norm.Ref
public import proofs.«01_k».proof.Proof.Norm.Finite
public import proofs.«01_k».proof.Proof.AttnIn.Gate
public import proofs.«01_k».proof.Proof.Gen.ReferenceAttnInIdeal.Run
public import Idealize.ShloMosaic.Lib.Pipeline.ValueKit

@[expose] public section

set_option maxRecDepth 16384

noncomputable section

namespace Cert.AttnIn

open Idealize.ShloMosaic Idealize.ShloMosaic.TcCoe Idealize.SL.Sem
open Cert.ReferenceAttnInIdeal Cert.ReferenceAttnInIdeal.Gen Cert.Norm

/-! # The reference's five results -/

section
variable (o x : FVec Ideal S8192x1024 .f32) (g : FVec Ideal S1x1024 .f32) (q k v : FVec Ideal S8192x1024 .f32) (d : FVec Ideal S8192x16 .f32)
  (w : FVec Ideal S1024x3072 .f32) (f : FVec Ideal S1024x16 .f32) (b : FVec Ideal S1x16 .f32)

/-- A constant in all entries. -/
def refConst (c : BitVec 32) : FVec Ideal S8192x16 .f32 := broadcastInDim S8192x16 ![] bcast_S_S8192x16 (constant S_ .f32 c)

/-- The norm, the negated logits, their softplus. -/
def refH : FVec Ideal S8192x1024 .f32 := mulf (refUnit x) (broadcastInDim S8192x1024 ![0, 1] bcast_S1x1024_S8192x1024_0_1 g)
def refZ : FVec Ideal S8192x16 .f32 :=
  Host.negf (addf (Host.dotGeneral dot_S8192x1024_S1024x16_S8192x16_1_0_0_1_n_n none (refH x g) f) (broadcastInDim S8192x16 ![0, 1] bcast_S1x16_S8192x16_0_1 b))
def refSoft (z : FVec Ideal S8192x16 .f32) : FVec Ideal S8192x16 .f32 :=
  select (cmpf .une (subf z (refConst 0x00000000#32)) (subf z (refConst 0x00000000#32))) (addf z (refConst 0x00000000#32))
    (addf (maximumf z (refConst 0x00000000#32)) (Host.log1p (Host.exp (Host.negf (Host.absf (subf z (refConst 0x00000000#32)))))))
def refFinite (z : FVec Ideal S8192x16 .f32) : FVec Ideal S8192x16 .f32 := select (cmpf .oeq z (refConst 0x7F800000#32)) (refConst 0x00000000#32) z

/-- The gradient before the gate. -/
def refGate (z : FVec Ideal S8192x16 .f32) : FVec Ideal S8192x16 .f32 :=
  Host.negf (mulf (Host.negf d) (Host.exp (subf (refFinite z) (refFinite (refSoft z)))))
def refF : FVec Ideal S8192x16 .f32 := refGate d (refZ x g f b)

/-- The gradient of the norm's result. -/
def refDh : FVec Ideal S8192x1024 .f32 :=
  addf (Host.dotGeneral dot_S8192x3072_S1024x3072_S8192x1024_1_1_0_0_n_n none
      (concatenate S8192x3072 1 [⟨S8192x1024, q⟩, ⟨S8192x1024, k⟩, ⟨S8192x1024, v⟩] concatenates_S8192x1024_S8192x1024_S8192x1024_S8192x3072_d1) w)
    (Host.dotGeneral dot_S8192x16_S1024x16_S8192x1024_1_1_0_0_n_n none (refF x g d f b) f)
def refDx : FVec Ideal S8192x1024 .f32 := addf o (refBack x g (refDh x g q k v d w f b))
def refHalf : FVec Ideal S8192x1024 .bf16 := truncf .bf16 (refH x g) bitsLt_bf16_f32
def refDf : FVec Ideal S8192x128 .bf16 :=
  truncf .bf16 (pad S8192x128 ![0, 0] ![0, 112] ![0, 0] (refF x g d f b) (sitofp .f32 (constantI S_ 32 0#32)) pads_S8192x16_S8192x128_000_01120 h_S_) bitsLt_bf16_f32
def refSums : FVec Ideal S8x1024 .f32 :=
  pad S8x1024 ![0, 0] ![7, 0] ![0, 0] (refWeights x (refDh x g q k v d w f b)) (sitofp .f32 (constantI S_ 32 0#32)) pads_S1x1024_S8x1024_070_000 h_S_
def refDb : FVec Ideal S1x128 .f32 :=
  pad S1x128 ![0, 0] ![0, 112] ![0, 0] (shapeCast _ (Host.reduceAdd (refF x g d f b) (constant S_ .f32 0x00000000#32) reducesTo_S8192x16_S16_d0 h_S_) shapeCasts_S16_S1x16)
    (sitofp .f32 (constantI S_ 32 0#32)) pads_S1x16_S1x128_000_01120 h_S_
end

variable (o x : S8192x1024.Idx → EReal) (g : S1x1024.Idx → EReal) (q k v : S8192x1024.Idx → EReal) (d : S8192x16.Idx → EReal)
  (w : S1024x3072.Idx → EReal) (f : S1024x16.Idx → EReal) (b : S1x16.Idx → EReal)

theorem refH_apply (T : Fin 8192) (l : Fin 1024) : refH x g (ix2 T l) = x (ix2 T l) * scale (row x T) * g (ix2 0 l) := by
  pointwise [refH]
  rw [refUnit_apply]

theorem refZ_apply (T : Fin 8192) (e : Fin 16) : refZ x g f b (ix2 T e) = -((∑ k : Fin 1024, refH x g (ix2 T k) * f (ix2 k e)) + b (ix2 0 e)) := by
  pointwise [refZ]

theorem refSoft_apply (z : S8192x16.Idx → EReal) (T : Fin 8192) (e : Fin 16) : refSoft z (ix2 T e) = soft (z (ix2 T e)) := by
  pointwise [refSoft, refConst, soft]
  exact if_neg (not_not.mpr rfl)

theorem refFinite_apply (z : S8192x16.Idx → EReal) (T : Fin 8192) (e : Fin 16) (hz : IsReal (z (ix2 T e))) : refFinite z (ix2 T e) = z (ix2 T e) := by
  obtain ⟨r, hr⟩ := hz
  pointwise [refFinite, refConst]
  rw [hr, show Ideal.ofBits .f32 0x7F800000#32 = ⊤ by simp [Ideal.ofBits, Ideal.ieee]]
  exact if_neg (EReal.coe_ne_top r)

/-- At a real logit the gradient before the gate is the kernel's. -/
theorem refGate_apply (z : S8192x16.Idx → EReal) (T : Fin 8192) (e : Fin 16) (hz : IsReal (z (ix2 T e))) :
    refGate d z (ix2 T e) = d (ix2 T e) * (1 - Ideal.exp (-soft (z (ix2 T e)))) := by
  have hs : IsReal (refSoft z (ix2 T e)) := by
    rw [refSoft_apply]
    exact soft_isReal hz
  pointwise [refGate]
  rw [refFinite_apply z T e hz, refFinite_apply _ T e hs, refSoft_apply, gate_grad _ hz]

/-- Three rows beside each other, and a product with them. -/
def join (a b c : Fin 1024 → EReal) (j : Fin 3072) : EReal :=
  if h : j.val < 1024 then a ⟨j.val, h⟩ else if h' : j.val - 1024 < 1024 then b ⟨j.val - 1024, h'⟩ else c ⟨j.val - 1024 - 1024, by omega⟩

/-- Column `j` of part `s`. -/
def third (s : Fin 3) (j : Fin 1024) : Fin 3072 := ⟨s.val * 1024 + j.val, by have := s.isLt; have := j.isLt; omega⟩

theorem sum_join (a b c : Fin 1024 → EReal) (y : Fin 3072 → EReal) : ∑ j : Fin 3072, join a b c j * y j
    = (∑ j : Fin 1024, a j * y (third 0 j)) + (∑ j : Fin 1024, b j * y (third 1 j)) + ∑ j : Fin 1024, c j * y (third 2 j) := by
  have h : ∑ s : Fin 3, ∑ j : Fin 1024, join a b c (third s j) * y (third s j) = ∑ j : Fin 3072, join a b c j * y j :=
    Fin.sum_mul_add_congr fun s j hl => rfl
  rw [← h, Fin.sum_univ_three]
  refine congrArg₂ (· + ·) (congrArg₂ (· + ·) ?_ ?_) ?_ <;> refine Finset.sum_congr rfl fun j _ => congrArg (· * _) ?_ <;> have hj := j.isLt <;> unfold join
  · have h1 : (third 0 j).val = j.val := show 0 * 1024 + j.val = j.val by omega
    rw [dif_pos (by omega)]
    exact congrArg a (Fin.ext h1)
  · have h1 : (third 1 j).val = 1024 + j.val := show 1 * 1024 + j.val = 1024 + j.val by omega
    rw [dif_neg (by omega), dif_pos (by omega)]
    exact congrArg b (Fin.ext (by show (third 1 j).val - 1024 = j.val; omega))
  · have h1 : (third 2 j).val = 2048 + j.val := show 2 * 1024 + j.val = 2048 + j.val by omega
    rw [dif_neg (by omega), dif_neg (by omega)]
    exact congrArg c (Fin.ext (by show (third 2 j).val - 1024 - 1024 = j.val; omega))

theorem refDh_apply (T : Fin 8192) (l : Fin 1024) : refDh x g q k v d w f b (ix2 T l)
    = (∑ j : Fin 3072, join (row q T) (row k T) (row v T) j * w (ix2 l j)) + ∑ e : Fin 16, refF x g d f b (ix2 T e) * f (ix2 l e) := by
  pointwise [refDh]
  rfl

theorem refDx_apply (T : Fin 8192) (l : Fin 1024) : refDx o x g q k v d w f b (ix2 T l)
    = o (ix2 T l) + vjp (row x T) (row g 0) (row (refDh x g q k v d w f b) T) l := by
  pointwise [refDx]
  rw [refBack_apply]

theorem refHalf_apply (T : Fin 8192) (l : Fin 1024) : refHalf x g (ix2 T l) = x (ix2 T l) * scale (row x T) * g (ix2 0 l) := refH_apply x g T l

theorem word_pad : (((0#32 : BitVec 32).toInt : ℝ) : EReal) = 0 := by simp

theorem refDf_apply (T : Fin 8192) (e : Fin 128) : refDf x g d f b (ix2 T e) = if h : e.val < 16 then refF x g d f b (ix2 T ⟨e.val, h⟩) else 0 := by
  pointwise [refDf]
  split
  · rfl
  · exact word_pad

theorem refSums_apply (r : Fin 8) (l : Fin 1024) : refSums x g q k v d w f b (ix2 r l)
    = if r.val = 0 then ∑ T : Fin 8192, refDh x g q k v d w f b (ix2 T l) * (x (ix2 T l) * scale (row x T)) else 0 := by
  pointwise [refSums]
  by_cases h0 : r.val = 0
  · obtain rfl : r = 0 := Fin.ext h0
    exact (dif_pos (by decide)).trans ((refWeights_apply _ _ l).trans (if_pos rfl).symm)
  · rw [if_neg h0, dif_neg (by omega)]
    exact word_pad

theorem refDb_apply (e : Fin 128) : refDb x g d f b (ix2 0 e) = if h : e.val < 16 then ∑ T : Fin 8192, refF x g d f b (ix2 T ⟨e.val, h⟩) else 0 := by
  pointwise [refDb]
  split
  · rfl
  · exact word_pad

end Cert.AttnIn

end
-- ==== Proof.AttnIn.Value.lean ====
module

public import proofs.«01_k».proof.Pre_finite_ai
public import proofs.«01_k».proof.Proof.AttnIn.Final
public import proofs.«01_k».proof.Proof.AttnIn.Reference

@[expose] public section

set_option maxRecDepth 16384

noncomputable section

namespace Cert.AttnIn

open Idealize.ShloMosaic Idealize.ShloMosaic.TcCoe Idealize.ShloMosaic.StableHlo Idealize.SL.Sem
open Cert.KernelAttnInIdeal Cert.KernelAttnInIdeal.Gen Cert.Norm

/-! # The five outputs are the reference's results -/

variable (m : (ℓ : Loc nD τ sig) → Buf (Elt Ideal) ℓ)

/-- The ten arguments: cotangent, input, norm's weights, the gradients of q, k, v and of the gate's logarithm, the products' weights, the gate's weights and bias. -/
def argO (c : Dev nD) : S8192x1024.Idx → EReal := m ((c.tc : Thread nD τ).loc main_arg0)
def argX (c : Dev nD) : S8192x1024.Idx → EReal := m ((c.tc : Thread nD τ).loc main_arg1)
def argG (c : Dev nD) : S1x1024.Idx → EReal := m ((c.tc : Thread nD τ).loc main_arg2)
def argQ (c : Dev nD) : S8192x1024.Idx → EReal := m ((c.tc : Thread nD τ).loc main_arg3)
def argK (c : Dev nD) : S8192x1024.Idx → EReal := m ((c.tc : Thread nD τ).loc main_arg4)
def argV (c : Dev nD) : S8192x1024.Idx → EReal := m ((c.tc : Thread nD τ).loc main_arg5)
def argD (c : Dev nD) : S8192x16.Idx → EReal := m ((c.tc : Thread nD τ).loc main_arg6)
def argW (c : Dev nD) : S1024x3072.Idx → EReal := m ((c.tc : Thread nD τ).loc main_arg7)
def argF (c : Dev nD) : S1024x16.Idx → EReal := m ((c.tc : Thread nD τ).loc main_arg8)
def argB (c : Dev nD) : S1x16.Idx → EReal := m ((c.tc : Thread nD τ).loc main_arg9)

/-- Sixteen columns widened to 128 lanes. -/
def lanes (d : FVec Ideal S8192x16 .f32) : FVec Ideal S8192x128 .f32 :=
  pad S8192x128 ![0, 0] ![0, 112] ![0, 0] d (sitofp (F := Ideal) .f32 (constantI S_ 32 0#32)) pads_S8192x16_S8192x128_000_01120 h_S_
def lanesF (f : FVec Ideal S1024x16 .bf16) : FVec Ideal S1024x128 .bf16 :=
  pad S1024x128 ![0, 0] ![0, 112] ![0, 0] f (sitofp (F := Ideal) .bf16 (constantI S_ 32 0#32)) pads_S1024x16_S1024x128_000_01120 h_S_

theorem lanes_apply (d : S8192x16.Idx → EReal) (T : Fin 8192) (e : Fin 128) : lanes d (ix2 T e) = if h : e.val < 16 then d (ix2 T ⟨e.val, h⟩) else 0 := by
  pointwise [lanes]
  split
  · rfl
  · exact word_pad

theorem lanesF_apply (f : S1024x16.Idx → EReal) (l : Fin 1024) (e : Fin 128) : lanesF f (ix2 l e) = if h : e.val < 16 then f (ix2 l ⟨e.val, h⟩) else 0 := by
  pointwise [lanesF]
  split
  · rfl
  · exact word_pad

/-- What the host operations leave in the arrays the region reads. -/
theorem inO_eq (c : Dev nD) : inO m c = argO m c := by
  unfold inO V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inX_eq (c : Dev nD) : inX m c = argX m c := by
  unfold inX V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inG_eq (c : Dev nD) : inG m c = argG m c := by
  unfold inG V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inQ_eq (c : Dev nD) : inQ m c = argQ m c := by
  unfold inQ V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inK_eq (c : Dev nD) : inK m c = argK m c := by
  unfold inK V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inV_eq (c : Dev nD) : inV m c = argV m c := by
  unfold inV V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inD_eq (c : Dev nD) : inD m c = lanes (argD m c) := by
  unfold inD V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inL_eq (c : Dev nD) : inL m c = lanes (Host.negf (refSoft (refZ (argX m c) (argG m c) (argF m c) (argB m c)))) := by
  unfold inL V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inW_eq (c : Dev nD) : inW m c = argW m c := by
  unfold inW V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

theorem inF_eq (c : Dev nD) : inF m c = lanesF (argF m c) := by
  unfold inF V
  simp only [hostOps0, hostOps0_1, hostOps0_2, hostOps0_3, hostOps0_4, hostOps0_5, hostOps0_6, hostOps0_7, List.flatten_cons, List.flatten_nil, List.append_nil, List.cons_append, List.nil_append, TRef.ternary, TRef.binary, TRef.nullary, TRef.unary, TRef.toBuf, TRef.ofBuf, cast_eq]
  after_results; rfl

section
variable [Cert.Pre_finite_ai.Facts]

/-- Under the precondition the arguments are real. -/
theorem reals {o x : S8192x1024.Idx → EReal} {g : S1x1024.Idx → EReal} {q k v : S8192x1024.Idx → EReal} {d : S8192x16.Idx → EReal} {w : S1024x3072.Idx → EReal}
    {f : S1024x16.Idx → EReal} {b : S1x16.Idx → EReal}
    (h : (Cert.Pre_finite_ai.fn (F := Ideal) o x g q k v d w f b).1 = (fun _ => 1#1) ∧ (Cert.Pre_finite_ai.fn (F := Ideal) o x g q k v d w f b).2.1 = (fun _ => 1#1)
      ∧ (Cert.Pre_finite_ai.fn (F := Ideal) o x g q k v d w f b).2.2.1 = (fun _ => 1#1) ∧ (Cert.Pre_finite_ai.fn (F := Ideal) o x g q k v d w f b).2.2.2.1 = (fun _ => 1#1)
      ∧ (Cert.Pre_finite_ai.fn (F := Ideal) o x g q k v d w f b).2.2.2.2.1 = (fun _ => 1#1) ∧ (Cert.Pre_finite_ai.fn (F := Ideal) o x g q k v d w f b).2.2.2.2.2 = fun _ => 1#1) :
    (∀ i, IsReal (x i)) ∧ (∀ i, IsReal (g i)) ∧ (∀ i, IsReal (q i)) ∧ (∀ i, IsReal (k i)) ∧ (∀ i, IsReal (v i)) ∧ (∀ i, IsReal (d i)) ∧ (∀ i, IsReal (w i))
      ∧ (∀ i, IsReal (f i)) ∧ ∀ i, IsReal (b i) :=
  have hk i := and_one (congrFun h.1 i)
  have hq i := and_one (hk i).1
  have hx i := and_one (hq i).1
  ⟨fun i => isReal_of_lt (and_one (hx i).1).2, fun i => isReal_of_lt (congrFun h.2.1 i), fun i => isReal_of_lt (hx i).2, fun i => isReal_of_lt (hq i).2,
    fun i => isReal_of_lt (hk i).2, fun i => isReal_of_lt (congrFun h.2.2.1 i), fun i => isReal_of_lt (congrFun h.2.2.2.1 i), fun i => isReal_of_lt (congrFun h.2.2.2.2.1 i),
    fun i => isReal_of_lt (congrFun h.2.2.2.2.2 i)⟩
end

/-- A sum over 128 lanes of which only sixteen hold something. -/
theorem sum_lanes (a y : Fin 16 → EReal) :
    (∑ e : Fin 128, (if h : e.val < 16 then a ⟨e.val, h⟩ else 0) * (if h : e.val < 16 then y ⟨e.val, h⟩ else 0)) = ∑ e : Fin 16, a e * y e := by
  have h : ∀ z : Fin 128 → EReal, (∀ e : Fin 112, z ⟨16 + e.val, by omega⟩ = 0) → ∑ e : Fin 128, z e = ∑ e : Fin 16, z ⟨e.val, by omega⟩ := fun z hz => by
    refine (Fin.sum_univ_add (a := 16) (b := 112) z).trans ?_
    rw [show ∑ i : Fin 112, z (Fin.natAdd 16 i) = 0 from Finset.sum_eq_zero fun e _ => hz e, add_zero]
    rfl
  rw [h _ fun e => by rw [dif_neg (by show ¬16 + e.val < 16; omega), zero_mul]]
  exact Finset.sum_congr rfl fun e _ => by rw [dif_pos e.isLt, dif_pos e.isLt]

section
variable {o x : S8192x1024.Idx → EReal} {g : S1x1024.Idx → EReal} {q k v : S8192x1024.Idx → EReal} {d : S8192x16.Idx → EReal} {w : S1024x3072.Idx → EReal}
  {f : S1024x16.Idx → EReal} {b : S1x16.Idx → EReal}
  (hx : ∀ i, IsReal (x i)) (hg : ∀ i, IsReal (g i)) (hf : ∀ i, IsReal (f i)) (hb : ∀ i, IsReal (b i))

include hx hg hf hb

/-- The logits are real. -/
theorem z_isReal (T : Fin 8192) (e : Fin 16) : IsReal (refZ x g f b (ix2 T e)) := by
  obtain ⟨r, hr⟩ : IsReal ((∑ k : Fin 1024, refH x g (ix2 T k) * f (ix2 k e)) + b (ix2 0 e)) := by
    refine (IsReal.sum _ _ fun k => IsReal.mul ?_ (hf _)).add (hb _)
    rw [refH_apply]
    exact ((hx _).mul (scale_isReal fun _ => hx _)).mul (hg _)
  rw [refZ_apply, hr]
  exact ⟨-r, rfl⟩

/-- The kernel's gradient before the gate is the reference's, widened. -/
theorem df_eq (T : Fin 8192) (e : Fin 128) :
    dfArr (lanes d) (lanes (Host.negf (refSoft (refZ x g f b)))) T e = if h : e.val < 16 then refF x g d f b (ix2 T ⟨e.val, h⟩) else 0 := by
  unfold dfArr gradF
  rw [lanes_apply, lanes_apply]
  by_cases h : e.val < 16
  · rw [if_pos h, dif_pos h, dif_pos h, dif_pos h]
    unfold refF
    rw [refGate_apply d _ T _ (z_isReal hx hg hf hb T _), ← refSoft_apply]
    rfl
  · rw [if_neg h, dif_neg h]

theorem dh_eq (T : Fin 8192) (l : Fin 1024) :
    dhArr q k v (lanes d) (lanes (Host.negf (refSoft (refZ x g f b)))) w (lanesF f) T l = refDh x g q k v d w f b (ix2 T l) := by
  rw [refDh_apply, sum_join, ← sum_lanes]
  unfold dhArr
  simp only [df_eq hx hg hf hb, lanesF_apply]
  rfl

theorem dh_isReal (hq : ∀ i, IsReal (q i)) (hk : ∀ i, IsReal (k i)) (hv : ∀ i, IsReal (v i)) (hd : ∀ i, IsReal (d i)) (hw : ∀ i, IsReal (w i))
    (T : Fin 8192) (l : Fin 1024) : IsReal (row (refDh x g q k v d w f b) T l) := by
  unfold row
  rw [refDh_apply]
  refine (IsReal.sum _ _ fun j => IsReal.mul ?_ (hw _)).add (IsReal.sum _ _ fun e => IsReal.mul ?_ (hf _))
  · unfold join
    split
    · exact hq _
    · split
      · exact hk _
      · exact hv _
  · unfold refF
    rw [refGate_apply d _ T _ (z_isReal hx hg hf hb T _)]
    exact gate_grad_isReal (hd _) (z_isReal hx hg hf hb T _)

theorem dxFun_eq (hq : ∀ i, IsReal (q i)) (hk : ∀ i, IsReal (k i)) (hv : ∀ i, IsReal (v i)) (hd : ∀ i, IsReal (d i)) (hw : ∀ i, IsReal (w i)) :
    (fun i : S8192x1024.Idx => dxArr o x g q k v (lanes d) (lanes (Host.negf (refSoft (refZ x g f b)))) w (lanesF f) (i 0) (i 1)) = refDx o x g q k v d w f b := by
  funext i
  obtain ⟨T, l, rfl⟩ : ∃ (r : Fin 8192) (l : Fin 1024), i = ix2 r l := ⟨i 0, i 1, eq_ix2 i⟩
  rw [refDx_apply, vjp_eq_back (x := row x T) (g := row g 0) (fun _ => hx _) (fun _ => hg _) (dh_isReal hx hg hf hb hq hk hv hd hw T),
    ← show dhArr q k v (lanes d) (lanes (Host.negf (refSoft (refZ x g f b)))) w (lanesF f) T = row (refDh x g q k v d w f b) T from funext fun l => dh_eq hx hg hf hb T l]
  rfl

theorem dfFun_eq : (fun i : S8192x128.Idx => dfArr (lanes d) (lanes (Host.negf (refSoft (refZ x g f b)))) (i 0) (i 1)) = refDf x g d f b := by
  funext i
  obtain ⟨T, e, rfl⟩ : ∃ (r : Fin 8192) (e : Fin 128), i = ix2 r e := ⟨i 0, i 1, eq_ix2 i⟩
  exact (df_eq hx hg hf hb T e).trans (refDf_apply x g d f b T e).symm

theorem sumsFun_eq : (fun i : S8x1024.Idx => if (i 0).val = 0 then dgArr x q k v (lanes d) (lanes (Host.negf (refSoft (refZ x g f b)))) w (lanesF f) (i 1) else (0 : EReal))
    = refSums x g q k v d w f b := by
  funext i
  obtain ⟨r, l, rfl⟩ : ∃ (r : Fin 8) (l : Fin 1024), i = ix2 r l := ⟨i 0, i 1, eq_ix2 i⟩
  refine Eq.trans ?_ (refSums_apply _ _ _ _ _ _ _ _ _ r l).symm
  have h : dgArr x q k v (lanes d) (lanes (Host.negf (refSoft (refZ x g f b)))) w (lanesF f) l
      = ∑ T : Fin 8192, refDh x g q k v d w f b (ix2 T l) * (x (ix2 T l) * scale (row x T)) :=
    Finset.sum_congr rfl fun T _ => by rw [dh_eq hx hg hf hb]
  rw [← h]
  rfl

theorem dbFun_eq : (fun i : S1x128.Idx => dbArr (lanes d) (lanes (Host.negf (refSoft (refZ x g f b)))) (i 1)) = refDb x g d f b := by
  funext i
  obtain ⟨r, e, rfl⟩ : ∃ (r : Fin 1) (e : Fin 128), i = ix2 r e := ⟨i 0, i 1, eq_ix2 i⟩
  obtain rfl : r = 0 := Subsingleton.elim _ _
  refine Eq.trans ?_ (refDb_apply x g d f b e).symm
  refine (Finset.sum_congr rfl fun T _ => df_eq hx hg hf hb T e).trans ?_
  by_cases h : e.val < 16
  · simp only [dif_pos h]
  · simp only [dif_neg h]
    exact Finset.sum_const_zero
end

theorem hFun_eq (x : S8192x1024.Idx → EReal) (g : S1x1024.Idx → EReal) : (fun i : S8192x1024.Idx => hArr x g (i 0) (i 1)) = refHalf x g := by
  funext i
  obtain ⟨r, l, rfl⟩ : ∃ (r : Fin 8192) (l : Fin 1024), i = ix2 r l := ⟨i 0, i 1, eq_ix2 i⟩
  exact (refHalf_apply _ _ r l).symm

set_option maxHeartbeats 2000000 in
/-- The five output arrays are the reference's five results. -/
theorem values (c : Dev nD) (hx : ∀ i, IsReal (argX m c i)) (hg : ∀ i, IsReal (argG m c i)) (hq : ∀ i, IsReal (argQ m c i)) (hk : ∀ i, IsReal (argK m c i))
    (hv : ∀ i, IsReal (argV m c i)) (hd : ∀ i, IsReal (argD m c i)) (hw : ∀ i, IsReal (argW m c i)) (hf : ∀ i, IsReal (argF m c i)) (hb : ∀ i, IsReal (argB m c i)) :
    (dats m 0 c).arrAt 10 cfg0.N = refDx (argO m c) (argX m c) (argG m c) (argQ m c) (argK m c) (argV m c) (argD m c) (argW m c) (argF m c) (argB m c)
    ∧ (dats m 0 c).arrAt 11 cfg0.N = refHalf (argX m c) (argG m c)
    ∧ (dats m 0 c).arrAt 12 cfg0.N = refDf (argX m c) (argG m c) (argD m c) (argF m c) (argB m c)
    ∧ (dats m 0 c).arrAt 13 cfg0.N = refSums (argX m c) (argG m c) (argQ m c) (argK m c) (argV m c) (argD m c) (argW m c) (argF m c) (argB m c)
    ∧ (dats m 0 c).arrAt 14 cfg0.N = refDb (argX m c) (argG m c) (argD m c) (argF m c) (argB m c) := by
  rw [final_dx, final_h, final_df, final_sums, final_db, inO_eq, inX_eq, inG_eq, inQ_eq, inK_eq, inV_eq, inD_eq, inL_eq, inW_eq, inF_eq]
  have h0 := dxFun_eq (o := argO m c) hx hg hf hb hq hk hv hd hw
  have h2 := dfFun_eq (d := argD m c) hx hg hf hb
  have h3 := sumsFun_eq (q := argQ m c) (k := argK m c) (v := argV m c) (d := argD m c) (w := argW m c) hx hg hf hb
  have h4 := dbFun_eq (d := argD m c) hx hg hf hb
  refine ⟨?_, hFun_eq (argX m c) (argG m c), ?_, ?_, ?_⟩
  · exact h0
  · exact h2
  · exact h3
  · exact h4

end Cert.AttnIn

end
-- ==== Proof.AttnIn.Claims.lean ====
module

public import proofs.«01_k».proof.Defs
public import proofs.«01_k».proof.Proof.Gen.KernelAttnIn.Frame
public import proofs.«01_k».proof.Proof.AttnIn.Value
public import proofs.«01_k».proof.Proof.Gen.ReferenceAttnInIdeal.Run
public import Idealize.ShloMosaic.Lib.Claim

@[expose] public section

noncomputable section

namespace Cert.Proof

open Idealize.ShloMosaic Idealize.SL.Sem

set_option maxHeartbeats 2000000 in
/-- The gradient through the attention's input products, its gate and norm: on finite arguments kernel and reference end with equal results on the ideal numbers. -/
theorem attn_in_value [hPre_finite_ai : Cert.Pre_finite_ai.Facts] : Cert.algebraic_KernelAttnInIdeal_ReferenceAttnInIdeal_pre_finite_ai := by
  intro m g m' g' hpre hagree
  refine ⟨_, _, _, _, _, Cert.KernelAttnInIdeal.Value.run_blocks m g, ?_⟩
  refine (θ_run Cert.ReferenceAttnInIdeal.defs _ _).mono (fun _ h c => ?_) (Cert.ReferenceAttnInIdeal.Value.run (F := Ideal) m' g')
  obtain ⟨hx, hg, hq, hk, hv, hd, hw, hf, hb⟩ := Cert.AttnIn.reals (hpre c)
  obtain ⟨e0, e1, e2, e3, e4⟩ := Cert.AttnIn.values m c hx hg hq hk hv hd hw hf hb
  obtain ⟨a0, a1, a2, a3, a4, a5, a6, a7, a8, a9⟩ := hagree c
  obtain ⟨r0, r1, r2, r3, r4, k⟩ := h c
  unfold Cert.ReferenceAttnInIdeal.Value.res_main_v46 at r0
  unfold Cert.ReferenceAttnInIdeal.Value.res_main_v49 at r2
  unfold Cert.ReferenceAttnInIdeal.Value.res_main_v50 at r3
  unfold Cert.ReferenceAttnInIdeal.Value.res_main_v51 at r4
  rw [a0, a1, a2, a3, a4, a5, a6, a7, a8, a9] at r0
  rw [a1, a2] at r1
  rw [a1, a2, a6, a8, a9] at r2 r4
  rw [a1, a2, a3, a4, a5, a6, a7, a8, a9] at r3
  exact ⟨r0.trans e0.symm, r1.trans e1.symm, r2.trans e2.symm, r3.trans e3.symm, r4.trans e4.symm, k⟩

/-- The reference terminates, its arguments unchanged. -/
theorem attn_in_reference : Cert.quiescent_ReferenceAttnInIdeal := by
  intro m g _
  run_from Cert.ReferenceAttnInIdeal.Value.run m g
  · exact fun _ => ⟨trivial, trivial, trivial, trivial, trivial, trivial, trivial, trivial, trivial, trivial⟩
  · exact funext fun s => nomatch s

end Cert.Proof

end
-- ==== Proof.Forward.Norm.lean ====
module

public import proofs.«01_k».proof.Proof.Norm.Ref
public import proofs.«01_k».proof.Proof.Norm.Rows

@[expose] public section

set_option maxRecDepth 16384

noncomputable section

namespace Cert.Norm

open Idealize.ShloMosaic Idealize.ShloMosaic.TcCoe Idealize.SL.Sem
open Cert.ReferenceAttnOutIdeal Cert.ReferenceAttnOutIdeal.Gen

/-! # The forward root-mean-square norm -/

/-- The norm of a row times its weights. -/
def rms (x g : Fin 1024 → EReal) (l : Fin 1024) : EReal := x l * scale x * g l

/-- The references' norm, and the residual plus it. -/
def refNorm (M : FVec Ideal S8192x1024 .f32) (G : FVec Ideal S1x1024 .f32) : FVec Ideal S8192x1024 .f32 :=
  mulf (refUnit M) (broadcastInDim S8192x1024 ![0, 1] bcast_S1x1024_S8192x1024_0_1 G)

def refResidual (X M : FVec Ideal S8192x1024 .f32) (G : FVec Ideal S1x1024 .f32) : FVec Ideal S8192x1024 .f32 := addf X (refNorm M G)

theorem refNorm_apply (M : S8192x1024.Idx → EReal) (G : S1x1024.Idx → EReal) (T : Fin 8192) (l : Fin 1024) :
    refNorm M G (ix2 T l) = rms (row M T) (row G 0) l := by
  pointwise [refNorm]
  rw [refUnit_apply]
  rfl

theorem refResidual_apply (X M : S8192x1024.Idx → EReal) (G : S1x1024.Idx → EReal) (T : Fin 8192) (l : Fin 1024) :
    refResidual X M G (ix2 T l) = X (ix2 T l) + rms (row M T) (row G 0) l := by
  pointwise [refResidual]
  rw [refNorm_apply]

/-- The whole matrix loaded. -/
theorem ld_whole {Val : EltTy → Type} [∀ e, Nonempty (Val e)] {e : EltTy} {R n : ℕ} (X : (⟨2, ![R, n]⟩ : Shape).Idx → Val e)
    (inb : ∀ a : Fin 2, (![0, 0] : Fin 2 → ℕ) a + (![R, n] : Fin 2 → ℕ) a ≤ (![R, n] : Fin 2 → ℕ) a) :
    View.ld X (Rect.unit (s := ⟨2, ![R, n]⟩) ![0, 0] ![R, n] inb) = X :=
  funext fun i => congrArg X (funext fun a =>
    match a with
    | ⟨0, _⟩ => Fin.ext (show 0 + 1 * (i 0).val = (i 0).val by omega)
    | ⟨1, _⟩ => Fin.ext (show 0 + 1 * (i 1).val = (i 1).val by omega))

end Cert.Norm

end
-- ==== Proof.Forward.AttnOut.lean ====
module

public import proofs.«01_k».proof.Proof.Forward.Norm
public import proofs.«01_k».proof.Proof.Norm.Rows
public import proofs.«01_k».proof.Proof.Gen.KernelAttnOutFwdIdeal.Value
public import proofs.«01_k».proof.Proof.Gen.ReferenceAttnOutFwdIdeal.Run

@[expose] public section

set_option maxRecDepth 16384

noncomputable section

namespace Cert.AttnOutFwd

open Idealize.ShloMosaic Idealize.ShloMosaic.TcCoe Idealize.ShloMosaic.StableHlo Idealize.SL.Sem
open Cert.KernelAttnOutFwdIdeal Cert.KernelAttnOutFwdIdeal.Gen Cert.Norm

/-! # The attention's output projection with its norm: one point, the arrays after the run, the reference -/

theorem pay1_apply (o : S512x1024.Idx → EReal) (w : S1024x1024.Idx → EReal) (r : Fin 512) (l : Fin 1024) :
    k0_pay1 (F := Ideal) o w (ix2 r l) = ∑ k : Fin 1024, o (ix2 r k) * w (ix2 k l) := by
  pointwise [k0_pay1]

theorem pay2_apply (o : S512x1024.Idx → EReal) (w : S1024x1024.Idx → EReal) (x : S512x1024.Idx → EReal) (g : S1x1024.Idx → EReal) (r : Fin 512) (l : Fin 1024) :
    k0_pay2 (F := Ideal) o w x g (ix2 r l) = x (ix2 r l) + rms (row (k0_pay1 (F := Ideal) o w) r) (row g 0) l := by
  pointwise [k0_pay2, rms, scale, power, row]

variable (m : (ℓ : Loc nD τ sig) → Buf (Elt Ideal) ℓ)

/-- The arrays the region reads: attention's output, residual, weights, norm's weights. -/
def inO (c : Dev nD) : S8192x1024.Idx → EReal := V m c (Pipeline.arrRef spec0 0)
def inX (c : Dev nD) : S8192x1024.Idx → EReal := V m c (Pipeline.arrRef spec0 1)
def inW (c : Dev nD) : S1024x1024.Idx → EReal := V m c (Pipeline.arrRef spec0 2)
def inG (c : Dev nD) : S1x1024.Idx → EReal := V m c (Pipeline.arrRef spec0 3)

/-- Their blocks at a point. -/
def blkO (c : Dev nD) (t : Fin cfg0.N) : S512x1024.Idx → EReal := iblk m c 0 t
def blkX (c : Dev nD) (t : Fin cfg0.N) : S512x1024.Idx → EReal := iblk m c 1 t
def blkW (c : Dev nD) (t : Fin cfg0.N) : S1024x1024.Idx → EReal := iblk m c 2 t
def blkG (c : Dev nD) (t : Fin cfg0.N) : S1x1024.Idx → EReal := iblk m c 3 t

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem lt_rows (t : Fin cfg0.N) (r : Fin 512) : t.val * 512 + r < 8192 := by
  have ht : t.val < 16 := lt_of_lt_of_eq t.isLt N_0
  have := r.isLt
  omega

/-- Row `r` of the block at point `t` is this row of the array. -/
def at_ (t : Fin cfg0.N) (r : Fin 512) : Fin 8192 := ⟨t.val * 512 + r, lt_rows t r⟩

theorem blkO_apply (c : Dev nD) (t : Fin cfg0.N) (r : Fin 512) (l : Fin 1024) : blkO m c t (ix2 r l) = inO m c (ix2 (at_ t r) l) := by
  unfold blkO inO iblk
  blk_ext [iblk, (idx t).1]
  rfl

theorem blkX_apply (c : Dev nD) (t : Fin cfg0.N) (r : Fin 512) (l : Fin 1024) : blkX m c t (ix2 r l) = inX m c (ix2 (at_ t r) l) := by
  unfold blkX inX iblk
  blk_ext [iblk, (idx t).2.1]
  rfl

theorem blkW_eq (c : Dev nD) (t : Fin cfg0.N) : blkW m c t = inW m c := by
  funext i
  obtain ⟨r, l, rfl⟩ : ∃ (r : Fin 1024) (l : Fin 1024), i = ix2 r l := ⟨i 0, i 1, eq_ix2 i⟩
  unfold blkW inW iblk
  blk_ext [iblk, (idx t).2.2.1]

theorem blkG_eq (c : Dev nD) (t : Fin cfg0.N) : blkG m c t = inG m c := by
  funext i
  obtain ⟨r, l, rfl⟩ : ∃ (r : Fin 1) (l : Fin 1024), i = ix2 r l := ⟨i 0, i 1, eq_ix2 i⟩
  unfold blkG inG iblk
  blk_ext [iblk, (idx t).2.2.2.1]

/-- What a point leaves in the outputs. -/
theorem outs_m (c : Dev nD) (t : Fin cfg0.N) : (dats m 0 c).after 4 t = k0_pay1 (F := Ideal) (blkO m c t) (blkW m c t) := by
  rw [after0_4]; unfold out0_4; frame_out; rfl

theorem outs_x (c : Dev nD) (t : Fin cfg0.N) : (dats m 0 c).after 5 t = k0_pay2 (F := Ideal) (blkO m c t) (blkW m c t) (blkX m c t) (blkG m c t) := by
  rw [after0_5]; unfold out0_5; frame_out; rfl

/-- The output product. -/
def mArr (O : S8192x1024.Idx → EReal) (W : S1024x1024.Idx → EReal) (T : Fin 8192) (l : Fin 1024) : EReal := ∑ k : Fin 1024, O (ix2 T k) * W (ix2 k l)

theorem pay1_blk (c : Dev nD) (t : Fin cfg0.N) (r : Fin 512) (l : Fin 1024) :
    k0_pay1 (F := Ideal) (blkO m c t) (blkW m c t) (ix2 r l) = mArr (inO m c) (inW m c) (at_ t r) l := by
  rw [pay1_apply, blkW_eq]
  exact Finset.sum_congr rfl fun k _ => by rw [blkO_apply]

theorem final_m (c : Dev nD) : (dats m 0 c).arrAt 4 cfg0.N = fun i : S8192x1024.Idx => mArr (inO m c) (inW m c) (i 0) (i 1) := by
  generalize hA : (fun i : S8192x1024.Idx => mArr (inO m c) (inW m c) (i 0) (i 1)) = A
  refine (dats m 0 c).arrAt_eq_of_covers 4 _ (by decide +kernel) fun t hf y => ?_
  blk_simp
  rw [outs_m]
  obtain ⟨r, l, rfl⟩ : ∃ (r : Fin 512) (l : Fin 1024), y = ix2 r l := ⟨y 0, y 1, eq_ix2 y⟩
  refine (pay1_blk m c t r l).trans ((congrFun hA (ix2 (at_ t r) l)).trans ?_)
  blk_point [idx t, at_]

theorem final_x (c : Dev nD) : (dats m 0 c).arrAt 5 cfg0.N = fun i : S8192x1024.Idx =>
    inX m c (ix2 (i 0) (i 1)) + rms (mArr (inO m c) (inW m c) (i 0)) (row (inG m c) 0) (i 1) := by
  generalize hA : (fun i : S8192x1024.Idx => inX m c (ix2 (i 0) (i 1)) + rms (mArr (inO m c) (inW m c) (i 0)) (row (inG m c) 0) (i 1)) = A
  refine (dats m 0 c).arrAt_eq_of_covers 5 _ (by decide +kernel) fun t hf y => ?_
  blk_simp
  rw [outs_x]
  obtain ⟨r, l, rfl⟩ : ∃ (r : Fin 512) (l : Fin 1024), y = ix2 r l := ⟨y 0, y 1, eq_ix2 y⟩
  refine (pay2_apply _ _ _ _ r l).trans ?_
  rw [show row (k0_pay1 (F := Ideal) (blkO m c t) (blkW m c t)) r = mArr (inO m c) (inW m c) (at_ t r) from funext (pay1_blk m c t r), blkX_apply, blkG_eq]
  refine (congrFun hA (ix2 (at_ t r) l)).trans ?_
  blk_point [idx t, at_]

/-- The four arguments. -/
def argO (c : Dev nD) : S8192x1024.Idx → EReal := m ((c.tc : Thread nD τ).loc main_arg0)
def argX (c : Dev nD) : S8192x1024.Idx → EReal := m ((c.tc : Thread nD τ).loc main_arg1)
def argW (c : Dev nD) : S1024x1024.Idx → EReal := m ((c.tc : Thread nD τ).loc main_arg2)
def argG (c : Dev nD) : S1x1024.Idx → EReal := m ((c.tc : Thread nD τ).loc main_arg3)

/-- What the host operations leave in the arrays the region reads. -/
theorem ins (c : Dev nD) : inO m c = argO m c ∧ inX m c = argX m c ∧ inW m c = argW m c ∧ inG m c = argG m c := by
  unfold inO inX inW inG V
  simp only [hostOps0, TRef.ternary, TRef.binary, TRef.nullary, TRef.unary, TRef.toBuf, TRef.ofBuf, cast_eq]
  refine ⟨?_, ?_, ?_, ?_⟩ <;> after_results <;> rfl

/-- The reference's product. -/
def refM (o : FVec Ideal S8192x1024 .f32) (w : FVec Ideal S1024x1024 .f32) : FVec Ideal S8192x1024 .f32 :=
  Host.dotGeneral Cert.ReferenceAttnOutFwdIdeal.dot_S8192x1024_S1024x1024_S8192x1024_1_0_0_1_n_n none o w

theorem refM_apply (o : S8192x1024.Idx → EReal) (w : S1024x1024.Idx → EReal) (T : Fin 8192) (l : Fin 1024) : refM o w (ix2 T l) = mArr o w T l := by
  pointwise [refM, mArr]

/-- The two output arrays are the reference's two results. -/
theorem values (c : Dev nD) : (dats m 0 c).arrAt 4 cfg0.N = refM (argO m c) (argW m c)
    ∧ (dats m 0 c).arrAt 5 cfg0.N = refResidual (argX m c) (refM (argO m c) (argW m c)) (argG m c) := by
  obtain ⟨h1, h2, h3, h4⟩ := ins m c
  rw [final_m, final_x, h1, h2, h3, h4]
  refine ⟨funext fun i => ?_, funext fun i => ?_⟩
  · obtain ⟨r, l, rfl⟩ : ∃ (r : Fin 8192) (l : Fin 1024), i = ix2 r l := ⟨i 0, i 1, eq_ix2 i⟩
    exact (refM_apply _ _ r l).symm
  · obtain ⟨r, l, rfl⟩ : ∃ (r : Fin 8192) (l : Fin 1024), i = ix2 r l := ⟨i 0, i 1, eq_ix2 i⟩
    refine Eq.trans ?_ (refResidual_apply _ _ _ r l).symm
    rw [show row (refM (argO m c) (argW m c)) r = mArr (argO m c) (argW m c) r from funext (refM_apply _ _ r)]
    rfl

end Cert.AttnOutFwd

end
-- ==== Proof.Forward.ConvOut.lean ====
module

public import proofs.«01_k».proof.Proof.Forward.Norm
public import proofs.«01_k».proof.Proof.ConvOut.Reference
public import proofs.«01_k».proof.Proof.Gen.KernelConvOutFwdIdeal.Value
public import proofs.«01_k».proof.Proof.Gen.ReferenceConvOutFwdIdeal.Run

@[expose] public section

set_option maxRecDepth 16384

noncomputable section

namespace Cert.ConvOutFwd

open Idealize.ShloMosaic Idealize.ShloMosaic.TcCoe Idealize.ShloMosaic.StableHlo Idealize.SL.Sem
open Cert.KernelConvOutFwdIdeal Cert.KernelConvOutFwdIdeal.Gen Cert.Norm

/-! # The convolution's layer norm, swish, output product and norm: one point, the arrays after the run, the reference -/

/-- The swish of the layer norm. -/
def swish (y p q : Fin 1024 → EReal) (l : Fin 1024) : EReal :=
  ConvOut.layer y p q l * Ideal.div 1 (1 + Ideal.exp (0 - ConvOut.layer y p q l))

section
variable (y x : S512x1024.Idx → EReal) (p q b g : S1x1024.Idx → EReal) (w : S1024x1024.Idx → EReal)

theorem pay2_apply (r : Fin 512) (l : Fin 1024) : k0_pay2 (F := Ideal) y p q w b (ix2 r l)
    = (∑ k : Fin 1024, swish (row y r) (row p 0) (row q 0) k * w (ix2 k l)) + b (ix2 0 l) := by
  pointwise [k0_pay2, swish, ConvOut.layer, normed, layerScale, spread, centred, row]

theorem pay1_apply (a : S512x1024.Idx → EReal) (r : Fin 512) (l : Fin 1024) :
    k0_pay1 (F := Ideal) a x g (ix2 r l) = x (ix2 r l) + rms (row a r) (row g 0) l := by
  pointwise [k0_pay1, rms, scale, power, row]
end

variable (m : (ℓ : Loc nD τ sig) → Buf (Elt Ideal) ℓ)

/-- The arrays the region reads, and their blocks at a point. -/
def inY (c : Dev nD) : S8192x1024.Idx → EReal := V m c (Pipeline.arrRef spec0 0)
def inX (c : Dev nD) : S8192x1024.Idx → EReal := V m c (Pipeline.arrRef spec0 1)
def inP (c : Dev nD) : S1x1024.Idx → EReal := V m c (Pipeline.arrRef spec0 2)
def inQ (c : Dev nD) : S1x1024.Idx → EReal := V m c (Pipeline.arrRef spec0 3)
def inW (c : Dev nD) : S1024x1024.Idx → EReal := V m c (Pipeline.arrRef spec0 4)
def inB (c : Dev nD) : S1x1024.Idx → EReal := V m c (Pipeline.arrRef spec0 5)
def inG (c : Dev nD) : S1x1024.Idx → EReal := V m c (Pipeline.arrRef spec0 6)
def blkY (c : Dev nD) (t : Fin cfg0.N) : S512x1024.Idx → EReal := iblk m c 0 t
def blkX (c : Dev nD) (t : Fin cfg0.N) : S512x1024.Idx → EReal := iblk m c 1 t
def blkP (c : Dev nD) (t : Fin cfg0.N) : S1x1024.Idx → EReal := iblk m c 2 t
def blkQ (c : Dev nD) (t : Fin cfg0.N) : S1x1024.Idx → EReal := iblk m c 3 t
def blkW (c : Dev nD) (t : Fin cfg0.N) : S1024x1024.Idx → EReal := iblk m c 4 t
def blkB (c : Dev nD) (t : Fin cfg0.N) : S1x1024.Idx → EReal := iblk m c 5 t
def blkG (c : Dev nD) (t : Fin cfg0.N) : S1x1024.Idx → EReal := iblk m c 6 t

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

theorem lt_rows (t : Fin cfg0.N) (r : Fin 512) : t.val * 512 + r < 8192 := by
  have ht : t.val < 16 := lt_of_lt_of_eq t.isLt N_0
  have := r.isLt
  omega

/-- Row `r` of the block at point `t` is this row of the array. -/
def at_ (t : Fin cfg0.N) (r : Fin 512) : Fin 8192 := ⟨t.val * 512 + r, lt_rows t r⟩

theorem blkY_apply (c : Dev nD) (t : Fin cfg0.N) (r : Fin 512) (l : Fin 1024) : blkY m c t (ix2 r l) = inY m c (ix2 (at_ t r) l) := by
  unfold blkY inY iblk
  blk_ext [iblk, (idx t).1]
  rfl

theorem blkX_apply (c : Dev nD) (t : Fin cfg0.N) (r : Fin 512) (l : Fin 1024) : blkX m c t (ix2 r l) = inX m c (ix2 (at_ t r) l) := by
  unfold blkX inX iblk
  blk_ext [iblk, (idx t).2.1]
  rfl

theorem blkP_eq (c : Dev nD) (t : Fin cfg0.N) : blkP m c t = inP m c := by
  funext i
  obtain ⟨p, q, rfl⟩ : ∃ (p : Fin 1) (q : Fin 1024), i = ix2 p q := ⟨i 0, i 1, eq_ix2 i⟩
  unfold blkP inP iblk
  blk_ext [iblk, (idx t).2.2.1]

theorem blkQ_eq (c : Dev nD) (t : Fin cfg0.N) : blkQ m c t = inQ m c := by
  funext i
  obtain ⟨p, q, rfl⟩ : ∃ (p : Fin 1) (q : Fin 1024), i = ix2 p q := ⟨i 0, i 1, eq_ix2 i⟩
  unfold blkQ inQ iblk
  blk_ext [iblk, (idx t).2.2.2.1]

theorem blkW_eq (c : Dev nD) (t : Fin cfg0.N) : blkW m c t = inW m c := by
  funext i
  obtain ⟨p, q, rfl⟩ : ∃ (p : Fin 1024) (q : Fin 1024), i = ix2 p q := ⟨i 0, i 1, eq_ix2 i⟩
  unfold blkW inW iblk
  blk_ext [iblk, (idx t).2.2.2.2.1]

theorem blkB_eq (c : Dev nD) (t : Fin cfg0.N) : blkB m c t = inB m c := by
  funext i
  obtain ⟨p, q, rfl⟩ : ∃ (p : Fin 1) (q : Fin 1024), i = ix2 p q := ⟨i 0, i 1, eq_ix2 i⟩
  unfold blkB inB iblk
  blk_ext [iblk, (idx t).2.2.2.2.2.1]

theorem blkG_eq (c : Dev nD) (t : Fin cfg0.N) : blkG m c t = inG m c := by
  funext i
  obtain ⟨p, q, rfl⟩ : ∃ (p : Fin 1) (q : Fin 1024), i = ix2 p q := ⟨i 0, i 1, eq_ix2 i⟩
  unfold blkG inG iblk
  blk_ext [iblk, (idx t).2.2.2.2.2.2.1]

/-- What a point leaves in the outputs. -/
def bM (c : Dev nD) (t : Fin cfg0.N) : S512x1024.Idx → EReal := k0_pay2 (F := Ideal) (blkY m c t) (blkP m c t) (blkQ m c t) (blkW m c t) (blkB m c t)

theorem outs_m (c : Dev nD) (t : Fin cfg0.N) : (dats m 0 c).after 7 t = bM m c t := by
  rw [after0_7]; unfold_out out0_7; frame_out; rfl

theorem outs_x (c : Dev nD) (t : Fin cfg0.N) : (dats m 0 c).after 8 t = k0_pay1 (F := Ideal) (bM m c t) (blkX m c t) (blkG m c t) := by
  rw [after0_8]; unfold_out out0_8; frame_out; rfl

/-- The output product in an entry. -/
def mArr (Y : S8192x1024.Idx → EReal) (P Q : S1x1024.Idx → EReal) (W : S1024x1024.Idx → EReal) (B : S1x1024.Idx → EReal) (T : Fin 8192) (l : Fin 1024) : EReal :=
  (∑ k : Fin 1024, swish (row Y T) (row P 0) (row Q 0) k * W (ix2 k l)) + B (ix2 0 l)

theorem bM_apply (c : Dev nD) (t : Fin cfg0.N) (r : Fin 512) (l : Fin 1024) :
    bM m c t (ix2 r l) = mArr (inY m c) (inP m c) (inQ m c) (inW m c) (inB m c) (at_ t r) l := by
  unfold bM
  rw [pay2_apply, blkP_eq, blkQ_eq, blkW_eq, blkB_eq, show row (blkY m c t) r = row (inY m c) (at_ t r) from funext (blkY_apply m c t r)]
  rfl

theorem final_m (c : Dev nD) : (dats m 0 c).arrAt 7 cfg0.N = fun i : S8192x1024.Idx => mArr (inY m c) (inP m c) (inQ m c) (inW m c) (inB m c) (i 0) (i 1) := by
  generalize hA : (fun i : S8192x1024.Idx => mArr (inY m c) (inP m c) (inQ m c) (inW m c) (inB m c) (i 0) (i 1)) = A
  refine (dats m 0 c).arrAt_eq_of_covers 7 _ (by decide +kernel) fun t hf y => ?_
  blk_simp
  rw [outs_m]
  obtain ⟨r, l, rfl⟩ : ∃ (r : Fin 512) (l : Fin 1024), y = ix2 r l := ⟨y 0, y 1, eq_ix2 y⟩
  refine (bM_apply m c t r l).trans ((congrFun hA (ix2 (at_ t r) l)).trans ?_)
  blk_point [idx t, at_]

theorem final_x (c : Dev nD) : (dats m 0 c).arrAt 8 cfg0.N = fun i : S8192x1024.Idx =>
    inX m c (ix2 (i 0) (i 1)) + rms (mArr (inY m c) (inP m c) (inQ m c) (inW m c) (inB m c) (i 0)) (row (inG m c) 0) (i 1) := by
  generalize hA : (fun i : S8192x1024.Idx => inX m c (ix2 (i 0) (i 1)) + rms (mArr (inY m c) (inP m c) (inQ m c) (inW m c) (inB m c) (i 0)) (row (inG m c) 0) (i 1)) = A
  refine (dats m 0 c).arrAt_eq_of_covers 8 _ (by decide +kernel) fun t hf y => ?_
  blk_simp
  rw [outs_x]
  obtain ⟨r, l, rfl⟩ : ∃ (r : Fin 512) (l : Fin 1024), y = ix2 r l := ⟨y 0, y 1, eq_ix2 y⟩
  refine (pay1_apply _ _ _ r l).trans ?_
  rw [show row (bM m c t) r = mArr (inY m c) (inP m c) (inQ m c) (inW m c) (inB m c) (at_ t r) from funext (bM_apply m c t r), blkX_apply, blkG_eq]
  refine (congrFun hA (ix2 (at_ t r) l)).trans ?_
  blk_point [idx t, at_]

/-- The arguments. -/
def argY (c : Dev nD) : S8192x1024.Idx → EReal := m ((c.tc : Thread nD τ).loc main_arg0)
def argX (c : Dev nD) : S8192x1024.Idx → EReal := m ((c.tc : Thread nD τ).loc main_arg1)
def argP (c : Dev nD) : S1x1024.Idx → EReal := m ((c.tc : Thread nD τ).loc main_arg2)
def argQ (c : Dev nD) : S1x1024.Idx → EReal := m ((c.tc : Thread nD τ).loc main_arg3)
def argW (c : Dev nD) : S1024x1024.Idx → EReal := m ((c.tc : Thread nD τ).loc main_arg4)
def argB (c : Dev nD) : S1x1024.Idx → EReal := m ((c.tc : Thread nD τ).loc main_arg5)
def argG (c : Dev nD) : S1x1024.Idx → EReal := m ((c.tc : Thread nD τ).loc main_arg6)

/-- What the host operations leave in the arrays the region reads. -/
theorem ins (c : Dev nD) : inY m c = argY m c ∧ inX m c = argX m c ∧ inP m c = argP m c ∧ inQ m c = argQ m c ∧ inW m c = argW m c ∧ inB m c = argB m c
    ∧ inG m c = argG m c := by
  unfold inY inX inP inQ inW inB inG V
  simp only [hostOps0, TRef.ternary, TRef.binary, TRef.nullary, TRef.unary, TRef.toBuf, TRef.ofBuf, cast_eq]
  refine ⟨?_, ?_, ?_, ?_, ?_, ?_, ?_⟩ <;> after_results <;> rfl

section
variable (y : FVec Ideal S8192x1024 .f32) (p q : FVec Ideal S1x1024 .f32) (w : FVec Ideal S1024x1024 .f32) (b : FVec Ideal S1x1024 .f32)

/-- The reference's layer norm, swish and product. -/
def refLayer : FVec Ideal S8192x1024 .f32 := addf (mulf (ConvOut.refHat y) (ConvOut.down p)) (ConvOut.down q)
def refSwish : FVec Ideal S8192x1024 .f32 :=
  mulf (refLayer y p q) (Host.divf (ConvOut.all 0x3F800000#32) (addf (ConvOut.all 0x3F800000#32) (Host.exp (Host.negf (refLayer y p q)))))
def refM : FVec Ideal S8192x1024 .f32 :=
  addf (Host.dotGeneral Cert.ReferenceConvOutFwdIdeal.dot_S8192x1024_S1024x1024_S8192x1024_1_0_0_1_n_n none (refSwish y p q) w) (ConvOut.down b)
end

section
variable (y : S8192x1024.Idx → EReal) (p q : S1x1024.Idx → EReal) (w : S1024x1024.Idx → EReal) (b : S1x1024.Idx → EReal)

theorem refLayer_apply (T : Fin 8192) (l : Fin 1024) : refLayer y p q (ix2 T l) = ConvOut.layer (row y T) (row p 0) (row q 0) l := by
  pointwise [refLayer, ConvOut.down]
  rw [ConvOut.refHat_apply]
  rfl

theorem refSwish_apply (T : Fin 8192) (l : Fin 1024) : refSwish y p q (ix2 T l) = swish (row y T) (row p 0) (row q 0) l := by
  pointwise [refSwish, ConvOut.all, swish]
  rw [refLayer_apply, zero_sub]

theorem refM_apply (T : Fin 8192) (l : Fin 1024) : refM y p q w b (ix2 T l) = mArr y p q w b T l := by
  pointwise [refM, ConvOut.down, mArr]
  simp only [refSwish_apply]
end

/-- The two output arrays are the reference's two results. -/
theorem values (c : Dev nD) : (dats m 0 c).arrAt 7 cfg0.N = refM (argY m c) (argP m c) (argQ m c) (argW m c) (argB m c)
    ∧ (dats m 0 c).arrAt 8 cfg0.N = refResidual (argX m c) (refM (argY m c) (argP m c) (argQ m c) (argW m c) (argB m c)) (argG m c) := by
  obtain ⟨h1, h2, h3, h4, h5, h6, h7⟩ := ins m c
  rw [final_m, final_x, h1, h2, h3, h4, h5, h6, h7]
  refine ⟨funext fun i => ?_, funext fun i => ?_⟩
  · obtain ⟨r, l, rfl⟩ : ∃ (r : Fin 8192) (l : Fin 1024), i = ix2 r l := ⟨i 0, i 1, eq_ix2 i⟩
    exact (refM_apply _ _ _ _ _ r l).symm
  · obtain ⟨r, l, rfl⟩ : ∃ (r : Fin 8192) (l : Fin 1024), i = ix2 r l := ⟨i 0, i 1, eq_ix2 i⟩
    refine Eq.trans ?_ (refResidual_apply _ _ _ r l).symm
    rw [show row (refM (argY m c) (argP m c) (argQ m c) (argW m c) (argB m c)) r = mArr (argY m c) (argP m c) (argQ m c) (argW m c) (argB m c) r from funext (refM_apply _ _ _ _ _ r)]
    rfl

end Cert.ConvOutFwd

end
-- ==== Proof.Forward.ConvIn.lean ====
module

public import proofs.«01_k».proof.Proof.Forward.Norm
public import proofs.«01_k».proof.Proof.ConvIn.Value
public import proofs.«01_k».proof.Proof.Gen.KernelConvInFwdIdeal.Value
public import proofs.«01_k».proof.Proof.Gen.ReferenceConvInFwdIdeal.Run

@[expose] public section

set_option maxRecDepth 16384

noncomputable section

namespace Cert.ConvInFwd

open Idealize.ShloMosaic Idealize.ShloMosaic.TcCoe Idealize.ShloMosaic.StableHlo Idealize.SL.Sem
open Cert.KernelConvInFwdIdeal Cert.KernelConvInFwdIdeal.Gen Cert.Norm

/-! # The convolution's norm, input product and gate: one point, the arrays after the run, the reference -/

open Cert.ConvIn (col split_col gate wPart wPart_apply cut cut_apply)

section
variable (x : S512x1024.Idx → EReal) (g : S1x1024.Idx → EReal) (h : S512x1024.Idx → EReal) (w : S1x1024x256.Idx → EReal) (b : S1x256.Idx → EReal)
  (a z : S512x256.Idx → EReal)

theorem pay3_apply (r : Fin 512) (l : Fin 1024) : k0_pay3 (F := Ideal) x g (ix2 r l) = rms (row x r) (row g 0) l := by
  pointwise [k0_pay3, rms, scale, power, row]

theorem pay8_apply (r : Fin 512) (e : Fin 256) : k0_pay8 (F := Ideal) h w b (ix2 r e) = (∑ k : Fin 1024, h (ix2 r k) * w (ix3 0 k e)) + b (ix2 0 e) := by
  pointwise [k0_pay8]

theorem pay1_apply (r : Fin 512) (e : Fin 256) : k0_pay1 (F := Ideal) a z (ix2 r e) = a (ix2 r e) * gate (z (ix2 r e)) := by
  pointwise [k0_pay1, gate]
end

variable (m : (ℓ : Loc nD τ sig) → Buf (Elt Ideal) ℓ)

/-- The arrays the region reads, and their blocks at a point. -/
def inX (c : Dev nD) : S8192x1024.Idx → EReal := V m c (Pipeline.arrRef spec0 0)
def inG (c : Dev nD) : S1x1024.Idx → EReal := V m c (Pipeline.arrRef spec0 1)
def inW (c : Dev nD) : S8x1024x256.Idx → EReal := V m c (Pipeline.arrRef spec0 2)
def inB (c : Dev nD) : S1x2048.Idx → EReal := V m c (Pipeline.arrRef spec0 3)
def blkX (c : Dev nD) (t : Fin cfg0.N) : S512x1024.Idx → EReal := iblk m c 0 t
def blkG (c : Dev nD) (t : Fin cfg0.N) : S1x1024.Idx → EReal := iblk m c 1 t
def blkW (c : Dev nD) (t : Fin cfg0.N) : S8x1024x256.Idx → EReal := iblk m c 2 t
def blkB (c : Dev nD) (t : Fin cfg0.N) : S1x2048.Idx → EReal := iblk m c 3 t

theorem idx : ∀ t : Fin cfg0.N, win0_0.index t = ![t.val, 0] ∧ win0_1.index t = ![0, 0] ∧ win0_2.index t = ![0, 0, 0] ∧ win0_3.index t = ![0, 0] ∧ win0_4.index t = ![t.val, 0] ∧ win0_5.index t = ![t.val, 0] :=
  (by decide +kernel : ∀ t : Fin grid0.N, _)

theorem lt_rows (t : Fin cfg0.N) (r : Fin 512) : t.val * 512 + r < 8192 := by
  have ht : t.val < 16 := lt_of_lt_of_eq t.isLt N_0
  have := r.isLt
  omega

/-- Row `r` of the block at point `t` is this row of the array. -/
def at_ (t : Fin cfg0.N) (r : Fin 512) : Fin 8192 := ⟨t.val * 512 + r, lt_rows t r⟩

theorem blkX_apply (c : Dev nD) (t : Fin cfg0.N) (r : Fin 512) (l : Fin 1024) : blkX m c t (ix2 r l) = inX m c (ix2 (at_ t r) l) := by
  unfold blkX inX iblk
  blk_ext [iblk, (idx t).1]
  rfl

theorem blkG_eq (c : Dev nD) (t : Fin cfg0.N) : blkG m c t = inG m c := by
  funext i
  obtain ⟨p, q, rfl⟩ : ∃ (p : Fin 1) (q : Fin 1024), i = ix2 p q := ⟨i 0, i 1, eq_ix2 i⟩
  unfold blkG inG iblk
  blk_ext [iblk, (idx t).2.1]

theorem blkW_eq (c : Dev nD) (t : Fin cfg0.N) : blkW m c t = inW m c := by
  funext i
  obtain ⟨p, q, r, rfl⟩ : ∃ (p : Fin 8) (q : Fin 1024) (r : Fin 256), i = ix3 p q r := ⟨i 0, i 1, i 2, eq_ix3 i⟩
  unfold blkW inW iblk
  blk_ext [iblk, (idx t).2.2.1]

theorem blkB_eq (c : Dev nD) (t : Fin cfg0.N) : blkB m c t = inB m c := by
  funext i
  obtain ⟨p, q, rfl⟩ : ∃ (p : Fin 1) (q : Fin 2048), i = ix2 p q := ⟨i 0, i 1, eq_ix2 i⟩
  unfold blkB inB iblk
  blk_ext [iblk, (idx t).2.2.2.1]

/-- The part `s` of the bias, as the body loads it. -/
def bPart (X : S1x2048.Idx → EReal) (s : Fin 8) : S1x256.Idx → EReal :=
  View.ld (Val := Elt Ideal) (e' := .f32) X (Rect.unit (s := S1x2048) ![0, s.val * 256] ![1, 256]
    ((by decide : ∀ s : Fin 8, ∀ a : Fin 2, (![0, s.val * 256] : Fin 2 → ℕ) a + (![1, 256] : Fin 2 → ℕ) a ≤ (![1, 2048] : Fin 2 → ℕ) a) s))

theorem bPart_apply (X : S1x2048.Idx → EReal) (s : Fin 8) (e : Fin 256) : bPart X s (ix2 0 e) = X (ix2 0 (col s e)) :=
  ld_part (Val := Elt Ideal) (e := .f32) X s.val _ rfl _ 0 e _

/-- A part of the product's columns at a point. -/
def piece (c : Dev nD) (t : Fin cfg0.N) (s : Fin 8) : S512x256.Idx → EReal :=
  k0_pay8 (F := Ideal) (k0_pay3 (F := Ideal) (blkX m c t) (blkG m c t)) (wPart (blkW m c t) s) (bPart (blkB m c t) s)

/-- What a point leaves in the product, -/
theorem outs_a (c : Dev nD) (t : Fin cfg0.N) (s : Fin 8) (r : Fin 512) (e : Fin 256) :
    (dats m 0 c).after 4 t (ix2 r (col s e)) = piece m c t s (ix2 r e) := by
  rw [after0_4]; unfold_out out0_4; frame_out
  refine canon_part_eq 7 1792 rfl _ _ _ s.val r e (col s e).isLt (fun h => by obtain rfl : s = 7 := Fin.ext h; rfl) fun h7 => ?_
  refine canon_part_eq 6 1536 rfl _ _ _ s.val r e (col s e).isLt (fun h => by obtain rfl : s = 6 := Fin.ext h; rfl) fun h6 => ?_
  refine canon_part_eq 5 1280 rfl _ _ _ s.val r e (col s e).isLt (fun h => by obtain rfl : s = 5 := Fin.ext h; rfl) fun h5 => ?_
  refine canon_part_eq 4 1024 rfl _ _ _ s.val r e (col s e).isLt (fun h => by obtain rfl : s = 4 := Fin.ext h; rfl) fun h4 => ?_
  refine canon_part_eq 3 768 rfl _ _ _ s.val r e (col s e).isLt (fun h => by obtain rfl : s = 3 := Fin.ext h; rfl) fun h3 => ?_
  refine canon_part_eq 2 512 rfl _ _ _ s.val r e (col s e).isLt (fun h => by obtain rfl : s = 2 := Fin.ext h; rfl) fun h2 => ?_
  refine canon_part_eq 1 256 rfl _ _ _ s.val r e (col s e).isLt (fun h => by obtain rfl : s = 1 := Fin.ext h; rfl) fun h1 => ?_
  refine canon_part_eq 0 0 rfl _ _ _ s.val r e (col s e).isLt (fun h => by obtain rfl : s = 0 := Fin.ext h; rfl) fun h0 => ?_
  have := s.isLt
  omega

theorem lt_cols (s : Fin 4) (e : Fin 256) : s.val * 256 + e.val < 1024 := by have := s.isLt; have := e.isLt; omega

/-- and in the gated values. -/
theorem outs_u (c : Dev nD) (t : Fin cfg0.N) (s : Fin 4) (r : Fin 512) (e : Fin 256) :
    (dats m 0 c).after 5 t (ix2 r ⟨s.val * 256 + e.val, lt_cols s e⟩) = k0_pay1 (F := Ideal) (piece m c t (ConvIn.lo s)) (piece m c t (ConvIn.hi s)) (ix2 r e) := by
  rw [after0_5]; unfold_out out0_5; frame_out
  refine canon_part_eq 3 768 rfl _ _ _ s.val r e (lt_cols s e) (fun h => by obtain rfl : s = 3 := Fin.ext h; rfl) fun h3 => ?_
  refine canon_part_eq 2 512 rfl _ _ _ s.val r e (lt_cols s e) (fun h => by obtain rfl : s = 2 := Fin.ext h; rfl) fun h2 => ?_
  refine canon_part_eq 1 256 rfl _ _ _ s.val r e (lt_cols s e) (fun h => by obtain rfl : s = 1 := Fin.ext h; rfl) fun h1 => ?_
  refine canon_part_eq 0 0 rfl _ _ _ s.val r e (lt_cols s e) (fun h => by obtain rfl : s = 0 := Fin.ext h; rfl) fun h0 => ?_
  have := s.isLt
  omega

/-- The arguments. -/
def argX (c : Dev nD) : S8192x1024.Idx → EReal := m ((c.tc : Thread nD τ).loc main_arg0)
def argG (c : Dev nD) : S1x1024.Idx → EReal := m ((c.tc : Thread nD τ).loc main_arg1)
def argW (c : Dev nD) : S1024x2048.Idx → EReal := m ((c.tc : Thread nD τ).loc main_arg2)
def argB (c : Dev nD) : S1x2048.Idx → EReal := m ((c.tc : Thread nD τ).loc main_arg3)

/-- What the host operations leave in the arrays the region reads. -/
theorem ins (c : Dev nD) : inX m c = argX m c ∧ inG m c = argG m c ∧ inW m c = cut (argW m c) ∧ inB m c = argB m c := by
  unfold inX inG inW inB V
  simp only [hostOps0, TRef.ternary, TRef.binary, TRef.nullary, TRef.unary, TRef.toBuf, TRef.ofBuf, cast_eq]
  refine ⟨?_, ?_, ?_, ?_⟩ <;> after_results <;> rfl

/-- The product in an entry. -/
def aArr (X : S8192x1024.Idx → EReal) (G : S1x1024.Idx → EReal) (W : S1024x2048.Idx → EReal) (B : S1x2048.Idx → EReal) (T : Fin 8192) (l : Fin 2048) : EReal :=
  (∑ k : Fin 1024, rms (row X T) (row G 0) k * W (ix2 k l)) + B (ix2 0 l)

theorem piece_apply (c : Dev nD) (t : Fin cfg0.N) (s : Fin 8) (r : Fin 512) (e : Fin 256) :
    piece m c t s (ix2 r e) = aArr (argX m c) (argG m c) (argW m c) (argB m c) (at_ t r) (col s e) := by
  obtain ⟨h1, h2, h3, h4⟩ := ins m c
  unfold piece
  rw [pay8_apply, bPart_apply, blkB_eq, h4]
  refine congrArg (· + _) (Finset.sum_congr rfl fun k _ => ?_)
  rw [pay3_apply, wPart_apply, blkW_eq, h3, cut_apply, blkG_eq, h2, ← h1, show row (blkX m c t) r = row (inX m c) (at_ t r) from funext (blkX_apply m c t r)]

theorem final_a (c : Dev nD) : (dats m 0 c).arrAt 4 cfg0.N = fun i : S8192x2048.Idx => aArr (argX m c) (argG m c) (argW m c) (argB m c) (i 0) (i 1) := by
  generalize hA : (fun i : S8192x2048.Idx => aArr (argX m c) (argG m c) (argW m c) (argB m c) (i 0) (i 1)) = A
  refine (dats m 0 c).arrAt_eq_of_covers 4 _ (by decide +kernel) fun t hf y => ?_
  blk_simp
  obtain ⟨r, l, rfl⟩ : ∃ (r : Fin 512) (l : Fin 2048), y = ix2 r l := ⟨y 0, y 1, eq_ix2 y⟩
  obtain ⟨s, e, rfl⟩ := split_col l
  refine (outs_a m c t s r e).trans ((piece_apply m c t s r e).trans ((congrFun hA (ix2 (at_ t r) (col s e))).trans ?_))
  blk_point [idx t, at_]

/-- The gated value in an entry. -/
def uArr (X : S8192x1024.Idx → EReal) (G : S1x1024.Idx → EReal) (W : S1024x2048.Idx → EReal) (B : S1x2048.Idx → EReal) (T : Fin 8192) (l : Fin 1024) : EReal :=
  aArr X G W B T ⟨l.val, by have := l.isLt; omega⟩ * gate (aArr X G W B T ⟨1024 + l.val, by have := l.isLt; omega⟩)

theorem final_u (c : Dev nD) : (dats m 0 c).arrAt 5 cfg0.N = fun i : S8192x1024.Idx => uArr (argX m c) (argG m c) (argW m c) (argB m c) (i 0) (i 1) := by
  generalize hA : (fun i : S8192x1024.Idx => uArr (argX m c) (argG m c) (argW m c) (argB m c) (i 0) (i 1)) = A
  refine (dats m 0 c).arrAt_eq_of_covers 5 _ (by decide +kernel) fun t hf y => ?_
  blk_simp
  obtain ⟨r, l, rfl⟩ : ∃ (r : Fin 512) (l : Fin 1024), y = ix2 r l := ⟨y 0, y 1, eq_ix2 y⟩
  obtain ⟨s, e, rfl⟩ : ∃ (s : Fin 4) (e : Fin 256), l = ⟨s.val * 256 + e.val, lt_cols s e⟩ :=
    ⟨⟨l.val / 256, by have := l.isLt; omega⟩, ⟨l.val % 256, Nat.mod_lt _ (by decide)⟩, Fin.ext (by show l.val = l.val / 256 * 256 + l.val % 256; omega)⟩
  refine (outs_u m c t s r e).trans ((pay1_apply _ _ r e).trans ?_)
  have hh : col (ConvIn.hi s) e = ⟨1024 + (s.val * 256 + e.val), by have := lt_cols s e; omega⟩ :=
    Fin.ext (show (s.val + 4) * 256 + e.val = 1024 + (s.val * 256 + e.val) by omega)
  rw [piece_apply, piece_apply, hh]
  refine Eq.trans ?_ ((congrFun hA (ix2 (at_ t r) ⟨s.val * 256 + e.val, lt_cols s e⟩)).trans ?_)
  · rfl
  · blk_point [idx t, at_]

/-- The reference's gated values. -/
def refGlu (a : FVec Ideal S8192x2048 .f32) : FVec Ideal S8192x1024 .f32 :=
  mulf (extractStridedSlice S8192x1024 ![0, 0] a Cert.ReferenceConvInFwdIdeal.Gen.slices_S8192x2048_S8192x1024_0_0) (ConvIn.refGate a)

theorem refA_eq (x : S8192x1024.Idx → EReal) (g : S1x1024.Idx → EReal) (w : S1024x2048.Idx → EReal) (b : S1x2048.Idx → EReal) (T : Fin 8192) (l : Fin 2048) :
    ConvIn.refA x g w b (ix2 T l) = aArr x g w b T l := by
  rw [ConvIn.refA_apply]
  simp only [ConvIn.refH_apply]
  rfl

theorem refGlu_apply (a : S8192x2048.Idx → EReal) (T : Fin 8192) (l : Fin 1024) :
    refGlu a (ix2 T l) = a (ix2 T ⟨l.val, by have := l.isLt; omega⟩) * gate (a (ix2 T ⟨1024 + l.val, by have := l.isLt; omega⟩)) := by
  pointwise [refGlu]
  rw [ConvIn.refGate_apply]

/-- The two output arrays are the reference's two results. -/
theorem values (c : Dev nD) : (dats m 0 c).arrAt 4 cfg0.N = ConvIn.refA (argX m c) (argG m c) (argW m c) (argB m c)
    ∧ (dats m 0 c).arrAt 5 cfg0.N = refGlu (ConvIn.refA (argX m c) (argG m c) (argW m c) (argB m c)) := by
  rw [final_a, final_u]
  refine ⟨funext fun i => ?_, funext fun i => ?_⟩
  · obtain ⟨r, l, rfl⟩ : ∃ (r : Fin 8192) (l : Fin 2048), i = ix2 r l := ⟨i 0, i 1, eq_ix2 i⟩
    exact (refA_eq _ _ _ _ r l).symm
  · obtain ⟨r, l, rfl⟩ : ∃ (r : Fin 8192) (l : Fin 1024), i = ix2 r l := ⟨i 0, i 1, eq_ix2 i⟩
    refine Eq.trans ?_ (refGlu_apply _ r l).symm
    rw [refA_eq, refA_eq]
    rfl

end Cert.ConvInFwd

end
-- ==== Proof.Forward.Mlp.lean ====
module

public import proofs.«01_k».proof.Proof.Forward.Norm
public import proofs.«01_k».proof.Proof.Mlp.Value
public import proofs.«01_k».proof.Proof.Norm.Columns
public import proofs.«01_k».proof.Proof.Gen.KernelMlpFwdIdeal.Value
public import proofs.«01_k».proof.Proof.Gen.ReferenceMlpFwdIdeal.Run

@[expose] public section

set_option maxRecDepth 16384

noncomputable section

namespace Cert.MlpFwd

open Idealize.ShloMosaic Idealize.ShloMosaic.TcCoe Idealize.ShloMosaic.StableHlo Idealize.SL.Sem
open Cert.KernelMlpFwdIdeal Cert.KernelMlpFwdIdeal.Gen Cert.Norm

/-! # The perceptron with its two norms: one point, the arrays after the run, the reference -/

open Cert.Mlp (col split_col wuPart wdPart wuPart_apply wdPart_apply cutWu cutWd cutWu_apply cutWd_apply)

/-- What a part of the hidden rows adds to the second product. -/
def part (u : S512x512.Idx → EReal) (w : S1x512x1024.Idx → EReal) (r : Fin 512) (l : Fin 1024) : EReal :=
  ∑ e : Fin 512, max (u (ix2 r e)) 0 * max (u (ix2 r e)) 0 * w (ix3 0 e l)

section
variable (x : S512x1024.Idx → EReal) (g : S1x1024.Idx → EReal) (h : S512x1024.Idx → EReal) (w w' : S1x1024x512.Idx → EReal) (v v' : S1x512x1024.Idx → EReal)
  (u : S512x512.Idx → EReal) (acc a : S512x1024.Idx → EReal) (r : Fin 512) (l : Fin 1024)

theorem pay2_apply : k0_pay2 (F := Ideal) x g (ix2 r l) = rms (row x r) (row g 0) l := by
  pointwise [k0_pay2, rms, scale, power, row]

theorem pay6_apply (e : Fin 512) : k0_pay6 (F := Ideal) h w (ix2 r e) = ∑ k : Fin 1024, h (ix2 r k) * w (ix3 0 k e) := by
  pointwise [k0_pay6]

theorem pay4_apply : k0_pay4 (F := Ideal) x g w v (ix2 r l) = part (k0_pay6 (F := Ideal) (k0_pay2 (F := Ideal) x g) w) v r l := by
  pointwise [k0_pay4, k0_pay3, k0_pay6, part]

theorem pay7_apply : k0_pay7 (F := Ideal) h acc u v w v' (ix2 r l) = acc (ix2 r l) + part u v r l + part (k0_pay6 (F := Ideal) h w) v' r l := by
  pointwise [k0_pay7, part]

theorem pay11_apply : k0_pay11 (F := Ideal) h acc (k0_pay9 (F := Ideal) h w) v w' v' (ix2 r l)
    = acc (ix2 r l) + part (k0_pay6 (F := Ideal) h w) v r l + part (k0_pay6 (F := Ideal) h w') v' r l := by
  pointwise [k0_pay11, k0_pay9, k0_pay8, k0_pay10, k0_pay6, part]

theorem pay16_apply (w'' : S1x1024x512.Idx → EReal) (v'' : S1x512x1024.Idx → EReal) : k0_pay16 (F := Ideal) h acc (k0_pay13 (F := Ideal) h w v) w' v' w'' v'' (ix2 r l)
    = acc (ix2 r l) + part (k0_pay6 (F := Ideal) h w) v r l + part (k0_pay6 (F := Ideal) h w') v' r l + part (k0_pay6 (F := Ideal) h w'') v'' r l := by
  pointwise [k0_pay16, k0_pay13, k0_pay12, k0_pay14, k0_pay15, k0_pay6, part]

theorem pay1_apply : k0_pay1 (F := Ideal) x a g (ix2 r l) = x (ix2 r l) + rms (row a r) (row g 0) l := by
  pointwise [k0_pay1, rms, scale, power, row]
end

variable (m : (ℓ : Loc nD τ sig) → Buf (Elt Ideal) ℓ)

/-- The arrays the region reads, and their blocks at a point. -/
def inX (c : Dev nD) : S8192x1024.Idx → EReal := V m c (Pipeline.arrRef spec0 0)
def inP (c : Dev nD) : S1x1024.Idx → EReal := V m c (Pipeline.arrRef spec0 1)
def inWu (c : Dev nD) : S8x1024x512.Idx → EReal := V m c (Pipeline.arrRef spec0 2)
def inWd (c : Dev nD) : S8x512x1024.Idx → EReal := V m c (Pipeline.arrRef spec0 3)
def inQ (c : Dev nD) : S1x1024.Idx → EReal := V m c (Pipeline.arrRef spec0 4)
def blkX (c : Dev nD) (t : Fin cfg0.N) : S512x1024.Idx → EReal := iblk m c 0 t
def blkP (c : Dev nD) (t : Fin cfg0.N) : S1x1024.Idx → EReal := iblk m c 1 t
def blkWu (c : Dev nD) (t : Fin cfg0.N) : S8x1024x512.Idx → EReal := iblk m c 2 t
def blkWd (c : Dev nD) (t : Fin cfg0.N) : S8x512x1024.Idx → EReal := iblk m c 3 t
def blkQ (c : Dev nD) (t : Fin cfg0.N) : S1x1024.Idx → EReal := iblk m c 4 t

theorem idx : ∀ t : Fin cfg0.N, win0_0.index t = ![t.val, 0] ∧ win0_1.index t = ![0, 0] ∧ win0_2.index t = ![0, 0, 0] ∧ win0_3.index t = ![0, 0, 0] ∧ win0_4.index t = ![0, 0] ∧ win0_5.index t = ![t.val, 0] ∧ win0_6.index t = ![t.val, 0] ∧ win0_7.index t = ![t.val, 0] :=
  (by decide +kernel : ∀ t : Fin grid0.N, _)

theorem lt_rows (t : Fin cfg0.N) (r : Fin 512) : t.val * 512 + r < 8192 := by
  have ht : t.val < 16 := lt_of_lt_of_eq t.isLt N_0
  have := r.isLt
  omega

/-- Row `r` of the block at point `t` is this row of the array. -/
def at_ (t : Fin cfg0.N) (r : Fin 512) : Fin 8192 := ⟨t.val * 512 + r, lt_rows t r⟩

theorem blkX_apply (c : Dev nD) (t : Fin cfg0.N) (r : Fin 512) (l : Fin 1024) : blkX m c t (ix2 r l) = inX m c (ix2 (at_ t r) l) := by
  unfold blkX inX iblk
  blk_ext [iblk, (idx t).1]
  rfl

theorem blkP_eq (c : Dev nD) (t : Fin cfg0.N) : blkP m c t = inP m c := by
  funext i
  obtain ⟨p, q, rfl⟩ : ∃ (p : Fin 1) (q : Fin 1024), i = ix2 p q := ⟨i 0, i 1, eq_ix2 i⟩
  unfold blkP inP iblk
  blk_ext [iblk, (idx t).2.1]

theorem blkWu_eq (c : Dev nD) (t : Fin cfg0.N) : blkWu m c t = inWu m c := by
  funext i
  obtain ⟨p, q, r, rfl⟩ : ∃ (p : Fin 8) (q : Fin 1024) (r : Fin 512), i = ix3 p q r := ⟨i 0, i 1, i 2, eq_ix3 i⟩
  unfold blkWu inWu iblk
  blk_ext [iblk, (idx t).2.2.1]

theorem blkWd_eq (c : Dev nD) (t : Fin cfg0.N) : blkWd m c t = inWd m c := by
  funext i
  obtain ⟨p, q, r, rfl⟩ : ∃ (p : Fin 8) (q : Fin 512) (r : Fin 1024), i = ix3 p q r := ⟨i 0, i 1, i 2, eq_ix3 i⟩
  unfold blkWd inWd iblk
  blk_ext [iblk, (idx t).2.2.2.1]

theorem blkQ_eq (c : Dev nD) (t : Fin cfg0.N) : blkQ m c t = inQ m c := by
  funext i
  obtain ⟨p, q, rfl⟩ : ∃ (p : Fin 1) (q : Fin 1024), i = ix2 p q := ⟨i 0, i 1, eq_ix2 i⟩
  unfold blkQ inQ iblk
  blk_ext [iblk, (idx t).2.2.2.2.1]

/-- The normed rows and a part of the hidden rows at a point. -/
def bH (c : Dev nD) (t : Fin cfg0.N) : S512x1024.Idx → EReal := k0_pay2 (F := Ideal) (blkX m c t) (blkP m c t)
def piece (c : Dev nD) (t : Fin cfg0.N) (s : Fin 8) : S512x512.Idx → EReal := k0_pay6 (F := Ideal) (bH m c t) (wuPart (blkWu m c t) s)

/-- What a point leaves in the hidden rows, -/
theorem outs_up (c : Dev nD) (t : Fin cfg0.N) (s : Fin 8) (r : Fin 512) (e : Fin 512) :
    (dats m 0 c).after 5 t (ix2 r (col s e)) = piece m c t s (ix2 r e) := by
  rw [after0_5]; unfold_out out0_5; frame_out
  refine canon_part_eq 7 3584 rfl _ _ _ s.val r e (col s e).isLt (fun h => by obtain rfl : s = 7 := Fin.ext h; rfl) fun h7 => ?_
  refine canon_part_eq 6 3072 rfl _ _ _ s.val r e (col s e).isLt (fun h => by obtain rfl : s = 6 := Fin.ext h; rfl) fun h6 => ?_
  refine canon_part_eq 5 2560 rfl _ _ _ s.val r e (col s e).isLt (fun h => by obtain rfl : s = 5 := Fin.ext h; rfl) fun h5 => ?_
  refine canon_part_eq 4 2048 rfl _ _ _ s.val r e (col s e).isLt (fun h => by obtain rfl : s = 4 := Fin.ext h; rfl) fun h4 => ?_
  refine canon_part_eq 3 1536 rfl _ _ _ s.val r e (col s e).isLt (fun h => by obtain rfl : s = 3 := Fin.ext h; rfl) fun h3 => ?_
  refine canon_part_eq 2 1024 rfl _ _ _ s.val r e (col s e).isLt (fun h => by obtain rfl : s = 2 := Fin.ext h; rfl) fun h2 => ?_
  refine canon_part_eq 1 512 rfl _ _ _ s.val r e (col s e).isLt (fun h => by obtain rfl : s = 1 := Fin.ext h; rfl) fun h1 => ?_
  refine canon_part_eq 0 0 rfl _ _ _ s.val r e (col s e).isLt (fun h => by obtain rfl : s = 0 := Fin.ext h; rfl) fun h0 => ?_
  have := s.isLt
  omega

section
variable (h : S512x1024.Idx → EReal) (x : S512x1024.Idx → EReal) (g : S1x1024.Idx → EReal) (U : S8x1024x512.Idx → EReal) (D : S8x512x1024.Idx → EReal)

/-- The second product over all parts, as the body adds it up. -/
def eight : S512x1024.Idx → EReal :=
  k0_pay16 (F := Ideal) h
    (k0_pay11 (F := Ideal) h
      (k0_pay7 (F := Ideal) h (k0_pay4 (F := Ideal) x g (wuPart U 0) (wdPart D 0)) (k0_pay6 (F := Ideal) h (wuPart U 1)) (wdPart D 1) (wuPart U 2) (wdPart D 2))
      (k0_pay9 (F := Ideal) h (wuPart U 3)) (wdPart D 3) (wuPart U 4) (wdPart D 4))
    (k0_pay13 (F := Ideal) h (wuPart U 5) (wdPart D 5)) (wuPart U 6) (wdPart D 6) (wuPart U 7) (wdPart D 7)

theorem eight_apply (hh : h = k0_pay2 (F := Ideal) x g) (r : Fin 512) (l : Fin 1024) :
    eight h x g U D (ix2 r l) = ∑ s : Fin 8, part (k0_pay6 (F := Ideal) h (wuPart U s)) (wdPart D s) r l := by
  unfold eight
  rw [pay16_apply, pay11_apply, pay7_apply, pay4_apply, ← hh, Fin.sum_univ_eight]
end

/-- in the second product, -/
def bM (c : Dev nD) (t : Fin cfg0.N) : S512x1024.Idx → EReal := eight (bH m c t) (blkX m c t) (blkP m c t) (blkWu m c t) (blkWd m c t)

theorem outs_m (c : Dev nD) (t : Fin cfg0.N) : (dats m 0 c).after 6 t = bM m c t := by
  rw [after0_6]; unfold_out out0_6; frame_out; rfl

/-- and in the residual. -/
theorem outs_x (c : Dev nD) (t : Fin cfg0.N) : (dats m 0 c).after 7 t = k0_pay1 (F := Ideal) (blkX m c t) (bM m c t) (blkQ m c t) := by
  rw [after0_7]; unfold_out out0_7; frame_out; rfl

/-- The arguments. -/
def argX (c : Dev nD) : S8192x1024.Idx → EReal := m ((c.tc : Thread nD τ).loc main_arg0)
def argP (c : Dev nD) : S1x1024.Idx → EReal := m ((c.tc : Thread nD τ).loc main_arg1)
def argWu (c : Dev nD) : S1024x4096.Idx → EReal := m ((c.tc : Thread nD τ).loc main_arg2)
def argWd (c : Dev nD) : S4096x1024.Idx → EReal := m ((c.tc : Thread nD τ).loc main_arg3)
def argQ (c : Dev nD) : S1x1024.Idx → EReal := m ((c.tc : Thread nD τ).loc main_arg4)

/-- What the host operations leave in the arrays the region reads. -/
theorem ins (c : Dev nD) : inX m c = argX m c ∧ inP m c = argP m c ∧ inWu m c = cutWu (argWu m c) ∧ inWd m c = cutWd (argWd m c) ∧ inQ m c = argQ m c := by
  unfold inX inP inWu inWd inQ V
  simp only [hostOps0, TRef.ternary, TRef.binary, TRef.nullary, TRef.unary, TRef.toBuf, TRef.ofBuf, cast_eq]
  refine ⟨?_, ?_, ?_, ?_, ?_⟩ <;> after_results <;> rfl

/-- The hidden rows and the second product in an entry. -/
def upArr (X : S8192x1024.Idx → EReal) (P : S1x1024.Idx → EReal) (W : S1024x4096.Idx → EReal) (T : Fin 8192) (k : Fin 4096) : EReal :=
  ∑ j : Fin 1024, rms (row X T) (row P 0) j * W (ix2 j k)
def mArr (X : S8192x1024.Idx → EReal) (P : S1x1024.Idx → EReal) (W : S1024x4096.Idx → EReal) (D : S4096x1024.Idx → EReal) (T : Fin 8192) (l : Fin 1024) : EReal :=
  ∑ k : Fin 4096, max (upArr X P W T k) 0 * max (upArr X P W T k) 0 * D (ix2 k l)

theorem piece_apply (c : Dev nD) (t : Fin cfg0.N) (s : Fin 8) (r : Fin 512) (e : Fin 512) :
    piece m c t s (ix2 r e) = upArr (argX m c) (argP m c) (argWu m c) (at_ t r) (col s e) := by
  obtain ⟨h1, h2, h3, h4, h5⟩ := ins m c
  unfold piece bH
  rw [pay6_apply]
  refine Finset.sum_congr rfl fun k _ => ?_
  rw [pay2_apply, wuPart_apply, blkWu_eq, h3, cutWu_apply, blkP_eq, h2, ← h1, show row (blkX m c t) r = row (inX m c) (at_ t r) from funext (blkX_apply m c t r)]

theorem bM_apply (c : Dev nD) (t : Fin cfg0.N) (r : Fin 512) (l : Fin 1024) :
    bM m c t (ix2 r l) = mArr (argX m c) (argP m c) (argWu m c) (argWd m c) (at_ t r) l := by
  obtain ⟨h1, h2, h3, h4, h5⟩ := ins m c
  unfold bM
  rw [eight_apply (bH m c t) (blkX m c t) (blkP m c t) (blkWu m c t) (blkWd m c t) rfl]
  unfold part mArr
  refine Fin.sum_mul_add_congr fun s e hl => ?_
  have hp : k0_pay6 (F := Ideal) (bH m c t) (wuPart (blkWu m c t) s) (ix2 r e) = upArr (argX m c) (argP m c) (argWu m c) (at_ t r) ⟨s.val * 512 + e.val, hl⟩ :=
    piece_apply m c t s r e
  rw [hp, wdPart_apply, blkWd_eq, h4, cutWd_apply]
  rfl

theorem final_up (c : Dev nD) : (dats m 0 c).arrAt 5 cfg0.N = fun i : S8192x4096.Idx => upArr (argX m c) (argP m c) (argWu m c) (i 0) (i 1) := by
  generalize hA : (fun i : S8192x4096.Idx => upArr (argX m c) (argP m c) (argWu m c) (i 0) (i 1)) = A
  refine (dats m 0 c).arrAt_eq_of_covers 5 _ (by decide +kernel) fun t hf y => ?_
  blk_simp
  obtain ⟨r, l, rfl⟩ : ∃ (r : Fin 512) (l : Fin 4096), y = ix2 r l := ⟨y 0, y 1, eq_ix2 y⟩
  obtain ⟨s, e, rfl⟩ := split_col l
  refine (outs_up m c t s r e).trans ((piece_apply m c t s r e).trans ((congrFun hA (ix2 (at_ t r) (col s e))).trans ?_))
  blk_point [idx t, at_]

theorem final_m (c : Dev nD) : (dats m 0 c).arrAt 6 cfg0.N = fun i : S8192x1024.Idx => mArr (argX m c) (argP m c) (argWu m c) (argWd m c) (i 0) (i 1) := by
  generalize hA : (fun i : S8192x1024.Idx => mArr (argX m c) (argP m c) (argWu m c) (argWd m c) (i 0) (i 1)) = A
  refine (dats m 0 c).arrAt_eq_of_covers 6 _ (by decide +kernel) fun t hf y => ?_
  blk_simp
  rw [outs_m]
  obtain ⟨r, l, rfl⟩ : ∃ (r : Fin 512) (l : Fin 1024), y = ix2 r l := ⟨y 0, y 1, eq_ix2 y⟩
  refine (bM_apply m c t r l).trans ((congrFun hA (ix2 (at_ t r) l)).trans ?_)
  blk_point [idx t, at_]

theorem final_x (c : Dev nD) : (dats m 0 c).arrAt 7 cfg0.N = fun i : S8192x1024.Idx =>
    argX m c (ix2 (i 0) (i 1)) + rms (mArr (argX m c) (argP m c) (argWu m c) (argWd m c) (i 0)) (row (argQ m c) 0) (i 1) := by
  generalize hA : (fun i : S8192x1024.Idx => argX m c (ix2 (i 0) (i 1)) + rms (mArr (argX m c) (argP m c) (argWu m c) (argWd m c) (i 0)) (row (argQ m c) 0) (i 1)) = A
  refine (dats m 0 c).arrAt_eq_of_covers 7 _ (by decide +kernel) fun t hf y => ?_
  blk_simp
  rw [outs_x]
  obtain ⟨r, l, rfl⟩ : ∃ (r : Fin 512) (l : Fin 1024), y = ix2 r l := ⟨y 0, y 1, eq_ix2 y⟩
  refine (pay1_apply _ _ _ r l).trans ?_
  obtain ⟨h1, h2, h3, h4, h5⟩ := ins m c
  rw [show row (bM m c t) r = mArr (argX m c) (argP m c) (argWu m c) (argWd m c) (at_ t r) from funext (bM_apply m c t r), blkX_apply, blkQ_eq, h1, h5]
  refine (congrFun hA (ix2 (at_ t r) l)).trans ?_
  blk_point [idx t, at_]

section
variable (x : S8192x1024.Idx → EReal) (p : S1x1024.Idx → EReal) (w : S1024x4096.Idx → EReal) (d : S4096x1024.Idx → EReal)

theorem refUp_eq (T : Fin 8192) (l : Fin 4096) : Mlp.refUp x p w (ix2 T l) = upArr x p w T l := by
  rw [Mlp.refUp_apply]
  simp only [Mlp.refH_apply]
  rfl

theorem refM_eq (T : Fin 8192) (l : Fin 1024) : Mlp.refM x p w d (ix2 T l) = mArr x p w d T l := by
  rw [Mlp.refM_apply]
  simp only [refUp_eq]
  rfl
end

/-- The three output arrays are the reference's three results. -/
theorem values (c : Dev nD) : (dats m 0 c).arrAt 5 cfg0.N = Mlp.refUp (argX m c) (argP m c) (argWu m c)
    ∧ (dats m 0 c).arrAt 6 cfg0.N = Mlp.refM (argX m c) (argP m c) (argWu m c) (argWd m c)
    ∧ (dats m 0 c).arrAt 7 cfg0.N = refResidual (argX m c) (Mlp.refM (argX m c) (argP m c) (argWu m c) (argWd m c)) (argQ m c) := by
  rw [final_up, final_m, final_x]
  refine ⟨funext fun i => ?_, funext fun i => ?_, funext fun i => ?_⟩
  · obtain ⟨r, l, rfl⟩ : ∃ (r : Fin 8192) (l : Fin 4096), i = ix2 r l := ⟨i 0, i 1, eq_ix2 i⟩
    exact (refUp_eq _ _ _ r l).symm
  · obtain ⟨r, l, rfl⟩ : ∃ (r : Fin 8192) (l : Fin 1024), i = ix2 r l := ⟨i 0, i 1, eq_ix2 i⟩
    exact (refM_eq _ _ _ _ r l).symm
  · obtain ⟨r, l, rfl⟩ : ∃ (r : Fin 8192) (l : Fin 1024), i = ix2 r l := ⟨i 0, i 1, eq_ix2 i⟩
    refine Eq.trans ?_ (refResidual_apply _ _ _ r l).symm
    rw [show row (Mlp.refM (argX m c) (argP m c) (argWu m c) (argWd m c)) r = mArr (argX m c) (argP m c) (argWu m c) (argWd m c) r from funext (refM_eq _ _ _ _ r)]
    rfl

end Cert.MlpFwd

end
-- ==== Proof.Forward.AttnIn.lean ====
module

public import proofs.«01_k».proof.Proof.Forward.Norm
public import proofs.«01_k».proof.Proof.AttnIn.Value
public import proofs.«01_k».proof.Proof.Norm.Columns
public import proofs.«01_k».proof.Proof.Gen.KernelAttnInFwdIdeal.Value
public import proofs.«01_k».proof.Proof.Gen.ReferenceAttnInFwdIdeal.Run

@[expose] public section

set_option maxRecDepth 16384

noncomputable section

namespace Cert.AttnInFwd

open Idealize.ShloMosaic Idealize.ShloMosaic.TcCoe Idealize.ShloMosaic.StableHlo Idealize.SL.Sem
open Cert.KernelAttnInFwdIdeal Cert.KernelAttnInFwdIdeal.Gen Cert.Norm

/-! # The attention's norm, input products and forget gate: one point, the arrays after the run, the reference -/

open Cert.AttnIn (soft third lanesF lanesF_apply)

/-- The logarithm of the gate, as the kernel writes it. -/
def logGate (z : EReal) : EReal := min z 0 - Ideal.log (1 + Ideal.exp (0 - max z (-z)))

theorem log_ne_bot (y : EReal) (hy : 0 ≤ y) : Ideal.log (1 + y) ≠ ⊥ := by
  induction y with
  | bot => exact absurd hy (by simp)
  | top =>
    rw [EReal.add_top_of_ne_bot (by rw [← EReal.coe_one]; exact EReal.coe_ne_bot 1)]
    exact top_ne_bot
  | coe r =>
    have h : 0 ≤ r := by exact_mod_cast hy
    rw [← EReal.coe_one, ← EReal.coe_add, Ideal.log_coe, if_neg (by linarith)]
    exact EReal.coe_ne_bot _

theorem exp_nonneg (y : EReal) : 0 ≤ Ideal.exp y := by
  induction y with
  | bot => simp
  | top => simp
  | coe r =>
    show (0 : EReal) ≤ ((Real.exp r : ℝ) : EReal)
    exact_mod_cast (Real.exp_pos r).le

/-- It is the negated softplus of the negated logit. -/
theorem logGate_eq (z : EReal) : logGate z = -soft (-z) := by
  have h1 : max (-z) 0 ≠ ⊥ := fun h => absurd (h ▸ le_max_right (-z) 0) (by simp)
  have h2 : Ideal.log (1 + Ideal.exp (0 - max z (-z))) ≠ ⊥ := log_ne_bot _ (exp_nonneg _)
  unfold logGate soft Ideal.log1p
  rw [neg_neg, max_comm (-z) z, ← zero_sub (max z (-z)), EReal.neg_add (.inl h1) (.inr h2)]
  refine congrArg (· - _) ?_
  rcases le_total z 0 with h | h
  · rw [min_eq_left h, max_eq_left (EReal.le_neg_of_le_neg (by simpa using h)), neg_neg]
  · rw [min_eq_right h, max_eq_right (EReal.neg_le_of_neg_le (by simpa using h)), neg_zero]

section
variable (x : S512x1024.Idx → EReal) (g : S1x1024.Idx → EReal) (h : S512x1024.Idx → EReal) (w : S1024x1024.Idx → EReal) (f : S1024x128.Idx → EReal)
  (b : S1x128.Idx → EReal) (r : Fin 512)

theorem pay2_apply (l : Fin 1024) : k0_pay2 (F := Ideal) x g (ix2 r l) = rms (row x r) (row g 0) l := by
  pointwise [k0_pay2, rms, scale, power, row]

theorem pay4_apply (l : Fin 1024) : k0_pay4 (F := Ideal) x g w (ix2 r l) = ∑ k : Fin 1024, rms (row x r) (row g 0) k * w (ix2 k l) := by
  pointwise [k0_pay4]
  simp only [pay2_apply]

theorem pay5_apply (l : Fin 1024) : k0_pay5 (F := Ideal) x g w (ix2 r l) = ∑ k : Fin 1024, rms (row x r) (row g 0) k * w (ix2 k l) := pay4_apply x g w r l

theorem pay3_apply (l : Fin 1024) : k0_pay3 (F := Ideal) x g w (ix2 r l)
    = (∑ k : Fin 1024, rms (row x r) (row g 0) k * w (ix2 k l)) * Ideal.ofBits .f32 0x3E000000#32 := by
  pointwise [k0_pay3]
  simp only [pay2_apply]

theorem lane : ∀ e : Fin 128, IntOp.cmpi .slt (BitVec.ofNat 32 e.val) 16#32 = if e.val < 16 then 1#1 else 0#1 := by decide

theorem pay1_apply (e : Fin 128) : k0_pay1 (F := Ideal) h f b (ix2 r e)
    = if e.val < 16 then logGate ((∑ k : Fin 1024, h (ix2 r k) * f (ix2 k e)) + b (ix2 0 e)) else 0 := by
  pointwise [k0_pay1, logGate]
  rw [lane]
  split <;> rfl
end

variable (m : (ℓ : Loc nD τ sig) → Buf (Elt Ideal) ℓ)

/-- The arrays the region reads, and their blocks at a point. -/
def inX (c : Dev nD) : S8192x1024.Idx → EReal := V m c (Pipeline.arrRef spec0 0)
def inG (c : Dev nD) : S1x1024.Idx → EReal := V m c (Pipeline.arrRef spec0 1)
def inW (c : Dev nD) : S1024x3072.Idx → EReal := V m c (Pipeline.arrRef spec0 2)
def inF (c : Dev nD) : S1024x128.Idx → EReal := V m c (Pipeline.arrRef spec0 3)
def inB (c : Dev nD) : S1x128.Idx → EReal := V m c (Pipeline.arrRef spec0 4)
def blkX (c : Dev nD) (t : Fin cfg0.N) : S512x1024.Idx → EReal := iblk m c 0 t
def blkG (c : Dev nD) (t : Fin cfg0.N) : S1x1024.Idx → EReal := iblk m c 1 t
def blkW (c : Dev nD) (t : Fin cfg0.N) : S1024x3072.Idx → EReal := iblk m c 2 t
def blkF (c : Dev nD) (t : Fin cfg0.N) : S1024x128.Idx → EReal := iblk m c 3 t
def blkB (c : Dev nD) (t : Fin cfg0.N) : S1x128.Idx → EReal := iblk m c 4 t

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

theorem lt_rows (t : Fin cfg0.N) (r : Fin 512) : t.val * 512 + r < 8192 := by
  have ht : t.val < 16 := lt_of_lt_of_eq t.isLt N_0
  have := r.isLt
  omega

/-- Row `r` of the block at point `t` is this row of the array. -/
def at_ (t : Fin cfg0.N) (r : Fin 512) : Fin 8192 := ⟨t.val * 512 + r, lt_rows t r⟩

theorem blkX_apply (c : Dev nD) (t : Fin cfg0.N) (r : Fin 512) (l : Fin 1024) : blkX m c t (ix2 r l) = inX m c (ix2 (at_ t r) l) := by
  unfold blkX inX iblk
  blk_ext [iblk, (idx t).1]
  rfl

theorem blkG_eq (c : Dev nD) (t : Fin cfg0.N) : blkG m c t = inG m c := by
  funext i
  obtain ⟨p, q, rfl⟩ : ∃ (p : Fin 1) (q : Fin 1024), i = ix2 p q := ⟨i 0, i 1, eq_ix2 i⟩
  unfold blkG inG iblk
  blk_ext [iblk, (idx t).2.1]

theorem blkW_eq (c : Dev nD) (t : Fin cfg0.N) : blkW m c t = inW m c := by
  funext i
  obtain ⟨p, q, rfl⟩ : ∃ (p : Fin 1024) (q : Fin 3072), i = ix2 p q := ⟨i 0, i 1, eq_ix2 i⟩
  unfold blkW inW iblk
  blk_ext [iblk, (idx t).2.2.1]

theorem blkF_eq (c : Dev nD) (t : Fin cfg0.N) : blkF m c t = inF m c := by
  funext i
  obtain ⟨p, q, rfl⟩ : ∃ (p : Fin 1024) (q : Fin 128), i = ix2 p q := ⟨i 0, i 1, eq_ix2 i⟩
  unfold blkF inF iblk
  blk_ext [iblk, (idx t).2.2.2.1]

theorem blkB_eq (c : Dev nD) (t : Fin cfg0.N) : blkB m c t = inB m c := by
  funext i
  obtain ⟨p, q, rfl⟩ : ∃ (p : Fin 1) (q : Fin 128), i = ix2 p q := ⟨i 0, i 1, eq_ix2 i⟩
  unfold blkB inB iblk
  blk_ext [iblk, (idx t).2.2.2.2.1]

/-- The part `s` of the weights, as the body loads it. -/
def wPart (X : S1024x3072.Idx → EReal) (s : Fin 3) : S1024x1024.Idx → EReal :=
  View.ld (Val := Elt Ideal) (e' := .bf16) X (Rect.unit (s := S1024x3072) ![0, s.val * 1024] ![1024, 1024]
    ((by decide : ∀ s : Fin 3, ∀ a : Fin 2, (![0, s.val * 1024] : Fin 2 → ℕ) a + (![1024, 1024] : Fin 2 → ℕ) a ≤ (![1024, 3072] : Fin 2 → ℕ) a) s))

theorem wPart_apply (X : S1024x3072.Idx → EReal) (s : Fin 3) (k j : Fin 1024) : wPart X s (ix2 k j) = X (ix2 k (third s j)) :=
  ld_part (Val := Elt Ideal) (e := .bf16) X s.val _ rfl _ k j _

/-- What a point leaves in the outputs. -/
theorem outs_q (c : Dev nD) (t : Fin cfg0.N) : (dats m 0 c).after 5 t = k0_pay3 (F := Ideal) (blkX m c t) (blkG m c t) (wPart (blkW m c t) 0) := by
  rw [after0_5]; unfold out0_5; frame_out; rfl

theorem outs_k (c : Dev nD) (t : Fin cfg0.N) : (dats m 0 c).after 6 t = k0_pay4 (F := Ideal) (blkX m c t) (blkG m c t) (wPart (blkW m c t) 1) := by
  rw [after0_6]; unfold out0_6; frame_out; rfl

theorem outs_v (c : Dev nD) (t : Fin cfg0.N) : (dats m 0 c).after 7 t = k0_pay5 (F := Ideal) (blkX m c t) (blkG m c t) (wPart (blkW m c t) 2) := by
  rw [after0_7]; unfold out0_7; frame_out; rfl

theorem outs_f (c : Dev nD) (t : Fin cfg0.N) : (dats m 0 c).after 8 t
    = k0_pay1 (F := Ideal) (k0_pay2 (F := Ideal) (blkX m c t) (blkG m c t)) (blkF m c t) (blkB m c t) := by
  rw [after0_8]; unfold out0_8; frame_out; rfl

/-- The arguments. -/
def argX (c : Dev nD) : S8192x1024.Idx → EReal := m ((c.tc : Thread nD τ).loc main_arg0)
def argG (c : Dev nD) : S1x1024.Idx → EReal := m ((c.tc : Thread nD τ).loc main_arg1)
def argW (c : Dev nD) : S1024x3072.Idx → EReal := m ((c.tc : Thread nD τ).loc main_arg2)
def argF (c : Dev nD) : S1024x16.Idx → EReal := m ((c.tc : Thread nD τ).loc main_arg3)
def argB (c : Dev nD) : S1x16.Idx → EReal := m ((c.tc : Thread nD τ).loc main_arg4)

/-- The bias widened to 128 lanes. -/
def lanesB (b : FVec Ideal S1x16 .f32) : FVec Ideal S1x128 .f32 :=
  pad S1x128 ![0, 0] ![0, 112] ![0, 0] b (sitofp (F := Ideal) .f32 (constantI S_ 32 0#32)) pads_S1x16_S1x128_000_01120 h_S_

theorem lanesB_apply (b : S1x16.Idx → EReal) (e : Fin 128) (h : e.val < 16) : lanesB b (ix2 0 e) = b (ix2 0 ⟨e.val, h⟩) := by
  pointwise [lanesB]
  exact dif_pos h

/-- What the host operations leave in the arrays the region reads. -/
theorem ins (c : Dev nD) : inX m c = argX m c ∧ inG m c = argG m c ∧ inW m c = argW m c ∧ inF m c = lanesF (argF m c) ∧ inB m c = lanesB (argB m c) := by
  unfold inX inG inW inF inB V
  simp only [hostOps0, hostOps0_1, hostOps0_2, hostOps0_3, List.flatten_cons, List.flatten_nil, List.append_nil, List.cons_append, List.nil_append, TRef.ternary, TRef.binary, TRef.nullary, TRef.unary, TRef.toBuf, TRef.ofBuf, cast_eq]
  refine ⟨?_, ?_, ?_, ?_, ?_⟩ <;> after_results <;> rfl

/-- The products and the logits in an entry. -/
def proj (X : S8192x1024.Idx → EReal) (G : S1x1024.Idx → EReal) (W : S1024x3072.Idx → EReal) (s : Fin 3) (T : Fin 8192) (l : Fin 1024) : EReal :=
  ∑ k : Fin 1024, rms (row X T) (row G 0) k * W (ix2 k (third s l))
def logit (X : S8192x1024.Idx → EReal) (G : S1x1024.Idx → EReal) (W : S1024x16.Idx → EReal) (B : S1x16.Idx → EReal) (T : Fin 8192) (e : Fin 16) : EReal :=
  (∑ k : Fin 1024, rms (row X T) (row G 0) k * W (ix2 k e)) + B (ix2 0 e)

theorem sum_blk (c : Dev nD) (t : Fin cfg0.N) (s : Fin 3) (r : Fin 512) (l : Fin 1024) :
    ∑ k : Fin 1024, rms (row (blkX m c t) r) (row (blkG m c t) 0) k * wPart (blkW m c t) s (ix2 k l) = proj (argX m c) (argG m c) (argW m c) s (at_ t r) l := by
  obtain ⟨h1, h2, h3, h4, h5⟩ := ins m c
  rw [blkG_eq, h2, blkW_eq, h3, ← h1, show row (blkX m c t) r = row (inX m c) (at_ t r) from funext (blkX_apply m c t r)]
  exact Finset.sum_congr rfl fun k _ => by rw [wPart_apply]

theorem final_q (c : Dev nD) : (dats m 0 c).arrAt 5 cfg0.N = fun i : S8192x1024.Idx =>
    proj (argX m c) (argG m c) (argW m c) 0 (i 0) (i 1) * Ideal.ofBits .f32 0x3E000000#32 := by
  generalize hA : (fun i : S8192x1024.Idx => proj (argX m c) (argG m c) (argW m c) 0 (i 0) (i 1) * Ideal.ofBits .f32 0x3E000000#32) = A
  refine (dats m 0 c).arrAt_eq_of_covers 5 _ (by decide +kernel) fun t hf y => ?_
  blk_simp
  rw [outs_q]
  obtain ⟨r, l, rfl⟩ : ∃ (r : Fin 512) (l : Fin 1024), y = ix2 r l := ⟨y 0, y 1, eq_ix2 y⟩
  refine (pay3_apply _ _ _ r l).trans ?_
  rw [sum_blk]
  refine (congrFun hA (ix2 (at_ t r) l)).trans ?_
  blk_point [idx t, at_]

theorem final_k (c : Dev nD) : (dats m 0 c).arrAt 6 cfg0.N = fun i : S8192x1024.Idx => proj (argX m c) (argG m c) (argW m c) 1 (i 0) (i 1) := by
  generalize hA : (fun i : S8192x1024.Idx => proj (argX m c) (argG m c) (argW m c) 1 (i 0) (i 1)) = A
  refine (dats m 0 c).arrAt_eq_of_covers 6 _ (by decide +kernel) fun t hf y => ?_
  blk_simp
  rw [outs_k]
  obtain ⟨r, l, rfl⟩ : ∃ (r : Fin 512) (l : Fin 1024), y = ix2 r l := ⟨y 0, y 1, eq_ix2 y⟩
  refine (pay4_apply _ _ _ r l).trans ((sum_blk m c t 1 r l).trans ((congrFun hA (ix2 (at_ t r) l)).trans ?_))
  blk_point [idx t, at_]

theorem final_v (c : Dev nD) : (dats m 0 c).arrAt 7 cfg0.N = fun i : S8192x1024.Idx => proj (argX m c) (argG m c) (argW m c) 2 (i 0) (i 1) := by
  generalize hA : (fun i : S8192x1024.Idx => proj (argX m c) (argG m c) (argW m c) 2 (i 0) (i 1)) = A
  refine (dats m 0 c).arrAt_eq_of_covers 7 _ (by decide +kernel) fun t hf y => ?_
  blk_simp
  rw [outs_v]
  obtain ⟨r, l, rfl⟩ : ∃ (r : Fin 512) (l : Fin 1024), y = ix2 r l := ⟨y 0, y 1, eq_ix2 y⟩
  refine (pay5_apply _ _ _ r l).trans ((sum_blk m c t 2 r l).trans ((congrFun hA (ix2 (at_ t r) l)).trans ?_))
  blk_point [idx t, at_]

/-- The logarithms of the gates in an entry. -/
def fArr (X : S8192x1024.Idx → EReal) (G : S1x1024.Idx → EReal) (W : S1024x16.Idx → EReal) (B : S1x16.Idx → EReal) (T : Fin 8192) (e : Fin 128) : EReal :=
  if h : e.val < 16 then logGate (logit X G W B T ⟨e.val, h⟩) else 0

theorem final_f (c : Dev nD) : (dats m 0 c).arrAt 8 cfg0.N = fun i : S8192x128.Idx => fArr (argX m c) (argG m c) (argF m c) (argB m c) (i 0) (i 1) := by
  generalize hA : (fun i : S8192x128.Idx => fArr (argX m c) (argG m c) (argF m c) (argB m c) (i 0) (i 1)) = A
  refine (dats m 0 c).arrAt_eq_of_covers 8 _ (by decide +kernel) fun t hf y => ?_
  blk_simp
  rw [outs_f]
  obtain ⟨r, e, rfl⟩ : ∃ (r : Fin 512) (e : Fin 128), y = ix2 r e := ⟨y 0, y 1, eq_ix2 y⟩
  refine (pay1_apply _ _ _ r e).trans (Eq.trans (b := fArr (argX m c) (argG m c) (argF m c) (argB m c) (at_ t r) e) ?_ ((congrFun hA (ix2 (at_ t r) e)).trans ?_))
  · obtain ⟨h1, h2, h3, h4, h5⟩ := ins m c
    unfold fArr
    by_cases he : e.val < 16
    · rw [if_pos he, dif_pos he, blkF_eq, h4, blkB_eq, h5, lanesB_apply _ e he]
      unfold logit
      refine congrArg (fun z => logGate (z + _)) (Finset.sum_congr rfl fun k _ => ?_)
      rw [pay2_apply, lanesF_apply, dif_pos he, blkG_eq, h2, ← h1, show row (blkX m c t) r = row (inX m c) (at_ t r) from funext (blkX_apply m c t r)]
    · rw [if_neg he, dif_neg he]
  · blk_point [idx t, at_]

section
variable (x : FVec Ideal S8192x1024 .f32) (g : FVec Ideal S1x1024 .f32) (w : FVec Ideal S1024x3072 .f32) (f : FVec Ideal S1024x16 .f32) (b : FVec Ideal S1x16 .f32)

/-- The reference's product and its four results. -/
def refP : FVec Ideal Cert.ReferenceAttnInFwdIdeal.S8192x3072 .f32 :=
  Host.dotGeneral Cert.ReferenceAttnInFwdIdeal.dot_S8192x1024_S1024x3072_S8192x3072_1_0_0_1_n_n none (AttnIn.refH x g) w
def refQ : FVec Ideal S8192x1024 .bf16 :=
  truncf .bf16 (mulf (extractStridedSlice S8192x1024 ![0, 0] (refP x g w) Cert.ReferenceAttnInFwdIdeal.Gen.slices_S8192x3072_S8192x1024_0_0)
    (broadcastInDim S8192x1024 ![] Cert.ReferenceAttnInFwdIdeal.Gen.bcast_S_S8192x1024 (constant S_ .f32 0x3E000000#32))) bitsLt_bf16_f32
def refK : FVec Ideal S8192x1024 .bf16 :=
  truncf .bf16 (extractStridedSlice S8192x1024 ![0, 1024] (refP x g w) Cert.ReferenceAttnInFwdIdeal.Gen.slices_S8192x3072_S8192x1024_0_1024) bitsLt_bf16_f32
def refV : FVec Ideal S8192x1024 .bf16 :=
  truncf .bf16 (extractStridedSlice S8192x1024 ![0, 2048] (refP x g w) Cert.ReferenceAttnInFwdIdeal.Gen.slices_S8192x3072_S8192x1024_0_2048) bitsLt_bf16_f32
def refL : FVec Ideal S8192x128 .f32 :=
  pad S8192x128 ![0, 0] ![0, 112] ![0, 0] (Host.negf (AttnIn.refSoft (AttnIn.refZ x g f b))) (sitofp (F := Ideal) .f32 (constantI S_ 32 0#32))
    Cert.ReferenceAttnInFwdIdeal.Gen.pads_S8192x16_S8192x128_000_01120 Cert.ReferenceAttnInFwdIdeal.Gen.h_S_
end

section
variable (x : S8192x1024.Idx → EReal) (g : S1x1024.Idx → EReal) (w : S1024x3072.Idx → EReal) (f : S1024x16.Idx → EReal) (b : S1x16.Idx → EReal) (T : Fin 8192)

theorem refP_apply (s : Fin 3) (l : Fin 1024) : refP x g w (ix2 T (third s l)) = proj x g w s T l := by
  pointwise [refP]
  simp only [AttnIn.refH_apply]
  rfl

theorem refQ_apply (l : Fin 1024) : refQ x g w (ix2 T l) = proj x g w 0 T l * Ideal.ofBits .f32 0x3E000000#32 := by
  rw [← refP_apply]
  pointwise [refQ]
  exact congrArg (fun k => refP x g w (ix2 T k) * _) (Fin.ext (by show l.val = 0 * 1024 + l.val; omega))

theorem refK_apply (l : Fin 1024) : refK x g w (ix2 T l) = proj x g w 1 T l := by
  rw [← refP_apply]
  pointwise [refK]
  exact congrArg (fun k => refP x g w (ix2 T k)) (Fin.ext (by show 1024 + l.val = 1 * 1024 + l.val; omega))

theorem refV_apply (l : Fin 1024) : refV x g w (ix2 T l) = proj x g w 2 T l := by
  rw [← refP_apply]
  pointwise [refV]
  exact congrArg (fun k => refP x g w (ix2 T k)) (Fin.ext (by show 2048 + l.val = 2 * 1024 + l.val; omega))

theorem refL_apply (e : Fin 128) : refL x g f b (ix2 T e) = fArr x g f b T e := by
  unfold fArr
  pointwise [refL]
  split
  · rw [logGate_eq, AttnIn.refSoft_apply, AttnIn.refZ_apply]
    simp only [AttnIn.refH_apply]
    rfl
  · exact AttnIn.word_pad
end

/-- The four output arrays are the reference's four results. -/
theorem values (c : Dev nD) : (dats m 0 c).arrAt 5 cfg0.N = refQ (argX m c) (argG m c) (argW m c)
    ∧ (dats m 0 c).arrAt 6 cfg0.N = refK (argX m c) (argG m c) (argW m c)
    ∧ (dats m 0 c).arrAt 7 cfg0.N = refV (argX m c) (argG m c) (argW m c)
    ∧ (dats m 0 c).arrAt 8 cfg0.N = refL (argX m c) (argG m c) (argF m c) (argB m c) := by
  rw [final_q, final_k, final_v, final_f]
  refine ⟨funext fun i => ?_, funext fun i => ?_, funext fun i => ?_, funext fun i => ?_⟩
  · obtain ⟨r, l, rfl⟩ : ∃ (r : Fin 8192) (l : Fin 1024), i = ix2 r l := ⟨i 0, i 1, eq_ix2 i⟩
    exact (refQ_apply _ _ _ r l).symm
  · obtain ⟨r, l, rfl⟩ : ∃ (r : Fin 8192) (l : Fin 1024), i = ix2 r l := ⟨i 0, i 1, eq_ix2 i⟩
    exact (refK_apply _ _ _ r l).symm
  · obtain ⟨r, l, rfl⟩ : ∃ (r : Fin 8192) (l : Fin 1024), i = ix2 r l := ⟨i 0, i 1, eq_ix2 i⟩
    exact (refV_apply _ _ _ r l).symm
  · obtain ⟨r, e, rfl⟩ : ∃ (r : Fin 8192) (e : Fin 128), i = ix2 r e := ⟨i 0, i 1, eq_ix2 i⟩
    exact (refL_apply _ _ _ _ r e).symm

end Cert.AttnInFwd

end
-- ==== Proof.Norm.Tiles.lean ====
module

public import Idealize.ShloMosaic.Lib.Pipeline.ValueKit
public import Idealize.ShloMosaic.Lib.Pipeline.ReadBack

@[expose] public section

noncomputable section

namespace Cert.Norm

open Idealize.ShloMosaic Idealize.SL.Sem

/-! # Stores and loads of a rectangle of a matrix -/

variable {Val : EltTy → Type} [∀ e, Nonempty (Val e)] {sig : RefSig} {κ : Kind} {sp : Space} {e : EltTy} {M n R W : ℕ}

/-- Entry `(r, j)` of the rectangle at row `o` and column `p` is entry `(o + r, p + j)` of the matrix. -/
theorem emb_tile (o p : ℕ) (inb : ∀ a : Fin 2, (![o, p] : Fin 2 → ℕ) a + (![R, W] : Fin 2 → ℕ) a ≤ (![M, n] : Fin 2 → ℕ) a)
    (r : Fin R) (j : Fin W) (k : Fin M) (l : Fin n) (hk : k.val = o + r.val) (hl : l.val = p + j.val) :
    (Rect.unit (s := ⟨2, ![M, n]⟩) ![o, p] ![R, W] inb).emb (ix2 r j) = ix2 k l := by
  funext a
  match a with
  | ⟨0, _⟩ => exact Fin.ext (show o + 1 * r.val = k.val by omega)
  | ⟨1, _⟩ => exact Fin.ext (show p + 1 * j.val = l.val by omega)

/-- An entry that lies before or after the rectangle in rows or columns is not in it. -/
theorem not_mem_tile (o p : ℕ) (inb : ∀ a : Fin 2, (![o, p] : Fin 2 → ℕ) a + (![R, W] : Fin 2 → ℕ) a ≤ (![M, n] : Fin 2 → ℕ) a)
    (k : Fin M) (l : Fin n) (h : k.val < o ∨ o + R ≤ k.val ∨ l.val < p ∨ p + W ≤ l.val) :
    ix2 k l ∉ (Rect.unit (s := ⟨2, ![M, n]⟩) ![o, p] ![R, W] inb).set := by
  intro hm
  have h0 : o ≤ k.val ∧ k.val < o + R := (Rect.mem_set_unit (inb := inb)).mp hm 0
  have h1 : p ≤ l.val ∧ l.val < p + W := (Rect.mem_set_unit (inb := inb)).mp hm 1
  omega

/-- A rectangle loaded. -/
theorem ld_tile (X : (⟨2, ![M, n]⟩ : Shape).Idx → Val e) (o p : ℕ)
    (inb : ∀ a : Fin 2, (![o, p] : Fin 2 → ℕ) a + (![R, W] : Fin 2 → ℕ) a ≤ (![M, n] : Fin 2 → ℕ) a) (r : Fin R) (j : Fin W)
    (k : Fin M) (l : Fin n) (hk : k.val = o + r.val) (hl : l.val = p + j.val) :
    View.ld X (Rect.unit (s := ⟨2, ![M, n]⟩) ![o, p] ![R, W] inb) (ix2 r j) = X (ix2 k l) :=
  congrArg X (emb_tile o p inb r j k l hk hl)

/-- A rectangle loaded after writes. -/
theorem readCov_tile (v : View sig κ sp (⟨2, ![M, n]⟩ : Shape) e) (L : List (View.Piece Val (⟨2, ![M, n]⟩ : Shape) e)) (o p : ℕ)
    (inb : ∀ a : Fin 2, (![o, p] : Fin 2 → ℕ) a + (![R, W] : Fin 2 → ℕ) a ≤ (![M, n] : Fin 2 → ℕ) a) (r : Fin R) (j : Fin W)
    (k : Fin M) (l : Fin n) (hk : k.val = o + r.val) (hl : l.val = p + j.val) :
    v.readCov L (Rect.unit (s := ⟨2, ![M, n]⟩) ![o, p] ![R, W] inb).toLoadRect (ix2 r j) = View.canon L (ix2 k l) := by
  rw [View.readCov_eq_canon']
  exact congrArg (View.canon L) (emb_tile o p inb r j k l hk hl)

/-- After the rectangle was written: in it the payload, -/
theorem canon_tile (o p : ℕ) (inb : ∀ a : Fin 2, (![o, p] : Fin 2 → ℕ) a + (![R, W] : Fin 2 → ℕ) a ≤ (![M, n] : Fin 2 → ℕ) a)
    (Y : (⟨2, ![R, W]⟩ : Shape).Idx → Val e) (L : List (View.Piece Val (⟨2, ![M, n]⟩ : Shape) e)) (r : Fin R) (j : Fin W)
    (k : Fin M) (l : Fin n) (hk : k.val = o + r.val) (hl : l.val = p + j.val) :
    View.canon ((⟨Rect.unit (s := ⟨2, ![M, n]⟩) ![o, p] ![R, W] inb, Y⟩ : View.Piece Val (⟨2, ![M, n]⟩ : Shape) e) :: L) (ix2 k l) = Y (ix2 r j) := by
  rw [← emb_tile o p inb r j k l hk hl]
  exact View.canon_cons_emb _ _ _ _

/-- elsewhere what was there. -/
theorem canon_tile_miss (o p : ℕ) (inb : ∀ a : Fin 2, (![o, p] : Fin 2 → ℕ) a + (![R, W] : Fin 2 → ℕ) a ≤ (![M, n] : Fin 2 → ℕ) a)
    (Y : (⟨2, ![R, W]⟩ : Shape).Idx → Val e) (L : List (View.Piece Val (⟨2, ![M, n]⟩ : Shape) e))
    (k : Fin M) (l : Fin n) (h : k.val < o ∨ o + R ≤ k.val ∨ l.val < p ∨ p + W ≤ l.val) :
    View.canon ((⟨Rect.unit (s := ⟨2, ![M, n]⟩) ![o, p] ![R, W] inb, Y⟩ : View.Piece Val (⟨2, ![M, n]⟩ : Shape) e) :: L) (ix2 k l) = View.canon L (ix2 k l) :=
  View.canon_cons_of_not_mem _ _ (not_mem_tile o p inb k l h)

end Cert.Norm

end
-- ==== Proof.Forward.Conv.lean ====
module

public import proofs.«01_k».proof.Proof.Norm.Tiles
public import proofs.«01_k».proof.Proof.Gen.KernelDwConvFwdIdeal.Value
public import proofs.«01_k».proof.Proof.Gen.ReferenceDwConvFwdIdeal.Run

@[expose] public section

set_option maxRecDepth 16384

noncomputable section

namespace Cert.DwConvFwd

open Idealize.ShloMosaic Idealize.ShloMosaic.TcCoe Idealize.ShloMosaic.StableHlo Idealize.SL.Sem
open Cert.Norm

/-! # The depthwise convolution: one point, the array after the run, the reference -/

section
open Cert.KernelDwConvFwdIdeal Cert.KernelDwConvFwdIdeal.Gen

section
variable (i : grid0.Coords) (x : S256x256.Idx → EReal) (y w : S32x256.Idx → EReal) (b : S1x256.Idx → EReal)

/-- The scratch holds the 32 rows before the block and the block. -/
def ext : List (View.Piece (Elt Ideal) S288x256 .f32) :=
  [⟨Rect.unit (s := S288x256) ![32, 0] ![256, 256] inb_S288x256_S256x256_32_0, k0_pay2 (F := Ideal) x⟩,
    ⟨Rect.unit (s := S288x256) ![0, 0] ![32, 256] inb_S288x256_S32x256_0_0, k0_pay1 (F := Ideal) i y⟩]

/-- The loads of the body: a row of the weights, of the bias, and 32 rows of the scratch. -/
def wRow (h : Fin 2) (j : Fin 31) : S1x128.Idx → EReal :=
  View.ld (Val := Elt Ideal) (e' := .f32) w (Rect.unit (s := S32x256) ![j.val, h.val * 128] ![1, 128]
    ((by decide : ∀ (h : Fin 2) (j : Fin 31), ∀ a : Fin 2, (![j.val, h.val * 128] : Fin 2 → ℕ) a + (![1, 128] : Fin 2 → ℕ) a ≤ (![32, 256] : Fin 2 → ℕ) a) h j))
def bRow (h : Fin 2) : S1x128.Idx → EReal :=
  View.ld (Val := Elt Ideal) (e' := .f32) b (Rect.unit (s := S1x256) ![0, h.val * 128] ![1, 128]
    ((by decide : ∀ h : Fin 2, ∀ a : Fin 2, (![0, h.val * 128] : Fin 2 → ℕ) a + (![1, 128] : Fin 2 → ℕ) a ≤ (![1, 256] : Fin 2 → ℕ) a) h))
theorem inb_rows (s : Fin 8) (h : Fin 2) (j : Fin 31) (a : Fin 2) : (![2 + j.val + s.val * 32, h.val * 128] : Fin 2 → ℕ) a + (![32, 128] : Fin 2 → ℕ) a ≤ (![288, 256] : Fin 2 → ℕ) a := by
  match a with
  | ⟨0, _⟩ => exact show 2 + j.val + s.val * 32 + 32 ≤ 288 by omega
  | ⟨1, _⟩ => exact show h.val * 128 + 128 ≤ 256 by omega
def eRows (s : Fin 8) (h : Fin 2) (j : Fin 31) : S32x128.Idx → EReal :=
  scM0_0.view.readCov (Val := Elt Ideal) (ext i x y) (Rect.unit (s := S288x256) ![2 + j.val + s.val * 32, h.val * 128] ![32, 128] (inb_rows s h j)).toLoadRect

/-- The first `n` taps of a tile added to the bias. -/
def taps (s : Fin 8) (h : Fin 2) : (n : ℕ) → n ≤ 31 → FVec Ideal S32x128 .f32
  | 0, _ => addf (broadcast S32x128 (Scalar.ofBits .f32 0x00000000#32)) (broadcastTo S32x128 (bRow b h) broadcasts_S1x128_S32x128)
  | n + 1, hn => addf (taps s h n (Nat.le_of_succ_le hn))
      (mulf (broadcastTo S32x128 (shapeCast S1x128 (wRow w h ⟨n, hn⟩) shapeCasts_S1x128_S1x128) broadcasts_S1x128_S32x128) (eRows i x y s h ⟨n, hn⟩))

theorem taps_zero (s : Fin 8) (h : Fin 2) : taps i x y w b s h 0 (by decide)
    = addf (broadcast S32x128 (Scalar.ofBits .f32 0x00000000#32)) (broadcastTo S32x128 (bRow b h) broadcasts_S1x128_S32x128) := rfl
theorem taps_succ (s : Fin 8) (h : Fin 2) (n : ℕ) (hn : n + 1 ≤ 31) : taps i x y w b s h (n + 1) hn = addf (taps i x y w b s h n (Nat.le_of_succ_le hn))
    (mulf (broadcastTo S32x128 (shapeCast S1x128 (wRow w h ⟨n, hn⟩) shapeCasts_S1x128_S1x128) broadcasts_S1x128_S32x128) (eRows i x y s h ⟨n, hn⟩)) := rfl

theorem inb_tiles (q : ℕ) (hq : q < 16) (a : Fin 2) : (![q / 2 * 32, q % 2 * 128] : Fin 2 → ℕ) a + (![32, 128] : Fin 2 → ℕ) a ≤ (![256, 256] : Fin 2 → ℕ) a := by
  match a with
  | ⟨0, _⟩ => exact show q / 2 * 32 + 32 ≤ 256 by omega
  | ⟨1, _⟩ => exact show q % 2 * 128 + 128 ≤ 256 by omega

/-- The first `q` tiles stored, two in each group of 32 rows. -/
def tiles : (q : ℕ) → q ≤ 16 → List (View.Piece (Elt Ideal) S256x256 .f32)
  | 0, _ => []
  | q + 1, hq => ⟨Rect.unit (s := S256x256) ![q / 2 * 32, q % 2 * 128] ![32, 128] (inb_tiles q hq), taps i x y w b ⟨q / 2, by omega⟩ ⟨q % 2, by omega⟩ 31 le_rfl⟩
      :: tiles q (Nat.le_of_succ_le hq)

theorem canon_tiles (s : Fin 8) (h : Fin 2) (r : Fin 32) (e : Fin 128) (k l : Fin 256) (hk : k.val = s.val * 32 + r.val) (hl : l.val = h.val * 128 + e.val) :
    ∀ (q : ℕ) (hq : q ≤ 16), s.val * 2 + h.val < q → View.canon (tiles i x y w b q hq) (ix2 k l) = taps i x y w b s h 31 le_rfl (ix2 r e)
  | q + 1, hq, hs => by
    have := r.isLt
    have := e.isLt
    have := h.isLt
    by_cases hc : s.val * 2 + h.val = q
    · have h1 : (⟨q / 2, by omega⟩ : Fin 8) = s := Fin.ext (by show q / 2 = s.val; omega)
      have h2 : (⟨q % 2, by omega⟩ : Fin 2) = h := Fin.ext (by show q % 2 = h.val; omega)
      refine (canon_tile (Val := Elt Ideal) (e := .f32) _ _ _ _ _ r e k l (by omega) (by omega)).trans ?_
      rw [h1, h2]
    · refine (canon_tile_miss (Val := Elt Ideal) (e := .f32) _ _ _ _ _ k l ?_).trans (canon_tiles s h r e k l hk hl q (Nat.le_of_succ_le hq) (by omega))
      omega

theorem pay1_apply (a : Fin 32) (l : Fin 256) : k0_pay1 (F := Ideal) i y (ix2 a l) = if 0 < (i 0).val then y (ix2 a l) else 0 := by
  have hc : Scalar.cmpi .sgt (BitVec.ofNat 32 (i 0).val) 0#32 = if 0 < (i 0).val then 1#1 else 0#1 :=
    (by decide : ∀ n : Fin 32, Scalar.cmpi .sgt (BitVec.ofNat 32 n.val) 0#32 = if 0 < n.val then 1#1 else 0#1) (i 0)
  unfold k0_pay1
  dsimp only
  rw [hc]
  split <;> pointwise []

theorem pay2_apply (r l : Fin 256) : k0_pay2 (F := Ideal) x (ix2 r l) = x (ix2 r l) := by
  unfold k0_pay2
  pointwise []

/-- An entry of the scratch. -/
def extAt (k : ℕ) (l : Fin 256) : EReal :=
  if h : k < 32 then (if 0 < (i 0).val then y (ix2 ⟨k, h⟩ l) else 0) else if h : k - 32 < 256 then x (ix2 ⟨k - 32, h⟩ l) else 0

theorem canon_ext (k : Fin 288) (l : Fin 256) : View.canon (ext i x y) (ix2 k l) = extAt i x y k.val l := by
  have := k.isLt
  unfold extAt ext
  by_cases h : k.val < 32
  · rw [dif_pos h, ← pay1_apply]
    refine (canon_tile_miss (Val := Elt Ideal) (e := .f32) 32 0 _ _ _ k l (.inl h)).trans ?_
    exact canon_tile (Val := Elt Ideal) (e := .f32) 0 0 _ _ _ ⟨k.val, h⟩ l k l (by show k.val = 0 + k.val; omega) (by omega)
  · have h2 : k.val - 32 < 256 := by omega
    rw [dif_neg h, dif_pos h2]
    exact (canon_tile (Val := Elt Ideal) (e := .f32) 32 0 _ _ _ ⟨k.val - 32, h2⟩ l k l (by show k.val = 32 + (k.val - 32); omega) (by omega)).trans (pay2_apply x _ l)

theorem taps_apply (s : Fin 8) (h : Fin 2) (r : Fin 32) (e : Fin 128) (k l : Fin 256) (hk : k.val = s.val * 32 + r.val) (hl : l.val = h.val * 128 + e.val) :
    ∀ (n : ℕ) (hn : n ≤ 31), taps i x y w b s h n hn (ix2 r e)
      = b (ix2 0 l) + ∑ j : Fin n, w (ix2 ⟨j.val, by omega⟩ l) * extAt i x y (2 + j.val + k.val) l
  | 0, _ => by
    have hb : bRow b h (ix2 0 e) = b (ix2 0 l) := ld_tile (Val := Elt Ideal) (e := .f32) b 0 _ _ 0 e 0 l rfl hl
    rw [← hb, taps_zero, Fin.sum_univ_zero, add_zero]
    pointwise []
  | n + 1, hn => by
    have h1 : wRow w h ⟨n, hn⟩ (ix2 0 e) = w (ix2 ⟨n, by omega⟩ l) := ld_tile (Val := Elt Ideal) (e := .f32) w n _ _ 0 e _ l (by show n = n + 0; omega) hl
    have h2 : eRows i x y s h ⟨n, hn⟩ (ix2 r e) = extAt i x y (2 + n + k.val) l :=
      (readCov_tile (Val := Elt Ideal) (e := .f32) _ _ _ _ _ r e ⟨2 + n + k.val, by omega⟩ l (by show 2 + n + k.val = 2 + n + s.val * 32 + r.val; omega) hl).trans
        (canon_ext i x y _ l)
    have ih := taps_apply s h r e k l hk hl n (Nat.le_of_succ_le hn)
    rw [Fin.sum_univ_castSucc, ← add_assoc]
    refine Eq.trans (b := taps i x y w b s h n (Nat.le_of_succ_le hn) (ix2 r e) + wRow w h ⟨n, hn⟩ (ix2 0 e) * eRows i x y s h ⟨n, hn⟩ (ix2 r e)) ?_ ?_
    · rw [taps_succ]
      pointwise []
    · rw [ih, h1, h2]
      rfl

/-- An entry of the point's output. -/
theorem canon_out (k l : Fin 256) : View.canon (tiles i x y w b 16 le_rfl) (ix2 k l)
    = b (ix2 0 l) + ∑ j : Fin 31, w (ix2 ⟨j.val, by omega⟩ l) * extAt i x y (2 + j.val + k.val) l := by
  have hk : k.val = (⟨k.val / 32, by omega⟩ : Fin 8).val * 32 + (⟨k.val % 32, by omega⟩ : Fin 32).val := by show k.val = k.val / 32 * 32 + k.val % 32; omega
  have hl : l.val = (⟨l.val / 128, by omega⟩ : Fin 2).val * 128 + (⟨l.val % 128, by omega⟩ : Fin 128).val := by show l.val = l.val / 128 * 128 + l.val % 128; omega
  rw [canon_tiles i x y w b _ _ _ _ k l hk hl 16 le_rfl (by show k.val / 32 * 2 + l.val / 128 < 16; omega)]
  exact taps_apply i x y w b _ _ _ _ k l hk hl 31 le_rfl
end

variable (m : (ℓ : Loc nD τ sig) → Buf (Elt Ideal) ℓ)

/-- The arrays the region reads, and their blocks at a point. -/
def inU (c : Dev nD) : S8192x1024.Idx → EReal := V m c (Pipeline.arrRef spec0 0)
def inW (c : Dev nD) : S32x1024.Idx → EReal := V m c (Pipeline.arrRef spec0 2)
def inB (c : Dev nD) : S1x1024.Idx → EReal := V m c (Pipeline.arrRef spec0 3)
def blkU (c : Dev nD) (t : Fin cfg0.N) : S256x256.Idx → EReal := iblk m c 0 t
def blkH (c : Dev nD) (t : Fin cfg0.N) : S32x256.Idx → EReal := iblk m c 1 t
def blkW (c : Dev nD) (t : Fin cfg0.N) : S32x256.Idx → EReal := iblk m c 2 t
def blkB (c : Dev nD) (t : Fin cfg0.N) : S1x256.Idx → EReal := iblk m c 3 t

theorem idx : ∀ t : Fin cfg0.N, win0_0.index t = ![t.val / 4, t.val % 4] ∧ win0_1.index t = ![t.val / 4 * 8 - 1, t.val % 4] ∧ win0_2.index t = ![0, t.val % 4]
    ∧ win0_3.index t = ![0, t.val % 4] ∧ win0_4.index t = ![t.val / 4, t.val % 4] :=
  (by decide +kernel : ∀ t : Fin grid0.N, _)

theorem coord : ∀ t : Fin cfg0.N, (grid0.coords t 0).val = t.val / 4 := (by decide +kernel : ∀ t : Fin grid0.N, _)

theorem lt_points (t : Fin cfg0.N) : t.val < 128 := lt_of_lt_of_eq t.isLt N_0

/-- Row `r` and column `l` of the block at point `t` in the array. -/
def at_ (t : Fin cfg0.N) (r : Fin 256) : Fin 8192 := ⟨t.val / 4 * 256 + r.val, by have := lt_points t; omega⟩
def col (t : Fin cfg0.N) (l : Fin 256) : Fin 1024 := ⟨t.val % 4 * 256 + l.val, by omega⟩

theorem blkU_apply (c : Dev nD) (t : Fin cfg0.N) (r l : Fin 256) : blkU m c t (ix2 r l) = inU m c (ix2 (at_ t r) (col t l)) := by
  unfold blkU inU iblk
  blk_ext [iblk, (idx t).1]
  all_goals rfl

theorem blkH_apply (c : Dev nD) (t : Fin cfg0.N) (a : Fin 32) (l : Fin 256) :
    blkH m c t (ix2 a l) = inU m c (ix2 ⟨(t.val / 4 * 8 - 1) * 32 + a.val, by have := lt_points t; omega⟩ (col t l)) := by
  unfold blkH inU iblk
  blk_ext [iblk, (idx t).2.1]
  all_goals rfl

theorem blkW_apply (c : Dev nD) (t : Fin cfg0.N) (j : Fin 32) (l : Fin 256) : blkW m c t (ix2 j l) = inW m c (ix2 j (col t l)) := by
  unfold blkW inW iblk
  blk_ext [iblk, (idx t).2.2.1]
  all_goals rfl

theorem blkB_apply (c : Dev nD) (t : Fin cfg0.N) (l : Fin 256) : blkB m c t (ix2 0 l) = inB m c (ix2 0 (col t l)) := by
  unfold blkB inB iblk
  blk_ext [iblk, (idx t).2.2.2.1]
  all_goals rfl

/-- What a point leaves in the output. -/
theorem outs (c : Dev nD) (t : Fin cfg0.N) : outsAt0 m c t = View.canon (tiles (grid0.coords t) (blkU m c t) (blkH m c t) (blkW m c t) (blkB m c t) 16 le_rfl) := by
  unfold outsAt0
  frame_out
  rfl

/-- The arguments. -/
def argU (c : Dev nD) : S8192x1024.Idx → EReal := m ((c.tc : Thread nD τ).loc main_arg0)
def argW (c : Dev nD) : S31x1024.Idx → EReal := m ((c.tc : Thread nD τ).loc main_arg1)
def argB (c : Dev nD) : S1x1024.Idx → EReal := m ((c.tc : Thread nD τ).loc main_arg2)

/-- The weights with a row of zeros below. -/
def padW (w : FVec Ideal S31x1024 .f32) : FVec Ideal S32x1024 .f32 :=
  pad S32x1024 ![0, 0] ![1, 0] ![0, 0] w (sitofp (F := Ideal) .f32 (constantI S_ 32 0#32)) pads_S31x1024_S32x1024_010_000 h_S_

theorem padW_apply (w : S31x1024.Idx → EReal) (j : Fin 31) (l : Fin 1024) : padW w (ix2 ⟨j.val, by omega⟩ l) = w (ix2 j l) := by
  unfold padW
  pointwise []

/-- What the host operations leave in the arrays the region reads. -/
theorem ins (c : Dev nD) : inU m c = argU m c ∧ inW m c = padW (argW m c) ∧ inB m c = argB m c := by
  unfold inU inW inB V
  simp only [hostOps0, hostOps0_1, List.flatten_cons, List.flatten_nil, List.append_nil, List.cons_append, List.nil_append, TRef.ternary, TRef.binary, TRef.nullary, TRef.unary, TRef.toBuf, TRef.ofBuf, cast_eq]
  refine ⟨?_, ?_, ?_⟩ <;> after_results <;> rfl

/-- The rows `30 - j` before row `T`, zero before the first, -/
def past (u : S8192x1024.Idx → EReal) (T : Fin 8192) (j : Fin 31) (l : Fin 1024) : EReal :=
  if 30 ≤ T.val + j.val then u (ix2 ⟨T.val + j.val - 30, by omega⟩ l) else 0

/-- and an entry of the convolution. -/
def conv (u : S8192x1024.Idx → EReal) (w : S31x1024.Idx → EReal) (b : S1x1024.Idx → EReal) (T : Fin 8192) (l : Fin 1024) : EReal :=
  b (ix2 0 l) + ∑ j : Fin 31, w (ix2 j l) * past u T j l

theorem extAt_blk (c : Dev nD) (t : Fin cfg0.N) (k l : Fin 256) (j : Fin 31) :
    extAt (grid0.coords t) (blkU m c t) (blkH m c t) (2 + j.val + k.val) l = past (inU m c) (at_ t k) j (col t l) := by
  have ht := lt_points t
  have hat : (at_ t k).val = t.val / 4 * 256 + k.val := rfl
  unfold extAt past
  rw [coord]
  by_cases h : 2 + j.val + k.val < 32
  · rw [dif_pos h]
    by_cases h0 : 0 < t.val / 4
    · rw [if_pos h0, if_pos (by omega), blkH_apply]
      exact congrArg (fun q => inU m c (ix2 q (col t l))) (Fin.ext (by show (t.val / 4 * 8 - 1) * 32 + (2 + j.val + k.val) = t.val / 4 * 256 + k.val + j.val - 30; omega))
    · rw [if_neg h0, if_neg (by omega)]
  · rw [dif_neg h, dif_pos (by omega), if_pos (by omega), blkU_apply]
    exact congrArg (fun q => inU m c (ix2 q (col t l))) (Fin.ext (by show t.val / 4 * 256 + (2 + j.val + k.val - 32) = t.val / 4 * 256 + k.val + j.val - 30; omega))

theorem final (c : Dev nD) : (dats m 0 c).arrAt 4 cfg0.N = fun i : S8192x1024.Idx => conv (argU m c) (argW m c) (argB m c) (i 0) (i 1) := by
  generalize hA : (fun i : S8192x1024.Idx => conv (argU m c) (argW m c) (argB m c) (i 0) (i 1)) = A
  refine (dats m 0 c).arrAt_eq_of_covers 4 _ (by decide +kernel) fun t hf y => ?_
  blk_simp
  rw [after0_4, outs]
  obtain ⟨k, l, rfl⟩ : ∃ (k l : Fin 256), y = ix2 k l := ⟨y 0, y 1, eq_ix2 y⟩
  refine (canon_out _ _ _ _ _ k l).trans (Eq.trans (b := conv (argU m c) (argW m c) (argB m c) (at_ t k) (col t l)) ?_ ((congrFun hA (ix2 (at_ t k) (col t l))).trans ?_))
  · obtain ⟨h1, h2, h3⟩ := ins m c
    unfold conv
    rw [blkB_apply, h3]
    refine congrArg (_ + ·) (Finset.sum_congr rfl fun j _ => ?_)
    rw [extAt_blk, blkW_apply, h1, h2, padW_apply]
  · blk_point [idx t, at_, col]

end

section
open Cert.ReferenceDwConvFwdIdeal Cert.ReferenceDwConvFwdIdeal.Gen

variable (u : FVec Ideal S8192x1024 .f32) (w : FVec Ideal S31x1024 .f32) (b : FVec Ideal S1x1024 .f32)

/-- The reference's extended rows and its sum of the first `n` shifted products. -/
def refUp : FVec Ideal S8222x1024 .f32 :=
  concatenate S8222x1024 0 [⟨S30x1024, broadcastInDim S30x1024 ![] bcast_S_S30x1024 (constant S_ .f32 0x00000000#32)⟩, ⟨S8192x1024, u⟩]
    concatenates_S30x1024_S8192x1024_S8222x1024_d0
theorem slices_up : ∀ j : Fin 31, S8222x1024.Slices ![j.val, 0] S8192x1024 := by decide
theorem slices_w : ∀ j : Fin 31, S31x1024.Slices ![j.val, 0] S1x1024 := by decide
def refTap (j : Fin 31) : FVec Ideal S8192x1024 .f32 :=
  mulf (extractStridedSlice S8192x1024 ![j.val, 0] (refUp u) (slices_up j))
    (broadcastInDim S8192x1024 ![0, 1] bcast_S1x1024_S8192x1024_0_1 (broadcastInDim S1x1024 ![1] bcast_S1024_S1x1024_1
      (shapeCast _ (extractStridedSlice S1x1024 ![j.val, 0] w (slices_w j)) shapeCasts_S1x1024_S1024)))
def refTaps : (n : ℕ) → n ≤ 31 → FVec Ideal S8192x1024 .f32
  | 0, _ => broadcastInDim S8192x1024 ![] bcast_S_S8192x1024 (constant S_ .f32 0x00000000#32)
  | n + 1, hn => addf (refTaps n (Nat.le_of_succ_le hn)) (refTap u w ⟨n, hn⟩)
theorem refTaps_zero : refTaps u w 0 (by decide) = broadcastInDim S8192x1024 ![] bcast_S_S8192x1024 (constant S_ .f32 0x00000000#32) := rfl
theorem refTaps_succ (n : ℕ) (hn : n + 1 ≤ 31) : refTaps u w (n + 1) hn = addf (refTaps u w n (Nat.le_of_succ_le hn)) (refTap u w ⟨n, hn⟩) := rfl
def refY : FVec Ideal S8192x1024 .f32 := addf (refTaps u w 31 le_rfl) (broadcastInDim S8192x1024 ![0, 1] bcast_S1x1024_S8192x1024_0_1 b)

section
variable (u : S8192x1024.Idx → EReal) (w : S31x1024.Idx → EReal) (b : S1x1024.Idx → EReal) (T : Fin 8192) (l : Fin 1024)

theorem refUp_apply (j : Fin 31) : refUp u (ix2 ⟨j.val + T.val, by omega⟩ l) = past u T j l := by
  unfold refUp past
  pointwise []
  by_cases h : 30 ≤ T.val + j.val
  · rw [if_pos h, dif_neg (by omega)]
    exact congrArg (fun q => u (ix2 q l)) (Fin.ext (by show j.val + T.val - 30 = T.val + j.val - 30; omega))
  · rw [if_neg h, dif_pos (by omega)]

theorem refTap_apply (j : Fin 31) : refTap u w j (ix2 T l) = refUp u (ix2 ⟨j.val + T.val, by omega⟩ l) * w (ix2 j l) := by
  unfold refTap
  pointwise []

theorem refTaps_apply : ∀ (n : ℕ) (hn : n ≤ 31), refTaps u w n hn (ix2 T l) = ∑ j : Fin n, w (ix2 ⟨j.val, by omega⟩ l) * past u T ⟨j.val, by omega⟩ l
  | 0, _ => by
    rw [refTaps_zero, Fin.sum_univ_zero]
    pointwise []
  | n + 1, hn => by
    rw [Fin.sum_univ_castSucc, refTaps_succ]
    refine (show addf (refTaps u w n (Nat.le_of_succ_le hn)) (refTap u w ⟨n, hn⟩) (ix2 T l) = refTaps u w n (Nat.le_of_succ_le hn) (ix2 T l) + refTap u w ⟨n, hn⟩ (ix2 T l) from rfl).trans ?_
    rw [refTaps_apply n (Nat.le_of_succ_le hn), refTap_apply, refUp_apply u T l ⟨n, hn⟩, mul_comm]
    rfl

theorem refY_apply : refY u w b (ix2 T l) = conv u w b T l := by
  refine Eq.trans (b := refTaps u w 31 le_rfl (ix2 T l) + b (ix2 0 l)) ?_ ?_
  · unfold refY
    pointwise []
  · rw [refTaps_apply, add_comm]
    rfl
end

end

section
open Cert.KernelDwConvFwdIdeal Cert.KernelDwConvFwdIdeal.Gen

/-- The output array is the reference's result. -/
theorem value (m : (ℓ : Loc nD τ sig) → Buf (Elt Ideal) ℓ) (c : Dev nD) : (dats m 0 c).arrAt 4 cfg0.N = refY (argU m c) (argW m c) (argB m c) := by
  rw [final]
  funext i
  obtain ⟨r, l, rfl⟩ : ∃ (r : Fin 8192) (l : Fin 1024), i = ix2 r l := ⟨i 0, i 1, eq_ix2 i⟩
  exact (refY_apply _ _ _ r l).symm
end

end Cert.DwConvFwd

end
-- ==== Proof.Forward.Claims.lean ====
module

public import proofs.«01_k».proof.Defs
public import proofs.«01_k».proof.Proof.Gen.KernelAttnOutFwd.Frame
public import proofs.«01_k».proof.Proof.Forward.AttnOut
public import proofs.«01_k».proof.Proof.Gen.KernelConvOutFwd.Frame
public import proofs.«01_k».proof.Proof.Forward.ConvOut
public import proofs.«01_k».proof.Proof.Gen.KernelConvInFwd.Frame
public import proofs.«01_k».proof.Proof.Forward.ConvIn
public import proofs.«01_k».proof.Proof.Gen.KernelMlpFwd.Frame
public import proofs.«01_k».proof.Proof.Forward.Mlp
public import proofs.«01_k».proof.Proof.Gen.KernelAttnInFwd.Frame
public import proofs.«01_k».proof.Proof.Forward.AttnIn
public import proofs.«01_k».proof.Proof.Gen.KernelDwConvFwd.Frame
public import proofs.«01_k».proof.Proof.Forward.Conv
public import Idealize.ShloMosaic.Lib.Claim

@[expose] public section

noncomputable section

namespace Cert.Proof

open Idealize.ShloMosaic Idealize.SL.Sem

/-! # The forward calls: kernel and reference end with equal results on the ideal numbers -/

/-- The attention's output projection, its norm and the residual. -/
theorem attn_out_fwd_value : Cert.algebraic_KernelAttnOutFwdIdeal_ReferenceAttnOutFwdIdeal := by
  intro m g m' g' _ hagree
  refine ⟨_, _, Cert.KernelAttnOutFwdIdeal.Value.run_blocks m g, ?_⟩
  refine (θ_run Cert.ReferenceAttnOutFwdIdeal.defs _ _).mono (fun _ h c => ?_) (Cert.ReferenceAttnOutFwdIdeal.Value.run (F := Ideal) m' g')
  obtain ⟨e0, e1⟩ := Cert.AttnOutFwd.values m c
  obtain ⟨a0, a1, a2, a3⟩ := hagree c
  obtain ⟨r0, r1, k⟩ := h c
  rw [a0, a2] at r0
  rw [a0, a1, a2, a3] at r1
  exact ⟨r0.trans e0.symm, r1.trans e1.symm, k⟩

/-- Its reference terminates, the arguments unchanged. -/
theorem attn_out_fwd_reference : Cert.quiescent_ReferenceAttnOutFwdIdeal := by
  intro m g _
  run_from Cert.ReferenceAttnOutFwdIdeal.Value.run m g
  · exact fun _ => ⟨trivial, trivial, trivial, trivial⟩
  · exact funext fun s => nomatch s

/-- The layer norm, swish and output product of the convolution, its norm and the residual. -/
theorem conv_out_fwd_value : Cert.algebraic_KernelConvOutFwdIdeal_ReferenceConvOutFwdIdeal := by
  intro m g m' g' _ hagree
  refine ⟨_, _, Cert.KernelConvOutFwdIdeal.Value.run_blocks m g, ?_⟩
  refine (θ_run Cert.ReferenceConvOutFwdIdeal.defs _ _).mono (fun _ h c => ?_) (Cert.ReferenceConvOutFwdIdeal.Value.run (F := Ideal) m' g')
  obtain ⟨e0, e1⟩ := Cert.ConvOutFwd.values m c
  obtain ⟨a0, a1, a2, a3, a4, a5, a6⟩ := hagree c
  obtain ⟨r0, r1, k⟩ := h c
  rw [a0, a2, a3, a4, a5] at r0
  unfold Cert.ReferenceConvOutFwdIdeal.Value.res_main_v38 at r1
  rw [a0, a1, a2, a3, a4, a5, a6] at r1
  exact ⟨r0.trans e0.symm, r1.trans e1.symm, k⟩

/-- Its reference terminates, the arguments unchanged. -/
theorem conv_out_fwd_reference : Cert.quiescent_ReferenceConvOutFwdIdeal := by
  intro m g _
  run_from Cert.ReferenceConvOutFwdIdeal.Value.run m g
  · exact fun _ => ⟨trivial, trivial, trivial, trivial, trivial, trivial, trivial⟩
  · exact funext fun s => nomatch s

/-- The norm, input product and gate of the convolution. -/
theorem conv_in_fwd_value : Cert.algebraic_KernelConvInFwdIdeal_ReferenceConvInFwdIdeal := by
  intro m g m' g' _ hagree
  refine ⟨_, _, Cert.KernelConvInFwdIdeal.Value.run_blocks m g, ?_⟩
  refine (θ_run Cert.ReferenceConvInFwdIdeal.defs _ _).mono (fun _ h c => ?_) (Cert.ReferenceConvInFwdIdeal.Value.run (F := Ideal) m' g')
  obtain ⟨e0, e1⟩ := Cert.ConvInFwd.values m c
  obtain ⟨a0, a1, a2, a3⟩ := hagree c
  obtain ⟨r0, r1, k⟩ := h c
  rw [a0, a1, a2, a3] at r0 r1
  exact ⟨r0.trans e0.symm, r1.trans e1.symm, k⟩

/-- Its reference terminates, the arguments unchanged. -/
theorem conv_in_fwd_reference : Cert.quiescent_ReferenceConvInFwdIdeal := by
  intro m g _
  run_from Cert.ReferenceConvInFwdIdeal.Value.run m g
  · exact fun _ => ⟨trivial, trivial, trivial, trivial⟩
  · exact funext fun s => nomatch s

/-- The perceptron with its two norms and the residual. -/
theorem mlp_fwd_value : Cert.algebraic_KernelMlpFwdIdeal_ReferenceMlpFwdIdeal := by
  intro m g m' g' _ hagree
  refine ⟨_, _, _, Cert.KernelMlpFwdIdeal.Value.run_blocks m g, ?_⟩
  refine (θ_run Cert.ReferenceMlpFwdIdeal.defs _ _).mono (fun _ h c => ?_) (Cert.ReferenceMlpFwdIdeal.Value.run (F := Ideal) m' g')
  obtain ⟨e0, e1, e2⟩ := Cert.MlpFwd.values m c
  obtain ⟨a0, a1, a2, a3, a4⟩ := hagree c
  obtain ⟨r0, r1, r2, k⟩ := h c
  rw [a0, a1, a2] at r0
  rw [a0, a1, a2, a3] at r1
  unfold Cert.ReferenceMlpFwdIdeal.Value.res_main_v29 at r2
  rw [a0, a1, a2, a3, a4] at r2
  exact ⟨r0.trans e0.symm, r1.trans e1.symm, r2.trans e2.symm, k⟩

/-- Its reference terminates, the arguments unchanged. -/
theorem mlp_fwd_reference : Cert.quiescent_ReferenceMlpFwdIdeal := by
  intro m g _
  run_from Cert.ReferenceMlpFwdIdeal.Value.run m g
  · exact fun _ => ⟨trivial, trivial, trivial, trivial, trivial⟩
  · exact funext fun s => nomatch s

/-- The norm, input products and forget gate of the attention. -/
theorem attn_in_fwd_value : Cert.algebraic_KernelAttnInFwdIdeal_ReferenceAttnInFwdIdeal := by
  intro m g m' g' _ hagree
  refine ⟨_, _, _, _, Cert.KernelAttnInFwdIdeal.Value.run_blocks m g, ?_⟩
  refine (θ_run Cert.ReferenceAttnInFwdIdeal.defs _ _).mono (fun _ h c => ?_) (Cert.ReferenceAttnInFwdIdeal.Value.run (F := Ideal) m' g')
  obtain ⟨e0, e1, e2, e3⟩ := Cert.AttnInFwd.values m c
  obtain ⟨a0, a1, a2, a3, a4⟩ := hagree c
  obtain ⟨r0, r1, r2, r3, k⟩ := h c
  rw [a0, a1, a2] at r0 r1 r2
  unfold Cert.ReferenceAttnInFwdIdeal.Value.res_main_v25 at r3
  rw [a0, a1, a3, a4] at r3
  exact ⟨r0.trans e0.symm, r1.trans e1.symm, r2.trans e2.symm, r3.trans e3.symm, k⟩

/-- Its reference terminates, the arguments unchanged. -/
theorem attn_in_fwd_reference : Cert.quiescent_ReferenceAttnInFwdIdeal := by
  intro m g _
  run_from Cert.ReferenceAttnInFwdIdeal.Value.run m g
  · exact fun _ => ⟨trivial, trivial, trivial, trivial, trivial⟩
  · exact funext fun s => nomatch s

/-- The depthwise convolution. -/
theorem dwconv_fwd_value : Cert.algebraic_KernelDwConvFwdIdeal_ReferenceDwConvFwdIdeal := by
  intro m g m' g' _ hagree
  refine ⟨_, Cert.KernelDwConvFwdIdeal.Value.run_blocks m g, ?_⟩
  refine (θ_run Cert.ReferenceDwConvFwdIdeal.defs _ _).mono (fun _ h c => ?_) (Cert.ReferenceDwConvFwdIdeal.Value.run (F := Ideal) m' g')
  obtain ⟨a0, a1, a2⟩ := hagree c
  obtain ⟨r0, k⟩ := h c
  refine ⟨(r0.trans ?_).trans (Cert.DwConvFwd.value m c).symm, k⟩
  unfold Cert.DwConvFwd.argU Cert.DwConvFwd.argW Cert.DwConvFwd.argB
  rw [← a0, ← a1, ← a2]
  rfl

/-- Its reference terminates, the arguments unchanged. -/
theorem dwconv_fwd_reference : Cert.quiescent_ReferenceDwConvFwdIdeal := by
  intro m g _
  run_from Cert.ReferenceDwConvFwdIdeal.Value.run m g
  · exact fun _ => ⟨trivial, trivial, trivial⟩
  · exact funext fun s => nomatch s

end Cert.Proof

end

end
-- ==== Proof.DwConv.Claims.lean ====
module

public import proofs.«01_k».proof.Defs
public import proofs.«01_k».proof.Proof.Gen.KernelDwConv.Frame
public import proofs.«01_k».proof.Proof.Gen.ReferenceDwConvIdeal.Run
public import Idealize.ShloMosaic.Lib.Claim

@[expose] public section

noncomputable section

namespace Cert.Proof

open Idealize.ShloMosaic Idealize.SL.Sem

/-- The reference of the depthwise convolution's gradient terminates, the arguments unchanged. -/
theorem dwconv_reference : Cert.quiescent_ReferenceDwConvIdeal := by
  intro m g _
  run_from Cert.ReferenceDwConvIdeal.Value.run m g
  · exact fun _ => ⟨trivial, trivial, trivial⟩
  · exact funext fun s => nomatch s

end Cert.Proof

end
-- ==== Proof.lean ====
/- The proof of everything the certificate claims: each call's frames, what its idealization preserves, and its values.
   The scan of the forget gates is done in Scan/, the attention's gradients in Bwd/. -/
module

public import proofs.«01_k».proof.Defs
public import proofs.«01_k».proof.Proof.Gen.KernelScan
public import proofs.«01_k».proof.Proof.Gen.KernelScan.Skeleton
public import proofs.«01_k».proof.Proof.Gen.KernelScan.Launch
public import proofs.«01_k».proof.Proof.Gen.KernelScan.Points
public import proofs.«01_k».proof.Proof.Gen.KernelScan.Frame
public import proofs.«01_k».proof.Proof.Gen.KernelScanIdeal
public import proofs.«01_k».proof.Proof.Gen.KernelScanIdeal.Skeleton
public import proofs.«01_k».proof.Proof.Gen.KernelScanIdeal.Launch
public import proofs.«01_k».proof.Proof.Gen.KernelScanIdeal.Points
public import proofs.«01_k».proof.Proof.Gen.KernelScanIdeal.Frame
public import proofs.«01_k».proof.Proof.Gen.ReferenceScanIdeal
public import proofs.«01_k».proof.Proof.Gen.KernelScanIdeal.Value
public import proofs.«01_k».proof.Proof.Gen.ReferenceScanIdeal.Run
public import proofs.«01_k».proof.Proof.Scan.Value
public import proofs.«01_k».proof.Proof.Gen.KernelAttn
public import proofs.«01_k».proof.Proof.Gen.KernelAttn.Skeleton
public import proofs.«01_k».proof.Proof.Gen.KernelAttn.Loops
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Loops
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.ReferenceAttnIdeal
public import proofs.«01_k».proof.Proof.Gen.ReferenceAttnIdeal.Run
public import proofs.«01_k».proof.Proof.Bwd.Value
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Loss.Claims
public import proofs.«01_k».proof.Proof.Gen.KernelAttnOut
public import proofs.«01_k».proof.Proof.Gen.KernelAttnOut.Frame
public import proofs.«01_k».proof.Proof.Gen.KernelAttnOutIdeal
public import proofs.«01_k».proof.Proof.Gen.KernelAttnOutIdeal.Frame
public import proofs.«01_k».proof.Proof.Gen.KernelAttnOutIdeal.Value
public import proofs.«01_k».proof.Proof.Gen.ReferenceAttnOutIdeal
public import proofs.«01_k».proof.Proof.Gen.ReferenceAttnOutIdeal.Run
public import proofs.«01_k».proof.Proof.AttnOut.Claims
public import proofs.«01_k».proof.Proof.Gen.Pre_finite_ao
public import proofs.«01_k».proof.Proof.Gen.KernelAttnFwd
public import proofs.«01_k».proof.Proof.Gen.KernelAttnFwd.Frame
public import proofs.«01_k».proof.Proof.Gen.KernelAttnFwdIdeal
public import proofs.«01_k».proof.Proof.Gen.KernelAttnFwdIdeal.Frame
public import proofs.«01_k».proof.Proof.Gen.KernelAttnFwdIdeal.Value
public import proofs.«01_k».proof.Proof.Gen.ReferenceAttnFwdIdeal
public import proofs.«01_k».proof.Proof.Gen.ReferenceAttnFwdIdeal.Run
public import proofs.«01_k».proof.Proof.AttnFwd.Claims
public import proofs.«01_k».proof.Proof.Gen.Pre_finite_fwd
public import proofs.«01_k».proof.Proof.Gen.KernelMlp
public import proofs.«01_k».proof.Proof.Gen.KernelMlp.Frame
public import proofs.«01_k».proof.Proof.Gen.KernelMlpIdeal
public import proofs.«01_k».proof.Proof.Gen.KernelMlpIdeal.Frame
public import proofs.«01_k».proof.Proof.Gen.KernelMlpIdeal.Value
public import proofs.«01_k».proof.Proof.Gen.ReferenceMlpIdeal
public import proofs.«01_k».proof.Proof.Gen.ReferenceMlpIdeal.Run
public import proofs.«01_k».proof.Proof.Mlp.Claims
public import proofs.«01_k».proof.Proof.Gen.Pre_finite_mlp
public import proofs.«01_k».proof.Proof.Gen.KernelConvIn
public import proofs.«01_k».proof.Proof.Gen.KernelConvIn.Frame
public import proofs.«01_k».proof.Proof.Gen.KernelConvInIdeal
public import proofs.«01_k».proof.Proof.Gen.KernelConvInIdeal.Frame
public import proofs.«01_k».proof.Proof.Gen.KernelConvInIdeal.Value
public import proofs.«01_k».proof.Proof.Gen.ReferenceConvInIdeal
public import proofs.«01_k».proof.Proof.Gen.ReferenceConvInIdeal.Run
public import proofs.«01_k».proof.Proof.ConvIn.Claims
public import proofs.«01_k».proof.Proof.Gen.Pre_finite_ci
public import proofs.«01_k».proof.Proof.Gen.KernelConvOut
public import proofs.«01_k».proof.Proof.Gen.KernelConvOut.Frame
public import proofs.«01_k».proof.Proof.Gen.KernelConvOutIdeal
public import proofs.«01_k».proof.Proof.Gen.KernelConvOutIdeal.Frame
public import proofs.«01_k».proof.Proof.Gen.KernelConvOutIdeal.Value
public import proofs.«01_k».proof.Proof.Gen.ReferenceConvOutIdeal
public import proofs.«01_k».proof.Proof.Gen.ReferenceConvOutIdeal.Run
public import proofs.«01_k».proof.Proof.ConvOut.Claims
public import proofs.«01_k».proof.Proof.Gen.Pre_finite_co
public import proofs.«01_k».proof.Proof.Gen.KernelAttnIn
public import proofs.«01_k».proof.Proof.Gen.KernelAttnIn.Frame
public import proofs.«01_k».proof.Proof.Gen.KernelAttnInIdeal
public import proofs.«01_k».proof.Proof.Gen.KernelAttnInIdeal.Frame
public import proofs.«01_k».proof.Proof.Gen.KernelAttnInIdeal.Value
public import proofs.«01_k».proof.Proof.Gen.ReferenceAttnInIdeal
public import proofs.«01_k».proof.Proof.Gen.ReferenceAttnInIdeal.Run
public import proofs.«01_k».proof.Proof.AttnIn.Claims
public import proofs.«01_k».proof.Proof.Gen.Pre_finite_ai
public import proofs.«01_k».proof.Proof.Gen.KernelAttnOutFwd
public import proofs.«01_k».proof.Proof.Gen.KernelAttnOutFwd.Frame
public import proofs.«01_k».proof.Proof.Gen.KernelAttnOutFwdIdeal
public import proofs.«01_k».proof.Proof.Gen.KernelAttnOutFwdIdeal.Frame
public import proofs.«01_k».proof.Proof.Gen.KernelAttnOutFwdIdeal.Value
public import proofs.«01_k».proof.Proof.Gen.ReferenceAttnOutFwdIdeal
public import proofs.«01_k».proof.Proof.Gen.ReferenceAttnOutFwdIdeal.Run
public import proofs.«01_k».proof.Proof.Forward.Claims
public import proofs.«01_k».proof.Proof.Gen.KernelMlpFwd
public import proofs.«01_k».proof.Proof.Gen.KernelMlpFwd.Frame
public import proofs.«01_k».proof.Proof.Gen.KernelMlpFwdIdeal
public import proofs.«01_k».proof.Proof.Gen.KernelMlpFwdIdeal.Frame
public import proofs.«01_k».proof.Proof.Gen.KernelMlpFwdIdeal.Value
public import proofs.«01_k».proof.Proof.Gen.ReferenceMlpFwdIdeal
public import proofs.«01_k».proof.Proof.Gen.ReferenceMlpFwdIdeal.Run
public import proofs.«01_k».proof.Proof.Gen.KernelConvInFwd
public import proofs.«01_k».proof.Proof.Gen.KernelConvInFwd.Frame
public import proofs.«01_k».proof.Proof.Gen.KernelConvInFwdIdeal
public import proofs.«01_k».proof.Proof.Gen.KernelConvInFwdIdeal.Frame
public import proofs.«01_k».proof.Proof.Gen.KernelConvInFwdIdeal.Value
public import proofs.«01_k».proof.Proof.Gen.ReferenceConvInFwdIdeal
public import proofs.«01_k».proof.Proof.Gen.ReferenceConvInFwdIdeal.Run
public import proofs.«01_k».proof.Proof.Gen.KernelConvOutFwd
public import proofs.«01_k».proof.Proof.Gen.KernelConvOutFwd.Frame
public import proofs.«01_k».proof.Proof.Gen.KernelConvOutFwdIdeal
public import proofs.«01_k».proof.Proof.Gen.KernelConvOutFwdIdeal.Frame
public import proofs.«01_k».proof.Proof.Gen.KernelConvOutFwdIdeal.Value
public import proofs.«01_k».proof.Proof.Gen.ReferenceConvOutFwdIdeal
public import proofs.«01_k».proof.Proof.Gen.ReferenceConvOutFwdIdeal.Run
public import proofs.«01_k».proof.Proof.Gen.KernelAttnInFwd
public import proofs.«01_k».proof.Proof.Gen.KernelAttnInFwd.Frame
public import proofs.«01_k».proof.Proof.Gen.KernelAttnInFwdIdeal
public import proofs.«01_k».proof.Proof.Gen.KernelAttnInFwdIdeal.Frame
public import proofs.«01_k».proof.Proof.Gen.KernelAttnInFwdIdeal.Value
public import proofs.«01_k».proof.Proof.Gen.ReferenceAttnInFwdIdeal
public import proofs.«01_k».proof.Proof.Gen.ReferenceAttnInFwdIdeal.Run
public import proofs.«01_k».proof.Proof.Gen.KernelDwConv
public import proofs.«01_k».proof.Proof.Gen.KernelDwConv.Frame
public import proofs.«01_k».proof.Proof.Gen.KernelDwConvIdeal
public import proofs.«01_k».proof.Proof.Gen.KernelDwConvIdeal.Frame
public import proofs.«01_k».proof.Proof.Gen.ReferenceDwConvIdeal
public import proofs.«01_k».proof.Proof.Gen.ReferenceDwConvIdeal.Run
public import proofs.«01_k».proof.Proof.DwConv.Claims
public import proofs.«01_k».proof.Proof.Gen.KernelDwConvFwd
public import proofs.«01_k».proof.Proof.Gen.KernelDwConvFwd.Frame
public import proofs.«01_k».proof.Proof.Gen.KernelDwConvFwdIdeal
public import proofs.«01_k».proof.Proof.Gen.KernelDwConvFwdIdeal.Frame
public import proofs.«01_k».proof.Proof.Gen.KernelDwConvFwdIdeal.Value
public import proofs.«01_k».proof.Proof.Gen.ReferenceDwConvFwdIdeal
public import proofs.«01_k».proof.Proof.Gen.ReferenceDwConvFwdIdeal.Run
public import Idealize.ShloMosaic.Lib.Claim
public import Idealize.ShloMosaic.Adequacy
public import Idealize.ShloMosaic.Init

@[expose] public section

noncomputable section

namespace Cert.Proof

open Idealize.ShloMosaic Idealize.SL.Sem Cert.KernelScan

/-- The summed-up gates' gradient: kernel and reference end with equal results on the ideal numbers. -/
theorem scan_value : Cert.algebraic_KernelScanIdeal_ReferenceScanIdeal := by
  pair_intro
  run_from Cert.KernelScanIdeal.Value.run_blocks m g
  run_from Cert.ReferenceScanIdeal.Value.run m' g'
  exact (Cert.Scan.value m c).symm

/-- The reference terminates, its arguments unchanged. -/
theorem scan_reference : Cert.quiescent_ReferenceScanIdeal := by
  intro m g _
  run_from Cert.ReferenceScanIdeal.Value.run m g
  · exact fun _ => ⟨trivial, trivial⟩
  · exact funext fun s => nomatch s

theorem claim : Cert.Claim := ⟨Cert.KernelScan.Gen.facts, Cert.KernelScanIdeal.Gen.facts, Cert.ReferenceScanIdeal.Gen.facts,
  Cert.KernelAttn.Gen.facts, Cert.KernelAttnIdeal.Gen.facts, Cert.ReferenceAttnIdeal.Gen.facts,
  Cert.KernelLoss.Gen.facts, Cert.KernelLossIdeal.Gen.facts, Cert.ReferenceLossIdeal.Gen.facts,
  Cert.KernelAttnOut.Gen.facts, Cert.KernelAttnOutIdeal.Gen.facts, Cert.ReferenceAttnOutIdeal.Gen.facts,
  Cert.KernelAttnFwd.Gen.facts, Cert.KernelAttnFwdIdeal.Gen.facts, Cert.ReferenceAttnFwdIdeal.Gen.facts,
  Cert.KernelMlp.Gen.facts, Cert.KernelMlpIdeal.Gen.facts, Cert.ReferenceMlpIdeal.Gen.facts,
  Cert.KernelConvIn.Gen.facts, Cert.KernelConvInIdeal.Gen.facts, Cert.ReferenceConvInIdeal.Gen.facts,
  Cert.KernelConvOut.Gen.facts, Cert.KernelConvOutIdeal.Gen.facts, Cert.ReferenceConvOutIdeal.Gen.facts,
  Cert.KernelAttnIn.Gen.facts, Cert.KernelAttnInIdeal.Gen.facts, Cert.ReferenceAttnInIdeal.Gen.facts,
  Cert.KernelAttnOutFwd.Gen.facts, Cert.KernelAttnOutFwdIdeal.Gen.facts, Cert.ReferenceAttnOutFwdIdeal.Gen.facts,
  Cert.KernelMlpFwd.Gen.facts, Cert.KernelMlpFwdIdeal.Gen.facts, Cert.ReferenceMlpFwdIdeal.Gen.facts,
  Cert.KernelConvInFwd.Gen.facts, Cert.KernelConvInFwdIdeal.Gen.facts, Cert.ReferenceConvInFwdIdeal.Gen.facts,
  Cert.KernelConvOutFwd.Gen.facts, Cert.KernelConvOutFwdIdeal.Gen.facts, Cert.ReferenceConvOutFwdIdeal.Gen.facts,
  Cert.KernelAttnInFwd.Gen.facts, Cert.KernelAttnInFwdIdeal.Gen.facts, Cert.ReferenceAttnInFwdIdeal.Gen.facts,
  Cert.KernelDwConv.Gen.facts, Cert.KernelDwConvIdeal.Gen.facts, Cert.ReferenceDwConvIdeal.Gen.facts,
  Cert.KernelDwConvFwd.Gen.facts, Cert.KernelDwConvFwdIdeal.Gen.facts, Cert.ReferenceDwConvFwdIdeal.Gen.facts,
  Cert.Bwd.finite_facts, Cert.Pre_finite_ao.Gen.facts, Cert.Pre_finite_fwd.Gen.facts, Cert.Pre_finite_mlp.Gen.facts, Cert.Pre_finite_ci.Gen.facts, Cert.Pre_finite_co.Gen.facts, Cert.Pre_finite_ai.Gen.facts,
  fun m ρ _ => Cert.KernelScan.Gen.frame m ρ,
  fun m ρ _ => Cert.KernelScanIdeal.Gen.frame m ρ,
  scan_reference,
  attn_frame,
  attn_frame_ideal,
  fun m ρ _ => attn_frame_ideal m ρ trivial,
  attn_reference,
  fun m ρ _ => attn_reference m ρ trivial,
  fun m ρ _ => Cert.KernelLoss.Gen.frame m ρ,
  fun m ρ _ => Cert.KernelLossIdeal.Gen.frame m ρ,
  loss_reference,
  fun m ρ _ => Cert.KernelAttnOut.Gen.frame m ρ,
  fun m ρ _ => Cert.KernelAttnOutIdeal.Gen.frame m ρ,
  fun m ρ _ => Cert.KernelAttnOutIdeal.Gen.frame m ρ,
  attn_out_reference,
  fun m ρ _ => attn_out_reference m ρ trivial,
  fun m ρ _ => Cert.KernelAttnFwd.Gen.frame m ρ,
  fun m ρ _ => Cert.KernelAttnFwdIdeal.Gen.frame m ρ,
  fun m ρ _ => Cert.KernelAttnFwdIdeal.Gen.frame m ρ,
  attn_fwd_reference,
  fun m ρ _ => attn_fwd_reference m ρ trivial,
  fun m ρ _ => Cert.KernelMlp.Gen.frame m ρ,
  fun m ρ _ => Cert.KernelMlpIdeal.Gen.frame m ρ,
  fun m ρ _ => Cert.KernelMlpIdeal.Gen.frame m ρ,
  mlp_reference,
  fun m ρ _ => mlp_reference m ρ trivial,
  fun m ρ _ => Cert.KernelConvIn.Gen.frame m ρ,
  fun m ρ _ => Cert.KernelConvInIdeal.Gen.frame m ρ,
  fun m ρ _ => Cert.KernelConvInIdeal.Gen.frame m ρ,
  conv_in_reference,
  fun m ρ _ => conv_in_reference m ρ trivial,
  fun m ρ _ => Cert.KernelConvOut.Gen.frame m ρ,
  fun m ρ _ => Cert.KernelConvOutIdeal.Gen.frame m ρ,
  fun m ρ _ => Cert.KernelConvOutIdeal.Gen.frame m ρ,
  conv_out_reference,
  fun m ρ _ => conv_out_reference m ρ trivial,
  fun m ρ _ => Cert.KernelAttnIn.Gen.frame m ρ,
  fun m ρ _ => Cert.KernelAttnInIdeal.Gen.frame m ρ,
  fun m ρ _ => Cert.KernelAttnInIdeal.Gen.frame m ρ,
  attn_in_reference,
  fun m ρ _ => attn_in_reference m ρ trivial,
  fun m ρ _ => Cert.KernelAttnOutFwd.Gen.frame m ρ,
  fun m ρ _ => Cert.KernelAttnOutFwdIdeal.Gen.frame m ρ,
  attn_out_fwd_reference,
  fun m ρ _ => Cert.KernelMlpFwd.Gen.frame m ρ,
  fun m ρ _ => Cert.KernelMlpFwdIdeal.Gen.frame m ρ,
  mlp_fwd_reference,
  fun m ρ _ => Cert.KernelConvInFwd.Gen.frame m ρ,
  fun m ρ _ => Cert.KernelConvInFwdIdeal.Gen.frame m ρ,
  conv_in_fwd_reference,
  fun m ρ _ => Cert.KernelConvOutFwd.Gen.frame m ρ,
  fun m ρ _ => Cert.KernelConvOutFwdIdeal.Gen.frame m ρ,
  conv_out_fwd_reference,
  fun m ρ _ => Cert.KernelAttnInFwd.Gen.frame m ρ,
  fun m ρ _ => Cert.KernelAttnInFwdIdeal.Gen.frame m ρ,
  attn_in_fwd_reference,
  fun m ρ _ => Cert.KernelDwConv.Gen.frame m ρ,
  fun m ρ _ => Cert.KernelDwConvIdeal.Gen.frame m ρ,
  dwconv_reference,
  fun m ρ _ => Cert.KernelDwConvFwd.Gen.frame m ρ,
  fun m ρ _ => Cert.KernelDwConvFwdIdeal.Gen.frame m ρ,
  dwconv_fwd_reference,
  trivial, scan_value,
  attn_preserves, @attn_value Cert.Bwd.finite_facts,
  trivial, loss_value,
  trivial, @attn_out_value Cert.Pre_finite_ao.Gen.facts,
  attn_fwd_preserves, @attn_fwd_value Cert.Pre_finite_fwd.Gen.facts,
  trivial, @mlp_value Cert.Pre_finite_mlp.Gen.facts,
  trivial, @conv_in_value Cert.Pre_finite_ci.Gen.facts,
  trivial, @conv_out_value Cert.Pre_finite_co.Gen.facts,
  trivial, @attn_in_value Cert.Pre_finite_ai.Gen.facts,
  trivial, attn_out_fwd_value,
  trivial, mlp_fwd_value,
  trivial, conv_in_fwd_value,
  trivial, conv_out_fwd_value,
  trivial, attn_in_fwd_value,
  trivial,
  trivial, dwconv_fwd_value⟩

end Cert.Proof

end
